-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelDgu (m : (ℓ : Loc Cert.KernelDgu.nD Cert.KernelDgu.τ Cert.KernelDgu.sig) → Buf (Elt Bits) ℓ) : Prop :=
  True

def Pre_KernelDguIdeal (m : (ℓ : Loc Cert.KernelDguIdeal.nD Cert.KernelDguIdeal.τ Cert.KernelDguIdeal.sig) → Buf (Elt Ideal) ℓ) : Prop :=
  True

def Pre_KernelDguIdeal_finite_dgu [hPre_finite_dgu : Cert.Pre_finite_dgu.Facts] (m : (ℓ : Loc Cert.KernelDguIdeal.nD Cert.KernelDguIdeal.τ Cert.KernelDguIdeal.sig) → Buf (Elt Ideal) ℓ) : Prop :=
  ∀ c : Dev Cert.KernelDguIdeal.nD,
    (Cert.Pre_finite_dgu.fn (F := Ideal) (m ((c.tc : Thread Cert.KernelDguIdeal.nD Cert.KernelDguIdeal.τ).loc Cert.KernelDguIdeal.main_arg0)) (m ((c.tc : Thread Cert.KernelDguIdeal.nD Cert.KernelDguIdeal.τ).loc Cert.KernelDguIdeal.main_arg1)) (m ((c.tc : Thread Cert.KernelDguIdeal.nD Cert.KernelDguIdeal.τ).loc Cert.KernelDguIdeal.main_arg2))).1 = (fun _ => 1#1)
    ∧ (Cert.Pre_finite_dgu.fn (F := Ideal) (m ((c.tc : Thread Cert.KernelDguIdeal.nD Cert.KernelDguIdeal.τ).loc Cert.KernelDguIdeal.main_arg0)) (m ((c.tc : Thread Cert.KernelDguIdeal.nD Cert.KernelDguIdeal.τ).loc Cert.KernelDguIdeal.main_arg1)) (m ((c.tc : Thread Cert.KernelDguIdeal.nD Cert.KernelDguIdeal.τ).loc Cert.KernelDguIdeal.main_arg2))).2.1 = (fun _ => 1#1)
    ∧ (Cert.Pre_finite_dgu.fn (F := Ideal) (m ((c.tc : Thread Cert.KernelDguIdeal.nD Cert.KernelDguIdeal.τ).loc Cert.KernelDguIdeal.main_arg0)) (m ((c.tc : Thread Cert.KernelDguIdeal.nD Cert.KernelDguIdeal.τ).loc Cert.KernelDguIdeal.main_arg1)) (m ((c.tc : Thread Cert.KernelDguIdeal.nD Cert.KernelDguIdeal.τ).loc Cert.KernelDguIdeal.main_arg2))).2.2 = (fun _ => 1#1)

def Pre_ReferenceDguIdeal (m : (ℓ : Loc Cert.ReferenceDguIdeal.nD Cert.ReferenceDguIdeal.τ Cert.ReferenceDguIdeal.sig) → Buf (Elt Ideal) ℓ) : Prop :=
  True

def Pre_ReferenceDguIdeal_finite_dgu [hPre_finite_dgu : Cert.Pre_finite_dgu.Facts] (m : (ℓ : Loc Cert.ReferenceDguIdeal.nD Cert.ReferenceDguIdeal.τ Cert.ReferenceDguIdeal.sig) → Buf (Elt Ideal) ℓ) : Prop :=
  ∀ c : Dev Cert.ReferenceDguIdeal.nD,
    (Cert.Pre_finite_dgu.fn (F := Ideal) (m ((c.tc : Thread Cert.ReferenceDguIdeal.nD Cert.ReferenceDguIdeal.τ).loc Cert.ReferenceDguIdeal.main_arg0)) (m ((c.tc : Thread Cert.ReferenceDguIdeal.nD Cert.ReferenceDguIdeal.τ).loc Cert.ReferenceDguIdeal.main_arg1)) (m ((c.tc : Thread Cert.ReferenceDguIdeal.nD Cert.ReferenceDguIdeal.τ).loc Cert.ReferenceDguIdeal.main_arg2))).1 = (fun _ => 1#1)
    ∧ (Cert.Pre_finite_dgu.fn (F := Ideal) (m ((c.tc : Thread Cert.ReferenceDguIdeal.nD Cert.ReferenceDguIdeal.τ).loc Cert.ReferenceDguIdeal.main_arg0)) (m ((c.tc : Thread Cert.ReferenceDguIdeal.nD Cert.ReferenceDguIdeal.τ).loc Cert.ReferenceDguIdeal.main_arg1)) (m ((c.tc : Thread Cert.ReferenceDguIdeal.nD Cert.ReferenceDguIdeal.τ).loc Cert.ReferenceDguIdeal.main_arg2))).2.1 = (fun _ => 1#1)
    ∧ (Cert.Pre_finite_dgu.fn (F := Ideal) (m ((c.tc : Thread Cert.ReferenceDguIdeal.nD Cert.ReferenceDguIdeal.τ).loc Cert.ReferenceDguIdeal.main_arg0)) (m ((c.tc : Thread Cert.ReferenceDguIdeal.nD Cert.ReferenceDguIdeal.τ).loc Cert.ReferenceDguIdeal.main_arg1)) (m ((c.tc : Thread Cert.ReferenceDguIdeal.nD Cert.ReferenceDguIdeal.τ).loc Cert.ReferenceDguIdeal.main_arg2))).2.2 = (fun _ => 1#1)

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_ReferenceDnIdeal (m : (ℓ : Loc Cert.ReferenceDnIdeal.nD Cert.ReferenceDnIdeal.τ Cert.ReferenceDnIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDwgu (m : (ℓ : Loc Cert.KernelDwgu.nD Cert.KernelDwgu.τ Cert.KernelDwgu.sig) → Buf (Elt Bits) ℓ) : Prop :=
  True

def Pre_KernelDwguIdeal (m : (ℓ : Loc Cert.KernelDwguIdeal.nD Cert.KernelDwguIdeal.τ Cert.KernelDwguIdeal.sig) → Buf (Elt Ideal) ℓ) : Prop :=
  True

def Pre_ReferenceDwguIdeal (m : (ℓ : Loc Cert.ReferenceDwguIdeal.nD Cert.ReferenceDwguIdeal.τ Cert.ReferenceDwguIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelDmerge (m : (ℓ : Loc Cert.KernelDmerge.nD Cert.KernelDmerge.τ Cert.KernelDmerge.sig) → Buf (Elt Bits) ℓ) : Prop :=
  True

def Pre_KernelDmergeIdeal (m : (ℓ : Loc Cert.KernelDmergeIdeal.nD Cert.KernelDmergeIdeal.τ Cert.KernelDmergeIdeal.sig) → Buf (Elt Ideal) ℓ) : Prop :=
  True

def Pre_ReferenceDmergeIdeal (m : (ℓ : Loc Cert.ReferenceDmergeIdeal.nD Cert.ReferenceDmergeIdeal.τ Cert.ReferenceDmergeIdeal.sig) → Buf (Elt Ideal) ℓ) : Prop :=
  True

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_KernelXattnIdeal_finite_xattn [hPre_finite_xattn : Cert.Pre_finite_xattn.Facts] (m : (ℓ : Loc Cert.KernelXattnIdeal.nD Cert.KernelXattnIdeal.τ Cert.KernelXattnIdeal.sig) → Buf (Elt Ideal) ℓ) : Prop :=
  ∀ c : Dev Cert.KernelXattnIdeal.nD,
    (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))).1 = (fun _ => 1#1)
    ∧ (Cert.Pre_finite_xattn.fn (F := Ideal) (m ((c.tc : Thread Cert.KernelXattnIdeal.nD Cert.KernelXattnIdeal.τ).loc Cert.KernelXattnIdeal.main_arg0)) (m ((c.tc : Thread Cert.KernelXattnIdeal.nD Cert.KernelXattnIdeal.τ).loc Cert.KernelXattnIdeal.main_arg1)) (m ((c.tc : Thread Cert.KernelXattnIdeal.nD Cert.KernelXattnIdeal.τ).loc Cert.KernelXattnIdeal.main_arg2))).2 = (fun _ => 1#1)

def Pre_ReferenceXattnIdeal (m : (ℓ : Loc Cert.ReferenceXattnIdeal.nD Cert.ReferenceXattnIdeal.τ Cert.ReferenceXattnIdeal.sig) → Buf (Elt Ideal) ℓ) : Prop :=
  True

def Pre_ReferenceXattnIdeal_finite_xattn [hPre_finite_xattn : Cert.Pre_finite_xattn.Facts] (m : (ℓ : Loc Cert.ReferenceXattnIdeal.nD Cert.ReferenceXattnIdeal.τ Cert.ReferenceXattnIdeal.sig) → Buf (Elt Ideal) ℓ) : Prop :=
  ∀ c : Dev Cert.ReferenceXattnIdeal.nD,
    (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))).1 = (fun _ => 1#1)
    ∧ (Cert.Pre_finite_xattn.fn (F := Ideal) (m ((c.tc : Thread Cert.ReferenceXattnIdeal.nD Cert.ReferenceXattnIdeal.τ).loc Cert.ReferenceXattnIdeal.main_arg0)) (m ((c.tc : Thread Cert.ReferenceXattnIdeal.nD Cert.ReferenceXattnIdeal.τ).loc Cert.ReferenceXattnIdeal.main_arg1)) (m ((c.tc : Thread Cert.ReferenceXattnIdeal.nD Cert.ReferenceXattnIdeal.τ).loc Cert.ReferenceXattnIdeal.main_arg2))).2 = (fun _ => 1#1)

def Pre_KernelDhn (m : (ℓ : Loc Cert.KernelDhn.nD Cert.KernelDhn.τ Cert.KernelDhn.sig) → Buf (Elt Bits) ℓ) : Prop :=
  True

def Pre_KernelDhnIdeal (m : (ℓ : Loc Cert.KernelDhnIdeal.nD Cert.KernelDhnIdeal.τ Cert.KernelDhnIdeal.sig) → Buf (Elt Ideal) ℓ) : Prop :=
  True

def Pre_ReferenceDhnIdeal (m : (ℓ : Loc Cert.ReferenceDhnIdeal.nD Cert.ReferenceDhnIdeal.τ Cert.ReferenceDhnIdeal.sig) → Buf (Elt Ideal) ℓ) : Prop :=
  True

def Pre_KernelDwsq (m : (ℓ : Loc Cert.KernelDwsq.nD Cert.KernelDwsq.τ Cert.KernelDwsq.sig) → Buf (Elt Bits) ℓ) : Prop :=
  True

def Pre_KernelDwsqIdeal (m : (ℓ : Loc Cert.KernelDwsqIdeal.nD Cert.KernelDwsqIdeal.τ Cert.KernelDwsqIdeal.sig) → Buf (Elt Ideal) ℓ) : Prop :=
  True

def Pre_ReferenceDwsqIdeal (m : (ℓ : Loc Cert.ReferenceDwsqIdeal.nD Cert.ReferenceDwsqIdeal.τ Cert.ReferenceDwsqIdeal.sig) → Buf (Elt Ideal) ℓ) : Prop :=
  True

def Pre_KernelDwattn (m : (ℓ : Loc Cert.KernelDwattn.nD Cert.KernelDwattn.τ Cert.KernelDwattn.sig) → Buf (Elt Bits) ℓ) : Prop :=
  True

def Pre_KernelDwattnIdeal (m : (ℓ : Loc Cert.KernelDwattnIdeal.nD Cert.KernelDwattnIdeal.τ Cert.KernelDwattnIdeal.sig) → Buf (Elt Ideal) ℓ) : Prop :=
  True

def Pre_ReferenceDwattnIdeal (m : (ℓ : Loc Cert.ReferenceDwattnIdeal.nD Cert.ReferenceDwattnIdeal.τ Cert.ReferenceDwattnIdeal.sig) → Buf (Elt Ideal) ℓ) : Prop :=
  True

def Pre_KernelDsq (m : (ℓ : Loc Cert.KernelDsq.nD Cert.KernelDsq.τ Cert.KernelDsq.sig) → Buf (Elt Bits) ℓ) : Prop :=
  True

def Pre_KernelDsqIdeal (m : (ℓ : Loc Cert.KernelDsqIdeal.nD Cert.KernelDsqIdeal.τ Cert.KernelDsqIdeal.sig) → Buf (Elt Ideal) ℓ) : Prop :=
  True

def Pre_ReferenceDsqIdeal (m : (ℓ : Loc Cert.ReferenceDsqIdeal.nD Cert.ReferenceDsqIdeal.τ Cert.ReferenceDsqIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCq (m : (ℓ : Loc Cert.KernelCq.nD Cert.KernelCq.τ Cert.KernelCq.sig) → Buf (Elt Bits) ℓ) : Prop :=
  True

def Pre_KernelCqIdeal (m : (ℓ : Loc Cert.KernelCqIdeal.nD Cert.KernelCqIdeal.τ Cert.KernelCqIdeal.sig) → Buf (Elt Ideal) ℓ) : Prop :=
  True

def Pre_ReferenceCqIdeal (m : (ℓ : Loc Cert.ReferenceCqIdeal.nD Cert.ReferenceCqIdeal.τ Cert.ReferenceCqIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelDwkv (m : (ℓ : Loc Cert.KernelDwkv.nD Cert.KernelDwkv.τ Cert.KernelDwkv.sig) → Buf (Elt Bits) ℓ) : Prop :=
  True

def Pre_KernelDwkvIdeal (m : (ℓ : Loc Cert.KernelDwkvIdeal.nD Cert.KernelDwkvIdeal.τ Cert.KernelDwkvIdeal.sig) → Buf (Elt Ideal) ℓ) : Prop :=
  True

def Pre_ReferenceDwkvIdeal (m : (ℓ : Loc Cert.ReferenceDwkvIdeal.nD Cert.ReferenceDwkvIdeal.τ Cert.ReferenceDwkvIdeal.sig) → Buf (Elt Ideal) ℓ) : Prop :=
  True

def Pre_KernelDmn (m : (ℓ : Loc Cert.KernelDmn.nD Cert.KernelDmn.τ Cert.KernelDmn.sig) → Buf (Elt Bits) ℓ) : Prop :=
  True

def Pre_KernelDmnIdeal (m : (ℓ : Loc Cert.KernelDmnIdeal.nD Cert.KernelDmnIdeal.τ Cert.KernelDmnIdeal.sig) → Buf (Elt Ideal) ℓ) : Prop :=
  True

def Pre_ReferenceDmnIdeal (m : (ℓ : Loc Cert.ReferenceDmnIdeal.nD Cert.ReferenceDmnIdeal.τ Cert.ReferenceDmnIdeal.sig) → Buf (Elt Ideal) ℓ) : Prop :=
  True

def Pre_KernelXfwd (m : (ℓ : Loc Cert.KernelXfwd.nD Cert.KernelXfwd.τ Cert.KernelXfwd.sig) → Buf (Elt Bits) ℓ) : Prop :=
  True

def Pre_KernelXfwdIdeal (m : (ℓ : Loc Cert.KernelXfwdIdeal.nD Cert.KernelXfwdIdeal.τ Cert.KernelXfwdIdeal.sig) → Buf (Elt Ideal) ℓ) : Prop :=
  True

def Pre_ReferenceXfwdIdeal (m : (ℓ : Loc Cert.ReferenceXfwdIdeal.nD Cert.ReferenceXfwdIdeal.τ Cert.ReferenceXfwdIdeal.sig) → Buf (Elt Ideal) ℓ) : Prop :=
  True

def Pre_KernelCfwd (m : (ℓ : Loc Cert.KernelCfwd.nD Cert.KernelCfwd.τ Cert.KernelCfwd.sig) → Buf (Elt Bits) ℓ) : Prop :=
  True

def Pre_KernelCfwdIdeal (m : (ℓ : Loc Cert.KernelCfwdIdeal.nD Cert.KernelCfwdIdeal.τ Cert.KernelCfwdIdeal.sig) → Buf (Elt Ideal) ℓ) : Prop :=
  True

def Pre_ReferenceCfwdIdeal (m : (ℓ : Loc Cert.ReferenceCfwdIdeal.nD Cert.ReferenceCfwdIdeal.τ Cert.ReferenceCfwdIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMnorm (m : (ℓ : Loc Cert.KernelMnorm.nD Cert.KernelMnorm.τ Cert.KernelMnorm.sig) → Buf (Elt Bits) ℓ) : Prop :=
  True

def Pre_KernelMnormIdeal (m : (ℓ : Loc Cert.KernelMnormIdeal.nD Cert.KernelMnormIdeal.τ Cert.KernelMnormIdeal.sig) → Buf (Elt Ideal) ℓ) : Prop :=
  True

def Pre_ReferenceMnormIdeal (m : (ℓ : Loc Cert.ReferenceMnormIdeal.nD Cert.ReferenceMnormIdeal.τ Cert.ReferenceMnormIdeal.sig) → Buf (Elt Ideal) ℓ) : Prop :=
  True

def Pre_KernelDmem (m : (ℓ : Loc Cert.KernelDmem.nD Cert.KernelDmem.τ Cert.KernelDmem.sig) → Buf (Elt Bits) ℓ) : Prop :=
  True

def Pre_KernelDmemIdeal (m : (ℓ : Loc Cert.KernelDmemIdeal.nD Cert.KernelDmemIdeal.τ Cert.KernelDmemIdeal.sig) → Buf (Elt Ideal) ℓ) : Prop :=
  True

def Pre_ReferenceDmemIdeal (m : (ℓ : Loc Cert.ReferenceDmemIdeal.nD Cert.ReferenceDmemIdeal.τ Cert.ReferenceDmemIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1)
      ∧ r.2.mem ((c.tc : Thread Cert.KernelDu.nD Cert.KernelDu.τ).loc Cert.KernelDu.main_arg2) = m ((c.tc : Thread Cert.KernelDu.nD Cert.KernelDu.τ).loc Cert.KernelDu.main_arg2)
      ∧ r.2.mem ((c.tc : Thread Cert.KernelDu.nD Cert.KernelDu.τ).loc Cert.KernelDu.main_arg3) = m ((c.tc : Thread Cert.KernelDu.nD Cert.KernelDu.τ).loc Cert.KernelDu.main_arg3)
      ∧ r.2.mem ((c.tc : Thread Cert.KernelDu.nD Cert.KernelDu.τ).loc Cert.KernelDu.main_arg4) = m ((c.tc : Thread Cert.KernelDu.nD Cert.KernelDu.τ).loc Cert.KernelDu.main_arg4))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
      ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
      ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
      ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1)
      ∧ r.2.mem ((c.tc : Thread Cert.ReferenceDuIdeal.nD Cert.ReferenceDuIdeal.τ).loc Cert.ReferenceDuIdeal.main_arg2) = m ((c.tc : Thread Cert.ReferenceDuIdeal.nD Cert.ReferenceDuIdeal.τ).loc Cert.ReferenceDuIdeal.main_arg2)
      ∧ r.2.mem ((c.tc : Thread Cert.ReferenceDuIdeal.nD Cert.ReferenceDuIdeal.τ).loc Cert.ReferenceDuIdeal.main_arg3) = m ((c.tc : Thread Cert.ReferenceDuIdeal.nD Cert.ReferenceDuIdeal.τ).loc Cert.ReferenceDuIdeal.main_arg3)
      ∧ r.2.mem ((c.tc : Thread Cert.ReferenceDuIdeal.nD Cert.ReferenceDuIdeal.τ).loc Cert.ReferenceDuIdeal.main_arg4) = m ((c.tc : Thread Cert.ReferenceDuIdeal.nD Cert.ReferenceDuIdeal.τ).loc Cert.ReferenceDuIdeal.main_arg4))
      ∧ r.2.sem = fun _ => 0)

def quiescent_KernelDgu [hKernelDgu : Cert.KernelDgu.Facts] : Prop :=
  ∀ (m : (ℓ : Loc Cert.KernelDgu.nD Cert.KernelDgu.τ Cert.KernelDgu.sig) → Buf (Elt Bits) ℓ) (g : Dev Cert.KernelDgu.nD → PrngReg), Pre_KernelDgu m →
    θ_run (Cert.KernelDgu.defs (F := Bits)) (onTc (τ := Cert.KernelDgu.τ) (Cert.KernelDgu.main (F := Bits))) ⟨m, fun _ => 0, g⟩ (fun r => (∀ c : Dev Cert.KernelDgu.nD,
      r.2.mem ((c.tc : Thread Cert.KernelDgu.nD Cert.KernelDgu.τ).loc Cert.KernelDgu.main_arg0) = m ((c.tc : Thread Cert.KernelDgu.nD Cert.KernelDgu.τ).loc Cert.KernelDgu.main_arg0)
      ∧ r.2.mem ((c.tc : Thread Cert.KernelDgu.nD Cert.KernelDgu.τ).loc Cert.KernelDgu.main_arg1) = m ((c.tc : Thread Cert.KernelDgu.nD Cert.KernelDgu.τ).loc Cert.KernelDgu.main_arg1)
      ∧ r.2.mem ((c.tc : Thread Cert.KernelDgu.nD Cert.KernelDgu.τ).loc Cert.KernelDgu.main_arg2) = m ((c.tc : Thread Cert.KernelDgu.nD Cert.KernelDgu.τ).loc Cert.KernelDgu.main_arg2))
      ∧ r.2.sem = fun _ => 0)

def quiescent_KernelDguIdeal [hKernelDguIdeal : Cert.KernelDguIdeal.Facts] : Prop :=
  ∀ (m : (ℓ : Loc Cert.KernelDguIdeal.nD Cert.KernelDguIdeal.τ Cert.KernelDguIdeal.sig) → Buf (Elt Ideal) ℓ) (g : Dev Cert.KernelDguIdeal.nD → PrngReg), Pre_KernelDguIdeal m →
    θ_run (Cert.KernelDguIdeal.defs (F := Ideal)) (onTc (τ := Cert.KernelDguIdeal.τ) (Cert.KernelDguIdeal.main (F := Ideal))) ⟨m, fun _ => 0, g⟩ (fun r => (∀ c : Dev Cert.KernelDguIdeal.nD,
      r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
      ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
      ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2))
      ∧ r.2.sem = fun _ => 0)

def quiescent_KernelDguIdeal_pre_finite_dgu [hKernelDguIdeal : Cert.KernelDguIdeal.Facts] [hPre_finite_dgu : Cert.Pre_finite_dgu.Facts] : Prop :=
  ∀ (m : (ℓ : Loc Cert.KernelDguIdeal.nD Cert.KernelDguIdeal.τ Cert.KernelDguIdeal.sig) → Buf (Elt Ideal) ℓ) (g : Dev Cert.KernelDguIdeal.nD → PrngReg), Pre_KernelDguIdeal_finite_dgu m →
    θ_run (Cert.KernelDguIdeal.defs (F := Ideal)) (onTc (τ := Cert.KernelDguIdeal.τ) (Cert.KernelDguIdeal.main (F := Ideal))) ⟨m, fun _ => 0, g⟩ (fun r => (∀ c : Dev Cert.KernelDguIdeal.nD,
      r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
      ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
      ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2))
      ∧ r.2.sem = fun _ => 0)

def quiescent_ReferenceDguIdeal [hReferenceDguIdeal : Cert.ReferenceDguIdeal.Facts] : Prop :=
  ∀ (m : (ℓ : Loc Cert.ReferenceDguIdeal.nD Cert.ReferenceDguIdeal.τ Cert.ReferenceDguIdeal.sig) → Buf (Elt Ideal) ℓ) (g : Dev Cert.ReferenceDguIdeal.nD → PrngReg), Pre_ReferenceDguIdeal m →
    θ_run (Cert.ReferenceDguIdeal.defs (F := Ideal)) (onTc (τ := Cert.ReferenceDguIdeal.τ) (Cert.ReferenceDguIdeal.main (F := Ideal))) ⟨m, fun _ => 0, g⟩ (fun r => (∀ c : Dev Cert.ReferenceDguIdeal.nD,
      r.2.mem ((c.tc : Thread Cert.ReferenceDguIdeal.nD Cert.ReferenceDguIdeal.τ).loc Cert.ReferenceDguIdeal.main_arg0) = m ((c.tc : Thread Cert.ReferenceDguIdeal.nD Cert.ReferenceDguIdeal.τ).loc Cert.ReferenceDguIdeal.main_arg0)
      ∧ r.2.mem ((c.tc : Thread Cert.ReferenceDguIdeal.nD Cert.ReferenceDguIdeal.τ).loc Cert.ReferenceDguIdeal.main_arg1) = m ((c.tc : Thread Cert.ReferenceDguIdeal.nD Cert.ReferenceDguIdeal.τ).loc Cert.ReferenceDguIdeal.main_arg1)
      ∧ r.2.mem ((c.tc : Thread Cert.ReferenceDguIdeal.nD Cert.ReferenceDguIdeal.τ).loc Cert.ReferenceDguIdeal.main_arg2) = m ((c.tc : Thread Cert.ReferenceDguIdeal.nD Cert.ReferenceDguIdeal.τ).loc Cert.ReferenceDguIdeal.main_arg2))
      ∧ r.2.sem = fun _ => 0)

def quiescent_ReferenceDguIdeal_pre_finite_dgu [hReferenceDguIdeal : Cert.ReferenceDguIdeal.Facts] [hPre_finite_dgu : Cert.Pre_finite_dgu.Facts] : Prop :=
  ∀ (m : (ℓ : Loc Cert.ReferenceDguIdeal.nD Cert.ReferenceDguIdeal.τ Cert.ReferenceDguIdeal.sig) → Buf (Elt Ideal) ℓ) (g : Dev Cert.ReferenceDguIdeal.nD → PrngReg), Pre_ReferenceDguIdeal_finite_dgu m →
    θ_run (Cert.ReferenceDguIdeal.defs (F := Ideal)) (onTc (τ := Cert.ReferenceDguIdeal.τ) (Cert.ReferenceDguIdeal.main (F := Ideal))) ⟨m, fun _ => 0, g⟩ (fun r => (∀ c : Dev Cert.ReferenceDguIdeal.nD,
      r.2.mem ((c.tc : Thread Cert.ReferenceDguIdeal.nD Cert.ReferenceDguIdeal.τ).loc Cert.ReferenceDguIdeal.main_arg0) = m ((c.tc : Thread Cert.ReferenceDguIdeal.nD Cert.ReferenceDguIdeal.τ).loc Cert.ReferenceDguIdeal.main_arg0)
      ∧ r.2.mem ((c.tc : Thread Cert.ReferenceDguIdeal.nD Cert.ReferenceDguIdeal.τ).loc Cert.ReferenceDguIdeal.main_arg1) = m ((c.tc : Thread Cert.ReferenceDguIdeal.nD Cert.ReferenceDguIdeal.τ).loc Cert.ReferenceDguIdeal.main_arg1)
      ∧ r.2.mem ((c.tc : Thread Cert.ReferenceDguIdeal.nD Cert.ReferenceDguIdeal.τ).loc Cert.ReferenceDguIdeal.main_arg2) = m ((c.tc : Thread Cert.ReferenceDguIdeal.nD Cert.ReferenceDguIdeal.τ).loc Cert.ReferenceDguIdeal.main_arg2))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2)
      ∧ r.2.mem ((c.tc : Thread Cert.KernelDn.nD Cert.KernelDn.τ).loc Cert.KernelDn.main_arg3) = m ((c.tc : Thread Cert.KernelDn.nD Cert.KernelDn.τ).loc Cert.KernelDn.main_arg3)
      ∧ r.2.mem ((c.tc : Thread Cert.KernelDn.nD Cert.KernelDn.τ).loc Cert.KernelDn.main_arg4) = m ((c.tc : Thread Cert.KernelDn.nD Cert.KernelDn.τ).loc Cert.KernelDn.main_arg4))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDwgu [hKernelDwgu : Cert.KernelDwgu.Facts] : Prop :=
  ∀ (m : (ℓ : Loc Cert.KernelDwgu.nD Cert.KernelDwgu.τ Cert.KernelDwgu.sig) → Buf (Elt Bits) ℓ) (g : Dev Cert.KernelDwgu.nD → PrngReg), Pre_KernelDwgu m →
    θ_run (Cert.KernelDwgu.defs (F := Bits)) (onTc (τ := Cert.KernelDwgu.τ) (Cert.KernelDwgu.main (F := Bits))) ⟨m, fun _ => 0, g⟩ (fun r => (∀ c : Dev Cert.KernelDwgu.nD,
      r.2.mem ((c.tc : Thread Cert.KernelDwgu.nD Cert.KernelDwgu.τ).loc Cert.KernelDwgu.main_arg0) = m ((c.tc : Thread Cert.KernelDwgu.nD Cert.KernelDwgu.τ).loc Cert.KernelDwgu.main_arg0)
      ∧ r.2.mem ((c.tc : Thread Cert.KernelDwgu.nD Cert.KernelDwgu.τ).loc Cert.KernelDwgu.main_arg1) = m ((c.tc : Thread Cert.KernelDwgu.nD Cert.KernelDwgu.τ).loc Cert.KernelDwgu.main_arg1))
      ∧ r.2.sem = fun _ => 0)

def quiescent_KernelDwguIdeal [hKernelDwguIdeal : Cert.KernelDwguIdeal.Facts] : Prop :=
  ∀ (m : (ℓ : Loc Cert.KernelDwguIdeal.nD Cert.KernelDwguIdeal.τ Cert.KernelDwguIdeal.sig) → Buf (Elt Ideal) ℓ) (g : Dev Cert.KernelDwguIdeal.nD → PrngReg), Pre_KernelDwguIdeal m →
    θ_run (Cert.KernelDwguIdeal.defs (F := Ideal)) (onTc (τ := Cert.KernelDwguIdeal.τ) (Cert.KernelDwguIdeal.main (F := Ideal))) ⟨m, fun _ => 0, g⟩ (fun r => (∀ c : Dev Cert.KernelDwguIdeal.nD,
      r.2.mem ((c.tc : Thread Cert.KernelDwguIdeal.nD Cert.KernelDwguIdeal.τ).loc Cert.KernelDwguIdeal.main_arg0) = m ((c.tc : Thread Cert.KernelDwguIdeal.nD Cert.KernelDwguIdeal.τ).loc Cert.KernelDwguIdeal.main_arg0)
      ∧ r.2.mem ((c.tc : Thread Cert.KernelDwguIdeal.nD Cert.KernelDwguIdeal.τ).loc Cert.KernelDwguIdeal.main_arg1) = m ((c.tc : Thread Cert.KernelDwguIdeal.nD Cert.KernelDwguIdeal.τ).loc Cert.KernelDwguIdeal.main_arg1))
      ∧ r.2.sem = fun _ => 0)

def quiescent_ReferenceDwguIdeal [hReferenceDwguIdeal : Cert.ReferenceDwguIdeal.Facts] : Prop :=
  ∀ (m : (ℓ : Loc Cert.ReferenceDwguIdeal.nD Cert.ReferenceDwguIdeal.τ Cert.ReferenceDwguIdeal.sig) → Buf (Elt Ideal) ℓ) (g : Dev Cert.ReferenceDwguIdeal.nD → PrngReg), Pre_ReferenceDwguIdeal m →
    θ_run (Cert.ReferenceDwguIdeal.defs (F := Ideal)) (onTc (τ := Cert.ReferenceDwguIdeal.τ) (Cert.ReferenceDwguIdeal.main (F := Ideal))) ⟨m, fun _ => 0, g⟩ (fun r => (∀ c : Dev Cert.ReferenceDwguIdeal.nD,
      r.2.mem ((c.tc : Thread Cert.ReferenceDwguIdeal.nD Cert.ReferenceDwguIdeal.τ).loc Cert.ReferenceDwguIdeal.main_arg0) = m ((c.tc : Thread Cert.ReferenceDwguIdeal.nD Cert.ReferenceDwguIdeal.τ).loc Cert.ReferenceDwguIdeal.main_arg0)
      ∧ r.2.mem ((c.tc : Thread Cert.ReferenceDwguIdeal.nD Cert.ReferenceDwguIdeal.τ).loc Cert.ReferenceDwguIdeal.main_arg1) = m ((c.tc : Thread Cert.ReferenceDwguIdeal.nD Cert.ReferenceDwguIdeal.τ).loc Cert.ReferenceDwguIdeal.main_arg1))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelDmerge [hKernelDmerge : Cert.KernelDmerge.Facts] : Prop :=
  ∀ (m : (ℓ : Loc Cert.KernelDmerge.nD Cert.KernelDmerge.τ Cert.KernelDmerge.sig) → Buf (Elt Bits) ℓ) (g : Dev Cert.KernelDmerge.nD → PrngReg), Pre_KernelDmerge m →
    θ_run (Cert.KernelDmerge.defs (F := Bits)) (onTc (τ := Cert.KernelDmerge.τ) (Cert.KernelDmerge.main (F := Bits))) ⟨m, fun _ => 0, g⟩ (fun r => (∀ c : Dev Cert.KernelDmerge.nD,
      r.2.mem ((c.tc : Thread Cert.KernelDmerge.nD Cert.KernelDmerge.τ).loc Cert.KernelDmerge.main_arg0) = m ((c.tc : Thread Cert.KernelDmerge.nD Cert.KernelDmerge.τ).loc Cert.KernelDmerge.main_arg0)
      ∧ r.2.mem ((c.tc : Thread Cert.KernelDmerge.nD Cert.KernelDmerge.τ).loc Cert.KernelDmerge.main_arg1) = m ((c.tc : Thread Cert.KernelDmerge.nD Cert.KernelDmerge.τ).loc Cert.KernelDmerge.main_arg1)
      ∧ r.2.mem ((c.tc : Thread Cert.KernelDmerge.nD Cert.KernelDmerge.τ).loc Cert.KernelDmerge.main_arg2) = m ((c.tc : Thread Cert.KernelDmerge.nD Cert.KernelDmerge.τ).loc Cert.KernelDmerge.main_arg2)
      ∧ r.2.mem ((c.tc : Thread Cert.KernelDmerge.nD Cert.KernelDmerge.τ).loc Cert.KernelDmerge.main_arg3) = m ((c.tc : Thread Cert.KernelDmerge.nD Cert.KernelDmerge.τ).loc Cert.KernelDmerge.main_arg3)
      ∧ r.2.mem ((c.tc : Thread Cert.KernelDmerge.nD Cert.KernelDmerge.τ).loc Cert.KernelDmerge.main_arg4) = m ((c.tc : Thread Cert.KernelDmerge.nD Cert.KernelDmerge.τ).loc Cert.KernelDmerge.main_arg4)
      ∧ r.2.mem ((c.tc : Thread Cert.KernelDmerge.nD Cert.KernelDmerge.τ).loc Cert.KernelDmerge.main_arg5) = m ((c.tc : Thread Cert.KernelDmerge.nD Cert.KernelDmerge.τ).loc Cert.KernelDmerge.main_arg5))
      ∧ r.2.sem = fun _ => 0)

def quiescent_KernelDmergeIdeal [hKernelDmergeIdeal : Cert.KernelDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg), Pre_KernelDmergeIdeal m →
    θ_run (Cert.KernelDmergeIdeal.defs (F := Ideal)) (onTc (τ := Cert.KernelDmergeIdeal.τ) (Cert.KernelDmergeIdeal.main (F := Ideal))) ⟨m, fun _ => 0, g⟩ (fun r => (∀ c : Dev Cert.KernelDmergeIdeal.nD,
      r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
      ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
      ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
      ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3)
      ∧ r.2.mem ((c.tc : Thread Cert.KernelDmergeIdeal.nD Cert.KernelDmergeIdeal.τ).loc Cert.KernelDmergeIdeal.main_arg4) = m ((c.tc : Thread Cert.KernelDmergeIdeal.nD Cert.KernelDmergeIdeal.τ).loc Cert.KernelDmergeIdeal.main_arg4)
      ∧ r.2.mem ((c.tc : Thread Cert.KernelDmergeIdeal.nD Cert.KernelDmergeIdeal.τ).loc Cert.KernelDmergeIdeal.main_arg5) = m ((c.tc : Thread Cert.KernelDmergeIdeal.nD Cert.KernelDmergeIdeal.τ).loc Cert.KernelDmergeIdeal.main_arg5))
      ∧ r.2.sem = fun _ => 0)

def quiescent_ReferenceDmergeIdeal [hReferenceDmergeIdeal : Cert.ReferenceDmergeIdeal.Facts] : Prop :=
  ∀ (m : (ℓ : Loc Cert.ReferenceDmergeIdeal.nD Cert.ReferenceDmergeIdeal.τ Cert.ReferenceDmergeIdeal.sig) → Buf (Elt Ideal) ℓ) (g : Dev Cert.ReferenceDmergeIdeal.nD → PrngReg), Pre_ReferenceDmergeIdeal m →
    θ_run (Cert.ReferenceDmergeIdeal.defs (F := Ideal)) (onTc (τ := Cert.ReferenceDmergeIdeal.τ) (Cert.ReferenceDmergeIdeal.main (F := Ideal))) ⟨m, fun _ => 0, g⟩ (fun r => (∀ c : Dev Cert.ReferenceDmergeIdeal.nD,
      r.2.mem ((c.tc : Thread Cert.ReferenceDmergeIdeal.nD Cert.ReferenceDmergeIdeal.τ).loc Cert.ReferenceDmergeIdeal.main_arg0) = m ((c.tc : Thread Cert.ReferenceDmergeIdeal.nD Cert.ReferenceDmergeIdeal.τ).loc Cert.ReferenceDmergeIdeal.main_arg0)
      ∧ r.2.mem ((c.tc : Thread Cert.ReferenceDmergeIdeal.nD Cert.ReferenceDmergeIdeal.τ).loc Cert.ReferenceDmergeIdeal.main_arg1) = m ((c.tc : Thread Cert.ReferenceDmergeIdeal.nD Cert.ReferenceDmergeIdeal.τ).loc Cert.ReferenceDmergeIdeal.main_arg1)
      ∧ r.2.mem ((c.tc : Thread Cert.ReferenceDmergeIdeal.nD Cert.ReferenceDmergeIdeal.τ).loc Cert.ReferenceDmergeIdeal.main_arg2) = m ((c.tc : Thread Cert.ReferenceDmergeIdeal.nD Cert.ReferenceDmergeIdeal.τ).loc Cert.ReferenceDmergeIdeal.main_arg2)
      ∧ r.2.mem ((c.tc : Thread Cert.ReferenceDmergeIdeal.nD Cert.ReferenceDmergeIdeal.τ).loc Cert.ReferenceDmergeIdeal.main_arg3) = m ((c.tc : Thread Cert.ReferenceDmergeIdeal.nD Cert.ReferenceDmergeIdeal.τ).loc Cert.ReferenceDmergeIdeal.main_arg3)
      ∧ r.2.mem ((c.tc : Thread Cert.ReferenceDmergeIdeal.nD Cert.ReferenceDmergeIdeal.τ).loc Cert.ReferenceDmergeIdeal.main_arg4) = m ((c.tc : Thread Cert.ReferenceDmergeIdeal.nD Cert.ReferenceDmergeIdeal.τ).loc Cert.ReferenceDmergeIdeal.main_arg4)
      ∧ r.2.mem ((c.tc : Thread Cert.ReferenceDmergeIdeal.nD Cert.ReferenceDmergeIdeal.τ).loc Cert.ReferenceDmergeIdeal.main_arg5) = m ((c.tc : Thread Cert.ReferenceDmergeIdeal.nD Cert.ReferenceDmergeIdeal.τ).loc Cert.ReferenceDmergeIdeal.main_arg5))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1)
      ∧ r.2.mem ((c.tc : Thread Cert.KernelXattn.nD Cert.KernelXattn.τ).loc Cert.KernelXattn.main_arg2) = m ((c.tc : Thread Cert.KernelXattn.nD Cert.KernelXattn.τ).loc Cert.KernelXattn.main_arg2))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_KernelXattnIdeal_pre_finite_xattn [hKernelXattnIdeal : Cert.KernelXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal_finite_xattn m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
      ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_ReferenceXattnIdeal_pre_finite_xattn [hReferenceXattnIdeal : Cert.ReferenceXattnIdeal.Facts] [hPre_finite_xattn : Cert.Pre_finite_xattn.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal_finite_xattn m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1)
      ∧ r.2.mem ((c.tc : Thread Cert.ReferenceXattnIdeal.nD Cert.ReferenceXattnIdeal.τ).loc Cert.ReferenceXattnIdeal.main_arg2) = m ((c.tc : Thread Cert.ReferenceXattnIdeal.nD Cert.ReferenceXattnIdeal.τ).loc Cert.ReferenceXattnIdeal.main_arg2))
      ∧ r.2.sem = fun _ => 0)

def quiescent_KernelDhn [hKernelDhn : Cert.KernelDhn.Facts] : Prop :=
  ∀ (m : (ℓ : Loc Cert.KernelDhn.nD Cert.KernelDhn.τ Cert.KernelDhn.sig) → Buf (Elt Bits) ℓ) (g : Dev Cert.KernelDhn.nD → PrngReg), Pre_KernelDhn m →
    θ_run (Cert.KernelDhn.defs (F := Bits)) (onTc (τ := Cert.KernelDhn.τ) (Cert.KernelDhn.main (F := Bits))) ⟨m, fun _ => 0, g⟩ (fun r => (∀ c : Dev Cert.KernelDhn.nD,
      r.2.mem ((c.tc : Thread Cert.KernelDhn.nD Cert.KernelDhn.τ).loc Cert.KernelDhn.main_arg0) = m ((c.tc : Thread Cert.KernelDhn.nD Cert.KernelDhn.τ).loc Cert.KernelDhn.main_arg0)
      ∧ r.2.mem ((c.tc : Thread Cert.KernelDhn.nD Cert.KernelDhn.τ).loc Cert.KernelDhn.main_arg1) = m ((c.tc : Thread Cert.KernelDhn.nD Cert.KernelDhn.τ).loc Cert.KernelDhn.main_arg1)
      ∧ r.2.mem ((c.tc : Thread Cert.KernelDhn.nD Cert.KernelDhn.τ).loc Cert.KernelDhn.main_arg2) = m ((c.tc : Thread Cert.KernelDhn.nD Cert.KernelDhn.τ).loc Cert.KernelDhn.main_arg2)
      ∧ r.2.mem ((c.tc : Thread Cert.KernelDhn.nD Cert.KernelDhn.τ).loc Cert.KernelDhn.main_arg3) = m ((c.tc : Thread Cert.KernelDhn.nD Cert.KernelDhn.τ).loc Cert.KernelDhn.main_arg3)
      ∧ r.2.mem ((c.tc : Thread Cert.KernelDhn.nD Cert.KernelDhn.τ).loc Cert.KernelDhn.main_arg4) = m ((c.tc : Thread Cert.KernelDhn.nD Cert.KernelDhn.τ).loc Cert.KernelDhn.main_arg4))
      ∧ r.2.sem = fun _ => 0)

def quiescent_KernelDhnIdeal [hKernelDhnIdeal : Cert.KernelDhnIdeal.Facts] : Prop :=
  ∀ (m : (ℓ : Loc Cert.KernelDhnIdeal.nD Cert.KernelDhnIdeal.τ Cert.KernelDhnIdeal.sig) → Buf (Elt Ideal) ℓ) (g : Dev Cert.KernelDhnIdeal.nD → PrngReg), Pre_KernelDhnIdeal m →
    θ_run (Cert.KernelDhnIdeal.defs (F := Ideal)) (onTc (τ := Cert.KernelDhnIdeal.τ) (Cert.KernelDhnIdeal.main (F := Ideal))) ⟨m, fun _ => 0, g⟩ (fun r => (∀ c : Dev Cert.KernelDhnIdeal.nD,
      r.2.mem ((c.tc : Thread Cert.KernelDhnIdeal.nD Cert.KernelDhnIdeal.τ).loc Cert.KernelDhnIdeal.main_arg0) = m ((c.tc : Thread Cert.KernelDhnIdeal.nD Cert.KernelDhnIdeal.τ).loc Cert.KernelDhnIdeal.main_arg0)
      ∧ r.2.mem ((c.tc : Thread Cert.KernelDhnIdeal.nD Cert.KernelDhnIdeal.τ).loc Cert.KernelDhnIdeal.main_arg1) = m ((c.tc : Thread Cert.KernelDhnIdeal.nD Cert.KernelDhnIdeal.τ).loc Cert.KernelDhnIdeal.main_arg1)
      ∧ r.2.mem ((c.tc : Thread Cert.KernelDhnIdeal.nD Cert.KernelDhnIdeal.τ).loc Cert.KernelDhnIdeal.main_arg2) = m ((c.tc : Thread Cert.KernelDhnIdeal.nD Cert.KernelDhnIdeal.τ).loc Cert.KernelDhnIdeal.main_arg2)
      ∧ r.2.mem ((c.tc : Thread Cert.KernelDhnIdeal.nD Cert.KernelDhnIdeal.τ).loc Cert.KernelDhnIdeal.main_arg3) = m ((c.tc : Thread Cert.KernelDhnIdeal.nD Cert.KernelDhnIdeal.τ).loc Cert.KernelDhnIdeal.main_arg3)
      ∧ r.2.mem ((c.tc : Thread Cert.KernelDhnIdeal.nD Cert.KernelDhnIdeal.τ).loc Cert.KernelDhnIdeal.main_arg4) = m ((c.tc : Thread Cert.KernelDhnIdeal.nD Cert.KernelDhnIdeal.τ).loc Cert.KernelDhnIdeal.main_arg4))
      ∧ r.2.sem = fun _ => 0)

def quiescent_ReferenceDhnIdeal [hReferenceDhnIdeal : Cert.ReferenceDhnIdeal.Facts] : Prop :=
  ∀ (m : (ℓ : Loc Cert.ReferenceDhnIdeal.nD Cert.ReferenceDhnIdeal.τ Cert.ReferenceDhnIdeal.sig) → Buf (Elt Ideal) ℓ) (g : Dev Cert.ReferenceDhnIdeal.nD → PrngReg), Pre_ReferenceDhnIdeal m →
    θ_run (Cert.ReferenceDhnIdeal.defs (F := Ideal)) (onTc (τ := Cert.ReferenceDhnIdeal.τ) (Cert.ReferenceDhnIdeal.main (F := Ideal))) ⟨m, fun _ => 0, g⟩ (fun r => (∀ c : Dev Cert.ReferenceDhnIdeal.nD,
      r.2.mem ((c.tc : Thread Cert.ReferenceDhnIdeal.nD Cert.ReferenceDhnIdeal.τ).loc Cert.ReferenceDhnIdeal.main_arg0) = m ((c.tc : Thread Cert.ReferenceDhnIdeal.nD Cert.ReferenceDhnIdeal.τ).loc Cert.ReferenceDhnIdeal.main_arg0)
      ∧ r.2.mem ((c.tc : Thread Cert.ReferenceDhnIdeal.nD Cert.ReferenceDhnIdeal.τ).loc Cert.ReferenceDhnIdeal.main_arg1) = m ((c.tc : Thread Cert.ReferenceDhnIdeal.nD Cert.ReferenceDhnIdeal.τ).loc Cert.ReferenceDhnIdeal.main_arg1)
      ∧ r.2.mem ((c.tc : Thread Cert.ReferenceDhnIdeal.nD Cert.ReferenceDhnIdeal.τ).loc Cert.ReferenceDhnIdeal.main_arg2) = m ((c.tc : Thread Cert.ReferenceDhnIdeal.nD Cert.ReferenceDhnIdeal.τ).loc Cert.ReferenceDhnIdeal.main_arg2)
      ∧ r.2.mem ((c.tc : Thread Cert.ReferenceDhnIdeal.nD Cert.ReferenceDhnIdeal.τ).loc Cert.ReferenceDhnIdeal.main_arg3) = m ((c.tc : Thread Cert.ReferenceDhnIdeal.nD Cert.ReferenceDhnIdeal.τ).loc Cert.ReferenceDhnIdeal.main_arg3)
      ∧ r.2.mem ((c.tc : Thread Cert.ReferenceDhnIdeal.nD Cert.ReferenceDhnIdeal.τ).loc Cert.ReferenceDhnIdeal.main_arg4) = m ((c.tc : Thread Cert.ReferenceDhnIdeal.nD Cert.ReferenceDhnIdeal.τ).loc Cert.ReferenceDhnIdeal.main_arg4))
      ∧ r.2.sem = fun _ => 0)

def quiescent_KernelDwsq [hKernelDwsq : Cert.KernelDwsq.Facts] : Prop :=
  ∀ (m : (ℓ : Loc Cert.KernelDwsq.nD Cert.KernelDwsq.τ Cert.KernelDwsq.sig) → Buf (Elt Bits) ℓ) (g : Dev Cert.KernelDwsq.nD → PrngReg), Pre_KernelDwsq m →
    θ_run (Cert.KernelDwsq.defs (F := Bits)) (onTc (τ := Cert.KernelDwsq.τ) (Cert.KernelDwsq.main (F := Bits))) ⟨m, fun _ => 0, g⟩ (fun r => (∀ c : Dev Cert.KernelDwsq.nD,
      r.2.mem ((c.tc : Thread Cert.KernelDwsq.nD Cert.KernelDwsq.τ).loc Cert.KernelDwsq.main_arg0) = m ((c.tc : Thread Cert.KernelDwsq.nD Cert.KernelDwsq.τ).loc Cert.KernelDwsq.main_arg0)
      ∧ r.2.mem ((c.tc : Thread Cert.KernelDwsq.nD Cert.KernelDwsq.τ).loc Cert.KernelDwsq.main_arg1) = m ((c.tc : Thread Cert.KernelDwsq.nD Cert.KernelDwsq.τ).loc Cert.KernelDwsq.main_arg1))
      ∧ r.2.sem = fun _ => 0)

def quiescent_KernelDwsqIdeal [hKernelDwsqIdeal : Cert.KernelDwsqIdeal.Facts] : Prop :=
  ∀ (m : (ℓ : Loc Cert.KernelDwsqIdeal.nD Cert.KernelDwsqIdeal.τ Cert.KernelDwsqIdeal.sig) → Buf (Elt Ideal) ℓ) (g : Dev Cert.KernelDwsqIdeal.nD → PrngReg), Pre_KernelDwsqIdeal m →
    θ_run (Cert.KernelDwsqIdeal.defs (F := Ideal)) (onTc (τ := Cert.KernelDwsqIdeal.τ) (Cert.KernelDwsqIdeal.main (F := Ideal))) ⟨m, fun _ => 0, g⟩ (fun r => (∀ c : Dev Cert.KernelDwsqIdeal.nD,
      r.2.mem ((c.tc : Thread Cert.KernelDwsqIdeal.nD Cert.KernelDwsqIdeal.τ).loc Cert.KernelDwsqIdeal.main_arg0) = m ((c.tc : Thread Cert.KernelDwsqIdeal.nD Cert.KernelDwsqIdeal.τ).loc Cert.KernelDwsqIdeal.main_arg0)
      ∧ r.2.mem ((c.tc : Thread Cert.KernelDwsqIdeal.nD Cert.KernelDwsqIdeal.τ).loc Cert.KernelDwsqIdeal.main_arg1) = m ((c.tc : Thread Cert.KernelDwsqIdeal.nD Cert.KernelDwsqIdeal.τ).loc Cert.KernelDwsqIdeal.main_arg1))
      ∧ r.2.sem = fun _ => 0)

def quiescent_ReferenceDwsqIdeal [hReferenceDwsqIdeal : Cert.ReferenceDwsqIdeal.Facts] : Prop :=
  ∀ (m : (ℓ : Loc Cert.ReferenceDwsqIdeal.nD Cert.ReferenceDwsqIdeal.τ Cert.ReferenceDwsqIdeal.sig) → Buf (Elt Ideal) ℓ) (g : Dev Cert.ReferenceDwsqIdeal.nD → PrngReg), Pre_ReferenceDwsqIdeal m →
    θ_run (Cert.ReferenceDwsqIdeal.defs (F := Ideal)) (onTc (τ := Cert.ReferenceDwsqIdeal.τ) (Cert.ReferenceDwsqIdeal.main (F := Ideal))) ⟨m, fun _ => 0, g⟩ (fun r => (∀ c : Dev Cert.ReferenceDwsqIdeal.nD,
      r.2.mem ((c.tc : Thread Cert.ReferenceDwsqIdeal.nD Cert.ReferenceDwsqIdeal.τ).loc Cert.ReferenceDwsqIdeal.main_arg0) = m ((c.tc : Thread Cert.ReferenceDwsqIdeal.nD Cert.ReferenceDwsqIdeal.τ).loc Cert.ReferenceDwsqIdeal.main_arg0)
      ∧ r.2.mem ((c.tc : Thread Cert.ReferenceDwsqIdeal.nD Cert.ReferenceDwsqIdeal.τ).loc Cert.ReferenceDwsqIdeal.main_arg1) = m ((c.tc : Thread Cert.ReferenceDwsqIdeal.nD Cert.ReferenceDwsqIdeal.τ).loc Cert.ReferenceDwsqIdeal.main_arg1))
      ∧ r.2.sem = fun _ => 0)

def quiescent_KernelDwattn [hKernelDwattn : Cert.KernelDwattn.Facts] : Prop :=
  ∀ (m : (ℓ : Loc Cert.KernelDwattn.nD Cert.KernelDwattn.τ Cert.KernelDwattn.sig) → Buf (Elt Bits) ℓ) (g : Dev Cert.KernelDwattn.nD → PrngReg), Pre_KernelDwattn m →
    θ_run (Cert.KernelDwattn.defs (F := Bits)) (onTc (τ := Cert.KernelDwattn.τ) (Cert.KernelDwattn.main (F := Bits))) ⟨m, fun _ => 0, g⟩ (fun r => (∀ c : Dev Cert.KernelDwattn.nD,
      r.2.mem ((c.tc : Thread Cert.KernelDwattn.nD Cert.KernelDwattn.τ).loc Cert.KernelDwattn.main_arg0) = m ((c.tc : Thread Cert.KernelDwattn.nD Cert.KernelDwattn.τ).loc Cert.KernelDwattn.main_arg0)
      ∧ r.2.mem ((c.tc : Thread Cert.KernelDwattn.nD Cert.KernelDwattn.τ).loc Cert.KernelDwattn.main_arg1) = m ((c.tc : Thread Cert.KernelDwattn.nD Cert.KernelDwattn.τ).loc Cert.KernelDwattn.main_arg1))
      ∧ r.2.sem = fun _ => 0)

def quiescent_KernelDwattnIdeal [hKernelDwattnIdeal : Cert.KernelDwattnIdeal.Facts] : Prop :=
  ∀ (m : (ℓ : Loc Cert.KernelDwattnIdeal.nD Cert.KernelDwattnIdeal.τ Cert.KernelDwattnIdeal.sig) → Buf (Elt Ideal) ℓ) (g : Dev Cert.KernelDwattnIdeal.nD → PrngReg), Pre_KernelDwattnIdeal m →
    θ_run (Cert.KernelDwattnIdeal.defs (F := Ideal)) (onTc (τ := Cert.KernelDwattnIdeal.τ) (Cert.KernelDwattnIdeal.main (F := Ideal))) ⟨m, fun _ => 0, g⟩ (fun r => (∀ c : Dev Cert.KernelDwattnIdeal.nD,
      r.2.mem ((c.tc : Thread Cert.KernelDwattnIdeal.nD Cert.KernelDwattnIdeal.τ).loc Cert.KernelDwattnIdeal.main_arg0) = m ((c.tc : Thread Cert.KernelDwattnIdeal.nD Cert.KernelDwattnIdeal.τ).loc Cert.KernelDwattnIdeal.main_arg0)
      ∧ r.2.mem ((c.tc : Thread Cert.KernelDwattnIdeal.nD Cert.KernelDwattnIdeal.τ).loc Cert.KernelDwattnIdeal.main_arg1) = m ((c.tc : Thread Cert.KernelDwattnIdeal.nD Cert.KernelDwattnIdeal.τ).loc Cert.KernelDwattnIdeal.main_arg1))
      ∧ r.2.sem = fun _ => 0)

def quiescent_ReferenceDwattnIdeal [hReferenceDwattnIdeal : Cert.ReferenceDwattnIdeal.Facts] : Prop :=
  ∀ (m : (ℓ : Loc Cert.ReferenceDwattnIdeal.nD Cert.ReferenceDwattnIdeal.τ Cert.ReferenceDwattnIdeal.sig) → Buf (Elt Ideal) ℓ) (g : Dev Cert.ReferenceDwattnIdeal.nD → PrngReg), Pre_ReferenceDwattnIdeal m →
    θ_run (Cert.ReferenceDwattnIdeal.defs (F := Ideal)) (onTc (τ := Cert.ReferenceDwattnIdeal.τ) (Cert.ReferenceDwattnIdeal.main (F := Ideal))) ⟨m, fun _ => 0, g⟩ (fun r => (∀ c : Dev Cert.ReferenceDwattnIdeal.nD,
      r.2.mem ((c.tc : Thread Cert.ReferenceDwattnIdeal.nD Cert.ReferenceDwattnIdeal.τ).loc Cert.ReferenceDwattnIdeal.main_arg0) = m ((c.tc : Thread Cert.ReferenceDwattnIdeal.nD Cert.ReferenceDwattnIdeal.τ).loc Cert.ReferenceDwattnIdeal.main_arg0)
      ∧ r.2.mem ((c.tc : Thread Cert.ReferenceDwattnIdeal.nD Cert.ReferenceDwattnIdeal.τ).loc Cert.ReferenceDwattnIdeal.main_arg1) = m ((c.tc : Thread Cert.ReferenceDwattnIdeal.nD Cert.ReferenceDwattnIdeal.τ).loc Cert.ReferenceDwattnIdeal.main_arg1))
      ∧ r.2.sem = fun _ => 0)

def quiescent_KernelDsq [hKernelDsq : Cert.KernelDsq.Facts] : Prop :=
  ∀ (m : (ℓ : Loc Cert.KernelDsq.nD Cert.KernelDsq.τ Cert.KernelDsq.sig) → Buf (Elt Bits) ℓ) (g : Dev Cert.KernelDsq.nD → PrngReg), Pre_KernelDsq m →
    θ_run (Cert.KernelDsq.defs (F := Bits)) (onTc (τ := Cert.KernelDsq.τ) (Cert.KernelDsq.main (F := Bits))) ⟨m, fun _ => 0, g⟩ (fun r => (∀ c : Dev Cert.KernelDsq.nD,
      r.2.mem ((c.tc : Thread Cert.KernelDsq.nD Cert.KernelDsq.τ).loc Cert.KernelDsq.main_arg0) = m ((c.tc : Thread Cert.KernelDsq.nD Cert.KernelDsq.τ).loc Cert.KernelDsq.main_arg0)
      ∧ r.2.mem ((c.tc : Thread Cert.KernelDsq.nD Cert.KernelDsq.τ).loc Cert.KernelDsq.main_arg1) = m ((c.tc : Thread Cert.KernelDsq.nD Cert.KernelDsq.τ).loc Cert.KernelDsq.main_arg1))
      ∧ r.2.sem = fun _ => 0)

def quiescent_KernelDsqIdeal [hKernelDsqIdeal : Cert.KernelDsqIdeal.Facts] : Prop :=
  ∀ (m : (ℓ : Loc Cert.KernelDsqIdeal.nD Cert.KernelDsqIdeal.τ Cert.KernelDsqIdeal.sig) → Buf (Elt Ideal) ℓ) (g : Dev Cert.KernelDsqIdeal.nD → PrngReg), Pre_KernelDsqIdeal m →
    θ_run (Cert.KernelDsqIdeal.defs (F := Ideal)) (onTc (τ := Cert.KernelDsqIdeal.τ) (Cert.KernelDsqIdeal.main (F := Ideal))) ⟨m, fun _ => 0, g⟩ (fun r => (∀ c : Dev Cert.KernelDsqIdeal.nD,
      r.2.mem ((c.tc : Thread Cert.KernelDsqIdeal.nD Cert.KernelDsqIdeal.τ).loc Cert.KernelDsqIdeal.main_arg0) = m ((c.tc : Thread Cert.KernelDsqIdeal.nD Cert.KernelDsqIdeal.τ).loc Cert.KernelDsqIdeal.main_arg0)
      ∧ r.2.mem ((c.tc : Thread Cert.KernelDsqIdeal.nD Cert.KernelDsqIdeal.τ).loc Cert.KernelDsqIdeal.main_arg1) = m ((c.tc : Thread Cert.KernelDsqIdeal.nD Cert.KernelDsqIdeal.τ).loc Cert.KernelDsqIdeal.main_arg1))
      ∧ r.2.sem = fun _ => 0)

def quiescent_ReferenceDsqIdeal [hReferenceDsqIdeal : Cert.ReferenceDsqIdeal.Facts] : Prop :=
  ∀ (m : (ℓ : Loc Cert.ReferenceDsqIdeal.nD Cert.ReferenceDsqIdeal.τ Cert.ReferenceDsqIdeal.sig) → Buf (Elt Ideal) ℓ) (g : Dev Cert.ReferenceDsqIdeal.nD → PrngReg), Pre_ReferenceDsqIdeal m →
    θ_run (Cert.ReferenceDsqIdeal.defs (F := Ideal)) (onTc (τ := Cert.ReferenceDsqIdeal.τ) (Cert.ReferenceDsqIdeal.main (F := Ideal))) ⟨m, fun _ => 0, g⟩ (fun r => (∀ c : Dev Cert.ReferenceDsqIdeal.nD,
      r.2.mem ((c.tc : Thread Cert.ReferenceDsqIdeal.nD Cert.ReferenceDsqIdeal.τ).loc Cert.ReferenceDsqIdeal.main_arg0) = m ((c.tc : Thread Cert.ReferenceDsqIdeal.nD Cert.ReferenceDsqIdeal.τ).loc Cert.ReferenceDsqIdeal.main_arg0)
      ∧ r.2.mem ((c.tc : Thread Cert.ReferenceDsqIdeal.nD Cert.ReferenceDsqIdeal.τ).loc Cert.ReferenceDsqIdeal.main_arg1) = m ((c.tc : Thread Cert.ReferenceDsqIdeal.nD Cert.ReferenceDsqIdeal.τ).loc Cert.ReferenceDsqIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelCq [hKernelCq : Cert.KernelCq.Facts] : Prop :=
  ∀ (m : (ℓ : Loc Cert.KernelCq.nD Cert.KernelCq.τ Cert.KernelCq.sig) → Buf (Elt Bits) ℓ) (g : Dev Cert.KernelCq.nD → PrngReg), Pre_KernelCq m →
    θ_run (Cert.KernelCq.defs (F := Bits)) (onTc (τ := Cert.KernelCq.τ) (Cert.KernelCq.main (F := Bits))) ⟨m, fun _ => 0, g⟩ (fun r => (∀ c : Dev Cert.KernelCq.nD,
      r.2.mem ((c.tc : Thread Cert.KernelCq.nD Cert.KernelCq.τ).loc Cert.KernelCq.main_arg0) = m ((c.tc : Thread Cert.KernelCq.nD Cert.KernelCq.τ).loc Cert.KernelCq.main_arg0)
      ∧ r.2.mem ((c.tc : Thread Cert.KernelCq.nD Cert.KernelCq.τ).loc Cert.KernelCq.main_arg1) = m ((c.tc : Thread Cert.KernelCq.nD Cert.KernelCq.τ).loc Cert.KernelCq.main_arg1))
      ∧ r.2.sem = fun _ => 0)

def quiescent_KernelCqIdeal [hKernelCqIdeal : Cert.KernelCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg), Pre_KernelCqIdeal m →
    θ_run (Cert.KernelCqIdeal.defs (F := Ideal)) (onTc (τ := Cert.KernelCqIdeal.τ) (Cert.KernelCqIdeal.main (F := Ideal))) ⟨m, fun _ => 0, g⟩ (fun r => (∀ c : Dev Cert.KernelCqIdeal.nD,
      r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
      ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1))
      ∧ r.2.sem = fun _ => 0)

def quiescent_ReferenceCqIdeal [hReferenceCqIdeal : Cert.ReferenceCqIdeal.Facts] : Prop :=
  ∀ (m : (ℓ : Loc Cert.ReferenceCqIdeal.nD Cert.ReferenceCqIdeal.τ Cert.ReferenceCqIdeal.sig) → Buf (Elt Ideal) ℓ) (g : Dev Cert.ReferenceCqIdeal.nD → PrngReg), Pre_ReferenceCqIdeal m →
    θ_run (Cert.ReferenceCqIdeal.defs (F := Ideal)) (onTc (τ := Cert.ReferenceCqIdeal.τ) (Cert.ReferenceCqIdeal.main (F := Ideal))) ⟨m, fun _ => 0, g⟩ (fun r => (∀ c : Dev Cert.ReferenceCqIdeal.nD,
      r.2.mem ((c.tc : Thread Cert.ReferenceCqIdeal.nD Cert.ReferenceCqIdeal.τ).loc Cert.ReferenceCqIdeal.main_arg0) = m ((c.tc : Thread Cert.ReferenceCqIdeal.nD Cert.ReferenceCqIdeal.τ).loc Cert.ReferenceCqIdeal.main_arg0)
      ∧ r.2.mem ((c.tc : Thread Cert.ReferenceCqIdeal.nD Cert.ReferenceCqIdeal.τ).loc Cert.ReferenceCqIdeal.main_arg1) = m ((c.tc : Thread Cert.ReferenceCqIdeal.nD Cert.ReferenceCqIdeal.τ).loc Cert.ReferenceCqIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelDwkv [hKernelDwkv : Cert.KernelDwkv.Facts] : Prop :=
  ∀ (m : (ℓ : Loc Cert.KernelDwkv.nD Cert.KernelDwkv.τ Cert.KernelDwkv.sig) → Buf (Elt Bits) ℓ) (g : Dev Cert.KernelDwkv.nD → PrngReg), Pre_KernelDwkv m →
    θ_run (Cert.KernelDwkv.defs (F := Bits)) (onTc (τ := Cert.KernelDwkv.τ) (Cert.KernelDwkv.main (F := Bits))) ⟨m, fun _ => 0, g⟩ (fun r => (∀ c : Dev Cert.KernelDwkv.nD,
      r.2.mem ((c.tc : Thread Cert.KernelDwkv.nD Cert.KernelDwkv.τ).loc Cert.KernelDwkv.main_arg0) = m ((c.tc : Thread Cert.KernelDwkv.nD Cert.KernelDwkv.τ).loc Cert.KernelDwkv.main_arg0)
      ∧ r.2.mem ((c.tc : Thread Cert.KernelDwkv.nD Cert.KernelDwkv.τ).loc Cert.KernelDwkv.main_arg1) = m ((c.tc : Thread Cert.KernelDwkv.nD Cert.KernelDwkv.τ).loc Cert.KernelDwkv.main_arg1))
      ∧ r.2.sem = fun _ => 0)

def quiescent_KernelDwkvIdeal [hKernelDwkvIdeal : Cert.KernelDwkvIdeal.Facts] : Prop :=
  ∀ (m : (ℓ : Loc Cert.KernelDwkvIdeal.nD Cert.KernelDwkvIdeal.τ Cert.KernelDwkvIdeal.sig) → Buf (Elt Ideal) ℓ) (g : Dev Cert.KernelDwkvIdeal.nD → PrngReg), Pre_KernelDwkvIdeal m →
    θ_run (Cert.KernelDwkvIdeal.defs (F := Ideal)) (onTc (τ := Cert.KernelDwkvIdeal.τ) (Cert.KernelDwkvIdeal.main (F := Ideal))) ⟨m, fun _ => 0, g⟩ (fun r => (∀ c : Dev Cert.KernelDwkvIdeal.nD,
      r.2.mem ((c.tc : Thread Cert.KernelDwkvIdeal.nD Cert.KernelDwkvIdeal.τ).loc Cert.KernelDwkvIdeal.main_arg0) = m ((c.tc : Thread Cert.KernelDwkvIdeal.nD Cert.KernelDwkvIdeal.τ).loc Cert.KernelDwkvIdeal.main_arg0)
      ∧ r.2.mem ((c.tc : Thread Cert.KernelDwkvIdeal.nD Cert.KernelDwkvIdeal.τ).loc Cert.KernelDwkvIdeal.main_arg1) = m ((c.tc : Thread Cert.KernelDwkvIdeal.nD Cert.KernelDwkvIdeal.τ).loc Cert.KernelDwkvIdeal.main_arg1))
      ∧ r.2.sem = fun _ => 0)

def quiescent_ReferenceDwkvIdeal [hReferenceDwkvIdeal : Cert.ReferenceDwkvIdeal.Facts] : Prop :=
  ∀ (m : (ℓ : Loc Cert.ReferenceDwkvIdeal.nD Cert.ReferenceDwkvIdeal.τ Cert.ReferenceDwkvIdeal.sig) → Buf (Elt Ideal) ℓ) (g : Dev Cert.ReferenceDwkvIdeal.nD → PrngReg), Pre_ReferenceDwkvIdeal m →
    θ_run (Cert.ReferenceDwkvIdeal.defs (F := Ideal)) (onTc (τ := Cert.ReferenceDwkvIdeal.τ) (Cert.ReferenceDwkvIdeal.main (F := Ideal))) ⟨m, fun _ => 0, g⟩ (fun r => (∀ c : Dev Cert.ReferenceDwkvIdeal.nD,
      r.2.mem ((c.tc : Thread Cert.ReferenceDwkvIdeal.nD Cert.ReferenceDwkvIdeal.τ).loc Cert.ReferenceDwkvIdeal.main_arg0) = m ((c.tc : Thread Cert.ReferenceDwkvIdeal.nD Cert.ReferenceDwkvIdeal.τ).loc Cert.ReferenceDwkvIdeal.main_arg0)
      ∧ r.2.mem ((c.tc : Thread Cert.ReferenceDwkvIdeal.nD Cert.ReferenceDwkvIdeal.τ).loc Cert.ReferenceDwkvIdeal.main_arg1) = m ((c.tc : Thread Cert.ReferenceDwkvIdeal.nD Cert.ReferenceDwkvIdeal.τ).loc Cert.ReferenceDwkvIdeal.main_arg1))
      ∧ r.2.sem = fun _ => 0)

def quiescent_KernelDmn [hKernelDmn : Cert.KernelDmn.Facts] : Prop :=
  ∀ (m : (ℓ : Loc Cert.KernelDmn.nD Cert.KernelDmn.τ Cert.KernelDmn.sig) → Buf (Elt Bits) ℓ) (g : Dev Cert.KernelDmn.nD → PrngReg), Pre_KernelDmn m →
    θ_run (Cert.KernelDmn.defs (F := Bits)) (onTc (τ := Cert.KernelDmn.τ) (Cert.KernelDmn.main (F := Bits))) ⟨m, fun _ => 0, g⟩ (fun r => (∀ c : Dev Cert.KernelDmn.nD,
      r.2.mem ((c.tc : Thread Cert.KernelDmn.nD Cert.KernelDmn.τ).loc Cert.KernelDmn.main_arg0) = m ((c.tc : Thread Cert.KernelDmn.nD Cert.KernelDmn.τ).loc Cert.KernelDmn.main_arg0)
      ∧ r.2.mem ((c.tc : Thread Cert.KernelDmn.nD Cert.KernelDmn.τ).loc Cert.KernelDmn.main_arg1) = m ((c.tc : Thread Cert.KernelDmn.nD Cert.KernelDmn.τ).loc Cert.KernelDmn.main_arg1))
      ∧ r.2.sem = fun _ => 0)

def quiescent_KernelDmnIdeal [hKernelDmnIdeal : Cert.KernelDmnIdeal.Facts] : Prop :=
  ∀ (m : (ℓ : Loc Cert.KernelDmnIdeal.nD Cert.KernelDmnIdeal.τ Cert.KernelDmnIdeal.sig) → Buf (Elt Ideal) ℓ) (g : Dev Cert.KernelDmnIdeal.nD → PrngReg), Pre_KernelDmnIdeal m →
    θ_run (Cert.KernelDmnIdeal.defs (F := Ideal)) (onTc (τ := Cert.KernelDmnIdeal.τ) (Cert.KernelDmnIdeal.main (F := Ideal))) ⟨m, fun _ => 0, g⟩ (fun r => (∀ c : Dev Cert.KernelDmnIdeal.nD,
      r.2.mem ((c.tc : Thread Cert.KernelDmnIdeal.nD Cert.KernelDmnIdeal.τ).loc Cert.KernelDmnIdeal.main_arg0) = m ((c.tc : Thread Cert.KernelDmnIdeal.nD Cert.KernelDmnIdeal.τ).loc Cert.KernelDmnIdeal.main_arg0)
      ∧ r.2.mem ((c.tc : Thread Cert.KernelDmnIdeal.nD Cert.KernelDmnIdeal.τ).loc Cert.KernelDmnIdeal.main_arg1) = m ((c.tc : Thread Cert.KernelDmnIdeal.nD Cert.KernelDmnIdeal.τ).loc Cert.KernelDmnIdeal.main_arg1))
      ∧ r.2.sem = fun _ => 0)

def quiescent_ReferenceDmnIdeal [hReferenceDmnIdeal : Cert.ReferenceDmnIdeal.Facts] : Prop :=
  ∀ (m : (ℓ : Loc Cert.ReferenceDmnIdeal.nD Cert.ReferenceDmnIdeal.τ Cert.ReferenceDmnIdeal.sig) → Buf (Elt Ideal) ℓ) (g : Dev Cert.ReferenceDmnIdeal.nD → PrngReg), Pre_ReferenceDmnIdeal m →
    θ_run (Cert.ReferenceDmnIdeal.defs (F := Ideal)) (onTc (τ := Cert.ReferenceDmnIdeal.τ) (Cert.ReferenceDmnIdeal.main (F := Ideal))) ⟨m, fun _ => 0, g⟩ (fun r => (∀ c : Dev Cert.ReferenceDmnIdeal.nD,
      r.2.mem ((c.tc : Thread Cert.ReferenceDmnIdeal.nD Cert.ReferenceDmnIdeal.τ).loc Cert.ReferenceDmnIdeal.main_arg0) = m ((c.tc : Thread Cert.ReferenceDmnIdeal.nD Cert.ReferenceDmnIdeal.τ).loc Cert.ReferenceDmnIdeal.main_arg0)
      ∧ r.2.mem ((c.tc : Thread Cert.ReferenceDmnIdeal.nD Cert.ReferenceDmnIdeal.τ).loc Cert.ReferenceDmnIdeal.main_arg1) = m ((c.tc : Thread Cert.ReferenceDmnIdeal.nD Cert.ReferenceDmnIdeal.τ).loc Cert.ReferenceDmnIdeal.main_arg1))
      ∧ r.2.sem = fun _ => 0)

def quiescent_KernelXfwd [hKernelXfwd : Cert.KernelXfwd.Facts] : Prop :=
  ∀ (m : (ℓ : Loc Cert.KernelXfwd.nD Cert.KernelXfwd.τ Cert.KernelXfwd.sig) → Buf (Elt Bits) ℓ) (g : Dev Cert.KernelXfwd.nD → PrngReg), Pre_KernelXfwd m →
    θ_run (Cert.KernelXfwd.defs (F := Bits)) (onTc (τ := Cert.KernelXfwd.τ) (Cert.KernelXfwd.main (F := Bits))) ⟨m, fun _ => 0, g⟩ (fun r => (∀ c : Dev Cert.KernelXfwd.nD,
      r.2.mem ((c.tc : Thread Cert.KernelXfwd.nD Cert.KernelXfwd.τ).loc Cert.KernelXfwd.main_arg0) = m ((c.tc : Thread Cert.KernelXfwd.nD Cert.KernelXfwd.τ).loc Cert.KernelXfwd.main_arg0)
      ∧ r.2.mem ((c.tc : Thread Cert.KernelXfwd.nD Cert.KernelXfwd.τ).loc Cert.KernelXfwd.main_arg1) = m ((c.tc : Thread Cert.KernelXfwd.nD Cert.KernelXfwd.τ).loc Cert.KernelXfwd.main_arg1))
      ∧ r.2.sem = fun _ => 0)

def quiescent_KernelXfwdIdeal [hKernelXfwdIdeal : Cert.KernelXfwdIdeal.Facts] : Prop :=
  ∀ (m : (ℓ : Loc Cert.KernelXfwdIdeal.nD Cert.KernelXfwdIdeal.τ Cert.KernelXfwdIdeal.sig) → Buf (Elt Ideal) ℓ) (g : Dev Cert.KernelXfwdIdeal.nD → PrngReg), Pre_KernelXfwdIdeal m →
    θ_run (Cert.KernelXfwdIdeal.defs (F := Ideal)) (onTc (τ := Cert.KernelXfwdIdeal.τ) (Cert.KernelXfwdIdeal.main (F := Ideal))) ⟨m, fun _ => 0, g⟩ (fun r => (∀ c : Dev Cert.KernelXfwdIdeal.nD,
      r.2.mem ((c.tc : Thread Cert.KernelXfwdIdeal.nD Cert.KernelXfwdIdeal.τ).loc Cert.KernelXfwdIdeal.main_arg0) = m ((c.tc : Thread Cert.KernelXfwdIdeal.nD Cert.KernelXfwdIdeal.τ).loc Cert.KernelXfwdIdeal.main_arg0)
      ∧ r.2.mem ((c.tc : Thread Cert.KernelXfwdIdeal.nD Cert.KernelXfwdIdeal.τ).loc Cert.KernelXfwdIdeal.main_arg1) = m ((c.tc : Thread Cert.KernelXfwdIdeal.nD Cert.KernelXfwdIdeal.τ).loc Cert.KernelXfwdIdeal.main_arg1))
      ∧ r.2.sem = fun _ => 0)

def quiescent_ReferenceXfwdIdeal [hReferenceXfwdIdeal : Cert.ReferenceXfwdIdeal.Facts] : Prop :=
  ∀ (m : (ℓ : Loc Cert.ReferenceXfwdIdeal.nD Cert.ReferenceXfwdIdeal.τ Cert.ReferenceXfwdIdeal.sig) → Buf (Elt Ideal) ℓ) (g : Dev Cert.ReferenceXfwdIdeal.nD → PrngReg), Pre_ReferenceXfwdIdeal m →
    θ_run (Cert.ReferenceXfwdIdeal.defs (F := Ideal)) (onTc (τ := Cert.ReferenceXfwdIdeal.τ) (Cert.ReferenceXfwdIdeal.main (F := Ideal))) ⟨m, fun _ => 0, g⟩ (fun r => (∀ c : Dev Cert.ReferenceXfwdIdeal.nD,
      r.2.mem ((c.tc : Thread Cert.ReferenceXfwdIdeal.nD Cert.ReferenceXfwdIdeal.τ).loc Cert.ReferenceXfwdIdeal.main_arg0) = m ((c.tc : Thread Cert.ReferenceXfwdIdeal.nD Cert.ReferenceXfwdIdeal.τ).loc Cert.ReferenceXfwdIdeal.main_arg0)
      ∧ r.2.mem ((c.tc : Thread Cert.ReferenceXfwdIdeal.nD Cert.ReferenceXfwdIdeal.τ).loc Cert.ReferenceXfwdIdeal.main_arg1) = m ((c.tc : Thread Cert.ReferenceXfwdIdeal.nD Cert.ReferenceXfwdIdeal.τ).loc Cert.ReferenceXfwdIdeal.main_arg1))
      ∧ r.2.sem = fun _ => 0)

def quiescent_KernelCfwd [hKernelCfwd : Cert.KernelCfwd.Facts] : Prop :=
  ∀ (m : (ℓ : Loc Cert.KernelCfwd.nD Cert.KernelCfwd.τ Cert.KernelCfwd.sig) → Buf (Elt Bits) ℓ) (g : Dev Cert.KernelCfwd.nD → PrngReg), Pre_KernelCfwd m →
    θ_run (Cert.KernelCfwd.defs (F := Bits)) (onTc (τ := Cert.KernelCfwd.τ) (Cert.KernelCfwd.main (F := Bits))) ⟨m, fun _ => 0, g⟩ (fun r => (∀ c : Dev Cert.KernelCfwd.nD,
      r.2.mem ((c.tc : Thread Cert.KernelCfwd.nD Cert.KernelCfwd.τ).loc Cert.KernelCfwd.main_arg0) = m ((c.tc : Thread Cert.KernelCfwd.nD Cert.KernelCfwd.τ).loc Cert.KernelCfwd.main_arg0)
      ∧ r.2.mem ((c.tc : Thread Cert.KernelCfwd.nD Cert.KernelCfwd.τ).loc Cert.KernelCfwd.main_arg1) = m ((c.tc : Thread Cert.KernelCfwd.nD Cert.KernelCfwd.τ).loc Cert.KernelCfwd.main_arg1))
      ∧ r.2.sem = fun _ => 0)

def quiescent_KernelCfwdIdeal [hKernelCfwdIdeal : Cert.KernelCfwdIdeal.Facts] : Prop :=
  ∀ (m : (ℓ : Loc Cert.KernelCfwdIdeal.nD Cert.KernelCfwdIdeal.τ Cert.KernelCfwdIdeal.sig) → Buf (Elt Ideal) ℓ) (g : Dev Cert.KernelCfwdIdeal.nD → PrngReg), Pre_KernelCfwdIdeal m →
    θ_run (Cert.KernelCfwdIdeal.defs (F := Ideal)) (onTc (τ := Cert.KernelCfwdIdeal.τ) (Cert.KernelCfwdIdeal.main (F := Ideal))) ⟨m, fun _ => 0, g⟩ (fun r => (∀ c : Dev Cert.KernelCfwdIdeal.nD,
      r.2.mem ((c.tc : Thread Cert.KernelCfwdIdeal.nD Cert.KernelCfwdIdeal.τ).loc Cert.KernelCfwdIdeal.main_arg0) = m ((c.tc : Thread Cert.KernelCfwdIdeal.nD Cert.KernelCfwdIdeal.τ).loc Cert.KernelCfwdIdeal.main_arg0)
      ∧ r.2.mem ((c.tc : Thread Cert.KernelCfwdIdeal.nD Cert.KernelCfwdIdeal.τ).loc Cert.KernelCfwdIdeal.main_arg1) = m ((c.tc : Thread Cert.KernelCfwdIdeal.nD Cert.KernelCfwdIdeal.τ).loc Cert.KernelCfwdIdeal.main_arg1))
      ∧ r.2.sem = fun _ => 0)

def quiescent_ReferenceCfwdIdeal [hReferenceCfwdIdeal : Cert.ReferenceCfwdIdeal.Facts] : Prop :=
  ∀ (m : (ℓ : Loc Cert.ReferenceCfwdIdeal.nD Cert.ReferenceCfwdIdeal.τ Cert.ReferenceCfwdIdeal.sig) → Buf (Elt Ideal) ℓ) (g : Dev Cert.ReferenceCfwdIdeal.nD → PrngReg), Pre_ReferenceCfwdIdeal m →
    θ_run (Cert.ReferenceCfwdIdeal.defs (F := Ideal)) (onTc (τ := Cert.ReferenceCfwdIdeal.τ) (Cert.ReferenceCfwdIdeal.main (F := Ideal))) ⟨m, fun _ => 0, g⟩ (fun r => (∀ c : Dev Cert.ReferenceCfwdIdeal.nD,
      r.2.mem ((c.tc : Thread Cert.ReferenceCfwdIdeal.nD Cert.ReferenceCfwdIdeal.τ).loc Cert.ReferenceCfwdIdeal.main_arg0) = m ((c.tc : Thread Cert.ReferenceCfwdIdeal.nD Cert.ReferenceCfwdIdeal.τ).loc Cert.ReferenceCfwdIdeal.main_arg0)
      ∧ r.2.mem ((c.tc : Thread Cert.ReferenceCfwdIdeal.nD Cert.ReferenceCfwdIdeal.τ).loc Cert.ReferenceCfwdIdeal.main_arg1) = m ((c.tc : Thread Cert.ReferenceCfwdIdeal.nD Cert.ReferenceCfwdIdeal.τ).loc Cert.ReferenceCfwdIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelMnorm [hKernelMnorm : Cert.KernelMnorm.Facts] : Prop :=
  ∀ (m : (ℓ : Loc Cert.KernelMnorm.nD Cert.KernelMnorm.τ Cert.KernelMnorm.sig) → Buf (Elt Bits) ℓ) (g : Dev Cert.KernelMnorm.nD → PrngReg), Pre_KernelMnorm m →
    θ_run (Cert.KernelMnorm.defs (F := Bits)) (onTc (τ := Cert.KernelMnorm.τ) (Cert.KernelMnorm.main (F := Bits))) ⟨m, fun _ => 0, g⟩ (fun r => (∀ c : Dev Cert.KernelMnorm.nD,
      r.2.mem ((c.tc : Thread Cert.KernelMnorm.nD Cert.KernelMnorm.τ).loc Cert.KernelMnorm.main_arg0) = m ((c.tc : Thread Cert.KernelMnorm.nD Cert.KernelMnorm.τ).loc Cert.KernelMnorm.main_arg0)
      ∧ r.2.mem ((c.tc : Thread Cert.KernelMnorm.nD Cert.KernelMnorm.τ).loc Cert.KernelMnorm.main_arg1) = m ((c.tc : Thread Cert.KernelMnorm.nD Cert.KernelMnorm.τ).loc Cert.KernelMnorm.main_arg1))
      ∧ r.2.sem = fun _ => 0)

def quiescent_KernelMnormIdeal [hKernelMnormIdeal : Cert.KernelMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg), Pre_KernelMnormIdeal m →
    θ_run (Cert.KernelMnormIdeal.defs (F := Ideal)) (onTc (τ := Cert.KernelMnormIdeal.τ) (Cert.KernelMnormIdeal.main (F := Ideal))) ⟨m, fun _ => 0, g⟩ (fun r => (∀ c : Dev Cert.KernelMnormIdeal.nD,
      r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
      ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ r.2.sem = fun _ => 0)

def quiescent_ReferenceMnormIdeal [hReferenceMnormIdeal : Cert.ReferenceMnormIdeal.Facts] : Prop :=
  ∀ (m : (ℓ : Loc Cert.ReferenceMnormIdeal.nD Cert.ReferenceMnormIdeal.τ Cert.ReferenceMnormIdeal.sig) → Buf (Elt Ideal) ℓ) (g : Dev Cert.ReferenceMnormIdeal.nD → PrngReg), Pre_ReferenceMnormIdeal m →
    θ_run (Cert.ReferenceMnormIdeal.defs (F := Ideal)) (onTc (τ := Cert.ReferenceMnormIdeal.τ) (Cert.ReferenceMnormIdeal.main (F := Ideal))) ⟨m, fun _ => 0, g⟩ (fun r => (∀ c : Dev Cert.ReferenceMnormIdeal.nD,
      r.2.mem ((c.tc : Thread Cert.ReferenceMnormIdeal.nD Cert.ReferenceMnormIdeal.τ).loc Cert.ReferenceMnormIdeal.main_arg0) = m ((c.tc : Thread Cert.ReferenceMnormIdeal.nD Cert.ReferenceMnormIdeal.τ).loc Cert.ReferenceMnormIdeal.main_arg0)
      ∧ r.2.mem ((c.tc : Thread Cert.ReferenceMnormIdeal.nD Cert.ReferenceMnormIdeal.τ).loc Cert.ReferenceMnormIdeal.main_arg1) = m ((c.tc : Thread Cert.ReferenceMnormIdeal.nD Cert.ReferenceMnormIdeal.τ).loc Cert.ReferenceMnormIdeal.main_arg1))
      ∧ r.2.sem = fun _ => 0)

def quiescent_KernelDmem [hKernelDmem : Cert.KernelDmem.Facts] : Prop :=
  ∀ (m : (ℓ : Loc Cert.KernelDmem.nD Cert.KernelDmem.τ Cert.KernelDmem.sig) → Buf (Elt Bits) ℓ) (g : Dev Cert.KernelDmem.nD → PrngReg), Pre_KernelDmem m →
    θ_run (Cert.KernelDmem.defs (F := Bits)) (onTc (τ := Cert.KernelDmem.τ) (Cert.KernelDmem.main (F := Bits))) ⟨m, fun _ => 0, g⟩ (fun r => (∀ c : Dev Cert.KernelDmem.nD,
      r.2.mem ((c.tc : Thread Cert.KernelDmem.nD Cert.KernelDmem.τ).loc Cert.KernelDmem.main_arg0) = m ((c.tc : Thread Cert.KernelDmem.nD Cert.KernelDmem.τ).loc Cert.KernelDmem.main_arg0)
      ∧ r.2.mem ((c.tc : Thread Cert.KernelDmem.nD Cert.KernelDmem.τ).loc Cert.KernelDmem.main_arg1) = m ((c.tc : Thread Cert.KernelDmem.nD Cert.KernelDmem.τ).loc Cert.KernelDmem.main_arg1))
      ∧ r.2.sem = fun _ => 0)

def quiescent_KernelDmemIdeal [hKernelDmemIdeal : Cert.KernelDmemIdeal.Facts] : Prop :=
  ∀ (m : (ℓ : Loc Cert.KernelDmemIdeal.nD Cert.KernelDmemIdeal.τ Cert.KernelDmemIdeal.sig) → Buf (Elt Ideal) ℓ) (g : Dev Cert.KernelDmemIdeal.nD → PrngReg), Pre_KernelDmemIdeal m →
    θ_run (Cert.KernelDmemIdeal.defs (F := Ideal)) (onTc (τ := Cert.KernelDmemIdeal.τ) (Cert.KernelDmemIdeal.main (F := Ideal))) ⟨m, fun _ => 0, g⟩ (fun r => (∀ c : Dev Cert.KernelDmemIdeal.nD,
      r.2.mem ((c.tc : Thread Cert.KernelDmemIdeal.nD Cert.KernelDmemIdeal.τ).loc Cert.KernelDmemIdeal.main_arg0) = m ((c.tc : Thread Cert.KernelDmemIdeal.nD Cert.KernelDmemIdeal.τ).loc Cert.KernelDmemIdeal.main_arg0)
      ∧ r.2.mem ((c.tc : Thread Cert.KernelDmemIdeal.nD Cert.KernelDmemIdeal.τ).loc Cert.KernelDmemIdeal.main_arg1) = m ((c.tc : Thread Cert.KernelDmemIdeal.nD Cert.KernelDmemIdeal.τ).loc Cert.KernelDmemIdeal.main_arg1))
      ∧ r.2.sem = fun _ => 0)

def quiescent_ReferenceDmemIdeal [hReferenceDmemIdeal : Cert.ReferenceDmemIdeal.Facts] : Prop :=
  ∀ (m : (ℓ : Loc Cert.ReferenceDmemIdeal.nD Cert.ReferenceDmemIdeal.τ Cert.ReferenceDmemIdeal.sig) → Buf (Elt Ideal) ℓ) (g : Dev Cert.ReferenceDmemIdeal.nD → PrngReg), Pre_ReferenceDmemIdeal m →
    θ_run (Cert.ReferenceDmemIdeal.defs (F := Ideal)) (onTc (τ := Cert.ReferenceDmemIdeal.τ) (Cert.ReferenceDmemIdeal.main (F := Ideal))) ⟨m, fun _ => 0, g⟩ (fun r => (∀ c : Dev Cert.ReferenceDmemIdeal.nD,
      r.2.mem ((c.tc : Thread Cert.ReferenceDmemIdeal.nD Cert.ReferenceDmemIdeal.τ).loc Cert.ReferenceDmemIdeal.main_arg0) = m ((c.tc : Thread Cert.ReferenceDmemIdeal.nD Cert.ReferenceDmemIdeal.τ).loc Cert.ReferenceDmemIdeal.main_arg0)
      ∧ r.2.mem ((c.tc : Thread Cert.ReferenceDmemIdeal.nD Cert.ReferenceDmemIdeal.τ).loc Cert.ReferenceDmemIdeal.main_arg1) = m ((c.tc : Thread Cert.ReferenceDmemIdeal.nD Cert.ReferenceDmemIdeal.τ).loc Cert.ReferenceDmemIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)
      ∧ m' ((c.tc : Thread Cert.ReferenceDuIdeal.nD Cert.ReferenceDuIdeal.τ).loc Cert.ReferenceDuIdeal.main_arg2) = m ((c.tc : Thread Cert.KernelDuIdeal.nD Cert.KernelDuIdeal.τ).loc Cert.KernelDuIdeal.main_arg2)
      ∧ m' ((c.tc : Thread Cert.ReferenceDuIdeal.nD Cert.ReferenceDuIdeal.τ).loc Cert.ReferenceDuIdeal.main_arg3) = m ((c.tc : Thread Cert.KernelDuIdeal.nD Cert.KernelDuIdeal.τ).loc Cert.KernelDuIdeal.main_arg3)
      ∧ m' ((c.tc : Thread Cert.ReferenceDuIdeal.nD Cert.ReferenceDuIdeal.τ).loc Cert.ReferenceDuIdeal.main_arg4) = m ((c.tc : Thread Cert.KernelDuIdeal.nD Cert.KernelDuIdeal.τ).loc Cert.KernelDuIdeal.main_arg4)) →
    ∃ (v0 : (c : Dev Cert.KernelDuIdeal.nD) → Buf (Elt Ideal) ((c.tc : Thread Cert.KernelDuIdeal.nD Cert.KernelDuIdeal.τ).loc Cert.KernelDuIdeal.main_v0_0)) (v1 : (c : Dev Cert.KernelDuIdeal.nD) → Buf (Elt Ideal) ((c.tc : Thread Cert.KernelDuIdeal.nD Cert.KernelDuIdeal.τ).loc Cert.KernelDuIdeal.main_v0_1)) (v2 : (c : Dev Cert.KernelDuIdeal.nD) → Buf (Elt Ideal) ((c.tc : Thread Cert.KernelDuIdeal.nD Cert.KernelDuIdeal.τ).loc Cert.KernelDuIdeal.main_v0_2)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v0_0) = v0 c
          ∧ r.2.mem ((c.tc : Thread Cert.KernelDuIdeal.nD Cert.KernelDuIdeal.τ).loc Cert.KernelDuIdeal.main_v0_1) = v1 c
          ∧ r.2.mem ((c.tc : Thread Cert.KernelDuIdeal.nD Cert.KernelDuIdeal.τ).loc Cert.KernelDuIdeal.main_v0_2) = v2 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
          ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
          ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
          ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v38) = v0 c
          ∧ r.2.mem ((c.tc : Thread Cert.ReferenceDuIdeal.nD Cert.ReferenceDuIdeal.τ).loc Cert.ReferenceDuIdeal.main_v41) = v1 c
          ∧ r.2.mem ((c.tc : Thread Cert.ReferenceDuIdeal.nD Cert.ReferenceDuIdeal.τ).loc Cert.ReferenceDuIdeal.main_v21) = v2 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1)
          ∧ r.2.mem ((c.tc : Thread Cert.ReferenceDuIdeal.nD Cert.ReferenceDuIdeal.τ).loc Cert.ReferenceDuIdeal.main_arg2) = m' ((c.tc : Thread Cert.ReferenceDuIdeal.nD Cert.ReferenceDuIdeal.τ).loc Cert.ReferenceDuIdeal.main_arg2)
          ∧ r.2.mem ((c.tc : Thread Cert.ReferenceDuIdeal.nD Cert.ReferenceDuIdeal.τ).loc Cert.ReferenceDuIdeal.main_arg3) = m' ((c.tc : Thread Cert.ReferenceDuIdeal.nD Cert.ReferenceDuIdeal.τ).loc Cert.ReferenceDuIdeal.main_arg3)
          ∧ r.2.mem ((c.tc : Thread Cert.ReferenceDuIdeal.nD Cert.ReferenceDuIdeal.τ).loc Cert.ReferenceDuIdeal.main_arg4) = m' ((c.tc : Thread Cert.ReferenceDuIdeal.nD Cert.ReferenceDuIdeal.τ).loc Cert.ReferenceDuIdeal.main_arg4))

def preserves_KernelDgu_KernelDguIdeal : Prop :=
  True

def algebraic_KernelDguIdeal_ReferenceDguIdeal_pre_finite_dgu [hKernelDguIdeal : Cert.KernelDguIdeal.Facts] [hReferenceDguIdeal : Cert.ReferenceDguIdeal.Facts] [hPre_finite_dgu : Cert.Pre_finite_dgu.Facts] : Prop :=
  ∀ (m : (ℓ : Loc Cert.KernelDguIdeal.nD Cert.KernelDguIdeal.τ Cert.KernelDguIdeal.sig) → Buf (Elt Ideal) ℓ) (g : Dev Cert.KernelDguIdeal.nD → PrngReg)
    (m' : (ℓ : Loc Cert.ReferenceDguIdeal.nD Cert.ReferenceDguIdeal.τ Cert.ReferenceDguIdeal.sig) → Buf (Elt Ideal) ℓ) (g' : Dev Cert.ReferenceDguIdeal.nD → PrngReg), Pre_KernelDguIdeal_finite_dgu m →
    (∀ c : Dev Cert.KernelDguIdeal.nD,
      m' ((c.tc : Thread Cert.ReferenceDguIdeal.nD Cert.ReferenceDguIdeal.τ).loc Cert.ReferenceDguIdeal.main_arg0) = m ((c.tc : Thread Cert.KernelDguIdeal.nD Cert.KernelDguIdeal.τ).loc Cert.KernelDguIdeal.main_arg0)
      ∧ m' ((c.tc : Thread Cert.ReferenceDguIdeal.nD Cert.ReferenceDguIdeal.τ).loc Cert.ReferenceDguIdeal.main_arg1) = m ((c.tc : Thread Cert.KernelDguIdeal.nD Cert.KernelDguIdeal.τ).loc Cert.KernelDguIdeal.main_arg1)
      ∧ m' ((c.tc : Thread Cert.ReferenceDguIdeal.nD Cert.ReferenceDguIdeal.τ).loc Cert.ReferenceDguIdeal.main_arg2) = m ((c.tc : Thread Cert.KernelDguIdeal.nD Cert.KernelDguIdeal.τ).loc Cert.KernelDguIdeal.main_arg2)) →
    ∃ (v0 : (c : Dev Cert.KernelDguIdeal.nD) → Buf (Elt Ideal) ((c.tc : Thread Cert.KernelDguIdeal.nD Cert.KernelDguIdeal.τ).loc Cert.KernelDguIdeal.main_v0)),
      θ_run (Cert.KernelDguIdeal.defs (F := Ideal)) (onTc (τ := Cert.KernelDguIdeal.τ) (Cert.KernelDguIdeal.main (F := Ideal))) ⟨m, fun _ => 0, g⟩ (fun r => ∀ c : Dev Cert.KernelDguIdeal.nD,
          r.2.mem ((c.tc : Thread Cert.KernelDguIdeal.nD Cert.KernelDguIdeal.τ).loc Cert.KernelDguIdeal.main_v0) = v0 c
          ∧ r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
          ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
          ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2))
      ∧ θ_run (Cert.ReferenceDguIdeal.defs (F := Ideal)) (onTc (τ := Cert.ReferenceDguIdeal.τ) (Cert.ReferenceDguIdeal.main (F := Ideal))) ⟨m', fun _ => 0, g'⟩ (fun r => ∀ c : Dev Cert.ReferenceDguIdeal.nD,
          r.2.mem ((c.tc : Thread Cert.ReferenceDguIdeal.nD Cert.ReferenceDguIdeal.τ).loc Cert.ReferenceDguIdeal.main_v17) = v0 c
          ∧ r.2.mem ((c.tc : Thread Cert.ReferenceDguIdeal.nD Cert.ReferenceDguIdeal.τ).loc Cert.ReferenceDguIdeal.main_arg0) = m' ((c.tc : Thread Cert.ReferenceDguIdeal.nD Cert.ReferenceDguIdeal.τ).loc Cert.ReferenceDguIdeal.main_arg0)
          ∧ r.2.mem ((c.tc : Thread Cert.ReferenceDguIdeal.nD Cert.ReferenceDguIdeal.τ).loc Cert.ReferenceDguIdeal.main_arg1) = m' ((c.tc : Thread Cert.ReferenceDguIdeal.nD Cert.ReferenceDguIdeal.τ).loc Cert.ReferenceDguIdeal.main_arg1)
          ∧ r.2.mem ((c.tc : Thread Cert.ReferenceDguIdeal.nD Cert.ReferenceDguIdeal.τ).loc Cert.ReferenceDguIdeal.main_arg2) = m' ((c.tc : Thread Cert.ReferenceDguIdeal.nD Cert.ReferenceDguIdeal.τ).loc Cert.ReferenceDguIdeal.main_arg2))

def preserves_KernelDn_KernelDnIdeal : Prop :=
  True

def algebraic_KernelDnIdeal_ReferenceDnIdeal [hKernelDnIdeal : Cert.KernelDnIdeal.Facts] [hReferenceDnIdeal : Cert.ReferenceDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)
      ∧ m' ((c.tc : Thread Cert.ReferenceDnIdeal.nD Cert.ReferenceDnIdeal.τ).loc Cert.ReferenceDnIdeal.main_arg3) = m ((c.tc : Thread Cert.KernelDnIdeal.nD Cert.KernelDnIdeal.τ).loc Cert.KernelDnIdeal.main_arg3)
      ∧ m' ((c.tc : Thread Cert.ReferenceDnIdeal.nD Cert.ReferenceDnIdeal.τ).loc Cert.ReferenceDnIdeal.main_arg4) = m ((c.tc : Thread Cert.KernelDnIdeal.nD Cert.KernelDnIdeal.τ).loc Cert.KernelDnIdeal.main_arg4)) →
    ∃ (v0 : (c : Dev Cert.KernelDnIdeal.nD) → Buf (Elt Ideal) ((c.tc : Thread Cert.KernelDnIdeal.nD Cert.KernelDnIdeal.τ).loc Cert.KernelDnIdeal.main_v0_0)) (v1 : (c : Dev Cert.KernelDnIdeal.nD) → Buf (Elt Ideal) ((c.tc : Thread Cert.KernelDnIdeal.nD Cert.KernelDnIdeal.τ).loc Cert.KernelDnIdeal.main_v0_1)) (v2 : (c : Dev Cert.KernelDnIdeal.nD) → Buf (Elt Ideal) ((c.tc : Thread Cert.KernelDnIdeal.nD Cert.KernelDnIdeal.τ).loc Cert.KernelDnIdeal.main_v0_2)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v0_0) = v0 c
          ∧ r.2.mem ((c.tc : Thread Cert.KernelDnIdeal.nD Cert.KernelDnIdeal.τ).loc Cert.KernelDnIdeal.main_v0_1) = v1 c
          ∧ r.2.mem ((c.tc : Thread Cert.KernelDnIdeal.nD Cert.KernelDnIdeal.τ).loc Cert.KernelDnIdeal.main_v0_2) = v2 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
          ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
          ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v45) = v0 c
          ∧ r.2.mem ((c.tc : Thread Cert.ReferenceDnIdeal.nD Cert.ReferenceDnIdeal.τ).loc Cert.ReferenceDnIdeal.main_v46) = v1 c
          ∧ r.2.mem ((c.tc : Thread Cert.ReferenceDnIdeal.nD Cert.ReferenceDnIdeal.τ).loc Cert.ReferenceDnIdeal.main_v28) = v2 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2)
          ∧ r.2.mem ((c.tc : Thread Cert.ReferenceDnIdeal.nD Cert.ReferenceDnIdeal.τ).loc Cert.ReferenceDnIdeal.main_arg3) = m' ((c.tc : Thread Cert.ReferenceDnIdeal.nD Cert.ReferenceDnIdeal.τ).loc Cert.ReferenceDnIdeal.main_arg3)
          ∧ r.2.mem ((c.tc : Thread Cert.ReferenceDnIdeal.nD Cert.ReferenceDnIdeal.τ).loc Cert.ReferenceDnIdeal.main_arg4) = m' ((c.tc : Thread Cert.ReferenceDnIdeal.nD Cert.ReferenceDnIdeal.τ).loc Cert.ReferenceDnIdeal.main_arg4))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v0)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v6) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDwgu_KernelDwguIdeal : Prop :=
  True

def algebraic_KernelDwguIdeal_ReferenceDwguIdeal [hKernelDwguIdeal : Cert.KernelDwguIdeal.Facts] [hReferenceDwguIdeal : Cert.ReferenceDwguIdeal.Facts] : Prop :=
  ∀ (m : (ℓ : Loc Cert.KernelDwguIdeal.nD Cert.KernelDwguIdeal.τ Cert.KernelDwguIdeal.sig) → Buf (Elt Ideal) ℓ) (g : Dev Cert.KernelDwguIdeal.nD → PrngReg)
    (m' : (ℓ : Loc Cert.ReferenceDwguIdeal.nD Cert.ReferenceDwguIdeal.τ Cert.ReferenceDwguIdeal.sig) → Buf (Elt Ideal) ℓ) (g' : Dev Cert.ReferenceDwguIdeal.nD → PrngReg), Pre_KernelDwguIdeal m →
    (∀ c : Dev Cert.KernelDwguIdeal.nD,
      m' ((c.tc : Thread Cert.ReferenceDwguIdeal.nD Cert.ReferenceDwguIdeal.τ).loc Cert.ReferenceDwguIdeal.main_arg0) = m ((c.tc : Thread Cert.KernelDwguIdeal.nD Cert.KernelDwguIdeal.τ).loc Cert.KernelDwguIdeal.main_arg0)
      ∧ m' ((c.tc : Thread Cert.ReferenceDwguIdeal.nD Cert.ReferenceDwguIdeal.τ).loc Cert.ReferenceDwguIdeal.main_arg1) = m ((c.tc : Thread Cert.KernelDwguIdeal.nD Cert.KernelDwguIdeal.τ).loc Cert.KernelDwguIdeal.main_arg1)) →
    ∃ (v0 : (c : Dev Cert.KernelDwguIdeal.nD) → Buf (Elt Ideal) ((c.tc : Thread Cert.KernelDwguIdeal.nD Cert.KernelDwguIdeal.τ).loc Cert.KernelDwguIdeal.main_v0)),
      θ_run (Cert.KernelDwguIdeal.defs (F := Ideal)) (onTc (τ := Cert.KernelDwguIdeal.τ) (Cert.KernelDwguIdeal.main (F := Ideal))) ⟨m, fun _ => 0, g⟩ (fun r => ∀ c : Dev Cert.KernelDwguIdeal.nD,
          r.2.mem ((c.tc : Thread Cert.KernelDwguIdeal.nD Cert.KernelDwguIdeal.τ).loc Cert.KernelDwguIdeal.main_v0) = v0 c
          ∧ r.2.mem ((c.tc : Thread Cert.KernelDwguIdeal.nD Cert.KernelDwguIdeal.τ).loc Cert.KernelDwguIdeal.main_arg0) = m ((c.tc : Thread Cert.KernelDwguIdeal.nD Cert.KernelDwguIdeal.τ).loc Cert.KernelDwguIdeal.main_arg0)
          ∧ r.2.mem ((c.tc : Thread Cert.KernelDwguIdeal.nD Cert.KernelDwguIdeal.τ).loc Cert.KernelDwguIdeal.main_arg1) = m ((c.tc : Thread Cert.KernelDwguIdeal.nD Cert.KernelDwguIdeal.τ).loc Cert.KernelDwguIdeal.main_arg1))
      ∧ θ_run (Cert.ReferenceDwguIdeal.defs (F := Ideal)) (onTc (τ := Cert.ReferenceDwguIdeal.τ) (Cert.ReferenceDwguIdeal.main (F := Ideal))) ⟨m', fun _ => 0, g'⟩ (fun r => ∀ c : Dev Cert.ReferenceDwguIdeal.nD,
          r.2.mem ((c.tc : Thread Cert.ReferenceDwguIdeal.nD Cert.ReferenceDwguIdeal.τ).loc Cert.ReferenceDwguIdeal.main_v13) = v0 c
          ∧ r.2.mem ((c.tc : Thread Cert.ReferenceDwguIdeal.nD Cert.ReferenceDwguIdeal.τ).loc Cert.ReferenceDwguIdeal.main_arg0) = m' ((c.tc : Thread Cert.ReferenceDwguIdeal.nD Cert.ReferenceDwguIdeal.τ).loc Cert.ReferenceDwguIdeal.main_arg0)
          ∧ r.2.mem ((c.tc : Thread Cert.ReferenceDwguIdeal.nD Cert.ReferenceDwguIdeal.τ).loc Cert.ReferenceDwguIdeal.main_arg1) = m' ((c.tc : Thread Cert.ReferenceDwguIdeal.nD Cert.ReferenceDwguIdeal.τ).loc Cert.ReferenceDwguIdeal.main_arg1))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)) →
    ∃ (v0 : (c : Dev Cert.KernelDwdownIdeal.nD) → Buf (Elt Ideal) ((c.tc : Thread Cert.KernelDwdownIdeal.nD Cert.KernelDwdownIdeal.τ).loc Cert.KernelDwdownIdeal.main_v0)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v0) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v6) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)) (v3 : (c : Dev Cert.KernelConvIdeal.nD) → Buf (Elt Ideal) ((c.tc : Thread Cert.KernelConvIdeal.nD Cert.KernelConvIdeal.τ).loc Cert.KernelConvIdeal.main_v0_3)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_v0_3) = v3 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v71) = v0 c
          ∧ r.2.mem ((c.tc : Thread Cert.ReferenceConvIdeal.nD Cert.ReferenceConvIdeal.τ).loc Cert.ReferenceConvIdeal.main_v72) = v1 c
          ∧ r.2.mem ((c.tc : Thread Cert.ReferenceConvIdeal.nD Cert.ReferenceConvIdeal.τ).loc Cert.ReferenceConvIdeal.main_v73) = v2 c
          ∧ r.2.mem ((c.tc : Thread Cert.ReferenceConvIdeal.nD Cert.ReferenceConvIdeal.τ).loc Cert.ReferenceConvIdeal.main_v64) = v3 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelDmerge_KernelDmergeIdeal : Prop :=
  True

def algebraic_KernelDmergeIdeal_ReferenceDmergeIdeal [hKernelDmergeIdeal : Cert.KernelDmergeIdeal.Facts] [hReferenceDmergeIdeal : Cert.ReferenceDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg)
    (m' : (ℓ : Loc Cert.ReferenceDmergeIdeal.nD Cert.ReferenceDmergeIdeal.τ Cert.ReferenceDmergeIdeal.sig) → Buf (Elt Ideal) ℓ) (g' : Dev Cert.ReferenceDmergeIdeal.nD → PrngReg), Pre_KernelDmergeIdeal m →
    (∀ c : Dev Cert.KernelDmergeIdeal.nD,
      m' ((c.tc : Thread Cert.ReferenceDmergeIdeal.nD Cert.ReferenceDmergeIdeal.τ).loc Cert.ReferenceDmergeIdeal.main_arg0) = m ((c.tc : Thread Cert.KernelDmergeIdeal.nD Cert.KernelDmergeIdeal.τ).loc Cert.KernelDmergeIdeal.main_arg0)
      ∧ m' ((c.tc : Thread Cert.ReferenceDmergeIdeal.nD Cert.ReferenceDmergeIdeal.τ).loc Cert.ReferenceDmergeIdeal.main_arg1) = m ((c.tc : Thread Cert.KernelDmergeIdeal.nD Cert.KernelDmergeIdeal.τ).loc Cert.KernelDmergeIdeal.main_arg1)
      ∧ m' ((c.tc : Thread Cert.ReferenceDmergeIdeal.nD Cert.ReferenceDmergeIdeal.τ).loc Cert.ReferenceDmergeIdeal.main_arg2) = m ((c.tc : Thread Cert.KernelDmergeIdeal.nD Cert.KernelDmergeIdeal.τ).loc Cert.KernelDmergeIdeal.main_arg2)
      ∧ m' ((c.tc : Thread Cert.ReferenceDmergeIdeal.nD Cert.ReferenceDmergeIdeal.τ).loc Cert.ReferenceDmergeIdeal.main_arg3) = m ((c.tc : Thread Cert.KernelDmergeIdeal.nD Cert.KernelDmergeIdeal.τ).loc Cert.KernelDmergeIdeal.main_arg3)
      ∧ m' ((c.tc : Thread Cert.ReferenceDmergeIdeal.nD Cert.ReferenceDmergeIdeal.τ).loc Cert.ReferenceDmergeIdeal.main_arg4) = m ((c.tc : Thread Cert.KernelDmergeIdeal.nD Cert.KernelDmergeIdeal.τ).loc Cert.KernelDmergeIdeal.main_arg4)
      ∧ m' ((c.tc : Thread Cert.ReferenceDmergeIdeal.nD Cert.ReferenceDmergeIdeal.τ).loc Cert.ReferenceDmergeIdeal.main_arg5) = m ((c.tc : Thread Cert.KernelDmergeIdeal.nD Cert.KernelDmergeIdeal.τ).loc Cert.KernelDmergeIdeal.main_arg5)) →
    ∃ (v0 : (c : Dev Cert.KernelDmergeIdeal.nD) → Buf (Elt Ideal) ((c.tc : Thread Cert.KernelDmergeIdeal.nD Cert.KernelDmergeIdeal.τ).loc Cert.KernelDmergeIdeal.main_v2_0)) (v1 : (c : Dev Cert.KernelDmergeIdeal.nD) → Buf (Elt Ideal) ((c.tc : Thread Cert.KernelDmergeIdeal.nD Cert.KernelDmergeIdeal.τ).loc Cert.KernelDmergeIdeal.main_v2_1)) (v2 : (c : Dev Cert.KernelDmergeIdeal.nD) → Buf (Elt Ideal) ((c.tc : Thread Cert.KernelDmergeIdeal.nD Cert.KernelDmergeIdeal.τ).loc Cert.KernelDmergeIdeal.main_v2_2)) (v3 : (c : Dev Cert.KernelDmergeIdeal.nD) → Buf (Elt Ideal) ((c.tc : Thread Cert.KernelDmergeIdeal.nD Cert.KernelDmergeIdeal.τ).loc Cert.KernelDmergeIdeal.main_v2_3)) (v4 : (c : Dev Cert.KernelDmergeIdeal.nD) → Buf (Elt Ideal) ((c.tc : Thread Cert.KernelDmergeIdeal.nD Cert.KernelDmergeIdeal.τ).loc Cert.KernelDmergeIdeal.main_v2_4)) (v5 : (c : Dev Cert.KernelDmergeIdeal.nD) → Buf (Elt Ideal) ((c.tc : Thread Cert.KernelDmergeIdeal.nD Cert.KernelDmergeIdeal.τ).loc Cert.KernelDmergeIdeal.main_v2_5)),
      θ_run (Cert.KernelDmergeIdeal.defs (F := Ideal)) (onTc (τ := Cert.KernelDmergeIdeal.τ) (Cert.KernelDmergeIdeal.main (F := Ideal))) ⟨m, fun _ => 0, g⟩ (fun r => ∀ c : Dev Cert.KernelDmergeIdeal.nD,
          r.2.mem ((c.tc : Thread Cert.KernelDmergeIdeal.nD Cert.KernelDmergeIdeal.τ).loc Cert.KernelDmergeIdeal.main_v2_0) = v0 c
          ∧ r.2.mem ((c.tc : Thread Cert.KernelDmergeIdeal.nD Cert.KernelDmergeIdeal.τ).loc Cert.KernelDmergeIdeal.main_v2_1) = v1 c
          ∧ r.2.mem ((c.tc : Thread Cert.KernelDmergeIdeal.nD Cert.KernelDmergeIdeal.τ).loc Cert.KernelDmergeIdeal.main_v2_2) = v2 c
          ∧ r.2.mem ((c.tc : Thread Cert.KernelDmergeIdeal.nD Cert.KernelDmergeIdeal.τ).loc Cert.KernelDmergeIdeal.main_v2_3) = v3 c
          ∧ r.2.mem ((c.tc : Thread Cert.KernelDmergeIdeal.nD Cert.KernelDmergeIdeal.τ).loc Cert.KernelDmergeIdeal.main_v2_4) = v4 c
          ∧ r.2.mem ((c.tc : Thread Cert.KernelDmergeIdeal.nD Cert.KernelDmergeIdeal.τ).loc Cert.KernelDmergeIdeal.main_v2_5) = v5 c
          ∧ r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
          ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
          ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
          ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3)
          ∧ r.2.mem ((c.tc : Thread Cert.KernelDmergeIdeal.nD Cert.KernelDmergeIdeal.τ).loc Cert.KernelDmergeIdeal.main_arg4) = m ((c.tc : Thread Cert.KernelDmergeIdeal.nD Cert.KernelDmergeIdeal.τ).loc Cert.KernelDmergeIdeal.main_arg4)
          ∧ r.2.mem ((c.tc : Thread Cert.KernelDmergeIdeal.nD Cert.KernelDmergeIdeal.τ).loc Cert.KernelDmergeIdeal.main_arg5) = m ((c.tc : Thread Cert.KernelDmergeIdeal.nD Cert.KernelDmergeIdeal.τ).loc Cert.KernelDmergeIdeal.main_arg5))
      ∧ θ_run (Cert.ReferenceDmergeIdeal.defs (F := Ideal)) (onTc (τ := Cert.ReferenceDmergeIdeal.τ) (Cert.ReferenceDmergeIdeal.main (F := Ideal))) ⟨m', fun _ => 0, g'⟩ (fun r => ∀ c : Dev Cert.ReferenceDmergeIdeal.nD,
          r.2.mem ((c.tc : Thread Cert.ReferenceDmergeIdeal.nD Cert.ReferenceDmergeIdeal.τ).loc Cert.ReferenceDmergeIdeal.main_v34) = v0 c
          ∧ r.2.mem ((c.tc : Thread Cert.ReferenceDmergeIdeal.nD Cert.ReferenceDmergeIdeal.τ).loc Cert.ReferenceDmergeIdeal.main_v35) = v1 c
          ∧ r.2.mem ((c.tc : Thread Cert.ReferenceDmergeIdeal.nD Cert.ReferenceDmergeIdeal.τ).loc Cert.ReferenceDmergeIdeal.main_v36) = v2 c
          ∧ r.2.mem ((c.tc : Thread Cert.ReferenceDmergeIdeal.nD Cert.ReferenceDmergeIdeal.τ).loc Cert.ReferenceDmergeIdeal.main_v37) = v3 c
          ∧ r.2.mem ((c.tc : Thread Cert.ReferenceDmergeIdeal.nD Cert.ReferenceDmergeIdeal.τ).loc Cert.ReferenceDmergeIdeal.main_v38) = v4 c
          ∧ r.2.mem ((c.tc : Thread Cert.ReferenceDmergeIdeal.nD Cert.ReferenceDmergeIdeal.τ).loc Cert.ReferenceDmergeIdeal.main_v39) = v5 c
          ∧ r.2.mem ((c.tc : Thread Cert.ReferenceDmergeIdeal.nD Cert.ReferenceDmergeIdeal.τ).loc Cert.ReferenceDmergeIdeal.main_arg0) = m' ((c.tc : Thread Cert.ReferenceDmergeIdeal.nD Cert.ReferenceDmergeIdeal.τ).loc Cert.ReferenceDmergeIdeal.main_arg0)
          ∧ r.2.mem ((c.tc : Thread Cert.ReferenceDmergeIdeal.nD Cert.ReferenceDmergeIdeal.τ).loc Cert.ReferenceDmergeIdeal.main_arg1) = m' ((c.tc : Thread Cert.ReferenceDmergeIdeal.nD Cert.ReferenceDmergeIdeal.τ).loc Cert.ReferenceDmergeIdeal.main_arg1)
          ∧ r.2.mem ((c.tc : Thread Cert.ReferenceDmergeIdeal.nD Cert.ReferenceDmergeIdeal.τ).loc Cert.ReferenceDmergeIdeal.main_arg2) = m' ((c.tc : Thread Cert.ReferenceDmergeIdeal.nD Cert.ReferenceDmergeIdeal.τ).loc Cert.ReferenceDmergeIdeal.main_arg2)
          ∧ r.2.mem ((c.tc : Thread Cert.ReferenceDmergeIdeal.nD Cert.ReferenceDmergeIdeal.τ).loc Cert.ReferenceDmergeIdeal.main_arg3) = m' ((c.tc : Thread Cert.ReferenceDmergeIdeal.nD Cert.ReferenceDmergeIdeal.τ).loc Cert.ReferenceDmergeIdeal.main_arg3)
          ∧ r.2.mem ((c.tc : Thread Cert.ReferenceDmergeIdeal.nD Cert.ReferenceDmergeIdeal.τ).loc Cert.ReferenceDmergeIdeal.main_arg4) = m' ((c.tc : Thread Cert.ReferenceDmergeIdeal.nD Cert.ReferenceDmergeIdeal.τ).loc Cert.ReferenceDmergeIdeal.main_arg4)
          ∧ r.2.mem ((c.tc : Thread Cert.ReferenceDmergeIdeal.nD Cert.ReferenceDmergeIdeal.τ).loc Cert.ReferenceDmergeIdeal.main_arg5) = m' ((c.tc : Thread Cert.ReferenceDmergeIdeal.nD Cert.ReferenceDmergeIdeal.τ).loc Cert.ReferenceDmergeIdeal.main_arg5))

def preserves_KernelXattn_KernelXattnIdeal : Prop :=
  True

def algebraic_KernelXattnIdeal_ReferenceXattnIdeal_pre_finite_xattn [hKernelXattnIdeal : Cert.KernelXattnIdeal.Facts] [hReferenceXattnIdeal : Cert.ReferenceXattnIdeal.Facts] [hPre_finite_xattn : Cert.Pre_finite_xattn.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal_finite_xattn m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)
      ∧ m' ((c.tc : Thread Cert.ReferenceXattnIdeal.nD Cert.ReferenceXattnIdeal.τ).loc Cert.ReferenceXattnIdeal.main_arg2) = m ((c.tc : Thread Cert.KernelXattnIdeal.nD Cert.KernelXattnIdeal.τ).loc Cert.KernelXattnIdeal.main_arg2)) →
    ∃ (v0 : (c : Dev Cert.KernelXattnIdeal.nD) → Buf (Elt Ideal) ((c.tc : Thread Cert.KernelXattnIdeal.nD Cert.KernelXattnIdeal.τ).loc Cert.KernelXattnIdeal.main_v0_0)) (v1 : (c : Dev Cert.KernelXattnIdeal.nD) → Buf (Elt Ideal) ((c.tc : Thread Cert.KernelXattnIdeal.nD Cert.KernelXattnIdeal.τ).loc Cert.KernelXattnIdeal.main_v0_1)) (v2 : (c : Dev Cert.KernelXattnIdeal.nD) → Buf (Elt Ideal) ((c.tc : Thread Cert.KernelXattnIdeal.nD Cert.KernelXattnIdeal.τ).loc Cert.KernelXattnIdeal.main_v0_2)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v0_0) = v0 c
          ∧ r.2.mem ((c.tc : Thread Cert.KernelXattnIdeal.nD Cert.KernelXattnIdeal.τ).loc Cert.KernelXattnIdeal.main_v0_1) = v1 c
          ∧ r.2.mem ((c.tc : Thread Cert.KernelXattnIdeal.nD Cert.KernelXattnIdeal.τ).loc Cert.KernelXattnIdeal.main_v0_2) = v2 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1)
          ∧ r.2.mem ((c.tc : Thread Cert.KernelXattnIdeal.nD Cert.KernelXattnIdeal.τ).loc Cert.KernelXattnIdeal.main_arg2) = m ((c.tc : Thread Cert.KernelXattnIdeal.nD Cert.KernelXattnIdeal.τ).loc Cert.KernelXattnIdeal.main_arg2))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v68) = v0 c
          ∧ r.2.mem ((c.tc : Thread Cert.ReferenceXattnIdeal.nD Cert.ReferenceXattnIdeal.τ).loc Cert.ReferenceXattnIdeal.main_v69) = v1 c
          ∧ r.2.mem ((c.tc : Thread Cert.ReferenceXattnIdeal.nD Cert.ReferenceXattnIdeal.τ).loc Cert.ReferenceXattnIdeal.main_v70) = v2 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1)
          ∧ r.2.mem ((c.tc : Thread Cert.ReferenceXattnIdeal.nD Cert.ReferenceXattnIdeal.τ).loc Cert.ReferenceXattnIdeal.main_arg2) = m' ((c.tc : Thread Cert.ReferenceXattnIdeal.nD Cert.ReferenceXattnIdeal.τ).loc Cert.ReferenceXattnIdeal.main_arg2))

def preserves_KernelDhn_KernelDhnIdeal : Prop :=
  True

def algebraic_KernelDhnIdeal_ReferenceDhnIdeal [hKernelDhnIdeal : Cert.KernelDhnIdeal.Facts] [hReferenceDhnIdeal : Cert.ReferenceDhnIdeal.Facts] : Prop :=
  ∀ (m : (ℓ : Loc Cert.KernelDhnIdeal.nD Cert.KernelDhnIdeal.τ Cert.KernelDhnIdeal.sig) → Buf (Elt Ideal) ℓ) (g : Dev Cert.KernelDhnIdeal.nD → PrngReg)
    (m' : (ℓ : Loc Cert.ReferenceDhnIdeal.nD Cert.ReferenceDhnIdeal.τ Cert.ReferenceDhnIdeal.sig) → Buf (Elt Ideal) ℓ) (g' : Dev Cert.ReferenceDhnIdeal.nD → PrngReg), Pre_KernelDhnIdeal m →
    (∀ c : Dev Cert.KernelDhnIdeal.nD,
      m' ((c.tc : Thread Cert.ReferenceDhnIdeal.nD Cert.ReferenceDhnIdeal.τ).loc Cert.ReferenceDhnIdeal.main_arg0) = m ((c.tc : Thread Cert.KernelDhnIdeal.nD Cert.KernelDhnIdeal.τ).loc Cert.KernelDhnIdeal.main_arg0)
      ∧ m' ((c.tc : Thread Cert.ReferenceDhnIdeal.nD Cert.ReferenceDhnIdeal.τ).loc Cert.ReferenceDhnIdeal.main_arg1) = m ((c.tc : Thread Cert.KernelDhnIdeal.nD Cert.KernelDhnIdeal.τ).loc Cert.KernelDhnIdeal.main_arg1)
      ∧ m' ((c.tc : Thread Cert.ReferenceDhnIdeal.nD Cert.ReferenceDhnIdeal.τ).loc Cert.ReferenceDhnIdeal.main_arg2) = m ((c.tc : Thread Cert.KernelDhnIdeal.nD Cert.KernelDhnIdeal.τ).loc Cert.KernelDhnIdeal.main_arg2)
      ∧ m' ((c.tc : Thread Cert.ReferenceDhnIdeal.nD Cert.ReferenceDhnIdeal.τ).loc Cert.ReferenceDhnIdeal.main_arg3) = m ((c.tc : Thread Cert.KernelDhnIdeal.nD Cert.KernelDhnIdeal.τ).loc Cert.KernelDhnIdeal.main_arg3)
      ∧ m' ((c.tc : Thread Cert.ReferenceDhnIdeal.nD Cert.ReferenceDhnIdeal.τ).loc Cert.ReferenceDhnIdeal.main_arg4) = m ((c.tc : Thread Cert.KernelDhnIdeal.nD Cert.KernelDhnIdeal.τ).loc Cert.KernelDhnIdeal.main_arg4)) →
    ∃ (v0 : (c : Dev Cert.KernelDhnIdeal.nD) → Buf (Elt Ideal) ((c.tc : Thread Cert.KernelDhnIdeal.nD Cert.KernelDhnIdeal.τ).loc Cert.KernelDhnIdeal.main_v0_0)) (v1 : (c : Dev Cert.KernelDhnIdeal.nD) → Buf (Elt Ideal) ((c.tc : Thread Cert.KernelDhnIdeal.nD Cert.KernelDhnIdeal.τ).loc Cert.KernelDhnIdeal.main_v0_1)) (v2 : (c : Dev Cert.KernelDhnIdeal.nD) → Buf (Elt Ideal) ((c.tc : Thread Cert.KernelDhnIdeal.nD Cert.KernelDhnIdeal.τ).loc Cert.KernelDhnIdeal.main_v0_2)),
      θ_run (Cert.KernelDhnIdeal.defs (F := Ideal)) (onTc (τ := Cert.KernelDhnIdeal.τ) (Cert.KernelDhnIdeal.main (F := Ideal))) ⟨m, fun _ => 0, g⟩ (fun r => ∀ c : Dev Cert.KernelDhnIdeal.nD,
          r.2.mem ((c.tc : Thread Cert.KernelDhnIdeal.nD Cert.KernelDhnIdeal.τ).loc Cert.KernelDhnIdeal.main_v0_0) = v0 c
          ∧ r.2.mem ((c.tc : Thread Cert.KernelDhnIdeal.nD Cert.KernelDhnIdeal.τ).loc Cert.KernelDhnIdeal.main_v0_1) = v1 c
          ∧ r.2.mem ((c.tc : Thread Cert.KernelDhnIdeal.nD Cert.KernelDhnIdeal.τ).loc Cert.KernelDhnIdeal.main_v0_2) = v2 c
          ∧ r.2.mem ((c.tc : Thread Cert.KernelDhnIdeal.nD Cert.KernelDhnIdeal.τ).loc Cert.KernelDhnIdeal.main_arg0) = m ((c.tc : Thread Cert.KernelDhnIdeal.nD Cert.KernelDhnIdeal.τ).loc Cert.KernelDhnIdeal.main_arg0)
          ∧ r.2.mem ((c.tc : Thread Cert.KernelDhnIdeal.nD Cert.KernelDhnIdeal.τ).loc Cert.KernelDhnIdeal.main_arg1) = m ((c.tc : Thread Cert.KernelDhnIdeal.nD Cert.KernelDhnIdeal.τ).loc Cert.KernelDhnIdeal.main_arg1)
          ∧ r.2.mem ((c.tc : Thread Cert.KernelDhnIdeal.nD Cert.KernelDhnIdeal.τ).loc Cert.KernelDhnIdeal.main_arg2) = m ((c.tc : Thread Cert.KernelDhnIdeal.nD Cert.KernelDhnIdeal.τ).loc Cert.KernelDhnIdeal.main_arg2)
          ∧ r.2.mem ((c.tc : Thread Cert.KernelDhnIdeal.nD Cert.KernelDhnIdeal.τ).loc Cert.KernelDhnIdeal.main_arg3) = m ((c.tc : Thread Cert.KernelDhnIdeal.nD Cert.KernelDhnIdeal.τ).loc Cert.KernelDhnIdeal.main_arg3)
          ∧ r.2.mem ((c.tc : Thread Cert.KernelDhnIdeal.nD Cert.KernelDhnIdeal.τ).loc Cert.KernelDhnIdeal.main_arg4) = m ((c.tc : Thread Cert.KernelDhnIdeal.nD Cert.KernelDhnIdeal.τ).loc Cert.KernelDhnIdeal.main_arg4))
      ∧ θ_run (Cert.ReferenceDhnIdeal.defs (F := Ideal)) (onTc (τ := Cert.ReferenceDhnIdeal.τ) (Cert.ReferenceDhnIdeal.main (F := Ideal))) ⟨m', fun _ => 0, g'⟩ (fun r => ∀ c : Dev Cert.ReferenceDhnIdeal.nD,
          r.2.mem ((c.tc : Thread Cert.ReferenceDhnIdeal.nD Cert.ReferenceDhnIdeal.τ).loc Cert.ReferenceDhnIdeal.main_v38) = v0 c
          ∧ r.2.mem ((c.tc : Thread Cert.ReferenceDhnIdeal.nD Cert.ReferenceDhnIdeal.τ).loc Cert.ReferenceDhnIdeal.main_v39) = v1 c
          ∧ r.2.mem ((c.tc : Thread Cert.ReferenceDhnIdeal.nD Cert.ReferenceDhnIdeal.τ).loc Cert.ReferenceDhnIdeal.main_v21) = v2 c
          ∧ r.2.mem ((c.tc : Thread Cert.ReferenceDhnIdeal.nD Cert.ReferenceDhnIdeal.τ).loc Cert.ReferenceDhnIdeal.main_arg0) = m' ((c.tc : Thread Cert.ReferenceDhnIdeal.nD Cert.ReferenceDhnIdeal.τ).loc Cert.ReferenceDhnIdeal.main_arg0)
          ∧ r.2.mem ((c.tc : Thread Cert.ReferenceDhnIdeal.nD Cert.ReferenceDhnIdeal.τ).loc Cert.ReferenceDhnIdeal.main_arg1) = m' ((c.tc : Thread Cert.ReferenceDhnIdeal.nD Cert.ReferenceDhnIdeal.τ).loc Cert.ReferenceDhnIdeal.main_arg1)
          ∧ r.2.mem ((c.tc : Thread Cert.ReferenceDhnIdeal.nD Cert.ReferenceDhnIdeal.τ).loc Cert.ReferenceDhnIdeal.main_arg2) = m' ((c.tc : Thread Cert.ReferenceDhnIdeal.nD Cert.ReferenceDhnIdeal.τ).loc Cert.ReferenceDhnIdeal.main_arg2)
          ∧ r.2.mem ((c.tc : Thread Cert.ReferenceDhnIdeal.nD Cert.ReferenceDhnIdeal.τ).loc Cert.ReferenceDhnIdeal.main_arg3) = m' ((c.tc : Thread Cert.ReferenceDhnIdeal.nD Cert.ReferenceDhnIdeal.τ).loc Cert.ReferenceDhnIdeal.main_arg3)
          ∧ r.2.mem ((c.tc : Thread Cert.ReferenceDhnIdeal.nD Cert.ReferenceDhnIdeal.τ).loc Cert.ReferenceDhnIdeal.main_arg4) = m' ((c.tc : Thread Cert.ReferenceDhnIdeal.nD Cert.ReferenceDhnIdeal.τ).loc Cert.ReferenceDhnIdeal.main_arg4))

def preserves_KernelDwsq_KernelDwsqIdeal : Prop :=
  True

def algebraic_KernelDwsqIdeal_ReferenceDwsqIdeal [hKernelDwsqIdeal : Cert.KernelDwsqIdeal.Facts] [hReferenceDwsqIdeal : Cert.ReferenceDwsqIdeal.Facts] : Prop :=
  ∀ (m : (ℓ : Loc Cert.KernelDwsqIdeal.nD Cert.KernelDwsqIdeal.τ Cert.KernelDwsqIdeal.sig) → Buf (Elt Ideal) ℓ) (g : Dev Cert.KernelDwsqIdeal.nD → PrngReg)
    (m' : (ℓ : Loc Cert.ReferenceDwsqIdeal.nD Cert.ReferenceDwsqIdeal.τ Cert.ReferenceDwsqIdeal.sig) → Buf (Elt Ideal) ℓ) (g' : Dev Cert.ReferenceDwsqIdeal.nD → PrngReg), Pre_KernelDwsqIdeal m →
    (∀ c : Dev Cert.KernelDwsqIdeal.nD,
      m' ((c.tc : Thread Cert.ReferenceDwsqIdeal.nD Cert.ReferenceDwsqIdeal.τ).loc Cert.ReferenceDwsqIdeal.main_arg0) = m ((c.tc : Thread Cert.KernelDwsqIdeal.nD Cert.KernelDwsqIdeal.τ).loc Cert.KernelDwsqIdeal.main_arg0)
      ∧ m' ((c.tc : Thread Cert.ReferenceDwsqIdeal.nD Cert.ReferenceDwsqIdeal.τ).loc Cert.ReferenceDwsqIdeal.main_arg1) = m ((c.tc : Thread Cert.KernelDwsqIdeal.nD Cert.KernelDwsqIdeal.τ).loc Cert.KernelDwsqIdeal.main_arg1)) →
    ∃ (v0 : (c : Dev Cert.KernelDwsqIdeal.nD) → Buf (Elt Ideal) ((c.tc : Thread Cert.KernelDwsqIdeal.nD Cert.KernelDwsqIdeal.τ).loc Cert.KernelDwsqIdeal.main_v0)),
      θ_run (Cert.KernelDwsqIdeal.defs (F := Ideal)) (onTc (τ := Cert.KernelDwsqIdeal.τ) (Cert.KernelDwsqIdeal.main (F := Ideal))) ⟨m, fun _ => 0, g⟩ (fun r => ∀ c : Dev Cert.KernelDwsqIdeal.nD,
          r.2.mem ((c.tc : Thread Cert.KernelDwsqIdeal.nD Cert.KernelDwsqIdeal.τ).loc Cert.KernelDwsqIdeal.main_v0) = v0 c
          ∧ r.2.mem ((c.tc : Thread Cert.KernelDwsqIdeal.nD Cert.KernelDwsqIdeal.τ).loc Cert.KernelDwsqIdeal.main_arg0) = m ((c.tc : Thread Cert.KernelDwsqIdeal.nD Cert.KernelDwsqIdeal.τ).loc Cert.KernelDwsqIdeal.main_arg0)
          ∧ r.2.mem ((c.tc : Thread Cert.KernelDwsqIdeal.nD Cert.KernelDwsqIdeal.τ).loc Cert.KernelDwsqIdeal.main_arg1) = m ((c.tc : Thread Cert.KernelDwsqIdeal.nD Cert.KernelDwsqIdeal.τ).loc Cert.KernelDwsqIdeal.main_arg1))
      ∧ θ_run (Cert.ReferenceDwsqIdeal.defs (F := Ideal)) (onTc (τ := Cert.ReferenceDwsqIdeal.τ) (Cert.ReferenceDwsqIdeal.main (F := Ideal))) ⟨m', fun _ => 0, g'⟩ (fun r => ∀ c : Dev Cert.ReferenceDwsqIdeal.nD,
          r.2.mem ((c.tc : Thread Cert.ReferenceDwsqIdeal.nD Cert.ReferenceDwsqIdeal.τ).loc Cert.ReferenceDwsqIdeal.main_v6) = v0 c
          ∧ r.2.mem ((c.tc : Thread Cert.ReferenceDwsqIdeal.nD Cert.ReferenceDwsqIdeal.τ).loc Cert.ReferenceDwsqIdeal.main_arg0) = m' ((c.tc : Thread Cert.ReferenceDwsqIdeal.nD Cert.ReferenceDwsqIdeal.τ).loc Cert.ReferenceDwsqIdeal.main_arg0)
          ∧ r.2.mem ((c.tc : Thread Cert.ReferenceDwsqIdeal.nD Cert.ReferenceDwsqIdeal.τ).loc Cert.ReferenceDwsqIdeal.main_arg1) = m' ((c.tc : Thread Cert.ReferenceDwsqIdeal.nD Cert.ReferenceDwsqIdeal.τ).loc Cert.ReferenceDwsqIdeal.main_arg1))

def preserves_KernelDwattn_KernelDwattnIdeal : Prop :=
  True

def algebraic_KernelDwattnIdeal_ReferenceDwattnIdeal [hKernelDwattnIdeal : Cert.KernelDwattnIdeal.Facts] [hReferenceDwattnIdeal : Cert.ReferenceDwattnIdeal.Facts] : Prop :=
  ∀ (m : (ℓ : Loc Cert.KernelDwattnIdeal.nD Cert.KernelDwattnIdeal.τ Cert.KernelDwattnIdeal.sig) → Buf (Elt Ideal) ℓ) (g : Dev Cert.KernelDwattnIdeal.nD → PrngReg)
    (m' : (ℓ : Loc Cert.ReferenceDwattnIdeal.nD Cert.ReferenceDwattnIdeal.τ Cert.ReferenceDwattnIdeal.sig) → Buf (Elt Ideal) ℓ) (g' : Dev Cert.ReferenceDwattnIdeal.nD → PrngReg), Pre_KernelDwattnIdeal m →
    (∀ c : Dev Cert.KernelDwattnIdeal.nD,
      m' ((c.tc : Thread Cert.ReferenceDwattnIdeal.nD Cert.ReferenceDwattnIdeal.τ).loc Cert.ReferenceDwattnIdeal.main_arg0) = m ((c.tc : Thread Cert.KernelDwattnIdeal.nD Cert.KernelDwattnIdeal.τ).loc Cert.KernelDwattnIdeal.main_arg0)
      ∧ m' ((c.tc : Thread Cert.ReferenceDwattnIdeal.nD Cert.ReferenceDwattnIdeal.τ).loc Cert.ReferenceDwattnIdeal.main_arg1) = m ((c.tc : Thread Cert.KernelDwattnIdeal.nD Cert.KernelDwattnIdeal.τ).loc Cert.KernelDwattnIdeal.main_arg1)) →
    ∃ (v0 : (c : Dev Cert.KernelDwattnIdeal.nD) → Buf (Elt Ideal) ((c.tc : Thread Cert.KernelDwattnIdeal.nD Cert.KernelDwattnIdeal.τ).loc Cert.KernelDwattnIdeal.main_v0)),
      θ_run (Cert.KernelDwattnIdeal.defs (F := Ideal)) (onTc (τ := Cert.KernelDwattnIdeal.τ) (Cert.KernelDwattnIdeal.main (F := Ideal))) ⟨m, fun _ => 0, g⟩ (fun r => ∀ c : Dev Cert.KernelDwattnIdeal.nD,
          r.2.mem ((c.tc : Thread Cert.KernelDwattnIdeal.nD Cert.KernelDwattnIdeal.τ).loc Cert.KernelDwattnIdeal.main_v0) = v0 c
          ∧ r.2.mem ((c.tc : Thread Cert.KernelDwattnIdeal.nD Cert.KernelDwattnIdeal.τ).loc Cert.KernelDwattnIdeal.main_arg0) = m ((c.tc : Thread Cert.KernelDwattnIdeal.nD Cert.KernelDwattnIdeal.τ).loc Cert.KernelDwattnIdeal.main_arg0)
          ∧ r.2.mem ((c.tc : Thread Cert.KernelDwattnIdeal.nD Cert.KernelDwattnIdeal.τ).loc Cert.KernelDwattnIdeal.main_arg1) = m ((c.tc : Thread Cert.KernelDwattnIdeal.nD Cert.KernelDwattnIdeal.τ).loc Cert.KernelDwattnIdeal.main_arg1))
      ∧ θ_run (Cert.ReferenceDwattnIdeal.defs (F := Ideal)) (onTc (τ := Cert.ReferenceDwattnIdeal.τ) (Cert.ReferenceDwattnIdeal.main (F := Ideal))) ⟨m', fun _ => 0, g'⟩ (fun r => ∀ c : Dev Cert.ReferenceDwattnIdeal.nD,
          r.2.mem ((c.tc : Thread Cert.ReferenceDwattnIdeal.nD Cert.ReferenceDwattnIdeal.τ).loc Cert.ReferenceDwattnIdeal.main_v5) = v0 c
          ∧ r.2.mem ((c.tc : Thread Cert.ReferenceDwattnIdeal.nD Cert.ReferenceDwattnIdeal.τ).loc Cert.ReferenceDwattnIdeal.main_arg0) = m' ((c.tc : Thread Cert.ReferenceDwattnIdeal.nD Cert.ReferenceDwattnIdeal.τ).loc Cert.ReferenceDwattnIdeal.main_arg0)
          ∧ r.2.mem ((c.tc : Thread Cert.ReferenceDwattnIdeal.nD Cert.ReferenceDwattnIdeal.τ).loc Cert.ReferenceDwattnIdeal.main_arg1) = m' ((c.tc : Thread Cert.ReferenceDwattnIdeal.nD Cert.ReferenceDwattnIdeal.τ).loc Cert.ReferenceDwattnIdeal.main_arg1))

def preserves_KernelDsq_KernelDsqIdeal : Prop :=
  True

def algebraic_KernelDsqIdeal_ReferenceDsqIdeal [hKernelDsqIdeal : Cert.KernelDsqIdeal.Facts] [hReferenceDsqIdeal : Cert.ReferenceDsqIdeal.Facts] : Prop :=
  ∀ (m : (ℓ : Loc Cert.KernelDsqIdeal.nD Cert.KernelDsqIdeal.τ Cert.KernelDsqIdeal.sig) → Buf (Elt Ideal) ℓ) (g : Dev Cert.KernelDsqIdeal.nD → PrngReg)
    (m' : (ℓ : Loc Cert.ReferenceDsqIdeal.nD Cert.ReferenceDsqIdeal.τ Cert.ReferenceDsqIdeal.sig) → Buf (Elt Ideal) ℓ) (g' : Dev Cert.ReferenceDsqIdeal.nD → PrngReg), Pre_KernelDsqIdeal m →
    (∀ c : Dev Cert.KernelDsqIdeal.nD,
      m' ((c.tc : Thread Cert.ReferenceDsqIdeal.nD Cert.ReferenceDsqIdeal.τ).loc Cert.ReferenceDsqIdeal.main_arg0) = m ((c.tc : Thread Cert.KernelDsqIdeal.nD Cert.KernelDsqIdeal.τ).loc Cert.KernelDsqIdeal.main_arg0)
      ∧ m' ((c.tc : Thread Cert.ReferenceDsqIdeal.nD Cert.ReferenceDsqIdeal.τ).loc Cert.ReferenceDsqIdeal.main_arg1) = m ((c.tc : Thread Cert.KernelDsqIdeal.nD Cert.KernelDsqIdeal.τ).loc Cert.KernelDsqIdeal.main_arg1)) →
    ∃ (v0 : (c : Dev Cert.KernelDsqIdeal.nD) → Buf (Elt Ideal) ((c.tc : Thread Cert.KernelDsqIdeal.nD Cert.KernelDsqIdeal.τ).loc Cert.KernelDsqIdeal.main_v0)),
      θ_run (Cert.KernelDsqIdeal.defs (F := Ideal)) (onTc (τ := Cert.KernelDsqIdeal.τ) (Cert.KernelDsqIdeal.main (F := Ideal))) ⟨m, fun _ => 0, g⟩ (fun r => ∀ c : Dev Cert.KernelDsqIdeal.nD,
          r.2.mem ((c.tc : Thread Cert.KernelDsqIdeal.nD Cert.KernelDsqIdeal.τ).loc Cert.KernelDsqIdeal.main_v0) = v0 c
          ∧ r.2.mem ((c.tc : Thread Cert.KernelDsqIdeal.nD Cert.KernelDsqIdeal.τ).loc Cert.KernelDsqIdeal.main_arg0) = m ((c.tc : Thread Cert.KernelDsqIdeal.nD Cert.KernelDsqIdeal.τ).loc Cert.KernelDsqIdeal.main_arg0)
          ∧ r.2.mem ((c.tc : Thread Cert.KernelDsqIdeal.nD Cert.KernelDsqIdeal.τ).loc Cert.KernelDsqIdeal.main_arg1) = m ((c.tc : Thread Cert.KernelDsqIdeal.nD Cert.KernelDsqIdeal.τ).loc Cert.KernelDsqIdeal.main_arg1))
      ∧ θ_run (Cert.ReferenceDsqIdeal.defs (F := Ideal)) (onTc (τ := Cert.ReferenceDsqIdeal.τ) (Cert.ReferenceDsqIdeal.main (F := Ideal))) ⟨m', fun _ => 0, g'⟩ (fun r => ∀ c : Dev Cert.ReferenceDsqIdeal.nD,
          r.2.mem ((c.tc : Thread Cert.ReferenceDsqIdeal.nD Cert.ReferenceDsqIdeal.τ).loc Cert.ReferenceDsqIdeal.main_v5) = v0 c
          ∧ r.2.mem ((c.tc : Thread Cert.ReferenceDsqIdeal.nD Cert.ReferenceDsqIdeal.τ).loc Cert.ReferenceDsqIdeal.main_arg0) = m' ((c.tc : Thread Cert.ReferenceDsqIdeal.nD Cert.ReferenceDsqIdeal.τ).loc Cert.ReferenceDsqIdeal.main_arg0)
          ∧ r.2.mem ((c.tc : Thread Cert.ReferenceDsqIdeal.nD Cert.ReferenceDsqIdeal.τ).loc Cert.ReferenceDsqIdeal.main_arg1) = m' ((c.tc : Thread Cert.ReferenceDsqIdeal.nD Cert.ReferenceDsqIdeal.τ).loc Cert.ReferenceDsqIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_v11) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_v18) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v2_0)) (v1 : (c : Dev Cert.KernelMergeIdeal.nD) → Buf (Elt Ideal) ((c.tc : Thread Cert.KernelMergeIdeal.nD Cert.KernelMergeIdeal.τ).loc Cert.KernelMergeIdeal.main_v2_1)) (v2 : (c : Dev Cert.KernelMergeIdeal.nD) → Buf (Elt Ideal) ((c.tc : Thread Cert.KernelMergeIdeal.nD Cert.KernelMergeIdeal.τ).loc Cert.KernelMergeIdeal.main_v2_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v2_0) = v0 c
          ∧ r.2.mem ((c.tc : Thread Cert.KernelMergeIdeal.nD Cert.KernelMergeIdeal.τ).loc Cert.KernelMergeIdeal.main_v2_1) = v1 c
          ∧ r.2.mem ((c.tc : Thread Cert.KernelMergeIdeal.nD Cert.KernelMergeIdeal.τ).loc Cert.KernelMergeIdeal.main_v2_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v17) = v0 c
          ∧ r.2.mem ((c.tc : Thread Cert.ReferenceMergeIdeal.nD Cert.ReferenceMergeIdeal.τ).loc Cert.ReferenceMergeIdeal.main_v18) = v1 c
          ∧ r.2.mem ((c.tc : Thread Cert.ReferenceMergeIdeal.nD Cert.ReferenceMergeIdeal.τ).loc Cert.ReferenceMergeIdeal.main_v22) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_v16) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelCq_KernelCqIdeal : Prop :=
  True

def algebraic_KernelCqIdeal_ReferenceCqIdeal [hKernelCqIdeal : Cert.KernelCqIdeal.Facts] [hReferenceCqIdeal : Cert.ReferenceCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg)
    (m' : (ℓ : Loc Cert.ReferenceCqIdeal.nD Cert.ReferenceCqIdeal.τ Cert.ReferenceCqIdeal.sig) → Buf (Elt Ideal) ℓ) (g' : Dev Cert.ReferenceCqIdeal.nD → PrngReg), Pre_KernelCqIdeal m →
    (∀ c : Dev Cert.KernelCqIdeal.nD,
      m' ((c.tc : Thread Cert.ReferenceCqIdeal.nD Cert.ReferenceCqIdeal.τ).loc Cert.ReferenceCqIdeal.main_arg0) = m ((c.tc : Thread Cert.KernelCqIdeal.nD Cert.KernelCqIdeal.τ).loc Cert.KernelCqIdeal.main_arg0)
      ∧ m' ((c.tc : Thread Cert.ReferenceCqIdeal.nD Cert.ReferenceCqIdeal.τ).loc Cert.ReferenceCqIdeal.main_arg1) = m ((c.tc : Thread Cert.KernelCqIdeal.nD Cert.KernelCqIdeal.τ).loc Cert.KernelCqIdeal.main_arg1)) →
    ∃ (v0 : (c : Dev Cert.KernelCqIdeal.nD) → Buf (Elt Ideal) ((c.tc : Thread Cert.KernelCqIdeal.nD Cert.KernelCqIdeal.τ).loc Cert.KernelCqIdeal.main_v0)),
      θ_run (Cert.KernelCqIdeal.defs (F := Ideal)) (onTc (τ := Cert.KernelCqIdeal.τ) (Cert.KernelCqIdeal.main (F := Ideal))) ⟨m, fun _ => 0, g⟩ (fun r => ∀ c : Dev Cert.KernelCqIdeal.nD,
          r.2.mem ((c.tc : Thread Cert.KernelCqIdeal.nD Cert.KernelCqIdeal.τ).loc Cert.KernelCqIdeal.main_v0) = v0 c
          ∧ r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
          ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1))
      ∧ θ_run (Cert.ReferenceCqIdeal.defs (F := Ideal)) (onTc (τ := Cert.ReferenceCqIdeal.τ) (Cert.ReferenceCqIdeal.main (F := Ideal))) ⟨m', fun _ => 0, g'⟩ (fun r => ∀ c : Dev Cert.ReferenceCqIdeal.nD,
          r.2.mem ((c.tc : Thread Cert.ReferenceCqIdeal.nD Cert.ReferenceCqIdeal.τ).loc Cert.ReferenceCqIdeal.main_v3) = v0 c
          ∧ r.2.mem ((c.tc : Thread Cert.ReferenceCqIdeal.nD Cert.ReferenceCqIdeal.τ).loc Cert.ReferenceCqIdeal.main_arg0) = m' ((c.tc : Thread Cert.ReferenceCqIdeal.nD Cert.ReferenceCqIdeal.τ).loc Cert.ReferenceCqIdeal.main_arg0)
          ∧ r.2.mem ((c.tc : Thread Cert.ReferenceCqIdeal.nD Cert.ReferenceCqIdeal.τ).loc Cert.ReferenceCqIdeal.main_arg1) = m' ((c.tc : Thread Cert.ReferenceCqIdeal.nD Cert.ReferenceCqIdeal.τ).loc Cert.ReferenceCqIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v54) = v0 c
          ∧ r.2.mem ((c.tc : Thread Cert.ReferenceLossIdeal.nD Cert.ReferenceLossIdeal.τ).loc Cert.ReferenceLossIdeal.main_v57) = v1 c
          ∧ r.2.mem ((c.tc : Thread Cert.ReferenceLossIdeal.nD Cert.ReferenceLossIdeal.τ).loc Cert.ReferenceLossIdeal.main_v38) = v2 c
          ∧ r.2.mem ((c.tc : Thread Cert.ReferenceLossIdeal.nD Cert.ReferenceLossIdeal.τ).loc Cert.ReferenceLossIdeal.main_v58) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v3) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelDwkv_KernelDwkvIdeal : Prop :=
  True

def algebraic_KernelDwkvIdeal_ReferenceDwkvIdeal [hKernelDwkvIdeal : Cert.KernelDwkvIdeal.Facts] [hReferenceDwkvIdeal : Cert.ReferenceDwkvIdeal.Facts] : Prop :=
  ∀ (m : (ℓ : Loc Cert.KernelDwkvIdeal.nD Cert.KernelDwkvIdeal.τ Cert.KernelDwkvIdeal.sig) → Buf (Elt Ideal) ℓ) (g : Dev Cert.KernelDwkvIdeal.nD → PrngReg)
    (m' : (ℓ : Loc Cert.ReferenceDwkvIdeal.nD Cert.ReferenceDwkvIdeal.τ Cert.ReferenceDwkvIdeal.sig) → Buf (Elt Ideal) ℓ) (g' : Dev Cert.ReferenceDwkvIdeal.nD → PrngReg), Pre_KernelDwkvIdeal m →
    (∀ c : Dev Cert.KernelDwkvIdeal.nD,
      m' ((c.tc : Thread Cert.ReferenceDwkvIdeal.nD Cert.ReferenceDwkvIdeal.τ).loc Cert.ReferenceDwkvIdeal.main_arg0) = m ((c.tc : Thread Cert.KernelDwkvIdeal.nD Cert.KernelDwkvIdeal.τ).loc Cert.KernelDwkvIdeal.main_arg0)
      ∧ m' ((c.tc : Thread Cert.ReferenceDwkvIdeal.nD Cert.ReferenceDwkvIdeal.τ).loc Cert.ReferenceDwkvIdeal.main_arg1) = m ((c.tc : Thread Cert.KernelDwkvIdeal.nD Cert.KernelDwkvIdeal.τ).loc Cert.KernelDwkvIdeal.main_arg1)) →
    ∃ (v0 : (c : Dev Cert.KernelDwkvIdeal.nD) → Buf (Elt Ideal) ((c.tc : Thread Cert.KernelDwkvIdeal.nD Cert.KernelDwkvIdeal.τ).loc Cert.KernelDwkvIdeal.main_v0)),
      θ_run (Cert.KernelDwkvIdeal.defs (F := Ideal)) (onTc (τ := Cert.KernelDwkvIdeal.τ) (Cert.KernelDwkvIdeal.main (F := Ideal))) ⟨m, fun _ => 0, g⟩ (fun r => ∀ c : Dev Cert.KernelDwkvIdeal.nD,
          r.2.mem ((c.tc : Thread Cert.KernelDwkvIdeal.nD Cert.KernelDwkvIdeal.τ).loc Cert.KernelDwkvIdeal.main_v0) = v0 c
          ∧ r.2.mem ((c.tc : Thread Cert.KernelDwkvIdeal.nD Cert.KernelDwkvIdeal.τ).loc Cert.KernelDwkvIdeal.main_arg0) = m ((c.tc : Thread Cert.KernelDwkvIdeal.nD Cert.KernelDwkvIdeal.τ).loc Cert.KernelDwkvIdeal.main_arg0)
          ∧ r.2.mem ((c.tc : Thread Cert.KernelDwkvIdeal.nD Cert.KernelDwkvIdeal.τ).loc Cert.KernelDwkvIdeal.main_arg1) = m ((c.tc : Thread Cert.KernelDwkvIdeal.nD Cert.KernelDwkvIdeal.τ).loc Cert.KernelDwkvIdeal.main_arg1))
      ∧ θ_run (Cert.ReferenceDwkvIdeal.defs (F := Ideal)) (onTc (τ := Cert.ReferenceDwkvIdeal.τ) (Cert.ReferenceDwkvIdeal.main (F := Ideal))) ⟨m', fun _ => 0, g'⟩ (fun r => ∀ c : Dev Cert.ReferenceDwkvIdeal.nD,
          r.2.mem ((c.tc : Thread Cert.ReferenceDwkvIdeal.nD Cert.ReferenceDwkvIdeal.τ).loc Cert.ReferenceDwkvIdeal.main_v6) = v0 c
          ∧ r.2.mem ((c.tc : Thread Cert.ReferenceDwkvIdeal.nD Cert.ReferenceDwkvIdeal.τ).loc Cert.ReferenceDwkvIdeal.main_arg0) = m' ((c.tc : Thread Cert.ReferenceDwkvIdeal.nD Cert.ReferenceDwkvIdeal.τ).loc Cert.ReferenceDwkvIdeal.main_arg0)
          ∧ r.2.mem ((c.tc : Thread Cert.ReferenceDwkvIdeal.nD Cert.ReferenceDwkvIdeal.τ).loc Cert.ReferenceDwkvIdeal.main_arg1) = m' ((c.tc : Thread Cert.ReferenceDwkvIdeal.nD Cert.ReferenceDwkvIdeal.τ).loc Cert.ReferenceDwkvIdeal.main_arg1))

def preserves_KernelDmn_KernelDmnIdeal : Prop :=
  True

def algebraic_KernelDmnIdeal_ReferenceDmnIdeal [hKernelDmnIdeal : Cert.KernelDmnIdeal.Facts] [hReferenceDmnIdeal : Cert.ReferenceDmnIdeal.Facts] : Prop :=
  ∀ (m : (ℓ : Loc Cert.KernelDmnIdeal.nD Cert.KernelDmnIdeal.τ Cert.KernelDmnIdeal.sig) → Buf (Elt Ideal) ℓ) (g : Dev Cert.KernelDmnIdeal.nD → PrngReg)
    (m' : (ℓ : Loc Cert.ReferenceDmnIdeal.nD Cert.ReferenceDmnIdeal.τ Cert.ReferenceDmnIdeal.sig) → Buf (Elt Ideal) ℓ) (g' : Dev Cert.ReferenceDmnIdeal.nD → PrngReg), Pre_KernelDmnIdeal m →
    (∀ c : Dev Cert.KernelDmnIdeal.nD,
      m' ((c.tc : Thread Cert.ReferenceDmnIdeal.nD Cert.ReferenceDmnIdeal.τ).loc Cert.ReferenceDmnIdeal.main_arg0) = m ((c.tc : Thread Cert.KernelDmnIdeal.nD Cert.KernelDmnIdeal.τ).loc Cert.KernelDmnIdeal.main_arg0)
      ∧ m' ((c.tc : Thread Cert.ReferenceDmnIdeal.nD Cert.ReferenceDmnIdeal.τ).loc Cert.ReferenceDmnIdeal.main_arg1) = m ((c.tc : Thread Cert.KernelDmnIdeal.nD Cert.KernelDmnIdeal.τ).loc Cert.KernelDmnIdeal.main_arg1)) →
    ∃ (v0 : (c : Dev Cert.KernelDmnIdeal.nD) → Buf (Elt Ideal) ((c.tc : Thread Cert.KernelDmnIdeal.nD Cert.KernelDmnIdeal.τ).loc Cert.KernelDmnIdeal.main_v0)),
      θ_run (Cert.KernelDmnIdeal.defs (F := Ideal)) (onTc (τ := Cert.KernelDmnIdeal.τ) (Cert.KernelDmnIdeal.main (F := Ideal))) ⟨m, fun _ => 0, g⟩ (fun r => ∀ c : Dev Cert.KernelDmnIdeal.nD,
          r.2.mem ((c.tc : Thread Cert.KernelDmnIdeal.nD Cert.KernelDmnIdeal.τ).loc Cert.KernelDmnIdeal.main_v0) = v0 c
          ∧ r.2.mem ((c.tc : Thread Cert.KernelDmnIdeal.nD Cert.KernelDmnIdeal.τ).loc Cert.KernelDmnIdeal.main_arg0) = m ((c.tc : Thread Cert.KernelDmnIdeal.nD Cert.KernelDmnIdeal.τ).loc Cert.KernelDmnIdeal.main_arg0)
          ∧ r.2.mem ((c.tc : Thread Cert.KernelDmnIdeal.nD Cert.KernelDmnIdeal.τ).loc Cert.KernelDmnIdeal.main_arg1) = m ((c.tc : Thread Cert.KernelDmnIdeal.nD Cert.KernelDmnIdeal.τ).loc Cert.KernelDmnIdeal.main_arg1))
      ∧ θ_run (Cert.ReferenceDmnIdeal.defs (F := Ideal)) (onTc (τ := Cert.ReferenceDmnIdeal.τ) (Cert.ReferenceDmnIdeal.main (F := Ideal))) ⟨m', fun _ => 0, g'⟩ (fun r => ∀ c : Dev Cert.ReferenceDmnIdeal.nD,
          r.2.mem ((c.tc : Thread Cert.ReferenceDmnIdeal.nD Cert.ReferenceDmnIdeal.τ).loc Cert.ReferenceDmnIdeal.main_v4) = v0 c
          ∧ r.2.mem ((c.tc : Thread Cert.ReferenceDmnIdeal.nD Cert.ReferenceDmnIdeal.τ).loc Cert.ReferenceDmnIdeal.main_arg0) = m' ((c.tc : Thread Cert.ReferenceDmnIdeal.nD Cert.ReferenceDmnIdeal.τ).loc Cert.ReferenceDmnIdeal.main_arg0)
          ∧ r.2.mem ((c.tc : Thread Cert.ReferenceDmnIdeal.nD Cert.ReferenceDmnIdeal.τ).loc Cert.ReferenceDmnIdeal.main_arg1) = m' ((c.tc : Thread Cert.ReferenceDmnIdeal.nD Cert.ReferenceDmnIdeal.τ).loc Cert.ReferenceDmnIdeal.main_arg1))

def preserves_KernelXfwd_KernelXfwdIdeal : Prop :=
  True

def algebraic_KernelXfwdIdeal_ReferenceXfwdIdeal [hKernelXfwdIdeal : Cert.KernelXfwdIdeal.Facts] [hReferenceXfwdIdeal : Cert.ReferenceXfwdIdeal.Facts] : Prop :=
  ∀ (m : (ℓ : Loc Cert.KernelXfwdIdeal.nD Cert.KernelXfwdIdeal.τ Cert.KernelXfwdIdeal.sig) → Buf (Elt Ideal) ℓ) (g : Dev Cert.KernelXfwdIdeal.nD → PrngReg)
    (m' : (ℓ : Loc Cert.ReferenceXfwdIdeal.nD Cert.ReferenceXfwdIdeal.τ Cert.ReferenceXfwdIdeal.sig) → Buf (Elt Ideal) ℓ) (g' : Dev Cert.ReferenceXfwdIdeal.nD → PrngReg), Pre_KernelXfwdIdeal m →
    (∀ c : Dev Cert.KernelXfwdIdeal.nD,
      m' ((c.tc : Thread Cert.ReferenceXfwdIdeal.nD Cert.ReferenceXfwdIdeal.τ).loc Cert.ReferenceXfwdIdeal.main_arg0) = m ((c.tc : Thread Cert.KernelXfwdIdeal.nD Cert.KernelXfwdIdeal.τ).loc Cert.KernelXfwdIdeal.main_arg0)
      ∧ m' ((c.tc : Thread Cert.ReferenceXfwdIdeal.nD Cert.ReferenceXfwdIdeal.τ).loc Cert.ReferenceXfwdIdeal.main_arg1) = m ((c.tc : Thread Cert.KernelXfwdIdeal.nD Cert.KernelXfwdIdeal.τ).loc Cert.KernelXfwdIdeal.main_arg1)) →
    ∃ (v0 : (c : Dev Cert.KernelXfwdIdeal.nD) → Buf (Elt Ideal) ((c.tc : Thread Cert.KernelXfwdIdeal.nD Cert.KernelXfwdIdeal.τ).loc Cert.KernelXfwdIdeal.main_v0)),
      θ_run (Cert.KernelXfwdIdeal.defs (F := Ideal)) (onTc (τ := Cert.KernelXfwdIdeal.τ) (Cert.KernelXfwdIdeal.main (F := Ideal))) ⟨m, fun _ => 0, g⟩ (fun r => ∀ c : Dev Cert.KernelXfwdIdeal.nD,
          r.2.mem ((c.tc : Thread Cert.KernelXfwdIdeal.nD Cert.KernelXfwdIdeal.τ).loc Cert.KernelXfwdIdeal.main_v0) = v0 c
          ∧ r.2.mem ((c.tc : Thread Cert.KernelXfwdIdeal.nD Cert.KernelXfwdIdeal.τ).loc Cert.KernelXfwdIdeal.main_arg0) = m ((c.tc : Thread Cert.KernelXfwdIdeal.nD Cert.KernelXfwdIdeal.τ).loc Cert.KernelXfwdIdeal.main_arg0)
          ∧ r.2.mem ((c.tc : Thread Cert.KernelXfwdIdeal.nD Cert.KernelXfwdIdeal.τ).loc Cert.KernelXfwdIdeal.main_arg1) = m ((c.tc : Thread Cert.KernelXfwdIdeal.nD Cert.KernelXfwdIdeal.τ).loc Cert.KernelXfwdIdeal.main_arg1))
      ∧ θ_run (Cert.ReferenceXfwdIdeal.defs (F := Ideal)) (onTc (τ := Cert.ReferenceXfwdIdeal.τ) (Cert.ReferenceXfwdIdeal.main (F := Ideal))) ⟨m', fun _ => 0, g'⟩ (fun r => ∀ c : Dev Cert.ReferenceXfwdIdeal.nD,
          r.2.mem ((c.tc : Thread Cert.ReferenceXfwdIdeal.nD Cert.ReferenceXfwdIdeal.τ).loc Cert.ReferenceXfwdIdeal.main_v24) = v0 c
          ∧ r.2.mem ((c.tc : Thread Cert.ReferenceXfwdIdeal.nD Cert.ReferenceXfwdIdeal.τ).loc Cert.ReferenceXfwdIdeal.main_arg0) = m' ((c.tc : Thread Cert.ReferenceXfwdIdeal.nD Cert.ReferenceXfwdIdeal.τ).loc Cert.ReferenceXfwdIdeal.main_arg0)
          ∧ r.2.mem ((c.tc : Thread Cert.ReferenceXfwdIdeal.nD Cert.ReferenceXfwdIdeal.τ).loc Cert.ReferenceXfwdIdeal.main_arg1) = m' ((c.tc : Thread Cert.ReferenceXfwdIdeal.nD Cert.ReferenceXfwdIdeal.τ).loc Cert.ReferenceXfwdIdeal.main_arg1))

def preserves_KernelCfwd_KernelCfwdIdeal : Prop :=
  True

def algebraic_KernelCfwdIdeal_ReferenceCfwdIdeal [hKernelCfwdIdeal : Cert.KernelCfwdIdeal.Facts] [hReferenceCfwdIdeal : Cert.ReferenceCfwdIdeal.Facts] : Prop :=
  ∀ (m : (ℓ : Loc Cert.KernelCfwdIdeal.nD Cert.KernelCfwdIdeal.τ Cert.KernelCfwdIdeal.sig) → Buf (Elt Ideal) ℓ) (g : Dev Cert.KernelCfwdIdeal.nD → PrngReg)
    (m' : (ℓ : Loc Cert.ReferenceCfwdIdeal.nD Cert.ReferenceCfwdIdeal.τ Cert.ReferenceCfwdIdeal.sig) → Buf (Elt Ideal) ℓ) (g' : Dev Cert.ReferenceCfwdIdeal.nD → PrngReg), Pre_KernelCfwdIdeal m →
    (∀ c : Dev Cert.KernelCfwdIdeal.nD,
      m' ((c.tc : Thread Cert.ReferenceCfwdIdeal.nD Cert.ReferenceCfwdIdeal.τ).loc Cert.ReferenceCfwdIdeal.main_arg0) = m ((c.tc : Thread Cert.KernelCfwdIdeal.nD Cert.KernelCfwdIdeal.τ).loc Cert.KernelCfwdIdeal.main_arg0)
      ∧ m' ((c.tc : Thread Cert.ReferenceCfwdIdeal.nD Cert.ReferenceCfwdIdeal.τ).loc Cert.ReferenceCfwdIdeal.main_arg1) = m ((c.tc : Thread Cert.KernelCfwdIdeal.nD Cert.KernelCfwdIdeal.τ).loc Cert.KernelCfwdIdeal.main_arg1)) →
    ∃ (v0 : (c : Dev Cert.KernelCfwdIdeal.nD) → Buf (Elt Ideal) ((c.tc : Thread Cert.KernelCfwdIdeal.nD Cert.KernelCfwdIdeal.τ).loc Cert.KernelCfwdIdeal.main_v0)),
      θ_run (Cert.KernelCfwdIdeal.defs (F := Ideal)) (onTc (τ := Cert.KernelCfwdIdeal.τ) (Cert.KernelCfwdIdeal.main (F := Ideal))) ⟨m, fun _ => 0, g⟩ (fun r => ∀ c : Dev Cert.KernelCfwdIdeal.nD,
          r.2.mem ((c.tc : Thread Cert.KernelCfwdIdeal.nD Cert.KernelCfwdIdeal.τ).loc Cert.KernelCfwdIdeal.main_v0) = v0 c
          ∧ r.2.mem ((c.tc : Thread Cert.KernelCfwdIdeal.nD Cert.KernelCfwdIdeal.τ).loc Cert.KernelCfwdIdeal.main_arg0) = m ((c.tc : Thread Cert.KernelCfwdIdeal.nD Cert.KernelCfwdIdeal.τ).loc Cert.KernelCfwdIdeal.main_arg0)
          ∧ r.2.mem ((c.tc : Thread Cert.KernelCfwdIdeal.nD Cert.KernelCfwdIdeal.τ).loc Cert.KernelCfwdIdeal.main_arg1) = m ((c.tc : Thread Cert.KernelCfwdIdeal.nD Cert.KernelCfwdIdeal.τ).loc Cert.KernelCfwdIdeal.main_arg1))
      ∧ θ_run (Cert.ReferenceCfwdIdeal.defs (F := Ideal)) (onTc (τ := Cert.ReferenceCfwdIdeal.τ) (Cert.ReferenceCfwdIdeal.main (F := Ideal))) ⟨m', fun _ => 0, g'⟩ (fun r => ∀ c : Dev Cert.ReferenceCfwdIdeal.nD,
          r.2.mem ((c.tc : Thread Cert.ReferenceCfwdIdeal.nD Cert.ReferenceCfwdIdeal.τ).loc Cert.ReferenceCfwdIdeal.main_v30) = v0 c
          ∧ r.2.mem ((c.tc : Thread Cert.ReferenceCfwdIdeal.nD Cert.ReferenceCfwdIdeal.τ).loc Cert.ReferenceCfwdIdeal.main_arg0) = m' ((c.tc : Thread Cert.ReferenceCfwdIdeal.nD Cert.ReferenceCfwdIdeal.τ).loc Cert.ReferenceCfwdIdeal.main_arg0)
          ∧ r.2.mem ((c.tc : Thread Cert.ReferenceCfwdIdeal.nD Cert.ReferenceCfwdIdeal.τ).loc Cert.ReferenceCfwdIdeal.main_arg1) = m' ((c.tc : Thread Cert.ReferenceCfwdIdeal.nD Cert.ReferenceCfwdIdeal.τ).loc Cert.ReferenceCfwdIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v0)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelMnorm_KernelMnormIdeal : Prop :=
  True

def algebraic_KernelMnormIdeal_ReferenceMnormIdeal [hKernelMnormIdeal : Cert.KernelMnormIdeal.Facts] [hReferenceMnormIdeal : Cert.ReferenceMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg)
    (m' : (ℓ : Loc Cert.ReferenceMnormIdeal.nD Cert.ReferenceMnormIdeal.τ Cert.ReferenceMnormIdeal.sig) → Buf (Elt Ideal) ℓ) (g' : Dev Cert.ReferenceMnormIdeal.nD → PrngReg), Pre_KernelMnormIdeal m →
    (∀ c : Dev Cert.KernelMnormIdeal.nD,
      m' ((c.tc : Thread Cert.ReferenceMnormIdeal.nD Cert.ReferenceMnormIdeal.τ).loc Cert.ReferenceMnormIdeal.main_arg0) = m ((c.tc : Thread Cert.KernelMnormIdeal.nD Cert.KernelMnormIdeal.τ).loc Cert.KernelMnormIdeal.main_arg0)
      ∧ m' ((c.tc : Thread Cert.ReferenceMnormIdeal.nD Cert.ReferenceMnormIdeal.τ).loc Cert.ReferenceMnormIdeal.main_arg1) = m ((c.tc : Thread Cert.KernelMnormIdeal.nD Cert.KernelMnormIdeal.τ).loc Cert.KernelMnormIdeal.main_arg1)) →
    ∃ (v0 : (c : Dev Cert.KernelMnormIdeal.nD) → Buf (Elt Ideal) ((c.tc : Thread Cert.KernelMnormIdeal.nD Cert.KernelMnormIdeal.τ).loc Cert.KernelMnormIdeal.main_v0)),
      θ_run (Cert.KernelMnormIdeal.defs (F := Ideal)) (onTc (τ := Cert.KernelMnormIdeal.τ) (Cert.KernelMnormIdeal.main (F := Ideal))) ⟨m, fun _ => 0, g⟩ (fun r => ∀ c : Dev Cert.KernelMnormIdeal.nD,
          r.2.mem ((c.tc : Thread Cert.KernelMnormIdeal.nD Cert.KernelMnormIdeal.τ).loc Cert.KernelMnormIdeal.main_v0) = v0 c
          ∧ r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
          ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ θ_run (Cert.ReferenceMnormIdeal.defs (F := Ideal)) (onTc (τ := Cert.ReferenceMnormIdeal.τ) (Cert.ReferenceMnormIdeal.main (F := Ideal))) ⟨m', fun _ => 0, g'⟩ (fun r => ∀ c : Dev Cert.ReferenceMnormIdeal.nD,
          r.2.mem ((c.tc : Thread Cert.ReferenceMnormIdeal.nD Cert.ReferenceMnormIdeal.τ).loc Cert.ReferenceMnormIdeal.main_v12) = v0 c
          ∧ r.2.mem ((c.tc : Thread Cert.ReferenceMnormIdeal.nD Cert.ReferenceMnormIdeal.τ).loc Cert.ReferenceMnormIdeal.main_arg0) = m' ((c.tc : Thread Cert.ReferenceMnormIdeal.nD Cert.ReferenceMnormIdeal.τ).loc Cert.ReferenceMnormIdeal.main_arg0)
          ∧ r.2.mem ((c.tc : Thread Cert.ReferenceMnormIdeal.nD Cert.ReferenceMnormIdeal.τ).loc Cert.ReferenceMnormIdeal.main_arg1) = m' ((c.tc : Thread Cert.ReferenceMnormIdeal.nD Cert.ReferenceMnormIdeal.τ).loc Cert.ReferenceMnormIdeal.main_arg1))

def preserves_KernelDmem_KernelDmemIdeal : Prop :=
  True

def algebraic_KernelDmemIdeal_ReferenceDmemIdeal [hKernelDmemIdeal : Cert.KernelDmemIdeal.Facts] [hReferenceDmemIdeal : Cert.ReferenceDmemIdeal.Facts] : Prop :=
  ∀ (m : (ℓ : Loc Cert.KernelDmemIdeal.nD Cert.KernelDmemIdeal.τ Cert.KernelDmemIdeal.sig) → Buf (Elt Ideal) ℓ) (g : Dev Cert.KernelDmemIdeal.nD → PrngReg)
    (m' : (ℓ : Loc Cert.ReferenceDmemIdeal.nD Cert.ReferenceDmemIdeal.τ Cert.ReferenceDmemIdeal.sig) → Buf (Elt Ideal) ℓ) (g' : Dev Cert.ReferenceDmemIdeal.nD → PrngReg), Pre_KernelDmemIdeal m →
    (∀ c : Dev Cert.KernelDmemIdeal.nD,
      m' ((c.tc : Thread Cert.ReferenceDmemIdeal.nD Cert.ReferenceDmemIdeal.τ).loc Cert.ReferenceDmemIdeal.main_arg0) = m ((c.tc : Thread Cert.KernelDmemIdeal.nD Cert.KernelDmemIdeal.τ).loc Cert.KernelDmemIdeal.main_arg0)
      ∧ m' ((c.tc : Thread Cert.ReferenceDmemIdeal.nD Cert.ReferenceDmemIdeal.τ).loc Cert.ReferenceDmemIdeal.main_arg1) = m ((c.tc : Thread Cert.KernelDmemIdeal.nD Cert.KernelDmemIdeal.τ).loc Cert.KernelDmemIdeal.main_arg1)) →
    ∃ (v0 : (c : Dev Cert.KernelDmemIdeal.nD) → Buf (Elt Ideal) ((c.tc : Thread Cert.KernelDmemIdeal.nD Cert.KernelDmemIdeal.τ).loc Cert.KernelDmemIdeal.main_v0)),
      θ_run (Cert.KernelDmemIdeal.defs (F := Ideal)) (onTc (τ := Cert.KernelDmemIdeal.τ) (Cert.KernelDmemIdeal.main (F := Ideal))) ⟨m, fun _ => 0, g⟩ (fun r => ∀ c : Dev Cert.KernelDmemIdeal.nD,
          r.2.mem ((c.tc : Thread Cert.KernelDmemIdeal.nD Cert.KernelDmemIdeal.τ).loc Cert.KernelDmemIdeal.main_v0) = v0 c
          ∧ r.2.mem ((c.tc : Thread Cert.KernelDmemIdeal.nD Cert.KernelDmemIdeal.τ).loc Cert.KernelDmemIdeal.main_arg0) = m ((c.tc : Thread Cert.KernelDmemIdeal.nD Cert.KernelDmemIdeal.τ).loc Cert.KernelDmemIdeal.main_arg0)
          ∧ r.2.mem ((c.tc : Thread Cert.KernelDmemIdeal.nD Cert.KernelDmemIdeal.τ).loc Cert.KernelDmemIdeal.main_arg1) = m ((c.tc : Thread Cert.KernelDmemIdeal.nD Cert.KernelDmemIdeal.τ).loc Cert.KernelDmemIdeal.main_arg1))
      ∧ θ_run (Cert.ReferenceDmemIdeal.defs (F := Ideal)) (onTc (τ := Cert.ReferenceDmemIdeal.τ) (Cert.ReferenceDmemIdeal.main (F := Ideal))) ⟨m', fun _ => 0, g'⟩ (fun r => ∀ c : Dev Cert.ReferenceDmemIdeal.nD,
          r.2.mem ((c.tc : Thread Cert.ReferenceDmemIdeal.nD Cert.ReferenceDmemIdeal.τ).loc Cert.ReferenceDmemIdeal.main_v15) = v0 c
          ∧ r.2.mem ((c.tc : Thread Cert.ReferenceDmemIdeal.nD Cert.ReferenceDmemIdeal.τ).loc Cert.ReferenceDmemIdeal.main_arg0) = m' ((c.tc : Thread Cert.ReferenceDmemIdeal.nD Cert.ReferenceDmemIdeal.τ).loc Cert.ReferenceDmemIdeal.main_arg0)
          ∧ r.2.mem ((c.tc : Thread Cert.ReferenceDmemIdeal.nD Cert.ReferenceDmemIdeal.τ).loc Cert.ReferenceDmemIdeal.main_arg1) = m' ((c.tc : Thread Cert.ReferenceDmemIdeal.nD Cert.ReferenceDmemIdeal.τ).loc Cert.ReferenceDmemIdeal.main_arg1))

def Claim : Prop :=
  ∃ (hKernel : Cert.Kernel.Facts) (hKernelIdeal : Cert.KernelIdeal.Facts) (hReferenceIdeal : Cert.ReferenceIdeal.Facts) (hKernelDu : Cert.KernelDu.Facts) (hKernelDuIdeal : Cert.KernelDuIdeal.Facts) (hReferenceDuIdeal : Cert.ReferenceDuIdeal.Facts) (hKernelDgu : Cert.KernelDgu.Facts) (hKernelDguIdeal : Cert.KernelDguIdeal.Facts) (hReferenceDguIdeal : Cert.ReferenceDguIdeal.Facts) (hKernelDn : Cert.KernelDn.Facts) (hKernelDnIdeal : Cert.KernelDnIdeal.Facts) (hReferenceDnIdeal : Cert.ReferenceDnIdeal.Facts) (hKernelDwin : Cert.KernelDwin.Facts) (hKernelDwinIdeal : Cert.KernelDwinIdeal.Facts) (hReferenceDwinIdeal : Cert.ReferenceDwinIdeal.Facts) (hKernelDwgu : Cert.KernelDwgu.Facts) (hKernelDwguIdeal : Cert.KernelDwguIdeal.Facts) (hReferenceDwguIdeal : Cert.ReferenceDwguIdeal.Facts) (hKernelDwdown : Cert.KernelDwdown.Facts) (hKernelDwdownIdeal : Cert.KernelDwdownIdeal.Facts) (hReferenceDwdownIdeal : Cert.ReferenceDwdownIdeal.Facts) (hKernelConv : Cert.KernelConv.Facts) (hKernelConvIdeal : Cert.KernelConvIdeal.Facts) (hReferenceConvIdeal : Cert.ReferenceConvIdeal.Facts) (hKernelDmerge : Cert.KernelDmerge.Facts) (hKernelDmergeIdeal : Cert.KernelDmergeIdeal.Facts) (hReferenceDmergeIdeal : Cert.ReferenceDmergeIdeal.Facts) (hKernelXattn : Cert.KernelXattn.Facts) (hKernelXattnIdeal : Cert.KernelXattnIdeal.Facts) (hReferenceXattnIdeal : Cert.ReferenceXattnIdeal.Facts) (hKernelDhn : Cert.KernelDhn.Facts) (hKernelDhnIdeal : Cert.KernelDhnIdeal.Facts) (hReferenceDhnIdeal : Cert.ReferenceDhnIdeal.Facts) (hKernelDwsq : Cert.KernelDwsq.Facts) (hKernelDwsqIdeal : Cert.KernelDwsqIdeal.Facts) (hReferenceDwsqIdeal : Cert.ReferenceDwsqIdeal.Facts) (hKernelDwattn : Cert.KernelDwattn.Facts) (hKernelDwattnIdeal : Cert.KernelDwattnIdeal.Facts) (hReferenceDwattnIdeal : Cert.ReferenceDwattnIdeal.Facts) (hKernelDsq : Cert.KernelDsq.Facts) (hKernelDsqIdeal : Cert.KernelDsqIdeal.Facts) (hReferenceDsqIdeal : Cert.ReferenceDsqIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelCq : Cert.KernelCq.Facts) (hKernelCqIdeal : Cert.KernelCqIdeal.Facts) (hReferenceCqIdeal : Cert.ReferenceCqIdeal.Facts) (hKernelLoss : Cert.KernelLoss.Facts) (hKernelLossIdeal : Cert.KernelLossIdeal.Facts) (hReferenceLossIdeal : Cert.ReferenceLossIdeal.Facts) (hKernelKv : Cert.KernelKv.Facts) (hKernelKvIdeal : Cert.KernelKvIdeal.Facts) (hReferenceKvIdeal : Cert.ReferenceKvIdeal.Facts) (hKernelDwkv : Cert.KernelDwkv.Facts) (hKernelDwkvIdeal : Cert.KernelDwkvIdeal.Facts) (hReferenceDwkvIdeal : Cert.ReferenceDwkvIdeal.Facts) (hKernelDmn : Cert.KernelDmn.Facts) (hKernelDmnIdeal : Cert.KernelDmnIdeal.Facts) (hReferenceDmnIdeal : Cert.ReferenceDmnIdeal.Facts) (hKernelXfwd : Cert.KernelXfwd.Facts) (hKernelXfwdIdeal : Cert.KernelXfwdIdeal.Facts) (hReferenceXfwdIdeal : Cert.ReferenceXfwdIdeal.Facts) (hKernelCfwd : Cert.KernelCfwd.Facts) (hKernelCfwdIdeal : Cert.KernelCfwdIdeal.Facts) (hReferenceCfwdIdeal : Cert.ReferenceCfwdIdeal.Facts) (hKernelNorm : Cert.KernelNorm.Facts) (hKernelNormIdeal : Cert.KernelNormIdeal.Facts) (hReferenceNormIdeal : Cert.ReferenceNormIdeal.Facts) (hKernelMnorm : Cert.KernelMnorm.Facts) (hKernelMnormIdeal : Cert.KernelMnormIdeal.Facts) (hReferenceMnormIdeal : Cert.ReferenceMnormIdeal.Facts) (hKernelDmem : Cert.KernelDmem.Facts) (hKernelDmemIdeal : Cert.KernelDmemIdeal.Facts) (hReferenceDmemIdeal : Cert.ReferenceDmemIdeal.Facts) (hPre_finite : Cert.Pre_finite.Facts) (hPre_finite_dgu : Cert.Pre_finite_dgu.Facts) (hPre_finite_xattn : Cert.Pre_finite_xattn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelDgu (hKernelDgu := hKernelDgu)
    ∧ quiescent_KernelDguIdeal (hKernelDguIdeal := hKernelDguIdeal)
    ∧ quiescent_KernelDguIdeal_pre_finite_dgu (hKernelDguIdeal := hKernelDguIdeal) (hPre_finite_dgu := hPre_finite_dgu)
    ∧ quiescent_ReferenceDguIdeal (hReferenceDguIdeal := hReferenceDguIdeal)
    ∧ quiescent_ReferenceDguIdeal_pre_finite_dgu (hReferenceDguIdeal := hReferenceDguIdeal) (hPre_finite_dgu := hPre_finite_dgu)
    ∧ quiescent_KernelDn (hKernelDn := hKernelDn)
    ∧ quiescent_KernelDnIdeal (hKernelDnIdeal := hKernelDnIdeal)
    ∧ quiescent_ReferenceDnIdeal (hReferenceDnIdeal := hReferenceDnIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDwgu (hKernelDwgu := hKernelDwgu)
    ∧ quiescent_KernelDwguIdeal (hKernelDwguIdeal := hKernelDwguIdeal)
    ∧ quiescent_ReferenceDwguIdeal (hReferenceDwguIdeal := hReferenceDwguIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelDmerge (hKernelDmerge := hKernelDmerge)
    ∧ quiescent_KernelDmergeIdeal (hKernelDmergeIdeal := hKernelDmergeIdeal)
    ∧ quiescent_ReferenceDmergeIdeal (hReferenceDmergeIdeal := hReferenceDmergeIdeal)
    ∧ quiescent_KernelXattn (hKernelXattn := hKernelXattn)
    ∧ quiescent_KernelXattnIdeal (hKernelXattnIdeal := hKernelXattnIdeal)
    ∧ quiescent_KernelXattnIdeal_pre_finite_xattn (hKernelXattnIdeal := hKernelXattnIdeal) (hPre_finite_xattn := hPre_finite_xattn)
    ∧ quiescent_ReferenceXattnIdeal (hReferenceXattnIdeal := hReferenceXattnIdeal)
    ∧ quiescent_ReferenceXattnIdeal_pre_finite_xattn (hReferenceXattnIdeal := hReferenceXattnIdeal) (hPre_finite_xattn := hPre_finite_xattn)
    ∧ quiescent_KernelDhn (hKernelDhn := hKernelDhn)
    ∧ quiescent_KernelDhnIdeal (hKernelDhnIdeal := hKernelDhnIdeal)
    ∧ quiescent_ReferenceDhnIdeal (hReferenceDhnIdeal := hReferenceDhnIdeal)
    ∧ quiescent_KernelDwsq (hKernelDwsq := hKernelDwsq)
    ∧ quiescent_KernelDwsqIdeal (hKernelDwsqIdeal := hKernelDwsqIdeal)
    ∧ quiescent_ReferenceDwsqIdeal (hReferenceDwsqIdeal := hReferenceDwsqIdeal)
    ∧ quiescent_KernelDwattn (hKernelDwattn := hKernelDwattn)
    ∧ quiescent_KernelDwattnIdeal (hKernelDwattnIdeal := hKernelDwattnIdeal)
    ∧ quiescent_ReferenceDwattnIdeal (hReferenceDwattnIdeal := hReferenceDwattnIdeal)
    ∧ quiescent_KernelDsq (hKernelDsq := hKernelDsq)
    ∧ quiescent_KernelDsqIdeal (hKernelDsqIdeal := hKernelDsqIdeal)
    ∧ quiescent_ReferenceDsqIdeal (hReferenceDsqIdeal := hReferenceDsqIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCq (hKernelCq := hKernelCq)
    ∧ quiescent_KernelCqIdeal (hKernelCqIdeal := hKernelCqIdeal)
    ∧ quiescent_ReferenceCqIdeal (hReferenceCqIdeal := hReferenceCqIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelDwkv (hKernelDwkv := hKernelDwkv)
    ∧ quiescent_KernelDwkvIdeal (hKernelDwkvIdeal := hKernelDwkvIdeal)
    ∧ quiescent_ReferenceDwkvIdeal (hReferenceDwkvIdeal := hReferenceDwkvIdeal)
    ∧ quiescent_KernelDmn (hKernelDmn := hKernelDmn)
    ∧ quiescent_KernelDmnIdeal (hKernelDmnIdeal := hKernelDmnIdeal)
    ∧ quiescent_ReferenceDmnIdeal (hReferenceDmnIdeal := hReferenceDmnIdeal)
    ∧ quiescent_KernelXfwd (hKernelXfwd := hKernelXfwd)
    ∧ quiescent_KernelXfwdIdeal (hKernelXfwdIdeal := hKernelXfwdIdeal)
    ∧ quiescent_ReferenceXfwdIdeal (hReferenceXfwdIdeal := hReferenceXfwdIdeal)
    ∧ quiescent_KernelCfwd (hKernelCfwd := hKernelCfwd)
    ∧ quiescent_KernelCfwdIdeal (hKernelCfwdIdeal := hKernelCfwdIdeal)
    ∧ quiescent_ReferenceCfwdIdeal (hReferenceCfwdIdeal := hReferenceCfwdIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMnorm (hKernelMnorm := hKernelMnorm)
    ∧ quiescent_KernelMnormIdeal (hKernelMnormIdeal := hKernelMnormIdeal)
    ∧ quiescent_ReferenceMnormIdeal (hReferenceMnormIdeal := hReferenceMnormIdeal)
    ∧ quiescent_KernelDmem (hKernelDmem := hKernelDmem)
    ∧ quiescent_KernelDmemIdeal (hKernelDmemIdeal := hKernelDmemIdeal)
    ∧ quiescent_ReferenceDmemIdeal (hReferenceDmemIdeal := hReferenceDmemIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDu_KernelDuIdeal
    ∧ algebraic_KernelDuIdeal_ReferenceDuIdeal (hKernelDuIdeal := hKernelDuIdeal) (hReferenceDuIdeal := hReferenceDuIdeal)
    ∧ preserves_KernelDgu_KernelDguIdeal
    ∧ algebraic_KernelDguIdeal_ReferenceDguIdeal_pre_finite_dgu (hKernelDguIdeal := hKernelDguIdeal) (hReferenceDguIdeal := hReferenceDguIdeal) (hPre_finite_dgu := hPre_finite_dgu)
    ∧ preserves_KernelDn_KernelDnIdeal
    ∧ algebraic_KernelDnIdeal_ReferenceDnIdeal (hKernelDnIdeal := hKernelDnIdeal) (hReferenceDnIdeal := hReferenceDnIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDwgu_KernelDwguIdeal
    ∧ algebraic_KernelDwguIdeal_ReferenceDwguIdeal (hKernelDwguIdeal := hKernelDwguIdeal) (hReferenceDwguIdeal := hReferenceDwguIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelConv_KernelConvIdeal
    ∧ algebraic_KernelConvIdeal_ReferenceConvIdeal (hKernelConvIdeal := hKernelConvIdeal) (hReferenceConvIdeal := hReferenceConvIdeal)
    ∧ preserves_KernelDmerge_KernelDmergeIdeal
    ∧ algebraic_KernelDmergeIdeal_ReferenceDmergeIdeal (hKernelDmergeIdeal := hKernelDmergeIdeal) (hReferenceDmergeIdeal := hReferenceDmergeIdeal)
    ∧ preserves_KernelXattn_KernelXattnIdeal
    ∧ algebraic_KernelXattnIdeal_ReferenceXattnIdeal_pre_finite_xattn (hKernelXattnIdeal := hKernelXattnIdeal) (hReferenceXattnIdeal := hReferenceXattnIdeal) (hPre_finite_xattn := hPre_finite_xattn)
    ∧ preserves_KernelDhn_KernelDhnIdeal
    ∧ algebraic_KernelDhnIdeal_ReferenceDhnIdeal (hKernelDhnIdeal := hKernelDhnIdeal) (hReferenceDhnIdeal := hReferenceDhnIdeal)
    ∧ preserves_KernelDwsq_KernelDwsqIdeal
    ∧ algebraic_KernelDwsqIdeal_ReferenceDwsqIdeal (hKernelDwsqIdeal := hKernelDwsqIdeal) (hReferenceDwsqIdeal := hReferenceDwsqIdeal)
    ∧ preserves_KernelDwattn_KernelDwattnIdeal
    ∧ algebraic_KernelDwattnIdeal_ReferenceDwattnIdeal (hKernelDwattnIdeal := hKernelDwattnIdeal) (hReferenceDwattnIdeal := hReferenceDwattnIdeal)
    ∧ preserves_KernelDsq_KernelDsqIdeal
    ∧ algebraic_KernelDsqIdeal_ReferenceDsqIdeal (hKernelDsqIdeal := hKernelDsqIdeal) (hReferenceDsqIdeal := hReferenceDsqIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelCq_KernelCqIdeal
    ∧ algebraic_KernelCqIdeal_ReferenceCqIdeal (hKernelCqIdeal := hKernelCqIdeal) (hReferenceCqIdeal := hReferenceCqIdeal)
    ∧ preserves_KernelLoss_KernelLossIdeal
    ∧ algebraic_KernelLossIdeal_ReferenceLossIdeal (hKernelLossIdeal := hKernelLossIdeal) (hReferenceLossIdeal := hReferenceLossIdeal)
    ∧ preserves_KernelKv_KernelKvIdeal
    ∧ algebraic_KernelKvIdeal_ReferenceKvIdeal (hKernelKvIdeal := hKernelKvIdeal) (hReferenceKvIdeal := hReferenceKvIdeal)
    ∧ preserves_KernelDwkv_KernelDwkvIdeal
    ∧ algebraic_KernelDwkvIdeal_ReferenceDwkvIdeal (hKernelDwkvIdeal := hKernelDwkvIdeal) (hReferenceDwkvIdeal := hReferenceDwkvIdeal)
    ∧ preserves_KernelDmn_KernelDmnIdeal
    ∧ algebraic_KernelDmnIdeal_ReferenceDmnIdeal (hKernelDmnIdeal := hKernelDmnIdeal) (hReferenceDmnIdeal := hReferenceDmnIdeal)
    ∧ preserves_KernelXfwd_KernelXfwdIdeal
    ∧ algebraic_KernelXfwdIdeal_ReferenceXfwdIdeal (hKernelXfwdIdeal := hKernelXfwdIdeal) (hReferenceXfwdIdeal := hReferenceXfwdIdeal)
    ∧ preserves_KernelCfwd_KernelCfwdIdeal
    ∧ algebraic_KernelCfwdIdeal_ReferenceCfwdIdeal (hKernelCfwdIdeal := hKernelCfwdIdeal) (hReferenceCfwdIdeal := hReferenceCfwdIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMnorm_KernelMnormIdeal
    ∧ algebraic_KernelMnormIdeal_ReferenceMnormIdeal (hKernelMnormIdeal := hKernelMnormIdeal) (hReferenceMnormIdeal := hReferenceMnormIdeal)
    ∧ preserves_KernelDmem_KernelDmemIdeal
    ∧ algebraic_KernelDmemIdeal_ReferenceDmemIdeal (hKernelDmemIdeal := hKernelDmemIdeal) (hReferenceDmemIdeal := hReferenceDmemIdeal)
-- ==== Pre_finite.lean ====
abbrev S2048x8192 : Shape := ⟨2, ![2048, 8192]⟩
abbrev S2048x1024 : Shape := ⟨2, ![2048, 1024]⟩
abbrev S2048x3072 : Shape := ⟨2, ![2048, 3072]⟩
abbrev S_ : Shape := ⟨0, ![]⟩

class Facts : Prop where
  slices_S2048x8192_S2048x3072_0_3072 : S2048x8192.Slices ![0, 3072] S2048x3072
  bitsLt_bf16_f32 : FTy.bits .bf16 < FTy.bits .f32
  bcast_S_S2048x3072 : S_.BroadcastsInDim S2048x3072 (![] : Fin 0 → Fin S2048x3072.rank)
  bcast_S_S2048x1024 : S_.BroadcastsInDim S2048x1024 (![] : Fin 0 → Fin S2048x1024.rank)

variable [Facts]

def fn {F : FTy → Type} [FloatOps F] (main_arg0 : FVec F S2048x8192 .bf16) (main_arg1 : FVec F S2048x1024 .bf16) : IVec S2048x3072 1 × IVec S2048x1024 1 :=
  let main_v0 : FVec F S2048x3072 .bf16 := (extractStridedSlice S2048x3072 ![0, 3072] · slices_S2048x8192_S2048x3072_0_3072) main_arg0
  let main_v1 : FVec F S2048x3072 .f32 := (extf .f32 · bitsLt_bf16_f32) main_v0
  let main_v2 : FVec F S2048x3072 .f32 := Host.absf main_v1
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  (main_v4, main_v8)
-- ==== Pre_finite_dgu.lean ====
abbrev S2048x1024 : Shape := ⟨2, ![2048, 1024]⟩
abbrev S2816x1024 : Shape := ⟨2, ![2816, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S_ : Shape := ⟨0, ![]⟩

class Facts : Prop where
  slices_S2x2048x2816_S1x2048x2816_1_0_0 : S2x2048x2816.Slices ![1, 0, 0] S1x2048x2816
  shapeCasts_S1x2048x2816_S2048x2816 : S1x2048x2816.ShapeCasts S2048x2816
  bitsLt_bf16_f32 : FTy.bits .bf16 < FTy.bits .f32
  bcast_S_S2048x1024 : S_.BroadcastsInDim S2048x1024 (![] : Fin 0 → Fin S2048x1024.rank)
  bcast_S_S2816x1024 : S_.BroadcastsInDim S2816x1024 (![] : Fin 0 → Fin S2816x1024.rank)
  bcast_S_S2048x2816 : S_.BroadcastsInDim S2048x2816 (![] : Fin 0 → Fin S2048x2816.rank)

variable [Facts]

def fn {F : FTy → Type} [FloatOps F] (main_arg0 : FVec F S2048x1024 .bf16) (main_arg1 : FVec F S2816x1024 .bf16) (main_arg2 : FVec F S2x2048x2816 .bf16) : IVec S2048x1024 1 × IVec S2816x1024 1 × IVec S2048x2816 1 :=
  let main_v0 : FVec F S1x2048x2816 .bf16 := (extractStridedSlice S1x2048x2816 ![1, 0, 0] · slices_S2x2048x2816_S1x2048x2816_1_0_0) main_arg2
  let main_v1 : FVec F S2048x2816 .bf16 := shapeCast S2048x2816 main_v0 shapeCasts_S1x2048x2816_S2048x2816
  let main_v2 : FVec F S2048x1024 .f32 := (extf .f32 · bitsLt_bf16_f32) main_arg0
  let main_v3 : FVec F S2048x1024 .f32 := Host.absf main_v2
  let main_cst : FVec F S_ .f32 := constant S_ .f32 0x7F800000#32
  let main_v4 : FVec F S2048x1024 .f32 := broadcastInDim S2048x1024 ![] bcast_S_S2048x1024 main_cst
  let main_v5 : IVec S2048x1024 1 := cmpf .olt main_v3 main_v4
  let main_v6 : FVec F S2816x1024 .f32 := (extf .f32 · bitsLt_bf16_f32) main_arg1
  let main_v7 : FVec F S2816x1024 .f32 := Host.absf main_v6
  let main_cst_0 : FVec F S_ .f32 := constant S_ .f32 0x7F800000#32
  let main_v8 : FVec F S2816x1024 .f32 := broadcastInDim S2816x1024 ![] bcast_S_S2816x1024 main_cst_0
  let main_v9 : IVec S2816x1024 1 := cmpf .olt main_v7 main_v8
  let main_v10 : FVec F S2048x2816 .f32 := (extf .f32 · bitsLt_bf16_f32) main_v1
  let main_v11 : FVec F S2048x2816 .f32 := Host.absf main_v10
  let main_cst_1 : FVec F S_ .f32 := constant S_ .f32 0x7F800000#32
  let main_v12 : FVec F S2048x2816 .f32 := broadcastInDim S2048x2816 ![] bcast_S_S2048x2816 main_cst_1
  let main_v13 : IVec S2048x2816 1 := cmpf .olt main_v11 main_v12
  (main_v5, main_v9, main_v13)
-- ==== Pre_finite_xattn.lean ====
abbrev S2048x1024 : Shape := ⟨2, ![2048, 1024]⟩
abbrev S256x2048 : Shape := ⟨2, ![256, 2048]⟩
abbrev S256x1024 : Shape := ⟨2, ![256, 1024]⟩
abbrev S_ : Shape := ⟨0, ![]⟩

class Facts : Prop where
  slices_S256x2048_S256x1024_0_0 : S256x2048.Slices ![0, 0] S256x1024
  bitsLt_bf16_f32 : FTy.bits .bf16 < FTy.bits .f32
  bcast_S_S2048x1024 : S_.BroadcastsInDim S2048x1024 (![] : Fin 0 → Fin S2048x1024.rank)
  bcast_S_S256x1024 : S_.BroadcastsInDim S256x1024 (![] : Fin 0 → Fin S256x1024.rank)

variable [Facts]

def fn {F : FTy → Type} [FloatOps F] (main_arg0 : FVec F S2048x1024 .bf16) (main_arg1 : FVec F S256x2048 .bf16) (main_arg2 : FVec F S2048x1024 .bf16) : IVec S2048x1024 1 × IVec S256x1024 1 :=
  let main_v0 : FVec F S256x1024 .bf16 := (extractStridedSlice S256x1024 ![0, 0] · slices_S256x2048_S256x1024_0_0) main_arg1
  let main_v1 : FVec F S2048x1024 .f32 := (extf .f32 · bitsLt_bf16_f32) main_arg0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S256x1024 .f32 := (extf .f32 · bitsLt_bf16_f32) main_v0
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v4, main_v8)
-- ==== Kernel.lean ====
abbrev S2048x8192 : Shape := ⟨2, ![2048, 8192]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x8x256 : Shape := ⟨4, ![8, 2048, 8, 256]⟩
abbrev S8x8x2048x256 : Shape := ⟨4, ![8, 8, 2048, 256]⟩
abbrev S512x256 : Shape := ⟨2, ![512, 256]⟩
abbrev S2048x256 : Shape := ⟨2, ![2048, 256]⟩
abbrev S2x8x512x256 : Shape := ⟨4, ![2, 8, 512, 256]⟩
abbrev S512x128 : Shape := ⟨2, ![512, 128]⟩
abbrev S512 : Shape := ⟨1, ![512]⟩
abbrev S512x1 : Shape := ⟨2, ![512, 1]⟩
abbrev S256x256 : Shape := ⟨2, ![256, 256]⟩
abbrev S256x128 : Shape := ⟨2, ![256, 128]⟩
abbrev S1x1x512x256 : Shape := ⟨4, ![1, 1, 512, 256]⟩

abbrev nBuf : Space → Nat
  | .hbm => 87
  | .vmem => 22
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x8x128, .f32⟩
  | .hbm, ⟨9, _⟩ => ⟨S8x2048x128, .f32⟩
  | .hbm, ⟨10, _⟩ => ⟨S2048x8x128, .f32⟩
  | .hbm, ⟨11, _⟩ => ⟨S8x2048x128, .f32⟩
  | .hbm, ⟨12, _⟩ => ⟨S2048x8x128, .f32⟩
  | .hbm, ⟨13, _⟩ => ⟨S8x2048x128, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S_, .f32⟩
  | .hbm, ⟨44, _⟩ => ⟨S8x2048x2048, .i1⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .i1⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S_, .f32⟩
  | .hbm, ⟨71, _⟩ => ⟨S8x2048x2048, .i1⟩
  | .hbm, ⟨72, _⟩ => ⟨S8x2048x2048, .f32⟩
  | .hbm, ⟨73, _⟩ => ⟨S8x2048x2048, .f32⟩
  | .hbm, ⟨74, _⟩ => ⟨S8x2048x128, .f32⟩
  | .hbm, ⟨75, _⟩ => ⟨S2048x8x128, .f32⟩
  | .hbm, ⟨76, _⟩ => ⟨S2048x1024, .f32⟩
  | .hbm, ⟨77, _⟩ => ⟨S8x2048x8x256, .f32⟩
  | .hbm, ⟨78, _⟩ => ⟨S8x8x2048x256, .f32⟩
  | .hbm, ⟨79, _⟩ => ⟨S8x8x2048x256, .bf16⟩
  | .hbm, ⟨80, _⟩ => ⟨S8x2048x2048, .f32⟩
  | .hbm, ⟨81, _⟩ => ⟨S8x2048x8x256, .f32⟩
  | .hbm, ⟨82, _⟩ => ⟨S8x8x2048x256, .f32⟩
  | .hbm, ⟨83, _⟩ => ⟨S8x8x2048x256, .bf16⟩
  | .hbm, ⟨84, _⟩ => ⟨S2048x1024, .bf16⟩
  | .hbm, ⟨85, _⟩ => ⟨S2048x1024, .bf16⟩
  | .hbm, ⟨86, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .f32⟩
  | .local _ .vmem, ⟨7, _⟩ => ⟨S512x256, .f32⟩
  | .local _ .vmem, ⟨8, _⟩ => ⟨S2x8x512x256, .bf16⟩
  | .local _ .vmem, ⟨9, _⟩ => ⟨S2x8x512x256, .bf16⟩
  | .local _ .vmem, ⟨10, _⟩ => ⟨S2x8x512x256, .bf16⟩
  | .local _ .vmem, ⟨11, _⟩ => ⟨S2x8x512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .f32⟩
  | .local _ .vmem, ⟨21, _⟩ => ⟨S2048x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41_0 : Ref sig .tc := ⟨.hbm, 84, rfl⟩
abbrev main_v41_1 : Ref sig .tc := ⟨.hbm, 85, rfl⟩
abbrev main_v41_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2_i32 : BitVec 32 := 2#32
  let v37 : BitVec 32 := Scalar.muli arg1 c2_i32
  let c1_i32 : BitVec 32 := 1#32
  let v38 : BitVec 32 := Scalar.addi v37 c1_i32
  let c256_i32_17 : BitVec 32 := 256#32
  let v39 : BitVec 32 := Scalar.muli v38 c256_i32_17
  v39
def k0_off1 (i : grid0.Coords) (c1_i32 : BitVec 32) : Fin 2 → Nat :=
  let arg1 : BitVec 32 := BitVec.ofNat 32 (i 1).val
  let c2_i32 : BitVec 32 := 2#32
  let v37 : BitVec 32 := Scalar.muli arg1 c2_i32
  let v38 : BitVec 32 := Scalar.addi v37 c1_i32
  let c256_i32_17 : BitVec 32 := 256#32
  let v39 : BitVec 32 := Scalar.muli v38 c256_i32_17
  let v40 : BitVec 32 := v39
  let v41 : Index := Scalar.indexCast v40
  let c0_18 : Index := 0#32
  ![v41.toNat, 0]
def k0_off2 (i : grid0.Coords) (c1_i32 : BitVec 32) : Fin 4 → Nat :=
  let c0_20 : Index := 0#32
  let arg1 : BitVec 32 := BitVec.ofNat 32 (i 1).val
  let c2_i32 : BitVec 32 := 2#32
  let v37 : BitVec 32 := Scalar.muli arg1 c2_i32
  let v38 : BitVec 32 := Scalar.addi v37 c1_i32
  let v45 : Index := Scalar.indexCast v38
  let c0_21 : Index := 0#32
  let c0_22 : Index := 0#32
  ![0, v45.toNat, 0, 0]
def k0_mult2 (i : grid0.Coords) : BitVec 32 :=
  let arg1 : BitVec 32 := BitVec.ofNat 32 (i 1).val
  let c2_i32_37 : BitVec 32 := 2#32
  let v87 : BitVec 32 := Scalar.muli arg1 c2_i32_37
  let c1_i32_38 : BitVec 32 := 1#32
  let v88 : BitVec 32 := Scalar.addi v87 c1_i32_38
  let c256_i32_39 : BitVec 32 := 256#32
  let v89 : BitVec 32 := Scalar.muli v88 c256_i32_39
  v89
def k0_off3 (i : grid0.Coords) (c1_i32_38 : BitVec 32) : Fin 2 → Nat :=
  let arg1 : BitVec 32 := BitVec.ofNat 32 (i 1).val
  let c2_i32_37 : BitVec 32 := 2#32
  let v87 : BitVec 32 := Scalar.muli arg1 c2_i32_37
  let v88 : BitVec 32 := Scalar.addi v87 c1_i32_38
  let c256_i32_39 : BitVec 32 := 256#32
  let v89 : BitVec 32 := Scalar.muli v88 c256_i32_39
  let v90 : BitVec 32 := v89
  let v91 : Index := Scalar.indexCast v90
  let c128_40 : Index := 128#32
  ![v91.toNat, 128]
def k0_off4 (i : grid0.Coords) (c1_i32_38 : BitVec 32) : Fin 4 → Nat :=
  let c1 : Index := 1#32
  let arg1 : BitVec 32 := BitVec.ofNat 32 (i 1).val
  let c2_i32_37 : BitVec 32 := 2#32
  let v87 : BitVec 32 := Scalar.muli arg1 c2_i32_37
  let v88 : BitVec 32 := Scalar.addi v87 c1_i32_38
  let v95 : Index := Scalar.indexCast v88
  let c0_42 : Index := 0#32
  let c0_43 : Index := 0#32
  ![1, v95.toNat, 0, 0]
def k0_mult3 (i : grid0.Coords) : BitVec 32 :=
  let arg1 : BitVec 32 := BitVec.ofNat 32 (i 1).val
  let c2_i32_58 : BitVec 32 := 2#32
  let v137 : BitVec 32 := Scalar.muli arg1 c2_i32_58
  let c0_i32_59 : BitVec 32 := 0#32
  let v138 : BitVec 32 := Scalar.addi v137 c0_i32_59
  let c256_i32_60 : BitVec 32 := 256#32
  let v139 : BitVec 32 := Scalar.muli v138 c256_i32_60
  v139
def k0_mult4 (i : grid0.Coords) : BitVec 32 :=
  let arg1 : BitVec 32 := BitVec.ofNat 32 (i 1).val
  let c2_i32_80 : BitVec 32 := 2#32
  let v187 : BitVec 32 := Scalar.muli arg1 c2_i32_80
  let c0_i32_81 : BitVec 32 := 0#32
  let v188 : BitVec 32 := Scalar.addi v187 c0_i32_81
  let c256_i32_82 : BitVec 32 := 256#32
  let v189 : BitVec 32 := Scalar.muli v188 c256_i32_82
  v189
@[reducible] def k0_t1_loop (i : grid0.Coords) : Scf.Loop 32 :=
  let c0_i32_102 : BitVec 32 := 0#32
  let arg1 : BitVec 32 := BitVec.ofNat 32 (i 1).val
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_104 : BitVec 32 := 1#32
  ⟨c0_i32_102, v241, c1_i32_104⟩
def k0_mult5 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let c1_i32_115 : BitVec 32 := 1#32
  let v258 : BitVec 32 := Scalar.addi v257 c1_i32_115
  let c256_i32_116 : BitVec 32 := 256#32
  let v259 : BitVec 32 := Scalar.muli v258 c256_i32_116
  v259
def k0_off5 (i : grid0.Coords) (k0_t1 : Fin (k0_t1_loop i).trips) (c1_i32_115 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let v258 : BitVec 32 := Scalar.addi v257 c1_i32_115
  let c256_i32_116 : BitVec 32 := 256#32
  let v259 : BitVec 32 := Scalar.muli v258 c256_i32_116
  let v260 : BitVec 32 := v259
  let v261 : Index := Scalar.indexCast v260
  let c0_117 : Index := 0#32
  ![v261.toNat, 0]
def k0_off6 (i : grid0.Coords) (k0_t1 : Fin (k0_t1_loop i).trips) (c1_i32_115 : BitVec 32) : Fin 4 → Nat :=
  let c0_119 : Index := 0#32
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let v258 : BitVec 32 := Scalar.addi v257 c1_i32_115
  let v265 : Index := Scalar.indexCast v258
  let c0_120 : Index := 0#32
  let c0_121 : Index := 0#32
  ![0, v265.toNat, 0, 0]
def k0_mult6 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let c1_i32_136 : BitVec 32 := 1#32
  let v306 : BitVec 32 := Scalar.addi v305 c1_i32_136
  let c256_i32_137 : BitVec 32 := 256#32
  let v307 : BitVec 32 := Scalar.muli v306 c256_i32_137
  v307
def k0_off7 (i : grid0.Coords) (k0_t1 : Fin (k0_t1_loop i).trips) (c1_i32_136 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let v306 : BitVec 32 := Scalar.addi v305 c1_i32_136
  let c256_i32_137 : BitVec 32 := 256#32
  let v307 : BitVec 32 := Scalar.muli v306 c256_i32_137
  let v308 : BitVec 32 := v307
  let v309 : Index := Scalar.indexCast v308
  let c128_138 : Index := 128#32
  ![v309.toNat, 128]
def k0_off8 (i : grid0.Coords) (k0_t1 : Fin (k0_t1_loop i).trips) (c1_i32_136 : BitVec 32) : Fin 4 → Nat :=
  let c1_140 : Index := 1#32
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let v306 : BitVec 32 := Scalar.addi v305 c1_i32_136
  let v313 : Index := Scalar.indexCast v306
  let c0_141 : Index := 0#32
  let c0_142 : Index := 0#32
  ![1, v313.toNat, 0, 0]
def k0_mult7 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_156 : BitVec 32 := 2#32
  let v353 : BitVec 32 := Scalar.muli v256 c2_i32_156
  let c0_i32_157 : BitVec 32 := 0#32
  let v354 : BitVec 32 := Scalar.addi v353 c0_i32_157
  let c256_i32_158 : BitVec 32 := 256#32
  let v355 : BitVec 32 := Scalar.muli v354 c256_i32_158
  v355
def k0_mult8 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_177 : BitVec 32 := 2#32
  let v401 : BitVec 32 := Scalar.muli v256 c2_i32_177
  let c0_i32_178 : BitVec 32 := 0#32
  let v402 : BitVec 32 := Scalar.addi v401 c0_i32_178
  let c256_i32_179 : BitVec 32 := 256#32
  let v403 : BitVec 32 := Scalar.muli v402 c256_i32_179
  v403
@[reducible] def k0_t2_loop (i : grid0.Coords) : Scf.Loop 32 :=
  let c0_i32_102 : BitVec 32 := 0#32
  let arg1 : BitVec 32 := BitVec.ofNat 32 (i 1).val
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let v238 : BitVec 32 := Scalar.addi c0_i32_102 v237
  let c1_i32_105 : BitVec 32 := 1#32
  ⟨v241, v238, c1_i32_105⟩
def k0_mult9 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let c1_i32_115 : BitVec 32 := 1#32
  let v258 : BitVec 32 := Scalar.addi v257 c1_i32_115
  let c256_i32_116 : BitVec 32 := 256#32
  let v259 : BitVec 32 := Scalar.muli v258 c256_i32_116
  v259
def k0_off9 (i : grid0.Coords) (k0_t2 : Fin (k0_t2_loop i).trips) (c1_i32_115 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let v258 : BitVec 32 := Scalar.addi v257 c1_i32_115
  let c256_i32_116 : BitVec 32 := 256#32
  let v259 : BitVec 32 := Scalar.muli v258 c256_i32_116
  let v260 : BitVec 32 := v259
  let v261 : Index := Scalar.indexCast v260
  let c0_117 : Index := 0#32
  ![v261.toNat, 0]
def k0_off10 (i : grid0.Coords) (k0_t2 : Fin (k0_t2_loop i).trips) (c1_i32_115 : BitVec 32) : Fin 4 → Nat :=
  let c0_119 : Index := 0#32
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let v258 : BitVec 32 := Scalar.addi v257 c1_i32_115
  let v265 : Index := Scalar.indexCast v258
  let c0_120 : Index := 0#32
  let c0_121 : Index := 0#32
  ![0, v265.toNat, 0, 0]
def k0_mult10 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let c1_i32_136 : BitVec 32 := 1#32
  let v306 : BitVec 32 := Scalar.addi v305 c1_i32_136
  let c256_i32_137 : BitVec 32 := 256#32
  let v307 : BitVec 32 := Scalar.muli v306 c256_i32_137
  v307
def k0_off11 (i : grid0.Coords) (k0_t2 : Fin (k0_t2_loop i).trips) (c1_i32_136 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let v306 : BitVec 32 := Scalar.addi v305 c1_i32_136
  let c256_i32_137 : BitVec 32 := 256#32
  let v307 : BitVec 32 := Scalar.muli v306 c256_i32_137
  let v308 : BitVec 32 := v307
  let v309 : Index := Scalar.indexCast v308
  let c128_138 : Index := 128#32
  ![v309.toNat, 128]
def k0_off12 (i : grid0.Coords) (k0_t2 : Fin (k0_t2_loop i).trips) (c1_i32_136 : BitVec 32) : Fin 4 → Nat :=
  let c1_140 : Index := 1#32
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let v306 : BitVec 32 := Scalar.addi v305 c1_i32_136
  let v313 : Index := Scalar.indexCast v306
  let c0_141 : Index := 0#32
  let c0_142 : Index := 0#32
  ![1, v313.toNat, 0, 0]
def k0_mult11 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_156 : BitVec 32 := 2#32
  let v353 : BitVec 32 := Scalar.muli v256 c2_i32_156
  let c0_i32_157 : BitVec 32 := 0#32
  let v354 : BitVec 32 := Scalar.addi v353 c0_i32_157
  let c256_i32_158 : BitVec 32 := 256#32
  let v355 : BitVec 32 := Scalar.muli v354 c256_i32_158
  v355
def k0_mult12 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_177 : BitVec 32 := 2#32
  let v401 : BitVec 32 := Scalar.muli v256 c2_i32_177
  let c0_i32_178 : BitVec 32 := 0#32
  let v402 : BitVec 32 := Scalar.addi v401 c0_i32_178
  let c256_i32_179 : BitVec 32 := 256#32
  let v403 : BitVec 32 := Scalar.muli v402 c256_i32_179
  v403
def k0_cond2 (i : grid0.Coords) : BitVec 1 :=
  let arg1 : BitVec 32 := BitVec.ofNat 32 (i 1).val
  let c3_i32 : BitVec 32 := 3#32
  let v252 : BitVec 1 := Scalar.cmpi .eq arg1 c3_i32
  let v253 : BitVec 32 := Scalar.extui v252
  let c0_i32_112 : BitVec 32 := 0#32
  let v254 : BitVec 1 := Scalar.cmpi .ne v253 c0_i32_112
  v254

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2048x8192 : Shape := ⟨2, ![2048, 8192]⟩
abbrev S2048x1024 : Shape := ⟨2, ![2048, 1024]⟩
abbrev S2048x2048 : Shape := ⟨2, ![2048, 2048]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩

abbrev nBuf : Space → Nat
  | .hbm => 187
  | .vmem => 0
  | .smem => 0
  | _ => 0

abbrev hbmTy0_0 (i : Nat) : BufTy := match i % 128 with
  | 0 => ⟨S2048x8192, .bf16⟩
  | 1 => ⟨S2048x1024, .bf16⟩
  | 2 => ⟨S2048x8192, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x2048, .f32⟩
  | 10 => ⟨S2048x8x128, .f32⟩
  | 11 => ⟨S8x2048x128, .f32⟩
  | 12 => ⟨S2048x8x128, .f32⟩
  | 13 => ⟨S8x2048x128, .f32⟩
  | 14 => ⟨S2048x8x128, .f32⟩
  | 15 => ⟨S8x2048x128, .f32⟩
  | 16 => ⟨S8x2048x2048, .f32⟩
  | 17 => ⟨S_, .f32⟩
  | 18 => ⟨S8x2048x2048, .f32⟩
  | 19 => ⟨S8x2048x2048, .f32⟩
  | 20 => ⟨S2048, .i32⟩
  | 21 => ⟨S2048x1, .i32⟩
  | 22 => ⟨S2048, .i32⟩
  | 23 => ⟨S1x2048, .i32⟩
  | 24 => ⟨S2048x2048, .i32⟩
  | 25 => ⟨S2048x2048, .i32⟩
  | 26 => ⟨S2048x2048, .i1⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .i1⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .i1⟩
  | 46 => ⟨S_, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .i1⟩
  | 52 => ⟨S_, .f32⟩
  | 53 => ⟨S8x2048x2048, .f32⟩
  | 54 => ⟨S8x2048x2048, .f32⟩
  | 55 => ⟨S8x2048x2048, .f32⟩
  | 56 => ⟨S8x2048x2048, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S8x2048x2048, .f32⟩
  | 65 => ⟨S8x2048x2048, .i1⟩
  | 66 => ⟨S_, .f32⟩
  | 67 => ⟨S8x2048x2048, .f32⟩
  | 68 => ⟨S8x2048x2048, .f32⟩
  | 69 => ⟨S8x2048x2048, .f32⟩
  | 70 => ⟨S8x2048x2048, .f32⟩
  | 71 => ⟨S8x2048x2048, .f32⟩
  | 72 => ⟨S_, .f32⟩
  | 73 => ⟨S8x2048x2048, .f32⟩
  | 74 => ⟨S8x2048x2048, .f32⟩
  | 75 => ⟨S8x2048x2048, .f32⟩
  | 76 => ⟨S_, .f32⟩
  | 77 => ⟨S_, .f32⟩
  | 78 => ⟨S8x2048x2048, .i1⟩
  | 79 => ⟨S8x2048x2048, .f32⟩
  | 80 => ⟨S8x2048x2048, .f32⟩
  | 81 => ⟨S_, .f32⟩
  | 82 => ⟨S8x2048x2048, .f32⟩
  | 83 => ⟨S_, .f32⟩
  | 84 => ⟨S_, .f32⟩
  | 85 => ⟨S8x2048x2048, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .i1⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S_, .f32⟩
  | 109 => ⟨S8x2048x2048, .f32⟩
  | 110 => ⟨S8x2048x2048, .i1⟩
  | 111 => ⟨S_, .f32⟩
  | 112 => ⟨S8x2048x2048, .f32⟩
  | 113 => ⟨S8x2048x2048, .f32⟩
  | 114 => ⟨S8x2048x2048, .f32⟩
  | 115 => ⟨S8x2048x2048, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S8x2048x2048, .f32⟩
  | 124 => ⟨S8x2048x2048, .i1⟩
  | 125 => ⟨S_, .f32⟩
  | 126 => ⟨S8x2048x2048, .f32⟩
  | 127 => ⟨S8x2048x2048, .f32⟩
  | _ => ⟨S2048x8192, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S_, .f32⟩
  | 4 => ⟨S8x2048x2048, .f32⟩
  | 5 => ⟨S8x2048x2048, .f32⟩
  | 6 => ⟨S8x2048x2048, .f32⟩
  | 7 => ⟨S8x2048x2048, .f32⟩
  | 8 => ⟨S8x2048x2048, .f32⟩
  | 9 => ⟨S_, .f32⟩
  | 10 => ⟨S_, .f32⟩
  | 11 => ⟨S8x2048x2048, .i1⟩
  | 12 => ⟨S8x2048x2048, .f32⟩
  | 13 => ⟨S8x2048x2048, .f32⟩
  | 14 => ⟨S_, .f32⟩
  | 15 => ⟨S8x2048x2048, .f32⟩
  | 16 => ⟨S8x2048x128, .f32⟩
  | 17 => ⟨S2048x8x128, .f32⟩
  | 18 => ⟨S2048x1024, .f32⟩
  | 19 => ⟨S2048x1024, .f32⟩
  | 20 => ⟨S2048x8x128, .f32⟩
  | 21 => ⟨S8x2048x128, .f32⟩
  | 22 => ⟨S8x128x2048, .f32⟩
  | 23 => ⟨S8x2048x128, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S_, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .f32⟩
  | 48 => ⟨S8x2048x128, .f32⟩
  | 49 => ⟨S8x2048x128, .f32⟩
  | 50 => ⟨S2048x8x128, .f32⟩
  | 51 => ⟨S2048x1024, .f32⟩
  | 52 => ⟨S2048x8x128, .f32⟩
  | 53 => ⟨S2048x1024, .f32⟩
  | 54 => ⟨S2048x8x128, .f32⟩
  | 55 => ⟨S2048x1024, .f32⟩
  | 56 => ⟨S2048x1024, .bf16⟩
  | 57 => ⟨S2048x1024, .bf16⟩
  | 58 => ⟨S2048x1024, .bf16⟩
  | _ => ⟨S2048x8192, .bf16⟩

abbrev hbmTy (i : Nat) : BufTy := match i / 128 with
  | 0 => hbmTy0_0 i
  | 1 => hbmTy0_1 i
  | _ => ⟨S2048x8192, .bf16⟩

abbrev bufTy : (tb : Table) → Fin (tcTables nBuf tb) → BufTy
  | .hbm, ⟨i, _⟩ => hbmTy i
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v25_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v25_2 : Ref sig .tc := ⟨.hbm, 74, rfl⟩
abbrev main_v25_0 : Ref sig .tc := ⟨.hbm, 75, rfl⟩
abbrev main_cst_0 : Ref sig .tc := ⟨.hbm, 76, rfl⟩
abbrev main_call1_v0 : Ref sig .tc := ⟨.hbm, 77, rfl⟩
abbrev main_v26_1 : Ref sig .tc := ⟨.hbm, 78, rfl⟩
abbrev main_call1_v2 : Ref sig .tc := ⟨.hbm, 79, rfl⟩
abbrev main_v26_0 : Ref sig .tc := ⟨.hbm, 80, rfl⟩
abbrev main_call1_cst : Ref sig .tc := ⟨.hbm, 81, rfl⟩
abbrev main_v26_2 : Ref sig .tc := ⟨.hbm, 82, rfl⟩
abbrev main_call2_cst : Ref sig .tc := ⟨.hbm, 83, rfl⟩
abbrev main_call2_v0 : Ref sig .tc := ⟨.hbm, 84, rfl⟩
abbrev main_v27 : Ref sig .tc := ⟨.hbm, 85, rfl⟩
abbrev main_v28 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1_0 : Ref sig .tc := ⟨.hbm, 101, rfl⟩
abbrev main_call3_call0_cst_0 : Ref sig .tc := ⟨.hbm, 102, rfl⟩
abbrev main_call3_call0_v13 : Ref sig .tc := ⟨.hbm, 103, rfl⟩
abbrev main_call3_call0_v14 : Ref sig .tc := ⟨.hbm, 104, rfl⟩
abbrev main_call3_call0_cst_1 : Ref sig .tc := ⟨.hbm, 105, rfl⟩
abbrev main_call3_call0_v15 : Ref sig .tc := ⟨.hbm, 106, rfl⟩
abbrev main_call3_call0_v16 : Ref sig .tc := ⟨.hbm, 107, rfl⟩
abbrev main_call3_call0_cst_2 : Ref sig .tc := ⟨.hbm, 108, rfl⟩
abbrev main_call3_call0_v17 : Ref sig .tc := ⟨.hbm, 109, rfl⟩
abbrev main_call3_call0_v18 : Ref sig .tc := ⟨.hbm, 110, rfl⟩
abbrev main_call3_call0_cst_3 : Ref sig .tc := ⟨.hbm, 111, rfl⟩
abbrev main_call3_call0_v19 : Ref sig .tc := ⟨.hbm, 112, rfl⟩
abbrev main_call3_call0_v20 : Ref sig .tc := ⟨.hbm, 113, rfl⟩
abbrev main_call3_call0_v21 : Ref sig .tc := ⟨.hbm, 114, rfl⟩
abbrev main_v29_1 : Ref sig .tc := ⟨.hbm, 115, rfl⟩
abbrev main_call3_call0_cst_4 : Ref sig .tc := ⟨.hbm, 116, rfl⟩
abbrev main_call3_call0_cst_5 : Ref sig .tc := ⟨.hbm, 117, rfl⟩
abbrev main_call3_call0_v23 : Ref sig .tc := ⟨.hbm, 118, rfl⟩
abbrev main_call3_call0_cst_6 : Ref sig .tc := ⟨.hbm, 119, rfl⟩
abbrev main_call3_call0_cst_7 : Ref sig .tc := ⟨.hbm, 120, rfl⟩
abbrev main_call3_call0_v24 : Ref sig .tc := ⟨.hbm, 121, rfl⟩
abbrev main_call3_call0_cst_8 : Ref sig .tc := ⟨.hbm, 122, rfl⟩
abbrev main_call3_call0_v25 : Ref sig .tc := ⟨.hbm, 123, rfl⟩
abbrev main_call3_call0_v26 : Ref sig .tc := ⟨.hbm, 124, rfl⟩
abbrev main_call3_call0_cst_9 : Ref sig .tc := ⟨.hbm, 125, rfl⟩
abbrev main_call3_call0_v27 : Ref sig .tc := ⟨.hbm, 126, rfl⟩
abbrev main_call3_call0_v28 : Ref sig .tc := ⟨.hbm, 127, rfl⟩
abbrev main_call3_call0_v29 : Ref sig .tc := ⟨.hbm, 128, rfl⟩
abbrev main_call3_call0_v30 : Ref sig .tc := ⟨.hbm, 129, rfl⟩
abbrev main_call3_call0_v31 : Ref sig .tc := ⟨.hbm, 130, rfl⟩
abbrev main_call3_call0_cst_10 : Ref sig .tc := ⟨.hbm, 131, rfl⟩
abbrev main_call3_call0_v32 : Ref sig .tc := ⟨.hbm, 132, rfl⟩
abbrev main_v29_2 : Ref sig .tc := ⟨.hbm, 133, rfl⟩
abbrev main_v29_0 : Ref sig .tc := ⟨.hbm, 134, rfl⟩
abbrev main_v30 : Ref sig .tc := ⟨.hbm, 135, rfl⟩
abbrev main_v31 : Ref sig .tc := ⟨.hbm, 136, rfl⟩
abbrev main_cst_1 : Ref sig .tc := ⟨.hbm, 137, rfl⟩
abbrev main_call4_v0 : Ref sig .tc := ⟨.hbm, 138, rfl⟩
abbrev main_v32_1 : Ref sig .tc := ⟨.hbm, 139, rfl⟩
abbrev main_call4_v2 : Ref sig .tc := ⟨.hbm, 140, rfl⟩
abbrev main_v32_0 : Ref sig .tc := ⟨.hbm, 141, rfl⟩
abbrev main_call4_cst : Ref sig .tc := ⟨.hbm, 142, rfl⟩
abbrev main_v32_2 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_call5_cst : Ref sig .tc := ⟨.hbm, 153, rfl⟩
abbrev main_call5_v0 : Ref sig .tc := ⟨.hbm, 154, rfl⟩
abbrev main_v42 : Ref sig .tc := ⟨.hbm, 155, rfl⟩
abbrev main_v43 : Ref sig .tc := ⟨.hbm, 156, rfl⟩
abbrev main_call6_v0 : Ref sig .tc := ⟨.hbm, 157, rfl⟩
abbrev main_call6_v1 : Ref sig .tc := ⟨.hbm, 158, rfl⟩
abbrev main_v44 : Ref sig .tc := ⟨.hbm, 159, rfl⟩
abbrev main_v45 : Ref sig .tc := ⟨.hbm, 160, rfl⟩
abbrev main_call7_cst : Ref sig .tc := ⟨.hbm, 161, rfl⟩
abbrev main_call7_v0 : Ref sig .tc := ⟨.hbm, 162, rfl⟩
abbrev main_v46 : Ref sig .tc := ⟨.hbm, 163, rfl⟩
abbrev main_v47 : Ref sig .tc := ⟨.hbm, 164, rfl⟩
abbrev main_call8_cst : Ref sig .tc := ⟨.hbm, 165, rfl⟩
abbrev main_call8_v0 : Ref sig .tc := ⟨.hbm, 166, rfl⟩
abbrev main_v48 : Ref sig .tc := ⟨.hbm, 167, rfl⟩
abbrev main_call9_v0 : Ref sig .tc := ⟨.hbm, 168, rfl⟩
abbrev main_call9_v1 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_cst_2 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩

abbrev nD : Nat := 1
abbrev τ : Topo := Topo.v7x

variable {F : FTy → Type} [FloatOps F]
-- ==== KernelDu.lean ====
abbrev S2048x8192 : Shape := ⟨2, ![2048, 8192]⟩
abbrev S1024x8192 : Shape := ⟨2, ![1024, 8192]⟩
abbrev S2048x1024 : Shape := ⟨2, ![2048, 1024]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond5 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceDuIdeal.lean ====
abbrev S2048x8192 : Shape := ⟨2, ![2048, 8192]⟩
abbrev S1024x8192 : Shape := ⟨2, ![1024, 8192]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x8192, .f32⟩
  | .hbm, ⟨25, _⟩ => ⟨S2048x8192, .f32⟩
  | .hbm, ⟨26, _⟩ => ⟨S2048x8192, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelDgu.lean ====
abbrev S2048x1024 : Shape := ⟨2, ![2048, 1024]⟩
abbrev S2816x1024 : Shape := ⟨2, ![2816, 1024]⟩
abbrev S2x2048x2816 : Shape := ⟨3, ![2, 2048, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDguIdeal.lean ====
abbrev S2048x1024 : Shape := ⟨2, ![2048, 1024]⟩
abbrev S2816x1024 : Shape := ⟨2, ![2816, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .f32⟩
  | .hbm, ⟨4, _⟩ => ⟨S1x2048x2816, .f32⟩
  | .hbm, ⟨5, _⟩ => ⟨S2048x2816, .f32⟩
  | .hbm, ⟨6, _⟩ => ⟨S1x2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2816x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S1x2048x2816, .f32⟩
  | .hbm, ⟨33, _⟩ => ⟨S1x2048x2816, .f32⟩
  | .hbm, ⟨34, _⟩ => ⟨S2x2048x2816, .f32⟩
  | .hbm, ⟨35, _⟩ => ⟨S2x2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== KernelDn.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_27 : BitVec 32 := 0#32
  let v48 : BitVec 1 := Scalar.cmpi .eq arg0 c0_i32_27
  let v49 : BitVec 32 := Scalar.extui v48
  let c0_i32_28 : BitVec 32 := 0#32
  let v50 : BitVec 1 := Scalar.cmpi .ne v49 c0_i32_28
  v50

def k0_cond5 (i : grid0.Coords) : BitVec 1 :=
  let arg0 : BitVec 32 := BitVec.ofNat 32 (i 0).val
  let c0_i32_29 : BitVec 32 := 0#32
  let v51 : BitVec 1 := Scalar.cmpi .sgt arg0 c0_i32_29
  let v52 : BitVec 32 := Scalar.extui v51
  let c0_i32_30 : BitVec 32 := 0#32
  let v53 : BitVec 1 := Scalar.cmpi .ne v52 c0_i32_30
  v53

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceDnIdeal.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1x2048x2816 : Shape := ⟨3, ![1, 2048, 2816]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2x2048x2816, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1024x5632, .f32⟩
  | .hbm, ⟨26, _⟩ => ⟨S2048x5632, .f32⟩
  | .hbm, ⟨27, _⟩ => ⟨S2048x2816, .f32⟩
  | .hbm, ⟨28, _⟩ => ⟨S2048x2816, .f32⟩
  | .hbm, ⟨29, _⟩ => ⟨S1x2048x2816, .f32⟩
  | .hbm, ⟨30, _⟩ => ⟨S2048x2816, .f32⟩
  | .hbm, ⟨31, _⟩ => ⟨S1x2048x2816, .f32⟩
  | .hbm, ⟨32, _⟩ => ⟨S2048x2816, .f32⟩
  | .hbm, ⟨33, _⟩ => ⟨S2048x5632, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== KernelDwin.lean ====
abbrev S2048x1024 : Shape := ⟨2, ![2048, 1024]⟩
abbrev S2048x8192 : Shape := ⟨2, ![2048, 8192]⟩
abbrev S1024x8192 : Shape := ⟨2, ![1024, 8192]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S1024x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinIdeal.lean ====
abbrev S2048x1024 : Shape := ⟨2, ![2048, 1024]⟩
abbrev S2048x8192 : Shape := ⟨2, ![2048, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S_, .f32⟩
  | .hbm, ⟨3, _⟩ => ⟨S1024x8192, .f32⟩
  | .hbm, ⟨4, _⟩ => ⟨S2048x1024, .f32⟩
  | .hbm, ⟨5, _⟩ => ⟨S2048x8192, .f32⟩
  | .hbm, ⟨6, _⟩ => ⟨S2048x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwgu.lean ====
abbrev S2048x1024 : Shape := ⟨2, ![2048, 1024]⟩
abbrev S2x2048x2816 : Shape := ⟨3, ![2, 2048, 2816]⟩
abbrev S1024x5632 : Shape := ⟨2, ![1024, 5632]⟩
abbrev S2048x512 : Shape := ⟨2, ![2048, 512]⟩
abbrev S1x2048x2816 : Shape := ⟨3, ![1, 2048, 2816]⟩
abbrev S512x2816 : Shape := ⟨2, ![512, 2816]⟩
abbrev S2048x2816 : Shape := ⟨2, ![2048, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1024x5632, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2816, .bf16⟩
  | .local _ .vmem, ⟨5, _⟩ => ⟨S512x2816, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwguIdeal.lean ====
abbrev S2048x1024 : Shape := ⟨2, ![2048, 1024]⟩
abbrev S2x2048x2816 : Shape := ⟨3, ![2, 2048, 2816]⟩
abbrev S_ : Shape := ⟨0, ![]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S2x2048x2816, .f32⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S1x2048x2816, .f32⟩
  | .hbm, ⟨10, _⟩ => ⟨S2048x2816, .f32⟩
  | .hbm, ⟨11, _⟩ => ⟨S1x2048x2816, .f32⟩
  | .hbm, ⟨12, _⟩ => ⟨S2048x2816, .f32⟩
  | .hbm, ⟨13, _⟩ => ⟨S2048x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelDwdown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwdownIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelConv.lean ====
abbrev S2048x1024 : Shape := ⟨2, ![2048, 1024]⟩
abbrev S2048x8192 : Shape := ⟨2, ![2048, 8192]⟩
abbrev S3x1024 : Shape := ⟨2, ![3, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S3x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x256, .f32⟩
  | .local _ .vmem, ⟨17, _⟩ => ⟨S3x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceConvIdeal.lean ====
abbrev S2048x1024 : Shape := ⟨2, ![2048, 1024]⟩
abbrev S2048x8192 : Shape := ⟨2, ![2048, 8192]⟩
abbrev S3x1024 : Shape := ⟨2, ![3, 1024]⟩
abbrev S2048x5120 : Shape := ⟨2, ![2048, 5120]⟩
abbrev S_ : Shape := ⟨0, ![]⟩
abbrev S2x1024 : Shape := ⟨2, ![2, 1024]⟩
abbrev S2046x1024 : Shape := ⟨2, ![2046, 1024]⟩
abbrev S1x1024 : Shape := ⟨2, ![1, 1024]⟩
abbrev S1024 : Shape := ⟨1, ![1024]⟩
abbrev S2047x1024 : Shape := ⟨2, ![2047, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S3x1024, .f32⟩
  | .hbm, ⟨3, _⟩ => ⟨S2048x8192, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x5120, .f32⟩
  | .hbm, ⟨8, _⟩ => ⟨S2048x1024, .f32⟩
  | .hbm, ⟨9, _⟩ => ⟨S_, .f32⟩
  | .hbm, ⟨10, _⟩ => ⟨S2x1024, .f32⟩
  | .hbm, ⟨11, _⟩ => ⟨S2046x1024, .f32⟩
  | .hbm, ⟨12, _⟩ => ⟨S2048x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S2047x1024, .f32⟩
  | .hbm, ⟨23, _⟩ => ⟨S2048x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S1x1024, .f32⟩
  | .hbm, ⟨66, _⟩ => ⟨S2047x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S2x1024, .f32⟩
  | .hbm, ⟨83, _⟩ => ⟨S2046x1024, .f32⟩
  | .hbm, ⟨84, _⟩ => ⟨S_, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .bf16⟩
  | .hbm, ⟨90, _⟩ => ⟨S2048x1024, .bf16⟩
  | .hbm, ⟨91, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== KernelDmerge.lean ====
abbrev S2048x1024 : Shape := ⟨2, ![2048, 1024]⟩
abbrev S1024x1024 : Shape := ⟨2, ![1024, 1024]⟩
abbrev S2048x8192 : Shape := ⟨2, ![2048, 8192]⟩
abbrev S1x2048 : Shape := ⟨2, ![1, 2048]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S512 : Shape := ⟨1, ![512]⟩

abbrev nBuf : Space → Nat
  | .hbm => 14
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x8192, .bf16⟩
  | .hbm, ⟨5, _⟩ => ⟨S1x2048, .f32⟩
  | .hbm, ⟨6, _⟩ => ⟨S1x1024, .f32⟩
  | .hbm, ⟨7, _⟩ => ⟨S1x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S1x1024, .f32⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_33 : BitVec 32 := 0#32
  let v59 : BitVec 1 := Scalar.cmpi .ne v58 c0_i32_33
  v59

def k0_cond2 (i : grid0.Coords) : BitVec 1 :=
  let arg1 : BitVec 32 := BitVec.ofNat 32 (i 1).val
  let c0_i32_34 : BitVec 32 := 0#32
  let v60 : BitVec 1 := Scalar.cmpi .sgt arg1 c0_i32_34
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceDmergeIdeal.lean ====
abbrev S2048x1024 : Shape := ⟨2, ![2048, 1024]⟩
abbrev S1024x1024 : Shape := ⟨2, ![1024, 1024]⟩
abbrev S2048x8192 : Shape := ⟨2, ![2048, 8192]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x8192, .bf16⟩
  | .hbm, ⟨5, _⟩ => ⟨S1x2048, .f32⟩
  | .hbm, ⟨6, _⟩ => ⟨S2048x1024, .f32⟩
  | .hbm, ⟨7, _⟩ => ⟨S2048x1024, .f32⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S2048x1024, .f32⟩
  | .hbm, ⟨43, _⟩ => ⟨S2048x1024, .f32⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | .hbm, ⟨48, _⟩ => ⟨S1x1024, .f32⟩
  | .hbm, ⟨49, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== KernelXattn.lean ====
abbrev S2048x1024 : Shape := ⟨2, ![2048, 1024]⟩
abbrev S256x2048 : Shape := ⟨2, ![256, 2048]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x1024, .bf16⟩
  | .hbm, ⟨5, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_21 : BitVec 32 := 0#32
  let v40 : BitVec 1 := Scalar.cmpi .eq arg1 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceXattnIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S2048x1024, .f32⟩
  | .hbm, ⟨7, _⟩ => ⟨S2048x4x256, .f32⟩
  | .hbm, ⟨8, _⟩ => ⟨S256x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x4x256, .f32⟩
  | .hbm, ⟨57, _⟩ => ⟨S4x256x2048, .f32⟩
  | .hbm, ⟨58, _⟩ => ⟨S4x2048x256, .f32⟩
  | .hbm, ⟨59, _⟩ => ⟨S4x256x256, .f32⟩
  | .hbm, ⟨60, _⟩ => ⟨S256x4x256, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x256, .f32⟩
  | .hbm, ⟨79, _⟩ => ⟨S256x4x256, .f32⟩
  | .hbm, ⟨80, _⟩ => ⟨S4x2048x256, .f32⟩
  | .hbm, ⟨81, _⟩ => ⟨S2048x4x256, .f32⟩
  | .hbm, ⟨82, _⟩ => ⟨S256x1024, .f32⟩
  | .hbm, ⟨83, _⟩ => ⟨S256x1024, .f32⟩
  | .hbm, ⟨84, _⟩ => ⟨S2048x1024, .f32⟩
  | .hbm, ⟨85, _⟩ => ⟨S2048x1024, .bf16⟩
  | .hbm, ⟨86, _⟩ => ⟨S256x1024, .bf16⟩
  | .hbm, ⟨87, _⟩ => ⟨S256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== KernelDhn.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_20 : BitVec 32 := 0#32
  let v39 : BitVec 1 := Scalar.cmpi .ne v38 c0_i32_20
  v39

def k0_cond2 (i : grid0.Coords) : BitVec 1 :=
  let arg0 : BitVec 32 := BitVec.ofNat 32 (i 0).val
  let c0_i32_21 : BitVec 32 := 0#32
  let v40 : BitVec 1 := Scalar.cmpi .sgt arg0 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceDhnIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelDwsq.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwsqIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwattn.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwattnIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDsq.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDsqIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelUp.lean ====
abbrev S2048x1024 : Shape := ⟨2, ![2048, 1024]⟩
abbrev S1024x5632 : Shape := ⟨2, ![1024, 5632]⟩
abbrev S2x2048x2816 : Shape := ⟨3, ![2, 2048, 2816]⟩
abbrev S2048x2816 : Shape := ⟨2, ![2048, 2816]⟩
abbrev S1024x1024 : Shape := ⟨2, ![1024, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2x2048x2816, .bf16⟩
  | .hbm, ⟨3, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceUpIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S1x2048x2816, .f32⟩
  | .hbm, ⟨8, _⟩ => ⟨S1x2048x2816, .f32⟩
  | .hbm, ⟨9, _⟩ => ⟨S2x2048x2816, .f32⟩
  | .hbm, ⟨10, _⟩ => ⟨S2x2048x2816, .bf16⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== KernelDown.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceDownIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelIn.lean ====
abbrev S2048x1024 : Shape := ⟨2, ![2048, 1024]⟩
abbrev S1024x8192 : Shape := ⟨2, ![1024, 8192]⟩
abbrev S2048x8192 : Shape := ⟨2, ![2048, 8192]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S2048x8192, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2048x1024 : Shape := ⟨2, ![2048, 1024]⟩
abbrev S1024x8192 : Shape := ⟨2, ![1024, 8192]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S2048x1024, .f32⟩
  | .hbm, ⟨3, _⟩ => ⟨S1024x8192, .f32⟩
  | .hbm, ⟨4, _⟩ => ⟨S2048x8192, .f32⟩
  | .hbm, ⟨5, _⟩ => ⟨S2048x8192, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMerge.lean ====
abbrev S2048x1024 : Shape := ⟨2, ![2048, 1024]⟩
abbrev S1024x1024 : Shape := ⟨2, ![1024, 1024]⟩
abbrev S2048x8192 : Shape := ⟨2, ![2048, 8192]⟩
abbrev S1x2048 : Shape := ⟨2, ![1, 2048]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 11
  | .vmem => 22
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1024x1024, .bf16⟩
  | .hbm, ⟨4, _⟩ => ⟨S2048x8192, .bf16⟩
  | .hbm, ⟨5, _⟩ => ⟨S1x2048, .f32⟩
  | .hbm, ⟨6, _⟩ => ⟨S1x1024, .f32⟩
  | .hbm, ⟨7, _⟩ => ⟨S1x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMergeIdeal.lean ====
abbrev S2048x1024 : Shape := ⟨2, ![2048, 1024]⟩
abbrev S1024x1024 : Shape := ⟨2, ![1024, 1024]⟩
abbrev S2048x8192 : Shape := ⟨2, ![2048, 8192]⟩
abbrev S1x2048 : Shape := ⟨2, ![1, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1024x1024, .bf16⟩
  | .hbm, ⟨4, _⟩ => ⟨S2048x8192, .bf16⟩
  | .hbm, ⟨5, _⟩ => ⟨S1x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1024x1024, .f32⟩
  | .hbm, ⟨22, _⟩ => ⟨S2048x1024, .f32⟩
  | .hbm, ⟨23, _⟩ => ⟨S1024x1024, .f32⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelOut.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceOutIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelCq.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCqIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelLoss.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_26 : BitVec 32 := 0#32
  let v57 : BitVec 1 := Scalar.cmpi .ne v56 c0_i32_26
  v57

def k0_cond2 (i : grid0.Coords) : BitVec 1 :=
  let arg0 : BitVec 32 := BitVec.ofNat 32 (i 0).val
  let c0_i32_27 : BitVec 32 := 0#32
  let v58 : BitVec 1 := Scalar.cmpi .sgt arg0 c0_i32_27
  let v59 : BitVec 32 := Scalar.extui v58
  let c0_i32_28 : BitVec 32 := 0#32
  let v60 : BitVec 1 := Scalar.cmpi .ne v59 c0_i32_28
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLossIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048x1024, .f32⟩
  | .hbm, ⟨79, _⟩ => ⟨S2048x1024, .f32⟩
  | .hbm, ⟨80, _⟩ => ⟨S2048x1024, .bf16⟩
  | .hbm, ⟨81, _⟩ => ⟨S1x128, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== KernelKv.lean ====
abbrev S256x1024 : Shape := ⟨2, ![256, 1024]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x512, .bf16⟩
  | .local _ .vmem, ⟨2, _⟩ => ⟨S1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDwkv.lean ====
abbrev S256x1024 : Shape := ⟨2, ![256, 1024]⟩
abbrev S256x2048 : Shape := ⟨2, ![256, 2048]⟩
abbrev S1024x2048 : Shape := ⟨2, ![1024, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S1024x2048, .bf16⟩
  | .local _ .vmem, ⟨0, _⟩ => ⟨S256x512, .bf16⟩
  | .local _ .vmem, ⟨1, _⟩ => ⟨S256x512, .bf16⟩
  | .local _ .vmem, ⟨2, _⟩ => ⟨S256x2048, .bf16⟩
  | .local _ .vmem, ⟨3, _⟩ => ⟨S512x2048, .bf16⟩
  | .local _ .vmem, ⟨4, _⟩ => ⟨S512x2048, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwkvIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDmn.lean ====
abbrev S256x2048 : Shape := ⟨2, ![256, 2048]⟩
abbrev S1024x2048 : Shape := ⟨2, ![1024, 2048]⟩
abbrev S256x1024 : Shape := ⟨2, ![256, 1024]⟩
abbrev S512x2048 : Shape := ⟨2, ![512, 2048]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S256x1024, .f32⟩
  | .local _ .vmem, ⟨0, _⟩ => ⟨S256x2048, .bf16⟩
  | .local _ .vmem, ⟨1, _⟩ => ⟨S512x2048, .bf16⟩
  | .local _ .vmem, ⟨2, _⟩ => ⟨S512x2048, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmnIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x2048, .f32⟩
  | .hbm, ⟨7, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelXfwd.lean ====
abbrev S2048x1024 : Shape := ⟨2, ![2048, 1024]⟩
abbrev S256x2048 : Shape := ⟨2, ![256, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceXfwdIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S256x2048, .f32⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S2048x4x256, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x256x2048, .f32⟩
  | .hbm, ⟨28, _⟩ => ⟨S2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelCfwd.lean ====
abbrev S2048x8192 : Shape := ⟨2, ![2048, 8192]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x8192, .bf16⟩
  | .hbm, ⟨1, _⟩ => ⟨S3x1024, .f32⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceCfwdIdeal.lean ====
abbrev S2048x8192 : Shape := ⟨2, ![2048, 8192]⟩
abbrev S3x1024 : Shape := ⟨2, ![3, 1024]⟩
abbrev S2048x1024 : Shape := ⟨2, ![2048, 1024]⟩
abbrev S2048x5120 : Shape := ⟨2, ![2048, 5120]⟩
abbrev S_ : Shape := ⟨0, ![]⟩
abbrev S2x1024 : Shape := ⟨2, ![2, 1024]⟩
abbrev S2046x1024 : Shape := ⟨2, ![2046, 1024]⟩
abbrev S1x1024 : Shape := ⟨2, ![1, 1024]⟩
abbrev S1024 : Shape := ⟨1, ![1024]⟩
abbrev S2047x1024 : Shape := ⟨2, ![2047, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S3x1024, .f32⟩
  | .hbm, ⟨2, _⟩ => ⟨S2048x8192, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x5120, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2046x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S1x1024, .f32⟩
  | .hbm, ⟨19, _⟩ => ⟨S2047x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== KernelNorm.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelMnorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceMnormIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelDmem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v16 : BitVec 32 := Scalar.extui v13
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32 : BitVec 32 := 0#32
  let v13 : BitVec 1 := Scalar.cmpi .eq arg0 c0_i32
  let v_true : BitVec 1 := 1#1
  let v18 : BitVec 1 := Scalar.xori v13 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceDmemIdeal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Model.lean ====
/-
  The kernel's arithmetic as a function of the windows' contents: one tile of 256 keys against a block of 512
  queries, for one of the two heads a grid point holds, and the block of two tiles the loop's trip takes.
-/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.Proof.PI

open Cert.KernelIdeal Cert.KernelIdeal.Gen
open Idealize.ShloMosaic Idealize.ShloMosaic.TcCoe Idealize.ShloMosaic.VecWindow

variable {F : FTy → Type} [FloatOps F]

/-- What the tiles of one grid point read: for each of the two heads the queries `q`, the output's gradient `d`
    and the row sums `e` of it times the output; and the keys, the values, the weights and the betas whole. -/
structure Env (F : FTy → Type) [FloatOps F] where
  q : Fin 2 → Vec F S512x128 .bf16
  d : Fin 2 → Vec F S512x128 .bf16
  e : Fin 2 → FVec F S512x1 .f32
  K : Vec F S2048x256 .bf16
  V : Vec F S2048x256 .bf16
  A : Vec F S2x8x512x256 .bf16
  B : Vec F S2x8x512x256 .bf16

/-- What the tiles carry: for each head the running row sum `c` and the queries' gradient `y` so far, and the
    gradients of the keys and of the values. -/
structure St (F : FTy → Type) [FloatOps F] where
  c : Fin 2 → FVec F S512x1 .f32
  y : Fin 2 → FVec F S512x128 .f32
  dk : Vec F S2048x256 .f32
  dv : Vec F S2048x256 .f32

/-- Where tile `j` of head `h` lies among the keys. -/
abbrev ko (h : Fin 2) (j : Fin 8) : Fin 2 → ℕ := ![256 * j.val, 128 * h.val]
/-- Where tile `j` of head `h` lies among the weights. -/
abbrev ao (h : Fin 2) (j : Fin 8) : Fin 4 → ℕ := ![h.val, j.val, 0, 0]

theorem ko_inb (h : Fin 2) (j : Fin 8) : ∀ a : Fin 2, ko h j a + S256x128.size a ≤ S2048x256.size a := by
  revert h j; decide +kernel
theorem ao_inb (h : Fin 2) (j : Fin 8) : ∀ a : Fin 4, ao h j a + S1x1x512x256.size a ≤ S2x8x512x256.size a := by
  revert h j; decide +kernel

namespace Env
variable (E : Env F) (h : Fin 2) (j : Fin 8)

def kt : Vec F S256x128 .bf16 := window E.K (ko h j) S256x128.size (ko_inb h j)
def vt : Vec F S256x128 .bf16 := window E.V (ko h j) S256x128.size (ko_inb h j)
def at' : Vec F S1x1x512x256 .bf16 := window E.A (ao h j) S1x1x512x256.size (ao_inb h j)
def bt : Vec F S1x1x512x256 .bf16 := window E.B (ao h j) S1x1x512x256.size (ao_inb h j)

/-- The gradient of the tile's logits, the running row sum being `c`; `m` is the causal mask of a diagonal tile. -/
def dz (m : Option (IVec S512x256 1)) (c : FVec F S512x1 .f32) : FVec F S512x256 .bf16 :=
  match m with
  | none => k0_pay18 (E.d h) (E.e h) k0_pay69 c (E.vt h j) (E.at' h j) (E.bt h j)
  | some m => k0_pay77 (E.d h) (E.e h) m k0_pay69 c (E.vt h j) (E.at' h j) (E.bt h j)

/-- The keys' gradient at the tile, `old` before it. -/
def dkT (z : FVec F S512x256 .bf16) (old : Vec F S256x128 .f32) : FVec F S256x128 .f32 :=
  shapeCast S256x128 (addf old (matmul dot_S512x256_S512x128_S256x128_0_0_1_1_n_n none z (E.q h)
    (constant S256x128 .f32 0x00000000#32))) shapeCasts_S256x128_S256x128

/-- The values' gradient at the tile, `old` before it. -/
def dvT (old : Vec F S256x128 .f32) : FVec F S256x128 .f32 := k0_pay20 (E.d h) (k0_pay15 (E.at' h j)) old

/-- One tile. -/
def step (m : Option (IVec S512x256 1)) (S : St F) : St F where
  c := Function.update S.c h (k0_pay17 (E.d h) (S.c h) (E.vt h j) (E.at' h j))
  y := Function.update S.y h (k0_pay21 (S.y h) (E.kt h j) (E.dz h j m (S.c h)))
  dk := put S.dk (ko h j) S256x128.size (E.dkT h (E.dz h j m (S.c h)) (window S.dk (ko h j) S256x128.size (ko_inb h j)))
  dv := put S.dv (ko h j) S256x128.size (E.dvT h j (window S.dv (ko h j) S256x128.size (ko_inb h j)))

end Env

/-- The two tiles of block `b`. -/
def lo (b : Fin 4) : Fin 8 := ⟨2 * b.val, by omega⟩
def hi (b : Fin 4) : Fin 8 := ⟨2 * b.val + 1, by omega⟩

/-- The two tiles of block `b`, the one on the right first, each for both heads. -/
def Env.block (E : Env F) (b : Fin 4) (m₀ m₁ : Option (IVec S512x256 1)) (S : St F) : St F :=
  E.step 1 (lo b) m₀ (E.step 0 (lo b) m₀ (E.step 1 (hi b) m₁ (E.step 0 (hi b) m₁ S)))

theorem ko_disjoint (h h' : Fin 2) (j j' : Fin 8) (hne : h ≠ h' ∨ j ≠ j') :
    ∃ a : Fin 2, ko h' j' a + S256x128.size a ≤ ko h j a ∨ ko h j a + S256x128.size a ≤ ko h' j' a := by
  revert h h' j j'; decide +kernel

theorem window_put_tile {e : EltTy} (x : Vec F S2048x256 e) (h h' : Fin 2) (j j' : Fin 8) (w : Vec F S256x128 e)
    (hne : h ≠ h' ∨ j ≠ j') :
    window (put x (ko h j) S256x128.size w) (ko h' j') S256x128.size (ko_inb h' j') = window x (ko h' j') S256x128.size (ko_inb h' j') := by
  obtain ⟨a, ha⟩ := ko_disjoint h h' j j' hne
  exact window_put_of_disjoint x _ _ _ _ _ w a ha

theorem lo_ne_hi (b : Fin 4) : hi b ≠ lo b := by
  intro h; have := congrArg Fin.val h; simp only [hi, lo] at this; omega

/-- The block's keys' gradient, each tile's over the block's entry contents. -/
theorem Env.block_dk (E : Env F) (b : Fin 4) (m₀ m₁ : Option (IVec S512x256 1)) (S : St F) :
    (E.block b m₀ m₁ S).dk
      = put (put (put (put S.dk
          (ko 0 (hi b)) S256x128.size (E.dkT 0 (E.dz 0 (hi b) m₁ (S.c 0)) (window S.dk (ko 0 (hi b)) S256x128.size (ko_inb 0 (hi b)))))
          (ko 1 (hi b)) S256x128.size (E.dkT 1 (E.dz 1 (hi b) m₁ (S.c 1)) (window S.dk (ko 1 (hi b)) S256x128.size (ko_inb 1 (hi b)))))
          (ko 0 (lo b)) S256x128.size (E.dkT 0 (E.dz 0 (lo b) m₀ (k0_pay17 (E.d 0) (S.c 0) (E.vt 0 (hi b)) (E.at' 0 (hi b)))) (window S.dk (ko 0 (lo b)) S256x128.size (ko_inb 0 (lo b)))))
          (ko 1 (lo b)) S256x128.size (E.dkT 1 (E.dz 1 (lo b) m₀ (k0_pay17 (E.d 1) (S.c 1) (E.vt 1 (hi b)) (E.at' 1 (hi b)))) (window S.dk (ko 1 (lo b)) S256x128.size (ko_inb 1 (lo b)))) := by
  have hne := lo_ne_hi b
  have h01 : (0 : Fin 2) ≠ 1 := by decide
  have h10 : (1 : Fin 2) ≠ 0 := by decide
  unfold Env.block Env.step
  dsimp only
  rw [window_put_tile _ 0 1 (hi b) (hi b) _ (.inl h01), window_put_tile _ 1 0 (hi b) (lo b) _ (.inl h10),
    window_put_tile _ 0 0 (hi b) (lo b) _ (.inr hne), window_put_tile _ 0 1 (lo b) (lo b) _ (.inl h01),
    window_put_tile _ 1 1 (hi b) (lo b) _ (.inr hne), window_put_tile _ 0 1 (hi b) (lo b) _ (.inl h01)]
  simp only [Function.update_self, Function.update_of_ne h01, Function.update_of_ne h10]

theorem Env.block_dv (E : Env F) (b : Fin 4) (m₀ m₁ : Option (IVec S512x256 1)) (S : St F) :
    (E.block b m₀ m₁ S).dv
      = put (put (put (put S.dv
          (ko 0 (hi b)) S256x128.size (E.dvT 0 (hi b) (window S.dv (ko 0 (hi b)) S256x128.size (ko_inb 0 (hi b)))))
          (ko 1 (hi b)) S256x128.size (E.dvT 1 (hi b) (window S.dv (ko 1 (hi b)) S256x128.size (ko_inb 1 (hi b)))))
          (ko 0 (lo b)) S256x128.size (E.dvT 0 (lo b) (window S.dv (ko 0 (lo b)) S256x128.size (ko_inb 0 (lo b)))))
          (ko 1 (lo b)) S256x128.size (E.dvT 1 (lo b) (window S.dv (ko 1 (lo b)) S256x128.size (ko_inb 1 (lo b)))) := by
  have hne := lo_ne_hi b
  have h01 : (0 : Fin 2) ≠ 1 := by decide
  have h10 : (1 : Fin 2) ≠ 0 := by decide
  unfold Env.block Env.step
  dsimp only
  rw [window_put_tile _ 0 1 (hi b) (hi b) _ (.inl h01), window_put_tile _ 1 0 (hi b) (lo b) _ (.inl h10),
    window_put_tile _ 0 0 (hi b) (lo b) _ (.inr hne), window_put_tile _ 0 1 (lo b) (lo b) _ (.inl h01),
    window_put_tile _ 1 1 (hi b) (lo b) _ (.inr hne), window_put_tile _ 0 1 (hi b) (lo b) _ (.inl h01)]

end Cert.Proof.PI
-- ==== Proof.Trip.lean ====
/-
  One trip of the kernel's loop over the query block's key tiles on its left.
-/
module

public import proofs.«01_k».proof.Proof.Model

@[expose] public section

set_option maxRecDepth 16384

noncomputable section

namespace Cert.Proof.PI

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The offsets in closed form -/

theorem off5_eq : ∀ (i : grid0.Coords) (k : Fin (k0_t1_loop i).trips) (r : Fin 2),
    k0_off5 i k (BitVec.ofNat 32 r.val) = ![256 * (2 * ((i 1).val - 1 - k.val) + r.val), 0] := by decide +kernel
theorem off7_eq : ∀ (i : grid0.Coords) (k : Fin (k0_t1_loop i).trips) (r : Fin 2),
    k0_off7 i k (BitVec.ofNat 32 r.val) = ![256 * (2 * ((i 1).val - 1 - k.val) + r.val), 128] := by decide +kernel
theorem off6_eq : ∀ (i : grid0.Coords) (k : Fin (k0_t1_loop i).trips) (r : Fin 2),
    k0_off6 i k (BitVec.ofNat 32 r.val) = ![0, 2 * ((i 1).val - 1 - k.val) + r.val, 0, 0] := by decide +kernel
theorem off8_eq : ∀ (i : grid0.Coords) (k : Fin (k0_t1_loop i).trips) (r : Fin 2),
    k0_off8 i k (BitVec.ofNat 32 r.val) = ![1, 2 * ((i 1).val - 1 - k.val) + r.val, 0, 0] := by decide +kernel

instance closed5_0 (i : grid0.Coords) (k : Fin (k0_t1_loop i).trips) : ClosedOff (k0_off5 i k 0#32) :=
  ⟨![256 * (2 * ((i 1).val - 1 - k.val) + 0), 0], off5_eq i k 0⟩
instance closed5_1 (i : grid0.Coords) (k : Fin (k0_t1_loop i).trips) : ClosedOff (k0_off5 i k 1#32) :=
  ⟨![256 * (2 * ((i 1).val - 1 - k.val) + 1), 0], off5_eq i k 1⟩
instance closed7_0 (i : grid0.Coords) (k : Fin (k0_t1_loop i).trips) : ClosedOff (k0_off7 i k 0#32) :=
  ⟨![256 * (2 * ((i 1).val - 1 - k.val) + 0), 128], off7_eq i k 0⟩
instance closed7_1 (i : grid0.Coords) (k : Fin (k0_t1_loop i).trips) : ClosedOff (k0_off7 i k 1#32) :=
  ⟨![256 * (2 * ((i 1).val - 1 - k.val) + 1), 128], off7_eq i k 1⟩
instance closed6_0 (i : grid0.Coords) (k : Fin (k0_t1_loop i).trips) : ClosedOff (k0_off6 i k 0#32) :=
  ⟨![0, 2 * ((i 1).val - 1 - k.val) + 0, 0, 0], off6_eq i k 0⟩
instance closed6_1 (i : grid0.Coords) (k : Fin (k0_t1_loop i).trips) : ClosedOff (k0_off6 i k 1#32) :=
  ⟨![0, 2 * ((i 1).val - 1 - k.val) + 1, 0, 0], off6_eq i k 1⟩
instance closed8_0 (i : grid0.Coords) (k : Fin (k0_t1_loop i).trips) : ClosedOff (k0_off8 i k 0#32) :=
  ⟨![1, 2 * ((i 1).val - 1 - k.val) + 0, 0, 0], off8_eq i k 0⟩
instance closed8_1 (i : grid0.Coords) (k : Fin (k0_t1_loop i).trips) : ClosedOff (k0_off8 i k 1#32) :=
  ⟨![1, 2 * ((i 1).val - 1 - k.val) + 1, 0, 0], off8_eq i k 1⟩

theorem trips1_eq : ∀ i : grid0.Coords, (k0_t1_loop i).trips = (i 1).val := by decide +kernel
theorem trips2_eq : ∀ i : grid0.Coords, (k0_t2_loop i).trips = 0 := by decide +kernel

abbrev 𝒱₀ : Variants := Variants.none

/-- A buffer held whole. -/
abbrev own (c : Dev nD) {s : Shape} {t : EltTy} (r : Memref sig .tc .vmem s t)
    (f : Buf (Elt F) (r.view.loc (c : Thread nD τ))) : sProp 𝕄 :=
  r.view.loc (c : Thread nD τ) ↦[r.view.set]{fullShare} f

/-- The values the loop carries. -/
abbrev St.acc (S : St F) : FVec F S512x1 .f32 × FVec F S512x128 .f32 × FVec F S512x1 .f32 × FVec F S512x128 .f32 :=
  (S.c 0, S.y 0, S.c 1, S.y 1)

/-- The block of tiles trip `k` takes. -/
def tripBlock (i : grid0.Coords) (k : Fin (k0_t1_loop i).trips) : Fin 4 :=
  ⟨(i 1).val - 1 - k.val, by have := (i 1).isLt; have : (i 1).val < 4 := this; omega⟩

theorem off5_lo (i : grid0.Coords) (k : Fin (k0_t1_loop i).trips) : k0_off5 i k 0#32 = ko 0 (lo (tripBlock i k)) := off5_eq i k 0
theorem off5_hi (i : grid0.Coords) (k : Fin (k0_t1_loop i).trips) : k0_off5 i k 1#32 = ko 0 (hi (tripBlock i k)) := off5_eq i k 1
theorem off7_lo (i : grid0.Coords) (k : Fin (k0_t1_loop i).trips) : k0_off7 i k 0#32 = ko 1 (lo (tripBlock i k)) := off7_eq i k 0
theorem off7_hi (i : grid0.Coords) (k : Fin (k0_t1_loop i).trips) : k0_off7 i k 1#32 = ko 1 (hi (tripBlock i k)) := off7_eq i k 1
theorem off6_lo (i : grid0.Coords) (k : Fin (k0_t1_loop i).trips) : k0_off6 i k 0#32 = ao 0 (lo (tripBlock i k)) := off6_eq i k 0
theorem off6_hi (i : grid0.Coords) (k : Fin (k0_t1_loop i).trips) : k0_off6 i k 1#32 = ao 0 (hi (tripBlock i k)) := off6_eq i k 1
theorem off8_lo (i : grid0.Coords) (k : Fin (k0_t1_loop i).trips) : k0_off8 i k 0#32 = ao 1 (lo (tripBlock i k)) := off8_eq i k 0
theorem off8_hi (i : grid0.Coords) (k : Fin (k0_t1_loop i).trips) : k0_off8 i k 1#32 = ao 1 (hi (tripBlock i k)) := off8_eq i k 1

/-- A load of a tile of the keys' (the values', the gradients') buffer, at offsets known in closed form. -/
theorem ld_k {e : EltTy} (r : Memref sig .tc .vmem S2048x256 e) (f : r.view.ty.Contents (Elt F)) {off : Fin 2 → ℕ}
    (inb : ∀ a : Fin 2, off a + S256x128.size a ≤ S2048x256.size a) (h : Fin 2) (j : Fin 8) (ho : off = ko h j) :
    r.view.readAt (Elt F) (Rect.unit (s := S2048x256) off S256x128.size inb).toLoadRect f
      = window (r.view.read (Elt F) f) (ko h j) S256x128.size (ko_inb h j) := View.readAt_unit _ _ _ ho _

/-- A load of a tile of the weights' (the betas') buffer. -/
theorem ld_a {e : EltTy} (r : Memref sig .tc .vmem S2x8x512x256 e) (f : r.view.ty.Contents (Elt F)) {off : Fin 4 → ℕ}
    (inb : ∀ a : Fin 4, off a + S1x1x512x256.size a ≤ S2x8x512x256.size a) (h : Fin 2) (j : Fin 8) (ho : off = ao h j) :
    r.view.readAt (Elt F) (Rect.unit (s := S2x8x512x256) off S1x1x512x256.size inb).toLoadRect f
      = window (r.view.read (Elt F) f) (ao h j) S1x1x512x256.size (ao_inb h j) := View.readAt_unit _ _ _ ho _

/-- A buffer held whole, its contents known by what they read as. -/
abbrev holds (c : Dev nD) {s : Shape} {t : EltTy} (r : Memref sig .tc .vmem s t) (X : Vec F s t) : sProp 𝕄 :=
  iprop(∃ f : Buf (Elt F) (r.view.loc (c : Thread nD τ)), ⌜r.view.read (Elt F) f = X⌝ ∗ own c r f)

variable (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .f32) (harg5 : arg5.IsWhole) (arg6 : Memref sig .tc .vmem S2x8x512x256 .bf16) (harg6 : arg6.IsWhole) (arg7 : Memref sig .tc .vmem S2x8x512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .f32) (harg12 : arg12.IsWhole) (arg13 : Memref sig .tc .vmem S2048x256 .f32) (harg13 : arg13.IsWhole) (arg1 : BitVec 32)

theorem trip (E : Env F) (S : St F) (k : Fin (k0_t1_loop i).trips) (c0_i32_102 : BitVec 32) :
    iprop(holds c arg3 E.K ∗ holds c arg4 E.V ∗ holds c arg6 E.A ∗ holds c arg7 E.B ∗ holds c arg12 S.dk ∗ holds c arg13 S.dv)
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 (E.q 0) (E.q 1) (E.d 0) (E.d 1) (E.e 0) (E.e 1) k0_pay69 c0_i32_102 k S.acc)
        (fun r => iprop(⌜r = (E.block (tripBlock i k) none none S).acc⌝
          ∗ holds c arg3 E.K ∗ holds c arg4 E.V ∗ holds c arg6 E.A ∗ holds c arg7 E.B
          ∗ holds c arg12 (E.block (tripBlock i k) none none S).dk ∗ holds c arg13 (E.block (tripBlock i k) none none S).dv)) := by
  iintro ⟨⟨%fk, %hk, H3⟩, ⟨%fv, %hv, H4⟩, ⟨%fa, %ha, H6⟩, ⟨%fb, %hb, H7⟩, ⟨%f12, %h12, H12⟩, ⟨%f13, %h13, H13⟩⟩
  sl_unfold [k0_t1_body]
  sl_exec
  sl_step
  isplitr
  · ipureintro
    sl_unfold_run_names
    simp (proj := false) only [ld_k _ _ _ _ _ (off5_lo i k), ld_k _ _ _ _ _ (off5_hi i k), ld_k _ _ _ _ _ (off7_lo i k), ld_k _ _ _ _ _ (off7_hi i k), ld_a _ _ _ _ _ (off6_lo i k), ld_a _ _ _ _ _ (off6_hi i k), ld_a _ _ _ _ _ (off8_lo i k), ld_a _ _ _ _ _ (off8_hi i k), hk, hv, ha, hb]
    rfl
  isplitl [H3]; · iexists fk; isplitr; · ipureintro; exact hk
                  iexact H3
  isplitl [H4]; · iexists fv; isplitr; · ipureintro; exact hv
                  iexact H4
  isplitl [H6]; · iexists fa; isplitr; · ipureintro; exact ha
                  iexact H6
  isplitl [H7]; · iexists fb; isplitr; · ipureintro; exact hb
                  iexact H7
  isplitl [H12]
  · iexists _; isplitr; rotate_left
    · iexact H12
    · ipureintro
      rw [Env.block_dk]
      sl_unfold_run_names
      rw [View.read_writes_cons_put _ _ _ _ _ (off7_lo i k), View.read_writes_cons_put _ _ _ _ _ (off5_lo i k),
        View.read_writes_cons_put _ _ _ _ _ (off7_hi i k), View.read_writes_cons_put _ _ _ _ _ (off5_hi i k), View.writes_nil]
      simp (proj := false) only [ld_k _ _ _ _ _ (off5_lo i k), ld_k _ _ _ _ _ (off5_hi i k), ld_k _ _ _ _ _ (off7_lo i k), ld_k _ _ _ _ _ (off7_hi i k), ld_a _ _ _ _ _ (off6_lo i k), ld_a _ _ _ _ _ (off6_hi i k), ld_a _ _ _ _ _ (off8_lo i k), ld_a _ _ _ _ _ (off8_hi i k), hk, hv, ha, hb, h12, h13]
      rfl
  · iexists _; isplitr; rotate_left
    · iexact H13
    · ipureintro
      rw [Env.block_dv]
      sl_unfold_run_names
      rw [View.read_writes_cons_put _ _ _ _ _ (off7_lo i k), View.read_writes_cons_put _ _ _ _ _ (off5_lo i k),
        View.read_writes_cons_put _ _ _ _ _ (off7_hi i k), View.read_writes_cons_put _ _ _ _ _ (off5_hi i k), View.writes_nil]
      simp (proj := false) only [ld_k _ _ _ _ _ (off5_lo i k), ld_k _ _ _ _ _ (off5_hi i k), ld_k _ _ _ _ _ (off7_lo i k), ld_k _ _ _ _ _ (off7_hi i k), ld_a _ _ _ _ _ (off6_lo i k), ld_a _ _ _ _ _ (off6_hi i k), ld_a _ _ _ _ _ (off8_lo i k), ld_a _ _ _ _ _ (off8_hi i k), hk, hv, ha, hb, h12, h13]
      rfl

end Cert.Proof.PI
-- ==== Proof.Body.lean ====
/-
  The kernel's body at one grid point: the diagonal block of tiles, the loop over the blocks on its left, and the
  gradients stored.
-/
module

public import proofs.«01_k».proof.Proof.Trip

@[expose] public section

set_option maxRecDepth 16384

noncomputable section

namespace Cert.Proof.PI

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point's query block. -/
def qb (i : grid0.Coords) : Fin 4 := ⟨(i 1).val, (i 1).isLt⟩

/-- The first `n` blocks of the loop. -/
def Env.trips (E : Env F) (i : grid0.Coords) (S : St F) : ℕ → St F
  | 0 => S
  | n + 1 => if h : n < (k0_t1_loop i).trips then E.block (tripBlock i ⟨n, h⟩) none none (E.trips i S n) else E.trips i S n

theorem Env.trips_succ (E : Env F) (i : grid0.Coords) (S : St F) (k : Fin (k0_t1_loop i).trips) :
    E.trips i S (k.val + 1) = E.block (tripBlock i k) none none (E.trips i S k.val) := by
  rw [Env.trips, dif_pos k.isLt]

/-- What a grid point's tiles read, from the contents of its windows. -/
def envOf (Q : Vec F S512x256 .bf16) (K V : Vec F S2048x256 .bf16) (O : Vec F S512x256 .f32)
    (A B : Vec F S2x8x512x256 .bf16) (D : Vec F S512x256 .bf16) : Env F where
  q := ![window Q ![0, 0] S512x128.size inb_S512x256_S512x128_0_0, window Q ![0, 128] S512x128.size inb_S512x256_S512x128_0_128]
  d := ![window D ![0, 0] S512x128.size inb_S512x256_S512x128_0_0, window D ![0, 128] S512x128.size inb_S512x256_S512x128_0_128]
  e := ![k0_pay65 (window D ![0, 0] S512x128.size inb_S512x256_S512x128_0_0) (window O ![0, 0] S512x128.size inb_S512x256_S512x128_0_0),
    k0_pay66 (window D ![0, 128] S512x128.size inb_S512x256_S512x128_0_128) (window O ![0, 128] S512x128.size inb_S512x256_S512x128_0_128)]
  K := K
  V := V
  A := A
  B := B

/-- The state a grid point's tiles start from, the gradients' buffers holding `dk` and `dv`. -/
def st0 (dk dv : Vec F S2048x256 .f32) : St F where
  c := fun _ => k0_pay70
  y := fun _ => k0_pay71
  dk := dk
  dv := dv

variable (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .f32) (harg5 : arg5.IsWhole) (arg6 : Memref sig .tc .vmem S2x8x512x256 .bf16) (harg6 : arg6.IsWhole) (arg7 : Memref sig .tc .vmem S2x8x512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .f32) (harg12 : arg12.IsWhole) (arg13 : Memref sig .tc .vmem S2048x256 .f32) (harg13 : arg13.IsWhole) (arg1 : BitVec 32)

section Loop
variable (E : Env F) (S : St F)

/-- Before trip `n`: the windows the tiles read, and the gradients' buffers at the blocks done. -/
abbrev loopI (n : ℕ) (acc : FVec F S512x1 .f32 × FVec F S512x128 .f32 × FVec F S512x1 .f32 × FVec F S512x128 .f32) : sProp 𝕄 :=
  iprop(⌜acc = (E.trips i S n).acc⌝ ∗ holds c arg3 E.K ∗ holds c arg4 E.V ∗ holds c arg6 E.A ∗ holds c arg7 E.B
    ∗ holds c arg12 (E.trips i S n).dk ∗ holds c arg13 (E.trips i S n).dv)

theorem loop_step (k : Fin (k0_t1_loop i).trips) (c0_i32_102 : BitVec 32)
    (acc : FVec F S512x1 .f32 × FVec F S512x128 .f32 × FVec F S512x1 .f32 × FVec F S512x128 .f32) :
    loopI c i arg3 arg4 arg6 arg7 arg12 arg13 E S k.val acc
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 (E.q 0) (E.q 1) (E.d 0) (E.d 1) (E.e 0) (E.e 1) k0_pay69 c0_i32_102 k acc)
        (loopI c i arg3 arg4 arg6 arg7 arg12 arg13 E S (k.val + 1)) := by
  unfold loopI
  rw [E.trips_succ]
  iintro ⟨%ha, H⟩
  subst ha
  iapply (trip c i arg2 harg2 arg3 harg3 arg4 harg4 arg5 harg5 arg6 harg6 arg7 harg7 arg8 harg8 arg9 harg9 arg10 harg10 arg11 harg11 arg12 harg12 arg13 harg13 arg1 E (E.trips i S k.val) k c0_i32_102)
  iexact H

end Loop

/-- The state after the diagonal block, from the contents `dk` and `dv` the gradients' buffers come with; the first
    query block sets them to zero. -/
def st1 (E : Env F) (i : grid0.Coords) (dk dv : Vec F S2048x256 .f32) : St F :=
  E.block (qb i) (some k0_pay67) (some k0_pay68)
    (st0 (if (i 1).val = 0 then k0_pay63 else dk) (if (i 1).val = 0 then k0_pay64 else dv))

/-- The state at the grid point's end. -/
def stEnd (E : Env F) (i : grid0.Coords) (dk dv : Vec F S2048x256 .f32) : St F :=
  E.trips i (st1 E i dk dv) (k0_t1_loop i).trips

theorem off1_lo : ∀ i : grid0.Coords, k0_off1 i 0#32 = ko 0 (lo (qb i)) := by decide +kernel
theorem off1_hi : ∀ i : grid0.Coords, k0_off1 i 1#32 = ko 0 (hi (qb i)) := by decide +kernel
theorem off3_lo : ∀ i : grid0.Coords, k0_off3 i 0#32 = ko 1 (lo (qb i)) := by decide +kernel
theorem off3_hi : ∀ i : grid0.Coords, k0_off3 i 1#32 = ko 1 (hi (qb i)) := by decide +kernel
theorem off2_lo : ∀ i : grid0.Coords, k0_off2 i 0#32 = ao 0 (lo (qb i)) := by decide +kernel
theorem off2_hi : ∀ i : grid0.Coords, k0_off2 i 1#32 = ao 0 (hi (qb i)) := by decide +kernel
theorem off4_lo : ∀ i : grid0.Coords, k0_off4 i 0#32 = ao 1 (lo (qb i)) := by decide +kernel
theorem off4_hi : ∀ i : grid0.Coords, k0_off4 i 1#32 = ao 1 (hi (qb i)) := by decide +kernel

theorem first_iff : ∀ i : grid0.Coords,
    Scalar.cmpi .ne (Scalar.extui (Scalar.cmpi .eq (BitVec.ofNat 32 (i 1).val) 0#32)) 0#32 = 1#1 ↔ (i 1).val = 0 := by
  decide +kernel

/-- What a gradient's buffer holds after the first query block's zeroing. -/
theorem read_zeroed (i : grid0.Coords) (p : Prop) {hd : Decidable p} (hp : p ↔ (i 1).val = 0) (r : Memref sig .tc .vmem S2048x256 .f32)
    (f : r.view.ty.Contents (Elt F)) (w : Vec F S2048x256 .f32) :
    r.view.read (Elt F) (@dite _ p hd
        (fun _ => r.view.writes (Elt F) f [⟨Rect.unit (s := S2048x256) ![0, 0] S2048x256.size inb_S2048x256_S2048x256_0_0, w⟩]) (fun _ => f))
      = if (i 1).val = 0 then w else r.view.read (Elt F) f := by
  by_cases h : (i 1).val = 0
  · rw [dif_pos (hp.2 h), if_pos h]; exact View.read_writes_full r.view f inb_S2048x256_S2048x256_0_0 w []
  · rw [dif_neg (fun hc => h (hp.1 hc)), if_neg h]

/-- What a gradient's window holds after the last query block's store. -/
theorem read_stored (p : Prop) [Decidable p] (r : Memref sig .tc .vmem S2048x256 .bf16) (f : r.view.ty.Contents (Elt F)) (w : Vec F S2048x256 .bf16) :
    r.view.read (Elt F) (if hc : p then
        r.view.writes (Elt F) f [⟨Rect.unit (s := S2048x256) ![0, 0] S2048x256.size inb_S2048x256_S2048x256_0_0, w⟩] else f)
      = if p then w else r.view.read (Elt F) f := by
  by_cases h : p
  · rw [dif_pos h, if_pos h]; exact View.read_writes_full r.view f inb_S2048x256_S2048x256_0_0 w []
  · rw [dif_neg h, if_neg h]

/-- The queries' gradient stored: the two heads side by side. -/
def dqOut (S : St F) : Vec F S512x256 .bf16 :=
  put (put (fun _ => Scalar.ofBits .bf16 0#16) ![0, 0] S512x128.size (k0_pay11 (S.y 0))) ![0, 128] S512x128.size (k0_pay12 (S.y 1))

theorem put_halves (x : Vec F S512x256 .bf16) (S : St F) :
    put (put x ![0, 0] S512x128.size (k0_pay11 (S.y 0))) ![0, 128] S512x128.size (k0_pay12 (S.y 1)) = dqOut S := by
  funext y
  unfold dqOut put
  have h0 : (y 0).val < 512 := (y 0).isLt
  have h1 : (y 1).val < 256 := (y 1).isLt
  split_ifs with ha hb
  · rfl
  · rfl
  · exfalso
    by_cases hlt : (y 1).val < 128
    · exact hb fun a => by
        match a with
        | ⟨0, _⟩ => exact ⟨Nat.zero_le _, by show (y 0).val < 0 + 512; omega⟩
        | ⟨1, _⟩ => exact ⟨Nat.zero_le _, by show (y 1).val < 0 + 128; omega⟩
    · exact ha fun a => by
        match a with
        | ⟨0, _⟩ => exact ⟨Nat.zero_le _, by show (y 0).val < 0 + 512; omega⟩
        | ⟨1, _⟩ => exact ⟨by show 128 ≤ (y 1).val; omega, by show (y 1).val < 128 + 128; omega⟩

theorem read_dq (r : Memref sig .tc .vmem S512x256 .bf16) (f : r.view.ty.Contents (Elt F)) (S : St F) :
    r.view.read (Elt F) (r.view.writes (Elt F) f
        [⟨Rect.unit (s := S512x256) ![0, 128] S512x128.size inb_S512x256_S512x128_0_128, k0_pay12 (S.y 1)⟩,
          ⟨Rect.unit (s := S512x256) ![0, 0] S512x128.size inb_S512x256_S512x128_0_0, k0_pay11 (S.y 0)⟩]) = dqOut S := by
  rw [View.read_writes_cons_put _ _ _ _ _ rfl, View.read_writes_cons_put _ _ _ _ _ rfl, View.writes_nil, put_halves]

set_option maxHeartbeats 4000000 in
/-- One grid point: from the windows read and the gradients' buffers at `dk` and `dv`, the queries' gradient is
    stored, the gradients' buffers hold the point's end state, and the last query block stores them. -/
theorem body_run (Q : Vec F S512x256 .bf16) (K V : Vec F S2048x256 .bf16) (O : Vec F S512x256 .f32)
    (A B : Vec F S2x8x512x256 .bf16) (D X9 : Vec F S512x256 .bf16) (X10 X11 : Vec F S2048x256 .bf16) (dk dv : Vec F S2048x256 .f32) :
    iprop(holds c arg2 Q ∗ holds c arg3 K ∗ holds c arg4 V ∗ holds c arg5 O ∗ holds c arg6 A ∗ holds c arg7 B ∗ holds c arg8 D
      ∗ holds c arg9 X9 ∗ holds c arg10 X10 ∗ holds c arg11 X11 ∗ holds c arg12 dk ∗ holds c arg13 dv)
      ⊢ wp frame (wpE (defs₀ (F := F)) 𝒱₀ (c : Thread nD τ) none) Set.univ
        (cc0_sb_bwd (F := F) i arg2 harg2 arg3 harg3 arg4 harg4 arg5 harg5 arg6 harg6 arg7 harg7 arg8 harg8 arg9 harg9 arg10 harg10 arg11 harg11 arg12 harg12 arg13 harg13)
        (fun _ => iprop(holds c arg2 Q ∗ holds c arg3 K ∗ holds c arg4 V ∗ holds c arg5 O ∗ holds c arg6 A ∗ holds c arg7 B ∗ holds c arg8 D
          ∗ holds c arg9 (dqOut (stEnd (envOf Q K V O A B D) i dk dv))
          ∗ holds c arg10 (if k0_cond2 i = 1#1 then k0_pay13 (stEnd (envOf Q K V O A B D) i dk dv).dk else X10)
          ∗ holds c arg11 (if k0_cond2 i = 1#1 then k0_pay14 (stEnd (envOf Q K V O A B D) i dk dv).dv else X11)
          ∗ holds c arg12 (stEnd (envOf Q K V O A B D) i dk dv).dk ∗ holds c arg13 (stEnd (envOf Q K V O A B D) i dk dv).dv)) := by
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  subst h2 h3 h4 h5 h6 h7 h8 h9 h10 h11 h12 h13
  sl_unfold [cc0_sb_bwd]
  sl_exec
  let E : Env F := envOf (arg2.view.read (Elt F) f2) (arg3.view.read (Elt F) f3) (arg4.view.read (Elt F) f4)
    (arg5.view.read (Elt F) f5) (arg6.view.read (Elt F) f6) (arg7.view.read (Elt F) f7) (arg8.view.read (Elt F) f8)
  let S : St F := st1 E i (arg12.view.read (Elt F) f12) (arg13.view.read (Elt F) f13)
  iapply (Scf.wp_for_bind frame (wpE (defs₀ (F := F)) 𝒱₀ (c : Thread nD τ) none) Set.univ (k0_t1_loop i).lb (k0_t1_loop i).ub
    (k0_t1_loop i).st (k0_t1_ok i) _ _ (loopI c i arg3 arg4 arg6 arg7 arg12 arg13 E S)
    (fun k acc => loop_step c i arg2 harg2 arg3 harg3 arg4 harg4 arg5 harg5 arg6 harg6 arg7 harg7 arg8 harg8 arg9 harg9 arg10 harg10 arg11 harg11 arg12 harg12 arg13 harg13 (BitVec.ofNat 32 (i 1).val) E S k 0#32 acc)) $$ [H3 H4 H6 H7 H12 H13]
  · unfold loopI
    isplitr
    · ipureintro
      sl_unfold_run_names
      simp (proj := false) only [ld_k _ _ _ _ _ (off1_lo i), ld_k _ _ _ _ _ (off1_hi i), ld_k _ _ _ _ _ (off3_lo i), ld_k _ _ _ _ _ (off3_hi i), ld_a _ _ _ _ _ (off2_lo i), ld_a _ _ _ _ _ (off2_hi i), ld_a _ _ _ _ _ (off4_lo i), ld_a _ _ _ _ _ (off4_hi i)]
      rfl
    isplitl [H3]; · iexists f3; isplitr; · ipureintro; rfl
                    iexact H3
    isplitl [H4]; · iexists f4; isplitr; · ipureintro; rfl
                    iexact H4
    isplitl [H6]; · iexists f6; isplitr; · ipureintro; rfl
                    iexact H6
    isplitl [H7]; · iexists f7; isplitr; · ipureintro; rfl
                    iexact H7
    isplitl [H12]
    · iexists _; isplitr; rotate_left
      · iexact H12
      · ipureintro
        sl_unfold_run_names
        rw [Env.trips, View.read_writes_cons_put _ _ _ _ _ (off3_lo i), View.read_writes_cons_put _ _ _ _ _ (off1_lo i),
          View.read_writes_cons_put _ _ _ _ _ (off3_hi i), View.read_writes_cons_put _ _ _ _ _ (off1_hi i), View.writes_nil]
        simp (proj := false) only [ld_k _ _ _ _ _ (off1_lo i), ld_k _ _ _ _ _ (off1_hi i), ld_k _ _ _ _ _ (off3_lo i), ld_k _ _ _ _ _ (off3_hi i), ld_a _ _ _ _ _ (off2_lo i), ld_a _ _ _ _ _ (off2_hi i), ld_a _ _ _ _ _ (off4_lo i), ld_a _ _ _ _ _ (off4_hi i), read_zeroed i _ (first_iff i)]
        show _ = (E.block (qb i) _ _ _).dk
        rw [Env.block_dk]
        rfl
    · iexists _; isplitr; rotate_left
      · iexact H13
      · ipureintro
        sl_unfold_run_names
        rw [Env.trips, View.read_writes_cons_put _ _ _ _ _ (off3_lo i), View.read_writes_cons_put _ _ _ _ _ (off1_lo i),
          View.read_writes_cons_put _ _ _ _ _ (off3_hi i), View.read_writes_cons_put _ _ _ _ _ (off1_hi i), View.writes_nil]
        simp (proj := false) only [ld_k _ _ _ _ _ (off1_lo i), ld_k _ _ _ _ _ (off1_hi i), ld_k _ _ _ _ _ (off3_lo i), ld_k _ _ _ _ _ (off3_hi i), ld_a _ _ _ _ _ (off2_lo i), ld_a _ _ _ _ _ (off2_hi i), ld_a _ _ _ _ _ (off4_lo i), ld_a _ _ _ _ _ (off4_hi i), read_zeroed i _ (first_iff i)]
        show _ = (E.block (qb i) _ _ _).dv
        rw [Env.block_dv]
        rfl
  unfold loopI
  iintro %acc ⟨%hacc, ⟨%g3, %h3, H3⟩, ⟨%g4, %h4, H4⟩, ⟨%g6, %h6, H6⟩, ⟨%g7, %h7, H7⟩, ⟨%g12, %h12, H12⟩, ⟨%g13, %h13, H13⟩⟩
  subst hacc
  dsimp only
  iapply (Scf.wp_for_bind frame (wpE (defs₀ (F := F)) 𝒱₀ (c : Thread nD τ) none) Set.univ (k0_t2_loop i).lb (k0_t2_loop i).ub
    (k0_t2_loop i).st (k0_t2_ok i) _ _ (fun _ acc => iprop(⌜acc = (stEnd E i (arg12.view.read (Elt F) f12) (arg13.view.read (Elt F) f13)).acc⌝))
    (fun k _ => (Nat.not_lt_zero _ (Nat.lt_of_lt_of_eq k.isLt (trips2_eq i))).elim)) $$ []
  · ipureintro; rfl
  iintro %acc %hacc
  subst hacc
  dsimp only
  sl_exec
  sl_step
  isplitl [H2]; · iexists f2; isplitr; · ipureintro; rfl
                  iexact H2
  isplitl [H3]; · iexists g3; isplitr; · ipureintro; exact h3
                  iexact H3
  isplitl [H4]; · iexists g4; isplitr; · ipureintro; exact h4
                  iexact H4
  isplitl [H5]; · iexists f5; isplitr; · ipureintro; rfl
                  iexact H5
  isplitl [H6]; · iexists g6; isplitr; · ipureintro; exact h6
                  iexact H6
  isplitl [H7]; · iexists g7; isplitr; · ipureintro; exact h7
                  iexact H7
  isplitl [H8]; · iexists f8; isplitr; · ipureintro; rfl
                  iexact H8
  isplitl [H9]
  · iexists _; isplitr; rotate_left
    · iexact H9
    · ipureintro
      sl_unfold_run_names
      exact read_dq arg9 f9 (stEnd E i (arg12.view.read (Elt F) f12) (arg13.view.read (Elt F) f13))
  isplitl [H10]
  · iexists _; isplitr; rotate_left
    · iexact H10
    · ipureintro
      refine (read_stored _ arg10 f10 _).trans ?_
      rw [View.readAt_full arg12.view g12 inb_S2048x256_S2048x256_0_0, h12]
      rfl
  isplitl [H11]
  · iexists _; isplitr; rotate_left
    · iexact H11
    · ipureintro
      refine (read_stored _ arg11 f11 _).trans ?_
      rw [View.readAt_full arg13.view g13 inb_S2048x256_S2048x256_0_0, h13]
      rfl
  isplitl [H12]; · iexists g12; isplitr; · ipureintro; exact h12
                   iexact H12
  · iexists g13; isplitr; · ipureintro; exact h13
    iexact H13

end Cert.Proof.PI
-- ==== Proof.Run.lean ====
/-
  The kernel's run: what the gradients' buffers hold between the grid points, the body at a point, and the launch.
-/
module

public import proofs.«01_k».proof.Proof.Body
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic Idealize.ShloMosaic.VecWindow
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the tiles of point `t` read: the blocks of its windows. -/
def envAt (c : Dev nD) (t : Fin cfg0.N) : Env F :=
  envOf (iblk m c 0 t) (iblk m c 1 t) (iblk m c 2 t) (iblk m c 3 t) (iblk m c 4 t) (iblk m c 5 t) (iblk m c 6 t)

/-- The state at the end of point `t`, the gradients' buffers coming with `x`. -/
def endAt (c : Dev nD) (t : Fin cfg0.N) (x : Vec F S2048x256 .f32 × Vec F S2048x256 .f32) : St F :=
  stEnd (envAt m c t) (grid0.coords t) x.1 x.2

/-- The gradients' buffers before point `n`. -/
def scr (c : Dev nD) : ℕ → Vec F S2048x256 .f32 × Vec F S2048x256 .f32
  | 0 => (k0_pay63, k0_pay64)
  | n + 1 => if h : n < cfg0.N then ((endAt m c ⟨n, h⟩ (scr c n)).dk, (endAt m c ⟨n, h⟩ (scr c n)).dv) else scr c n

theorem scr_succ (c : Dev nD) (t : Fin cfg0.N) :
    scr m c (t.val + 1) = ((endAt m c t (scr m c t.val)).dk, (endAt m c t (scr m c t.val)).dv) := by
  rw [scr, dif_pos t.isLt]

theorem coords_zero : ∀ t : Fin cfg0.N, t.val = 0 → ((grid0.coords t) 1).val = 0 := by decide +kernel

/-- The first query block does not read what the gradients' buffers come with. -/
theorem endAt_first (c : Dev nD) (t : Fin cfg0.N) (ht : t.val = 0) (x y : Vec F S2048x256 .f32 × Vec F S2048x256 .f32) :
    endAt m c t x = endAt m c t y := by
  unfold endAt stEnd st1
  rw [if_pos (coords_zero t ht), if_pos (coords_zero t ht), if_pos (coords_zero t ht), if_pos (coords_zero t ht)]

/-- Before point `n`: at first the scratch at anything; then the gradients' buffers at what the points so far leave. -/
def PhiS (c : Dev nD) : (n : ℕ) → n ≤ cfg0.N → sProp 𝕄
  | 0, _ => Pipeline.ΦA spec0 c
  | n + 1, _ => iprop((holds c (Memref.whole cc0_scratch0) (scr m c (n + 1)).1 ∗ holds c (Memref.whole cc0_scratch1) (scr m c (n + 1)).2)
      ∗ ∃ r, prngReg c r)

theorem PhiS_succ (c : Dev nD) (n : ℕ) (h : n + 1 ≤ cfg0.N) : PhiS m c (n + 1) h
    = iprop((holds c (Memref.whole cc0_scratch0) (scr m c (n + 1)).1 ∗ holds c (Memref.whole cc0_scratch1) (scr m c (n + 1)).2)
      ∗ ∃ r, prngReg c r) := rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (endAt m c t (scr m c t.val))
    | ⟨8, _⟩ => k0_pay13 (endAt m c t (scr m c t.val)).dk
    | ⟨9, _⟩ => k0_pay14 (endAt m c t (scr m c t.val)).dv
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqOut (endAt m c t (scr m c t.val)) := by dsimp only [dats]
theorem after0_8 (c : Dev nD) (t : Fin cfg0.N) : (dats m 0 c).after 8 t = k0_pay13 (endAt m c t (scr m c t.val)).dk := by dsimp only [dats]
theorem after0_9 (c : Dev nD) (t : Fin cfg0.N) : (dats m 0 c).after 9 t = k0_pay14 (endAt m c t (scr m c t.val)).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem Phi_castSucc (c : Dev nD) (t : Fin cfg0.N) : (dats m 0 c).Φ t.castSucc = PhiS m c t.val (Nat.le_of_lt t.isLt) := by
  dsimp only [dats]
  exact Pipeline.Dat.Φ_castSucc (PhiS m c) t
theorem Phi_succ (c : Dev nD) (t : Fin cfg0.N) : (dats m 0 c).Φ t.succ = PhiS m c (t.val + 1) t.isLt := by
  dsimp only [dats]; rfl

/-- What the body takes of the invariant: the gradients' buffers at contents that lead to the point's end state. -/
theorem Phi_open (c : Dev nD) (t : Fin cfg0.N) :
    PhiS m c t.val (Nat.le_of_lt t.isLt)
      ⊢ iprop(∃ dk dv, ⌜endAt m c t (dk, dv) = endAt m c t (scr m c t.val)⌝
        ∗ holds c (Memref.whole cc0_scratch0) dk ∗ holds c (Memref.whole cc0_scratch1) dv ∗ ∃ r, prngReg c r) := by
  have key : ∀ (n : ℕ) (hn : n ≤ cfg0.N), n = t.val → (PhiS m c n hn
      ⊢ iprop(∃ dk dv, ⌜endAt m c t (dk, dv) = endAt m c t (scr m c n)⌝
        ∗ holds c (Memref.whole cc0_scratch0) dk ∗ holds c (Memref.whole cc0_scratch1) dv ∗ ∃ r, prngReg c r)) := by
    intro n hn hnt
    match n, hn, hnt with
    | 0, _, h0 =>
      unfold PhiS Pipeline.ΦA
      rw [scopedRest0_eq]
      iintro ⟨⟨⟨%f0, H0⟩, ⟨%f1, H1⟩⟩, Hr⟩
      iexists f0, f1
      isplitr
      · ipureintro; exact endAt_first m c t h0.symm _ _
      isplitl [H0]
      · iexists f0; isplitr
        · ipureintro; rfl
        · unfold own; rw [View.set_whole]; iexact H0
      isplitl [H1]
      · iexists f1; isplitr
        · ipureintro; rfl
        · unfold own; rw [View.set_whole]; iexact H1
      iexact Hr
    | n + 1, _, _ =>
      unfold PhiS
      iintro ⟨⟨H0, H1⟩, Hr⟩
      iexists _, _
      isplitr
      · ipureintro; rfl
      isplitl [H0]; · iexact H0
      isplitl [H1]; · iexact H1
      iexact Hr
  exact key t.val _ rfl

theorem Phi_last (c : Dev nD) : (dats m 0 c).Φ (Fin.last cfg0.N) ⊢ Pipeline.ΦA spec0 c := by
  have key : ∀ (n : ℕ) (hn : n ≤ cfg0.N), PhiS m c n hn ⊢ Pipeline.ΦA spec0 c := by
    intro n hn
    match n, hn with
    | 0, _ => exact .rfl
    | n + 1, _ =>
      unfold PhiS Pipeline.ΦA
      rw [scopedRest0_eq]
      iintro ⟨⟨⟨%f0, -, H0⟩, ⟨%f1, -, H1⟩⟩, Hr⟩
      isplitr [Hr]
      · isplitl [H0]
        · iexists f0; unfold own; rw [View.set_whole]; iexact H0
        · iexists f1; unfold own; rw [View.set_whole]; iexact H1
      iexact Hr
  rw [show (dats m 0 c).Φ (Fin.last cfg0.N) = PhiS m c cfg0.N (Nat.le_refl _) from by dsimp only [dats]; rfl]
  exact key _ _

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: the keys' and the values' gradients only at a head pair's last query block. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (match cfg0.idle 8 (cfg0.grid.coords t) with
      | true => (match (cfg0.win 8).flush t with
        | false => iprop(∃ d, owns (c : Thread nD τ) (st0_8 t) fullShare ((dats m 0 c).before 8 t d))
        | true => owns (c : Thread nD τ) (st0_8 t) fullShare ((dats m 0 c).after 8 t))
      | false => owns (c : Thread nD τ) (st0_8 t) fullShare ((dats m 0 c).after 8 t))
    ∗ (match cfg0.idle 9 (cfg0.grid.coords t) with
      | true => (match (cfg0.win 9).flush t with
        | false => iprop(∃ d, owns (c : Thread nD τ) (st0_9 t) fullShare ((dats m 0 c).before 9 t d))
        | true => owns (c : Thread nD τ) (st0_9 t) fullShare ((dats m 0 c).after 9 t))
      | false => owns (c : Thread nD τ) (st0_9 t) fullShare ((dats m 0 c).after 9 t)))

theorem cond2_flush : ∀ t : Fin cfg0.N, k0_cond2 (grid0.coords t) = 1#1 ↔ t.val % 4 = 3 := by decide +kernel

theorem idle8 (t : Fin cfg0.N) : idle0 8 (grid0.coords t) = !(k0_cond2 (grid0.coords t) == 1#1) := rfl
theorem idle9 (t : Fin cfg0.N) : idle0 9 (grid0.coords t) = !(k0_cond2 (grid0.coords t) == 1#1) := rfl

theorem flush8 (t : Fin cfg0.N) (h : ¬ k0_cond2 (grid0.coords t) = 1#1) : (win0 8).flush t = false :=
  Bool.eq_false_iff.2 fun hf => h ((cond2_flush t).2 ((flush0_8 t).1 hf))
theorem flush9 (t : Fin cfg0.N) (h : ¬ k0_cond2 (grid0.coords t) = 1#1) : (win0 9).flush t = false :=
  Bool.eq_false_iff.2 fun hf => h ((cond2_flush t).2 ((flush0_9 t).1 hf))

theorem owns_holds (c : Dev nD) {sh : Shape} {e : EltTy} (r : Memref sig .tc .vmem sh e) (X : sh.Idx → Elt F e) :
    owns (c : Thread nD τ) r fullShare X ⊢ (holds c r X : sProp 𝕄) := by
  unfold owns holds own; exact .rfl

theorem holds_owns (c : Dev nD) {sh : Shape} {e : EltTy} (r : Memref sig .tc .vmem sh e) (X : sh.Idx → Elt F e) :
    (holds c r X : sProp 𝕄) ⊢ owns (c : Thread nD τ) r fullShare X := by
  unfold owns holds own; exact .rfl

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_castSucc, Phi_succ, show (dats m 0 c).owesAt () t.succ = (dats m 0 c).owesAt () t.castSucc from rfl,
    after0_0, after0_1, after0_2, after0_3, after0_4, after0_5, after0_6, after0_7, after0_8, after0_9, idle8]

  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ := (Phi_open m c t) $$ HΦ
  icases HΦ with ⟨%dk, %dv, %hE, HS0, HS1, Hr⟩
  iapply (wp_wand_r Idealize.ShloMosaic.frame (wpE (defs₀ (F := F)) Variants.none (c : Thread nD τ) none) Set.univ)
  isplitl [H0 H1 H2 H3 H4 H5 H6 H7 H8 H9 HS0 HS1]
  · iapply (body_run (F := F) c (grid0.coords t) _ _ _ _ _ _ _ _ _ _ _ _ _ _ _ _ _ _ _ _ _ _ _ _ (iblk m c 0 t) (iblk m c 1 t) (iblk m c 2 t)
      (iblk m c 3 t) (iblk m c 4 t) (iblk m c 5 t) (iblk m c 6 t) ((dats m 0 c).before 7 t d7) ((dats m 0 c).before 8 t d8)
      ((dats m 0 c).before 9 t d9) dk dv)
    isplitl [H0]; · iapply (owns_holds c _ _) $$ [H0]; iexact H0
    isplitl [H1]; · iapply (owns_holds c _ _) $$ [H1]; iexact H1
    isplitl [H2]; · iapply (owns_holds c _ _) $$ [H2]; iexact H2
    isplitl [H3]; · iapply (owns_holds c _ _) $$ [H3]; iexact H3
    isplitl [H4]; · iapply (owns_holds c _ _) $$ [H4]; iexact H4
    isplitl [H5]; · iapply (owns_holds c _ _) $$ [H5]; iexact H5
    isplitl [H6]; · iapply (owns_holds c _ _) $$ [H6]; iexact H6
    isplitl [H7]; · iapply (owns_holds c _ _) $$ [H7]; iexact H7
    isplitl [H8]; · iapply (owns_holds c _ _) $$ [H8]; iexact H8
    isplitl [H9]; · iapply (owns_holds c _ _) $$ [H9]; iexact H9
    isplitl [HS0]; · iexact HS0
    iexact HS1
  rw [show stEnd (envOf (iblk m c 0 t) (iblk m c 1 t) (iblk m c 2 t) (iblk m c 3 t) (iblk m c 4 t) (iblk m c 5 t) (iblk m c 6 t))
    (grid0.coords t) dk dv = endAt m c t (scr m c t.val) from hE]
  iintro %_ ⟨H0, H1, H2, H3, H4, H5, H6, H7, H8, H9, HS0, HS1⟩
  rw [PhiS_succ, scr_succ]
  isplitl [HS0 HS1 Hr]
  · isplitr [Hr]
    · isplitl [HS0]; · iexact HS0
      iexact HS1
    iexact Hr
  isplitl [Ho]; · iexact Ho
  isplitl [H0]; · iapply (holds_owns c _ _) $$ [H0]; iexact H0
  isplitl [H1]; · iapply (holds_owns c _ _) $$ [H1]; iexact H1
  isplitl [H2]; · iapply (holds_owns c _ _) $$ [H2]; iexact H2
  isplitl [H3]; · iapply (holds_owns c _ _) $$ [H3]; iexact H3
  isplitl [H4]; · iapply (holds_owns c _ _) $$ [H4]; iexact H4
  isplitl [H5]; · iapply (holds_owns c _ _) $$ [H5]; iexact H5
  isplitl [H6]; · iapply (holds_owns c _ _) $$ [H6]; iexact H6
  isplitl [H7]; · iapply (holds_owns c _ _) $$ [H7]; iexact H7
  by_cases hc : k0_cond2 (grid0.coords t) = 1#1
  · rw [if_pos hc, if_pos hc, hc]
    simp only [beq_self_eq_true, Bool.not_true]
    isplitl [H8]; · iapply (holds_owns c _ _) $$ [H8]; iexact H8
    iapply (holds_owns c _ _) $$ [H9]; iexact H9
  · rw [if_neg hc, if_neg hc, flush8 t hc, flush9 t hc, beq_false_of_ne hc]
    simp only [Bool.not_false]
    isplitl [H8]; · iexists d8; iapply (holds_owns c _ _) $$ [H8]; iexact H8
    iexists d9; iapply (holds_owns c _ _) $$ [H9]; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run of the program ends with each array of the pipeline at what the proof data computes, and no signal
    outstanding. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := Phi_last m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.PI
-- ==== Proof.Same.lean ====
/-
  The kernel's frame, from the idealized program's run: the two programs have the same text.
-/
module

public import proofs.«01_k».proof.Defs
public import proofs.«01_k».proof.Proof.Gen.Kernel.Launch
public import proofs.«01_k».proof.Proof.Run

@[expose] public section

set_option maxRecDepth 16384
set_option maxHeartbeats 2000000

noncomputable section

namespace Cert.Proof.Same

open Idealize.ShloMosaic Idealize.ShloMosaic.TcCoe Idealize.SL.Sem

/-- The program as printed and the idealized one have the same text: the same table of bodies, -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  obtain ⟨n, h⟩ := l
  cases n with
  | zero => rfl
  | succ n => exact absurd h (Nat.not_lt.2 (Nat.le_add_left _ _))

theorem defs_eq : @Cert.Kernel.defs Bits _ Cert.Kernel.Gen.facts = @Cert.KernelIdeal.defs Bits _ Cert.KernelIdeal.Gen.facts := by
  unfold Cert.Kernel.defs Cert.KernelIdeal.defs
  exact congrArg (Pipeline.defs _) defs₀_eq

set_option backward.isDefEq.respectTransparency.types false in
theorem main_eq : @Cert.Kernel.main Bits _ Cert.Kernel.Gen.facts = @Cert.KernelIdeal.main Bits _ Cert.KernelIdeal.Gen.facts := by
  funext c
  rw [Cert.Kernel.Gen.main_chain, Cert.KernelIdeal.Gen.main_chain]
  rfl

/-- The kernel's frame. -/
theorem frame_kernel : Cert.quiescent_Kernel := fun m ρ _ => by
  have key : ∀ (d : Defs Cert.Kernel.nD Cert.Kernel.τ Cert.Kernel.sig (Elt Bits) _)
      (p : Dev Cert.Kernel.nD → Prog (TpuEff Cert.Kernel.nD Cert.Kernel.τ Cert.Kernel.sig (Elt Bits) _ .tc) PUnit),
      d = @Cert.KernelIdeal.defs Bits _ Cert.KernelIdeal.Gen.facts → p = @Cert.KernelIdeal.main Bits _ Cert.KernelIdeal.Gen.facts →
      θ_run d (onTc (τ := Cert.Kernel.τ) p) ⟨m, fun _ => 0, ρ⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
    rintro _ _ rfl rfl
    exact PI.frame (F := Bits) m ρ
  exact key _ _ defs_eq main_eq

end Cert.Proof.Same
-- ==== Proof.Host.lean ====
module
public import proofs.«01_k».proof.Proof.Gen.KernelIdeal.Frame
public import proofs.«01_k».proof.Proof.Gen.ReferenceIdeal.Read

/-! What the host prepares for the call, over the exact numbers: the output, the weights and the betas it saves are the
    reference's own forward values, the last two cut into tiles of 256 keys. -/

set_option maxRecDepth 16384

@[expose] public section

namespace Cert.Proof.PI
open Cert.ReferenceIdeal.Read
open Idealize.ShloMosaic Idealize.ShloMosaic.StableHlo Cert.KernelIdeal Cert.KernelIdeal.Gen

noncomputable section

abbrev Big : Type := FVec Ideal S8x2048x2048 .f32
abbrev Mask : Type := Vec Ideal S2048x2048 .i1

/-- The number nought over all heads, queries and keys. -/
def nought : Big := broadcastInDim S8x2048x2048 ![] bcast_S_S8x2048x2048 (constant (F := Ideal) S_ .f32 0x00000000#32)

/-- The logarithm of the sigmoid, as the host computes it. -/
def logSig (x : Big) : Big :=
  let y : Big := Host.negf (F := Ideal) (φ := .f32) x
  let d : Big := subf (F := Ideal) (φ := .f32) y nought
  let e : Big := Host.exp (F := Ideal) (φ := .f32) (Host.negf (F := Ideal) (φ := .f32) (Host.absf (F := Ideal) (φ := .f32) d))
  Host.negf (F := Ideal) (φ := .f32) (select (cmpf (F := Ideal) (φ := .f32) .une d d) (addf (F := Ideal) (φ := .f32) y nought)
    (addf (F := Ideal) (φ := .f32) (maximumf (F := Ideal) (φ := .f32) y nought) (Host.log1p (F := Ideal) (φ := .f32) e)))

/-- The entries before the row's own position, nought elsewhere. -/
def before (M : Mask) (x : Big) : Big :=
  select (broadcastInDim S8x2048x2048 ![1, 2] bcast_S2048x2048_S8x2048x2048_1_2 M) x nought

/-- The masked entries' sum over the later keys. -/
def later (M : Mask) (x : Big) : Big :=
  subf (Host.reduceWindowAdd ![1, 1, 2048] ![1, 1, 1] ![0, 0, 0] ![0, 0, 2047] (before M x)
    (broadcastInDim S_ ![] bcast_S_S_ (constant (F := Ideal) S_ .f32 0x00000000#32))
    reduceWindows_S8x2048x2048_S8x2048x2048_w1s1p0_0_w1s1p0_0_w2048s1p0_2047 h_S_) (before M x)

/-- The weights: the exponential of the beta's logarithm and of what the later keys take. -/
def weights (M : Mask) (l d : Big) : Big := before M (Host.exp (F := Ideal) (φ := .f32) (s := S8x2048x2048) (addf l d))

/-- The betas. -/
def betas (l : Big) : Big := Host.exp (F := Ideal) (φ := .f32) (s := S8x2048x2048) l

/-- An array over queries and keys in tiles of 256 keys. -/
def tiles (x : Big) : Vec Ideal S8x8x2048x256 .bf16 :=
  truncf (F := Ideal) (φ := .f32) .bf16 (transpose S8x8x2048x256 [0, 2, 1, 3] (shapeCast S8x2048x8x256 x shapeCasts_S8x2048x2048_S8x2048x8x256)
    transposes_S8x2048x8x256_S8x8x2048x256_0_2_1_3) bitsLt_bf16_f32

/-- The heads' outputs side by side. -/
def merge (a : Big) (v : FVec Ideal S8x2048x128 .f32) : Vec Ideal S2048x1024 .f32 :=
  shapeCast S2048x1024 (transpose S2048x8x128 [1, 0, 2]
    (Host.dotGeneral (F := Ideal) (φ₁ := .f32) (φ₂ := .f32) dot_S8x2048x2048_S8x2048x128_S8x2048x128_2_1_1_2_0_0 none a v) transposes_S8x2048x128_S2048x8x128_1_0_2)
    shapeCasts_S2048x8x128_S2048x1024

variable (W : Valuation τ sig (Elt Ideal))

theorem segA_z : after hostOps0 W (Proc.devRef .tc main_v14) = val_main_v16 (F := Ideal) (W (Proc.devRef .tc main_arg0)) := by
  after_results_simp
  rfl
theorem segA_n : after hostOps0 W (Proc.devRef .tc main_v22) = Host.negf (F := Ideal) (φ := .f32) (val_main_v16 (F := Ideal) (W (Proc.devRef .tc main_arg0)) : Big) := by
  after_results_simp
  rfl
theorem segA_m : after hostOps0 W (Proc.devRef .tc main_v21) = val_main_v23 (F := Ideal) := by
  after_results_simp
  rfl
theorem segA_v : after hostOps0 W (Proc.devRef .tc main_v11) = val_main_v13 (F := Ideal) (W (Proc.devRef .tc main_arg0)) := by
  after_results_simp
  rfl
theorem segB_l : after hostOps0_1 W (Proc.devRef .tc main_v23) = logSig (W (Proc.devRef .tc main_v22)) := by
  after_results_simp
  rfl
theorem segB_z : after hostOps0_1 W (Proc.devRef .tc main_v14) = W (Proc.devRef .tc main_v14) := by
  after_results_simp
theorem segB_m : after hostOps0_1 W (Proc.devRef .tc main_v21) = W (Proc.devRef .tc main_v21) := by
  after_results_simp
theorem segB_v : after hostOps0_1 W (Proc.devRef .tc main_v11) = W (Proc.devRef .tc main_v11) := by
  after_results_simp
theorem segC_d : after hostOps0_5 (after hostOps0_4 (after hostOps0_3 (after hostOps0_2 W))) (Proc.devRef .tc main_v26) = later (W (Proc.devRef .tc main_v21)) (W (Proc.devRef .tc main_v23)) := by
  after_results_simp
  rfl
theorem segC_z : after hostOps0_5 (after hostOps0_4 (after hostOps0_3 (after hostOps0_2 W))) (Proc.devRef .tc main_v14) = W (Proc.devRef .tc main_v14) := by
  after_results_simp
theorem segC_m : after hostOps0_5 (after hostOps0_4 (after hostOps0_3 (after hostOps0_2 W))) (Proc.devRef .tc main_v21) = W (Proc.devRef .tc main_v21) := by
  after_results_simp
theorem segC_v : after hostOps0_5 (after hostOps0_4 (after hostOps0_3 (after hostOps0_2 W))) (Proc.devRef .tc main_v11) = W (Proc.devRef .tc main_v11) := by
  after_results_simp
theorem segD_l : after hostOps0_6 W (Proc.devRef .tc main_v27) = logSig (W (Proc.devRef .tc main_v14)) := by
  after_results_simp
  rfl
theorem segD_d : after hostOps0_6 W (Proc.devRef .tc main_v26) = W (Proc.devRef .tc main_v26) := by
  after_results_simp
theorem segD_m : after hostOps0_6 W (Proc.devRef .tc main_v21) = W (Proc.devRef .tc main_v21) := by
  after_results_simp
theorem segD_v : after hostOps0_6 W (Proc.devRef .tc main_v11) = W (Proc.devRef .tc main_v11) := by
  after_results_simp
theorem segE_a : after hostOps0_8 (after hostOps0_7 W) (Proc.devRef .tc main_v30) = weights (W (Proc.devRef .tc main_v21)) (W (Proc.devRef .tc main_v27)) (W (Proc.devRef .tc main_v26)) := by
  after_results_simp
  rfl
theorem segE_l : after hostOps0_8 (after hostOps0_7 W) (Proc.devRef .tc main_v27) = W (Proc.devRef .tc main_v27) := by
  after_results_simp
theorem segE_v : after hostOps0_8 (after hostOps0_7 W) (Proc.devRef .tc main_v11) = W (Proc.devRef .tc main_v11) := by
  after_results_simp
theorem segF_o : after hostOps0_9 W (Proc.devRef .tc main_v33) = merge (W (Proc.devRef .tc main_v30)) (W (Proc.devRef .tc main_v11)) := by
  after_results_simp
  unfold merge
  rfl
theorem segF_a : after hostOps0_9 W (Proc.devRef .tc main_v36) = tiles (W (Proc.devRef .tc main_v30)) := by
  after_results_simp
  unfold tiles
  rfl
theorem segF_b : after hostOps0_9 W (Proc.devRef .tc main_v40) = tiles (betas (W (Proc.devRef .tc main_v27))) := by
  after_results_simp
  unfold tiles betas
  rfl

/-! ### The reference's forward values through the same functions -/

variable (x : Vec Ideal S2048x8192 .bf16)

theorem ref_n : val_main_v24 (F := Ideal) x = Host.negf (F := Ideal) (φ := .f32) (s := S8x2048x2048) (val_main_v16 (F := Ideal) x) := rfl
theorem ref_l : val_main_v25_0 (F := Ideal) x = logSig (val_main_v24 (F := Ideal) x) := by
  unfold val_main_v25_0 val_main_call0_v1_0 logSig
  rfl
theorem ref_d : val_main_v28 (F := Ideal) x = later (val_main_v23 (F := Ideal)) (val_main_v25_0 (F := Ideal) x) := rfl
theorem ref_b : val_main_v29_0 (F := Ideal) x = logSig (val_main_v16 (F := Ideal) x) := by
  unfold val_main_v29_0 val_main_call3_v1_0 logSig
  rfl
theorem ref_a : val_main_v32_0 (F := Ideal) x
    = weights (val_main_v23 (F := Ideal)) (val_main_v29_0 (F := Ideal) x) (val_main_v28 (F := Ideal) x) := rfl
theorem ref_o : val_main_v35 (F := Ideal) x = merge (val_main_v32_0 (F := Ideal) x) (val_main_v13 (F := Ideal) x) := by
  unfold val_main_v35 val_main_v34 val_main_v33 merge
  rfl

/-! ### What the call reads -/

variable (m : (ℓ : Loc nD τ sig) → Buf (Elt Ideal) ℓ) (c : Dev nD)

theorem split (b : Ref sig .tc) : V m c b = after hostOps0_9 (after hostOps0_8 (after hostOps0_7 (after hostOps0_6
    (after hostOps0_5 (after hostOps0_4 (after hostOps0_3 (after hostOps0_2 (after hostOps0_1 (after hostOps0
      (fun b => m (c, b))))))))))) (Proc.devRef .tc b) := by
  unfold V
  simp only [List.flatten_cons, List.flatten_nil, List.append_nil, after_append]

theorem host_o : V m c main_v33 = val_main_v35 (F := Ideal) (m ((c.tc : Thread nD τ).loc main_arg0)) := by
  rw [split, segF_o, segE_a, segE_v, segD_m, segD_l, segD_d, segD_v, segC_m, segC_z, segC_d, segC_v, segB_m, segB_z, segB_l, segB_v,
    segA_m, segA_z, segA_n, segA_v, ref_o, ref_a, ref_b, ref_d, ref_l, ref_n]
theorem host_a : V m c main_v36 = tiles (val_main_v32_0 (F := Ideal) (m ((c.tc : Thread nD τ).loc main_arg0))) := by
  rw [split, segF_a, segE_a, segD_m, segD_l, segD_d, segC_m, segC_z, segC_d, segB_m, segB_z, segB_l,
    segA_m, segA_z, segA_n, ref_a, ref_b, ref_d, ref_l, ref_n]
theorem host_b : V m c main_v40 = tiles (betas (val_main_v29_0 (F := Ideal) (m ((c.tc : Thread nD τ).loc main_arg0)))) := by
  rw [split, segF_b, segE_l, segD_l, segC_z, segB_z, segA_z, ref_b]

end
end Cert.Proof.PI
-- ==== Proof.Tile.lean ====
module
public import proofs.«01_k».proof.Proof.Model
public import Idealize.ShloMosaic.Lib.Pointwise

/-! One tile's values over the exact numbers, element by element. -/

set_option maxRecDepth 16384

@[expose] public section

namespace Cert.Proof.PI
open Idealize.ShloMosaic Cert.KernelIdeal Cert.KernelIdeal.Gen

noncomputable section

theorem pay15_at (A : Vec Ideal S1x1x512x256 .bf16) (r : Fin 512) (c : Fin 256) :
    k0_pay15 (F := Ideal) A (ix2 r c) = A (ix4 0 0 r c) := by
  pointwise [k0_pay15]

theorem pay16_at (d : Vec Ideal S512x128 .bf16) (v : Vec Ideal S256x128 .bf16) (A : Vec Ideal S1x1x512x256 .bf16)
    (r : Fin 512) (c : Fin 256) :
    k0_pay16 (F := Ideal) d v A (ix2 r c) = (∑ k : Fin 128, d (ix2 r k) * v (ix2 c k)) * A (ix4 0 0 r c) := by
  pointwise [k0_pay16, k0_pay15]

theorem pay17_at (d : Vec Ideal S512x128 .bf16) (y : FVec Ideal S512x1 .f32) (v : Vec Ideal S256x128 .bf16)
    (A : Vec Ideal S1x1x512x256 .bf16) (r : Fin 512) :
    k0_pay17 (F := Ideal) d y v A (ix2 r 0) = y (ix2 r 0) + ∑ c : Fin 256, k0_pay16 (F := Ideal) d v A (ix2 r c) := by
  pointwise [k0_pay17]

theorem pay18_at (d : Vec Ideal S512x128 .bf16) (e : FVec Ideal S512x1 .f32) (T : FVec Ideal S256x256 .bf16)
    (y : FVec Ideal S512x1 .f32) (v : Vec Ideal S256x128 .bf16)
    (A B : Vec Ideal S1x1x512x256 .bf16) (r : Fin 512) (c : Fin 256) :
    k0_pay18 (F := Ideal) d e T y v A B (ix2 r c)
      = k0_pay16 (F := Ideal) d v A (ix2 r c) - B (ix4 0 0 r c) * (k0_pay16 (F := Ideal) d v A (ix2 r c)
          + ((e (ix2 r 0) - k0_pay17 (F := Ideal) d y v A (ix2 r 0))
            + ∑ k : Fin 256, k0_pay16 (F := Ideal) d v A (ix2 r k) * T (ix2 k c))) := by
  pointwise [k0_pay18]

theorem pay77_at (d : Vec Ideal S512x128 .bf16) (e : FVec Ideal S512x1 .f32) (M : IVec S512x256 1) (T : FVec Ideal S256x256 .bf16)
    (y : FVec Ideal S512x1 .f32) (v : Vec Ideal S256x128 .bf16)
    (A B : Vec Ideal S1x1x512x256 .bf16) (r : Fin 512) (c : Fin 256) :
    k0_pay77 (F := Ideal) d e M T y v A B (ix2 r c)
      = if M (ix2 r c) = 1#1 then k0_pay18 (F := Ideal) d e T y v A B (ix2 r c) else 0 := by
  rw [pay18_at]
  have h16 : k0_pay75 (F := Ideal) d v A = k0_pay16 d v A := rfl
  have h17 : k0_pay76 (F := Ideal) d y v A = k0_pay17 d y v A := rfl
  pointwise [k0_pay77, h16, h17]
  rfl

theorem pay20_at (d : Vec Ideal S512x128 .bf16) (a : FVec Ideal S512x256 .bf16) (w : Vec Ideal S256x128 .f32)
    (c : Fin 256) (l : Fin 128) :
    k0_pay20 (F := Ideal) d a w (ix2 c l) = w (ix2 c l) + ∑ r : Fin 512, a (ix2 r c) * d (ix2 r l) := by
  pointwise [k0_pay20]

theorem pay21_at (y : FVec Ideal S512x128 .f32) (k : Vec Ideal S256x128 .bf16) (z : FVec Ideal S512x256 .bf16)
    (r : Fin 512) (l : Fin 128) :
    k0_pay21 (F := Ideal) y k z (ix2 r l) = y (ix2 r l) + ∑ c : Fin 256, z (ix2 r c) * k (ix2 c l) := by
  pointwise [k0_pay21]

theorem dkT_at (E : Env Ideal) (h : Fin 2) (z : FVec Ideal S512x256 .bf16) (w : Vec Ideal S256x128 .f32)
    (c : Fin 256) (l : Fin 128) :
    E.dkT h z w (ix2 c l) = w (ix2 c l) + ∑ r : Fin 512, z (ix2 r c) * E.q h (ix2 r l) := by
  pointwise [Env.dkT]

theorem pay65_at (d : Vec Ideal S512x128 .bf16) (o : Vec Ideal S512x128 .f32) (r : Fin 512) :
    k0_pay65 (F := Ideal) d o (ix2 r 0) = ∑ k : Fin 128, d (ix2 r k) * o (ix2 r k) := by
  pointwise [k0_pay65]

theorem pay66_at (d : Vec Ideal S512x128 .bf16) (o : Vec Ideal S512x128 .f32) (r : Fin 512) :
    k0_pay66 (F := Ideal) d o (ix2 r 0) = ∑ k : Fin 128, d (ix2 r k) * o (ix2 r k) := pay65_at d o r

theorem pay11_at (y : FVec Ideal S512x128 .f32) (r : Fin 512) (l : Fin 128) :
    k0_pay11 (F := Ideal) y (ix2 r l) = y (ix2 r l) * Ideal.ofBits .f32 0x3DB504F3#32 := by
  pointwise [k0_pay11]

theorem pay12_at (y : FVec Ideal S512x128 .f32) (r : Fin 512) (l : Fin 128) :
    k0_pay12 (F := Ideal) y (ix2 r l) = y (ix2 r l) * Ideal.ofBits .f32 0x3DB504F3#32 := by
  pointwise [k0_pay12]

theorem pay13_at (y : Vec Ideal S2048x256 .f32) (r : Fin 2048) (l : Fin 256) :
    k0_pay13 (F := Ideal) y (ix2 r l) = y (ix2 r l) * Ideal.ofBits .f32 0x3DB504F3#32 := by
  pointwise [k0_pay13]

theorem pay14_at (y : Vec Ideal S2048x256 .f32) (r : Fin 2048) (l : Fin 256) :
    k0_pay14 (F := Ideal) y (ix2 r l) = y (ix2 r l) := by
  pointwise [k0_pay14]

theorem pay63_at (r : Fin 2048) (l : Fin 256) : k0_pay63 (F := Ideal) (ix2 r l) = 0 := by
  pointwise [k0_pay63]

theorem pay64_at (r : Fin 2048) (l : Fin 256) : k0_pay64 (F := Ideal) (ix2 r l) = 0 := by
  pointwise [k0_pay64]

theorem pay70_at (r : Fin 512) : k0_pay70 (F := Ideal) (ix2 r 0) = 0 := by
  pointwise [k0_pay70]

theorem pay71_at (r : Fin 512) (l : Fin 128) : k0_pay71 (F := Ideal) (ix2 r l) = 0 := by
  pointwise [k0_pay71]

theorem pay67_at (r : Fin 512) (c : Fin 256) : k0_pay67 (ix2 r c) = 1#1 ↔ c.val < r.val := by
  have hr := r.isLt
  have hc := c.isLt
  pointwise [k0_pay67]
  show IntOp.cmpi .slt (BitVec.ofNat 32 c.val + BitVec.ofNat 32 0) (BitVec.ofNat 32 r.val) = 1#1 ↔ _
  rw [← BitVec.ofNat_add, WordCmp.cmpi_slt_ofNat_eq_one_iff (by omega) (by omega)]
  omega

theorem pay68_at (r : Fin 512) (c : Fin 256) : k0_pay68 (ix2 r c) = 1#1 ↔ c.val + 256 < r.val := by
  have hr := r.isLt
  have hc := c.isLt
  pointwise [k0_pay68]
  show IntOp.cmpi .slt (BitVec.ofNat 32 c.val + BitVec.ofNat 32 256) (BitVec.ofNat 32 r.val) = 1#1 ↔ _
  rw [← BitVec.ofNat_add, WordCmp.cmpi_slt_ofNat_eq_one_iff (by omega) (by omega)]

theorem pay69_at (r c : Fin 256) : k0_pay69 (F := Ideal) (ix2 r c) = if r.val < c.val then 1 else 0 := by
  have hr := r.isLt
  have hc := c.isLt
  pointwise [k0_pay69]
  rw [WordCmp.cmpi_slt_ofNat (by omega) (by omega)]
  show (((BitVec.setWidth 32 (BitVec.ofBool (decide (r.val < c.val)))).toInt : ℝ) : EReal) = _
  by_cases h : r.val < c.val
  · have e : (BitVec.setWidth 32 (BitVec.ofBool true)).toInt = 1 := by decide
    rw [if_pos h, decide_eq_true h, e]; norm_num
  · have e : (BitVec.setWidth 32 (BitVec.ofBool false)).toInt = 0 := by decide
    rw [if_neg h, decide_eq_false h, e]; norm_num

end
end Cert.Proof.PI
-- ==== Proof.Sums.lean ====
module
public import Mathlib.Data.EReal.Operations
public import Mathlib.Algebra.BigOperators.Fin

/-! The backward pass of one attention head over a block of 512 queries, in real numbers: the sums that a
    walk over the tiles of 256 keys, from the right to the left, has reached. -/

@[expose] public section

namespace Cert.Proof

noncomputable section

/-- Column `c` of tile `j`. -/
def tk (j : Fin 8) (c : Fin 256) : Fin 2048 := ⟨256 * j.val + c.val, by omega⟩

/-- A sum over the columns of one tile. -/
theorem sum_tile {M : Type} [AddCommMonoid M] (f : Fin 2048 → M) (j : Fin 8) :
    (∑ u : Fin 2048, if 256 * j.val ≤ u.val ∧ u.val < 256 * (j.val + 1) then f u else 0) = ∑ c : Fin 256, f (tk j c) := by
  rw [← Finset.sum_filter]
  refine Finset.sum_bij' (fun u hu => ⟨u.val - 256 * j.val, ?_⟩) (fun c _ => tk j c) ?_ ?_ ?_ ?_ ?_
  · have := (Finset.mem_filter.mp hu).2; omega
  · intro _ _; exact Finset.mem_univ _
  · intro c _
    have hc := c.isLt
    refine Finset.mem_filter.mpr ⟨Finset.mem_univ _, ?_⟩
    show 256 * j.val ≤ 256 * j.val + c.val ∧ 256 * j.val + c.val < 256 * (j.val + 1)
    omega
  · intro u hu
    have := (Finset.mem_filter.mp hu).2
    apply Fin.ext
    show 256 * j.val + (u.val - 256 * j.val) = u.val
    omega
  · intro c _
    apply Fin.ext
    show 256 * j.val + c.val - 256 * j.val = c.val
    omega
  · intro u hu
    have := (Finset.mem_filter.mp hu).2
    congr 1
    apply Fin.ext
    show u.val = 256 * j.val + (u.val - 256 * j.val)
    omega

/-- The sum from tile `j` on is the one from the next tile on and the tile's own. -/
theorem sum_from {M : Type} [AddCommMonoid M] (f : Fin 2048 → M) (j : Fin 8) :
    (∑ u : Fin 2048, if 256 * j.val ≤ u.val then f u else 0)
      = (∑ u : Fin 2048, if 256 * (j.val + 1) ≤ u.val then f u else 0) + ∑ c : Fin 256, f (tk j c) := by
  rw [← sum_tile, ← Finset.sum_add_distrib]
  refine Finset.sum_congr rfl fun u _ => ?_
  by_cases h1 : 256 * (j.val + 1) ≤ u.val
  · rw [if_pos (by omega), if_pos h1, if_neg (by omega), add_zero]
  · by_cases h2 : 256 * j.val ≤ u.val
    · rw [if_pos h2, if_neg h1, if_pos (by omega), zero_add]
    · rw [if_neg h2, if_neg h1, if_neg (by omega), zero_add]

/-- What precedes a column: what precedes its tile, and what precedes it in the tile. -/
theorem sum_before (f : Fin 2048 → ℝ) (j : Fin 8) (c : Fin 256) :
    (∑ u : Fin 2048, if u.val < (tk j c).val then f u else 0)
      = ((∑ u, f u) - ∑ u : Fin 2048, if 256 * j.val ≤ u.val then f u else 0)
        + ∑ k : Fin 256, f (tk j k) * (if k.val < c.val then 1 else 0) := by
  have hc := c.isLt
  have e : (∑ k : Fin 256, f (tk j k) * (if k.val < c.val then (1 : ℝ) else 0))
      = ∑ u : Fin 2048, if 256 * j.val ≤ u.val ∧ u.val < 256 * (j.val + 1) then (if u.val < (tk j c).val then f u else 0) else 0 := by
    rw [sum_tile (fun u => if u.val < (tk j c).val then f u else 0)]
    refine Finset.sum_congr rfl fun k _ => ?_
    have : ((tk j k).val < (tk j c).val) ↔ k.val < c.val := by
      show 256 * j.val + k.val < 256 * j.val + c.val ↔ _
      omega
    simp only [this, mul_ite, mul_one, mul_zero]
  rw [e, ← Finset.sum_sub_distrib, ← Finset.sum_add_distrib]
  refine Finset.sum_congr rfl fun u _ => ?_
  have ht : (tk j c).val = 256 * j.val + c.val := rfl
  rw [ht]
  by_cases h1 : 256 * j.val ≤ u.val
  · by_cases h2 : u.val < 256 * j.val + c.val
    · rw [if_pos h2, if_pos h1, if_pos (by omega)]; ring
    · rw [if_neg h2, if_pos h1]; simp
  · rw [if_pos (by omega), if_neg h1, if_neg (by omega)]; ring

/-- A head's two matrices of 512 rows, its keys and values, its weights and betas against them, and the position of its first row. -/
structure Blk where
  Q : Fin 512 → Fin 128 → ℝ
  D : Fin 512 → Fin 128 → ℝ
  K : Fin 2048 → Fin 128 → ℝ
  V : Fin 2048 → Fin 128 → ℝ
  A : Fin 512 → Fin 2048 → ℝ
  B : Fin 512 → Fin 2048 → ℝ
  base : ℕ

namespace Blk
variable (X : Blk)

/-- The weight's gradient times the weight. -/
def G (r : Fin 512) (s : Fin 2048) : ℝ := (∑ l, X.D r l * X.V s l) * X.A r s
/-- The gradient of the logit. -/
def DZ (r : Fin 512) (s : Fin 2048) : ℝ :=
  if s.val < X.base + r.val then X.G r s - X.B r s * (X.G r s + ∑ u : Fin 2048, if u.val < s.val then X.G r u else 0) else 0
/-- No weight from the row's own position on. -/
def Causal : Prop := ∀ r s, X.base + r.val ≤ s.val → X.A r s = 0

variable {X}

theorem Causal.G (h : X.Causal) (r : Fin 512) (s : Fin 2048) (hs : X.base + r.val ≤ s.val) : X.G r s = 0 := by
  rw [Blk.G, h r s hs, mul_zero]

theorem DZ_zero (r : Fin 512) (s : Fin 2048) (hs : X.base + r.val ≤ s.val) : X.DZ r s = 0 := if_neg (by omega)

/-- The logit's gradient at a column of a tile, from the running sum with the tile in it. -/
theorem DZ_tile (r : Fin 512) (j : Fin 8) (c : Fin 256) (h : (tk j c).val < X.base + r.val) :
    X.DZ r (tk j c)
      = X.G r (tk j c) - X.B r (tk j c) * (X.G r (tk j c)
          + (((∑ u, X.G r u) - ∑ u : Fin 2048, if 256 * j.val ≤ u.val then X.G r u else 0)
            + ∑ k : Fin 256, X.G r (tk j k) * (if k.val < c.val then 1 else 0))) := by
  rw [DZ, if_pos h, sum_before]

end Blk

/-- Row `r` of query block `i`. -/
def row (i : Fin 4) (r : Fin 512) : Fin 2048 := ⟨512 * i.val + r.val, by omega⟩

/-- The sum over the rows of the blocks up to one is the sum over those before it and its own. -/
theorem sum_rows (f : Fin 2048 → ℝ) (i : Fin 4) :
    (∑ u : Fin 2048, if u.val < 512 * (i.val + 1) then f u else 0)
      = (∑ u : Fin 2048, if u.val < 512 * i.val then f u else 0) + ∑ r : Fin 512, f (row i r) := by
  have e : ∑ r : Fin 512, f (row i r)
      = ∑ u : Fin 2048, if 512 * i.val ≤ u.val ∧ u.val < 512 * (i.val + 1) then f u else 0 := by
    rw [← Finset.sum_filter]
    symm
    refine Finset.sum_bij' (fun u hu => ⟨u.val - 512 * i.val, ?_⟩) (fun c _ => row i c) ?_ ?_ ?_ ?_ ?_
    · have := (Finset.mem_filter.mp hu).2; omega
    · intro _ _; exact Finset.mem_univ _
    · intro c _
      have hc := c.isLt
      refine Finset.mem_filter.mpr ⟨Finset.mem_univ _, ?_⟩
      show 512 * i.val ≤ 512 * i.val + c.val ∧ 512 * i.val + c.val < 512 * (i.val + 1)
      omega
    · intro u hu
      have := (Finset.mem_filter.mp hu).2
      apply Fin.ext
      show 512 * i.val + (u.val - 512 * i.val) = u.val
      omega
    · intro c _
      apply Fin.ext
      show 512 * i.val + c.val - 512 * i.val = c.val
      omega
    · intro u hu
      have := (Finset.mem_filter.mp hu).2
      congr 1
      apply Fin.ext
      show u.val = 512 * i.val + (u.val - 512 * i.val)
      omega
  rw [e, ← Finset.sum_add_distrib]
  refine Finset.sum_congr rfl fun u _ => ?_
  by_cases h1 : u.val < 512 * i.val
  · rw [if_pos (by omega), if_pos h1, if_neg (by omega), add_zero]
  · by_cases h2 : u.val < 512 * (i.val + 1)
    · rw [if_pos h2, if_neg h1, if_pos (by omega), zero_add]
    · rw [if_neg h2, if_neg h1, if_neg (by omega), zero_add]

/-- One head whole: its queries, keys, values and its output's gradient, its weights and its betas. -/
structure Hd where
  Q : Fin 2048 → Fin 128 → ℝ
  K : Fin 2048 → Fin 128 → ℝ
  V : Fin 2048 → Fin 128 → ℝ
  D : Fin 2048 → Fin 128 → ℝ
  A : Fin 2048 → Fin 2048 → ℝ
  B : Fin 2048 → Fin 2048 → ℝ

namespace Hd
variable (H : Hd)

/-- The weight's gradient times the weight. -/
def G (t s : Fin 2048) : ℝ := (∑ l, H.D t l * H.V s l) * H.A t s
/-- The gradient of the logit. -/
def DZ (t s : Fin 2048) : ℝ :=
  if s.val < t.val then H.G t s - H.B t s * (H.G t s + ∑ u : Fin 2048, if u.val < s.val then H.G t u else 0) else 0
/-- The output. -/
def o (t : Fin 2048) (l : Fin 128) : ℝ := ∑ s, H.A t s * H.V s l
/-- The gradients of the queries and of the keys, but for the logits' scale, and of the values. -/
def dq (t : Fin 2048) (l : Fin 128) : ℝ := ∑ s, H.DZ t s * H.K s l
def dk (s : Fin 2048) (l : Fin 128) : ℝ := ∑ t, H.DZ t s * H.Q t l
def dv (s : Fin 2048) (l : Fin 128) : ℝ := ∑ t, H.A t s * H.D t l
/-- No weight from the row's own position on. -/
def Causal : Prop := ∀ t s, t.val ≤ s.val → H.A t s = 0

/-- The rows of one query block. -/
def blk (i : Fin 4) : Blk where
  Q r l := H.Q (row i r) l
  D r l := H.D (row i r) l
  K := H.K
  V := H.V
  A r s := H.A (row i r) s
  B r s := H.B (row i r) s
  base := 512 * i.val

theorem blk_G (i : Fin 4) (r : Fin 512) (s : Fin 2048) : (H.blk i).G r s = H.G (row i r) s := rfl
theorem blk_DZ (i : Fin 4) (r : Fin 512) (s : Fin 2048) : (H.blk i).DZ r s = H.DZ (row i r) s := rfl

/-- The output's gradient against the output, row by row, is the sum of the row's weights' gradients times the weights. -/
theorem dot_o (t : Fin 2048) : ∑ l, H.D t l * H.o t l = ∑ s, H.G t s := by
  unfold o G
  simp only [Finset.mul_sum, Finset.sum_mul]
  rw [Finset.sum_comm]
  exact Finset.sum_congr rfl fun s _ => Finset.sum_congr rfl fun l _ => by ring

end Hd

end
end Cert.Proof
-- ==== Proof.Step.lean ====
module
public import proofs.«01_k».proof.Proof.Tile
public import proofs.«01_k».proof.Proof.Sums

/-! One tile's step over the exact numbers: when everything it reads is a real number, what it carries are the
    real sums from that tile on. -/

set_option maxRecDepth 16384

@[expose] public section

namespace Cert.Proof.PI
open Idealize.ShloMosaic Cert.KernelIdeal Cert.KernelIdeal.Gen Idealize.ShloMosaic.VecWindow

noncomputable section

theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- The column of lane `l` of head `h` among a pair's 256. -/
def ln (h : Fin 2) (l : Fin 128) : Fin 256 := ⟨128 * h.val + l.val, by omega⟩

/-- The point's inputs are the two heads' real numbers. -/
structure Reads (E : Env Ideal) (X : Fin 2 → Blk) : Prop where
  q : ∀ h r l, E.q h (ix2 r l) = ((X h).Q r l : EReal)
  d : ∀ h r l, E.d h (ix2 r l) = ((X h).D r l : EReal)
  e : ∀ h r, E.e h (ix2 r 0) = ((∑ s, (X h).G r s : ℝ) : EReal)
  K : ∀ h s l, E.K (ix2 s (ln h l)) = ((X h).K s l : EReal)
  V : ∀ h s l, E.V (ix2 s (ln h l)) = ((X h).V s l : EReal)
  A : ∀ h j r c, E.A (ix4 h j r c) = ((X h).A r (tk j c) : EReal)
  B : ∀ h j r c, E.B (ix4 h j r c) = ((X h).B r (tk j c) : EReal)

/-- What is carried are the real sums from tile `J h` of head `h` on, over the gradients `dk`, `dv` before. -/
structure Inv (X : Fin 2 → Blk) (J : Fin 2 → ℕ) (dk dv : Fin 2 → Fin 2048 → Fin 128 → ℝ) (S : St Ideal) : Prop where
  c : ∀ h r, S.c h (ix2 r 0) = ((∑ s : Fin 2048, if 256 * J h ≤ s.val then (X h).G r s else 0 : ℝ) : EReal)
  y : ∀ h r l, S.y h (ix2 r l) = ((∑ s : Fin 2048, if 256 * J h ≤ s.val then (X h).DZ r s * (X h).K s l else 0 : ℝ) : EReal)
  dk : ∀ h s l, S.dk (ix2 s (ln h l))
    = ((dk h s l + if 256 * J h ≤ s.val then ∑ r, (X h).DZ r s * (X h).Q r l else 0 : ℝ) : EReal)
  dv : ∀ h s l, S.dv (ix2 s (ln h l))
    = ((dv h s l + if 256 * J h ≤ s.val then ∑ r, (X h).A r s * (X h).D r l else 0 : ℝ) : EReal)

theorem kwin_at {e : EltTy} (x : Vec Ideal S2048x256 e) (h : Fin 2) (j : Fin 8) (c : Fin 256) (l : Fin 128) :
    (window x (ko h j) S256x128.size (ko_inb h j) : Vec Ideal S256x128 e) (ix2 c l) = x (ix2 (tk j c) (ln h l)) := by
  unfold window
  congr 1
  funext a
  apply Fin.ext
  match a with
  | ⟨0, _⟩ => show 256 * j.val + 1 * c.val = 256 * j.val + c.val; omega
  | ⟨1, _⟩ => show 128 * h.val + 1 * l.val = 128 * h.val + l.val; omega

theorem awin_at {e : EltTy} (x : Vec Ideal S2x8x512x256 e) (h : Fin 2) (j : Fin 8) (r : Fin 512) (c : Fin 256) :
    (window x (ao h j) S1x1x512x256.size (ao_inb h j) : Vec Ideal S1x1x512x256 e) (ix4 0 0 r c) = x (ix4 h j r c) := by
  unfold window
  congr 1
  funext a
  apply Fin.ext
  match a with
  | ⟨0, _⟩ => show h.val + 1 * 0 = h.val; omega
  | ⟨1, _⟩ => show j.val + 1 * 0 = j.val; omega
  | ⟨2, _⟩ => show 0 + 1 * r.val = r.val; omega
  | ⟨3, _⟩ => show 0 + 1 * c.val = c.val; omega

theorem ln_val (h : Fin 2) (l : Fin 128) : (ln h l).val = 128 * h.val + l.val := rfl
theorem tk_val (j : Fin 8) (c : Fin 256) : (tk j c).val = 256 * j.val + c.val := rfl

theorem put_in {e : EltTy} (x : Vec Ideal S2048x256 e) (h : Fin 2) (j : Fin 8) (w : Vec Ideal S256x128 e) (c : Fin 256) (l : Fin 128) :
    put x (ko h j) S256x128.size w (ix2 (tk j c) (ln h l)) = w (ix2 c l) := by
  have e := congrFun (window_put_same x (ko h j) S256x128.size (ko_inb h j) w) (ix2 c l)
  rw [← e]
  exact (kwin_at _ h j c l).symm

theorem put_out {e : EltTy} (x : Vec Ideal S2048x256 e) (h h' : Fin 2) (j : Fin 8) (w : Vec Ideal S256x128 e) (s : Fin 2048) (l : Fin 128)
    (hne : h' ≠ h ∨ ¬ (256 * j.val ≤ s.val ∧ s.val < 256 * (j.val + 1))) :
    put x (ko h j) S256x128.size w (ix2 s (ln h' l)) = x (ix2 s (ln h' l)) := by
  unfold put
  refine dif_neg fun hall => ?_
  have h0 := hall (0 : Fin 2)
  have h1 := hall (1 : Fin 2)
  have h0' : 256 * j.val ≤ s.val ∧ s.val < 256 * j.val + 256 := h0
  have h1' : 128 * h.val ≤ 128 * h'.val + l.val ∧ 128 * h'.val + l.val < 128 * h.val + 128 := h1
  have := l.isLt
  rcases hne with hne | hne
  · exact hne (Fin.ext (by omega))
  · omega

/-- What a mask of a tile must be: absent where the whole tile lies before every row, else the comparison of positions. -/
def MaskOk (X : Blk) (j : Fin 8) : Option (IVec S512x256 1) → Prop
  | none => ∀ (r : Fin 512) (c : Fin 256), (tk j c).val < X.base + r.val
  | some M => ∀ (r : Fin 512) (c : Fin 256), M (ix2 r c) = 1#1 ↔ (tk j c).val < X.base + r.val

section step
variable {E : Env Ideal} {X : Fin 2 → Blk} (R : Reads E X) (h : Fin 2) (j : Fin 8)
include R

theorem g_at (r : Fin 512) (c : Fin 256) :
    k0_pay16 (F := Ideal) (E.d h) (E.vt h j) (E.at' h j) (ix2 r c) = ((X h).G r (tk j c) : EReal) := by
  rw [pay16_at]
  have e1 : ∀ k : Fin 128, E.vt h j (ix2 c k) = ((X h).V (tk j c) k : EReal) := fun k => (kwin_at _ h j c k).trans (R.V h _ _)
  have e2 : E.at' h j (ix4 0 0 r c) = ((X h).A r (tk j c) : EReal) := (awin_at _ h j r c).trans (R.A h j r c)
  simp only [e1, e2, R.d, Blk.G, EReal.coe_mul, coe_sum]

theorem c_at (S : FVec Ideal S512x1 .f32) (r : Fin 512) (y : ℝ) (hy : S (ix2 r 0) = (y : EReal)) :
    k0_pay17 (F := Ideal) (E.d h) S (E.vt h j) (E.at' h j) (ix2 r 0)
      = ((y + ∑ c, (X h).G r (tk j c) : ℝ) : EReal) := by
  rw [pay17_at, hy]
  simp only [g_at R, EReal.coe_add, coe_sum]

theorem z_at (m : Option (IVec S512x256 1)) (hX : (X h).Causal)
    (hm : MaskOk (X h) j m)
    (S : FVec Ideal S512x1 .f32)
    (hS : ∀ r : Fin 512, S (ix2 r 0) = ((∑ s : Fin 2048, if 256 * (j.val + 1) ≤ s.val then (X h).G r s else 0 : ℝ) : EReal))
    (r : Fin 512) (c : Fin 256) :
    E.dz h j m S (ix2 r c) = ((X h).DZ r (tk j c) : EReal) := by
  have main : (tk j c).val < (X h).base + r.val →
      k0_pay18 (F := Ideal) (E.d h) (E.e h) k0_pay69 S (E.vt h j) (E.at' h j) (E.bt h j) (ix2 r c) = ((X h).DZ r (tk j c) : EReal) := by
    intro hlt
    have eb : E.bt h j (ix4 0 0 r c) = ((X h).B r (tk j c) : EReal) := (awin_at _ h j r c).trans (R.B h j r c)
    rw [pay18_at, c_at R h j S r _ (hS r), ← sum_from, eb, R.e, Blk.DZ_tile r j c hlt]
    simp only [g_at R, pay69_at, EReal.coe_add, EReal.coe_sub, EReal.coe_mul, coe_sum]
    congr! 5
    split_ifs <;> simp
  unfold Env.dz
  match m, hm with
  | none, hm => exact main (hm r c)
  | some M, hm =>
    dsimp only
    rw [pay77_at]
    by_cases hlt : (tk j c).val < (X h).base + r.val
    · rw [if_pos ((hm r c).mpr hlt)]; exact main hlt
    · rw [if_neg fun hc => hlt ((hm r c).mp hc), Blk.DZ_zero r _ (by omega), EReal.coe_zero]

/-- One tile of one head. -/
theorem step_inv (m : Option (IVec S512x256 1)) (hX : (X h).Causal)
    (hm : MaskOk (X h) j m)
    {J : Fin 2 → ℕ} (hJ : J h = j.val + 1) {dk dv : Fin 2 → Fin 2048 → Fin 128 → ℝ} {S : St Ideal} (I : Inv X J dk dv S) :
    Inv X (Function.update J h j.val) dk dv (E.step h j m S) := by
  have hz := z_at R h j m hX hm (S.c h) (fun r => by rw [I.c, hJ])
  have ek : ∀ c l, E.kt h j (ix2 c l) = ((X h).K (tk j c) l : EReal) := fun c l => (kwin_at _ h j c l).trans (R.K h _ _)
  have ea : ∀ r c, E.at' h j (ix4 0 0 r c) = ((X h).A r (tk j c) : EReal) := fun r c => (awin_at _ h j r c).trans (R.A h j r c)
  constructor
  · intro h' r
    by_cases hh : h' = h
    · subst hh
      show Function.update S.c h' _ h' (ix2 r 0) = _
      rw [Function.update_self, Function.update_self, c_at R h' j _ r _ (I.c h' r), hJ, ← sum_from]
    · show Function.update S.c h _ h' (ix2 r 0) = _
      rw [Function.update_of_ne hh, Function.update_of_ne hh, I.c]
  · intro h' r l
    by_cases hh : h' = h
    · subst hh
      show Function.update S.y h' _ h' (ix2 r l) = _
      rw [Function.update_self, Function.update_self, pay21_at, I.y, hJ, sum_from, EReal.coe_add]
      simp only [hz, ek, coe_sum, EReal.coe_mul]
    · show Function.update S.y h _ h' (ix2 r l) = _
      rw [Function.update_of_ne hh, Function.update_of_ne hh, I.y]
  · intro h' s l
    show put S.dk (ko h j) S256x128.size _ (ix2 s (ln h' l)) = _
    by_cases hh : h' = h
    · subst hh
      rw [Function.update_self]
      by_cases hs : 256 * j.val ≤ s.val ∧ s.val < 256 * (j.val + 1)
      · obtain ⟨c, rfl⟩ : ∃ c, s = tk j c := ⟨⟨s.val - 256 * j.val, by omega⟩, Fin.ext (by rw [tk_val]; show _ = _ + (s.val - 256 * j.val); omega)⟩
        rw [put_in, dkT_at, if_pos hs.1]
        rw [show window S.dk (ko h' j) S256x128.size (ko_inb h' j) (ix2 c l) = _ from kwin_at S.dk h' j c l, I.dk, hJ, if_neg (by omega)]
        simp only [hz, R.q, coe_sum, EReal.coe_mul, EReal.coe_add, EReal.coe_zero, add_zero]
      · rw [put_out _ _ _ _ _ _ _ (.inr hs), I.dk, hJ]
        by_cases hs' : 256 * (j.val + 1) ≤ s.val
        · rw [if_pos hs', if_pos (by omega)]
        · rw [if_neg hs', if_neg (by omega)]
    · rw [Function.update_of_ne hh, put_out _ _ _ _ _ _ _ (.inl hh), I.dk]
  · intro h' s l
    show put S.dv (ko h j) S256x128.size _ (ix2 s (ln h' l)) = _
    by_cases hh : h' = h
    · subst hh
      rw [Function.update_self]
      by_cases hs : 256 * j.val ≤ s.val ∧ s.val < 256 * (j.val + 1)
      · obtain ⟨c, rfl⟩ : ∃ c, s = tk j c := ⟨⟨s.val - 256 * j.val, by omega⟩, Fin.ext (by rw [tk_val]; show _ = _ + (s.val - 256 * j.val); omega)⟩
        rw [put_in, Env.dvT, pay20_at, if_pos hs.1]
        rw [show window S.dv (ko h' j) S256x128.size (ko_inb h' j) (ix2 c l) = _ from kwin_at S.dv h' j c l, I.dv, hJ, if_neg (by omega)]
        simp only [pay15_at, ea, R.d, coe_sum, EReal.coe_mul, EReal.coe_add, EReal.coe_zero, add_zero]
      · rw [put_out _ _ _ _ _ _ _ (.inr hs), I.dv, hJ]
        by_cases hs' : 256 * (j.val + 1) ≤ s.val
        · rw [if_pos hs', if_pos (by omega)]
        · rw [if_neg hs', if_neg (by omega)]
    · rw [Function.update_of_ne hh, put_out _ _ _ _ _ _ _ (.inl hh), I.dv]

end step

end
end Cert.Proof.PI
-- ==== Proof.Fold.lean ====
module
public import proofs.«01_k».proof.Proof.Step
public import proofs.«01_k».proof.Proof.Body

/-! A grid point over the exact numbers: from its inputs' real numbers to the gradients' sums. -/

set_option maxRecDepth 16384

@[expose] public section

namespace Cert.Proof.PI
open Idealize.ShloMosaic Cert.KernelIdeal Cert.KernelIdeal.Gen Idealize.ShloMosaic.VecWindow

noncomputable section

theorem update_both (n k : ℕ) : Function.update (Function.update (fun _ : Fin 2 => n) 0 k) 1 k = fun _ => k := by
  funext h
  match h with
  | ⟨0, _⟩ => simp [Function.update]
  | ⟨1, _⟩ => simp [Function.update]

section
variable {E : Env Ideal} {X : Fin 2 → Blk} (R : Reads E X) (hX : ∀ h, (X h).Causal)
  {dk dv : Fin 2 → Fin 2048 → Fin 128 → ℝ}
include R hX

/-- One tile of both heads. -/
theorem pair_inv (j : Fin 8) (m : Option (IVec S512x256 1)) (hm : ∀ h, MaskOk (X h) j m) {S : St Ideal}
    (I : Inv X (fun _ => j.val + 1) dk dv S) : Inv X (fun _ => j.val) dk dv (E.step 1 j m (E.step 0 j m S)) := by
  have I0 := step_inv R 0 j m (hX 0) (hm 0) rfl I
  have I1 := step_inv R 1 j m (hX 1) (hm 1) (by simp [Function.update]) I0
  rwa [update_both] at I1

/-- One block of both heads. -/
theorem block_inv (b : Fin 4) (m₀ m₁ : Option (IVec S512x256 1)) (h₀ : ∀ h, MaskOk (X h) (lo b) m₀) (h₁ : ∀ h, MaskOk (X h) (hi b) m₁) {S : St Ideal}
    (I : Inv X (fun _ => 2 * (b.val + 1)) dk dv S) : Inv X (fun _ => 2 * b.val) dk dv (E.block b m₀ m₁ S) :=
  pair_inv R hX (lo b) m₀ h₀ (pair_inv R hX (hi b) m₁ h₁ I)

variable (i : grid0.Coords) (hb : ∀ h, (X h).base = 512 * (i 1).val)
include hb

/-- The blocks before the diagonal one. -/
theorem trips_inv {S : St Ideal} (I : Inv X (fun _ => 2 * (i 1).val) dk dv S) (n : ℕ) (hn : n ≤ (i 1).val) :
    Inv X (fun _ => 2 * ((i 1).val - n)) dk dv (E.trips i S n) := by
  induction n with
  | zero => exact I
  | succ n ih =>
    have I' := ih (by omega)
    have ht : n < (k0_t1_loop i).trips := by rw [trips1_eq]; omega
    rw [E.trips_succ i S ⟨n, ht⟩]
    have e : (tripBlock i ⟨n, ht⟩).val = (i 1).val - 1 - n := rfl
    have e1 : (i 1).val - n = (tripBlock i ⟨n, ht⟩).val + 1 := by omega
    have e2 : (i 1).val - (n + 1) = (tripBlock i ⟨n, ht⟩).val := by omega
    rw [e1] at I'
    rw [e2]
    refine block_inv R hX _ none none ?_ ?_ I'
    · intro h r c
      have := c.isLt
      rw [hb, tk_val, show (lo (tripBlock i ⟨n, ht⟩)).val = 2 * (tripBlock i ⟨n, ht⟩).val from rfl]
      omega
    · intro h r c
      have := c.isLt
      rw [hb, tk_val, show (hi (tripBlock i ⟨n, ht⟩)).val = 2 * (tripBlock i ⟨n, ht⟩).val + 1 from rfl]
      omega

/-- The whole point, from gradients' buffers at `dk` and `dv`. -/
theorem end_inv (x y : Vec Ideal S2048x256 .f32)
    (hx : (i 1).val ≠ 0 → ∀ h s l, x (ix2 s (ln h l)) = (dk h s l : EReal))
    (hy : (i 1).val ≠ 0 → ∀ h s l, y (ix2 s (ln h l)) = (dv h s l : EReal))
    (hx0 : (i 1).val = 0 → ∀ h s l, dk h s l = 0) (hy0 : (i 1).val = 0 → ∀ h s l, dv h s l = 0) :
    Inv X (fun _ => 0) dk dv (stEnd E i x y) := by
  have hi4 : (i 1).val < 4 := (i 1).isLt
  have start : Inv X (fun _ => 2 * ((qb i).val + 1)) dk dv
      (st0 (if (i 1).val = 0 then k0_pay63 (F := Ideal) else x) (if (i 1).val = 0 then k0_pay64 (F := Ideal) else y)) := by
    have hq : (qb i).val = (i 1).val := rfl
    have late : ∀ h (r : Fin 512) (s : Fin 2048), 256 * (2 * ((qb i).val + 1)) ≤ s.val → (X h).base + r.val ≤ s.val := by
      intro h r s hs
      have := r.isLt
      rw [hb]
      omega
    constructor
    · intro h r
      show k0_pay70 (F := Ideal) (ix2 r 0) = _
      rw [pay70_at, Finset.sum_eq_zero, EReal.coe_zero]
      intro s _
      split_ifs with hs
      · exact (hX h).G r s (late h r s hs)
      · rfl
    · intro h r l
      show k0_pay71 (F := Ideal) (ix2 r l) = _
      rw [pay71_at, Finset.sum_eq_zero, EReal.coe_zero]
      intro s _
      split_ifs with hs
      · rw [Blk.DZ_zero r s (late h r s hs), zero_mul]
      · rfl
    · intro h s l
      have e : (if 256 * (2 * ((qb i).val + 1)) ≤ s.val then ∑ r, (X h).DZ r s * (X h).Q r l else 0) = 0 := by
        split_ifs with hs
        · exact Finset.sum_eq_zero fun r _ => by rw [Blk.DZ_zero r s (late h r s hs), zero_mul]
        · rfl
      rw [e, add_zero]
      show (if (i 1).val = 0 then k0_pay63 (F := Ideal) else x) (ix2 s (ln h l)) = _
      by_cases h0 : (i 1).val = 0
      · rw [if_pos h0, pay63_at, hx0 h0, EReal.coe_zero]
      · rw [if_neg h0, hx h0]
    · intro h s l
      have e : (if 256 * (2 * ((qb i).val + 1)) ≤ s.val then ∑ r, (X h).A r s * (X h).D r l else 0) = 0 := by
        split_ifs with hs
        · exact Finset.sum_eq_zero fun r _ => by rw [hX h r s (late h r s hs), zero_mul]
        · rfl
      rw [e, add_zero]
      show (if (i 1).val = 0 then k0_pay64 (F := Ideal) else y) (ix2 s (ln h l)) = _
      by_cases h0 : (i 1).val = 0
      · rw [if_pos h0, pay64_at, hy0 h0, EReal.coe_zero]
      · rw [if_neg h0, hy h0]
  have diag := block_inv R hX (qb i) (some k0_pay67) (some k0_pay68)
    (fun h r c => by
      rw [pay67_at, hb, tk_val, show (lo (qb i)).val = 2 * (i 1).val from rfl]
      omega)
    (fun h r c => by
      rw [pay68_at, hb, tk_val, show (hi (qb i)).val = 2 * (i 1).val + 1 from rfl]
      omega) start
  have fin := trips_inv R hX i hb diag (i 1).val le_rfl
  rw [Nat.sub_self] at fin
  unfold stEnd
  rw [trips1_eq]
  exact fin

end

end
end Cert.Proof.PI
-- ==== Proof.Arrays.lean ====
module
public import proofs.«01_k».proof.Proof.Fold
public import proofs.«01_k».proof.Proof.Run
public import Idealize.ShloMosaic.Lib.Pipeline.ValueKit

/-! The three gradients' arrays after the run over the exact numbers, the arrays it reads holding the heads' real
    numbers. -/

set_option maxRecDepth 16384

@[expose] public section

namespace Cert.Proof.PI
open Idealize.ShloMosaic Cert.KernelIdeal Cert.KernelIdeal.Gen Idealize.ShloMosaic.VecWindow
open Idealize.ShloMosaic.Pipeline (Dat)

noncomputable section

/-- The column of lane `l` of head `h` in an array of 8 heads. -/
def hl (h : Fin 8) (l : Fin 128) : Fin 1024 := ⟨128 * h.val + l.val, by omega⟩
/-- The same among the projection's columns, from column `b` of 256 on. -/
def hp (b : Fin 25) (h : Fin 8) (l : Fin 128) : Fin 8192 := ⟨256 * b.val + 128 * h.val + l.val, by omega⟩

variable (m : (ℓ : Loc nD τ sig) → Buf (Elt Ideal) ℓ)

abbrev proj (c : Dev nD) : Vec Ideal S2048x8192 .bf16 := V m c main_arg0
abbrev dout (c : Dev nD) : Vec Ideal S2048x1024 .bf16 := V m c main_arg1
abbrev oArr (c : Dev nD) : Vec Ideal S2048x1024 .f32 := V m c main_v33
abbrev aArr (c : Dev nD) : Vec Ideal S8x8x2048x256 .bf16 := V m c main_v36
abbrev bArr (c : Dev nD) : Vec Ideal S8x8x2048x256 .bf16 := V m c main_v40

/-- The arrays the run reads hold the heads' real numbers. -/
structure Holds (c : Dev nD) (H : Fin 8 → Hd) : Prop where
  q : ∀ h t l, proj m c (ix2 t (hp 12 h l)) = ((H h).Q t l : EReal)
  k : ∀ h t l, proj m c (ix2 t (hp 16 h l)) = ((H h).K t l : EReal)
  v : ∀ h t l, proj m c (ix2 t (hp 20 h l)) = ((H h).V t l : EReal)
  d : ∀ h t l, dout m c (ix2 t (hl h l)) = ((H h).D t l : EReal)
  o : ∀ h t l, oArr m c (ix2 t (hl h l)) = ((H h).o t l : EReal)
  a : ∀ h j t c', aArr m c (ix4 h j t c') = ((H h).A t (tk j c') : EReal)
  b : ∀ h j t c', bArr m c (ix4 h j t c') = ((H h).B t (tk j c') : EReal)
  causal : ∀ h, (H h).Causal

/-- The pair of heads and the query block of a grid point. -/
def pr (t : Fin cfg0.N) : Fin 4 := ⟨(grid0.coords t 0).val, (grid0.coords t 0).isLt⟩
/-- Head `h` of the pair. -/
def hd (t : Fin cfg0.N) (h : Fin 2) : Fin 8 := ⟨2 * (pr t).val + h.val, by omega⟩

theorem t_val : ∀ t : Fin cfg0.N, t.val = 4 * (pr t).val + (qb (grid0.coords t)).val := by decide +kernel

theorem wix0 : ∀ t : Fin grid0.N, win0_0.index t = ![(qb (grid0.coords t)).val, 12 + (pr t).val] := by decide +kernel
theorem wix1 : ∀ t : Fin grid0.N, win0_1.index t = ![0, 16 + (pr t).val] := by decide +kernel
theorem wix2 : ∀ t : Fin grid0.N, win0_2.index t = ![0, 20 + (pr t).val] := by decide +kernel
theorem wix3 : ∀ t : Fin grid0.N, win0_3.index t = ![(qb (grid0.coords t)).val, (pr t).val] := by decide +kernel
theorem wix4 : ∀ t : Fin grid0.N, win0_4.index t = ![(pr t).val, 0, (qb (grid0.coords t)).val, 0] := by decide +kernel
theorem wix5 : ∀ t : Fin grid0.N, win0_5.index t = ![(pr t).val, 0, (qb (grid0.coords t)).val, 0] := by decide +kernel
theorem wix6 : ∀ t : Fin grid0.N, win0_6.index t = ![(qb (grid0.coords t)).val, (pr t).val] := by decide +kernel
theorem wix7 : ∀ t : Fin grid0.N, win0_7.index t = ![(qb (grid0.coords t)).val, (pr t).val] := by decide +kernel
theorem wix8 : ∀ t : Fin grid0.N, win0_8.index t = ![0, (pr t).val] := by decide +kernel
theorem wix9 : ∀ t : Fin grid0.N, win0_9.index t = ![0, (pr t).val] := by decide +kernel

variable (c : Dev nD) (t : Fin cfg0.N)

section blocks
variable (h : Fin 2) (l : Fin 128) (r : Fin 512) (s : Fin 2048)

theorem blk0_at :
    (iblk m c 0 t : Vec Ideal S512x256 .bf16) (ix2 r (ln h l)) = proj m c (ix2 (row (qb (grid0.coords t)) r) (hp 12 (hd t h) l)) := by
  unfold proj row hp hd ln
  blk_ext [iblk, wix0 t]

theorem blk1_at :
    (iblk m c 1 t : Vec Ideal S2048x256 .bf16) (ix2 s (ln h l)) = proj m c (ix2 s (hp 16 (hd t h) l)) := by
  unfold proj hp hd ln
  blk_ext [iblk, wix1 t]

theorem blk2_at :
    (iblk m c 2 t : Vec Ideal S2048x256 .bf16) (ix2 s (ln h l)) = proj m c (ix2 s (hp 20 (hd t h) l)) := by
  unfold proj hp hd ln
  blk_ext [iblk, wix2 t]

theorem blk3_at :
    (iblk m c 3 t : Vec Ideal S512x256 .f32) (ix2 r (ln h l)) = oArr m c (ix2 (row (qb (grid0.coords t)) r) (hl (hd t h) l)) := by
  unfold oArr row hl hd ln
  blk_ext [iblk, wix3 t]

theorem read4 (W : (b : Ref sig .tc) → Buf (Elt Ideal) ((c.tc : Thread nD τ).loc b)) (j : Fin 8) (k : Fin 256) :
    ((win0_4.blk t).view.read (Elt Ideal) (W main_v36) : Vec Ideal S2x8x512x256 .bf16) (ix4 h j r k)
      = (W main_v36 : Vec Ideal S8x8x2048x256 .bf16) (ix4 (hd t h) j (row (qb (grid0.coords t)) r) k) := by
  have e : (win0_4.blk t).view.emb (ix4 h j r k) = ix4 (hd t h) j (row (qb (grid0.coords t)) r) k := by
    unfold row hd
    blk_ext [wix4 t]
  exact congrArg (W main_v36 : Vec Ideal S8x8x2048x256 .bf16) e

theorem blk4_at (j : Fin 8) (k : Fin 256) :
    (iblk m c 4 t : Vec Ideal S2x8x512x256 .bf16) (ix4 h j r k) = aArr m c (ix4 (hd t h) j (row (qb (grid0.coords t)) r) k) :=
  read4 c t h r (V m c) j k

theorem blk5_at (j : Fin 8) (k : Fin 256) :
    (iblk m c 5 t : Vec Ideal S2x8x512x256 .bf16) (ix4 h j r k) = bArr m c (ix4 (hd t h) j (row (qb (grid0.coords t)) r) k) := by
  have e : (win0_5.blk t).view.emb (ix4 h j r k) = ix4 (hd t h) j (row (qb (grid0.coords t)) r) k := by
    unfold row hd
    blk_ext [wix5 t]
  exact congrArg (bArr m c) e

theorem blk6_at :
    (iblk m c 6 t : Vec Ideal S512x256 .bf16) (ix2 r (ln h l)) = dout m c (ix2 (row (qb (grid0.coords t)) r) (hl (hd t h) l)) := by
  unfold dout row hl hd ln
  blk_ext [iblk, wix6 t]

end blocks

theorem half0_at {e : EltTy} (x : Vec Ideal S512x256 e) (r : Fin 512) (l : Fin 128) :
    (window x ![0, 0] S512x128.size inb_S512x256_S512x128_0_0 : Vec Ideal S512x128 e) (ix2 r l) = x (ix2 r (ln 0 l)) := by
  unfold window
  congr 1
  funext a
  apply Fin.ext
  match a with
  | ⟨0, _⟩ => show 0 + 1 * r.val = r.val; omega
  | ⟨1, _⟩ => show 0 + 1 * l.val = 128 * 0 + l.val; omega

theorem half1_at {e : EltTy} (x : Vec Ideal S512x256 e) (r : Fin 512) (l : Fin 128) :
    (window x ![0, 128] S512x128.size inb_S512x256_S512x128_0_128 : Vec Ideal S512x128 e) (ix2 r l) = x (ix2 r (ln 1 l)) := by
  unfold window
  congr 1
  funext a
  apply Fin.ext
  match a with
  | ⟨0, _⟩ => show 0 + 1 * r.val = r.val; omega
  | ⟨1, _⟩ => show 128 + 1 * l.val = 128 * 1 + l.val; omega

/-- What a point's tiles read, from the windows' contents at the heads' numbers. -/
theorem reads_of {Q : Vec Ideal S512x256 .bf16} {K W : Vec Ideal S2048x256 .bf16} {O : Vec Ideal S512x256 .f32}
    {A B : Vec Ideal S2x8x512x256 .bf16} {D : Vec Ideal S512x256 .bf16} {X : Fin 2 → Blk} {o : Fin 2 → Fin 512 → Fin 128 → ℝ}
    (hq : ∀ h r l, Q (ix2 r (ln h l)) = ((X h).Q r l : EReal)) (hk : ∀ h s l, K (ix2 s (ln h l)) = ((X h).K s l : EReal))
    (hv : ∀ h s l, W (ix2 s (ln h l)) = ((X h).V s l : EReal)) (ho : ∀ h r l, O (ix2 r (ln h l)) = (o h r l : EReal))
    (ha : ∀ h j r k, A (ix4 h j r k) = ((X h).A r (tk j k) : EReal)) (hb : ∀ h j r k, B (ix4 h j r k) = ((X h).B r (tk j k) : EReal))
    (hd : ∀ h r l, D (ix2 r (ln h l)) = ((X h).D r l : EReal)) (he : ∀ h r, ∑ l, (X h).D r l * o h r l = ∑ s, (X h).G r s) :
    Reads (envOf Q K W O A B D) X where
  q := by
    intro h r l
    match h with
    | ⟨0, _⟩ => exact (half0_at Q r l).trans (hq 0 r l)
    | ⟨1, _⟩ => exact (half1_at Q r l).trans (hq 1 r l)
  d := by
    intro h r l
    match h with
    | ⟨0, _⟩ => exact (half0_at D r l).trans (hd 0 r l)
    | ⟨1, _⟩ => exact (half1_at D r l).trans (hd 1 r l)
  e := by
    intro h r
    match h with
    | ⟨0, _⟩ =>
      refine (pay65_at _ _ r).trans ?_
      refine Eq.trans ?_ (congrArg ((↑) : ℝ → EReal) (he 0 r))
      rw [coe_sum]
      exact Finset.sum_congr rfl fun l _ =>
        (congrArg₂ (· * ·) ((half0_at D r l).trans (hd 0 r l)) ((half0_at O r l).trans (ho 0 r l))).trans (EReal.coe_mul _ _).symm
    | ⟨1, _⟩ =>
      refine (pay66_at _ _ r).trans ?_
      refine Eq.trans ?_ (congrArg ((↑) : ℝ → EReal) (he 1 r))
      rw [coe_sum]
      exact Finset.sum_congr rfl fun l _ =>
        (congrArg₂ (· * ·) ((half1_at D r l).trans (hd 1 r l)) ((half1_at O r l).trans (ho 1 r l))).trans (EReal.coe_mul _ _).symm
  K := hk
  V := hv
  A := ha
  B := hb

variable {m} {c} {H : Fin 8 → Hd} (HH : Holds m c H)

/-- The two heads' rows of a point. -/
def Xs (H : Fin 8 → Hd) (t : Fin cfg0.N) (h : Fin 2) : Blk := (H (hd t h)).blk (qb (grid0.coords t))

include HH in
theorem reads_at : Reads (envAt m c t) (Xs H t) := by
  refine reads_of (o := fun h r l => (H (hd t h)).o (row (qb (grid0.coords t)) r) l) ?_ ?_ ?_ ?_ ?_ ?_ ?_ ?_
  · intro h r l; rw [blk0_at, HH.q]; rfl
  · intro h s l; rw [blk1_at, HH.k]; rfl
  · intro h s l; rw [blk2_at, HH.v]; rfl
  · intro h r l; rw [blk3_at, HH.o]
  · intro h j r k; rw [blk4_at, HH.a]; rfl
  · intro h j r k; rw [blk5_at, HH.b]; rfl
  · intro h r l; rw [blk6_at, HH.d]; rfl
  · intro h r; exact (H (hd t h)).dot_o (row (qb (grid0.coords t)) r)

include HH in
theorem causal_at (h : Fin 2) : (Xs H t h).Causal := by
  intro r s hs
  exact HH.causal (hd t h) (row (qb (grid0.coords t)) r) s hs

/-- The keys' and the values' gradients the query blocks before a point's leave. -/
def dk0 (H : Fin 8 → Hd) (t : Fin cfg0.N) (h : Fin 2) (s : Fin 2048) (l : Fin 128) : ℝ :=
  ∑ u : Fin 2048, if u.val < 512 * (qb (grid0.coords t)).val then (H (hd t h)).DZ u s * (H (hd t h)).Q u l else 0
def dv0 (H : Fin 8 → Hd) (t : Fin cfg0.N) (h : Fin 2) (s : Fin 2048) (l : Fin 128) : ℝ :=
  ∑ u : Fin 2048, if u.val < 512 * (qb (grid0.coords t)).val then (H (hd t h)).A u s * (H (hd t h)).D u l else 0

theorem prev : ∀ t : Fin cfg0.N, (qb (grid0.coords t)).val ≠ 0 →
    ∃ t' : Fin cfg0.N, t.val = t'.val + 1 ∧ pr t' = pr t ∧ (qb (grid0.coords t)).val = (qb (grid0.coords t')).val + 1 := by
  decide +kernel

include HH in
/-- The state at a point's end. -/
theorem state_at (n : ℕ) : ∀ t : Fin cfg0.N, t.val = n →
    Inv (Xs H t) (fun _ => 0) (dk0 H t) (dv0 H t) (endAt m c t (scr m c t.val)) := by
  induction n with
  | zero =>
    intro t ht
    have hz : ((grid0.coords t) 1).val = 0 := coords_zero t ht
    have hq : (qb (grid0.coords t)).val = 0 := hz
    refine end_inv (reads_at t HH) (causal_at t HH) (grid0.coords t) (fun h => rfl) _ _ (fun h => absurd hz h) (fun h => absurd hz h)
      (fun _ h s l => ?_) (fun _ h s l => ?_)
    · exact Finset.sum_eq_zero fun u _ => if_neg (by omega)
    · exact Finset.sum_eq_zero fun u _ => if_neg (by omega)
  | succ n ih =>
    intro t ht
    refine end_inv (reads_at t HH) (causal_at t HH) (grid0.coords t) (fun h => rfl) _ _ ?_ ?_
      (fun hz h s l => ?_) (fun hz h s l => ?_)
    · intro hne h s l
      obtain ⟨t', e1, e2, e3⟩ := prev t hne
      have I := ih t' (by omega)
      have eh : hd t' h = hd t h := Fin.ext (by show 2 * (pr t').val + h.val = 2 * (pr t).val + h.val; rw [e2])
      rw [e1, scr_succ]
      refine (I.dk h s l).trans ?_
      rw [if_pos (by omega)]
      unfold dk0
      rw [e3, sum_rows, ← eh]
      rfl
    · intro hne h s l
      obtain ⟨t', e1, e2, e3⟩ := prev t hne
      have I := ih t' (by omega)
      have eh : hd t' h = hd t h := Fin.ext (by show 2 * (pr t').val + h.val = 2 * (pr t).val + h.val; rw [e2])
      rw [e1, scr_succ]
      refine (I.dv h s l).trans ?_
      rw [if_pos (by omega)]
      unfold dv0
      rw [e3, sum_rows, ← eh]
      rfl
    · have hq : (qb (grid0.coords t)).val = 0 := hz
      exact Finset.sum_eq_zero fun u _ => if_neg (by omega)
    · have hq : (qb (grid0.coords t)).val = 0 := hz
      exact Finset.sum_eq_zero fun u _ => if_neg (by omega)

/-- Which head and which lane a column is. -/
def hc (k : Fin 1024) : Fin 8 := ⟨k.val / 128, by omega⟩
def lc (k : Fin 1024) : Fin 128 := ⟨k.val % 128, by omega⟩

/-- The logits' scale. -/
abbrev sc : EReal := Ideal.ofBits .f32 0x3DB504F3#32

/-- The three gradients as arrays. -/
def dqArr (H : Fin 8 → Hd) : Vec Ideal S2048x1024 .bf16 := fun i => (((H (hc (i 1))).dq (i 0) (lc (i 1)) : ℝ) : EReal) * sc
def dkArr (H : Fin 8 → Hd) : Vec Ideal S2048x1024 .bf16 := fun i => (((H (hc (i 1))).dk (i 0) (lc (i 1)) : ℝ) : EReal) * sc
def dvArr (H : Fin 8 → Hd) : Vec Ideal S2048x1024 .bf16 := fun i => (((H (hc (i 1))).dv (i 0) (lc (i 1)) : ℝ) : EReal)

theorem dqOut_at (S : St Ideal) (r : Fin 512) (h : Fin 2) (l : Fin 128) :
    dqOut S (ix2 r (ln h l)) = S.y h (ix2 r l) * sc := by
  have hl := l.isLt
  match h with
  | ⟨0, _⟩ =>
    refine Eq.trans ?_ (pay11_at (S.y 0) r l)
    refine (dif_neg fun hall => ?_).trans ?_
    · have h1 := hall (1 : Fin 2)
      have h1' : 128 ≤ 128 * 0 + l.val ∧ 128 * 0 + l.val < 128 + 128 := h1
      omega
    · exact (half0_at _ r l).symm.trans (congrFun (window_put_same (s := S512x256) _ _ _ inb_S512x256_S512x128_0_0 _) (ix2 r l))
  | ⟨1, _⟩ =>
    refine Eq.trans ?_ (pay12_at (S.y 1) r l)
    exact (half1_at _ r l).symm.trans (congrFun (window_put_same (s := S512x256) _ _ _ inb_S512x256_S512x128_0_128 _) (ix2 r l))

theorem split_ln (y : Fin 256) : ∃ h l, y = ln h l :=
  ⟨⟨y.val / 128, by omega⟩, ⟨y.val % 128, by omega⟩, Fin.ext (by show y.val = 128 * (y.val / 128) + y.val % 128; omega)⟩

theorem last8 : ∀ t : Fin cfg0.N, (cfg0.win 8).flush t = true → (qb (grid0.coords t)).val = 3 := by decide +kernel
theorem last9 : ∀ t : Fin cfg0.N, (cfg0.win 9).flush t = true → (qb (grid0.coords t)).val = 3 := by decide +kernel

theorem emb7 (r : Fin 512) (h : Fin 2) (l : Fin 128) :
    (win0_7.blk t).view.emb (ix2 r (ln h l)) = ix2 (row (qb (grid0.coords t)) r) (hl (hd t h) l) := by
  unfold row hl hd ln
  blk_ext [wix7 t]

theorem emb8 (s : Fin 2048) (h : Fin 2) (l : Fin 128) :
    (win0_8.blk t).view.emb (ix2 s (ln h l)) = ix2 s (hl (hd t h) l) := by
  unfold hl hd ln
  blk_ext [wix8 t]

theorem emb9 (s : Fin 2048) (h : Fin 2) (l : Fin 128) :
    (win0_9.blk t).view.emb (ix2 s (ln h l)) = ix2 s (hl (hd t h) l) := by
  unfold hl hd ln
  blk_ext [wix9 t]

theorem hc_hl (h : Fin 8) (l : Fin 128) : hc (hl h l) = h := Fin.ext (by show (128 * h.val + l.val) / 128 = h.val; omega)
theorem lc_hl (h : Fin 8) (l : Fin 128) : lc (hl h l) = l := Fin.ext (by show (128 * h.val + l.val) % 128 = l.val; omega)

theorem dqArr_at (H : Fin 8 → Hd) (r : Fin 2048) (h : Fin 8) (l : Fin 128) :
    dqArr H (ix2 r (hl h l)) = (((H h).dq r l : ℝ) : EReal) * sc := by
  show (((H (hc (hl h l))).dq r (lc (hl h l)) : ℝ) : EReal) * sc = _
  rw [hc_hl, lc_hl]
theorem dkArr_at (H : Fin 8 → Hd) (r : Fin 2048) (h : Fin 8) (l : Fin 128) :
    dkArr H (ix2 r (hl h l)) = (((H h).dk r l : ℝ) : EReal) * sc := by
  show (((H (hc (hl h l))).dk r (lc (hl h l)) : ℝ) : EReal) * sc = _
  rw [hc_hl, lc_hl]
theorem dvArr_at (H : Fin 8 → Hd) (r : Fin 2048) (h : Fin 8) (l : Fin 128) :
    dvArr H (ix2 r (hl h l)) = (((H h).dv r l : ℝ) : EReal) := by
  show (((H (hc (hl h l))).dv r (lc (hl h l)) : ℝ) : EReal) = _
  rw [hc_hl, lc_hl]

theorem full_rows (f : Fin 2048 → ℝ) (i : Fin 4) (hi : i.val = 3) :
    (∑ u : Fin 2048, if u.val < 512 * i.val then f u else 0) + ∑ r : Fin 512, f (row i r) = ∑ u, f u := by
  rw [← sum_rows]
  exact Finset.sum_congr rfl fun u _ => if_pos (by omega)

include HH in
theorem arr7 : (dats m 0 c).arrAt 7 (cfgs 0).N = dqArr H := by
  refine (dats m 0 c).arrAt_eq_of_covers 7 _ (by decide +kernel) fun t hf y => ?_
  blk_simp
  rw [after0_7]
  have key : ∀ y : S512x256.Idx, dqOut (endAt m c t (scr m c t.val)) y = dqArr H ((win0_7.blk t).view.emb y) := by
    intro y
    obtain ⟨r, y1, rfl⟩ : ∃ r y1, y = ix2 r y1 := ⟨y 0, y 1, eq_ix2 y⟩
    obtain ⟨h, l, rfl⟩ := split_ln y1
    rw [emb7, dqArr_at, dqOut_at, (state_at HH t.val t rfl).y]
    exact congrArg (fun x : ℝ => (x : EReal) * sc) (Finset.sum_congr rfl fun s _ => if_pos (by omega))
  exact key y

include HH in
theorem arr8 : (dats m 0 c).arrAt 8 (cfgs 0).N = dkArr H := by
  refine (dats m 0 c).arrAt_eq_of_covers 8 _ (by decide +kernel) fun t hf y => ?_
  blk_simp
  rw [after0_8]
  have key : ∀ y : S2048x256.Idx, k0_pay13 (endAt m c t (scr m c t.val)).dk y = dkArr H ((win0_8.blk t).view.emb y) := by
    intro y
    obtain ⟨r, y1, rfl⟩ : ∃ r y1, y = ix2 r y1 := ⟨y 0, y 1, eq_ix2 y⟩
    obtain ⟨h, l, rfl⟩ := split_ln y1
    rw [emb8, dkArr_at, pay13_at, (state_at HH t.val t rfl).dk, if_pos (by omega)]
    exact congrArg (fun x : ℝ => (x : EReal) * sc) (full_rows (fun u => (H (hd t h)).DZ u r * (H (hd t h)).Q u l) _ (last8 t hf))
  exact key y

include HH in
theorem arr9 : (dats m 0 c).arrAt 9 (cfgs 0).N = dvArr H := by
  refine (dats m 0 c).arrAt_eq_of_covers 9 _ (by decide +kernel) fun t hf y => ?_
  blk_simp
  rw [after0_9]
  have key : ∀ y : S2048x256.Idx, k0_pay14 (endAt m c t (scr m c t.val)).dv y = dvArr H ((win0_9.blk t).view.emb y) := by
    intro y
    obtain ⟨r, y1, rfl⟩ : ∃ r y1, y = ix2 r y1 := ⟨y 0, y 1, eq_ix2 y⟩
    obtain ⟨h, l, rfl⟩ := split_ln y1
    rw [emb9, dvArr_at, pay14_at, (state_at HH t.val t rfl).dv, if_pos (by omega)]
    exact congrArg ((↑) : ℝ → EReal) (full_rows (fun u => (H (hd t h)).A u r * (H (hd t h)).D u l) _ (last9 t hf))
  exact key y

end
end Cert.Proof.PI
-- ==== Proof.Cumsum.lean ====
module
public import Idealize.ShloMosaic.PureOps.Ideal.Laws
public import Idealize.ShloMosaic.Lib.Pointwise

/-! Running sums along the last of three axes, over the exact numbers: from the front and from the back. -/

set_option maxRecDepth 16384

@[expose] public section

namespace Cert.Proof
open Idealize Idealize.ShloMosaic

noncomputable section

/-- A left fold adding one term per position is the start plus the sum. -/
theorem foldl_add_sum {M : Type} [AddCommMonoid M] {n : ℕ} (f : Fin n → M) (v : M) :
    (List.finRange n).foldl (fun r i => r + f i) v = v + ∑ i, f i := by
  have key : ∀ (l : List (Fin n)) (v : M), l.foldl (fun r i => r + f i) v = v + (l.map f).sum := by
    intro l
    induction l with
    | nil => intro v; simp
    | cons a l ih => intro v; simp [ih, add_assoc]
  rw [key, Fin.sum_univ_def]

/-- A window of one row: its positions are the last coordinate's. -/
theorem sum_row {n : ℕ} (f : (⟨3, ![1, 1, n]⟩ : Shape).Idx → EReal) :
    ∑ i, f i = ∑ p : Fin n, f (ix3 0 0 p) := by
  rw [sum_idx3]
  simp

/-- A padded row's running sum, at one position: the terms inside the row that the window meets. -/
theorem windowSum_apply {a b n : ℕ} {window strides lo hi : Fin 3 → ℕ} (x : (⟨3, ![a, b, n]⟩ : Shape).Idx → EReal)
    (h : (⟨3, ![a, b, n]⟩ : Shape).ReduceWindows window strides lo hi ⟨3, ![a, b, n]⟩)
    (hw : window = ![1, 1, n]) (hs : strides = ![1, 1, 1]) (l : ℕ) (hl : lo = ![0, 0, l])
    (i : Fin a) (j : Fin b) (k : Fin n) :
    Ideal.hostReduceWindowAdd (s := ⟨3, ![a, b, n]⟩) (t := ⟨3, ![a, b, n]⟩) window strides lo hi h x 0 (ix3 i j k)
      = ∑ p : Fin n, if hin : l ≤ k.val + p.val ∧ k.val + p.val - l < n then x (ix3 i j ⟨k.val + p.val - l, hin.2⟩) else 0 := by
  subst hw hs hl
  show Host.reduceWindow (s := ⟨3, ![a, b, n]⟩) (t := ⟨3, ![a, b, n]⟩) _ _ _ _ _ _ _ _ _ _ = _
  unfold Host.reduceWindow
  dsimp only
  rw [foldl_add_sum, zero_add, ← Equiv.sum_comp (Shape.rowMajor ⟨3, ![1, 1, n]⟩)]
  simp only [Equiv.symm_apply_apply]
  rw [sum_row]
  refine Finset.sum_congr rfl fun p _ => ?_
  have hi := i.isLt
  have hj := j.isLt
  have hk := k.isLt
  by_cases hin : l ≤ k.val + p.val ∧ k.val + p.val - l < n
  · rw [dif_pos hin, dif_pos ?_]
    · congr 1
      funext a
      apply Fin.ext
      match a with
      | ⟨0, _⟩ => show i.val * 1 + 0 - 0 = i.val; omega
      | ⟨1, _⟩ => show j.val * 1 + 0 - 0 = j.val; omega
      | ⟨2, _⟩ => show k.val * 1 + p.val - l = k.val + p.val - l; omega
    · intro ax
      match ax with
      | ⟨0, _⟩ => show 0 ≤ i.val * 1 + 0 ∧ i.val * 1 + 0 - 0 < a; omega
      | ⟨1, _⟩ => show 0 ≤ j.val * 1 + 0 ∧ j.val * 1 + 0 - 0 < b; omega
      | ⟨2, _⟩ => show l ≤ k.val * 1 + p.val ∧ k.val * 1 + p.val - l < n; omega
  · rw [dif_neg hin, dif_neg ?_]
    intro hall
    have h2 := hall (2 : Fin 3)
    have h3 : l ≤ k.val * 1 + p.val ∧ k.val * 1 + p.val - l < n := h2
    exact hin (by rw [Nat.mul_one] at h3; exact h3)

/-- The running sum from the front. -/
theorem prefixSum_apply {a b n : ℕ} {window strides lo hi : Fin 3 → ℕ} (x : (⟨3, ![a, b, n]⟩ : Shape).Idx → EReal)
    (h : (⟨3, ![a, b, n]⟩ : Shape).ReduceWindows window strides lo hi ⟨3, ![a, b, n]⟩)
    (hw : window = ![1, 1, n]) (hs : strides = ![1, 1, 1]) (hl : lo = ![0, 0, n - 1])
    (i : Fin a) (j : Fin b) (k : Fin n) :
    Ideal.hostReduceWindowAdd (s := ⟨3, ![a, b, n]⟩) (t := ⟨3, ![a, b, n]⟩) window strides lo hi h x 0 (ix3 i j k)
      = ∑ u : Fin n, if u ≤ k then x (ix3 i j u) else 0 := by
  rw [windowSum_apply x h hw hs (n - 1) hl]
  have hk := k.isLt
  have hn : n ≠ 0 := by omega
  refine Finset.sum_bij_ne_zero (fun p _ _ => ⟨k.val + p.val - (n - 1), by have := p.isLt; omega⟩) (fun _ _ _ => Finset.mem_univ _) ?_ ?_ ?_
  · intro p _ hp q _ hq e
    have e' : k.val + p.val - (n - 1) = k.val + q.val - (n - 1) := congrArg Fin.val e
    have h1 := (dite_ne_right_iff.mp hp).1
    have h2 := (dite_ne_right_iff.mp hq).1
    exact Fin.ext (by omega)
  · intro u _ hu
    have hle : u ≤ k := by
      by_contra hc
      exact hu (if_neg hc)
    have hle' : u.val ≤ k.val := hle
    have hidx : k.val + (u.val + (n - 1) - k.val) - (n - 1) = u.val := by omega
    have hin : n - 1 ≤ k.val + (u.val + (n - 1) - k.val) ∧ k.val + (u.val + (n - 1) - k.val) - (n - 1) < n := by omega
    refine ⟨⟨u.val + (n - 1) - k.val, by omega⟩, Finset.mem_univ _, ?_, Fin.ext hidx⟩
    rw [dif_pos hin]
    have : (⟨k.val + (u.val + (n - 1) - k.val) - (n - 1), hin.2⟩ : Fin n) = u := Fin.ext hidx
    rw [this]
    rwa [if_pos hle] at hu
  · intro p _ hp
    have h1 := (dite_ne_right_iff.mp hp).1
    rw [dif_pos h1, if_pos]
    show k.val + p.val - (n - 1) ≤ k.val
    have := p.isLt
    omega

/-- The running sum from the back. -/
theorem suffixSum_apply {a b n : ℕ} {window strides lo hi : Fin 3 → ℕ} (x : (⟨3, ![a, b, n]⟩ : Shape).Idx → EReal)
    (h : (⟨3, ![a, b, n]⟩ : Shape).ReduceWindows window strides lo hi ⟨3, ![a, b, n]⟩)
    (hw : window = ![1, 1, n]) (hs : strides = ![1, 1, 1]) (hl : lo = ![0, 0, 0])
    (i : Fin a) (j : Fin b) (k : Fin n) :
    Ideal.hostReduceWindowAdd (s := ⟨3, ![a, b, n]⟩) (t := ⟨3, ![a, b, n]⟩) window strides lo hi h x 0 (ix3 i j k)
      = ∑ u : Fin n, if k ≤ u then x (ix3 i j u) else 0 := by
  rw [windowSum_apply x h hw hs 0 hl]
  have hk := k.isLt
  refine Finset.sum_bij_ne_zero (fun p _ hp => ⟨k.val + p.val - 0, (dite_ne_right_iff.mp hp).1.2⟩) (fun _ _ _ => Finset.mem_univ _) ?_ ?_ ?_
  · intro p _ hp q _ hq e
    have e' : k.val + p.val - 0 = k.val + q.val - 0 := congrArg Fin.val e
    exact Fin.ext (by omega)
  · intro u _ hu
    have hle : k ≤ u := by
      by_contra hc
      exact hu (if_neg hc)
    have hle' : k.val ≤ u.val := hle
    have hidx : k.val + (u.val - k.val) - 0 = u.val := by omega
    have hul := u.isLt
    have hin : 0 ≤ k.val + (u.val - k.val) ∧ k.val + (u.val - k.val) - 0 < n := by omega
    have hu' : (⟨k.val + (u.val - k.val) - 0, hin.2⟩ : Fin n) = u := Fin.ext hidx
    refine ⟨⟨u.val - k.val, by omega⟩, Finset.mem_univ _, ?_, Fin.ext hidx⟩
    rw [dif_pos hin, hu']
    rwa [if_pos hle] at hu
  · intro p _ hp
    have h1 := (dite_ne_right_iff.mp hp).1
    refine (dif_pos h1).trans (if_pos ?_).symm
    show k.val ≤ k.val + p.val - 0
    omega

end
end Cert.Proof
-- ==== Proof.Softplus.lean ====
module
public import Idealize.ShloMosaic.PureOps.Ideal.Laws
public import Idealize.ShloMosaic.Lib.Pointwise

/-! The softplus `log (1 + exp x)` over the reals, as `max x 0 + log (1 + exp (-|x|))`, and the two exponentials the
    attention and its gradient take of it: the beta and one less the beta. -/

@[expose] public section

namespace Cert.Proof
open Idealize.ShloMosaic

noncomputable section

/-- The softplus. -/
def sp (x : ℝ) : ℝ := max x 0 + Real.log (1 + Real.exp (-|x|))

theorem sp_eq (x : ℝ) : sp x = Real.log (1 + Real.exp x) := by
  unfold sp
  rcases le_total 0 x with h | h
  · rw [max_eq_left h, abs_of_nonneg h]
    have e : (1 : ℝ) + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

/-- The beta of a logit. -/
def beta (z : ℝ) : ℝ := Real.exp (-sp (-z))

theorem beta_eq (z : ℝ) : beta z = (1 + Real.exp (-z))⁻¹ := by
  rw [beta, sp_eq, Real.exp_neg, Real.exp_log (by positivity)]

/-- The beta from the other side. -/
theorem exp_sub_sp (z : ℝ) : Real.exp (z - sp z) = beta z := by
  rw [beta_eq, sp_eq, Real.exp_sub, Real.exp_log (by positivity), Real.exp_neg]
  have := Real.exp_pos z
  field_simp
  ring

/-- One less the beta. -/
theorem exp_neg_sub_sp (z : ℝ) : Real.exp (-z - sp (-z)) = 1 - beta z := by
  rw [beta_eq, sp_eq, Real.exp_sub, Real.exp_log (by positivity)]
  have := Real.exp_pos (-z)
  field_simp
  ring

/-- The largest of two reals, read among the exact numbers. -/
theorem coe_max (a b : ℝ) : max (a : EReal) (b : EReal) = ((max a b : ℝ) : EReal) :=
  (EReal.coe_strictMono.monotone.map_max).symm

theorem coe_abs (a : ℝ) : max (a : EReal) (-(a : EReal)) = ((|a| : ℝ) : EReal) := by
  rw [← EReal.coe_neg, coe_max]
  rfl

/-- The logarithm of one and a positive number. -/
theorem log1p_coe (a : ℝ) (h : 0 < a) : Ideal.log1p (a : EReal) = ((Real.log (1 + a) : ℝ) : EReal) := by
  have e : (1 : EReal) + (a : EReal) = ((1 + a : ℝ) : EReal) := by simp
  rw [Ideal.log1p, e, Ideal.log_coe, if_neg (by linarith)]

/-- A number is not infinite. -/
theorem ofBits_inf_f32 : Ideal.ofBits .f32 0x7F800000#32 = ⊤ := by
  simp [Ideal.ofBits, Ideal.ieee]

theorem cmp_oeq_top (a : ℝ) : Ideal.cmp .oeq (a : EReal) ⊤ = 0#1 := by
  simp [Ideal.cmp]

theorem cmp_une_self (x : EReal) : Ideal.cmp .une x x = 0#1 := by
  simp [Ideal.cmp]

/-- The logits' scale is a number. -/
def scl : ℝ := (Ideal.ofBits .f32 0x3DB504F3#32).toReal
theorem scl_eq : Ideal.ofBits .f32 0x3DB504F3#32 = (scl : EReal) := by
  have e : ∃ a : ℝ, Ideal.ofBits .f32 0x3DB504F3#32 = (a : EReal) := by
    simp only [Ideal.ofBits, Ideal.ieee]
    exact ⟨_, (EReal.coe_mul _ _).symm⟩
  obtain ⟨a, e⟩ := e
  rw [scl, e, EReal.toReal_coe]

end
end Cert.Proof
-- ==== Proof.Ref.lean ====
module
public import proofs.«01_k».proof.Proof.Host
public import proofs.«01_k».proof.Proof.Arrays
public import proofs.«01_k».proof.Proof.Cumsum
public import proofs.«01_k».proof.Proof.Softplus

/-! The reference's values over the exact numbers, its arguments holding real numbers: the forward pass's logits, weights
    and betas, and the three gradients, each as the heads' sums of Sums.lean. -/

set_option maxRecDepth 16384

@[expose] public section

namespace Cert.Proof.PI.Ref
open Idealize.ShloMosaic Cert.ReferenceIdeal Cert.ReferenceIdeal.Read

noncomputable section

/-- The heads' queries, keys and values and the output's gradient, as real numbers. -/
structure Reals where
  Q : Fin 8 → Fin 2048 → Fin 128 → ℝ
  K : Fin 8 → Fin 2048 → Fin 128 → ℝ
  V : Fin 8 → Fin 2048 → Fin 128 → ℝ
  D : Fin 8 → Fin 2048 → Fin 128 → ℝ

namespace Reals
variable (X : Reals) (h : Fin 8) (t s : Fin 2048)

/-- The logit. -/
def z : ℝ := (∑ l, X.Q h t l * X.K h s l) * scl
/-- The logarithm of one less the beta, before the row's own position. -/
def lg : ℝ := if s.val < t.val then -sp (X.z h t s) else 0
/-- What the keys from `s` on leave, but for `s` itself. -/
def tail : ℝ := (∑ u : Fin 2048, if s ≤ u then X.lg h t u else 0) - X.lg h t s
/-- The weight but for the mask. -/
def raw : ℝ := Real.exp (-sp (-X.z h t s) + X.tail h t s)
/-- The head's numbers. -/
def head : Hd where
  Q := X.Q h
  K := X.K h
  V := X.V h
  D := X.D h
  A t s := if s.val < t.val then X.raw h t s else 0
  B t s := beta (X.z h t s)

theorem head_causal : (X.head h).Causal := fun t s hts => if_neg (by omega)

end Reals

/-- The arguments hold the real numbers. -/
structure Args (x0 : Vec Ideal S2048x8192 .bf16) (x1 : Vec Ideal S2048x1024 .bf16) (X : Reals) : Prop where
  q : ∀ h t l, x0 (ix2 t (hp 12 h l)) = (X.Q h t l : EReal)
  k : ∀ h t l, x0 (ix2 t (hp 16 h l)) = (X.K h t l : EReal)
  v : ∀ h t l, x0 (ix2 t (hp 20 h l)) = (X.V h t l : EReal)
  d : ∀ h t l, x1 (ix2 t (hl h l)) = (X.D h t l : EReal)

variable {x0 : Vec Ideal S2048x8192 .bf16} {x1 : Vec Ideal S2048x1024 .bf16} {X : Reals} (HX : Args x0 x1 X)
include HX

theorem q_at (h : Fin 8) (t : Fin 2048) (l : Fin 128) : val_main_v9 (F := Ideal) x0 (ix3 h t l) = (X.Q h t l : EReal) := by
  rw [val_main_v9_apply, val_main_v8_apply, val_main_v4_apply, val_main_v0_apply]
  refine (congrArg x0 ?_).trans (HX.q h t l)
  funext a
  match a with
  | ⟨0, _⟩ => apply Fin.ext; simp [ix2, ix3, hp]; omega
  | ⟨1, _⟩ => apply Fin.ext; simp [ix2, ix3, hp]; omega

theorem k_at (h : Fin 8) (t : Fin 2048) (l : Fin 128) : val_main_v11 (F := Ideal) x0 (ix3 h t l) = (X.K h t l : EReal) := by
  rw [val_main_v11_apply, val_main_v10_apply, val_main_v5_apply, val_main_v0_apply]
  refine (congrArg x0 ?_).trans (HX.k h t l)
  funext a
  match a with
  | ⟨0, _⟩ => apply Fin.ext; simp [ix2, ix3, hp]; omega
  | ⟨1, _⟩ => apply Fin.ext; simp [ix2, ix3, hp]; omega

theorem v_at (h : Fin 8) (t : Fin 2048) (l : Fin 128) : val_main_v13 (F := Ideal) x0 (ix3 h t l) = (X.V h t l : EReal) := by
  rw [val_main_v13_apply, val_main_v12_apply, val_main_v6_apply, val_main_v0_apply]
  refine (congrArg x0 ?_).trans (HX.v h t l)
  funext a
  match a with
  | ⟨0, _⟩ => apply Fin.ext; simp [ix2, ix3, hp]; omega
  | ⟨1, _⟩ => apply Fin.ext; simp [ix2, ix3, hp]; omega

theorem d_at (h : Fin 8) (t : Fin 2048) (l : Fin 128) : val_main_v38 (F := Ideal) x1 (ix3 h t l) = (X.D h t l : EReal) := by
  rw [val_main_v38_apply, val_main_v37_apply, val_main_v36_apply]
  refine (congrArg x1 ?_).trans (HX.d h t l)
  funext a
  match a with
  | ⟨0, _⟩ => apply Fin.ext; simp [ix2, ix3, hl]; omega
  | ⟨1, _⟩ => apply Fin.ext; simp [ix2, ix3, hl]; omega

theorem z_at (h : Fin 8) (t s : Fin 2048) : val_main_v16 (F := Ideal) x0 (ix3 h t s) = (X.z h t s : EReal) := by
  rw [val_main_v16_apply, val_main_v15_apply, val_main_cst_apply, val_main_v14_apply]
  have e1 : ∀ l : Fin 128, lidx_main_v14 (ix3 h t s) l = ix3 h t l := fun l => by funext a; match a with | ⟨0, _⟩ => rfl | ⟨1, _⟩ => rfl | ⟨2, _⟩ => rfl
  have e2 : ∀ l : Fin 128, ridx_main_v14 (ix3 h t s) l = ix3 h s l := fun l => by funext a; match a with | ⟨0, _⟩ => rfl | ⟨1, _⟩ => rfl | ⟨2, _⟩ => rfl
  simp only [e1, e2, q_at HX, k_at HX, Ideal.mulf_def, Ideal.ofBits_def, scl_eq]
  unfold Reals.z
  rw [EReal.coe_mul, coe_sum]
  simp only [EReal.coe_mul]

omit HX in
theorem mask_at (t s : Fin 2048) : val_main_v23 (F := Ideal) (ix2 t s) = 1#1 ↔ s.val < t.val := by
  rw [val_main_v23_apply, val_main_v21_apply, val_main_v20_apply, val_main_v19_apply, val_main_v22_apply, val_main_v18_apply, val_main_v17_apply]
  exact WordCmp.cmpi_slt_ofNat_eq_one_iff (by have := s.isLt; show s.val < _; omega) (by have := t.isLt; show t.val < _; omega)

omit HX in
theorem nought_at (i : S8x2048x2048.Idx) : nought i = 0 := by
  show Ideal.ofBits .f32 0x00000000#32 = 0
  exact Ideal.ofBits_zero_f32

omit HX in
/-- The masked entries of an array of real numbers. -/
theorem before_at (x : Big) (r : Fin 8 → Fin 2048 → Fin 2048 → ℝ) (hx : ∀ h t s, x (ix3 h t s) = (r h t s : EReal)) (h : Fin 8) (t s : Fin 2048) :
    before (val_main_v23 (F := Ideal)) x (ix3 h t s) = ((if s.val < t.val then r h t s else 0 : ℝ) : EReal) := by
  have hm : broadcastInDim S8x2048x2048 ![1, 2] Cert.KernelIdeal.Gen.bcast_S2048x2048_S8x2048x2048_1_2 (val_main_v23 (F := Ideal)) (ix3 h t s)
      = val_main_v23 (F := Ideal) (ix2 t s) := by
    refine broadcastInDim_apply _ _ _ _ (ix2 t s) fun a => ?_
    match a with
    | ⟨0, _⟩ => rfl
    | ⟨1, _⟩ => rfl
  show Scalar.select (broadcastInDim S8x2048x2048 ![1, 2] Cert.KernelIdeal.Gen.bcast_S2048x2048_S8x2048x2048_1_2 (val_main_v23 (F := Ideal)) (ix3 h t s)) (x (ix3 h t s)) (nought (ix3 h t s)) = _
  rw [hm, hx, nought_at]
  by_cases hs : s.val < t.val
  · rw [if_pos hs]
    exact if_pos ((mask_at t s).mpr hs)
  · rw [if_neg hs, EReal.coe_zero]
    exact if_neg (fun e => hs ((mask_at t s).mp e))

omit HX in
/-- The logarithm of the sigmoid at a real number. -/
theorem logSig_at (x : Big) (i : S8x2048x2048.Idx) (r : ℝ) (hx : x i = (r : EReal)) : logSig x i = ((-sp (-r) : ℝ) : EReal) := by
  have key : ∀ a : EReal, a = (r : EReal) →
      -(Scalar.select (Ideal.cmp .une (-a - 0) (-a - 0)) (-a + 0) (max (-a) 0 + Ideal.log1p (Ideal.exp (-(max (-a - 0) (-(-a - 0))))))) = ((-sp (-r) : ℝ) : EReal) := by
    rintro _ rfl
    rw [cmp_une_self, sub_zero, ← EReal.coe_neg, coe_abs, ← EReal.coe_neg, Ideal.exp_coe, log1p_coe _ (Real.exp_pos _), ← EReal.coe_zero, coe_max,
      ← EReal.coe_add]
    exact (EReal.coe_neg _).symm
  have e := key (x i) hx
  rw [← nought_at i] at e
  exact e

theorem l_at (h : Fin 8) (t s : Fin 2048) : val_main_v25_0 (F := Ideal) x0 (ix3 h t s) = ((-sp (X.z h t s) : ℝ) : EReal) := by
  have e : val_main_v24 (F := Ideal) x0 (ix3 h t s) = ((-X.z h t s : ℝ) : EReal) := by
    rw [val_main_v24_apply, z_at HX, Ideal.hostNegf_def, Ideal.negf_def, EReal.coe_neg]
  rw [ref_l, logSig_at _ _ _ e, neg_neg]

theorem b_at (h : Fin 8) (t s : Fin 2048) : val_main_v29_0 (F := Ideal) x0 (ix3 h t s) = ((-sp (-X.z h t s) : ℝ) : EReal) := by
  rw [ref_b, logSig_at _ _ _ (z_at HX h t s)]

omit HX in
theorem sub_at (a b : Big) (i : S8x2048x2048.Idx) : subf (F := Ideal) (φ := .f32) (s := S8x2048x2048) a b i = a i - b i := rfl

omit HX in
/-- What the later keys leave, from the masked entries. -/
theorem later_at (M : Mask) (x y : Big) (hy : before M x = y) (h : Fin 8) (t s : Fin 2048) :
    later M x (ix3 h t s) = (∑ u : Fin 2048, if s ≤ u then y (ix3 h t u) else 0) - y (ix3 h t s) := by
  have hsum := suffixSum_apply y Cert.KernelIdeal.Gen.reduceWindows_S8x2048x2048_S8x2048x2048_w1s1p0_0_w1s1p0_0_w2048s1p0_2047 rfl rfl rfl h t s
  have hz : (broadcastInDim S_ ![] Cert.KernelIdeal.Gen.bcast_S_S_ (constant (F := Ideal) S_ .f32 0x00000000#32)) (Shape.Idx.first Cert.KernelIdeal.Gen.h_S_) = (0 : EReal) := Ideal.ofBits_zero_f32
  unfold later
  rw [hy]
  clear hy
  generalize hA : Host.reduceWindowAdd (F := Ideal) (φ := .f32) ![1, 1, 2048] ![1, 1, 1] ![0, 0, 0] ![0, 0, 2047] y _ _ _ = A
  have hA' : A (ix3 h t s) = ∑ u : Fin 2048, if s ≤ u then y (ix3 h t u) else 0 := by
    rw [← hA]
    unfold Host.reduceWindowAdd
    rw [Ideal.hostReduceWindowAdd_def, hz]
    exact hsum
  rw [sub_at, hA']

theorem d_tail (h : Fin 8) (t s : Fin 2048) : val_main_v28 (F := Ideal) x0 (ix3 h t s) = (X.tail h t s : EReal) := by
  have hb := before_at _ _ (l_at HX)
  rw [ref_d, later_at _ _ _ rfl]
  simp only [hb]
  unfold Reals.tail Reals.lg
  rw [EReal.coe_sub, coe_sum]
  refine congrArg (· - _) (Finset.sum_congr rfl fun u _ => ?_)
  by_cases hu : s ≤ u
  · rw [if_pos hu, if_pos hu]
  · rw [if_neg hu, if_neg hu, EReal.coe_zero]

theorem raw_at (h : Fin 8) (t s : Fin 2048) : val_main_v31 (F := Ideal) x0 (ix3 h t s) = (X.raw h t s : EReal) := by
  rw [val_main_v31_apply, val_main_v30_apply, b_at HX, d_tail HX, Ideal.addf_def, ← EReal.coe_add, Ideal.hostUnary_exp_def, Ideal.exp_coe]
  rfl

theorem a_at (h : Fin 8) (t s : Fin 2048) : val_main_v32_0 (F := Ideal) x0 (ix3 h t s) = ((X.head h).A t s : EReal) :=
  before_at _ _ (raw_at HX) h t s

theorem o_at (h : Fin 8) (t : Fin 2048) (l : Fin 128) : val_main_v35 (F := Ideal) x0 (ix2 t (hl h l)) = ((X.head h).o t l : EReal) := by
  have e0 : idx_main_v34 (idx_main_v35 (ix2 t (hl h l))) = ix3 h t l := by
    funext a
    match a with
    | ⟨0, _⟩ => apply Fin.ext; simp [ix2, ix3, hl]; omega
    | ⟨1, _⟩ => apply Fin.ext; simp [ix2, ix3, hl]; omega
    | ⟨2, _⟩ => apply Fin.ext; simp [ix2, ix3, hl]; omega
  rw [val_main_v35_apply, val_main_v34_apply, e0, val_main_v33_apply]
  have e1 : ∀ s : Fin 2048, lidx_main_v33 (ix3 h t l) s = ix3 h t s := fun s => by funext a; match a with | ⟨0, _⟩ => rfl | ⟨1, _⟩ => rfl | ⟨2, _⟩ => rfl
  have e2 : ∀ s : Fin 2048, ridx_main_v33 (ix3 h t l) s = ix3 h s l := fun s => by funext a; match a with | ⟨0, _⟩ => rfl | ⟨1, _⟩ => rfl | ⟨2, _⟩ => rfl
  simp only [e1, e2, a_at HX, v_at HX]
  unfold Hd.o
  rw [coe_sum]
  simp only [EReal.coe_mul]
  rfl

end
end Cert.Proof.PI.Ref
-- ==== Proof.Grad.lean ====
module
public import proofs.«01_k».proof.Proof.Ref

/-! The reference's backward pass over the exact numbers: the gradient with respect to each logit, and the gradients with
    respect to the queries, the keys and the values. -/

set_option maxRecDepth 16384

@[expose] public section

namespace Cert.Proof.PI.Ref
open Idealize.ShloMosaic Cert.ReferenceIdeal Cert.ReferenceIdeal.Read

noncomputable section

variable {x0 : Vec Ideal S2048x8192 .bf16} {x1 : Vec Ideal S2048x1024 .bf16} {X : Reals} (HX : Args x0 x1 X)

/-- The slope of the softplus, as the gradient's lines compute it from a number and its softplus. -/
theorem slope (a s : EReal) (x y : ℝ) (ha : a = (x : EReal)) (hs : s = (y : EReal)) :
    Ideal.exp (Scalar.select (Ideal.cmp .oeq a (Ideal.ofBits .f32 0x7F800000#32)) (Ideal.ofBits .f32 0x00000000#32) a
      - Scalar.select (Ideal.cmp .oeq s (Ideal.ofBits .f32 0x7F800000#32)) (Ideal.ofBits .f32 0x00000000#32) s) = ((Real.exp (x - y) : ℝ) : EReal) := by
  subst ha hs
  rw [ofBits_inf_f32, cmp_oeq_top, cmp_oeq_top]
  show Ideal.exp ((x : EReal) - (y : EReal)) = _
  rw [← EReal.coe_sub, Ideal.exp_coe]

include HX

theorem sp3_at (h : Fin 8) (t s : Fin 2048) : val_main_call3_v1_0 (F := Ideal) x0 (ix3 h t s) = ((sp (-X.z h t s) : ℝ) : EReal) := by
  have e := b_at HX h t s
  rw [val_main_v29_0_apply, Ideal.hostNegf_def, Ideal.negf_def, EReal.coe_neg] at e
  exact neg_injective e

theorem sp0_at (h : Fin 8) (t s : Fin 2048) : val_main_call0_v1_0 (F := Ideal) x0 (ix3 h t s) = ((sp (X.z h t s) : ℝ) : EReal) := by
  have e := l_at HX h t s
  rw [val_main_v25_0_apply, Ideal.hostNegf_def, Ideal.negf_def, EReal.coe_neg] at e
  exact neg_injective e

theorem one_sub_beta_at (h : Fin 8) (t s : Fin 2048) : val_main_v29_1 (F := Ideal) x0 (ix3 h t s) = ((1 - (X.head h).B t s : ℝ) : EReal) := by
  have e : val_main_call3_v0 (F := Ideal) x0 (ix3 h t s) = ((-X.z h t s : ℝ) : EReal) := by
    rw [val_main_call3_v0_apply, z_at HX, Ideal.hostNegf_def, Ideal.negf_def, EReal.coe_neg]
  refine (slope _ _ _ _ e (sp3_at HX h t s)).trans ?_
  rw [exp_neg_sub_sp]
  rfl

theorem beta_at (h : Fin 8) (t s : Fin 2048) : val_main_v25_1 (F := Ideal) x0 (ix3 h t s) = ((X.head h).B t s : EReal) := by
  have e : val_main_call0_v0 (F := Ideal) x0 (ix3 h t s) = ((X.z h t s : ℝ) : EReal) := by
    rw [val_main_call0_v0_apply, val_main_v24_apply, z_at HX, Ideal.hostNegf_def, Ideal.negf_def, Ideal.hostNegf_def, Ideal.negf_def, neg_neg]
  refine (slope _ _ _ _ e (sp0_at HX h t s)).trans ?_
  rw [exp_sub_sp]
  rfl

theorem g_at (h : Fin 8) (t s : Fin 2048) : val_main_v43 (F := Ideal) x0 x1 (ix3 h t s) = ((X.head h).G t s : EReal) := by
  have e : ∀ h t s, val_main_v41 (F := Ideal) x0 x1 (ix3 h t s) = ((∑ l, X.D h t l * X.V h s l : ℝ) : EReal) := fun h t s => by
    rw [val_main_v41_apply]
    have e1 : ∀ l : Fin 128, lidx_main_v41 (ix3 h t s) l = ix3 h t l := fun l => by funext a; match a with | ⟨0, _⟩ => rfl | ⟨1, _⟩ => rfl | ⟨2, _⟩ => rfl
    have e2 : ∀ l : Fin 128, ridx_main_v41 (ix3 h t s) l = ix3 h s l := fun l => by funext a; match a with | ⟨0, _⟩ => rfl | ⟨1, _⟩ => rfl | ⟨2, _⟩ => rfl
    simp only [e1, e2, d_at HX, v_at HX]
    rw [coe_sum]
    simp only [EReal.coe_mul]
  have e42 : val_main_v42 (F := Ideal) x0 x1 (ix3 h t s) = ((if s.val < t.val then ∑ l, X.D h t l * X.V h s l else 0 : ℝ) : EReal) :=
    before_at _ _ e h t s
  rw [val_main_v43_apply, e42, raw_at HX, Ideal.mulf_def, ← EReal.coe_mul]
  refine congrArg _ ?_
  show _ = (∑ l, X.D h t l * X.V h s l) * (if s.val < t.val then X.raw h t s else 0)
  by_cases hs : s.val < t.val
  · rw [if_pos hs, if_pos hs]
  · rw [if_neg hs, if_neg hs, zero_mul, mul_zero]

theorem prefix_at (h : Fin 8) (t s : Fin 2048) :
    val_main_v46 (F := Ideal) x0 x1 (ix3 h t s) = ((∑ u : Fin 2048, if u ≤ s then (X.head h).G t u else 0 : ℝ) : EReal) := by
  have hsum := prefixSum_apply (val_main_v43 (F := Ideal) x0 x1)
    Cert.ReferenceIdeal.Gen.reduceWindows_S8x2048x2048_S8x2048x2048_w1s1p0_0_w1s1p0_0_w2048s1p2047_0 rfl rfl rfl h t s
  have hz : (val_main_call7_v0 (F := Ideal)) (Shape.Idx.first Cert.ReferenceIdeal.Gen.h_S_) = (0 : EReal) := Ideal.ofBits_zero_f32
  unfold val_main_v46
  generalize hx : val_main_v43 (F := Ideal) x0 x1 = x at hsum ⊢
  unfold Host.reduceWindowAdd
  rw [Ideal.hostReduceWindowAdd_def, hz]
  refine hsum.trans ?_
  subst hx
  simp only [g_at HX]
  rw [coe_sum]
  refine Finset.sum_congr rfl fun u _ => ?_
  by_cases hu : u ≤ s
  · rw [if_pos hu, if_pos hu]
  · rw [if_neg hu, if_neg hu, EReal.coe_zero]

omit HX in
/-- The running sum, its own entry taken out. -/
theorem sum_le (f : Fin 2048 → ℝ) (s : Fin 2048) : (∑ u : Fin 2048, if u ≤ s then f u else 0) = f s + ∑ u : Fin 2048, if u.val < s.val then f u else 0 := by
  have e : ∀ u : Fin 2048, (if u ≤ s then f u else 0) = (if u = s then f s else 0) + (if u.val < s.val then f u else 0) := fun u => by
    rcases lt_trichotomy u s with hu | hu | hu
    · rw [if_pos hu.le, if_neg hu.ne, if_pos (show u.val < s.val from hu), zero_add]
    · subst hu
      rw [if_pos le_rfl, if_pos rfl, if_neg (lt_irrefl _), add_zero]
    · rw [if_neg (not_le.mpr hu), if_neg hu.ne', if_neg (fun e : u.val < s.val => lt_asymm hu e), add_zero]
  rw [Finset.sum_congr rfl fun u _ => e u, Finset.sum_add_distrib, Finset.sum_ite_eq' Finset.univ s, if_pos (Finset.mem_univ _)]

theorem dz_at (h : Fin 8) (t s : Fin 2048) : val_main_v51 (F := Ideal) x0 x1 (ix3 h t s) = ((X.head h).DZ t s : EReal) := by
  have e47 : ∀ h t s, val_main_v47 (F := Ideal) x0 x1 (ix3 h t s) = ((-(X.head h).G t s + ∑ u : Fin 2048, if u ≤ s then (X.head h).G t u else 0 : ℝ) : EReal) := fun h t s => by
    rw [val_main_v47_apply, val_main_v45_apply, g_at HX, prefix_at HX, Ideal.hostNegf_def, Ideal.negf_def, Ideal.addf_def, ← EReal.coe_neg, ← EReal.coe_add]
  have e48 : val_main_v48 (F := Ideal) x0 x1 (ix3 h t s) = _ := before_at _ _ e47 h t s
  rw [val_main_v51_apply, val_main_v44_apply, val_main_call6_v1_apply, val_main_call6_v0_apply, val_main_v50_apply, val_main_v49_apply,
    val_main_call9_v1_apply, val_main_call9_v0_apply, e48, g_at HX, one_sub_beta_at HX, beta_at HX]
  simp only [Ideal.hostNegf_def, Ideal.negf_def, Ideal.mulf_def, Ideal.addf_def, ← EReal.coe_neg, ← EReal.coe_mul, ← EReal.coe_add]
  refine congrArg _ ?_
  rw [sum_le]
  unfold Hd.DZ
  by_cases hs : s.val < t.val
  · rw [if_pos hs, if_pos hs]
    ring
  · have hg : (X.head h).G t s = 0 := by
      show _ * (if s.val < t.val then X.raw h t s else 0) = (0 : ℝ)
      rw [if_neg hs, mul_zero]
    rw [if_neg hs, if_neg hs, hg]
    ring

theorem dzs_at (h : Fin 8) (t s : Fin 2048) : val_main_v53 (F := Ideal) x0 x1 (ix3 h t s) = (((X.head h).DZ t s * scl : ℝ) : EReal) := by
  rw [val_main_v53_apply, val_main_v52_apply, val_main_cst_2_apply, dz_at HX, Ideal.mulf_def, Ideal.ofBits_def, scl_eq, EReal.coe_mul]

omit HX in
/-- The columns of a head, side by side with the others'. -/
theorem side {α : Type} (f : S8x2048x128.Idx → α) (t : Fin 2048) (h : Fin 8) (l : Fin 128) (i : S8x2048x128.Idx)
    (h0 : (i 0).val = h.val) (h1 : (i 1).val = t.val) (h2 : (i 2).val = l.val) : f i = f (ix3 h t l) := by
  refine congrArg f ?_
  funext a
  match a with
  | ⟨0, _⟩ => exact Fin.ext h0
  | ⟨1, _⟩ => exact Fin.ext h1
  | ⟨2, _⟩ => exact Fin.ext h2

theorem dq_at (h : Fin 8) (t : Fin 2048) (l : Fin 128) : val_main_v62 (F := Ideal) x0 x1 (ix2 t (hl h l)) = dqArr (fun h => X.head h) (ix2 t (hl h l)) := by
  rw [dqArr_at, val_main_v62_apply, val_main_v61_apply, val_main_v60_apply]
  refine (side (val_main_v55 (F := Ideal) x0 x1) t h l _ (by simp [ix2, hl]; omega) (by simp [ix2, hl]; omega) (by simp [ix2, hl]; omega)).trans ?_
  rw [val_main_v55_apply]
  have e1 : ∀ s : Fin 2048, lidx_main_v55 (ix3 h t l) s = ix3 h t s := fun s => by funext a; match a with | ⟨0, _⟩ => rfl | ⟨1, _⟩ => rfl | ⟨2, _⟩ => rfl
  have e2 : ∀ s : Fin 2048, ridx_main_v55 (ix3 h t l) s = ix3 h s l := fun s => by funext a; match a with | ⟨0, _⟩ => rfl | ⟨1, _⟩ => rfl | ⟨2, _⟩ => rfl
  simp only [e1, e2, dzs_at HX, k_at HX]
  rw [sc, scl_eq, ← EReal.coe_mul, Hd.dq, Finset.sum_mul, coe_sum]
  refine Finset.sum_congr rfl fun s _ => ?_
  rw [← EReal.coe_mul]
  refine congrArg _ ?_
  show _ * _ * X.K h s l = _ * X.K h s l * _
  ring

theorem dk_at (h : Fin 8) (s : Fin 2048) (l : Fin 128) : val_main_v63 (F := Ideal) x0 x1 (ix2 s (hl h l)) = dkArr (fun h => X.head h) (ix2 s (hl h l)) := by
  rw [dkArr_at, val_main_v63_apply, val_main_v59_apply, val_main_v58_apply]
  refine (side (val_main_v54 (F := Ideal) x0 x1) s h l _ (by simp [ix2, hl]; omega) (by simp [ix2, hl]; omega) (by simp [ix2, hl]; omega)).trans ?_
  rw [val_main_v54_apply]
  have e1 : ∀ t : Fin 2048, lidx_main_v54 (ix3 h s l) t = ix3 h t s := fun t => by funext a; match a with | ⟨0, _⟩ => rfl | ⟨1, _⟩ => rfl | ⟨2, _⟩ => rfl
  have e2 : ∀ t : Fin 2048, ridx_main_v54 (ix3 h s l) t = ix3 h t l := fun t => by funext a; match a with | ⟨0, _⟩ => rfl | ⟨1, _⟩ => rfl | ⟨2, _⟩ => rfl
  simp only [e1, e2, dzs_at HX, q_at HX]
  rw [sc, scl_eq, ← EReal.coe_mul, Hd.dk, Finset.sum_mul, coe_sum]
  refine Finset.sum_congr rfl fun t _ => ?_
  rw [← EReal.coe_mul]
  refine congrArg _ ?_
  show _ * _ * X.Q h t l = _ * X.Q h t l * _
  ring

theorem dv_at (h : Fin 8) (s : Fin 2048) (l : Fin 128) : val_main_v64 (F := Ideal) x0 x1 (ix2 s (hl h l)) = dvArr (fun h => X.head h) (ix2 s (hl h l)) := by
  rw [dvArr_at, val_main_v64_apply, val_main_v57_apply, val_main_v56_apply]
  refine (side (val_main_v40 (F := Ideal) x0 x1) s h l _ (by simp [ix2, hl]; omega) (by simp [ix2, hl]; omega) (by simp [ix2, hl]; omega)).trans ?_
  rw [val_main_v40_apply, val_main_v39_apply]
  have e1 : ∀ t : Fin 2048, lidx_main_v39 (idx_main_v40 (ix3 h s l)) t = ix3 h t l := fun t => by funext a; match a with | ⟨0, _⟩ => rfl | ⟨1, _⟩ => rfl | ⟨2, _⟩ => rfl
  have e2 : ∀ t : Fin 2048, ridx_main_v39 (idx_main_v40 (ix3 h s l)) t = ix3 h t s := fun t => by funext a; match a with | ⟨0, _⟩ => rfl | ⟨1, _⟩ => rfl | ⟨2, _⟩ => rfl
  simp only [e1, e2, a_at HX, d_at HX]
  rw [Hd.dv, coe_sum]
  refine Finset.sum_congr rfl fun t _ => ?_
  rw [← EReal.coe_mul, mul_comm]
  rfl

end
end Cert.Proof.PI.Ref
-- ==== Proof.Value.lean ====
module
public import proofs.«01_k».proof.Defs
public import proofs.«01_k».proof.Proof.Gen.Pre_finite
public import proofs.«01_k».proof.Proof.Run
public import proofs.«01_k».proof.Proof.Grad

/-! The kernel's three results are the reference's: the precondition makes every argument the attention reads a real
    number, the host's arrays hold the heads' numbers, and so both sides are the same sums. -/

set_option maxRecDepth 16384

@[expose] public section

namespace Cert.Proof.PI.Value
open Idealize.ShloMosaic Idealize.ShloMosaic.TcCoe Idealize.SL.Sem Cert.KernelIdeal Cert.KernelIdeal.Gen

noncomputable section

/-- A number below infinity in size is real. -/
theorem real_of_lt (x : EReal) (h : Ideal.cmp .olt (max x (-x)) (Ideal.ofBits .f32 0x7F800000#32) = 1#1) : x = (x.toReal : EReal) := by
  rw [ofBits_inf_f32] at h
  induction x using EReal.rec with
  | bot => simp [Ideal.cmp] at h
  | top => simp [Ideal.cmp] at h
  | coe a => rw [EReal.toReal_coe]

section args
variable (x0 : Vec Ideal S2048x8192 .bf16) (x1 : Vec Ideal S2048x1024 .bf16)

/-- The heads' numbers, read off the arguments. -/
def reals : Ref.Reals where
  Q h t l := (x0 (ix2 t (hp 12 h l)) : EReal).toReal
  K h t l := (x0 (ix2 t (hp 16 h l)) : EReal).toReal
  V h t l := (x0 (ix2 t (hp 20 h l)) : EReal).toReal
  D h t l := (x1 (ix2 t (hl h l)) : EReal).toReal

theorem args_of (h0 : (Cert.Pre_finite.fn (F := Ideal) x0 x1).1 = fun _ => 1#1) (h1 : (Cert.Pre_finite.fn (F := Ideal) x0 x1).2 = fun _ => 1#1) :
    Ref.Args x0 x1 (reals x0 x1) := by
  have e0 : ∀ (t : Fin 2048) (k : Fin 3072), x0 (ix2 t ⟨3072 + k.val, by omega⟩) = ((x0 (ix2 t ⟨3072 + k.val, by omega⟩) : EReal).toReal : EReal) := fun t k => by
    have e := congrFun h0 (ix2 t k)
    have es : (extractStridedSlice Cert.Pre_finite.S2048x3072 ![0, 3072] x0 Cert.Pre_finite.Gen.slices_S2048x8192_S2048x3072_0_3072) (ix2 t k) = x0 (ix2 t ⟨3072 + k.val, by omega⟩) := by
      refine extractStridedSlice_apply _ _ _ _ _ fun a => ?_
      match a with
      | ⟨0, _⟩ => show t.val = 0 + t.val; omega
      | ⟨1, _⟩ => rfl
    refine real_of_lt _ ?_
    rw [← es]
    exact e
  refine ⟨fun h t l => ?_, fun h t l => ?_, fun h t l => ?_, fun h t l => real_of_lt _ (congrFun h1 (ix2 t (hl h l)))⟩
  · have e := e0 t ⟨128 * h.val + l.val, by omega⟩
    have ei : (⟨3072 + (128 * h.val + l.val), by omega⟩ : Fin 8192) = hp 12 h l := Fin.ext (by show 3072 + (128 * h.val + l.val) = 256 * 12 + 128 * h.val + l.val; omega)
    rw [ei] at e
    exact e
  · have e := e0 t ⟨1024 + (128 * h.val + l.val), by omega⟩
    have ei : (⟨3072 + (1024 + (128 * h.val + l.val)), by omega⟩ : Fin 8192) = hp 16 h l := Fin.ext (by show 3072 + (1024 + (128 * h.val + l.val)) = 256 * 16 + 128 * h.val + l.val; omega)
    rw [ei] at e
    exact e
  · have e := e0 t ⟨2048 + (128 * h.val + l.val), by omega⟩
    have ei : (⟨3072 + (2048 + (128 * h.val + l.val)), by omega⟩ : Fin 8192) = hp 20 h l := Fin.ext (by show 3072 + (2048 + (128 * h.val + l.val)) = 256 * 20 + 128 * h.val + l.val; omega)
    rw [ei] at e
    exact e

end args

/-- An array of rows and heads' columns, from its entries. -/
theorem by_heads (f g : Vec Ideal S2048x1024 .bf16) (e : ∀ (t : Fin 2048) (h : Fin 8) (l : Fin 128), f (ix2 t (hl h l)) = g (ix2 t (hl h l))) : f = g := by
  funext i
  have ei : i = ix2 (i 0) (hl (hc (i 1)) (lc (i 1))) := by
    funext a
    match a with
    | ⟨0, _⟩ => rfl
    | ⟨1, _⟩ => exact Fin.ext (by show (i 1).val = 128 * ((i 1).val / 128) + (i 1).val % 128; omega)
  rw [ei]
  exact e _ _ _

theorem tiles_at (x : Big) (h j : Fin 8) (t : Fin 2048) (k : Fin 256) : tiles x (ix4 h j t k) = x (ix3 h t (tk j k)) := by
  unfold tiles
  generalize hy : (shapeCast S8x2048x8x256 x shapeCasts_S8x2048x2048_S8x2048x8x256) = y
  have e1 : transpose S8x8x2048x256 [0, 2, 1, 3] y transposes_S8x2048x8x256_S8x8x2048x256_0_2_1_3 (ix4 h j t k) = y (ix4 h t j k) := by
    refine transpose_apply _ _ _ _ _ fun a => ?_
    match a with
    | ⟨0, _⟩ => rfl
    | ⟨1, _⟩ => rfl
    | ⟨2, _⟩ => rfl
    | ⟨3, _⟩ => rfl
  refine e1.trans ?_
  rw [← hy]
  refine shapeCast_apply _ _ _ _ ?_
  rw [Shape.rowMajor_val_three, Shape.rowMajor_val_four]
  show (h.val * 2048 + t.val) * 2048 + (256 * j.val + k.val) = ((h.val * 2048 + t.val) * 8 + j.val) * 256 + k.val
  omega

variable (m : (ℓ : Loc nD τ sig) → Buf (Elt Ideal) ℓ) (ρ : Dev nD → PrngReg)

/-- What the arguments hold on a device. -/
abbrev in0 (c : Dev nD) : Vec Ideal S2048x8192 .bf16 := m ((c.tc : Thread nD τ).loc main_arg0)
abbrev in1 (c : Dev nD) : Vec Ideal S2048x1024 .bf16 := m ((c.tc : Thread nD τ).loc main_arg1)

/-- The heads' numbers on a device. -/
def heads (c : Dev nD) : Fin 8 → Hd := fun h => (reals (in0 m c) (in1 m c)).head h

variable (c : Dev nD) (HX : Ref.Args (in0 m c) (in1 m c) (reals (in0 m c) (in1 m c)))
include HX

theorem holds : Holds m c (heads m c) where
  q h t l := (congrFun (V_main_arg0 m c) _).trans (HX.q h t l)
  k h t l := (congrFun (V_main_arg0 m c) _).trans (HX.k h t l)
  v h t l := (congrFun (V_main_arg0 m c) _).trans (HX.v h t l)
  d h t l := (congrFun (V_main_arg1 m c) _).trans (HX.d h t l)
  o h t l := (congrFun (host_o m c) _).trans (Ref.o_at HX h t l)
  a h j t k := (congrFun (host_a m c) _).trans ((tiles_at _ h j t k).trans (Ref.a_at HX h t (tk j k)))
  b h j t k := by
    refine (congrFun (host_b m c) _).trans ((tiles_at _ h j t k).trans ?_)
    have e : betas (Cert.ReferenceIdeal.Read.val_main_v29_0 (F := Ideal) (in0 m c)) (ix3 h t (tk j k)) = Ideal.exp (Cert.ReferenceIdeal.Read.val_main_v29_0 (F := Ideal) (in0 m c) (ix3 h t (tk j k))) := rfl
    refine e.trans ?_
    rw [Ref.b_at HX, Ideal.exp_coe]
    rfl
  causal h := Ref.Reals.head_causal _ h

theorem ref_dq : Cert.ReferenceIdeal.Read.val_main_v62 (F := Ideal) (in0 m c) (in1 m c) = dqArr (heads m c) :=
  by_heads _ _ fun t h l => Ref.dq_at HX h t l
theorem ref_dk : Cert.ReferenceIdeal.Read.val_main_v63 (F := Ideal) (in0 m c) (in1 m c) = dkArr (heads m c) :=
  by_heads _ _ fun t h l => Ref.dk_at HX h t l
theorem ref_dv : Cert.ReferenceIdeal.Read.val_main_v64 (F := Ideal) (in0 m c) (in1 m c) = dvArr (heads m c) :=
  by_heads _ _ fun t h l => Ref.dv_at HX h t l

end
end Cert.Proof.PI.Value
-- ==== Proof.Reals.lean ====
module
public import proofs.«01_k».proof.Proof.Softplus
public import Idealize.ShloMosaic.PureOps.Ideal.Laws
public import Idealize.ShloMosaic.Lib.Pointwise

/-! Exact numbers that are real: what sums and products of them are, and the sigmoid. -/

@[expose] public section

namespace Cert.Proof
open Idealize.ShloMosaic

noncomputable section

/-- A number that is neither infinity. -/
def IsReal (x : EReal) : Prop := ∃ r : ℝ, x = (r : EReal)

theorem isReal_coe (r : ℝ) : IsReal (r : EReal) := ⟨r, rfl⟩

theorem IsReal.toReal {x : EReal} (h : IsReal x) : ((x.toReal : ℝ) : EReal) = x := by
  obtain ⟨r, rfl⟩ := h
  rw [EReal.toReal_coe]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem isReal_sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem coe_sum' {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A number below infinity in size is real. -/
theorem isReal_of_lt (x : EReal) (h : Ideal.cmp .olt (max x (-x)) (Ideal.ofBits .f32 0x7F800000#32) = 1#1) : IsReal x := by
  rw [ofBits_inf_f32] at h
  induction x using EReal.rec with
  | bot => simp [Ideal.cmp] at h
  | top => simp [Ideal.cmp] at h
  | coe a => exact ⟨a, rfl⟩

/-- The sigmoid of a number. -/
def sigm (g : EReal) : EReal := Ideal.div 1 (1 + Ideal.exp (-g))

theorem sigm_coe (g : ℝ) : sigm (g : EReal) = (((1 + Real.exp (-g))⁻¹ : ℝ) : EReal) := by
  have hp : (0 : ℝ) < 1 + Real.exp (-g) := by positivity
  have e : (1 : EReal) + ((Real.exp (-g) : ℝ) : EReal) = ((1 + Real.exp (-g) : ℝ) : EReal) := by simp
  rw [sigm, ← EReal.coe_neg, Ideal.exp_coe, e, Ideal.div_coe hp.ne', one_mul, one_div]

theorem sigm_bot : sigm ⊥ = 0 := by
  rw [sigm, EReal.neg_bot, Ideal.exp_top, EReal.add_top_of_ne_bot (by rw [← EReal.coe_one]; exact EReal.coe_ne_bot 1)]
  simp [Ideal.div]

theorem sigm_top : sigm ⊤ = 1 := by
  rw [sigm, EReal.neg_top, Ideal.exp_bot, add_zero]
  have := Ideal.div_coe (y := 1) one_ne_zero 1
  simpa using this

/-- The derivative of the gate: the factor taken once, or along its two terms. -/
theorem silu_split (a g : EReal) (ha : IsReal a) : a * (sigm g + g * sigm g * (1 - sigm g)) = a * sigm g + g * a * (sigm g * (1 - sigm g)) := by
  obtain ⟨a, rfl⟩ := ha
  induction g using EReal.rec with
  | bot => simp [sigm_bot]
  | top =>
    have e : (1 : EReal) - 1 = 0 := by
      rw [← EReal.coe_one, ← EReal.coe_sub]; simp
    rw [sigm_top, e, mul_zero, mul_zero, mul_zero, add_zero, add_zero]
  | coe g =>
    rw [sigm_coe, ← EReal.coe_one]
    simp only [← EReal.coe_sub, ← EReal.coe_mul, ← EReal.coe_add]
    congr 1
    ring

end

end Cert.Proof
-- ==== Proof.Rms.lean ====
module
public import proofs.«01_k».proof.Proof.Reals
public import Idealize.ShloMosaic.Lib.IdealHost

/-! The derivative of the root mean square normalisation along a row of 1024 numbers: the kernel's closed form, and the
    chain rule's own terms. -/

@[expose] public section

namespace Cert.Proof.Rms
open Idealize.ShloMosaic

noncomputable section

/-- The row's length, the number added under the root, and minus a half, as the programs write them. -/
abbrev len : EReal := Ideal.ofBits .f32 0x44800000#32
abbrev eps : EReal := Ideal.ofBits .f32 0x358637BD#32
abbrev mhalf : EReal := Ideal.ofBits .f32 0xBF000000#32

theorem len_eq : len = ((1024 : ℝ) : EReal) := by
  simp only [len, Ideal.ofBits, Ideal.ieee]
  simp
  rw [← EReal.coe_mul]
  norm_num

theorem mhalf_eq : mhalf = ((-1/2 : ℝ) : EReal) := by
  simp only [mhalf, Ideal.ofBits, Ideal.ieee]
  simp
  rw [← EReal.coe_mul]
  norm_num

theorem eps_eq : ∃ e : ℝ, 0 < e ∧ eps = (e : EReal) := by
  refine ⟨8796093 * (2 ^ 43)⁻¹, by positivity, ?_⟩
  simp only [eps, Ideal.ofBits, Ideal.ieee]
  simp

/-- The number under a row's root. -/
def under (x : Fin 1024 → EReal) : EReal := Ideal.div (∑ k, x k * x k) len + eps

/-- One over a row's root mean square. -/
def rms (x : Fin 1024 → EReal) : EReal := Ideal.rsqrt (under x)

/-- A row's gradient, in the closed form. -/
def closed (x a : Fin 1024 → EReal) (q : Fin 1024) : EReal :=
  rms x * (a q - x q * rms x * Ideal.div (∑ k, a k * (x k * rms x)) len)

/-- What the chain rule sends back through the root. -/
def through (x a : Fin 1024 → EReal) : EReal := Ideal.div ((∑ k, x k * a k) * (mhalf * Ideal.div (rms x) (under x))) len

theorem coe_div (a b : ℝ) (h : b ≠ 0) : Ideal.div (a : EReal) (b : EReal) = ((a / b : ℝ) : EReal) := by
  rw [Ideal.div_coe h, ← EReal.coe_mul, mul_one_div]

theorem under_real (X : Fin 1024 → ℝ) : ∃ M : ℝ, 0 < M ∧ under (fun k => (X k : EReal)) = (M : EReal) := by
  obtain ⟨e, he, hee⟩ := eps_eq
  refine ⟨(∑ k, X k * X k) / 1024 + e, add_pos_of_nonneg_of_pos (div_nonneg (Finset.sum_nonneg fun k _ => mul_self_nonneg _) (by norm_num)) he, ?_⟩
  simp only [under, hee, len_eq, ← EReal.coe_mul, coe_sum']
  rw [coe_div _ _ (by norm_num), ← EReal.coe_add]

theorem not_real (x : EReal) (h : ¬IsReal x) : x = ⊥ ∨ x = ⊤ := by
  induction x using EReal.rec with
  | bot => exact Or.inl rfl
  | coe r => exact absurd ⟨r, rfl⟩ h
  | top => exact Or.inr rfl

theorem square_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- A row with an infinite number has an infinite number under its root. -/
theorem under_top (x : Fin 1024 → EReal) (k : Fin 1024) (hk : ¬IsReal (x k)) : under x = ⊤ := by
  have hs : ∑ k, x k * x k = ⊤ := by
    refine top_le_iff.mp (le_trans (le_of_eq ?_) (Finset.single_le_sum (f := fun k => x k * x k) (fun i _ => square_nonneg (x i)) (Finset.mem_univ k)))
    rcases not_real _ hk with h | h <;> simp only [h]
    · exact EReal.bot_mul_bot.symm
    · exact EReal.top_mul_top.symm
  obtain ⟨e, he, hee⟩ := eps_eq
  rw [under, hs, len_eq, hee, Ideal.div_coe (by norm_num), EReal.top_mul_coe_of_pos (by norm_num), EReal.top_add_coe]

/-- A nonnegative real factor comes out of a sum, whatever its terms. -/
theorem sum_real_mul (r : ℝ) (hr : 0 ≤ r) (f : Fin 1024 → EReal) : ∑ k, (r : EReal) * f k = (r : EReal) * ∑ k, f k := by
  classical
  refine Finset.induction_on (motive := fun s => ∑ k ∈ s, (r : EReal) * f k = (r : EReal) * ∑ k ∈ s, f k) Finset.univ ?_ fun k s hk ih => ?_
  · rw [Finset.sum_empty, Finset.sum_empty, mul_zero]
  · rw [Finset.sum_insert hk, Finset.sum_insert hk, ih, EReal.left_distrib_of_nonneg_of_ne_top (EReal.coe_nonneg.mpr hr) (EReal.coe_ne_top _)]

theorem twice (y : EReal) : y + y = ((2 : ℝ) : EReal) * y := by
  induction y using EReal.rec with
  | bot => rw [EReal.coe_mul_bot_of_pos (by norm_num)]; rfl
  | coe r => rw [← EReal.coe_add, ← EReal.coe_mul, two_mul]
  | top => rw [EReal.coe_mul_top_of_pos (by norm_num)]; rfl

/-- The closed form is the chain rule's sum: over a row with an infinite number, whose root is infinite, both vanish; over a
    real row the gradient's numbers may be any. -/
theorem closed_eq (x a : Fin 1024 → EReal) (q : Fin 1024) (d : EReal) :
    d + closed x a q = ((d + a q * rms x) + x q * through x a) + through x a * x q := by
  by_cases hx : ∀ k, IsReal (x k)
  · choose X hX using hx
    obtain rfl : x = fun k => (X k : EReal) := funext hX
    obtain ⟨M, hM, hu⟩ := under_real X
    have hr : rms (fun k => (X k : EReal)) = (((Real.sqrt M)⁻¹ : ℝ) : EReal) := by
      rw [rms, hu, Ideal.rsqrt_coe, if_neg (not_lt.mpr hM.le), if_neg hM.ne']
    have hs : Real.sqrt M * Real.sqrt M = M := Real.mul_self_sqrt hM.le
    have hs0 : 0 < Real.sqrt M := Real.sqrt_pos.mpr hM
    have hr0 : 0 ≤ (Real.sqrt M)⁻¹ := (inv_pos.mpr hs0).le
    have ht : (∑ k, a k * ((X k : EReal) * (((Real.sqrt M)⁻¹ : ℝ) : EReal))) = (((Real.sqrt M)⁻¹ : ℝ) : EReal) * ∑ k, (X k : EReal) * a k := by
      rw [← sum_real_mul _ hr0]
      exact Finset.sum_congr rfl fun k _ => by rw [mul_comm (X k : EReal), mul_left_comm, mul_comm (a k)]
    simp only [closed, through, hr, hu, len_eq, mhalf_eq, ht]
    simp only [coe_div _ _ hM.ne', Ideal.div_coe (show (1024 : ℝ) ≠ 0 by norm_num), ← EReal.coe_mul]
    generalize (∑ k, (X k : EReal) * a k) = S
    generalize Real.sqrt M = s at *
    subst hs
    have h1 : ((s⁻¹ : ℝ) : EReal) * (a q - ((X q * s⁻¹ : ℝ) : EReal) * (((s⁻¹ : ℝ) : EReal) * S * ((1 / 1024 : ℝ) : EReal)))
        = a q * ((s⁻¹ : ℝ) : EReal) + ((-(s⁻¹ * (X q * s⁻¹) * s⁻¹ * (1 / 1024)) : ℝ) : EReal) * S := by
      rw [sub_eq_add_neg, EReal.left_distrib_of_nonneg_of_ne_top (EReal.coe_nonneg.mpr hr0) (EReal.coe_ne_top _), mul_comm (a q), mul_neg, EReal.coe_neg, neg_mul]
      congr 2
      simp only [EReal.coe_mul]
      simp only [mul_assoc, mul_comm S]
    have h2 : (X q : EReal) * (S * ((-1 / 2 * (s⁻¹ / (s * s)) : ℝ) : EReal) * ((1 / 1024 : ℝ) : EReal))
        = ((X q * (-1 / 2 * (s⁻¹ / (s * s))) * (1 / 1024) : ℝ) : EReal) * S := by
      simp only [EReal.coe_mul]
      simp only [mul_assoc, mul_comm S]
    rw [h1, mul_comm _ (X q : EReal), h2, add_assoc (d + _), twice, ← mul_assoc ((2 : ℝ) : EReal), ← EReal.coe_mul, add_assoc]
    congr 4
    field_simp
  · obtain ⟨k, hk⟩ := not_forall.mp hx
    have hr : rms x = 0 := by rw [rms, under_top x k hk, Ideal.rsqrt_top]
    have ht : through x a = 0 := by
      rw [through, hr, under_top x k hk, Ideal.zero_div EReal.top_ne_zero, mul_zero, mul_zero, len_eq, Ideal.div_coe (by norm_num), zero_mul]
    rw [closed, hr, ht]
    simp only [zero_mul, mul_zero, add_zero]

end

end Cert.Proof.Rms
-- ==== Proof.Du.lean ====
module
public import proofs.«01_k».proof.Defs
public import proofs.«01_k».proof.Proof.Gen.KernelDuIdeal.Value
public import proofs.«01_k».proof.Proof.Gen.KernelDu.Frame
public import proofs.«01_k».proof.Proof.Gen.ReferenceDuIdeal.Run
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.Claim

/-! The gradient into the mixer, and through its normalisation: the call adds `dproj · w_inᵀ` up over four chunks of columns, closes
    every block of rows with the normalisation's gradient and adds the scale's gradient up over the blocks; the reference is the
    derivative of `(h, rms_norm h g · w_in)`. -/

set_option maxRecDepth 16384

@[expose] public section

namespace Cert.Proof.Du
open Idealize.ShloMosaic Idealize.ShloMosaic.TcCoe Idealize.SL.Sem Cert.KernelDuIdeal Cert.KernelDuIdeal.Gen
open Idealize.ShloMosaic.Pipeline (Dat)
open Cert.Proof.Rms

noncomputable section

/-! ## The reference -/

/-- The gradient of the normalised rows. -/
abbrev DN (X0 : FVec Ideal S2048x8192 .bf16) (X1 : FVec Ideal S1024x8192 .bf16) : FVec Ideal S2048x1024 .f32 :=
  Host.dotGeneral Cert.ReferenceDuIdeal.dot_S2048x8192_S1024x8192_S2048x1024_1_1_0_0_n_n none
    (extf .f32 X0 Cert.ReferenceDuIdeal.Gen.bitsLt_bf16_f32) (extf .f32 X1 Cert.ReferenceDuIdeal.Gen.bitsLt_bf16_f32)

abbrev zero : FVec Ideal Cert.ReferenceDuIdeal.S_ .f32 := constant Cert.ReferenceDuIdeal.S_ .f32 0x00000000#32

/-- A number along the rows. -/
abbrev along (b : BitVec 32) : FVec Ideal Cert.ReferenceDuIdeal.S2048x1 .f32 :=
  broadcastInDim Cert.ReferenceDuIdeal.S2048x1 ![] Cert.ReferenceDuIdeal.Gen.bcast_S_S2048x1 (constant Cert.ReferenceDuIdeal.S_ .f32 b)

/-- The numbers under the rows' roots, and one over the roots. -/
abbrev UN (X3 : FVec Ideal S2048x1024 .f32) : FVec Ideal Cert.ReferenceDuIdeal.S2048x1 .f32 :=
  addf (Host.divf (broadcastInDim Cert.ReferenceDuIdeal.S2048x1 ![0] Cert.ReferenceDuIdeal.Gen.bcast_S2048_S2048x1_0
    (Host.reduceAdd (mulf X3 X3) zero Cert.ReferenceDuIdeal.Gen.reducesTo_S2048x1024_S2048_d1 Cert.ReferenceDuIdeal.Gen.h_S_))
    (along 0x44800000#32)) (along 0x358637BD#32)

abbrev RS (X3 : FVec Ideal S2048x1024 .f32) : FVec Ideal Cert.ReferenceDuIdeal.S2048x1 .f32 := Host.rsqrt (UN X3)

/-- The gradient of the normalised rows, scaled. -/
abbrev AR (D : FVec Ideal S2048x1024 .f32) (X4 : FVec Ideal S1x1024 .f32) : FVec Ideal S2048x1024 .f32 :=
  mulf D (broadcastInDim Cert.ReferenceDuIdeal.S2048x1024 ![0, 1] Cert.ReferenceDuIdeal.Gen.bcast_S1x1024_S2048x1024_0_1 X4)

/-- What comes back through the rows' roots. -/
abbrev TH (D : FVec Ideal S2048x1024 .f32) (X3 : FVec Ideal S2048x1024 .f32) (X4 : FVec Ideal S1x1024 .f32) : FVec Ideal S2048x1024 .f32 :=
  broadcastInDim Cert.ReferenceDuIdeal.S2048x1024 ![0] Cert.ReferenceDuIdeal.Gen.bcast_S2048_S2048x1024_0
    (Host.reduceAdd (Host.divf (mulf (shapeCast _ (Host.reduceAdd (mulf X3 (AR D X4)) zero
        Cert.ReferenceDuIdeal.Gen.reducesTo_S2048x1024_S2048_d1 Cert.ReferenceDuIdeal.Gen.h_S_) Cert.ReferenceDuIdeal.Gen.shapeCasts_S2048_S2048x1)
      (mulf (along 0xBF000000#32) (Host.divf (RS X3) (UN X3)))) (along 0x44800000#32)) zero
      Cert.ReferenceDuIdeal.Gen.reducesTo_S2048x1_S2048_d1 Cert.ReferenceDuIdeal.Gen.h_S_)

abbrev RSB (X3 : FVec Ideal S2048x1024 .f32) : FVec Ideal S2048x1024 .f32 :=
  broadcastInDim Cert.ReferenceDuIdeal.S2048x1024 ![0, 1] Cert.ReferenceDuIdeal.Gen.bcast_S2048x1_S2048x1024_0_1 (RS X3)

/-- The reference's results from the gradient of the normalised rows. -/
abbrev R5 (D X2 X3 : FVec Ideal S2048x1024 .f32) (X4 : FVec Ideal S1x1024 .f32) : FVec Ideal S2048x1024 .f32 :=
  addf (addf (addf X2 (mulf (AR D X4) (RSB X3))) (mulf X3 (TH D X3 X4))) (mulf (TH D X3 X4) X3)

/-- One half along the rows. -/
abbrev half : FVec Ideal S2048x1024 .f32 :=
  broadcastInDim Cert.ReferenceDuIdeal.S2048x1024 ![] Cert.ReferenceDuIdeal.Gen.bcast_S_S2048x1024 (constant Cert.ReferenceDuIdeal.S_ .f32 0x3F000000#32)

abbrev R6 (D X2 X3 : FVec Ideal S2048x1024 .f32) (X4 : FVec Ideal S1x1024 .f32) : FVec Ideal S2048x1024 .bf16 :=
  truncf .bf16 (mulf half (R5 D X2 X3 X4)) Cert.ReferenceDuIdeal.Gen.bitsLt_bf16_f32

abbrev R7 (D X3 : FVec Ideal S2048x1024 .f32) : FVec Ideal S1x1024 .f32 :=
  shapeCast _ (Host.reduceAdd (mulf (mulf X3 (RSB X3)) D) zero Cert.ReferenceDuIdeal.Gen.reducesTo_S2048x1024_S1024_d0
    Cert.ReferenceDuIdeal.Gen.h_S_) Cert.ReferenceDuIdeal.Gen.shapeCasts_S1024_S1x1024

/-- An entry of the gradient of the normalised rows, by the chunks of columns. -/
def dn (X0 : FVec Ideal S2048x8192 .bf16) (X1 : FVec Ideal S1024x8192 .bf16) (P : Fin 2048) (q : Fin 1024) : EReal :=
  ∑ s : Fin 4, ∑ k : Fin 2048, X0 (ix2 P ⟨s.val * 2048 + k.val, by omega⟩) * X1 (ix2 q ⟨s.val * 2048 + k.val, by omega⟩)

theorem dn_at (X0 X1) (P : Fin 2048) (q : Fin 1024) : DN X0 X1 (ix2 P q) = dn X0 X1 P q := by
  unfold dn
  pointwise [DN]
  exact (Fin.sum_mul_add_congr fun s k hl => rfl).symm

theorem r5_at (D X2 X3 X4) (P : Fin 2048) (q : Fin 1024) : R5 D X2 X3 X4 (ix2 P q)
    = ((X2 (ix2 P q) + D (ix2 P q) * X4 (ix2 0 q) * rms fun k => X3 (ix2 P k))
        + X3 (ix2 P q) * through (fun k => X3 (ix2 P k)) fun k => D (ix2 P k) * X4 (ix2 0 k))
      + through (fun k => X3 (ix2 P k)) (fun k => D (ix2 P k) * X4 (ix2 0 k)) * X3 (ix2 P q) := by
  pointwise [R5]
  simp only [Finset.sum_const, Finset.card_univ, Fintype.card_fin, one_smul]
  rfl

theorem r6_at (D X2 X3 X4) (P : Fin 2048) (q : Fin 1024) : R6 D X2 X3 X4 (ix2 P q) = Ideal.ofBits .f32 0x3F000000#32 * R5 D X2 X3 X4 (ix2 P q) := by
  pointwise [R6]

theorem r7_at (D X3) (q : Fin 1024) : R7 D X3 (ix2 (0 : Fin 1) q)
    = ∑ P : Fin 2048, X3 (ix2 P q) * (rms fun k => X3 (ix2 P k)) * D (ix2 P q) := by
  pointwise [R7]
  rfl

/-! ## The call's stores -/

theorem pay2_at (v0 v1) (p : Fin 512) (q : Fin 1024) : k0_pay2 (F := Ideal) v0 v1 (ix2 p q)
    = ∑ k : Fin 2048, v0 (ix2 p k) * v1 (ix2 q k) := by
  pointwise [k0_pay2, k0_pay1]

theorem pay3_at (v0 v1 v2) (p : Fin 512) (q : Fin 1024) : k0_pay3 (F := Ideal) v0 v1 v2 (ix2 p q)
    = v2 (ix2 p q) + ∑ k : Fin 2048, v0 (ix2 p k) * v1 (ix2 q k) := by
  pointwise [k0_pay3, k0_pay1]

theorem pay7_at (D x g d) (p : Fin 512) (q : Fin 1024) : k0_pay7 (F := Ideal) D x g d (ix2 p q)
    = d (ix2 p q) + closed (fun k => x (ix2 p k)) (fun k => D (ix2 p k) * g (ix2 0 k)) q := by
  pointwise [k0_pay7, k0_pay6, k0_pay5]
  rfl

theorem pay8_at (D x g d) (p : Fin 512) (q : Fin 1024) : k0_pay8 (F := Ideal) D x g d (ix2 p q)
    = Ideal.ofBits .f32 0x3F000000#32 * k0_pay7 (F := Ideal) D x g d (ix2 p q) := by
  pointwise [k0_pay8]

theorem pay9_at (D x) (q : Fin 1024) : k0_pay9 (F := Ideal) D x (ix2 (0 : Fin 1) q)
    = ∑ p : Fin 512, D (ix2 p q) * (x (ix2 p q) * rms fun k => x (ix2 p k)) := by
  pointwise [k0_pay9, k0_pay6, k0_pay5]
  rfl

theorem pay4_at (a b) (q : Fin 1024) : k0_pay4 (F := Ideal) a b (ix2 (0 : Fin 1) q) = b (ix2 0 q) + a (ix2 0 q) := by
  pointwise [k0_pay4]

/-! ## The points -/

variable (m : (ℓ : Loc nD τ sig) → Buf (Elt Ideal) ℓ)

/-- The arguments' blocks over all the points. -/
theorem idx : ∀ t : Fin cfg0.N, win0_0.index t = ![t.val / 4, t.val % 4] ∧ win0_1.index t = ![0, t.val % 4]
    ∧ win0_2.index t = ![t.val / 4, 0] ∧ win0_3.index t = ![t.val / 4, 0] ∧ win0_4.index t = ![0, 0]
    ∧ win0_5.index t = ![t.val / 4, 0] ∧ win0_6.index t = ![t.val / 4, 0] ∧ win0_7.index t = ![0, 0] :=
  (by decide +kernel : ∀ t : Fin grid0.N, _)

theorem scr_A (c : Dev nD) (t : Fin cfg0.N) (h0 : t.val % 4 = 0) :
    (outsAt0 m c t.val t.isLt).2.2.2 = k0_pay2 (iblk m c 0 t) (iblk m c 1 t) := by
  rw [outsAt0_A m c t h0 (by omega) (by omega)]
  frame_out

theorem dg_A (c : Dev nD) (t : Fin cfg0.N) (h : ¬t.val % 4 = 3) (hp : 0 < t.val) :
    (outsAt0 m c t.val t.isLt).2.2.1 = (outsAt0 m c (t.val - 1) (Nat.lt_of_le_of_lt (Nat.sub_le _ _) t.isLt)).2.2.1 := by
  rcases Nat.eq_zero_or_pos (t.val % 4) with h0 | h0
  · rw [outsAt0_A m c t h0 (by omega) h]
    rfl
  · rw [outsAt0_B m c t (by omega) h0 h]
    rfl

theorem scr_B (c : Dev nD) (t : Fin cfg0.N) (h : ¬t.val % 4 = 0) (h3 : ¬t.val % 4 = 3) :
    (outsAt0 m c t.val t.isLt).2.2.2 = k0_pay3 (iblk m c 0 t) (iblk m c 1 t) (outsAt0 m c (t.val - 1) (Nat.lt_of_le_of_lt (Nat.sub_le _ _) t.isLt)).2.2.2 := by
  rw [outsAt0_B m c t h (by omega) h3]
  dsimp only; frame_out; rw [read_unread_whole]

/-- A block's last point: its results from the accumulated product. -/
theorem last (c : Dev nD) (t : Fin cfg0.N) (h : t.val % 4 = 3) :
    (outsAt0 m c t.val t.isLt).2.2.2 = k0_pay3 (iblk m c 0 t) (iblk m c 1 t) (outsAt0 m c (t.val - 1) (Nat.lt_of_le_of_lt (Nat.sub_le _ _) t.isLt)).2.2.2
    ∧ (outsAt0 m c t.val t.isLt).1 = k0_pay7 (outsAt0 m c t.val t.isLt).2.2.2 (iblk m c 3 t) (iblk m c 4 t) (iblk m c 2 t)
    ∧ (outsAt0 m c t.val t.isLt).2.1 = k0_pay8 (outsAt0 m c t.val t.isLt).2.2.2 (iblk m c 3 t) (iblk m c 4 t) (iblk m c 2 t) := by
  rcases Nat.lt_or_ge t.val 4 with h3 | h3
  · rw [outsAt0_C m c t (by omega) (by omega) h h3 (by omega)]
    refine ⟨?_, ?_, ?_⟩ <;> dsimp only <;> frame_out <;> rw [read_unread_whole]
  · rw [outsAt0_D m c t (by omega) (by omega) h (by omega) h3]
    refine ⟨?_, ?_, ?_⟩ <;> dsimp only <;> frame_out <;> rw [read_unread_whole]

theorem dg_B (c : Dev nD) (t : Fin cfg0.N) (h : t.val % 4 = 3) (h3 : t.val < 4) :
    (outsAt0 m c t.val t.isLt).2.2.1 = k0_pay9 (outsAt0 m c t.val t.isLt).2.2.2 (iblk m c 3 t) := by
  rw [outsAt0_C m c t (by omega) (by omega) h h3 (by omega)]
  dsimp only; frame_out

theorem dg_C (c : Dev nD) (t : Fin cfg0.N) (h : t.val % 4 = 3) (h3 : 4 ≤ t.val) :
    (outsAt0 m c t.val t.isLt).2.2.1 = k0_pay4 (k0_pay9 (outsAt0 m c t.val t.isLt).2.2.2 (iblk m c 3 t))
      (outsAt0 m c (t.val - 1) (Nat.lt_of_le_of_lt (Nat.sub_le _ _) t.isLt)).2.2.1 := by
  rw [outsAt0_D m c t (by omega) (by omega) h (by omega) h3]
  dsimp only; frame_out

/-- The arguments' arrays on a device. -/
abbrev A0 (c : Dev nD) : FVec Ideal S2048x8192 .bf16 := m ((c : Thread nD τ).loc main_arg0)
abbrev A1 (c : Dev nD) : FVec Ideal S1024x8192 .bf16 := m ((c : Thread nD τ).loc main_arg1)
abbrev A2 (c : Dev nD) : FVec Ideal S2048x1024 .f32 := m ((c : Thread nD τ).loc main_arg2)
abbrev A3 (c : Dev nD) : FVec Ideal S2048x1024 .f32 := m ((c : Thread nD τ).loc main_arg3)
abbrev A4 (c : Dev nD) : FVec Ideal S1x1024 .f32 := m ((c : Thread nD τ).loc main_arg4)

/-- The blocks a point loads, read in the arguments. -/
theorem x_at (c : Dev nD) (t : Fin cfg0.N) (p : Fin 512) (k : Fin 2048) (P : Fin 2048) (K : Fin 8192) (hP : P.val = t.val / 4 * 512 + p.val)
    (hK : K.val = t.val % 4 * 2048 + k.val) : (iblk m c 0 t : FVec Ideal S512x2048 .bf16) (ix2 p k) = A0 m c (ix2 P K) := by
  blk_point [iblk, V, idx t]

theorem w_at (c : Dev nD) (t : Fin cfg0.N) (q : Fin 1024) (k : Fin 2048) (K : Fin 8192) (hK : K.val = t.val % 4 * 2048 + k.val) :
    (iblk m c 1 t : FVec Ideal S1024x2048 .bf16) (ix2 q k) = A1 m c (ix2 q K) := by
  blk_point [iblk, V, idx t]

theorem d_at (c : Dev nD) (t : Fin cfg0.N) (p : Fin 512) (q : Fin 1024) (P : Fin 2048) (hP : P.val = t.val / 4 * 512 + p.val) :
    (iblk m c 2 t : FVec Ideal S512x1024 .f32) (ix2 p q) = A2 m c (ix2 P q) := by
  blk_point [iblk, V, idx t]

theorem h_at (c : Dev nD) (t : Fin cfg0.N) (p : Fin 512) (q : Fin 1024) (P : Fin 2048) (hP : P.val = t.val / 4 * 512 + p.val) :
    (iblk m c 3 t : FVec Ideal S512x1024 .f32) (ix2 p q) = A3 m c (ix2 P q) := by
  blk_point [iblk, V, idx t]

theorem g_at (c : Dev nD) (t : Fin cfg0.N) (q : Fin 1024) :
    (iblk m c 4 t : FVec Ideal S1x1024 .f32) (ix2 0 q) = A4 m c (ix2 0 q) := by
  blk_point [iblk, V, idx t]

/-- The product a point adds. -/
def term (c : Dev nD) (t : Fin cfg0.N) : S512x1024.Idx → EReal := k0_pay2 (F := Ideal) (iblk m c 0 t) (iblk m c 1 t)

theorem term_at (c : Dev nD) (t : Fin cfg0.N) (p : Fin 512) (q : Fin 1024) (S : Fin 4) (P : Fin 2048) (hS : S.val = t.val % 4)
    (hP : P.val = t.val / 4 * 512 + p.val) : term m c t (ix2 p q)
    = ∑ k : Fin 2048, A0 m c (ix2 P ⟨S.val * 2048 + k.val, by omega⟩) * A1 m c (ix2 q ⟨S.val * 2048 + k.val, by omega⟩) := by
  unfold term
  rw [pay2_at]
  refine Finset.sum_congr rfl fun k _ => ?_
  rw [x_at m c t p k P ⟨S.val * 2048 + k.val, by omega⟩ hP (by rw [← hS]), w_at m c t q k ⟨S.val * 2048 + k.val, by omega⟩ (by rw [← hS])]

/-- The accumulated product at a block's last point. -/
theorem acc (c : Dev nD) (t : Fin cfg0.N) (h : t.val % 4 = 3) (p : Fin 512) (q : Fin 1024) (P : Fin 2048)
    (hP : P.val = t.val / 4 * 512 + p.val) :
    ((outsAt0 m c t.val t.isLt).2.2.2 : FVec Ideal S512x1024 .f32) (ix2 p q) = DN (A0 m c) (A1 m c) (ix2 P q) := by
  rw [dn_at]
  refine (Pipeline.eq_sum_fin_of_reset_step_apply_of_flush (N := cfg0.N) (ι := S512x1024.Idx) (M := EReal)
    (fun n hn => (outsAt0 m c n hn).2.2.2) 4 (fun _ => 0) (term m c) (fun t h0 i => ?_) (fun t hn i => ?_) t h (ix2 p q)).trans ?_
  · rw [zero_add]
    exact congrFun (scr_A m c t h0) i
  · have e : (outsAt0 m c t.val t.isLt).2.2.2 i = k0_pay3 (F := Ideal) (iblk m c 0 t) (iblk m c 1 t)
        (outsAt0 m c (t.val - 1) (Nat.lt_of_le_of_lt (Nat.sub_le _ _) t.isLt)).2.2.2 i := by
      by_cases h3 : t.val % 4 = 3
      · exact congrFun (last m c t h3).1 i
      · exact congrFun (scr_B m c t hn h3) i
    refine e.trans ?_
    obtain ⟨p, q, rfl⟩ : ∃ (p : Fin 512) (q : Fin 1024), i = ix2 p q := ⟨i 0, i 1, by blk_ext⟩
    rw [pay3_at]
    unfold term
    rw [pay2_at]
  · rw [zero_add]
    unfold dn
    refine Finset.sum_congr rfl fun s _ => ?_
    have hs : s.val < 4 := s.isLt
    exact term_at m c _ p q s P (by show s.val = (4 * (t.val / 4) + s.val) % 4; omega) (by rw [hP]; show _ = (4 * (t.val / 4) + s.val) / 4 * 512 + _; omega)

/-- The scale's gradient from a block of rows. -/
def rows (c : Dev nD) (i : Fin 4) (q : Fin 1024) : EReal := ∑ p : Fin 512,
  DN (A0 m c) (A1 m c) (ix2 ⟨i.val * 512 + p.val, by omega⟩ q)
    * (A3 m c (ix2 ⟨i.val * 512 + p.val, by omega⟩ q) * rms fun k => A3 m c (ix2 ⟨i.val * 512 + p.val, by omega⟩ k))

theorem pay9_rows (c : Dev nD) (t : Fin cfg0.N) (h : t.val % 4 = 3) (i : Fin 4) (hi : t.val / 4 = i.val) (q : Fin 1024) :
    k0_pay9 (F := Ideal) (outsAt0 m c t.val t.isLt).2.2.2 (iblk m c 3 t) (ix2 (0 : Fin 1) q) = rows m c i q := by
  rw [pay9_at]
  unfold rows
  refine Finset.sum_congr rfl fun p _ => ?_
  have hP : (⟨i.val * 512 + p.val, by omega⟩ : Fin 2048).val = t.val / 4 * 512 + p.val := by rw [hi]
  rw [acc m c t h p q _ hP, h_at m c t p q _ hP]
  exact congrArg (fun f => _ * (_ * rms f)) (funext fun k => h_at m c t p k _ hP)

theorem keep (c : Dev nD) (n : Nat) (h : ¬n % 4 = 3) (hp : 0 < n) (hn : n < cfg0.N) (h' : n - 1 < cfg0.N) :
    (outsAt0 m c n hn).2.2.1 = (outsAt0 m c (n - 1) h').2.2.1 := dg_A m c ⟨n, hn⟩ h hp

theorem outs_congr (c : Dev nD) (n n' : Nat) (e : n = n') (hn : n < cfg0.N) (hn' : n' < cfg0.N) : outsAt0 m c n hn = outsAt0 m c n' hn' := by
  subst e; rfl

theorem at_lt (n : Nat) (hn : n < 4) : 4 * n + 3 < cfg0.N := by show 4 * n + 3 < 16; omega

/-- The scale's gradient after the block `n` of rows. -/
def sofar (c : Dev nD) (n : Nat) (hn : n < 4) (q : Fin 1024) : EReal :=
  ((outsAt0 m c (4 * n + 3) (at_lt n hn)).2.2.1 : FVec Ideal S1x1024 .f32) (ix2 0 q)

theorem sofar_first (c : Dev nD) (i : Fin 4) (h0 : i.val % 4 = 0) (q : Fin 1024) : sofar m c i.val i.isLt q = 0 + rows m c i q := by
  unfold sofar
  rw [zero_add]
  refine (congrFun (dg_B m c ⟨4 * i.val + 3, at_lt i.val i.isLt⟩ (by show (4 * i.val + 3) % 4 = 3; omega) (by show 4 * i.val + 3 < 4; omega)) (ix2 0 q)).trans ?_
  exact pay9_rows m c ⟨4 * i.val + 3, at_lt i.val i.isLt⟩ (by show (4 * i.val + 3) % 4 = 3; omega) i (by show (4 * i.val + 3) / 4 = i.val; omega) q

theorem sofar_next (c : Dev nD) (i : Fin 4) (h0 : ¬i.val % 4 = 0) (q : Fin 1024) :
    sofar m c i.val i.isLt q = sofar m c (i.val - 1) (Nat.lt_of_le_of_lt (Nat.sub_le _ _) i.isLt) q + rows m c i q := by
  have hi := i.isLt
  unfold sofar
  refine (congrFun (dg_C m c ⟨4 * i.val + 3, at_lt i.val i.isLt⟩ (by show (4 * i.val + 3) % 4 = 3; omega) (by show 4 ≤ 4 * i.val + 3; omega)) (ix2 0 q)).trans ?_
  rw [pay4_at, pay9_rows m c ⟨4 * i.val + 3, at_lt i.val i.isLt⟩ (by show (4 * i.val + 3) % 4 = 3; omega) i (by show (4 * i.val + 3) / 4 = i.val; omega)]
  refine congrArg (· + _) ?_
  have e2 := keep m c (4 * i.val + 2) (by omega) (by omega) (by show 4 * i.val + 2 < 16; omega) (by show 4 * i.val + 2 - 1 < 16; omega)
  have e1 := keep m c (4 * i.val + 1) (by omega) (by omega) (by show 4 * i.val + 1 < 16; omega) (by show 4 * i.val + 1 - 1 < 16; omega)
  have e0 := keep m c (4 * i.val) (by omega) (by omega) (by show 4 * i.val < 16; omega) (by show 4 * i.val - 1 < 16; omega)
  refine (congrFun ((e2.trans e1).trans e0) (ix2 0 q)).trans ?_
  rw [outs_congr m c (4 * i.val - 1) (4 * (i.val - 1) + 3) (by omega) _ (at_lt _ (by omega))]

/-- The scale's gradient after the last point. -/
theorem scale (c : Dev nD) (t : Fin cfg0.N) (h : t.val % 16 = 15) (q : Fin 1024) :
    ((outsAt0 m c t.val t.isLt).2.2.1 : FVec Ideal S1x1024 .f32) (ix2 0 q) = R7 (DN (A0 m c) (A1 m c)) (A3 m c) (ix2 0 q) := by
  have ht : t.val < 16 := t.isLt
  have e : ((outsAt0 m c t.val t.isLt).2.2.1 : FVec Ideal S1x1024 .f32) (ix2 0 q) = sofar m c (3 : Fin 4).val (3 : Fin 4).isLt q := by
    unfold sofar
    rw [outs_congr m c t.val (4 * (3 : Fin 4).val + 3) (by show t.val = 15; omega) _ (at_lt 3 (by omega))]
  rw [e, Pipeline.eq_sum_fin_of_reset_step_apply_of_flush (N := 4) (ι := Fin 1024) (M := EReal) (sofar m c) 4 (fun _ => 0) (rows m c)
    (sofar_first m c) (sofar_next m c) 3 rfl q, zero_add, r7_at]
  unfold rows
  refine Fin.sum_mul_add_congr fun s k hl => ?_
  have hs : 4 * ((3 : Fin 4).val / 4) + s.val = s.val := by show 4 * (3 / 4) + s.val = s.val; omega
  simp only [hs]
  exact mul_comm _ _

/-- The gradient into the block at its last point. -/
theorem point5 (c : Dev nD) (t : Fin cfg0.N) (h : t.val % 4 = 3) (p : Fin 512) (q : Fin 1024) (P : Fin 2048)
    (hP : P.val = t.val / 4 * 512 + p.val) :
    k0_pay7 (F := Ideal) (outsAt0 m c t.val t.isLt).2.2.2 (iblk m c 3 t) (iblk m c 4 t) (iblk m c 2 t) (ix2 p q)
    = R5 (DN (A0 m c) (A1 m c)) (A2 m c) (A3 m c) (A4 m c) (ix2 P q) := by
  rw [pay7_at, r5_at, d_at m c t p q P hP,
    show (fun k => (iblk m c 3 t : FVec Ideal S512x1024 .f32) (ix2 p k)) = fun k => A3 m c (ix2 P k) from funext fun k => h_at m c t p k P hP,
    show (fun k => ((outsAt0 m c t.val t.isLt).2.2.2 : FVec Ideal S512x1024 .f32) (ix2 p k) * (iblk m c 4 t : FVec Ideal S1x1024 .f32) (ix2 0 k))
      = fun k => DN (A0 m c) (A1 m c) (ix2 P k) * A4 m c (ix2 0 k) from funext fun k => by rw [acc m c t h p k P hP, g_at m c t k]]
  exact closed_eq _ _ q _

/-- The result arrays after the run. -/
theorem final5 (c : Dev nD) : (dats m 0 c).arrAt 5 (cfgs 0).N = R5 (DN (A0 m c) (A1 m c)) (A2 m c) (A3 m c) (A4 m c) := by
  refine (dats m 0 c).arrAt_eq_of_covers 5 _ (by decide +kernel) fun t hf y => ?_
  have h := (flush0_5 t).1 hf
  have ht : t.val < 16 := t.isLt
  blk_simp
  rw [after0_5, (last m c t h).2.1]
  obtain ⟨P, hP⟩ : ∃ P : Fin 2048, P.val = t.val / 4 * 512 + (y 0).val := ⟨⟨_, by have : (y 0).val < 512 := (y 0).isLt; omega⟩, rfl⟩
  have ey : y = ix2 (y 0) (y 1) := by blk_ext
  have ee : ((cfg0.win 5).blk t).view.emb y = ix2 P (y 1) := by blk_ext [idx t]
  rw [ee, ey]
  exact point5 m c t h _ _ P hP

theorem final6 (c : Dev nD) : (dats m 0 c).arrAt 6 (cfgs 0).N = R6 (DN (A0 m c) (A1 m c)) (A2 m c) (A3 m c) (A4 m c) := by
  refine (dats m 0 c).arrAt_eq_of_covers 6 _ (by decide +kernel) fun t hf y => ?_
  have h := (flush0_6 t).1 hf
  have ht : t.val < 16 := t.isLt
  blk_simp
  rw [after0_6, (last m c t h).2.2]
  obtain ⟨P, hP⟩ : ∃ P : Fin 2048, P.val = t.val / 4 * 512 + (y 0).val := ⟨⟨_, by have : (y 0).val < 512 := (y 0).isLt; omega⟩, rfl⟩
  have ey : y = ix2 (y 0) (y 1) := by blk_ext
  have ee : ((cfg0.win 6).blk t).view.emb y = ix2 P (y 1) := by blk_ext [idx t]
  rw [ee, ey]
  exact (pay8_at _ _ _ _ _ _).trans ((congrArg _ (point5 m c t h _ _ P hP)).trans (r6_at _ _ _ _ P _).symm)

theorem final7 (c : Dev nD) : (dats m 0 c).arrAt 7 (cfgs 0).N = R7 (DN (A0 m c) (A1 m c)) (A3 m c) := by
  refine (dats m 0 c).arrAt_eq_of_covers 7 _ (by decide +kernel) fun t hf y => ?_
  have h := (flush0_7 t).1 hf
  blk_simp
  rw [after0_7]
  have ey : y = ix2 (0 : Fin 1) (y 1) := by blk_ext
  have ee : ((cfg0.win 7).blk t).view.emb y = ix2 (0 : Fin 1) (y 1) := by blk_ext [idx t]
  rw [ee, ey]
  exact scale m c t h (y 1)

theorem frame_kernel : Cert.quiescent_KernelDu := fun m ρ _ => Cert.KernelDu.Gen.frame m ρ
theorem frame_kernelIdeal : Cert.quiescent_KernelDuIdeal := fun m ρ _ => Cert.KernelDuIdeal.Gen.frame m ρ
theorem frame_reference : Cert.quiescent_ReferenceDuIdeal := fun m ρ _ =>
  (θ_run Cert.ReferenceDuIdeal.defs _ _).mono
    (fun r h => ⟨fun c => (h c).2.2.2, Idealize.ShloMosaic.sem_eq_zero_of_no_sems (by decide) r.2⟩) (Cert.ReferenceDuIdeal.Value.run (F := Ideal) m ρ)

/-- Kernel and reference end with the same arrays. -/
theorem equal_results : Cert.algebraic_KernelDuIdeal_ReferenceDuIdeal := by
  intro m g m' g' _ hin
  refine ⟨fun c => R5 (DN (A0 m c) (A1 m c)) (A2 m c) (A3 m c) (A4 m c), fun c => R6 (DN (A0 m c) (A1 m c)) (A2 m c) (A3 m c) (A4 m c),
    fun c => R7 (DN (A0 m c) (A1 m c)) (A3 m c), ?_, ?_⟩
  · refine (θ_run Cert.KernelDuIdeal.defs _ _).mono (fun r h c => ?_) (Cert.KernelDuIdeal.Value.run_blocks (F := Ideal) m g)
    exact ⟨(h c).1.trans (final5 m c), (h c).2.1.trans (final6 m c), (h c).2.2.1.trans (final7 m c), (h c).2.2.2⟩
  · refine (θ_run Cert.ReferenceDuIdeal.defs _ _).mono (fun r h c => ?_) (Cert.ReferenceDuIdeal.Value.run (F := Ideal) m' g')
    refine ⟨(h c).1.trans ?_, (h c).2.1.trans ?_, (h c).2.2.1.trans ?_, (h c).2.2.2⟩
    · unfold Cert.ReferenceDuIdeal.Value.res_main_v38
      rw [(hin c).1, (hin c).2.1, (hin c).2.2.1, (hin c).2.2.2.1, (hin c).2.2.2.2]
    · unfold Cert.ReferenceDuIdeal.Value.res_main_v41
      rw [(hin c).1, (hin c).2.1, (hin c).2.2.1, (hin c).2.2.2.1, (hin c).2.2.2.2]
    · rw [(hin c).1, (hin c).2.1, (hin c).2.2.2.1]

end

end Cert.Proof.Du
-- ==== Proof.Dgu.lean ====
module
public import proofs.«01_k».proof.Defs
public import proofs.«01_k».proof.Proof.Gen.KernelDguIdeal.Value
public import proofs.«01_k».proof.Proof.Gen.KernelDgu.Frame
public import proofs.«01_k».proof.Proof.Gen.ReferenceDguIdeal.Run
public import proofs.«01_k».proof.Proof.Gen.Pre_finite_dgu
public import proofs.«01_k».proof.Proof.Reals
public import Idealize.ShloMosaic.Lib.Pipeline.ValueKit
public import Idealize.ShloMosaic.Lib.Pointwise
public import Idealize.ShloMosaic.Lib.Claim

/-! The gradient of a feed-forward block's gate and up: the call's tiles of `dh · wᵀ` times the two factors, against the
    derivative of `(silu gate · up) · w`. -/

set_option maxRecDepth 16384

@[expose] public section

namespace Cert.Proof.Dgu
open Idealize.ShloMosaic Idealize.ShloMosaic.TcCoe Idealize.SL.Sem Cert.KernelDguIdeal Cert.KernelDguIdeal.Gen
open Idealize.ShloMosaic.Pipeline (Dat)

noncomputable section

/-- The gate, the up and the gradient of their product's two factors, as the reference computes them. -/
abbrev gate (Z : FVec Ideal S2x2048x2816 .bf16) : FVec Ideal Cert.ReferenceDguIdeal.S2048x2816 .f32 :=
  shapeCast _ (extractStridedSlice Cert.ReferenceDguIdeal.S1x2048x2816 ![0, 0, 0]
    (extf .f32 Z Cert.ReferenceDguIdeal.Gen.bitsLt_bf16_f32) Cert.ReferenceDguIdeal.Gen.slices_S2x2048x2816_S1x2048x2816_0_0_0)
    Cert.ReferenceDguIdeal.Gen.shapeCasts_S1x2048x2816_S2048x2816

abbrev up (Z : FVec Ideal S2x2048x2816 .bf16) : FVec Ideal Cert.ReferenceDguIdeal.S2048x2816 .f32 :=
  shapeCast _ (extractStridedSlice Cert.ReferenceDguIdeal.S1x2048x2816 ![1, 0, 0]
    (extf .f32 Z Cert.ReferenceDguIdeal.Gen.bitsLt_bf16_f32) Cert.ReferenceDguIdeal.Gen.slices_S2x2048x2816_S1x2048x2816_1_0_0)
    Cert.ReferenceDguIdeal.Gen.shapeCasts_S1x2048x2816_S2048x2816

abbrev dact (X : FVec Ideal S2048x1024 .bf16) (Y : FVec Ideal S2816x1024 .bf16) : FVec Ideal Cert.ReferenceDguIdeal.S2048x2816 .f32 :=
  Host.dotGeneral Cert.ReferenceDguIdeal.dot_S2048x1024_S2816x1024_S2048x2816_1_1_0_0_n_n none
    (extf .f32 X Cert.ReferenceDguIdeal.Gen.bitsLt_bf16_f32) (extf .f32 Y Cert.ReferenceDguIdeal.Gen.bitsLt_bf16_f32)

abbrev one : FVec Ideal Cert.ReferenceDguIdeal.S2048x2816 .f32 :=
  broadcastInDim Cert.ReferenceDguIdeal.S2048x2816 ![] Cert.ReferenceDguIdeal.Gen.bcast_S_S2048x2816
    (constant Cert.ReferenceDguIdeal.S_ .f32 0x3F800000#32)

abbrev sg (Z : FVec Ideal S2x2048x2816 .bf16) : FVec Ideal Cert.ReferenceDguIdeal.S2048x2816 .f32 :=
  Host.divf one (addf one (Host.exp (Host.negf (gate Z))))

/-- The reference's result as a function of its three arguments. -/
abbrev REF (X : FVec Ideal S2048x1024 .bf16) (Y : FVec Ideal S2816x1024 .bf16) (Z : FVec Ideal S2x2048x2816 .bf16) :
    FVec Ideal S2x2048x2816 .bf16 :=
  truncf .bf16 (concatenate Cert.ReferenceDguIdeal.S2x2048x2816 0
    [⟨Cert.ReferenceDguIdeal.S1x2048x2816, (broadcastInDim Cert.ReferenceDguIdeal.S1x2048x2816 ![1, 2]
      Cert.ReferenceDguIdeal.Gen.bcast_S2048x2816_S1x2048x2816_1_2
      (addf (mulf (mulf (dact X Y) (up Z)) (sg Z)) (mulf (mulf (gate Z) (mulf (dact X Y) (up Z))) (mulf (sg Z) (subf one (sg Z))))))⟩,
     ⟨Cert.ReferenceDguIdeal.S1x2048x2816, (broadcastInDim Cert.ReferenceDguIdeal.S1x2048x2816 ![1, 2]
      Cert.ReferenceDguIdeal.Gen.bcast_S2048x2816_S1x2048x2816_1_2 (mulf (mulf (gate Z) (sg Z)) (dact X Y)))⟩]
    Cert.ReferenceDguIdeal.Gen.concatenates_S1x2048x2816_S1x2048x2816_S2x2048x2816_d0) Cert.ReferenceDguIdeal.Gen.bitsLt_bf16_f32

/-- The reference's two halves, read at an index. -/
theorem ref0 (X Y Z) (p : Fin 2048) (q : Fin 2816) : REF X Y Z (ix3 (0 : Fin 2) p q)
    = (∑ k : Fin 1024, X (ix2 p k) * Y (ix2 q k)) * Z (ix3 1 p q) * sigm (Z (ix3 0 p q))
      + Z (ix3 0 p q) * ((∑ k : Fin 1024, X (ix2 p k) * Y (ix2 q k)) * Z (ix3 1 p q)) * (sigm (Z (ix3 0 p q)) * (1 - sigm (Z (ix3 0 p q)))) := by
  pointwise [REF]
  rfl

theorem ref1 (X Y Z) (p : Fin 2048) (q : Fin 2816) : REF X Y Z (ix3 (1 : Fin 2) p q)
    = Z (ix3 0 p q) * sigm (Z (ix3 0 p q)) * ∑ k : Fin 1024, X (ix2 p k) * Y (ix2 q k) := by
  pointwise [REF]
  rfl

/-- The call's two stores, read at an index. -/
theorem pay5 (v0 v1 v3 v6) (p : Fin 1024) (q : Fin 1408) : k0_pay5 (F := Ideal) v0 v1 v3 v6 (ix3 (0 : Fin 1) p q)
    = (∑ k : Fin 1024, v0 (ix2 p k) * v1 (ix2 q k)) * v6 (ix3 0 p q)
      * (sigm (v3 (ix3 0 p q)) + v3 (ix3 0 p q) * sigm (v3 (ix3 0 p q)) * (1 - sigm (v3 (ix3 0 p q)))) := by
  pointwise [k0_pay5, k0_pay4, k0_pay3, k0_pay2, k0_pay1]
  simp only [zero_sub, sigm]

theorem pay6 (v0 v1 v3) (p : Fin 1024) (q : Fin 1408) : k0_pay6 (F := Ideal) v0 v1 v3 (ix3 (0 : Fin 1) p q)
    = (∑ k : Fin 1024, v0 (ix2 p k) * v1 (ix2 q k)) * (v3 (ix3 0 p q) * sigm (v3 (ix3 0 p q))) := by
  pointwise [k0_pay6, k0_pay4, k0_pay3, k0_pay2, k0_pay1]
  simp only [zero_sub, sigm]

/-- The arguments the gradient needs real. -/
structure Args (X : FVec Ideal S2048x1024 .bf16) (Y : FVec Ideal S2816x1024 .bf16) (Z : FVec Ideal S2x2048x2816 .bf16) : Prop where
  X : ∀ i, IsReal (X i)
  Y : ∀ i, IsReal (Y i)
  Z : ∀ p q, IsReal (Z (ix3 1 p q))

theorem args_of (X Y Z) (h0 : (Cert.Pre_finite_dgu.fn (F := Ideal) X Y Z).1 = fun _ => 1#1)
    (h1 : (Cert.Pre_finite_dgu.fn (F := Ideal) X Y Z).2.1 = fun _ => 1#1)
    (h2 : (Cert.Pre_finite_dgu.fn (F := Ideal) X Y Z).2.2 = fun _ => 1#1) : Args X Y Z := by
  refine ⟨fun i => isReal_of_lt _ (congrFun h0 i), fun i => isReal_of_lt _ (congrFun h1 i), fun p q => isReal_of_lt _ ?_⟩
  have e := congrFun h2 (ix2 p q)
  have es : (shapeCast Cert.Pre_finite_dgu.S2048x2816 (extractStridedSlice Cert.Pre_finite_dgu.S1x2048x2816 ![1, 0, 0] Z
      Cert.Pre_finite_dgu.Gen.slices_S2x2048x2816_S1x2048x2816_1_0_0) Cert.Pre_finite_dgu.Gen.shapeCasts_S1x2048x2816_S2048x2816) (ix2 p q)
      = Z (ix3 1 p q) := by
    pointwise
  rw [← es]
  exact e

variable (m : (ℓ : Loc nD τ sig) → Buf (Elt Ideal) ℓ)

/-- The arguments' blocks over all the points. -/
theorem idx : ∀ t : Fin cfg0.N, win0_0.index t = ![(grid0.coords t 0).val, 0] ∧ win0_1.index t = ![(grid0.coords t 1).val, 0]
    ∧ win0_2.index t = ![0, (grid0.coords t 0).val, (grid0.coords t 1).val] ∧ win0_3.index t = ![0, (grid0.coords t 0).val, (grid0.coords t 1).val] :=
  (by decide +kernel : ∀ t : Fin grid0.N, _)

/-- The blocks a point loads, read in the arguments. -/
theorem x_at (c : Dev nD) (t : Fin cfg0.N) (p k : Fin 1024) (P : Fin 2048) (hP : P.val = (grid0.coords t 0).val * 1024 + p.val) :
    View.ld (iblk m c 0 t) r0_0 (ix2 p k) = m ((c : Thread nD τ).loc main_arg0) (ix2 P k) := by
  blk_point [iblk, V, idx t]

theorem y_at (c : Dev nD) (t : Fin cfg0.N) (q : Fin 1408) (k : Fin 1024) (Q : Fin 2816)
    (hQ : Q.val = (grid0.coords t 1).val * 1408 + q.val) :
    View.ld (iblk m c 1 t) r0_1 (ix2 q k) = m ((c : Thread nD τ).loc main_arg1) (ix2 Q k) := by
  blk_point [iblk, V, idx t]

theorem z0_at (c : Dev nD) (t : Fin cfg0.N) (p : Fin 1024) (q : Fin 1408) (P : Fin 2048) (Q : Fin 2816)
    (hP : P.val = (grid0.coords t 0).val * 1024 + p.val) (hQ : Q.val = (grid0.coords t 1).val * 1408 + q.val) :
    View.ld (iblk m c 2 t) r0_2 (ix3 0 p q) = m ((c : Thread nD τ).loc main_arg2) (ix3 0 P Q) := by
  blk_point [iblk, V, idx t]

theorem z1_at (c : Dev nD) (t : Fin cfg0.N) (p : Fin 1024) (q : Fin 1408) (P : Fin 2048) (Q : Fin 2816)
    (hP : P.val = (grid0.coords t 0).val * 1024 + p.val) (hQ : Q.val = (grid0.coords t 1).val * 1408 + q.val) :
    View.ld (iblk m c 2 t) r0_3 (ix3 0 p q) = m ((c : Thread nD τ).loc main_arg2) (ix3 1 P Q) := by
  blk_point [iblk, V, idx t]

/-- What a point writes is the reference's result at the place of its block. -/
theorem point (c : Dev nD) (t : Fin cfg0.N) (y)
    (A : Args (m ((c : Thread nD τ).loc main_arg0)) (m ((c : Thread nD τ).loc main_arg1)) (m ((c : Thread nD τ).loc main_arg2))) :
    out0_3 (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  have hi : (grid0.coords t 0).val < 2 := (grid0.coords t 0).isLt
  have hj : (grid0.coords t 1).val < 2 := (grid0.coords t 1).isLt
  unfold out0_3
  canon_tiles x h
  all_goals
    obtain ⟨P, hP⟩ : ∃ P : Fin 2048, P.val = (grid0.coords t 0).val * 1024 + (x 1).val := ⟨⟨_, by omega⟩, rfl⟩
    obtain ⟨Q, hQ⟩ : ∃ Q : Fin 2816, Q.val = (grid0.coords t 1).val * 1408 + (x 2).val := ⟨⟨_, by omega⟩, rfl⟩
    have ex : x = ix3 (0 : Fin 1) (x 1) (x 2) := by blk_ext
    rw [ex]
  case piece0 =>
    have ee : ((cfg0.win 3).blk t).view.emb y = ix3 (1 : Fin 2) P Q := by blk_ext [idx t]
    rw [ee]
    refine (pay6 _ _ _ _ _).trans (Eq.trans ?_ (ref1 _ _ _ _ _).symm)
    rw [z0_at m c t _ _ P Q hP hQ]
    refine (mul_comm _ _).trans (congrArg _ (Finset.sum_congr rfl fun k _ => ?_))
    rw [x_at m c t _ _ P hP, y_at m c t _ _ Q hQ]
  case piece1 =>
    have ee : ((cfg0.win 3).blk t).view.emb y = ix3 (0 : Fin 2) P Q := by blk_ext [idx t]
    rw [ee]
    refine (pay5 _ _ _ _ _ _).trans (Eq.trans ?_ (ref0 _ _ _ _ _).symm)
    rw [z0_at m c t _ _ P Q hP hQ, z1_at m c t _ _ P Q hP hQ,
      Finset.sum_congr rfl fun k _ => by rw [x_at m c t _ k P hP, y_at m c t _ k Q hQ]]
    exact silu_split _ _ ((isReal_sum _ _ fun k => (A.X _).mul (A.Y _)).mul (A.Z P Q))

/-- The result array after the run. -/
theorem final (c : Dev nD)
    (A : Args (m ((c : Thread nD τ).loc main_arg0)) (m ((c : Thread nD τ).loc main_arg1)) (m ((c : Thread nD τ).loc main_arg2))) :
    (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y A

theorem frame_kernel : Cert.quiescent_KernelDgu := fun m ρ _ => Cert.KernelDgu.Gen.frame m ρ
theorem frame_kernelIdeal : Cert.quiescent_KernelDguIdeal := fun m ρ _ => Cert.KernelDguIdeal.Gen.frame m ρ
theorem frame_kernelIdeal_pre : Cert.quiescent_KernelDguIdeal_pre_finite_dgu := fun m ρ _ => Cert.KernelDguIdeal.Gen.frame m ρ
theorem frame_reference : Cert.quiescent_ReferenceDguIdeal := fun m ρ _ =>
  (θ_run Cert.ReferenceDguIdeal.defs _ _).mono
    (fun r h => ⟨fun c => (h c).2, Idealize.ShloMosaic.sem_eq_zero_of_no_sems (by decide) r.2⟩) (Cert.ReferenceDguIdeal.Value.run (F := Ideal) m ρ)
theorem frame_reference_pre : Cert.quiescent_ReferenceDguIdeal_pre_finite_dgu := fun m ρ _ => frame_reference m ρ trivial

/-- Kernel and reference end with the same array. -/
theorem equal_results : Cert.algebraic_KernelDguIdeal_ReferenceDguIdeal_pre_finite_dgu := by
  intro m g m' g' hpre hin
  refine ⟨fun c => REF (m ((c : Thread nD τ).loc main_arg0)) (m ((c : Thread nD τ).loc main_arg1)) (m ((c : Thread nD τ).loc main_arg2)), ?_, ?_⟩
  · refine (θ_run Cert.KernelDguIdeal.defs _ _).mono (fun r h c => ?_) (Cert.KernelDguIdeal.Value.run_blocks (F := Ideal) m g)
    exact ⟨(h c).1.trans (final m c (args_of _ _ _ (hpre c).1 (hpre c).2.1 (hpre c).2.2)), (h c).2⟩
  · refine (θ_run Cert.ReferenceDguIdeal.defs _ _).mono (fun r h c => ?_) (Cert.ReferenceDguIdeal.Value.run (F := Ideal) m' g')
    refine ⟨(h c).1.trans ?_, (h c).2⟩
    rw [(hin c).1, (hin c).2.1, (hin c).2.2]

end

end Cert.Proof.Dgu
-- ==== Proof.Dn.lean ====
module
public import proofs.«01_k».proof.Defs
public import proofs.«01_k».proof.Proof.Gen.KernelDnIdeal.Value
public import proofs.«01_k».proof.Proof.Gen.KernelDn.Frame
public import proofs.«01_k».proof.Proof.Gen.ReferenceDnIdeal.Run
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.Claim

/-! The gradient into a feed-forward block's input, and through its normalisation: the call adds `dgu · wᵀ` up over the two
    halves of the hidden numbers, closes every block of rows with the normalisation's gradient and adds the scale's gradient
    up over the blocks; the reference is the derivative of `(h, split (rms_norm h g · w))`. -/

set_option maxRecDepth 16384

@[expose] public section

namespace Cert.Proof.Dn
open Idealize.ShloMosaic Idealize.ShloMosaic.TcCoe Idealize.SL.Sem Cert.KernelDnIdeal Cert.KernelDnIdeal.Gen
open Idealize.ShloMosaic.Pipeline (Dat)
open Cert.Proof.Rms

noncomputable section

/-! ## The reference -/

/-- The gradient of the normalised rows. -/
abbrev DN (X0 : FVec Ideal S2x2048x2816 .bf16) (X1 : FVec Ideal S1024x5632 .bf16) : FVec Ideal S2048x1024 .f32 :=
  Host.dotGeneral Cert.ReferenceDnIdeal.dot_S2048x5632_S1024x5632_S2048x1024_1_1_0_0_n_n none
    (concatenate Cert.ReferenceDnIdeal.S2048x5632 1
      [⟨Cert.ReferenceDnIdeal.S2048x2816, (shapeCast _ (extractStridedSlice Cert.ReferenceDnIdeal.S1x2048x2816 ![0, 0, 0]
        (extf .f32 X0 Cert.ReferenceDnIdeal.Gen.bitsLt_bf16_f32) Cert.ReferenceDnIdeal.Gen.slices_S2x2048x2816_S1x2048x2816_0_0_0)
        Cert.ReferenceDnIdeal.Gen.shapeCasts_S1x2048x2816_S2048x2816)⟩,
       ⟨Cert.ReferenceDnIdeal.S2048x2816, (shapeCast _ (extractStridedSlice Cert.ReferenceDnIdeal.S1x2048x2816 ![1, 0, 0]
        (extf .f32 X0 Cert.ReferenceDnIdeal.Gen.bitsLt_bf16_f32) Cert.ReferenceDnIdeal.Gen.slices_S2x2048x2816_S1x2048x2816_1_0_0)
        Cert.ReferenceDnIdeal.Gen.shapeCasts_S1x2048x2816_S2048x2816)⟩]
      Cert.ReferenceDnIdeal.Gen.concatenates_S2048x2816_S2048x2816_S2048x5632_d1)
    (extf .f32 X1 Cert.ReferenceDnIdeal.Gen.bitsLt_bf16_f32)

abbrev zero : FVec Ideal Cert.ReferenceDnIdeal.S_ .f32 := constant Cert.ReferenceDnIdeal.S_ .f32 0x00000000#32

/-- A number along the rows. -/
abbrev along (b : BitVec 32) : FVec Ideal Cert.ReferenceDnIdeal.S2048x1 .f32 :=
  broadcastInDim Cert.ReferenceDnIdeal.S2048x1 ![] Cert.ReferenceDnIdeal.Gen.bcast_S_S2048x1 (constant Cert.ReferenceDnIdeal.S_ .f32 b)

/-- The numbers under the rows' roots, and one over the roots. -/
abbrev UN (X3 : FVec Ideal S2048x1024 .f32) : FVec Ideal Cert.ReferenceDnIdeal.S2048x1 .f32 :=
  addf (Host.divf (broadcastInDim Cert.ReferenceDnIdeal.S2048x1 ![0] Cert.ReferenceDnIdeal.Gen.bcast_S2048_S2048x1_0
    (Host.reduceAdd (mulf X3 X3) zero Cert.ReferenceDnIdeal.Gen.reducesTo_S2048x1024_S2048_d1 Cert.ReferenceDnIdeal.Gen.h_S_))
    (along 0x44800000#32)) (along 0x358637BD#32)

abbrev RS (X3 : FVec Ideal S2048x1024 .f32) : FVec Ideal Cert.ReferenceDnIdeal.S2048x1 .f32 := Host.rsqrt (UN X3)

/-- The gradient of the normalised rows, scaled. -/
abbrev AR (D : FVec Ideal S2048x1024 .f32) (X4 : FVec Ideal S1x1024 .f32) : FVec Ideal S2048x1024 .f32 :=
  mulf D (broadcastInDim Cert.ReferenceDnIdeal.S2048x1024 ![0, 1] Cert.ReferenceDnIdeal.Gen.bcast_S1x1024_S2048x1024_0_1 X4)

/-- What comes back through the rows' roots. -/
abbrev TH (D : FVec Ideal S2048x1024 .f32) (X3 : FVec Ideal S2048x1024 .f32) (X4 : FVec Ideal S1x1024 .f32) : FVec Ideal S2048x1024 .f32 :=
  broadcastInDim Cert.ReferenceDnIdeal.S2048x1024 ![0] Cert.ReferenceDnIdeal.Gen.bcast_S2048_S2048x1024_0
    (Host.reduceAdd (Host.divf (mulf (shapeCast _ (Host.reduceAdd (mulf X3 (AR D X4)) zero
        Cert.ReferenceDnIdeal.Gen.reducesTo_S2048x1024_S2048_d1 Cert.ReferenceDnIdeal.Gen.h_S_) Cert.ReferenceDnIdeal.Gen.shapeCasts_S2048_S2048x1)
      (mulf (along 0xBF000000#32) (Host.divf (RS X3) (UN X3)))) (along 0x44800000#32)) zero
      Cert.ReferenceDnIdeal.Gen.reducesTo_S2048x1_S2048_d1 Cert.ReferenceDnIdeal.Gen.h_S_)

abbrev RSB (X3 : FVec Ideal S2048x1024 .f32) : FVec Ideal S2048x1024 .f32 :=
  broadcastInDim Cert.ReferenceDnIdeal.S2048x1024 ![0, 1] Cert.ReferenceDnIdeal.Gen.bcast_S2048x1_S2048x1024_0_1 (RS X3)

/-- The reference's results from the gradient of the normalised rows. -/
abbrev R5 (D X2 X3 : FVec Ideal S2048x1024 .f32) (X4 : FVec Ideal S1x1024 .f32) : FVec Ideal S2048x1024 .f32 :=
  addf (addf (addf X2 (mulf (AR D X4) (RSB X3))) (mulf X3 (TH D X3 X4))) (mulf (TH D X3 X4) X3)

abbrev R6 (D X2 X3 : FVec Ideal S2048x1024 .f32) (X4 : FVec Ideal S1x1024 .f32) : FVec Ideal S2048x1024 .bf16 :=
  truncf .bf16 (R5 D X2 X3 X4) Cert.ReferenceDnIdeal.Gen.bitsLt_bf16_f32

abbrev R7 (D X3 : FVec Ideal S2048x1024 .f32) : FVec Ideal S1x1024 .f32 :=
  shapeCast _ (Host.reduceAdd (mulf (mulf X3 (RSB X3)) D) zero Cert.ReferenceDnIdeal.Gen.reducesTo_S2048x1024_S1024_d0
    Cert.ReferenceDnIdeal.Gen.h_S_) Cert.ReferenceDnIdeal.Gen.shapeCasts_S1024_S1x1024

/-- An entry of the gradient of the normalised rows, by the halves of the hidden numbers. -/
def dn (X0 : FVec Ideal S2x2048x2816 .bf16) (X1 : FVec Ideal S1024x5632 .bf16) (P : Fin 2048) (q : Fin 1024) : EReal :=
  ∑ s : Fin 2, ∑ k : Fin 2816, X0 (ix3 s P k) * X1 (ix2 q ⟨s.val * 2816 + k.val, by omega⟩)

theorem dn_at (X0 X1) (P : Fin 2048) (q : Fin 1024) : DN X0 X1 (ix2 P q) = dn X0 X1 P q := by
  unfold dn
  pointwise [DN]
  rw [Fin.sum_univ_two]
  congr 1

theorem r5_at (D X2 X3 X4) (P : Fin 2048) (q : Fin 1024) : R5 D X2 X3 X4 (ix2 P q)
    = ((X2 (ix2 P q) + D (ix2 P q) * X4 (ix2 0 q) * rms fun k => X3 (ix2 P k))
        + X3 (ix2 P q) * through (fun k => X3 (ix2 P k)) fun k => D (ix2 P k) * X4 (ix2 0 k))
      + through (fun k => X3 (ix2 P k)) (fun k => D (ix2 P k) * X4 (ix2 0 k)) * X3 (ix2 P q) := by
  pointwise [R5]
  simp only [Finset.sum_const, Finset.card_univ, Fintype.card_fin, one_smul]
  rfl

theorem r6_at (D X2 X3 X4) (P : Fin 2048) (q : Fin 1024) : R6 D X2 X3 X4 (ix2 P q) = R5 D X2 X3 X4 (ix2 P q) := by
  pointwise [R6]

theorem r7_at (D X3) (q : Fin 1024) : R7 D X3 (ix2 (0 : Fin 1) q)
    = ∑ P : Fin 2048, X3 (ix2 P q) * (rms fun k => X3 (ix2 P k)) * D (ix2 P q) := by
  pointwise [R7]
  rfl

/-! ## The call's stores -/

theorem pay2_at (v0 v1) (p : Fin 512) (q : Fin 1024) : k0_pay2 (F := Ideal) v0 v1 (ix2 p q)
    = ∑ k : Fin 2816, v0 (ix3 0 p k) * v1 (ix2 q k) := by
  pointwise [k0_pay2, k0_pay1]

theorem pay3_at (v0 v1 v2) (p : Fin 512) (q : Fin 1024) : k0_pay3 (F := Ideal) v0 v1 v2 (ix2 p q)
    = v2 (ix2 p q) + ∑ k : Fin 2816, v0 (ix3 0 p k) * v1 (ix2 q k) := by
  pointwise [k0_pay3, k0_pay1]

theorem pay7_at (D x g d) (p : Fin 512) (q : Fin 1024) : k0_pay7 (F := Ideal) D x g d (ix2 p q)
    = d (ix2 p q) + closed (fun k => x (ix2 p k)) (fun k => D (ix2 p k) * g (ix2 0 k)) q := by
  pointwise [k0_pay7, k0_pay6, k0_pay5]
  rfl

theorem pay8_at (D x g d) (p : Fin 512) (q : Fin 1024) : k0_pay8 (F := Ideal) D x g d (ix2 p q) = k0_pay7 (F := Ideal) D x g d (ix2 p q) := by
  pointwise [k0_pay8]

theorem pay9_at (D x) (q : Fin 1024) : k0_pay9 (F := Ideal) D x (ix2 (0 : Fin 1) q)
    = ∑ p : Fin 512, D (ix2 p q) * (x (ix2 p q) * rms fun k => x (ix2 p k)) := by
  pointwise [k0_pay9, k0_pay6, k0_pay5]
  rfl

theorem pay4_at (a b) (q : Fin 1024) : k0_pay4 (F := Ideal) a b (ix2 (0 : Fin 1) q) = b (ix2 0 q) + a (ix2 0 q) := by
  pointwise [k0_pay4]

/-! ## The points -/

variable (m : (ℓ : Loc nD τ sig) → Buf (Elt Ideal) ℓ)

/-- The arguments' blocks over all the points. -/
theorem idx : ∀ t : Fin cfg0.N, win0_0.index t = ![t.val % 2, t.val / 2, 0] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

theorem scr_A (c : Dev nD) (t : Fin cfg0.N) (h0 : t.val % 2 = 0) :
    (outsAt0 m c t.val t.isLt).2.2.2 = k0_pay2 (iblk m c 0 t) (iblk m c 1 t) := by
  rw [outsAt0_A m c t h0 (by omega) (by omega)]
  frame_out

theorem dg_A (c : Dev nD) (t : Fin cfg0.N) (h0 : t.val % 2 = 0) (hp : 0 < t.val) :
    (outsAt0 m c t.val t.isLt).2.2.1 = (outsAt0 m c (t.val - 1) (Nat.lt_of_le_of_lt (Nat.sub_le _ _) t.isLt)).2.2.1 := by
  rw [outsAt0_A m c t h0 (by omega) (by omega)]
  rfl

/-- A block's last point: its results from the accumulated product. -/
theorem last (c : Dev nD) (t : Fin cfg0.N) (h : t.val % 2 = 1) :
    (outsAt0 m c t.val t.isLt).2.2.2 = k0_pay3 (iblk m c 0 t) (iblk m c 1 t) (outsAt0 m c (t.val - 1) (Nat.lt_of_le_of_lt (Nat.sub_le _ _) t.isLt)).2.2.2
    ∧ (outsAt0 m c t.val t.isLt).1 = k0_pay7 (outsAt0 m c t.val t.isLt).2.2.2 (iblk m c 3 t) (iblk m c 4 t) (iblk m c 2 t)
    ∧ (outsAt0 m c t.val t.isLt).2.1 = k0_pay8 (outsAt0 m c t.val t.isLt).2.2.2 (iblk m c 3 t) (iblk m c 4 t) (iblk m c 2 t) := by
  rcases Nat.lt_or_ge t.val 2 with h3 | h3
  · rw [outsAt0_B m c t (by omega) h h h3 (by omega)]
    refine ⟨?_, ?_, ?_⟩ <;> dsimp only <;> frame_out <;> rw [read_unread_whole]
  · rw [outsAt0_C m c t (by omega) h h (by omega) h3]
    refine ⟨?_, ?_, ?_⟩ <;> dsimp only <;> frame_out <;> rw [read_unread_whole]

theorem dg_B (c : Dev nD) (t : Fin cfg0.N) (h : t.val % 2 = 1) (h3 : t.val < 2) :
    (outsAt0 m c t.val t.isLt).2.2.1 = k0_pay9 (outsAt0 m c t.val t.isLt).2.2.2 (iblk m c 3 t) := by
  rw [outsAt0_B m c t (by omega) h h h3 (by omega)]
  dsimp only; frame_out

theorem dg_C (c : Dev nD) (t : Fin cfg0.N) (h : t.val % 2 = 1) (h3 : 2 ≤ t.val) :
    (outsAt0 m c t.val t.isLt).2.2.1 = k0_pay4 (k0_pay9 (outsAt0 m c t.val t.isLt).2.2.2 (iblk m c 3 t))
      (outsAt0 m c (t.val - 1) (Nat.lt_of_le_of_lt (Nat.sub_le _ _) t.isLt)).2.2.1 := by
  rw [outsAt0_C m c t (by omega) h h (by omega) h3]
  dsimp only; frame_out

/-- The arguments' arrays on a device. -/
abbrev A0 (c : Dev nD) : FVec Ideal S2x2048x2816 .bf16 := m ((c : Thread nD τ).loc main_arg0)
abbrev A1 (c : Dev nD) : FVec Ideal S1024x5632 .bf16 := m ((c : Thread nD τ).loc main_arg1)
abbrev A2 (c : Dev nD) : FVec Ideal S2048x1024 .f32 := m ((c : Thread nD τ).loc main_arg2)
abbrev A3 (c : Dev nD) : FVec Ideal S2048x1024 .f32 := m ((c : Thread nD τ).loc main_arg3)
abbrev A4 (c : Dev nD) : FVec Ideal S1x1024 .f32 := m ((c : Thread nD τ).loc main_arg4)

/-- The blocks a point loads, read in the arguments. -/
theorem x_at (c : Dev nD) (t : Fin cfg0.N) (p : Fin 512) (k : Fin 2816) (S : Fin 2) (P : Fin 2048) (hS : S.val = t.val % 2)
    (hP : P.val = t.val / 2 * 512 + p.val) : (iblk m c 0 t : FVec Ideal S1x512x2816 .bf16) (ix3 0 p k) = A0 m c (ix3 S P k) := by
  blk_point [iblk, V, idx t]

theorem w_at (c : Dev nD) (t : Fin cfg0.N) (q : Fin 1024) (k : Fin 2816) (K : Fin 5632) (hK : K.val = t.val % 2 * 2816 + k.val) :
    (iblk m c 1 t : FVec Ideal S1024x2816 .bf16) (ix2 q k) = A1 m c (ix2 q K) := by
  blk_point [iblk, V, idx t]

theorem d_at (c : Dev nD) (t : Fin cfg0.N) (p : Fin 512) (q : Fin 1024) (P : Fin 2048) (hP : P.val = t.val / 2 * 512 + p.val) :
    (iblk m c 2 t : FVec Ideal S512x1024 .f32) (ix2 p q) = A2 m c (ix2 P q) := by
  blk_point [iblk, V, idx t]

theorem h_at (c : Dev nD) (t : Fin cfg0.N) (p : Fin 512) (q : Fin 1024) (P : Fin 2048) (hP : P.val = t.val / 2 * 512 + p.val) :
    (iblk m c 3 t : FVec Ideal S512x1024 .f32) (ix2 p q) = A3 m c (ix2 P q) := by
  blk_point [iblk, V, idx t]

theorem g_at (c : Dev nD) (t : Fin cfg0.N) (q : Fin 1024) :
    (iblk m c 4 t : FVec Ideal S1x1024 .f32) (ix2 0 q) = A4 m c (ix2 0 q) := by
  blk_point [iblk, V, idx t]

/-- The product a point adds. -/
def term (c : Dev nD) (t : Fin cfg0.N) : S512x1024.Idx → EReal := k0_pay2 (F := Ideal) (iblk m c 0 t) (iblk m c 1 t)

theorem term_at (c : Dev nD) (t : Fin cfg0.N) (p : Fin 512) (q : Fin 1024) (S : Fin 2) (P : Fin 2048) (hS : S.val = t.val % 2)
    (hP : P.val = t.val / 2 * 512 + p.val) : term m c t (ix2 p q)
    = ∑ k : Fin 2816, A0 m c (ix3 S P k) * A1 m c (ix2 q ⟨S.val * 2816 + k.val, by omega⟩) := by
  unfold term
  rw [pay2_at]
  refine Finset.sum_congr rfl fun k _ => ?_
  rw [x_at m c t p k S P hS hP, w_at m c t q k ⟨S.val * 2816 + k.val, by omega⟩ (by rw [← hS])]

/-- The accumulated product at a block's last point. -/
theorem acc (c : Dev nD) (t : Fin cfg0.N) (h : t.val % 2 = 1) (p : Fin 512) (q : Fin 1024) (P : Fin 2048)
    (hP : P.val = t.val / 2 * 512 + p.val) :
    ((outsAt0 m c t.val t.isLt).2.2.2 : FVec Ideal S512x1024 .f32) (ix2 p q) = DN (A0 m c) (A1 m c) (ix2 P q) := by
  rw [dn_at]
  refine (Pipeline.eq_sum_fin_of_reset_step_apply_of_flush (N := cfg0.N) (ι := S512x1024.Idx) (M := EReal)
    (fun n hn => (outsAt0 m c n hn).2.2.2) 2 (fun _ => 0) (term m c) (fun t h0 i => ?_) (fun t hn i => ?_) t h (ix2 p q)).trans ?_
  · rw [zero_add]
    exact congrFun (scr_A m c t h0) i
  · have e := congrFun (last m c t (by omega)).1 i
    refine e.trans ?_
    obtain ⟨p, q, rfl⟩ : ∃ (p : Fin 512) (q : Fin 1024), i = ix2 p q := ⟨i 0, i 1, by blk_ext⟩
    rw [pay3_at]
    unfold term
    rw [pay2_at]
  · rw [zero_add]
    unfold dn
    refine Finset.sum_congr rfl fun s _ => ?_
    have hs : s.val < 2 := s.isLt
    exact term_at m c _ p q s P (by show s.val = (2 * (t.val / 2) + s.val) % 2; omega) (by rw [hP]; show _ = (2 * (t.val / 2) + s.val) / 2 * 512 + _; omega)

/-- The scale's gradient from a block of rows. -/
def rows (c : Dev nD) (i : Fin 4) (q : Fin 1024) : EReal := ∑ p : Fin 512,
  DN (A0 m c) (A1 m c) (ix2 ⟨i.val * 512 + p.val, by omega⟩ q)
    * (A3 m c (ix2 ⟨i.val * 512 + p.val, by omega⟩ q) * rms fun k => A3 m c (ix2 ⟨i.val * 512 + p.val, by omega⟩ k))

theorem pay9_rows (c : Dev nD) (t : Fin cfg0.N) (h : t.val % 2 = 1) (i : Fin 4) (hi : t.val / 2 = i.val) (q : Fin 1024) :
    k0_pay9 (F := Ideal) (outsAt0 m c t.val t.isLt).2.2.2 (iblk m c 3 t) (ix2 (0 : Fin 1) q) = rows m c i q := by
  rw [pay9_at]
  unfold rows
  refine Finset.sum_congr rfl fun p _ => ?_
  have hP : (⟨i.val * 512 + p.val, by omega⟩ : Fin 2048).val = t.val / 2 * 512 + p.val := by rw [hi]
  rw [acc m c t h p q _ hP, h_at m c t p q _ hP]
  exact congrArg (fun f => _ * (_ * rms f)) (funext fun k => h_at m c t p k _ hP)

theorem keep (c : Dev nD) (n : Nat) (h : n % 2 = 0) (hp : 0 < n) (hn : n < cfg0.N) (h' : n - 1 < cfg0.N) :
    (outsAt0 m c n hn).2.2.1 = (outsAt0 m c (n - 1) h').2.2.1 := dg_A m c ⟨n, hn⟩ h hp

theorem outs_congr (c : Dev nD) (n n' : Nat) (e : n = n') (hn : n < cfg0.N) (hn' : n' < cfg0.N) : outsAt0 m c n hn = outsAt0 m c n' hn' := by
  subst e; rfl

theorem at_lt (n : Nat) (hn : n < 4) : 2 * n + 1 < cfg0.N := by show 2 * n + 1 < 8; omega

/-- The scale's gradient after the block `n` of rows. -/
def sofar (c : Dev nD) (n : Nat) (hn : n < 4) (q : Fin 1024) : EReal :=
  ((outsAt0 m c (2 * n + 1) (at_lt n hn)).2.2.1 : FVec Ideal S1x1024 .f32) (ix2 0 q)

theorem sofar_first (c : Dev nD) (i : Fin 4) (h0 : i.val % 4 = 0) (q : Fin 1024) : sofar m c i.val i.isLt q = 0 + rows m c i q := by
  unfold sofar
  rw [zero_add]
  refine (congrFun (dg_B m c ⟨2 * i.val + 1, at_lt i.val i.isLt⟩ (by show (2 * i.val + 1) % 2 = 1; omega) (by show 2 * i.val + 1 < 2; omega)) (ix2 0 q)).trans ?_
  exact pay9_rows m c ⟨2 * i.val + 1, at_lt i.val i.isLt⟩ (by show (2 * i.val + 1) % 2 = 1; omega) i (by show (2 * i.val + 1) / 2 = i.val; omega) q

theorem sofar_next (c : Dev nD) (i : Fin 4) (h0 : ¬i.val % 4 = 0) (q : Fin 1024) :
    sofar m c i.val i.isLt q = sofar m c (i.val - 1) (Nat.lt_of_le_of_lt (Nat.sub_le _ _) i.isLt) q + rows m c i q := by
  have hi := i.isLt
  unfold sofar
  refine (congrFun (dg_C m c ⟨2 * i.val + 1, at_lt i.val i.isLt⟩ (by show (2 * i.val + 1) % 2 = 1; omega) (by show 2 ≤ 2 * i.val + 1; omega)) (ix2 0 q)).trans ?_
  rw [pay4_at, pay9_rows m c ⟨2 * i.val + 1, at_lt i.val i.isLt⟩ (by show (2 * i.val + 1) % 2 = 1; omega) i (by show (2 * i.val + 1) / 2 = i.val; omega)]
  refine congrArg (· + _) ?_
  have e := keep m c (2 * i.val) (by omega) (by omega) (by show 2 * i.val < 8; omega) (by show 2 * i.val - 1 < 8; omega)
  refine (congrFun e (ix2 0 q)).trans ?_
  rw [outs_congr m c (2 * i.val - 1) (2 * (i.val - 1) + 1) (by omega) _ (at_lt _ (by omega))]

/-- The scale's gradient after the last point. -/
theorem scale (c : Dev nD) (t : Fin cfg0.N) (h : t.val % 8 = 7) (q : Fin 1024) :
    ((outsAt0 m c t.val t.isLt).2.2.1 : FVec Ideal S1x1024 .f32) (ix2 0 q) = R7 (DN (A0 m c) (A1 m c)) (A3 m c) (ix2 0 q) := by
  have ht : t.val < 8 := t.isLt
  have e : ((outsAt0 m c t.val t.isLt).2.2.1 : FVec Ideal S1x1024 .f32) (ix2 0 q) = sofar m c (3 : Fin 4).val (3 : Fin 4).isLt q := by
    unfold sofar
    rw [outs_congr m c t.val (2 * (3 : Fin 4).val + 1) (by show t.val = 7; omega) _ (at_lt 3 (by omega))]
  rw [e, Pipeline.eq_sum_fin_of_reset_step_apply_of_flush (N := 4) (ι := Fin 1024) (M := EReal) (sofar m c) 4 (fun _ => 0) (rows m c)
    (sofar_first m c) (sofar_next m c) 3 rfl q, zero_add, r7_at]
  unfold rows
  refine Fin.sum_mul_add_congr fun s k hl => ?_
  have hs : 4 * ((3 : Fin 4).val / 4) + s.val = s.val := by show 4 * (3 / 4) + s.val = s.val; omega
  simp only [hs]
  exact mul_comm _ _

/-- The gradient into the block at its last point. -/
theorem point5 (c : Dev nD) (t : Fin cfg0.N) (h : t.val % 2 = 1) (p : Fin 512) (q : Fin 1024) (P : Fin 2048)
    (hP : P.val = t.val / 2 * 512 + p.val) :
    k0_pay7 (F := Ideal) (outsAt0 m c t.val t.isLt).2.2.2 (iblk m c 3 t) (iblk m c 4 t) (iblk m c 2 t) (ix2 p q)
    = R5 (DN (A0 m c) (A1 m c)) (A2 m c) (A3 m c) (A4 m c) (ix2 P q) := by
  rw [pay7_at, r5_at, d_at m c t p q P hP,
    show (fun k => (iblk m c 3 t : FVec Ideal S512x1024 .f32) (ix2 p k)) = fun k => A3 m c (ix2 P k) from funext fun k => h_at m c t p k P hP,
    show (fun k => ((outsAt0 m c t.val t.isLt).2.2.2 : FVec Ideal S512x1024 .f32) (ix2 p k) * (iblk m c 4 t : FVec Ideal S1x1024 .f32) (ix2 0 k))
      = fun k => DN (A0 m c) (A1 m c) (ix2 P k) * A4 m c (ix2 0 k) from funext fun k => by rw [acc m c t h p k P hP, g_at m c t k]]
  exact closed_eq _ _ q _

/-- The result arrays after the run. -/
theorem final5 (c : Dev nD) : (dats m 0 c).arrAt 5 (cfgs 0).N = R5 (DN (A0 m c) (A1 m c)) (A2 m c) (A3 m c) (A4 m c) := by
  refine (dats m 0 c).arrAt_eq_of_covers 5 _ (by decide +kernel) fun t hf y => ?_
  have h := (flush0_5 t).1 hf
  have ht : t.val < 8 := t.isLt
  blk_simp
  rw [after0_5, (last m c t h).2.1]
  obtain ⟨P, hP⟩ : ∃ P : Fin 2048, P.val = t.val / 2 * 512 + (y 0).val := ⟨⟨_, by have : (y 0).val < 512 := (y 0).isLt; omega⟩, rfl⟩
  have ey : y = ix2 (y 0) (y 1) := by blk_ext
  have ee : ((cfg0.win 5).blk t).view.emb y = ix2 P (y 1) := by blk_ext [idx t]
  rw [ee, ey]
  exact point5 m c t h _ _ P hP

theorem final6 (c : Dev nD) : (dats m 0 c).arrAt 6 (cfgs 0).N = R6 (DN (A0 m c) (A1 m c)) (A2 m c) (A3 m c) (A4 m c) := by
  refine (dats m 0 c).arrAt_eq_of_covers 6 _ (by decide +kernel) fun t hf y => ?_
  have h := (flush0_6 t).1 hf
  have ht : t.val < 8 := t.isLt
  blk_simp
  rw [after0_6, (last m c t h).2.2]
  obtain ⟨P, hP⟩ : ∃ P : Fin 2048, P.val = t.val / 2 * 512 + (y 0).val := ⟨⟨_, by have : (y 0).val < 512 := (y 0).isLt; omega⟩, rfl⟩
  have ey : y = ix2 (y 0) (y 1) := by blk_ext
  have ee : ((cfg0.win 6).blk t).view.emb y = ix2 P (y 1) := by blk_ext [idx t]
  rw [ee, ey]
  refine (pay8_at _ _ _ _ _ _).trans ((point5 m c t h _ _ P hP).trans ?_)
  exact (r6_at _ _ _ _ P _).symm

theorem final7 (c : Dev nD) : (dats m 0 c).arrAt 7 (cfgs 0).N = R7 (DN (A0 m c) (A1 m c)) (A3 m c) := by
  refine (dats m 0 c).arrAt_eq_of_covers 7 _ (by decide +kernel) fun t hf y => ?_
  have h := (flush0_7 t).1 hf
  blk_simp
  rw [after0_7]
  have ey : y = ix2 (0 : Fin 1) (y 1) := by blk_ext
  have ee : ((cfg0.win 7).blk t).view.emb y = ix2 (0 : Fin 1) (y 1) := by blk_ext [idx t]
  rw [ee, ey]
  exact scale m c t h (y 1)

theorem frame_kernel : Cert.quiescent_KernelDn := fun m ρ _ => Cert.KernelDn.Gen.frame m ρ
theorem frame_kernelIdeal : Cert.quiescent_KernelDnIdeal := fun m ρ _ => Cert.KernelDnIdeal.Gen.frame m ρ
theorem frame_reference : Cert.quiescent_ReferenceDnIdeal := fun m ρ _ =>
  (θ_run Cert.ReferenceDnIdeal.defs _ _).mono
    (fun r h => ⟨fun c => (h c).2.2.2, Idealize.ShloMosaic.sem_eq_zero_of_no_sems (by decide) r.2⟩) (Cert.ReferenceDnIdeal.Value.run (F := Ideal) m ρ)

/-- Kernel and reference end with the same arrays. -/
theorem equal_results : Cert.algebraic_KernelDnIdeal_ReferenceDnIdeal := by
  intro m g m' g' _ hin
  refine ⟨fun c => R5 (DN (A0 m c) (A1 m c)) (A2 m c) (A3 m c) (A4 m c), fun c => R6 (DN (A0 m c) (A1 m c)) (A2 m c) (A3 m c) (A4 m c),
    fun c => R7 (DN (A0 m c) (A1 m c)) (A3 m c), ?_, ?_⟩
  · refine (θ_run Cert.KernelDnIdeal.defs _ _).mono (fun r h c => ?_) (Cert.KernelDnIdeal.Value.run_blocks (F := Ideal) m g)
    exact ⟨(h c).1.trans (final5 m c), (h c).2.1.trans (final6 m c), (h c).2.2.1.trans (final7 m c), (h c).2.2.2⟩
  · refine (θ_run Cert.ReferenceDnIdeal.defs _ _).mono (fun r h c => ?_) (Cert.ReferenceDnIdeal.Value.run (F := Ideal) m' g')
    refine ⟨(h c).1.trans ?_, (h c).2.1.trans ?_, (h c).2.2.1.trans ?_, (h c).2.2.2⟩
    · unfold Cert.ReferenceDnIdeal.Value.res_main_v45
      rw [(hin c).1, (hin c).2.1, (hin c).2.2.1, (hin c).2.2.2.1, (hin c).2.2.2.2]
    · unfold Cert.ReferenceDnIdeal.Value.res_main_v46
      rw [(hin c).1, (hin c).2.1, (hin c).2.2.1, (hin c).2.2.2.1, (hin c).2.2.2.2]
    · rw [(hin c).1, (hin c).2.1, (hin c).2.2.2.1]

end

end Cert.Proof.Dn
-- ==== Proof.Dwin.lean ====
module
public import proofs.«01_k».proof.Defs
public import proofs.«01_k».proof.Proof.Gen.KernelDwinIdeal.Value
public import proofs.«01_k».proof.Proof.Gen.KernelDwin.Frame
public import proofs.«01_k».proof.Proof.Gen.ReferenceDwinIdeal.Run
public import Idealize.ShloMosaic.Lib.Pipeline.ValueKit
public import Idealize.ShloMosaic.Lib.Pointwise
public import Idealize.ShloMosaic.Lib.Claim

/-! The gradient of the input projection's weights: the call's tiles of `uᵀ · dproj` against the derivative of `u · w`. -/

set_option maxRecDepth 16384

@[expose] public section

namespace Cert.Proof.Dwin
open Idealize.ShloMosaic Idealize.ShloMosaic.TcCoe Idealize.SL.Sem Cert.KernelDwinIdeal Cert.KernelDwinIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S2048x8192 .bf16) : FVec Ideal S1024x8192 .bf16 :=
  truncf .bf16 (transpose Cert.ReferenceDwinIdeal.S1024x8192 [1, 0]
    (Host.dotGeneral Cert.ReferenceDwinIdeal.dot_S2048x8192_S2048x1024_S8192x1024_0_0_1_1_n_n none
      (extf .f32 Y Cert.ReferenceDwinIdeal.Gen.bitsLt_bf16_f32) (extf .f32 X Cert.ReferenceDwinIdeal.Gen.bitsLt_bf16_f32))
    Cert.ReferenceDwinIdeal.Gen.transposes_S8192x1024_S1024x8192_1_0) Cert.ReferenceDwinIdeal.Gen.bitsLt_bf16_f32

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwin := fun m ρ _ => Cert.KernelDwin.Gen.frame m ρ
theorem frame_kernelIdeal : Cert.quiescent_KernelDwinIdeal := fun m ρ _ => Cert.KernelDwinIdeal.Gen.frame m ρ
theorem frame_reference : Cert.quiescent_ReferenceDwinIdeal := fun m ρ _ =>
  (θ_run Cert.ReferenceDwinIdeal.defs _ _).mono
    (fun r h => ⟨fun c => (h c).2, Idealize.ShloMosaic.sem_eq_zero_of_no_sems (by decide) r.2⟩) (Cert.ReferenceDwinIdeal.Value.run (F := Ideal) m ρ)

/-- Kernel and reference end with the same array. -/
theorem equal_results : Cert.algebraic_KernelDwinIdeal_ReferenceDwinIdeal := by
  intro m g m' g' _ hin
  refine ⟨fun c => REF (m ((c : Thread nD τ).loc main_arg0)) (m ((c : Thread nD τ).loc main_arg1)), ?_, ?_⟩
  · refine (θ_run Cert.KernelDwinIdeal.defs _ _).mono (fun r h c => ?_) (Cert.KernelDwinIdeal.Value.run_blocks (F := Ideal) m g)
    exact ⟨(h c).1.trans (final m c), (h c).2⟩
  · refine (θ_run Cert.ReferenceDwinIdeal.defs _ _).mono (fun r h c => ?_) (Cert.ReferenceDwinIdeal.Value.run (F := Ideal) m' g')
    refine ⟨(h c).1.trans ?_, (h c).2⟩
    rw [(hin c).1, (hin c).2]

end
end Cert.Proof.Dwin
-- ==== Proof.Dwgu.lean ====
module
public import proofs.«01_k».proof.Defs
public import proofs.«01_k».proof.Proof.Gen.KernelDwguIdeal.Value
public import proofs.«01_k».proof.Proof.Gen.KernelDwgu.Frame
public import proofs.«01_k».proof.Proof.Gen.ReferenceDwguIdeal.Run
public import Idealize.ShloMosaic.Lib.Pipeline.ValueKit
public import Idealize.ShloMosaic.Lib.Pointwise
public import Idealize.ShloMosaic.Lib.Claim

/-! The gradient of a feed-forward block's first weights: the call's tiles of `nᵀ · dgu`, gate and up apart, against the
    derivative of the two halves of `n · w`. -/

set_option maxRecDepth 16384

@[expose] public section

namespace Cert.Proof.Dwgu
open Idealize.ShloMosaic Idealize.ShloMosaic.TcCoe Idealize.SL.Sem Cert.KernelDwguIdeal Cert.KernelDwguIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S2x2048x2816 .bf16) : FVec Ideal S1024x5632 .bf16 :=
  truncf .bf16 (transpose Cert.ReferenceDwguIdeal.S1024x5632 [1, 0]
    (Host.dotGeneral Cert.ReferenceDwguIdeal.dot_S2048x5632_S2048x1024_S5632x1024_0_0_1_1_n_n none
      (concatenate Cert.ReferenceDwguIdeal.S2048x5632 1
        [⟨Cert.ReferenceDwguIdeal.S2048x2816, (shapeCast _ (extractStridedSlice Cert.ReferenceDwguIdeal.S1x2048x2816 ![0, 0, 0]
          (extf .f32 Y Cert.ReferenceDwguIdeal.Gen.bitsLt_bf16_f32) Cert.ReferenceDwguIdeal.Gen.slices_S2x2048x2816_S1x2048x2816_0_0_0)
          Cert.ReferenceDwguIdeal.Gen.shapeCasts_S1x2048x2816_S2048x2816)⟩,
         ⟨Cert.ReferenceDwguIdeal.S2048x2816, (shapeCast _ (extractStridedSlice Cert.ReferenceDwguIdeal.S1x2048x2816 ![1, 0, 0]
          (extf .f32 Y Cert.ReferenceDwguIdeal.Gen.bitsLt_bf16_f32) Cert.ReferenceDwguIdeal.Gen.slices_S2x2048x2816_S1x2048x2816_1_0_0)
          Cert.ReferenceDwguIdeal.Gen.shapeCasts_S1x2048x2816_S2048x2816)⟩]
        Cert.ReferenceDwguIdeal.Gen.concatenates_S2048x2816_S2048x2816_S2048x5632_d1)
      (extf .f32 X Cert.ReferenceDwguIdeal.Gen.bitsLt_bf16_f32))
    Cert.ReferenceDwguIdeal.Gen.transposes_S5632x1024_S1024x5632_1_0) Cert.ReferenceDwguIdeal.Gen.bitsLt_bf16_f32

theorem idx : ∀ t : Fin cfg0.N, win0_0.index t = ![0, (grid0.coords t 0).val] ∧ win0_1.index t = ![(grid0.coords t 1).val, 0, 0]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  have hg : (grid0.coords t 1).val < 2 := (grid0.coords t 1).isLt
  have he : (((View.whole main_v0).slice ((win0 2).rect t)).emb y 1).val = (grid0.coords t 1).val * 2816 + (y 1).val := by
    show (((cfg0.win 2).blk t).view.emb y 1).val = _
    blk_simp [idx t]
  blk_point [iblk, V, idx t]
  all_goals omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwgu := fun m ρ _ => Cert.KernelDwgu.Gen.frame m ρ
theorem frame_kernelIdeal : Cert.quiescent_KernelDwguIdeal := fun m ρ _ => Cert.KernelDwguIdeal.Gen.frame m ρ
theorem frame_reference : Cert.quiescent_ReferenceDwguIdeal := fun m ρ _ =>
  (θ_run Cert.ReferenceDwguIdeal.defs _ _).mono
    (fun r h => ⟨fun c => (h c).2, Idealize.ShloMosaic.sem_eq_zero_of_no_sems (by decide) r.2⟩) (Cert.ReferenceDwguIdeal.Value.run (F := Ideal) m ρ)

/-- Kernel and reference end with the same array. -/
theorem equal_results : Cert.algebraic_KernelDwguIdeal_ReferenceDwguIdeal := by
  intro m g m' g' _ hin
  refine ⟨fun c => REF (m ((c : Thread nD τ).loc main_arg0)) (m ((c : Thread nD τ).loc main_arg1)), ?_, ?_⟩
  · refine (θ_run Cert.KernelDwguIdeal.defs _ _).mono (fun r h c => ?_) (Cert.KernelDwguIdeal.Value.run_blocks (F := Ideal) m g)
    exact ⟨(h c).1.trans (final m c), (h c).2⟩
  · refine (θ_run Cert.ReferenceDwguIdeal.defs _ _).mono (fun r h c => ?_) (Cert.ReferenceDwguIdeal.Value.run (F := Ideal) m' g')
    refine ⟨(h c).1.trans ?_, (h c).2⟩
    rw [(hin c).1, (hin c).2]

end
end Cert.Proof.Dwgu
-- ==== Proof.Dwdown.lean ====
module
public import proofs.«01_k».proof.Defs
public import proofs.«01_k».proof.Proof.Gen.KernelDwdownIdeal.Value
public import proofs.«01_k».proof.Proof.Gen.KernelDwdown.Frame
public import proofs.«01_k».proof.Proof.Gen.ReferenceDwdownIdeal.Run
public import Idealize.ShloMosaic.Lib.Pipeline.ValueKit
public import Idealize.ShloMosaic.Lib.Pointwise
public import Idealize.ShloMosaic.Lib.Claim

/-! The gradient of a feed-forward block's second weights: the call's tiles of `actᵀ · dh` against the derivative of `act · w`. -/

set_option maxRecDepth 16384

@[expose] public section

namespace Cert.Proof.Dwdown
open Idealize.ShloMosaic Idealize.ShloMosaic.TcCoe Idealize.SL.Sem Cert.KernelDwdownIdeal Cert.KernelDwdownIdeal.Gen
open Idealize.ShloMosaic.Pipeline (Dat)

noncomputable section

variable (m : (ℓ : Loc nD τ sig) → Buf (Elt Ideal) ℓ)

/-- The reference's result as a function of its two arguments. -/
abbrev REF (X : FVec Ideal S2048x2816 .bf16) (Y : FVec Ideal S2048x1024 .bf16) : FVec Ideal S2816x1024 .bf16 :=
  truncf .bf16 (transpose Cert.ReferenceDwdownIdeal.S2816x1024 [1, 0]
    (Host.dotGeneral Cert.ReferenceDwdownIdeal.dot_S2048x1024_S2048x2816_S1024x2816_0_0_1_1_n_n none
      (extf .f32 Y Cert.ReferenceDwdownIdeal.Gen.bitsLt_bf16_f32) (extf .f32 X Cert.ReferenceDwdownIdeal.Gen.bitsLt_bf16_f32))
    Cert.ReferenceDwdownIdeal.Gen.transposes_S1024x2816_S2816x1024_1_0) Cert.ReferenceDwdownIdeal.Gen.bitsLt_bf16_f32

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwdown := fun m ρ _ => Cert.KernelDwdown.Gen.frame m ρ
theorem frame_kernelIdeal : Cert.quiescent_KernelDwdownIdeal := fun m ρ _ => Cert.KernelDwdownIdeal.Gen.frame m ρ
theorem frame_reference : Cert.quiescent_ReferenceDwdownIdeal := fun m ρ _ =>
  (θ_run Cert.ReferenceDwdownIdeal.defs _ _).mono
    (fun r h => ⟨fun c => (h c).2, Idealize.ShloMosaic.sem_eq_zero_of_no_sems (by decide) r.2⟩) (Cert.ReferenceDwdownIdeal.Value.run (F := Ideal) m ρ)

/-- Kernel and reference end with the same array. -/
theorem equal_results : Cert.algebraic_KernelDwdownIdeal_ReferenceDwdownIdeal := by
  intro m g m' g' _ hin
  refine ⟨fun c => REF (m ((c : Thread nD τ).loc main_arg0)) (m ((c : Thread nD τ).loc main_arg1)), ?_, ?_⟩
  · refine (θ_run Cert.KernelDwdownIdeal.defs _ _).mono (fun r h c => ?_) (Cert.KernelDwdownIdeal.Value.run_blocks (F := Ideal) m g)
    exact ⟨(h c).1.trans (final m c), (h c).2⟩
  · refine (θ_run Cert.ReferenceDwdownIdeal.defs _ _).mono (fun r h c => ?_) (Cert.ReferenceDwdownIdeal.Value.run (F := Ideal) m' g')
    refine ⟨(h c).1.trans ?_, (h c).2⟩
    rw [(hin c).1, (hin c).2]

end
end Cert.Proof.Dwdown
-- ==== Proof.Shift.lean ====
module
public import proofs.«01_k».proof.Proof.Reals
public import Idealize.ShloMosaic.Lib.WordCmp

/-! Columns moved down and up by whole rows, with zeros moving in. -/

@[expose] public section

namespace Cert.Proof.Shift
open Idealize.ShloMosaic

noncomputable section

/-- A column moved down by `k` rows. -/
def down (k : Nat) (f : Fin 2048 → EReal) (s : Fin 2048) : EReal := if k ≤ s.val then f ⟨s.val - k, by omega⟩ else 0

/-- A column moved up by `k` rows. -/
def up (k : Nat) (f : Fin 2048 → EReal) (s : Fin 2048) : EReal := if h : s.val + k < 2048 then f ⟨s.val + k, h⟩ else 0

theorem up_mul (k : Nat) (f : Fin 2048 → EReal) (w : EReal) (s : Fin 2048) : up k f s * w = up k (fun r => f r * w) s := by
  unfold up
  split
  · rfl
  · exact zero_mul _

/-- Rows turned round and masked, times a weight. -/
theorem sel_down (k : Nat) (hk : k < 2048) (f : Fin 2048 → EReal) (s : Fin 2048) (w : EReal) :
    Scalar.select (IntOp.cmpi .sge (BitVec.ofNat 32 s.val) (BitVec.ofNat 32 k)) (f ⟨(s.val + 2048 - k) % 2048, by omega⟩ * w) 0
      = down k f s * w := by
  rw [WordCmp.cmpi_sge_ofNat (by omega) (by omega)]
  unfold down
  by_cases h : k ≤ s.val
  · have e : (⟨(s.val + 2048 - k) % 2048, by omega⟩ : Fin 2048) = ⟨s.val - k, by omega⟩ := Fin.ext (by show (s.val + 2048 - k) % 2048 = s.val - k; omega)
    rw [e, if_pos h]
    simp [Scalar.select, h]
  · rw [if_neg h, zero_mul]
    simp [Scalar.select, h]

theorem sel_up (k c : Nat) (hc : c + k = 2048) (hk : 0 < k) (f : Fin 2048 → EReal) (s : Fin 2048) (w : EReal) :
    Scalar.select (IntOp.cmpi .slt (BitVec.ofNat 32 s.val) (BitVec.ofNat 32 c)) (f ⟨(s.val + 2048 - c) % 2048, by omega⟩ * w) 0
      = up k f s * w := by
  rw [WordCmp.cmpi_slt_ofNat (by omega) (by omega)]
  unfold up
  by_cases h : s.val + k < 2048
  · have e : (⟨(s.val + 2048 - c) % 2048, by omega⟩ : Fin 2048) = ⟨s.val + k, h⟩ := Fin.ext (by show (s.val + 2048 - c) % 2048 = s.val + k; omega)
    have h' : s.val < c := by omega
    rw [e, dif_pos h]
    simp [Scalar.select, h']
  · have h' : ¬s.val < c := by omega
    rw [dif_neg h, zero_mul]
    simp [Scalar.select, h']

end

end Cert.Proof.Shift
-- ==== Proof.Conv.lean ====
module
public import proofs.«01_k».proof.Defs
public import proofs.«01_k».proof.Proof.Gen.KernelConvIdeal.Value
public import proofs.«01_k».proof.Proof.Gen.KernelConv.Frame
public import proofs.«01_k».proof.Proof.Gen.ReferenceConvIdeal.Run
public import proofs.«01_k».proof.Proof.Shift
public import Idealize.ShloMosaic.Lib.Pipeline.ValueKit
public import Idealize.ShloMosaic.Lib.Pointwise
public import Idealize.ShloMosaic.Lib.Claim

/-! The gradients of the gated convolution: the call's block of columns, whose moved rows are turned round and masked, against the
    derivative of the convolution over rows with zeros before them. -/

set_option maxRecDepth 16384

@[expose] public section

namespace Cert.Proof.Conv
open Idealize.ShloMosaic Idealize.ShloMosaic.TcCoe Idealize.SL.Sem Cert.KernelConvIdeal Cert.KernelConvIdeal.Gen
open Idealize.ShloMosaic.Pipeline (Dat)
open Cert.Proof.Shift

noncomputable section

/-- The projection's first three thirds as numbers, the product that the convolution runs over, a filter's row under every
    position, and the columns moved down, as the reference computes them. -/
abbrev C0 (A1 : FVec Ideal Cert.ReferenceConvIdeal.S2048x8192 .bf16) : FVec Ideal Cert.ReferenceConvIdeal.S2048x1024 .f32 :=
    extractStridedSlice Cert.ReferenceConvIdeal.S2048x1024 ![0, 0] (extf .f32 A1 Cert.ReferenceConvIdeal.Gen.bitsLt_bf16_f32)
    Cert.ReferenceConvIdeal.Gen.slices_S2048x8192_S2048x1024_0_0
abbrev C1 (A1 : FVec Ideal Cert.ReferenceConvIdeal.S2048x8192 .bf16) : FVec Ideal Cert.ReferenceConvIdeal.S2048x1024 .f32 :=
    extractStridedSlice Cert.ReferenceConvIdeal.S2048x1024 ![0, 1024] (extf .f32 A1
    Cert.ReferenceConvIdeal.Gen.bitsLt_bf16_f32) Cert.ReferenceConvIdeal.Gen.slices_S2048x8192_S2048x1024_0_1024
abbrev C2 (A1 : FVec Ideal Cert.ReferenceConvIdeal.S2048x8192 .bf16) : FVec Ideal Cert.ReferenceConvIdeal.S2048x1024 .f32 :=
    extractStridedSlice Cert.ReferenceConvIdeal.S2048x1024 ![0, 2048] (extf .f32 A1
    Cert.ReferenceConvIdeal.Gen.bitsLt_bf16_f32) Cert.ReferenceConvIdeal.Gen.slices_S2048x8192_S2048x1024_0_2048
abbrev P (A1 : FVec Ideal Cert.ReferenceConvIdeal.S2048x8192 .bf16) : FVec Ideal Cert.ReferenceConvIdeal.S2048x1024 .f32 :=
    mulf (C1 A1) (C2 A1)
abbrev W0 (A2 : FVec Ideal Cert.ReferenceConvIdeal.S3x1024 .f32) : FVec Ideal Cert.ReferenceConvIdeal.S2048x1024 .f32 :=
    broadcastInDim Cert.ReferenceConvIdeal.S2048x1024 ![0, 1] Cert.ReferenceConvIdeal.Gen.bcast_S1x1024_S2048x1024_0_1
    (broadcastInDim Cert.ReferenceConvIdeal.S1x1024 ![1] Cert.ReferenceConvIdeal.Gen.bcast_S1024_S1x1024_1 (shapeCast _
    (extractStridedSlice Cert.ReferenceConvIdeal.S1x1024 ![0, 0] A2 Cert.ReferenceConvIdeal.Gen.slices_S3x1024_S1x1024_0_0)
    Cert.ReferenceConvIdeal.Gen.shapeCasts_S1x1024_S1024))
abbrev W1 (A2 : FVec Ideal Cert.ReferenceConvIdeal.S3x1024 .f32) : FVec Ideal Cert.ReferenceConvIdeal.S2048x1024 .f32 :=
    broadcastInDim Cert.ReferenceConvIdeal.S2048x1024 ![0, 1] Cert.ReferenceConvIdeal.Gen.bcast_S1x1024_S2048x1024_0_1
    (broadcastInDim Cert.ReferenceConvIdeal.S1x1024 ![1] Cert.ReferenceConvIdeal.Gen.bcast_S1024_S1x1024_1 (shapeCast _
    (extractStridedSlice Cert.ReferenceConvIdeal.S1x1024 ![1, 0] A2 Cert.ReferenceConvIdeal.Gen.slices_S3x1024_S1x1024_1_0)
    Cert.ReferenceConvIdeal.Gen.shapeCasts_S1x1024_S1024))
abbrev W2 (A2 : FVec Ideal Cert.ReferenceConvIdeal.S3x1024 .f32) : FVec Ideal Cert.ReferenceConvIdeal.S2048x1024 .f32 :=
    broadcastInDim Cert.ReferenceConvIdeal.S2048x1024 ![0, 1] Cert.ReferenceConvIdeal.Gen.bcast_S1x1024_S2048x1024_0_1
    (broadcastInDim Cert.ReferenceConvIdeal.S1x1024 ![1] Cert.ReferenceConvIdeal.Gen.bcast_S1024_S1x1024_1 (shapeCast _
    (extractStridedSlice Cert.ReferenceConvIdeal.S1x1024 ![2, 0] A2 Cert.ReferenceConvIdeal.Gen.slices_S3x1024_S1x1024_2_0)
    Cert.ReferenceConvIdeal.Gen.shapeCasts_S1x1024_S1024))
abbrev D1 (X : FVec Ideal Cert.ReferenceConvIdeal.S2048x1024 .f32) : FVec Ideal Cert.ReferenceConvIdeal.S2048x1024 .f32 :=
    concatenate Cert.ReferenceConvIdeal.S2048x1024 0 [⟨Cert.ReferenceConvIdeal.S1x1024, (broadcastInDim
    Cert.ReferenceConvIdeal.S1x1024 ![] Cert.ReferenceConvIdeal.Gen.bcast_S_S1x1024 (constant Cert.ReferenceConvIdeal.S_ .f32
    0x00000000#32))⟩, ⟨Cert.ReferenceConvIdeal.S2047x1024, (extractStridedSlice Cert.ReferenceConvIdeal.S2047x1024 ![0, 0] X
    Cert.ReferenceConvIdeal.Gen.slices_S2048x1024_S2047x1024_0_0)⟩]
    Cert.ReferenceConvIdeal.Gen.concatenates_S1x1024_S2047x1024_S2048x1024_d0
abbrev D2 (X : FVec Ideal Cert.ReferenceConvIdeal.S2048x1024 .f32) : FVec Ideal Cert.ReferenceConvIdeal.S2048x1024 .f32 :=
    concatenate Cert.ReferenceConvIdeal.S2048x1024 0 [⟨Cert.ReferenceConvIdeal.S2x1024, (broadcastInDim
    Cert.ReferenceConvIdeal.S2x1024 ![] Cert.ReferenceConvIdeal.Gen.bcast_S_S2x1024 (constant Cert.ReferenceConvIdeal.S_ .f32
    0x00000000#32))⟩, ⟨Cert.ReferenceConvIdeal.S2046x1024, (extractStridedSlice Cert.ReferenceConvIdeal.S2046x1024 ![0, 0] X
    Cert.ReferenceConvIdeal.Gen.slices_S2048x1024_S2046x1024_0_0)⟩]
    Cert.ReferenceConvIdeal.Gen.concatenates_S2x1024_S2046x1024_S2048x1024_d0
abbrev SC (A1 : FVec Ideal Cert.ReferenceConvIdeal.S2048x8192 .bf16) (A2 : FVec Ideal Cert.ReferenceConvIdeal.S3x1024 .f32) :
    FVec Ideal Cert.ReferenceConvIdeal.S2048x1024 .f32 := addf (addf (mulf (D2 (P A1)) (W0 A2)) (mulf (D1 (P A1)) (W1 A2)))
    (mulf (P A1) (W2 A2))

/-- The convolution's incoming gradient, a product moved up, the gradient of the product, and the results. -/
abbrev DY (A0 : FVec Ideal Cert.ReferenceConvIdeal.S2048x1024 .bf16) : FVec Ideal Cert.ReferenceConvIdeal.S2048x1024 .f32 :=
    extf .f32 A0 Cert.ReferenceConvIdeal.Gen.bitsLt_bf16_f32
abbrev DS (A0 : FVec Ideal Cert.ReferenceConvIdeal.S2048x1024 .bf16) (A1 : FVec Ideal Cert.ReferenceConvIdeal.S2048x8192 .bf16)
    : FVec Ideal Cert.ReferenceConvIdeal.S2048x1024 .f32 := mulf (C0 A1) (DY A0)
abbrev U1 (X : FVec Ideal Cert.ReferenceConvIdeal.S2048x1024 .f32) : FVec Ideal Cert.ReferenceConvIdeal.S2048x1024 .f32 := pad
    Cert.ReferenceConvIdeal.S2048x1024 ![0, 0] ![1, 0] ![0, 0] (extractStridedSlice Cert.ReferenceConvIdeal.S2047x1024 ![1, 0]
    X Cert.ReferenceConvIdeal.Gen.slices_S2048x1024_S2047x1024_1_0) (constant Cert.ReferenceConvIdeal.S_ .f32 0x00000000#32)
    Cert.ReferenceConvIdeal.Gen.pads_S2047x1024_S2048x1024_010_000 Cert.ReferenceConvIdeal.Gen.h_S_
abbrev U2 (X : FVec Ideal Cert.ReferenceConvIdeal.S2048x1024 .f32) : FVec Ideal Cert.ReferenceConvIdeal.S2048x1024 .f32 := pad
    Cert.ReferenceConvIdeal.S2048x1024 ![0, 0] ![2, 0] ![0, 0] (extractStridedSlice Cert.ReferenceConvIdeal.S2046x1024 ![2, 0]
    X Cert.ReferenceConvIdeal.Gen.slices_S2048x1024_S2046x1024_2_0) (constant Cert.ReferenceConvIdeal.S_ .f32 0x00000000#32)
    Cert.ReferenceConvIdeal.Gen.pads_S2046x1024_S2048x1024_020_000 Cert.ReferenceConvIdeal.Gen.h_S_
abbrev DP (Z : FVec Ideal Cert.ReferenceConvIdeal.S2048x1024 .f32) (A2 : FVec Ideal Cert.ReferenceConvIdeal.S3x1024 .f32) :
    FVec Ideal Cert.ReferenceConvIdeal.S2048x1024 .f32 := addf (addf (mulf Z (W2 A2)) (U1 (mulf Z (W1 A2)))) (U2 (mulf Z (W0
    A2)))
abbrev R5 (A0 : FVec Ideal Cert.ReferenceConvIdeal.S2048x1024 .bf16) (A1 : FVec Ideal Cert.ReferenceConvIdeal.S2048x8192 .bf16)
    (A2 : FVec Ideal Cert.ReferenceConvIdeal.S3x1024 .f32) : FVec Ideal Cert.ReferenceConvIdeal.S2048x1024 .bf16 := truncf
    .bf16 (mulf (DY A0) (SC A1 A2)) Cert.ReferenceConvIdeal.Gen.bitsLt_bf16_f32
abbrev R6 (A0 : FVec Ideal Cert.ReferenceConvIdeal.S2048x1024 .bf16) (A1 : FVec Ideal Cert.ReferenceConvIdeal.S2048x8192 .bf16)
    (A2 : FVec Ideal Cert.ReferenceConvIdeal.S3x1024 .f32) : FVec Ideal Cert.ReferenceConvIdeal.S2048x1024 .bf16 := truncf
    .bf16 (mulf (DP (DS A0 A1) A2) (C2 A1)) Cert.ReferenceConvIdeal.Gen.bitsLt_bf16_f32
abbrev R7 (A0 : FVec Ideal Cert.ReferenceConvIdeal.S2048x1024 .bf16) (A1 : FVec Ideal Cert.ReferenceConvIdeal.S2048x8192 .bf16)
    (A2 : FVec Ideal Cert.ReferenceConvIdeal.S3x1024 .f32) : FVec Ideal Cert.ReferenceConvIdeal.S2048x1024 .bf16 := truncf
    .bf16 (mulf (C1 A1) (DP (DS A0 A1) A2)) Cert.ReferenceConvIdeal.Gen.bitsLt_bf16_f32
abbrev R8 (X Y2 Y1 Z : FVec Ideal Cert.ReferenceConvIdeal.S2048x1024 .f32) : FVec Ideal Cert.ReferenceConvIdeal.S3x1024 .f32 :=
    addf (addf (pad Cert.ReferenceConvIdeal.S3x1024 ![2, 0] ![0, 0] ![0, 0] (broadcastInDim Cert.ReferenceConvIdeal.S1x1024
    ![1] Cert.ReferenceConvIdeal.Gen.bcast_S1024_S1x1024_1 (Host.reduceAdd (shapeCast _ (Host.reduceAdd (mulf X Z) (constant
    Cert.ReferenceConvIdeal.S_ .f32 0x00000000#32) Cert.ReferenceConvIdeal.Gen.reducesTo_S2048x1024_S1024_d0
    Cert.ReferenceConvIdeal.Gen.h_S_) Cert.ReferenceConvIdeal.Gen.shapeCasts_S1024_S1x1024) (constant
    Cert.ReferenceConvIdeal.S_ .f32 0x00000000#32) Cert.ReferenceConvIdeal.Gen.reducesTo_S1x1024_S1024_d0
    Cert.ReferenceConvIdeal.Gen.h_S_)) (constant Cert.ReferenceConvIdeal.S_ .f32 0x00000000#32)
    Cert.ReferenceConvIdeal.Gen.pads_S1x1024_S3x1024_200_000 Cert.ReferenceConvIdeal.Gen.h_S_) (pad
    Cert.ReferenceConvIdeal.S3x1024 ![1, 0] ![1, 0] ![0, 0] (broadcastInDim Cert.ReferenceConvIdeal.S1x1024 ![1]
    Cert.ReferenceConvIdeal.Gen.bcast_S1024_S1x1024_1 (Host.reduceAdd (shapeCast _ (Host.reduceAdd (mulf Y1 Z) (constant
    Cert.ReferenceConvIdeal.S_ .f32 0x00000000#32) Cert.ReferenceConvIdeal.Gen.reducesTo_S2048x1024_S1024_d0
    Cert.ReferenceConvIdeal.Gen.h_S_) Cert.ReferenceConvIdeal.Gen.shapeCasts_S1024_S1x1024) (constant
    Cert.ReferenceConvIdeal.S_ .f32 0x00000000#32) Cert.ReferenceConvIdeal.Gen.reducesTo_S1x1024_S1024_d0
    Cert.ReferenceConvIdeal.Gen.h_S_)) (constant Cert.ReferenceConvIdeal.S_ .f32 0x00000000#32)
    Cert.ReferenceConvIdeal.Gen.pads_S1x1024_S3x1024_110_000 Cert.ReferenceConvIdeal.Gen.h_S_)) (pad
    Cert.ReferenceConvIdeal.S3x1024 ![0, 0] ![2, 0] ![0, 0] (broadcastInDim Cert.ReferenceConvIdeal.S1x1024 ![1]
    Cert.ReferenceConvIdeal.Gen.bcast_S1024_S1x1024_1 (Host.reduceAdd (shapeCast _ (Host.reduceAdd (mulf Y2 Z) (constant
    Cert.ReferenceConvIdeal.S_ .f32 0x00000000#32) Cert.ReferenceConvIdeal.Gen.reducesTo_S2048x1024_S1024_d0
    Cert.ReferenceConvIdeal.Gen.h_S_) Cert.ReferenceConvIdeal.Gen.shapeCasts_S1024_S1x1024) (constant
    Cert.ReferenceConvIdeal.S_ .f32 0x00000000#32) Cert.ReferenceConvIdeal.Gen.reducesTo_S1x1024_S1024_d0
    Cert.ReferenceConvIdeal.Gen.h_S_)) (constant Cert.ReferenceConvIdeal.S_ .f32 0x00000000#32)
    Cert.ReferenceConvIdeal.Gen.pads_S1x1024_S3x1024_020_000 Cert.ReferenceConvIdeal.Gen.h_S_)

theorem c0_at (A1) (s : Fin 2048) (J : Fin 1024) : C0 A1 (ix2 s J) = A1 (ix2 s ⟨J.val, by omega⟩) := by
  pointwise [C0]

theorem c1_at (A1) (s : Fin 2048) (J : Fin 1024) : C1 A1 (ix2 s J) = A1 (ix2 s ⟨1024 + J.val, by omega⟩) := by
  pointwise [C1]

theorem c2_at (A1) (s : Fin 2048) (J : Fin 1024) : C2 A1 (ix2 s J) = A1 (ix2 s ⟨2048 + J.val, by omega⟩) := by
  pointwise [C2]

theorem p_at (A1) (s : Fin 2048) (J : Fin 1024) : P A1 (ix2 s J) = A1 (ix2 s ⟨1024 + J.val, by omega⟩) * A1 (ix2 s ⟨2048 + J.val, by omega⟩) := by
  pointwise [P]

theorem w0_at (A2) (s : Fin 2048) (J : Fin 1024) : W0 A2 (ix2 s J) = A2 (ix2 0 J) := by
  pointwise [W0]

theorem w1_at (A2) (s : Fin 2048) (J : Fin 1024) : W1 A2 (ix2 s J) = A2 (ix2 1 J) := by
  pointwise [W1]

theorem w2_at (A2) (s : Fin 2048) (J : Fin 1024) : W2 A2 (ix2 s J) = A2 (ix2 2 J) := by
  pointwise [W2]

theorem d1_at (X) (s : Fin 2048) (J : Fin 1024) : D1 X (ix2 s J) = down 1 (fun r => X (ix2 r J)) s := by
  unfold down
  pointwise [D1]
  by_cases h : s.val < 1
  · exact (dif_pos h).trans (if_neg (by omega)).symm
  · exact (dif_neg h).trans (if_pos (by omega)).symm

theorem d2_at (X) (s : Fin 2048) (J : Fin 1024) : D2 X (ix2 s J) = down 2 (fun r => X (ix2 r J)) s := by
  unfold down
  pointwise [D2]
  by_cases h : s.val < 2
  · exact (dif_pos h).trans (if_neg (by omega)).symm
  · exact (dif_neg h).trans (if_pos (by omega)).symm

/-- The convolution of one column. -/
def taps (p : Fin 2048 → EReal) (w : Fin 3 → EReal) (s : Fin 2048) : EReal := down 2 p s * w 0 + down 1 p s * w 1 + p s * w 2

theorem sc_at (A1 A2) (s : Fin 2048) (J : Fin 1024) : SC A1 A2 (ix2 s J)
    = taps (fun r => A1 (ix2 r ⟨1024 + J.val, by omega⟩) * A1 (ix2 r ⟨2048 + J.val, by omega⟩)) (fun k => A2 (ix2 k J)) s := by
  unfold taps
  simp only [← p_at]
  rw [← d2_at (P A1) s J, ← d1_at (P A1) s J, ← w0_at A2 s J, ← w1_at A2 s J, ← w2_at A2 s J]
  rfl

theorem u1_at (X) (s : Fin 2048) (J : Fin 1024) : U1 X (ix2 s J) = up 1 (fun r => X (ix2 r J)) s := by
  unfold up
  pointwise [U1]
  by_cases h : s.val < 2047
  · refine (dif_pos h).trans (Eq.trans ?_ (dif_pos (by omega)).symm)
    exact congrArg (fun z : Fin 2048 => X (ix2 z J)) (Fin.ext (Nat.add_comm _ _))
  · refine (dif_neg h).trans ?_
    rw [dif_neg (show ¬s.val + 1 < 2048 by omega)]

theorem u2_at (X) (s : Fin 2048) (J : Fin 1024) : U2 X (ix2 s J) = up 2 (fun r => X (ix2 r J)) s := by
  unfold up
  pointwise [U2]
  by_cases h : s.val < 2046
  · refine (dif_pos h).trans (Eq.trans ?_ (dif_pos (by omega)).symm)
    exact congrArg (fun z : Fin 2048 => X (ix2 z J)) (Fin.ext (Nat.add_comm _ _))
  · refine (dif_neg h).trans ?_
    rw [dif_neg (show ¬s.val + 2 < 2048 by omega)]

theorem ds_at (A0 A1) (s : Fin 2048) (J : Fin 1024) : DS A0 A1 (ix2 s J) = A1 (ix2 s ⟨J.val, by omega⟩) * A0 (ix2 s J) := by
  pointwise [DS]

/-- The derivative of the convolution of one column. -/
def back (d : Fin 2048 → EReal) (w : Fin 3 → EReal) (s : Fin 2048) : EReal := d s * w 2 + up 1 d s * w 1 + up 2 d s * w 0

theorem dp_at (Z A2) (s : Fin 2048) (J : Fin 1024) : DP Z A2 (ix2 s J) = back (fun r => Z (ix2 r J)) (fun k => A2 (ix2 k J)) s := by
  unfold back
  rw [up_mul, up_mul]
  have h1 : U1 (mulf Z (W1 A2)) (ix2 s J) = up 1 (fun r => Z (ix2 r J) * A2 (ix2 1 J)) s :=
    (u1_at _ s J).trans (congrArg (fun f => up 1 f s) (funext fun r => congrArg (Z (ix2 r J) * ·) (w1_at A2 r J)))
  have h2 : U2 (mulf Z (W0 A2)) (ix2 s J) = up 2 (fun r => Z (ix2 r J) * A2 (ix2 0 J)) s :=
    (u2_at _ s J).trans (congrArg (fun f => up 2 f s) (funext fun r => congrArg (Z (ix2 r J) * ·) (w0_at A2 r J)))
  exact congrArg₂ (· + ·) (congrArg₂ (· + ·) (congrArg (Z (ix2 s J) * ·) (w2_at A2 s J)) h1) h2

theorem r8_at0 (X Y2 Y1 Z) (J : Fin 1024) : R8 X Y2 Y1 Z (ix2 0 J) = ∑ r : Fin 2048, Z (ix2 r J) * Y2 (ix2 r J) := by
  rw [show (∑ r : Fin 2048, Z (ix2 r J) * Y2 (ix2 r J)) = ∑ r : Fin 2048, Y2 (ix2 r J) * Z (ix2 r J) from Finset.sum_congr rfl fun _ _ => mul_comm _ _]
  pointwise [R8]
  simp only [Finset.sum_const, Finset.card_univ, Fintype.card_fin, one_smul]

theorem r8_at1 (X Y2 Y1 Z) (J : Fin 1024) : R8 X Y2 Y1 Z (ix2 1 J) = ∑ r : Fin 2048, Z (ix2 r J) * Y1 (ix2 r J) := by
  rw [show (∑ r : Fin 2048, Z (ix2 r J) * Y1 (ix2 r J)) = ∑ r : Fin 2048, Y1 (ix2 r J) * Z (ix2 r J) from Finset.sum_congr rfl fun _ _ => mul_comm _ _]
  pointwise [R8]
  simp only [Finset.sum_const, Finset.card_univ, Fintype.card_fin, one_smul]

theorem r8_at2 (X Y2 Y1 Z) (J : Fin 1024) : R8 X Y2 Y1 Z (ix2 2 J) = ∑ r : Fin 2048, Z (ix2 r J) * X (ix2 r J) := by
  rw [show (∑ r : Fin 2048, Z (ix2 r J) * X (ix2 r J)) = ∑ r : Fin 2048, X (ix2 r J) * Z (ix2 r J) from Finset.sum_congr rfl fun _ _ => mul_comm _ _]
  pointwise [R8]
  simp only [Finset.sum_const, Finset.card_univ, Fintype.card_fin, one_smul]

theorem r5_at (A0 A1 A2) (s : Fin 2048) (J : Fin 1024) : R5 A0 A1 A2 (ix2 s J) = A0 (ix2 s J) * SC A1 A2 (ix2 s J) := by
  unfold R5
  generalize SC A1 A2 = Z
  pointwise

theorem r6_at (A0 A1 A2) (s : Fin 2048) (J : Fin 1024) : R6 A0 A1 A2 (ix2 s J) = DP (DS A0 A1) A2 (ix2 s J) * A1 (ix2 s ⟨2048 + J.val, by omega⟩) := by
  unfold R6
  generalize DP (DS A0 A1) A2 = Z
  pointwise

theorem r7_at (A0 A1 A2) (s : Fin 2048) (J : Fin 1024) : R7 A0 A1 A2 (ix2 s J) = A1 (ix2 s ⟨1024 + J.val, by omega⟩) * DP (DS A0 A1) A2 (ix2 s J) := by
  unfold R7
  generalize DP (DS A0 A1) A2 = Z
  pointwise

/-! ## The call's stores -/

theorem pay7_at (a b w c) (s : Fin 2048) (j : Fin 256) : k0_pay7 (F := Ideal) a b w c (ix2 s j)
    = c (ix2 s j) * taps (fun r => a (ix2 r j) * b (ix2 r j)) (fun k => w (ix2 k j)) s := by
  have e1 := sel_down 1 (by omega) (fun r => a (ix2 r j) * b (ix2 r j)) s (w (ix2 1 j))
  have e2 := sel_down 2 (by omega) (fun r => a (ix2 r j) * b (ix2 r j)) s (w (ix2 0 j))
  beta_reduce at e1 e2
  unfold taps
  rw [← e1, ← e2]
  pointwise [k0_pay7, k0_pay6, k0_pay5, k0_pay4, k0_pay3, k0_pay2, k0_pay1]

theorem pay10_at (w d c) (s : Fin 2048) (j : Fin 256) : k0_pay10 (F := Ideal) w (k0_pay8 (F := Ideal) d c) (k0_pay9 (F := Ideal) w d c) (ix2 s j)
    = back (fun r => d (ix2 r j) * c (ix2 r j)) (fun k => w (ix2 k j)) s := by
  have e1 := sel_up 1 2047 rfl (by omega) (fun r => d (ix2 r j) * c (ix2 r j)) s (w (ix2 1 j))
  have e2 := sel_up 2 2046 rfl (by omega) (fun r => d (ix2 r j) * c (ix2 r j)) s (w (ix2 0 j))
  beta_reduce at e1 e2
  unfold back
  rw [← e1, ← e2]
  pointwise [k0_pay10, k0_pay9, k0_pay8, k0_pay4]

theorem pay5_at (a b) (s : Fin 2048) (j : Fin 256) : k0_pay5 (F := Ideal) a b (ix2 s j) = down 2 (fun r => a (ix2 r j) * b (ix2 r j)) s := by
  have e1 := sel_down 2 (by omega) (fun r => a (ix2 r j) * b (ix2 r j)) s 1
  beta_reduce at e1
  simp only [mul_one] at e1
  rw [← e1]
  pointwise [k0_pay5, k0_pay3, k0_pay2, k0_pay1]

theorem pay6_at (a b) (s : Fin 2048) (j : Fin 256) : k0_pay6 (F := Ideal) a b (ix2 s j) = down 1 (fun r => a (ix2 r j) * b (ix2 r j)) s := by
  have e1 := sel_down 1 (by omega) (fun r => a (ix2 r j) * b (ix2 r j)) s 1
  beta_reduce at e1
  simp only [mul_one] at e1
  rw [← e1]
  pointwise [k0_pay6, k0_pay3, k0_pay2, k0_pay1]

theorem pay13_at (X Z) (p : Fin 1) (j : Fin 256) : k0_pay13 (F := Ideal) X Z (ix2 p j) = ∑ r : Fin 2048, Z (ix2 r j) * X (ix2 r j) := by
  pointwise [k0_pay13]

theorem pay14_at (X Z) (p : Fin 1) (j : Fin 256) : k0_pay14 (F := Ideal) X Z (ix2 p j) = ∑ r : Fin 2048, Z (ix2 r j) * X (ix2 r j) := by
  pointwise [k0_pay14]

theorem pay15_at (X Z) (p : Fin 1) (j : Fin 256) : k0_pay15 (F := Ideal) X Z (ix2 p j) = ∑ r : Fin 2048, Z (ix2 r j) * X (ix2 r j) := by
  pointwise [k0_pay15]

theorem pay8_at (d c) (s : Fin 2048) (j : Fin 256) : k0_pay8 (F := Ideal) d c (ix2 s j) = d (ix2 s j) * c (ix2 s j) := by
  pointwise [k0_pay8, k0_pay4]

theorem pay3_at (a b) (s : Fin 2048) (j : Fin 256) : k0_pay3 (F := Ideal) a b (ix2 s j) = a (ix2 s j) * b (ix2 s j) := by
  pointwise [k0_pay3, k0_pay2, k0_pay1]

theorem pay11_at (b w d c) (s : Fin 2048) (j : Fin 256) :
    k0_pay11 (F := Ideal) (k0_pay2 (F := Ideal) b) w (k0_pay8 (F := Ideal) d c) (k0_pay9 (F := Ideal) w d c) (ix2 s j)
    = back (fun r => d (ix2 r j) * c (ix2 r j)) (fun k => w (ix2 k j)) s * b (ix2 s j) := by
  rw [← pay10_at]
  unfold k0_pay11
  generalize k0_pay10 (F := Ideal) w (k0_pay8 (F := Ideal) d c) (k0_pay9 (F := Ideal) w d c) = Z
  pointwise [k0_pay2]

theorem pay12_at (a w d c) (s : Fin 2048) (j : Fin 256) :
    k0_pay12 (F := Ideal) (k0_pay1 (F := Ideal) a) w (k0_pay8 (F := Ideal) d c) (k0_pay9 (F := Ideal) w d c) (ix2 s j)
    = back (fun r => d (ix2 r j) * c (ix2 r j)) (fun k => w (ix2 k j)) s * a (ix2 s j) := by
  rw [← pay10_at]
  unfold k0_pay12
  generalize k0_pay10 (F := Ideal) w (k0_pay8 (F := Ideal) d c) (k0_pay9 (F := Ideal) w d c) = Z
  pointwise [k0_pay1]

/-! ## The points -/

variable (m : (ℓ : Loc nD τ sig) → Buf (Elt Ideal) ℓ)

abbrev A0 (c : Dev nD) : FVec Ideal S2048x1024 .bf16 := m ((c : Thread nD τ).loc main_arg0)
abbrev A1 (c : Dev nD) : FVec Ideal S2048x8192 .bf16 := m ((c : Thread nD τ).loc main_arg1)
abbrev A2 (c : Dev nD) : FVec Ideal S3x1024 .f32 := m ((c : Thread nD τ).loc main_arg2)

/-- The blocks over all the points. -/
theorem idx : ∀ t : Fin cfg0.N, win0_0.index t = ![0, t.val] ∧ win0_1.index t = ![0, t.val] ∧ win0_2.index t = ![0, 4 + t.val]
    ∧ win0_3.index t = ![0, 8 + t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- A block of columns of the gradient, of the projection's three thirds and of the filter. -/
abbrev b0 (c : Dev nD) (t : Fin cfg0.N) : FVec Ideal S2048x256 .bf16 := iblk m c 0 t
abbrev b1 (c : Dev nD) (t : Fin cfg0.N) : FVec Ideal S2048x256 .bf16 := iblk m c 1 t
abbrev b2 (c : Dev nD) (t : Fin cfg0.N) : FVec Ideal S2048x256 .bf16 := iblk m c 2 t
abbrev b3 (c : Dev nD) (t : Fin cfg0.N) : FVec Ideal S2048x256 .bf16 := iblk m c 3 t
abbrev b4 (c : Dev nD) (t : Fin cfg0.N) : FVec Ideal S3x256 .f32 := iblk m c 4 t

theorem b0_at (c : Dev nD) (t : Fin cfg0.N) (p : Fin 2048) (q : Fin 256) (Q : Fin 1024) (hQ : Q.val = t.val * 256 + q.val) :
    b0 m c t (ix2 p q) = A0 m c (ix2 p Q) := by
  blk_point [iblk, V, idx t]

theorem b1_at (c : Dev nD) (t : Fin cfg0.N) (p : Fin 2048) (q : Fin 256) (Q : Fin 8192) (hQ : Q.val = t.val * 256 + q.val) :
    b1 m c t (ix2 p q) = A1 m c (ix2 p Q) := by
  blk_point [iblk, V, idx t]

theorem b2_at (c : Dev nD) (t : Fin cfg0.N) (p : Fin 2048) (q : Fin 256) (Q : Fin 8192) (hQ : Q.val = 1024 + (t.val * 256 + q.val)) :
    b2 m c t (ix2 p q) = A1 m c (ix2 p Q) := by
  blk_point [iblk, V, idx t]

theorem b3_at (c : Dev nD) (t : Fin cfg0.N) (p : Fin 2048) (q : Fin 256) (Q : Fin 8192) (hQ : Q.val = 2048 + (t.val * 256 + q.val)) :
    b3 m c t (ix2 p q) = A1 m c (ix2 p Q) := by
  blk_point [iblk, V, idx t]

theorem b4_at (c : Dev nD) (t : Fin cfg0.N) (p : Fin 3) (q : Fin 256) (Q : Fin 1024) (hQ : Q.val = t.val * 256 + q.val) :
    b4 m c t (ix2 p q) = A2 m c (ix2 p Q) := by
  blk_point [iblk, V, idx t]

/-- The point's product, filter and incoming gradient, column by column. -/
theorem prod_at (c : Dev nD) (t : Fin cfg0.N) (q : Fin 256) (Q : Fin 1024) (hQ : Q.val = t.val * 256 + q.val) :
    (fun r => b2 m c t (ix2 r q) * b3 m c t (ix2 r q)) = fun r => A1 m c (ix2 r ⟨1024 + Q.val, by omega⟩) * A1 m c (ix2 r ⟨2048 + Q.val, by omega⟩) := by
  funext r
  rw [b2_at m c t r q ⟨1024 + Q.val, by omega⟩ (by show 1024 + Q.val = _; omega),
    b3_at m c t r q ⟨2048 + Q.val, by omega⟩ (by show 2048 + Q.val = _; omega)]

theorem filter_at (c : Dev nD) (t : Fin cfg0.N) (q : Fin 256) (Q : Fin 1024) (hQ : Q.val = t.val * 256 + q.val) : (fun k => b4 m c t (ix2 k q)) = fun k => A2 m c (ix2 k Q) := by
  funext k
  rw [b4_at m c t k q Q hQ]

theorem grad_at (c : Dev nD) (t : Fin cfg0.N) (q : Fin 256) (Q : Fin 1024) (hQ : Q.val = t.val * 256 + q.val) (r : Fin 2048) : b0 m c t (ix2 r q) * b1 m c t (ix2 r q) = DS (A0 m c) (A1 m c) (ix2 r Q) := by
  rw [show DS (A0 m c) (A1 m c) (ix2 r Q) = _ from ds_at _ _ r Q, b0_at m c t r q Q hQ, b1_at m c t r q ⟨Q.val, by omega⟩ hQ, mul_comm]

theorem back_at (c : Dev nD) (t : Fin cfg0.N) (q : Fin 256) (Q : Fin 1024) (hQ : Q.val = t.val * 256 + q.val) (p : Fin 2048) :
    back (fun r => b0 m c t (ix2 r q) * b1 m c t (ix2 r q)) (fun k => b4 m c t (ix2 k q)) p = DP (DS (A0 m c) (A1 m c)) (A2 m c) (ix2 p Q) := by
  rw [filter_at m c t q Q hQ, show (fun r => b0 m c t (ix2 r q) * b1 m c t (ix2 r q)) = fun r => DS (A0 m c) (A1 m c) (ix2 r Q) from
    funext fun r => grad_at m c t q Q hQ r]
  exact (dp_at _ _ p Q).symm

theorem ld_all (X : Vec Ideal S2048x256 .bf16) : View.ld (Val := Elt Ideal) X r0_0 = X := View.ld_unit_lit _ _ (by decide)
theorem ld_filter (X : Vec Ideal S3x256 .f32) : View.ld (Val := Elt Ideal) X r0_1 = X := View.ld_unit_lit _ _ (by decide)

theorem out5 (c : Dev nD) (t : Fin cfg0.N) : out0_5 (F := Ideal) (b0 m c t) (b1 m c t) (b2 m c t) (b3 m c t) (b4 m c t)
    = k0_pay7 (F := Ideal) (b2 m c t) (b3 m c t) (b4 m c t) (b0 m c t) := by
  frame_out

theorem point5 (c : Dev nD) (t : Fin cfg0.N) (p : Fin 2048) (q : Fin 256) (Q : Fin 1024) (hQ : Q.val = t.val * 256 + q.val) :
    k0_pay7 (F := Ideal) (b2 m c t) (b3 m c t) (b4 m c t) (b0 m c t) (ix2 p q)
    = R5 (A0 m c) (A1 m c) (A2 m c) (ix2 p Q) := by
  rw [pay7_at, r5_at, prod_at m c t q Q hQ, filter_at m c t q Q hQ, b0_at m c t p q Q hQ]
  exact congrArg _ (sc_at _ _ p Q).symm

theorem final5 (c : Dev nD) : (dats m 0 c).arrAt 5 (cfgs 0).N = R5 (A0 m c) (A1 m c) (A2 m c) := by
  refine (dats m 0 c).arrAt_eq_of_covers 5 _ (by decide +kernel) fun t hf y => ?_
  have ht : t.val < 4 := t.isLt
  blk_simp
  rw [after0_5, out5 m c t]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 5).blk t).view.emb (ix2 p q) = ix2 p Q := by blk_ext [idx t]
  rw [ee]
  exact point5 m c t p q Q hQ

theorem out6 (c : Dev nD) (t : Fin cfg0.N) : out0_6 (F := Ideal) (b0 m c t) (b1 m c t) (b2 m c t) (b3 m c t) (b4 m c t)
    = k0_pay11 (F := Ideal) (k0_pay2 (F := Ideal) (b3 m c t)) (b4 m c t) (k0_pay8 (F := Ideal) (b0 m c t) (b1 m c t)) (k0_pay9 (F := Ideal) (b4 m c t) (b0 m c t) (b1 m c t)) := by
  frame_out
  rw [k0_pay16, k0_pay17]
  simp only [ld_all, ld_filter]

theorem point6 (c : Dev nD) (t : Fin cfg0.N) (p : Fin 2048) (q : Fin 256) (Q : Fin 1024) (hQ : Q.val = t.val * 256 + q.val) :
    k0_pay11 (F := Ideal) (k0_pay2 (F := Ideal) (b3 m c t)) (b4 m c t) (k0_pay8 (F := Ideal) (b0 m c t) (b1 m c t)) (k0_pay9 (F := Ideal) (b4 m c t) (b0 m c t) (b1 m c t)) (ix2 p q)
    = R6 (A0 m c) (A1 m c) (A2 m c) (ix2 p Q) := by
  rw [pay11_at, r6_at, back_at m c t q Q hQ, b3_at m c t p q ⟨2048 + Q.val, by omega⟩ (by show 2048 + Q.val = _; omega)]

theorem final6 (c : Dev nD) : (dats m 0 c).arrAt 6 (cfgs 0).N = R6 (A0 m c) (A1 m c) (A2 m c) := by
  refine (dats m 0 c).arrAt_eq_of_covers 6 _ (by decide +kernel) fun t hf y => ?_
  have ht : t.val < 4 := t.isLt
  blk_simp
  rw [after0_6, out6 m c t]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 6).blk t).view.emb (ix2 p q) = ix2 p Q := by blk_ext [idx t]
  rw [ee]
  exact point6 m c t p q Q hQ

theorem out7 (c : Dev nD) (t : Fin cfg0.N) : out0_7 (F := Ideal) (b0 m c t) (b1 m c t) (b2 m c t) (b3 m c t) (b4 m c t)
    = k0_pay12 (F := Ideal) (k0_pay1 (F := Ideal) (b2 m c t)) (b4 m c t) (k0_pay8 (F := Ideal) (b0 m c t) (b1 m c t)) (k0_pay9 (F := Ideal) (b4 m c t) (b0 m c t) (b1 m c t)) := by
  frame_out
  rw [k0_pay16, k0_pay17]
  simp only [ld_all, ld_filter]

theorem point7 (c : Dev nD) (t : Fin cfg0.N) (p : Fin 2048) (q : Fin 256) (Q : Fin 1024) (hQ : Q.val = t.val * 256 + q.val) :
    k0_pay12 (F := Ideal) (k0_pay1 (F := Ideal) (b2 m c t)) (b4 m c t) (k0_pay8 (F := Ideal) (b0 m c t) (b1 m c t)) (k0_pay9 (F := Ideal) (b4 m c t) (b0 m c t) (b1 m c t)) (ix2 p q)
    = R7 (A0 m c) (A1 m c) (A2 m c) (ix2 p Q) := by
  rw [pay12_at, r7_at, back_at m c t q Q hQ, b2_at m c t p q ⟨1024 + Q.val, by omega⟩ (by show 1024 + Q.val = _; omega), mul_comm]

theorem final7 (c : Dev nD) : (dats m 0 c).arrAt 7 (cfgs 0).N = R7 (A0 m c) (A1 m c) (A2 m c) := by
  refine (dats m 0 c).arrAt_eq_of_covers 7 _ (by decide +kernel) fun t hf y => ?_
  have ht : t.val < 4 := t.isLt
  blk_simp
  rw [after0_7, out7 m c t]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 7).blk t).view.emb (ix2 p q) = ix2 p Q := by blk_ext [idx t]
  rw [ee]
  exact point7 m c t p q Q hQ

/-! ## The filter's gradient, a row a store -/

/-- The reference's rows of the filter's gradient. -/
abbrev RW (A0 : FVec Ideal S2048x1024 .bf16) (A1 : FVec Ideal S2048x8192 .bf16) : FVec Ideal S3x1024 .f32 :=
  R8 (P A1) (D2 (P A1)) (D1 (P A1)) (DS A0 A1)

theorem row0 (c : Dev nD) (t : Fin cfg0.N) (p : Fin 1) (q : Fin 256) (Q : Fin 1024) (hQ : Q.val = t.val * 256 + q.val) :
    k0_pay13 (F := Ideal) (k0_pay5 (F := Ideal) (b2 m c t) (b3 m c t)) (k0_pay8 (F := Ideal) (b0 m c t) (b1 m c t)) (ix2 p q) = RW (A0 m c) (A1 m c) (ix2 0 Q) := by
  rw [pay13_at, RW, r8_at0]
  refine Finset.sum_congr rfl fun r _ => ?_
  rw [pay8_at, pay5_at, grad_at m c t q Q hQ]
  refine congrArg _ ?_
  exact (congrArg (fun f => down 2 f r) ((prod_at m c t q Q hQ).trans (funext fun r => (p_at _ r Q).symm))).trans (d2_at _ r Q).symm

theorem row1 (c : Dev nD) (t : Fin cfg0.N) (p : Fin 1) (q : Fin 256) (Q : Fin 1024) (hQ : Q.val = t.val * 256 + q.val) :
    k0_pay14 (F := Ideal) (k0_pay6 (F := Ideal) (b2 m c t) (b3 m c t)) (k0_pay8 (F := Ideal) (b0 m c t) (b1 m c t)) (ix2 p q) = RW (A0 m c) (A1 m c) (ix2 1 Q) := by
  rw [pay14_at, RW, r8_at1]
  refine Finset.sum_congr rfl fun r _ => ?_
  rw [pay8_at, pay6_at, grad_at m c t q Q hQ]
  refine congrArg _ ?_
  exact (congrArg (fun f => down 1 f r) ((prod_at m c t q Q hQ).trans (funext fun r => (p_at _ r Q).symm))).trans (d1_at _ r Q).symm

theorem row2 (c : Dev nD) (t : Fin cfg0.N) (p : Fin 1) (q : Fin 256) (Q : Fin 1024) (hQ : Q.val = t.val * 256 + q.val) :
    k0_pay15 (F := Ideal) (k0_pay3 (F := Ideal) (b2 m c t) (b3 m c t)) (k0_pay8 (F := Ideal) (b0 m c t) (b1 m c t)) (ix2 p q) = RW (A0 m c) (A1 m c) (ix2 2 Q) := by
  rw [pay15_at, RW, r8_at2]
  refine Finset.sum_congr rfl fun r _ => ?_
  rw [pay8_at, pay3_at, grad_at m c t q Q hQ]
  refine congrArg _ ?_
  exact (congrFun (prod_at m c t q Q hQ) r).trans (p_at _ r Q).symm

theorem point8 (c : Dev nD) (t : Fin cfg0.N) (y) :
    out0_8 (F := Ideal) (b0 m c t) (b1 m c t) (b2 m c t) (b3 m c t) (b4 m c t) y = RW (A0 m c) (A1 m c) (((cfg0.win 8).blk t).view.emb y) := by
  have ht : t.val < 4 := t.isLt
  unfold out0_8 k0_pay16
  simp only [ld_all]
  canon_tiles x h
  all_goals
    obtain ⟨Q, hQ⟩ : ∃ Q : Fin 1024, Q.val = t.val * 256 + (x 1).val := ⟨⟨_, by omega⟩, rfl⟩
    have ex : x = ix2 (0 : Fin 1) (x 1) := by blk_ext
    rw [ex]
  case piece0 =>
    have ee : ((cfg0.win 8).blk t).view.emb y = ix2 (2 : Fin 3) Q := by blk_ext [idx t]
    rw [ee]
    exact row2 m c t 0 (x 1) Q hQ
  case piece1 =>
    have ee : ((cfg0.win 8).blk t).view.emb y = ix2 (1 : Fin 3) Q := by blk_ext [idx t]
    rw [ee]
    exact row1 m c t 0 (x 1) Q hQ
  case piece2 =>
    have ee : ((cfg0.win 8).blk t).view.emb y = ix2 (0 : Fin 3) Q := by blk_ext [idx t]
    rw [ee]
    exact row0 m c t 0 (x 1) Q hQ

theorem final8 (c : Dev nD) : (dats m 0 c).arrAt 8 (cfgs 0).N = RW (A0 m c) (A1 m c) := by
  refine (dats m 0 c).arrAt_eq_of_covers 8 _ (by decide +kernel) fun t hf y => ?_
  blk_simp
  rw [after0_8]
  exact point8 m c t y

/-- Equal arguments have equal results. -/
theorem results {A0 B0 A1 B1 A2 B2} (e0 : B0 = A0) (e1 : B1 = A1) (e2 : B2 = A2) : R5 A0 A1 A2 = R5 B0 B1 B2 ∧ R6 A0 A1 A2 = R6 B0 B1 B2
    ∧ R7 A0 A1 A2 = R7 B0 B1 B2 ∧ RW A0 A1 = RW B0 B1 := by
  subst e0 e1 e2; exact ⟨rfl, rfl, rfl, rfl⟩

theorem frame_kernel : Cert.quiescent_KernelConv := fun m ρ _ => Cert.KernelConv.Gen.frame m ρ
theorem frame_kernelIdeal : Cert.quiescent_KernelConvIdeal := fun m ρ _ => Cert.KernelConvIdeal.Gen.frame m ρ
theorem frame_reference : Cert.quiescent_ReferenceConvIdeal := fun m ρ _ =>
  (θ_run Cert.ReferenceConvIdeal.defs _ _).mono
    (fun r h => ⟨fun c => (h c).2.2.2.2, Idealize.ShloMosaic.sem_eq_zero_of_no_sems (by decide) r.2⟩) (Cert.ReferenceConvIdeal.Value.run (F := Ideal) m ρ)

/-- Kernel and reference end with the same arrays. -/
theorem equal_results : Cert.algebraic_KernelConvIdeal_ReferenceConvIdeal := by
  intro m g m' g' hpre hin
  refine ⟨fun c => R5 (A0 m c) (A1 m c) (A2 m c), fun c => R6 (A0 m c) (A1 m c) (A2 m c), fun c => R7 (A0 m c) (A1 m c) (A2 m c),
    fun c => RW (A0 m c) (A1 m c), ?_, ?_⟩
  · refine (θ_run Cert.KernelConvIdeal.defs _ _).mono (fun r h c => ?_) (Cert.KernelConvIdeal.Value.run_blocks (F := Ideal) m g)
    exact ⟨(h c).1.trans (final5 m c), (h c).2.1.trans (final6 m c), (h c).2.2.1.trans (final7 m c), (h c).2.2.2.1.trans (final8 m c), (h c).2.2.2.2⟩
  · refine (θ_run Cert.ReferenceConvIdeal.defs _ _).mono (fun r h c => ?_) (Cert.ReferenceConvIdeal.Value.run (F := Ideal) m' g')
    obtain ⟨e0, e1, e2⟩ := hin c
    have f : R5 (A0 m c) (A1 m c) (A2 m c) = R5 (m' ((c : Thread nD τ).loc Cert.ReferenceConvIdeal.main_arg0)) (m' ((c : Thread nD τ).loc Cert.ReferenceConvIdeal.main_arg1)) (m' ((c : Thread nD τ).loc Cert.ReferenceConvIdeal.main_arg2))
        ∧ R6 (A0 m c) (A1 m c) (A2 m c) = R6 (m' ((c : Thread nD τ).loc Cert.ReferenceConvIdeal.main_arg0)) (m' ((c : Thread nD τ).loc Cert.ReferenceConvIdeal.main_arg1)) (m' ((c : Thread nD τ).loc Cert.ReferenceConvIdeal.main_arg2))
        ∧ R7 (A0 m c) (A1 m c) (A2 m c) = R7 (m' ((c : Thread nD τ).loc Cert.ReferenceConvIdeal.main_arg0)) (m' ((c : Thread nD τ).loc Cert.ReferenceConvIdeal.main_arg1)) (m' ((c : Thread nD τ).loc Cert.ReferenceConvIdeal.main_arg2))
        ∧ RW (A0 m c) (A1 m c) = RW (m' ((c : Thread nD τ).loc Cert.ReferenceConvIdeal.main_arg0)) (m' ((c : Thread nD τ).loc Cert.ReferenceConvIdeal.main_arg1)) := results e0 e1 e2
    exact ⟨(h c).1.trans f.1.symm, (h c).2.1.trans f.2.1.symm, (h c).2.2.1.trans f.2.2.1.symm, (h c).2.2.2.1.trans f.2.2.2.symm, (h c).2.2.2.2⟩

end
end Cert.Proof.Conv
-- ==== Proof.Dmerge.lean ====
module
public import proofs.«01_k».proof.Defs
public import proofs.«01_k».proof.Proof.Gen.KernelDmergeIdeal.Value
public import proofs.«01_k».proof.Proof.Gen.KernelDmerge.Frame
public import proofs.«01_k».proof.Proof.Gen.ReferenceDmergeIdeal.Run
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim

/-! The gradients through the mixer's merge: the call's tiles of the branches' and the gates' gradients, and the biases'
    gradients added up over the blocks of rows, against the derivative of the gated sum's projection. -/

set_option maxRecDepth 16384

@[expose] public section

namespace Cert.Proof.Dmerge
open Idealize.ShloMosaic Idealize.ShloMosaic.TcCoe Idealize.SL.Sem Cert.KernelDmergeIdeal Cert.KernelDmergeIdeal.Gen
open Idealize.ShloMosaic.Pipeline (Dat)

noncomputable section

/-- The gradient of the merged rows and the gates, as the reference computes them. -/
abbrev DM (A0 : FVec Ideal S2048x1024 .bf16) (A1 : FVec Ideal S1024x1024 .bf16) : FVec Ideal S2048x1024 .f32 :=
  Host.dotGeneral Cert.ReferenceDmergeIdeal.dot_S2048x1024_S1024x1024_S2048x1024_1_1_0_0_n_n none (extf .f32 A0
    Cert.ReferenceDmergeIdeal.Gen.bitsLt_bf16_f32) (extf .f32 A1 Cert.ReferenceDmergeIdeal.Gen.bitsLt_bf16_f32)

abbrev GT (A4 : FVec Ideal S2048x8192 .bf16) (A5 : FVec Ideal S1x2048 .f32) : FVec Ideal Cert.ReferenceDmergeIdeal.S2048x2048 .f32 :=
  Host.divf (broadcastInDim Cert.ReferenceDmergeIdeal.S2048x2048 ![] Cert.ReferenceDmergeIdeal.Gen.bcast_S_S2048x2048 (constant
    Cert.ReferenceDmergeIdeal.S_ .f32 0x3F800000#32)) (addf (broadcastInDim Cert.ReferenceDmergeIdeal.S2048x2048 ![]
    Cert.ReferenceDmergeIdeal.Gen.bcast_S_S2048x2048 (constant Cert.ReferenceDmergeIdeal.S_ .f32 0x3F800000#32)) (Host.exp
    (Host.negf (addf (extf .f32 (extractStridedSlice Cert.ReferenceDmergeIdeal.S2048x2048 ![0, 6144] A4
    Cert.ReferenceDmergeIdeal.Gen.slices_S2048x8192_S2048x2048_0_6144) Cert.ReferenceDmergeIdeal.Gen.bitsLt_bf16_f32)
    (broadcastInDim Cert.ReferenceDmergeIdeal.S2048x2048 ![0, 1] Cert.ReferenceDmergeIdeal.Gen.bcast_S1x2048_S2048x2048_0_1
    A5)))))

/-- The gates' gradients and the six results, from these two. -/
abbrev DG (D : FVec Ideal S2048x1024 .f32) (A2 A3 : FVec Ideal S2048x1024 .bf16) (G : FVec Ideal Cert.ReferenceDmergeIdeal.S2048x2048 .f32) : FVec Ideal Cert.ReferenceDmergeIdeal.S2048x2048 .f32 :=
  mulf (concatenate Cert.ReferenceDmergeIdeal.S2048x2048 1 [⟨Cert.ReferenceDmergeIdeal.S2048x1024, (mulf D (extf .f32 A2
    Cert.ReferenceDmergeIdeal.Gen.bitsLt_bf16_f32))⟩, ⟨Cert.ReferenceDmergeIdeal.S2048x1024, (mulf D (extf .f32 A3
    Cert.ReferenceDmergeIdeal.Gen.bitsLt_bf16_f32))⟩]
    Cert.ReferenceDmergeIdeal.Gen.concatenates_S2048x1024_S2048x1024_S2048x2048_d1) (mulf G (subf (broadcastInDim
    Cert.ReferenceDmergeIdeal.S2048x2048 ![] Cert.ReferenceDmergeIdeal.Gen.bcast_S_S2048x2048 (constant
    Cert.ReferenceDmergeIdeal.S_ .f32 0x3F800000#32)) G))

abbrev R8 (D : FVec Ideal S2048x1024 .f32) (G : FVec Ideal Cert.ReferenceDmergeIdeal.S2048x2048 .f32) : FVec Ideal S2048x1024 .bf16 :=
  truncf .bf16 (mulf (extractStridedSlice Cert.ReferenceDmergeIdeal.S2048x1024 ![0, 0] G
    Cert.ReferenceDmergeIdeal.Gen.slices_S2048x2048_S2048x1024_0_0) D) Cert.ReferenceDmergeIdeal.Gen.bitsLt_bf16_f32

abbrev R9 (D : FVec Ideal S2048x1024 .f32) (G : FVec Ideal Cert.ReferenceDmergeIdeal.S2048x2048 .f32) : FVec Ideal S2048x1024 .bf16 :=
  truncf .bf16 (mulf (extractStridedSlice Cert.ReferenceDmergeIdeal.S2048x1024 ![0, 1024] G
    Cert.ReferenceDmergeIdeal.Gen.slices_S2048x2048_S2048x1024_0_1024) D) Cert.ReferenceDmergeIdeal.Gen.bitsLt_bf16_f32

abbrev R10 (D : FVec Ideal S2048x1024 .f32) (A2 A3 : FVec Ideal S2048x1024 .bf16) (G : FVec Ideal Cert.ReferenceDmergeIdeal.S2048x2048 .f32) : FVec Ideal S2048x1024 .bf16 :=
  truncf .bf16 (extractStridedSlice Cert.ReferenceDmergeIdeal.S2048x1024 ![0, 0] (DG D A2 A3 G)
    Cert.ReferenceDmergeIdeal.Gen.slices_S2048x2048_S2048x1024_0_0) Cert.ReferenceDmergeIdeal.Gen.bitsLt_bf16_f32

abbrev R11 (D : FVec Ideal S2048x1024 .f32) (A2 A3 : FVec Ideal S2048x1024 .bf16) (G : FVec Ideal Cert.ReferenceDmergeIdeal.S2048x2048 .f32) : FVec Ideal S2048x1024 .bf16 :=
  truncf .bf16 (extractStridedSlice Cert.ReferenceDmergeIdeal.S2048x1024 ![0, 1024] (DG D A2 A3 G)
    Cert.ReferenceDmergeIdeal.Gen.slices_S2048x2048_S2048x1024_0_1024) Cert.ReferenceDmergeIdeal.Gen.bitsLt_bf16_f32

abbrev R12 (D : FVec Ideal S2048x1024 .f32) (A2 A3 : FVec Ideal S2048x1024 .bf16) (G : FVec Ideal Cert.ReferenceDmergeIdeal.S2048x2048 .f32) : FVec Ideal S1x1024 .f32 :=
  extractStridedSlice Cert.ReferenceDmergeIdeal.S1x1024 ![0, 0] (shapeCast _ (Host.reduceAdd (DG D A2 A3 G) (constant
    Cert.ReferenceDmergeIdeal.S_ .f32 0x00000000#32) Cert.ReferenceDmergeIdeal.Gen.reducesTo_S2048x2048_S2048_d0
    Cert.ReferenceDmergeIdeal.Gen.h_S_) Cert.ReferenceDmergeIdeal.Gen.shapeCasts_S2048_S1x2048)
    Cert.ReferenceDmergeIdeal.Gen.slices_S1x2048_S1x1024_0_0

abbrev R13 (D : FVec Ideal S2048x1024 .f32) (A2 A3 : FVec Ideal S2048x1024 .bf16) (G : FVec Ideal Cert.ReferenceDmergeIdeal.S2048x2048 .f32) : FVec Ideal S1x1024 .f32 :=
  extractStridedSlice Cert.ReferenceDmergeIdeal.S1x1024 ![0, 1024] (shapeCast _ (Host.reduceAdd (DG D A2 A3 G) (constant
    Cert.ReferenceDmergeIdeal.S_ .f32 0x00000000#32) Cert.ReferenceDmergeIdeal.Gen.reducesTo_S2048x2048_S2048_d0
    Cert.ReferenceDmergeIdeal.Gen.h_S_) Cert.ReferenceDmergeIdeal.Gen.shapeCasts_S2048_S1x2048)
    Cert.ReferenceDmergeIdeal.Gen.slices_S1x2048_S1x1024_0_1024

/-- A gate's gradient from the gradient of the merged rows, its branch and the gate. -/
def slope (d a g : EReal) : EReal := d * a * (g * (1 - g))

theorem r8_at (D G) (P : Fin 2048) (Q : Fin 1024) : R8 D G (ix2 P Q) = D (ix2 P Q) * G (ix2 P ⟨Q.val, by omega⟩) := by
  pointwise [R8]
  exact mul_comm _ _

theorem r9_at (D G) (P : Fin 2048) (Q : Fin 1024) : R9 D G (ix2 P Q) = D (ix2 P Q) * G (ix2 P ⟨1024 + Q.val, by omega⟩) := by
  pointwise [R9]
  exact mul_comm _ _

theorem r10_at (D A2 A3 G) (P : Fin 2048) (Q : Fin 1024) :
    R10 D A2 A3 G (ix2 P Q) = slope (D (ix2 P Q)) (A2 (ix2 P Q)) (G (ix2 P ⟨Q.val, by omega⟩)) := by
  unfold slope
  pointwise [R10, DG]

theorem r11_at (D A2 A3 G) (P : Fin 2048) (Q : Fin 1024) :
    R11 D A2 A3 G (ix2 P Q) = slope (D (ix2 P Q)) (A3 (ix2 P Q)) (G (ix2 P ⟨1024 + Q.val, by omega⟩)) := by
  unfold slope
  pointwise [R11, DG]

theorem r12_at (D A2 A3 G) (Q : Fin 1024) : R12 D A2 A3 G (ix2 (0 : Fin 1) Q)
    = ∑ P : Fin 2048, slope (D (ix2 P Q)) (A2 (ix2 P Q)) (G (ix2 P ⟨Q.val, by omega⟩)) := by
  unfold slope
  pointwise [R12, DG]

theorem r13_at (D A2 A3 G) (Q : Fin 1024) : R13 D A2 A3 G (ix2 (0 : Fin 1) Q)
    = ∑ P : Fin 2048, slope (D (ix2 P Q)) (A3 (ix2 P Q)) (G (ix2 P ⟨1024 + Q.val, by omega⟩)) := by
  unfold slope
  pointwise [R13, DG]

/-! ## The call's stores -/

theorem pay2_at (D G) (y) : k0_pay2 (F := Ideal) D G y = D y * G y := by pointwise [k0_pay2]
theorem pay3_at (D G) (y) : k0_pay3 (F := Ideal) D G y = D y * G y := by pointwise [k0_pay3]

theorem pay1_at (D G a) (y) : k0_pay1 (F := Ideal) D G a y = slope (D y) (a y) (G y) := by
  unfold slope
  pointwise [k0_pay1]
  exact mul_assoc _ _ _

theorem pay13_at (a b v3 v5 v) (y) : k0_pay13 (F := Ideal) a b v3 v5 v y = slope (k0_pay10 (F := Ideal) a b y) (v y) (k0_pay11 (F := Ideal) v3 v5 y) := by
  unfold slope k0_pay13
  generalize k0_pay10 (F := Ideal) a b = D
  generalize k0_pay11 (F := Ideal) v3 v5 = G
  pointwise
  exact mul_assoc _ _ _

theorem pay4_at (Z) (y) : k0_pay4 (F := Ideal) Z y = Z y := by pointwise [k0_pay4]

theorem pay5_at (D G a) (y) : k0_pay5 (F := Ideal) D G a y = k0_pay1 (F := Ideal) D G a y := by
  unfold k0_pay5
  generalize k0_pay1 (F := Ideal) D G a = Z
  pointwise

theorem pay6_at (Z) (q : Fin 512) : k0_pay6 (F := Ideal) Z (ix2 (0 : Fin 1) q) = ∑ p : Fin 1024, Z (ix2 p q) := by
  pointwise [k0_pay6]

theorem pay7_at (D G a) (q : Fin 512) : k0_pay7 (F := Ideal) D G a (ix2 (0 : Fin 1) q) = ∑ p : Fin 1024, k0_pay1 (F := Ideal) D G a (ix2 p q) := by
  unfold k0_pay7
  generalize k0_pay1 (F := Ideal) D G a = Z
  pointwise

theorem pay8_at (Z x) (q : Fin 512) : k0_pay8 (F := Ideal) Z x (ix2 (0 : Fin 1) q) = x (ix2 0 q) + k0_pay6 (F := Ideal) Z (ix2 0 q) := by
  unfold k0_pay8
  generalize k0_pay6 (F := Ideal) Z = Y
  pointwise

theorem pay9_at (D G a x) (q : Fin 512) : k0_pay9 (F := Ideal) D G a x (ix2 (0 : Fin 1) q) = x (ix2 0 q) + k0_pay7 (F := Ideal) D G a (ix2 0 q) := by
  unfold k0_pay9
  generalize k0_pay7 (F := Ideal) D G a = Y
  pointwise

/-! ## The points -/

variable (m : (ℓ : Loc nD τ sig) → Buf (Elt Ideal) ℓ)

/-- The arguments' blocks over all the points. -/
theorem idx : ∀ t : Fin cfg0.N, win0_0.index t = ![t.val % 2, 0] ∧ win0_1.index t = ![t.val / 2, 0]
    ∧ win0_2.index t = ![t.val % 2, t.val / 2] ∧ win0_3.index t = ![t.val % 2, t.val / 2]
    ∧ win0_4.index t = ![t.val % 2, 12 + t.val / 2] ∧ win0_5.index t = ![t.val % 2, 14 + t.val / 2]
    ∧ win0_6.index t = ![0, t.val / 2] ∧ win0_7.index t = ![0, t.val / 2]
    ∧ win0_8.index t = ![t.val % 2, t.val / 2] ∧ win0_9.index t = ![t.val % 2, t.val / 2]
    ∧ win0_10.index t = ![t.val % 2, t.val / 2] ∧ win0_11.index t = ![t.val % 2, t.val / 2]
    ∧ win0_12.index t = ![0, t.val / 2] ∧ win0_13.index t = ![0, t.val / 2] :=
  (by decide +kernel : ∀ t : Fin grid0.N, _)

/-- The arguments' arrays on a device. -/
abbrev A0 (c : Dev nD) : FVec Ideal S2048x1024 .bf16 := m ((c : Thread nD τ).loc main_arg0)
abbrev A1 (c : Dev nD) : FVec Ideal S1024x1024 .bf16 := m ((c : Thread nD τ).loc main_arg1)
abbrev A2 (c : Dev nD) : FVec Ideal S2048x1024 .bf16 := m ((c : Thread nD τ).loc main_arg2)
abbrev A3 (c : Dev nD) : FVec Ideal S2048x1024 .bf16 := m ((c : Thread nD τ).loc main_arg3)
abbrev A4 (c : Dev nD) : FVec Ideal S2048x8192 .bf16 := m ((c : Thread nD τ).loc main_arg4)
abbrev A5 (c : Dev nD) : FVec Ideal S1x2048 .f32 := m ((c : Thread nD τ).loc main_arg5)

abbrev D (c : Dev nD) : FVec Ideal S2048x1024 .f32 := DM (A0 m c) (A1 m c)
abbrev G (c : Dev nD) : FVec Ideal Cert.ReferenceDmergeIdeal.S2048x2048 .f32 := GT (A4 m c) (A5 m c)

/-- A point's product and gates. -/
abbrev bd (c : Dev nD) (t : Fin cfg0.N) : FVec Ideal S1024x512 .f32 := k0_pay10 (F := Ideal) (iblk m c 0 t) (iblk m c 1 t)
abbrev gc (c : Dev nD) (t : Fin cfg0.N) : FVec Ideal S1024x512 .f32 := k0_pay11 (F := Ideal) (iblk m c 4 t) (iblk m c 6 t)
abbrev gs (c : Dev nD) (t : Fin cfg0.N) : FVec Ideal S1024x512 .f32 := k0_pay12 (F := Ideal) (iblk m c 5 t) (iblk m c 7 t)

/-- A point's values are the arrays' at its place. -/
theorem d_at (c : Dev nD) (t : Fin cfg0.N) (p : Fin 1024) (q : Fin 512) (P : Fin 2048) (Q : Fin 1024) (hP : P.val = t.val % 2 * 1024 + p.val)
    (hQ : Q.val = t.val / 2 * 512 + q.val) : bd m c t (ix2 p q) = D m c (ix2 P Q) := by
  pointwise [k0_pay10, DM]
  blk_point [iblk, V, idx t]

theorem gc_at (c : Dev nD) (t : Fin cfg0.N) (p : Fin 1024) (q : Fin 512) (P : Fin 2048) (Q : Fin 2048) (hP : P.val = t.val % 2 * 1024 + p.val)
    (hQ : Q.val = t.val / 2 * 512 + q.val) : gc m c t (ix2 p q) = G m c (ix2 P Q) := by
  have ht : t.val < 4 := t.isLt
  pointwise [k0_pay11, GT]
  simp only [zero_sub]
  blk_point [iblk, V, idx t]

theorem gs_at (c : Dev nD) (t : Fin cfg0.N) (p : Fin 1024) (q : Fin 512) (P : Fin 2048) (Q : Fin 2048) (hP : P.val = t.val % 2 * 1024 + p.val)
    (hQ : Q.val = 1024 + (t.val / 2 * 512 + q.val)) : gs m c t (ix2 p q) = G m c (ix2 P Q) := by
  have ht : t.val < 4 := t.isLt
  pointwise [k0_pay12, GT]
  simp only [zero_sub]
  blk_point [iblk, V, idx t]

theorem ac_at (c : Dev nD) (t : Fin cfg0.N) (p : Fin 1024) (q : Fin 512) (P : Fin 2048) (Q : Fin 1024) (hP : P.val = t.val % 2 * 1024 + p.val)
    (hQ : Q.val = t.val / 2 * 512 + q.val) : (iblk m c 2 t : FVec Ideal S1024x512 .bf16) (ix2 p q) = A2 m c (ix2 P Q) := by
  blk_point [iblk, V, idx t]

theorem as_at (c : Dev nD) (t : Fin cfg0.N) (p : Fin 1024) (q : Fin 512) (P : Fin 2048) (Q : Fin 1024) (hP : P.val = t.val % 2 * 1024 + p.val)
    (hQ : Q.val = t.val / 2 * 512 + q.val) : (iblk m c 3 t : FVec Ideal S1024x512 .bf16) (ix2 p q) = A3 m c (ix2 P Q) := by
  blk_point [iblk, V, idx t]

/-- The gates' gradients at a point. -/
theorem lo_at (c : Dev nD) (t : Fin cfg0.N) (p : Fin 1024) (q : Fin 512) (P : Fin 2048) (Q : Fin 1024) (hP : P.val = t.val % 2 * 1024 + p.val)
    (hQ : Q.val = t.val / 2 * 512 + q.val) :
    k0_pay13 (F := Ideal) (iblk m c 0 t) (iblk m c 1 t) (iblk m c 4 t) (iblk m c 6 t) (iblk m c 2 t) (ix2 p q)
      = slope (D m c (ix2 P Q)) (A2 m c (ix2 P Q)) (G m c (ix2 P ⟨Q.val, by omega⟩)) := by
  rw [pay13_at, ← d_at m c t p q P Q hP hQ, ← gc_at m c t p q P ⟨Q.val, by omega⟩ hP hQ, ac_at m c t p q P Q hP hQ]

theorem hi_at (c : Dev nD) (t : Fin cfg0.N) (p : Fin 1024) (q : Fin 512) (P : Fin 2048) (Q : Fin 1024) (hP : P.val = t.val % 2 * 1024 + p.val)
    (hQ : Q.val = t.val / 2 * 512 + q.val) : k0_pay1 (F := Ideal) (bd m c t) (gs m c t) (iblk m c 3 t) (ix2 p q)
      = slope (D m c (ix2 P Q)) (A3 m c (ix2 P Q)) (G m c (ix2 P ⟨1024 + Q.val, by omega⟩)) := by
  rw [pay1_at, ← d_at m c t p q P Q hP hQ, ← gs_at m c t p q P ⟨1024 + Q.val, by omega⟩ hP (by show 1024 + Q.val = _; omega), as_at m c t p q P Q hP hQ]

/-- A point's blocks of the four arrays of rows. -/
theorem rows_out (c : Dev nD) (t : Fin cfg0.N) :
    (outsAt0 m c t.val t.isLt).1 = k0_pay2 (bd m c t) (gc m c t)
    ∧ (outsAt0 m c t.val t.isLt).2.1 = k0_pay3 (bd m c t) (gs m c t)
    ∧ (outsAt0 m c t.val t.isLt).2.2.1 = k0_pay4 (k0_pay13 (iblk m c 0 t) (iblk m c 1 t) (iblk m c 4 t) (iblk m c 6 t) (iblk m c 2 t))
    ∧ (outsAt0 m c t.val t.isLt).2.2.2.1 = k0_pay5 (bd m c t) (gs m c t) (iblk m c 3 t) := by
  rcases Nat.mod_two_eq_zero_or_one t.val with h | h
  · rw [outsAt0_A m c t h (by omega)]
    refine ⟨?_, ?_, ?_, ?_⟩ <;> dsimp only <;> frame_out
  · rw [outsAt0_B m c t (by omega) h]
    refine ⟨?_, ?_, ?_, ?_⟩ <;> dsimp only <;> frame_out

theorem db_A (c : Dev nD) (t : Fin cfg0.N) (h : t.val % 2 = 0) :
    (outsAt0 m c t.val t.isLt).2.2.2.2.1 = k0_pay6 (k0_pay13 (iblk m c 0 t) (iblk m c 1 t) (iblk m c 4 t) (iblk m c 6 t) (iblk m c 2 t))
    ∧ (outsAt0 m c t.val t.isLt).2.2.2.2.2 = k0_pay7 (bd m c t) (gs m c t) (iblk m c 3 t) := by
  rw [outsAt0_A m c t h (by omega)]
  refine ⟨?_, ?_⟩ <;> dsimp only <;> frame_out

theorem db_B (c : Dev nD) (t : Fin cfg0.N) (h : t.val % 2 = 1) :
    (outsAt0 m c t.val t.isLt).2.2.2.2.1 = k0_pay8 (k0_pay13 (iblk m c 0 t) (iblk m c 1 t) (iblk m c 4 t) (iblk m c 6 t) (iblk m c 2 t))
      (outsAt0 m c (t.val - 1) (Nat.lt_of_le_of_lt (Nat.sub_le _ _) t.isLt)).2.2.2.2.1
    ∧ (outsAt0 m c t.val t.isLt).2.2.2.2.2 = k0_pay9 (bd m c t) (gs m c t) (iblk m c 3 t)
      (outsAt0 m c (t.val - 1) (Nat.lt_of_le_of_lt (Nat.sub_le _ _) t.isLt)).2.2.2.2.2 := by
  rw [outsAt0_B m c t (by omega) h]
  refine ⟨?_, ?_⟩ <;> dsimp only <;> frame_out

/-- The biases' gradients from a point's rows, -/
def tlo (c : Dev nD) (t : Fin cfg0.N) (q : Fin 512) : EReal :=
  k0_pay6 (F := Ideal) (k0_pay13 (iblk m c 0 t) (iblk m c 1 t) (iblk m c 4 t) (iblk m c 6 t) (iblk m c 2 t)) (ix2 (0 : Fin 1) q)

def thi (c : Dev nD) (t : Fin cfg0.N) (q : Fin 512) : EReal := k0_pay7 (F := Ideal) (bd m c t) (gs m c t) (iblk m c 3 t) (ix2 (0 : Fin 1) q)

def blo (c : Dev nD) (Q : Fin 1024) (s : Fin 2) : EReal :=
  ∑ p : Fin 1024, slope (D m c (ix2 ⟨s.val * 1024 + p.val, by omega⟩ Q)) (A2 m c (ix2 ⟨s.val * 1024 + p.val, by omega⟩ Q))
      (G m c (ix2 ⟨s.val * 1024 + p.val, by omega⟩ ⟨Q.val, by omega⟩))

theorem tlo_at (c : Dev nD) (t : Fin cfg0.N) (q : Fin 512) (s : Fin 2) (hs : s.val = t.val % 2) (Q : Fin 1024) (hQ : Q.val = t.val / 2 * 512 + q.val) :
    tlo m c t q = blo m c Q s := by
  unfold tlo blo
  rw [pay6_at]
  exact Finset.sum_congr rfl fun p _ => lo_at m c t p q _ Q (by show s.val * 1024 + p.val = _; rw [hs]) hQ

def bhi (c : Dev nD) (Q : Fin 1024) (s : Fin 2) : EReal :=
  ∑ p : Fin 1024, slope (D m c (ix2 ⟨s.val * 1024 + p.val, by omega⟩ Q)) (A3 m c (ix2 ⟨s.val * 1024 + p.val, by omega⟩ Q))
      (G m c (ix2 ⟨s.val * 1024 + p.val, by omega⟩ ⟨1024 + Q.val, by omega⟩))

theorem thi_at (c : Dev nD) (t : Fin cfg0.N) (q : Fin 512) (s : Fin 2) (hs : s.val = t.val % 2) (Q : Fin 1024) (hQ : Q.val = t.val / 2 * 512 + q.val) :
    thi m c t q = bhi m c Q s := by
  unfold thi bhi
  rw [pay7_at]
  exact Finset.sum_congr rfl fun p _ => hi_at m c t p q _ Q (by show s.val * 1024 + p.val = _; rw [hs]) hQ

/-- and after a column's last point. -/
theorem acc12 (c : Dev nD) (t : Fin cfg0.N) (h : t.val % 2 = 1) (q : Fin 512) (Q : Fin 1024) (hQ : Q.val = t.val / 2 * 512 + q.val) :
    ((outsAt0 m c t.val t.isLt).2.2.2.2.1 : FVec Ideal S1x512 .f32) (ix2 0 q) = R12 (D m c) (A2 m c) (A3 m c) (G m c) (ix2 0 Q) := by
  refine (Pipeline.eq_sum_fin_of_reset_step_apply_of_flush (N := cfg0.N) (ι := Fin 512) (M := EReal)
    (fun n hn q => ((outsAt0 m c n hn).2.2.2.2.1 : FVec Ideal S1x512 .f32) (ix2 0 q)) 2 (fun _ => 0) (tlo m c)
    (fun t h0 q => ?_) (fun t hn q => ?_) t h q).trans ?_
  · rw [zero_add]
    exact congrFun (db_A m c t h0).1 (ix2 0 q)
  · refine (congrFun (db_B m c t (by omega)).1 (ix2 0 q)).trans ?_
    rw [pay8_at]
    rfl
  · rw [zero_add, r12_at]
    refine (Finset.sum_congr rfl fun s _ => ?_).trans (show ∑ s : Fin 2, blo m c Q s = _ from ?_)
    · have hs : s.val < 2 := s.isLt
      exact tlo_at m c _ q s (by show s.val = (2 * (t.val / 2) + s.val) % 2; omega) Q (by rw [hQ]; show _ = (2 * (t.val / 2) + s.val) / 2 * 512 + _; omega)
    · unfold blo
      exact Fin.sum_mul_add_congr fun s k hl => rfl

theorem acc13 (c : Dev nD) (t : Fin cfg0.N) (h : t.val % 2 = 1) (q : Fin 512) (Q : Fin 1024) (hQ : Q.val = t.val / 2 * 512 + q.val) :
    ((outsAt0 m c t.val t.isLt).2.2.2.2.2 : FVec Ideal S1x512 .f32) (ix2 0 q) = R13 (D m c) (A2 m c) (A3 m c) (G m c) (ix2 0 Q) := by
  refine (Pipeline.eq_sum_fin_of_reset_step_apply_of_flush (N := cfg0.N) (ι := Fin 512) (M := EReal)
    (fun n hn q => ((outsAt0 m c n hn).2.2.2.2.2 : FVec Ideal S1x512 .f32) (ix2 0 q)) 2 (fun _ => 0) (thi m c)
    (fun t h0 q => ?_) (fun t hn q => ?_) t h q).trans ?_
  · rw [zero_add]
    exact congrFun (db_A m c t h0).2 (ix2 0 q)
  · refine (congrFun (db_B m c t (by omega)).2 (ix2 0 q)).trans ?_
    rw [pay9_at]
    rfl
  · rw [zero_add, r13_at]
    refine (Finset.sum_congr rfl fun s _ => ?_).trans (show ∑ s : Fin 2, bhi m c Q s = _ from ?_)
    · have hs : s.val < 2 := s.isLt
      exact thi_at m c _ q s (by show s.val = (2 * (t.val / 2) + s.val) % 2; omega) Q (by rw [hQ]; show _ = (2 * (t.val / 2) + s.val) / 2 * 512 + _; omega)
    · unfold bhi
      exact Fin.sum_mul_add_congr fun s k hl => rfl

/-- The result arrays after the run. -/
theorem final8 (c : Dev nD) : (dats m 0 c).arrAt 8 (cfgs 0).N = R8 (D m c) (G m c) := by
  refine (dats m 0 c).arrAt_eq_of_covers 8 _ (by decide +kernel) fun t hf y => ?_
  have ht : t.val < 4 := t.isLt
  blk_simp
  rw [after0_8, (rows_out m c t).1]
  obtain ⟨p, q, rfl⟩ : ∃ (p : Fin 1024) (q : Fin 512), y = ix2 p q := ⟨y 0, y 1, by blk_ext⟩
  obtain ⟨P, hP⟩ : ∃ P : Fin 2048, P.val = t.val % 2 * 1024 + p.val := ⟨⟨_, by omega⟩, rfl⟩
  obtain ⟨Q, hQ⟩ : ∃ Q : Fin 1024, Q.val = t.val / 2 * 512 + q.val := ⟨⟨_, by omega⟩, rfl⟩
  have ee : ((cfg0.win 8).blk t).view.emb (ix2 p q) = ix2 P Q := by blk_ext [idx t]
  rw [ee]
  rw [pay2_at, r8_at, d_at m c t p q P Q hP hQ, gc_at m c t p q P ⟨Q.val, by omega⟩ hP hQ]

theorem final9 (c : Dev nD) : (dats m 0 c).arrAt 9 (cfgs 0).N = R9 (D m c) (G m c) := by
  refine (dats m 0 c).arrAt_eq_of_covers 9 _ (by decide +kernel) fun t hf y => ?_
  have ht : t.val < 4 := t.isLt
  blk_simp
  rw [after0_9, (rows_out m c t).2.1]
  obtain ⟨p, q, rfl⟩ : ∃ (p : Fin 1024) (q : Fin 512), y = ix2 p q := ⟨y 0, y 1, by blk_ext⟩
  obtain ⟨P, hP⟩ : ∃ P : Fin 2048, P.val = t.val % 2 * 1024 + p.val := ⟨⟨_, by omega⟩, rfl⟩
  obtain ⟨Q, hQ⟩ : ∃ Q : Fin 1024, Q.val = t.val / 2 * 512 + q.val := ⟨⟨_, by omega⟩, rfl⟩
  have ee : ((cfg0.win 9).blk t).view.emb (ix2 p q) = ix2 P Q := by blk_ext [idx t]
  rw [ee]
  rw [pay3_at, r9_at, d_at m c t p q P Q hP hQ, gs_at m c t p q P ⟨1024 + Q.val, by omega⟩ hP (by show 1024 + Q.val = _; omega)]

theorem final10 (c : Dev nD) : (dats m 0 c).arrAt 10 (cfgs 0).N = R10 (D m c) (A2 m c) (A3 m c) (G m c) := by
  refine (dats m 0 c).arrAt_eq_of_covers 10 _ (by decide +kernel) fun t hf y => ?_
  have ht : t.val < 4 := t.isLt
  blk_simp
  rw [after0_10, (rows_out m c t).2.2.1]
  obtain ⟨p, q, rfl⟩ : ∃ (p : Fin 1024) (q : Fin 512), y = ix2 p q := ⟨y 0, y 1, by blk_ext⟩
  obtain ⟨P, hP⟩ : ∃ P : Fin 2048, P.val = t.val % 2 * 1024 + p.val := ⟨⟨_, by omega⟩, rfl⟩
  obtain ⟨Q, hQ⟩ : ∃ Q : Fin 1024, Q.val = t.val / 2 * 512 + q.val := ⟨⟨_, by omega⟩, rfl⟩
  have ee : ((cfg0.win 10).blk t).view.emb (ix2 p q) = ix2 P Q := by blk_ext [idx t]
  rw [ee]
  rw [pay4_at, r10_at, lo_at m c t p q P Q hP hQ]

theorem final11 (c : Dev nD) : (dats m 0 c).arrAt 11 (cfgs 0).N = R11 (D m c) (A2 m c) (A3 m c) (G m c) := by
  refine (dats m 0 c).arrAt_eq_of_covers 11 _ (by decide +kernel) fun t hf y => ?_
  have ht : t.val < 4 := t.isLt
  blk_simp
  rw [after0_11, (rows_out m c t).2.2.2]
  obtain ⟨p, q, rfl⟩ : ∃ (p : Fin 1024) (q : Fin 512), y = ix2 p q := ⟨y 0, y 1, by blk_ext⟩
  obtain ⟨P, hP⟩ : ∃ P : Fin 2048, P.val = t.val % 2 * 1024 + p.val := ⟨⟨_, by omega⟩, rfl⟩
  obtain ⟨Q, hQ⟩ : ∃ Q : Fin 1024, Q.val = t.val / 2 * 512 + q.val := ⟨⟨_, by omega⟩, rfl⟩
  have ee : ((cfg0.win 11).blk t).view.emb (ix2 p q) = ix2 P Q := by blk_ext [idx t]
  rw [ee]
  rw [pay5_at, r11_at, hi_at m c t p q P Q hP hQ]

theorem final12 (c : Dev nD) : (dats m 0 c).arrAt 12 (cfgs 0).N = R12 (D m c) (A2 m c) (A3 m c) (G m c) := by
  refine (dats m 0 c).arrAt_eq_of_covers 12 _ (by decide +kernel) fun t hf y => ?_
  have h := (flush0_12 t).1 hf
  have ht : t.val < 4 := t.isLt
  blk_simp
  rw [after0_12]
  obtain ⟨q, rfl⟩ : ∃ q : Fin 512, y = ix2 (0 : Fin 1) q := ⟨y 1, by blk_ext⟩
  obtain ⟨Q, hQ⟩ : ∃ Q : Fin 1024, Q.val = t.val / 2 * 512 + q.val := ⟨⟨_, by omega⟩, rfl⟩
  have ee : ((cfg0.win 12).blk t).view.emb (ix2 (0 : Fin 1) q) = ix2 (0 : Fin 1) Q := by blk_ext [idx t]
  rw [ee]
  exact acc12 m c t h q Q hQ

theorem final13 (c : Dev nD) : (dats m 0 c).arrAt 13 (cfgs 0).N = R13 (D m c) (A2 m c) (A3 m c) (G m c) := by
  refine (dats m 0 c).arrAt_eq_of_covers 13 _ (by decide +kernel) fun t hf y => ?_
  have h := (flush0_13 t).1 hf
  have ht : t.val < 4 := t.isLt
  blk_simp
  rw [after0_13]
  obtain ⟨q, rfl⟩ : ∃ q : Fin 512, y = ix2 (0 : Fin 1) q := ⟨y 1, by blk_ext⟩
  obtain ⟨Q, hQ⟩ : ∃ Q : Fin 1024, Q.val = t.val / 2 * 512 + q.val := ⟨⟨_, by omega⟩, rfl⟩
  have ee : ((cfg0.win 13).blk t).view.emb (ix2 (0 : Fin 1) q) = ix2 (0 : Fin 1) Q := by blk_ext [idx t]
  rw [ee]
  exact acc13 m c t h q Q hQ

theorem frame_kernel : Cert.quiescent_KernelDmerge := fun m ρ _ => Cert.KernelDmerge.Gen.frame m ρ
theorem frame_kernelIdeal : Cert.quiescent_KernelDmergeIdeal := fun m ρ _ => Cert.KernelDmergeIdeal.Gen.frame m ρ
theorem frame_reference : Cert.quiescent_ReferenceDmergeIdeal := fun m ρ _ =>
  (θ_run Cert.ReferenceDmergeIdeal.defs _ _).mono
    (fun r h => ⟨fun c => (h c).2.2.2.2.2.2, Idealize.ShloMosaic.sem_eq_zero_of_no_sems (by decide) r.2⟩) (Cert.ReferenceDmergeIdeal.Value.run (F := Ideal) m ρ)

/-- Kernel and reference end with the same arrays. -/
theorem equal_results : Cert.algebraic_KernelDmergeIdeal_ReferenceDmergeIdeal := by
  intro m g m' g' _ hin
  refine ⟨fun c => R8 (D m c) (G m c), fun c => R9 (D m c) (G m c), fun c => R10 (D m c) (A2 m c) (A3 m c) (G m c), fun c => R11 (D m c) (A2 m c) (A3 m c) (G m c), fun c => R12 (D m c) (A2 m c) (A3 m c) (G m c), fun c => R13 (D m c) (A2 m c) (A3 m c) (G m c), ?_, ?_⟩
  · refine (θ_run Cert.KernelDmergeIdeal.defs _ _).mono (fun r h c => ?_) (Cert.KernelDmergeIdeal.Value.run_blocks (F := Ideal) m g)
    exact ⟨(h c).1.trans (final8 m c), (h c).2.1.trans (final9 m c), (h c).2.2.1.trans (final10 m c), (h c).2.2.2.1.trans (final11 m c),
      (h c).2.2.2.2.1.trans (final12 m c), (h c).2.2.2.2.2.1.trans (final13 m c), (h c).2.2.2.2.2.2⟩
  · refine (θ_run Cert.ReferenceDmergeIdeal.defs _ _).mono (fun r h c => ?_) (Cert.ReferenceDmergeIdeal.Value.run (F := Ideal) m' g')
    obtain ⟨h0, h1, h2, h3, h4, h5⟩ := hin c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · rw [h0, h1, h4, h5]
    · rw [h0, h1, h4, h5]
    · rw [h0, h1, h2, h3, h4, h5]
    · rw [h0, h1, h2, h3, h4, h5]
    · rw [h0, h1, h2, h3, h4, h5]
    · rw [h0, h1, h2, h3, h4, h5]

end
end Cert.Proof.Dmerge
-- ==== Proof.Softmax.lean ====
module
public import proofs.«01_k».proof.Proof.Reals

/-! A row's softmax over exact numbers, and its derivative: the quotient's chain rule, and the difference from the mean. -/

@[expose] public section

namespace Cert.Proof.Softmax
open Idealize.ShloMosaic

noncomputable section

/-- The number a row's maximum starts from. -/
abbrev low : EReal := Ideal.ofBits .f32 0xFF800000#32

theorem low_eq : low = ⊥ := by
  simp [low, Ideal.ofBits, Ideal.ieee]

variable {n : Nat}

/-- A row's maximum, the exponentials of what lies below it, and their shares of their sum. -/
def peak (s : Fin n → EReal) : EReal := Finset.fold max low s Finset.univ
def ex (s : Fin n → EReal) (j : Fin n) : EReal := Ideal.exp (s j - peak s)
def prob (s : Fin n → EReal) (j : Fin n) : EReal := Ideal.div (ex s j) (∑ k, ex s k)

theorem peak_max (s : Fin n → EReal) : max low (peak s) = peak s := by
  rw [low_eq]; exact max_eq_right bot_le

theorem peak_real (s : Fin n → EReal) (j : Fin n) (h : ∀ k, IsReal (s k)) : IsReal (peak s) := by
  have hlow : ∀ t : Finset (Fin n), Finset.fold max low s t = ⊥ ∨ IsReal (Finset.fold max low s t) := by
    classical
    intro t
    induction t using Finset.induction_on with
    | empty => exact Or.inl low_eq
    | insert a t ha ih =>
      rw [Finset.fold_insert ha]
      refine Or.inr ?_
      rcases ih with e | e
      · rw [e, max_eq_left bot_le]; exact h a
      · rcases max_choice (s a) (Finset.fold max low s t) with e' | e' <;> rw [e']
        · exact h a
        · exact e
  rcases hlow Finset.univ with e | e
  · have hj : s j ≤ Finset.fold max low s Finset.univ := (Finset.le_fold_max _).mpr (Or.inr ⟨j, Finset.mem_univ j, le_rfl⟩)
    rw [e] at hj
    obtain ⟨r, hr⟩ := h j
    rw [hr] at hj
    exact absurd (le_bot_iff.mp hj) (EReal.coe_ne_bot r)
  · exact e

theorem ex_real (s : Fin n → EReal) (h : ∀ k, IsReal (s k)) (j : Fin n) : ∃ r : ℝ, 0 < r ∧ ex s j = (r : EReal) := by
  obtain ⟨M, hM⟩ := peak_real s j h
  obtain ⟨a, ha⟩ := h j
  refine ⟨Real.exp (a - M), Real.exp_pos _, ?_⟩
  rw [ex, hM, ha, ← EReal.coe_sub, Ideal.exp_coe]

/-- A nonnegative real factor comes out of a sum, whatever its terms. -/
theorem sum_real_mul (r : ℝ) (hr : 0 ≤ r) (f : Fin n → EReal) : ∑ k, (r : EReal) * f k = (r : EReal) * ∑ k, f k := by
  classical
  refine Finset.induction_on (motive := fun s => ∑ k ∈ s, (r : EReal) * f k = (r : EReal) * ∑ k ∈ s, f k) Finset.univ ?_ fun k s hk ih => ?_
  · rw [Finset.sum_empty, Finset.sum_empty, mul_zero]
  · rw [Finset.sum_insert hk, Finset.sum_insert hk, ih, EReal.left_distrib_of_nonneg_of_ne_top (EReal.coe_nonneg.mpr hr) (EReal.coe_ne_top _)]

/-- The derivative along a row of real scores, whatever the incoming gradient: the difference from the mean is the
    quotient's chain rule. -/
theorem grad_eq (s d : Fin n → EReal) (h : ∀ k, IsReal (s k)) (j : Fin n) :
    prob s j * (d j - ∑ k, d k * prob s k)
      = (Ideal.div (d j) (∑ k, ex s k) + -∑ k, d k * Ideal.div 1 ((∑ k, ex s k) * ∑ k, ex s k) * ex s k) * ex s j := by
  choose E hE he using ex_real s h
  have hT : 0 < ∑ k, E k := Finset.sum_pos (fun k _ => hE k) ⟨j, Finset.mem_univ j⟩
  simp only [prob, he, coe_sum']
  generalize ∑ k, E k = T at *
  have hr : (0 : ℝ) ≤ 1 / T := by positivity
  have hm : ∀ k, d k * Ideal.div 1 ((T : EReal) * (T : EReal)) * (E k : EReal) = ((1 / T : ℝ) : EReal) * (d k * Ideal.div (E k : EReal) (T : EReal)) := by
    intro k
    rw [← EReal.coe_mul, Ideal.div_coe (mul_pos hT hT).ne', Ideal.div_coe hT.ne', one_mul, mul_left_comm, ← EReal.coe_mul, ← EReal.coe_mul, mul_assoc,
      ← EReal.coe_mul]
    congr 2
    field_simp
  simp only [hm, sum_real_mul _ hr]
  generalize ∑ k, d k * Ideal.div (E k : EReal) (T : EReal) = U
  rw [Ideal.div_coe hT.ne', Ideal.div_coe hT.ne', mul_comm (d j), ← mul_neg,
    ← EReal.left_distrib_of_nonneg_of_ne_top (EReal.coe_nonneg.mpr hr) (EReal.coe_ne_top _), ← sub_eq_add_neg, mul_comm, mul_comm (E j : EReal)]
  rw [← EReal.coe_mul, mul_comm ((1 / T : ℝ) : EReal), mul_assoc, ← EReal.coe_mul]

end

end Cert.Proof.Softmax
-- ==== Proof.Xattn.lean ====
module
public import proofs.«01_k».proof.Defs
public import proofs.«01_k».proof.Proof.Gen.KernelXattnIdeal.Value
public import proofs.«01_k».proof.Proof.Gen.KernelXattn.Frame
public import proofs.«01_k».proof.Proof.Gen.ReferenceXattnIdeal.Run
public import proofs.«01_k».proof.Proof.Gen.Pre_finite_xattn
public import proofs.«01_k».proof.Proof.Softmax
public import Idealize.ShloMosaic.Lib.Pipeline.ValueKit
public import Idealize.ShloMosaic.Lib.Pointwise
public import Idealize.ShloMosaic.Lib.Claim

/-! The gradients of the cross attention: the call's block of one head against the derivative of the attention over all
    the heads. -/

set_option maxRecDepth 16384

@[expose] public section

namespace Cert.Proof.Xattn
open Idealize.ShloMosaic Idealize.ShloMosaic.TcCoe Idealize.SL.Sem Cert.KernelXattnIdeal Cert.KernelXattnIdeal.Gen
open Idealize.ShloMosaic.Pipeline (Dat)
open Cert.Proof.Softmax

noncomputable section

/-- The gradient of the shares, the scores, their maxima, exponentials and sums, the gradient of the scores, the shares, and the
    results, as the reference computes them. -/
abbrev DP (A1 : FVec Ideal S256x2048 .bf16) (A2 : FVec Ideal S2048x1024 .bf16) : FVec Ideal Cert.ReferenceXattnIdeal.S4x2048x256 .f32 :=
  Host.dotGeneral Cert.ReferenceXattnIdeal.dot_S4x256x2048_S256x4x256_S4x2048x256_1_2_2_0_0_1 none (transpose
    Cert.ReferenceXattnIdeal.S4x256x2048 [1, 2, 0] (shapeCast _ (extf .f32 A2 Cert.ReferenceXattnIdeal.Gen.bitsLt_bf16_f32)
    Cert.ReferenceXattnIdeal.Gen.shapeCasts_S2048x1024_S2048x4x256)
    Cert.ReferenceXattnIdeal.Gen.transposes_S2048x4x256_S4x256x2048_1_2_0) (shapeCast _ (extractStridedSlice
    Cert.ReferenceXattnIdeal.S256x1024 ![0, 1024] (extf .f32 A1 Cert.ReferenceXattnIdeal.Gen.bitsLt_bf16_f32)
    Cert.ReferenceXattnIdeal.Gen.slices_S256x2048_S256x1024_0_1024) Cert.ReferenceXattnIdeal.Gen.shapeCasts_S256x1024_S256x4x256)

abbrev SC (A0 : FVec Ideal S2048x1024 .bf16) (A1 : FVec Ideal S256x2048 .bf16) : FVec Ideal Cert.ReferenceXattnIdeal.S4x2048x256 .f32 :=
  mulf (Host.dotGeneral Cert.ReferenceXattnIdeal.dot_S2048x4x256_S256x4x256_S4x2048x256_2_2_0_0_1_1 none (shapeCast _ (extf .f32 A0
    Cert.ReferenceXattnIdeal.Gen.bitsLt_bf16_f32) Cert.ReferenceXattnIdeal.Gen.shapeCasts_S2048x1024_S2048x4x256) (shapeCast _
    (extractStridedSlice Cert.ReferenceXattnIdeal.S256x1024 ![0, 0] (extf .f32 A1 Cert.ReferenceXattnIdeal.Gen.bitsLt_bf16_f32)
    Cert.ReferenceXattnIdeal.Gen.slices_S256x2048_S256x1024_0_0) Cert.ReferenceXattnIdeal.Gen.shapeCasts_S256x1024_S256x4x256))
    (broadcastInDim Cert.ReferenceXattnIdeal.S4x2048x256 ![] Cert.ReferenceXattnIdeal.Gen.bcast_S_S4x2048x256 (constant
    Cert.ReferenceXattnIdeal.S_ .f32 0x3D800000#32))

abbrev MX (X : FVec Ideal Cert.ReferenceXattnIdeal.S4x2048x256 .f32) : FVec Ideal Cert.ReferenceXattnIdeal.S4x2048 .f32 :=
  maximumf (broadcastInDim Cert.ReferenceXattnIdeal.S4x2048 ![] Cert.ReferenceXattnIdeal.Gen.bcast_S_S4x2048 (constant
    Cert.ReferenceXattnIdeal.S_ .f32 0xFF800000#32)) (Host.reduce FloatOps.maximumf X (constant Cert.ReferenceXattnIdeal.S_ .f32
    0xFF800000#32) Cert.ReferenceXattnIdeal.Gen.reducesTo_S4x2048x256_S4x2048_d2 Cert.ReferenceXattnIdeal.Gen.h_S_)

abbrev EX (X : FVec Ideal Cert.ReferenceXattnIdeal.S4x2048x256 .f32) : FVec Ideal Cert.ReferenceXattnIdeal.S4x2048x256 .f32 :=
  Host.exp (subf X (broadcastInDim Cert.ReferenceXattnIdeal.S4x2048x256 ![0, 1, 2]
    Cert.ReferenceXattnIdeal.Gen.bcast_S4x2048x1_S4x2048x256_0_1_2 (broadcastInDim Cert.ReferenceXattnIdeal.S4x2048x1 ![0, 1]
    Cert.ReferenceXattnIdeal.Gen.bcast_S4x2048_S4x2048x1_0_1 (MX X))))

abbrev SU (X : FVec Ideal Cert.ReferenceXattnIdeal.S4x2048x256 .f32) : FVec Ideal Cert.ReferenceXattnIdeal.S4x2048 .f32 :=
  Host.reduceAdd (EX X) (constant Cert.ReferenceXattnIdeal.S_ .f32 0x00000000#32)
    Cert.ReferenceXattnIdeal.Gen.reducesTo_S4x2048x256_S4x2048_d2 Cert.ReferenceXattnIdeal.Gen.h_S_

abbrev DS (X : FVec Ideal Cert.ReferenceXattnIdeal.S4x2048x256 .f32) (D : FVec Ideal Cert.ReferenceXattnIdeal.S4x2048x256 .f32) : FVec Ideal Cert.ReferenceXattnIdeal.S4x2048x256 .f32 :=
  mulf (mulf (addf (Host.divf D (broadcastInDim Cert.ReferenceXattnIdeal.S4x2048x256 ![0, 1, 2]
    Cert.ReferenceXattnIdeal.Gen.bcast_S4x2048x1_S4x2048x256_0_1_2 (broadcastInDim Cert.ReferenceXattnIdeal.S4x2048x1 ![0, 1]
    Cert.ReferenceXattnIdeal.Gen.bcast_S4x2048_S4x2048x1_0_1 (SU X)))) (broadcastInDim Cert.ReferenceXattnIdeal.S4x2048x256 ![0,
    1] Cert.ReferenceXattnIdeal.Gen.bcast_S4x2048_S4x2048x256_0_1 (Host.reduceAdd (Host.negf (shapeCast _ (Host.reduceAdd (mulf
    (mulf D (broadcastInDim Cert.ReferenceXattnIdeal.S4x2048x256 ![0, 1, 2]
    Cert.ReferenceXattnIdeal.Gen.bcast_S4x2048x1_S4x2048x256_0_1_2 (Host.divf (broadcastInDim Cert.ReferenceXattnIdeal.S4x2048x1
    ![] Cert.ReferenceXattnIdeal.Gen.bcast_S_S4x2048x1 (constant Cert.ReferenceXattnIdeal.S_ .f32 0x3F800000#32)) (mulf
    (broadcastInDim Cert.ReferenceXattnIdeal.S4x2048x1 ![0, 1] Cert.ReferenceXattnIdeal.Gen.bcast_S4x2048_S4x2048x1_0_1 (SU X))
    (broadcastInDim Cert.ReferenceXattnIdeal.S4x2048x1 ![0, 1] Cert.ReferenceXattnIdeal.Gen.bcast_S4x2048_S4x2048x1_0_1 (SU
    X)))))) (EX X)) (constant Cert.ReferenceXattnIdeal.S_ .f32 0x00000000#32)
    Cert.ReferenceXattnIdeal.Gen.reducesTo_S4x2048x256_S4x2048_d2 Cert.ReferenceXattnIdeal.Gen.h_S_)
    Cert.ReferenceXattnIdeal.Gen.shapeCasts_S4x2048_S4x2048x1)) (constant Cert.ReferenceXattnIdeal.S_ .f32 0x00000000#32)
    Cert.ReferenceXattnIdeal.Gen.reducesTo_S4x2048x1_S4x2048_d2 Cert.ReferenceXattnIdeal.Gen.h_S_))) (EX X)) (broadcastInDim
    Cert.ReferenceXattnIdeal.S4x2048x256 ![] Cert.ReferenceXattnIdeal.Gen.bcast_S_S4x2048x256 (constant
    Cert.ReferenceXattnIdeal.S_ .f32 0x3D800000#32))

abbrev PR (X : FVec Ideal Cert.ReferenceXattnIdeal.S4x2048x256 .f32) : FVec Ideal Cert.ReferenceXattnIdeal.S4x2048x256 .f32 :=
  Host.divf (EX X) (broadcastInDim Cert.ReferenceXattnIdeal.S4x2048x256 ![0, 1, 2]
    Cert.ReferenceXattnIdeal.Gen.bcast_S4x2048x1_S4x2048x256_0_1_2 (broadcastInDim Cert.ReferenceXattnIdeal.S4x2048x1 ![0, 1]
    Cert.ReferenceXattnIdeal.Gen.bcast_S4x2048_S4x2048x1_0_1 (SU X)))

abbrev R4 (A1 : FVec Ideal S256x2048 .bf16) (Z : FVec Ideal Cert.ReferenceXattnIdeal.S4x2048x256 .f32) : FVec Ideal S2048x1024 .bf16 :=
  truncf .bf16 (shapeCast _ (transpose Cert.ReferenceXattnIdeal.S2048x4x256 [1, 0, 2] (Host.dotGeneral
    Cert.ReferenceXattnIdeal.dot_S4x2048x256_S256x4x256_S4x2048x256_2_0_1_2_0_1 none Z (shapeCast _ (extractStridedSlice
    Cert.ReferenceXattnIdeal.S256x1024 ![0, 0] (extf .f32 A1 Cert.ReferenceXattnIdeal.Gen.bitsLt_bf16_f32)
    Cert.ReferenceXattnIdeal.Gen.slices_S256x2048_S256x1024_0_0) Cert.ReferenceXattnIdeal.Gen.shapeCasts_S256x1024_S256x4x256))
    Cert.ReferenceXattnIdeal.Gen.transposes_S4x2048x256_S2048x4x256_1_0_2)
    Cert.ReferenceXattnIdeal.Gen.shapeCasts_S2048x4x256_S2048x1024) Cert.ReferenceXattnIdeal.Gen.bitsLt_bf16_f32

abbrev R5 (A0 : FVec Ideal S2048x1024 .bf16) (Z : FVec Ideal Cert.ReferenceXattnIdeal.S4x2048x256 .f32) : FVec Ideal S256x1024 .bf16 :=
  truncf .bf16 (shapeCast _ (transpose Cert.ReferenceXattnIdeal.S256x4x256 [1, 0, 2] (Host.dotGeneral
    Cert.ReferenceXattnIdeal.dot_S4x2048x256_S2048x4x256_S4x256x256_1_0_2_2_0_1 none Z (shapeCast _ (extf .f32 A0
    Cert.ReferenceXattnIdeal.Gen.bitsLt_bf16_f32) Cert.ReferenceXattnIdeal.Gen.shapeCasts_S2048x1024_S2048x4x256))
    Cert.ReferenceXattnIdeal.Gen.transposes_S4x256x256_S256x4x256_1_0_2)
    Cert.ReferenceXattnIdeal.Gen.shapeCasts_S256x4x256_S256x1024) Cert.ReferenceXattnIdeal.Gen.bitsLt_bf16_f32

abbrev R6 (A2 : FVec Ideal S2048x1024 .bf16) (Z : FVec Ideal Cert.ReferenceXattnIdeal.S4x2048x256 .f32) : FVec Ideal S256x1024 .bf16 :=
  truncf .bf16 (shapeCast _ (transpose Cert.ReferenceXattnIdeal.S256x4x256 [2, 0, 1] (Host.dotGeneral
    Cert.ReferenceXattnIdeal.dot_S4x256x2048_S4x2048x256_S4x256x256_2_1_1_2_0_0 none (transpose
    Cert.ReferenceXattnIdeal.S4x256x2048 [1, 2, 0] (shapeCast _ (extf .f32 A2 Cert.ReferenceXattnIdeal.Gen.bitsLt_bf16_f32)
    Cert.ReferenceXattnIdeal.Gen.shapeCasts_S2048x1024_S2048x4x256)
    Cert.ReferenceXattnIdeal.Gen.transposes_S2048x4x256_S4x256x2048_1_2_0) Z)
    Cert.ReferenceXattnIdeal.Gen.transposes_S4x256x256_S256x4x256_2_0_1)
    Cert.ReferenceXattnIdeal.Gen.shapeCasts_S256x4x256_S256x1024) Cert.ReferenceXattnIdeal.Gen.bitsLt_bf16_f32

theorem sc_at (A0 A1) (h : Fin 4) (s : Fin 2048) (j : Fin 256) : SC A0 A1 (ix3 h s j)
    = (∑ k : Fin 256, A0 (ix2 s ⟨h.val * 256 + k.val, by omega⟩) * A1 (ix2 j ⟨h.val * 256 + k.val, by omega⟩)) * Ideal.ofBits .f32 0x3D800000#32 := by
  pointwise [SC]

theorem dp_at (A1 A2) (h : Fin 4) (s : Fin 2048) (j : Fin 256) : DP A1 A2 (ix3 h s j)
    = ∑ k : Fin 256, A2 (ix2 s ⟨h.val * 256 + k.val, by omega⟩) * A1 (ix2 j ⟨1024 + (h.val * 256 + k.val), by omega⟩) := by
  pointwise [DP]

theorem ex_at (X) (h : Fin 4) (s : Fin 2048) (j : Fin 256) : EX X (ix3 h s j) = ex (fun k : Fin 256 => X (ix3 h s k)) j := by
  unfold ex
  rw [← peak_max]
  pointwise [EX, MX]
  rfl

theorem su_at (X) (h : Fin 4) (s : Fin 2048) : SU X (ix2 h s) = ∑ j : Fin 256, ex (fun k : Fin 256 => X (ix3 h s k)) j := by
  rw [← show (∑ j : Fin 256, EX X (ix3 h s j)) = _ from Finset.sum_congr rfl fun j _ => ex_at X h s j]
  unfold SU
  generalize EX X = E
  pointwise

theorem pr_at (X) (h : Fin 4) (s : Fin 2048) (j : Fin 256) : PR X (ix3 h s j) = prob (fun k : Fin 256 => X (ix3 h s k)) j := by
  unfold prob
  rw [← ex_at, ← su_at]
  unfold PR
  generalize EX X = E
  generalize SU X = S
  pointwise

theorem ds_at (X D) (h : Fin 4) (s : Fin 2048) (j : Fin 256) (hX : ∀ k : Fin 256, IsReal (X (ix3 h s k))) : DS X D (ix3 h s j)
    = prob (fun k : Fin 256 => X (ix3 h s k)) j * (D (ix3 h s j) - ∑ i : Fin 256, D (ix3 h s i) * prob (fun k : Fin 256 => X (ix3 h s k)) i)
      * Ideal.ofBits .f32 0x3D800000#32 := by
  rw [grad_eq _ (fun i => D (ix3 h s i)) hX j]
  simp only [← ex_at]
  rw [← show SU X (ix2 h s) = ∑ j : Fin 256, EX X (ix3 h s j) from (su_at X h s).trans (Finset.sum_congr rfl fun j _ => (ex_at X h s j).symm)]
  unfold DS
  generalize EX X = E
  generalize SU X = S
  pointwise
  simp only [Finset.sum_const, Finset.card_univ, Fintype.card_fin, one_smul]

theorem r4_at (A1 Z) (s : Fin 2048) (J : Fin 1024) (h : Fin 4) (hh : J.val / 256 = h.val) : R4 A1 Z (ix2 s J)
    = ∑ x : Fin 256, Z (ix3 h s x) * A1 (ix2 x ⟨J.val, by omega⟩) := by
  have e : (⟨J.val / 256, by omega⟩ : Fin 4) = h := Fin.ext hh
  rw [← e]
  pointwise [R4]

theorem r5_at (A0 Z) (s : Fin 256) (J : Fin 1024) (h : Fin 4) (hh : J.val / 256 = h.val) : R5 A0 Z (ix2 s J)
    = ∑ x : Fin 2048, Z (ix3 h x s) * A0 (ix2 x J) := by
  have e : (⟨J.val / 256, by omega⟩ : Fin 4) = h := Fin.ext hh
  rw [← e]
  pointwise [R5]

theorem r6_at (A2 Z) (s : Fin 256) (J : Fin 1024) (h : Fin 4) (hh : J.val / 256 = h.val) : R6 A2 Z (ix2 s J)
    = ∑ x : Fin 2048, Z (ix3 h x s) * A2 (ix2 x J) := by
  have e : (⟨J.val / 256, by omega⟩ : Fin 4) = h := Fin.ext hh
  rw [← e]
  pointwise [R6]
  exact Finset.sum_congr rfl fun x _ => mul_comm _ _

/-! ## The call's stores -/

/-- A row of scores in a head's blocks, and of the shares' gradients. -/
def row (a : FVec Ideal S2048x256 .bf16) (b : FVec Ideal S256x256 .bf16) (s : Fin 2048) (j : Fin 256) : EReal :=
  (∑ k : Fin 256, a (ix2 s k) * b (ix2 j k)) * Ideal.ofBits .f32 0x3D800000#32

def back (d : FVec Ideal S2048x256 .bf16) (v : FVec Ideal S256x256 .bf16) (s : Fin 2048) (j : Fin 256) : EReal := ∑ k : Fin 256, d (ix2 s k) * v (ix2 j k)

theorem pay7_at (a b) (s : Fin 2048) (j : Fin 256) : k0_pay7 (F := Ideal) a b (ix2 s j) = prob (row a b s) j := by
  pointwise [k0_pay7]
  rfl

theorem pay8_at (a b v d) (s : Fin 2048) (j : Fin 256) : k0_pay8 (F := Ideal) a b v d (ix2 s j)
    = prob (row a b s) j * (back d v s j - ∑ i : Fin 256, back d v s i * prob (row a b s) i) * Ideal.ofBits .f32 0x3D800000#32 := by
  simp only [← pay7_at]
  unfold k0_pay8
  generalize k0_pay7 (F := Ideal) a b = P
  pointwise
  rfl

theorem pay9_at (a b v d) (s : Fin 2048) (j : Fin 256) : k0_pay9 (F := Ideal) a b v d (ix2 s j)
    = ∑ x : Fin 256, k0_pay8 (F := Ideal) a b v d (ix2 s x) * b (ix2 x j) := by
  unfold k0_pay9
  generalize k0_pay8 (F := Ideal) a b v d = Z
  pointwise

theorem pay15_at (a b v d) (i j : Fin 256) : k0_pay5 (F := Ideal) (k0_pay1 (k0_pay10 (F := Ideal) a b v d)) (ix2 i j)
    = ∑ x : Fin 2048, k0_pay8 (F := Ideal) a b v d (ix2 x i) * a (ix2 x j) := by
  unfold k0_pay10
  generalize k0_pay8 (F := Ideal) a b v d = Z
  pointwise [k0_pay5, k0_pay1]

theorem pay26_at (a b d) (i j : Fin 256) : k0_pay6 (F := Ideal) (k0_pay2 (k0_pay11 (F := Ideal) a b d)) (ix2 i j)
    = ∑ x : Fin 2048, k0_pay7 (F := Ideal) a b (ix2 x i) * d (ix2 x j) := by
  unfold k0_pay11
  generalize k0_pay7 (F := Ideal) a b = Z
  pointwise [k0_pay6, k0_pay2]

/-! ## The points -/

variable (m : (ℓ : Loc nD τ sig) → Buf (Elt Ideal) ℓ)

abbrev A0 (c : Dev nD) : FVec Ideal S2048x1024 .bf16 := m ((c : Thread nD τ).loc main_arg0)
abbrev A1 (c : Dev nD) : FVec Ideal S256x2048 .bf16 := m ((c : Thread nD τ).loc main_arg1)
abbrev A2 (c : Dev nD) : FVec Ideal S2048x1024 .bf16 := m ((c : Thread nD τ).loc main_arg2)

/-- The blocks over all the points. -/
theorem idx : ∀ t : Fin cfg0.N, win0_0.index t = ![0, t.val] ∧ win0_1.index t = ![0, t.val]
    ∧ win0_2.index t = ![0, 4 + t.val] ∧ win0_3.index t = ![0, t.val]
    ∧ win0_4.index t = ![0, t.val] ∧ win0_5.index t = ![0, t.val] ∧ win0_6.index t = ![0, t.val] :=
  (by decide +kernel : ∀ t : Fin grid0.N, _)

/-- A head's blocks of the queries, keys, values and of the output's gradient. -/
abbrev bq (c : Dev nD) (t : Fin cfg0.N) : FVec Ideal S2048x256 .bf16 := iblk m c 0 t
abbrev bk (c : Dev nD) (t : Fin cfg0.N) : FVec Ideal S256x256 .bf16 := iblk m c 1 t
abbrev bv (c : Dev nD) (t : Fin cfg0.N) : FVec Ideal S256x256 .bf16 := iblk m c 2 t
abbrev bo (c : Dev nD) (t : Fin cfg0.N) : FVec Ideal S2048x256 .bf16 := iblk m c 3 t

theorem q_at (c : Dev nD) (t : Fin cfg0.N) (p : Fin 2048) (q : Fin 256) (Q : Fin 1024) (hQ : Q.val = t.val * 256 + q.val) :
    bq m c t (ix2 p q) = A0 m c (ix2 p Q) := by
  blk_point [iblk, V, idx t]

theorem k_at (c : Dev nD) (t : Fin cfg0.N) (p : Fin 256) (q : Fin 256) (Q : Fin 2048) (hQ : Q.val = t.val * 256 + q.val) :
    bk m c t (ix2 p q) = A1 m c (ix2 p Q) := by
  blk_point [iblk, V, idx t]

theorem v_at (c : Dev nD) (t : Fin cfg0.N) (p : Fin 256) (q : Fin 256) (Q : Fin 2048) (hQ : Q.val = 1024 + (t.val * 256 + q.val)) :
    bv m c t (ix2 p q) = A1 m c (ix2 p Q) := by
  blk_point [iblk, V, idx t]

theorem o_at (c : Dev nD) (t : Fin cfg0.N) (p : Fin 2048) (q : Fin 256) (Q : Fin 1024) (hQ : Q.val = t.val * 256 + q.val) :
    bo m c t (ix2 p q) = A2 m c (ix2 p Q) := by
  blk_point [iblk, V, idx t]

/-- The point's head. -/
abbrev hd (t : Fin cfg0.N) : Fin 4 := ⟨t.val, t.isLt⟩

abbrev X (c : Dev nD) := SC (A0 m c) (A1 m c)
abbrev G (c : Dev nD) := DP (A1 m c) (A2 m c)

theorem row_at (c : Dev nD) (t : Fin cfg0.N) (s : Fin 2048) : row (bq m c t) (bk m c t) s = fun j => X m c (ix3 (hd t) s j) := by
  funext j
  rw [row, X, sc_at]
  refine congrArg (· * _) (Finset.sum_congr rfl fun k _ => ?_)
  rw [q_at m c t s k ⟨t.val * 256 + k.val, by have : t.val < 4 := t.isLt; omega⟩ rfl, k_at m c t j k ⟨t.val * 256 + k.val, by have : t.val < 4 := t.isLt; omega⟩ rfl]

theorem back_at (c : Dev nD) (t : Fin cfg0.N) (s : Fin 2048) (j : Fin 256) : back (bo m c t) (bv m c t) s j = G m c (ix3 (hd t) s j) := by
  rw [back, G, dp_at]
  refine Finset.sum_congr rfl fun k _ => ?_
  rw [o_at m c t s k ⟨t.val * 256 + k.val, by have : t.val < 4 := t.isLt; omega⟩ rfl,
    v_at m c t j k ⟨1024 + (t.val * 256 + k.val), by have : t.val < 4 := t.isLt; omega⟩ rfl]

theorem p_at (c : Dev nD) (t : Fin cfg0.N) (s : Fin 2048) (j : Fin 256) : k0_pay7 (F := Ideal) (bq m c t) (bk m c t) (ix2 s j) = PR (X m c) (ix3 (hd t) s j) := by
  rw [pay7_at, row_at, pr_at]

/-- The scores are real. -/
def Scores (c : Dev nD) : Prop := ∀ h s k, IsReal (X m c (ix3 h s k))

theorem s_at (c : Dev nD) (hX : Scores m c) (t : Fin cfg0.N) (s : Fin 2048) (j : Fin 256) :
    k0_pay8 (F := Ideal) (bq m c t) (bk m c t) (bv m c t) (bo m c t) (ix2 s j) = DS (X m c) (G m c) (ix3 (hd t) s j) := by
  rw [pay8_at, row_at, ds_at _ _ _ _ _ (hX _ _)]
  simp only [back_at]

theorem out (c : Dev nD) (t : Fin cfg0.N) :
    (outsAt0 m c t).1 = k0_pay9 (F := Ideal) (bq m c t) (bk m c t) (bv m c t) (bo m c t)
    ∧ (outsAt0 m c t).2.1 = k0_pay5 (F := Ideal) (k0_pay1 (F := Ideal) (k0_pay10 (F := Ideal) (bq m c t) (bk m c t) (bv m c t) (bo m c t)))
    ∧ (outsAt0 m c t).2.2 = k0_pay6 (F := Ideal) (k0_pay2 (F := Ideal) (k0_pay11 (F := Ideal) (bq m c t) (bk m c t) (bo m c t))) := by
  unfold outsAt0
  refine ⟨?_, ?_, ?_⟩ <;> dsimp only <;> frame_out

theorem point4 (c : Dev nD) (hX : Scores m c) (t : Fin cfg0.N) (p : Fin 2048) (q : Fin 256) (Q : Fin 1024) (hQ : Q.val = t.val * 256 + q.val) :
    k0_pay9 (F := Ideal) (bq m c t) (bk m c t) (bv m c t) (bo m c t) (ix2 p q) = R4 (A1 m c) (DS (X m c) (G m c)) (ix2 p Q) := by
  rw [pay9_at, r4_at _ _ p Q (hd t) (by have : t.val < 4 := t.isLt; show Q.val / 256 = t.val; omega)]
  exact Finset.sum_congr rfl fun x _ => by rw [s_at m c hX, k_at m c t x q ⟨Q.val, by omega⟩ hQ]

/-- The result arrays after the run. -/
theorem final4 (c : Dev nD) (hX : Scores m c) : (dats m 0 c).arrAt 4 (cfgs 0).N = R4 (A1 m c) (DS (X m c) (G m c)) := by
  refine (dats m 0 c).arrAt_eq_of_covers 4 _ (by decide +kernel) fun t hf y => ?_
  have ht : t.val < 4 := t.isLt
  blk_simp
  rw [after0_4, (out m c t).1]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 4).blk t).view.emb (ix2 p q) = ix2 p Q := by blk_ext [idx t]
  rw [ee]
  exact point4 m c hX t p q Q hQ

theorem point5 (c : Dev nD) (hX : Scores m c) (t : Fin cfg0.N) (p : Fin 256) (q : Fin 256) (Q : Fin 1024) (hQ : Q.val = t.val * 256 + q.val) :
    k0_pay5 (F := Ideal) (k0_pay1 (F := Ideal) (k0_pay10 (F := Ideal) (bq m c t) (bk m c t) (bv m c t) (bo m c t))) (ix2 p q) = R5 (A0 m c) (DS (X m c) (G m c)) (ix2 p Q) := by
  rw [pay15_at, r5_at _ _ p Q (hd t) (by have : t.val < 4 := t.isLt; show Q.val / 256 = t.val; omega)]
  exact Finset.sum_congr rfl fun x _ => by rw [s_at m c hX, q_at m c t x q Q hQ]

theorem final5 (c : Dev nD) (hX : Scores m c) : (dats m 0 c).arrAt 5 (cfgs 0).N = R5 (A0 m c) (DS (X m c) (G m c)) := by
  refine (dats m 0 c).arrAt_eq_of_covers 5 _ (by decide +kernel) fun t hf y => ?_
  have ht : t.val < 4 := t.isLt
  blk_simp
  rw [after0_5, (out m c t).2.1]
  obtain ⟨p, q, rfl⟩ : ∃ (p : Fin 256) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 5).blk t).view.emb (ix2 p q) = ix2 p Q := by blk_ext [idx t]
  rw [ee]
  exact point5 m c hX t p q Q hQ

theorem point6 (c : Dev nD) (t : Fin cfg0.N) (p : Fin 256) (q : Fin 256) (Q : Fin 1024) (hQ : Q.val = t.val * 256 + q.val) :
    k0_pay6 (F := Ideal) (k0_pay2 (F := Ideal) (k0_pay11 (F := Ideal) (bq m c t) (bk m c t) (bo m c t))) (ix2 p q) = R6 (A2 m c) (PR (X m c)) (ix2 p Q) := by
  rw [pay26_at, r6_at _ _ p Q (hd t) (by have : t.val < 4 := t.isLt; show Q.val / 256 = t.val; omega)]
  exact Finset.sum_congr rfl fun x _ => by rw [p_at, o_at m c t x q Q hQ]

theorem final6 (c : Dev nD) : (dats m 0 c).arrAt 6 (cfgs 0).N = R6 (A2 m c) (PR (X m c)) := by
  refine (dats m 0 c).arrAt_eq_of_covers 6 _ (by decide +kernel) fun t hf y => ?_
  have ht : t.val < 4 := t.isLt
  blk_simp
  rw [after0_6, (out m c t).2.2]
  obtain ⟨p, q, rfl⟩ : ∃ (p : Fin 256) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 6).blk t).view.emb (ix2 p q) = ix2 p Q := by blk_ext [idx t]
  rw [ee]
  exact point6 m c t p q Q hQ

/-- Finite queries and keys have real scores. -/
theorem scale_real : IsReal (Ideal.ofBits .f32 0x3D800000#32) := by
  refine ⟨8388608 * (2 ^ 27)⁻¹, ?_⟩
  simp only [Ideal.ofBits, Ideal.ieee]
  simp

theorem scores_real (A0 A1 A2) (h0 : (Cert.Pre_finite_xattn.fn (F := Ideal) A0 A1 A2).1 = fun _ => 1#1)
    (h1 : (Cert.Pre_finite_xattn.fn (F := Ideal) A0 A1 A2).2 = fun _ => 1#1) (h s k) : IsReal (SC A0 A1 (ix3 h s k)) := by
  have hx : ∀ i, IsReal (A0 i) := fun i => isReal_of_lt (A0 i) (congrFun h0 i)
  have hk : ∀ (p : Fin 256) (q : Fin 1024), IsReal (A1 (ix2 p ⟨q.val, by omega⟩)) := fun p q => by
    have e := congrFun h1 (ix2 p q)
    have es : (extractStridedSlice Cert.Pre_finite_xattn.S256x1024 ![0, 0] A1 Cert.Pre_finite_xattn.Gen.slices_S256x2048_S256x1024_0_0)
        (ix2 p q) = A1 (ix2 p ⟨q.val, by omega⟩) := by
      pointwise
    refine isReal_of_lt (A1 (ix2 p ⟨q.val, by omega⟩)) ?_
    rw [← es]
    exact e
  rw [sc_at]
  refine IsReal.mul (isReal_sum _ _ fun j => IsReal.mul (hx _) ?_) scale_real
  exact hk k ⟨h.val * 256 + j.val, by omega⟩

/-- Equal arguments have equal results. -/
theorem results4 {A0 B0 A1 B1 A2 B2} (e0 : B0 = A0) (e1 : B1 = A1) (e2 : B2 = A2) : R4 A1 (DS (SC A0 A1) (DP A1 A2)) = R4 B1 (DS (SC B0 B1) (DP B1 B2)) := by
  subst e0 e1 e2; rfl

theorem results5 {A0 B0 A1 B1 A2 B2} (e0 : B0 = A0) (e1 : B1 = A1) (e2 : B2 = A2) : R5 A0 (DS (SC A0 A1) (DP A1 A2)) = R5 B0 (DS (SC B0 B1) (DP B1 B2)) := by
  subst e0 e1 e2; rfl

theorem results6 {A0 B0 A1 B1 A2 B2} (e0 : B0 = A0) (e1 : B1 = A1) (e2 : B2 = A2) : R6 A2 (PR (SC A0 A1)) = R6 B2 (PR (SC B0 B1)) := by
  subst e0 e1 e2; rfl

theorem frame_kernel : Cert.quiescent_KernelXattn := fun m ρ _ => Cert.KernelXattn.Gen.frame m ρ
theorem frame_kernelIdeal : Cert.quiescent_KernelXattnIdeal := fun m ρ _ => Cert.KernelXattnIdeal.Gen.frame m ρ
theorem frame_kernelIdeal_pre : Cert.quiescent_KernelXattnIdeal_pre_finite_xattn := fun m ρ _ => Cert.KernelXattnIdeal.Gen.frame m ρ
theorem frame_reference : Cert.quiescent_ReferenceXattnIdeal := fun m ρ _ =>
  (θ_run Cert.ReferenceXattnIdeal.defs _ _).mono
    (fun r h => ⟨fun c => (h c).2.2.2, Idealize.ShloMosaic.sem_eq_zero_of_no_sems (by decide) r.2⟩) (Cert.ReferenceXattnIdeal.Value.run (F := Ideal) m ρ)
theorem frame_reference_pre : Cert.quiescent_ReferenceXattnIdeal_pre_finite_xattn := fun m ρ _ => frame_reference m ρ trivial

/-- Kernel and reference end with the same arrays. -/
theorem equal_results : Cert.algebraic_KernelXattnIdeal_ReferenceXattnIdeal_pre_finite_xattn := by
  intro m g m' g' hpre hin
  have hX : ∀ c, Scores m c := fun c h s k => scores_real _ _ _ (hpre c).1 (hpre c).2 h s k
  refine ⟨fun c => R4 (A1 m c) (DS (X m c) (G m c)), fun c => R5 (A0 m c) (DS (X m c) (G m c)), fun c => R6 (A2 m c) (PR (X m c)), ?_, ?_⟩
  · refine (θ_run Cert.KernelXattnIdeal.defs _ _).mono (fun r h c => ?_) (Cert.KernelXattnIdeal.Value.run_blocks (F := Ideal) m g)
    exact ⟨(h c).1.trans (final4 m c (hX c)), (h c).2.1.trans (final5 m c (hX c)), (h c).2.2.1.trans (final6 m c), (h c).2.2.2⟩
  · refine (θ_run Cert.ReferenceXattnIdeal.defs _ _).mono (fun r h c => ?_) (Cert.ReferenceXattnIdeal.Value.run (F := Ideal) m' g')
    obtain ⟨e0, e1, e2⟩ := hin c
    have f4 : R4 (A1 m c) (DS (X m c) (G m c)) = R4 (m' ((c : Thread nD τ).loc Cert.ReferenceXattnIdeal.main_arg1))
      (DS (SC (m' ((c : Thread nD τ).loc Cert.ReferenceXattnIdeal.main_arg0)) (m' ((c : Thread nD τ).loc Cert.ReferenceXattnIdeal.main_arg1)))
        (DP (m' ((c : Thread nD τ).loc Cert.ReferenceXattnIdeal.main_arg1)) (m' ((c : Thread nD τ).loc Cert.ReferenceXattnIdeal.main_arg2)))) := results4 e0 e1 e2
    have f5 : R5 (A0 m c) (DS (X m c) (G m c)) = R5 (m' ((c : Thread nD τ).loc Cert.ReferenceXattnIdeal.main_arg0))
      (DS (SC (m' ((c : Thread nD τ).loc Cert.ReferenceXattnIdeal.main_arg0)) (m' ((c : Thread nD τ).loc Cert.ReferenceXattnIdeal.main_arg1)))
        (DP (m' ((c : Thread nD τ).loc Cert.ReferenceXattnIdeal.main_arg1)) (m' ((c : Thread nD τ).loc Cert.ReferenceXattnIdeal.main_arg2)))) := results5 e0 e1 e2
    have f6 : R6 (A2 m c) (PR (X m c)) = R6 (m' ((c : Thread nD τ).loc Cert.ReferenceXattnIdeal.main_arg2))
      (PR (SC (m' ((c : Thread nD τ).loc Cert.ReferenceXattnIdeal.main_arg0)) (m' ((c : Thread nD τ).loc Cert.ReferenceXattnIdeal.main_arg1)))) := results6 e0 e1 e2
    exact ⟨(h c).1.trans f4.symm, (h c).2.1.trans f5.symm, (h c).2.2.1.trans f6.symm, (h c).2.2.2⟩

end
end Cert.Proof.Xattn
-- ==== Proof.Dhn.lean ====
module
public import proofs.«01_k».proof.Defs
public import proofs.«01_k».proof.Proof.Gen.KernelDhnIdeal.Value
public import proofs.«01_k».proof.Proof.Gen.KernelDhn.Frame
public import proofs.«01_k».proof.Proof.Gen.ReferenceDhnIdeal.Run
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.Claim

/-! The gradient into the residual stream before the cross attention: the call multiplies the query's gradient by `w_cqᵀ` and
    closes every block of rows with the normalisation's gradient, the scale's gradient added up over the blocks; the reference
    is the derivative of `(h, rms_norm h g · w)`. -/

set_option maxRecDepth 16384

@[expose] public section

namespace Cert.Proof.Dhn
open Idealize.ShloMosaic Idealize.ShloMosaic.TcCoe Idealize.SL.Sem Cert.KernelDhnIdeal Cert.KernelDhnIdeal.Gen
open Idealize.ShloMosaic.Pipeline (Dat)
open Cert.Proof.Rms

noncomputable section

/-! ## The reference -/

/-- The gradient of the normalised rows. -/
abbrev DN (X0 : FVec Ideal S2048x1024 .bf16) (X1 : FVec Ideal S1024x1024 .bf16) : FVec Ideal S2048x1024 .f32 :=
  Host.dotGeneral Cert.ReferenceDhnIdeal.dot_S2048x1024_S1024x1024_S2048x1024_1_1_0_0_n_n none
    (extf .f32 X0 Cert.ReferenceDhnIdeal.Gen.bitsLt_bf16_f32) (extf .f32 X1 Cert.ReferenceDhnIdeal.Gen.bitsLt_bf16_f32)

abbrev zero : FVec Ideal Cert.ReferenceDhnIdeal.S_ .f32 := constant Cert.ReferenceDhnIdeal.S_ .f32 0x00000000#32

/-- A number along the rows. -/
abbrev along (b : BitVec 32) : FVec Ideal Cert.ReferenceDhnIdeal.S2048x1 .f32 :=
  broadcastInDim Cert.ReferenceDhnIdeal.S2048x1 ![] Cert.ReferenceDhnIdeal.Gen.bcast_S_S2048x1 (constant Cert.ReferenceDhnIdeal.S_ .f32 b)

/-- The numbers under the rows' roots, and one over the roots. -/
abbrev UN (X3 : FVec Ideal S2048x1024 .f32) : FVec Ideal Cert.ReferenceDhnIdeal.S2048x1 .f32 :=
  addf (Host.divf (broadcastInDim Cert.ReferenceDhnIdeal.S2048x1 ![0] Cert.ReferenceDhnIdeal.Gen.bcast_S2048_S2048x1_0
    (Host.reduceAdd (mulf X3 X3) zero Cert.ReferenceDhnIdeal.Gen.reducesTo_S2048x1024_S2048_d1 Cert.ReferenceDhnIdeal.Gen.h_S_))
    (along 0x44800000#32)) (along 0x358637BD#32)

abbrev RS (X3 : FVec Ideal S2048x1024 .f32) : FVec Ideal Cert.ReferenceDhnIdeal.S2048x1 .f32 := Host.rsqrt (UN X3)

/-- The gradient of the normalised rows, scaled. -/
abbrev AR (D : FVec Ideal S2048x1024 .f32) (X4 : FVec Ideal S1x1024 .f32) : FVec Ideal S2048x1024 .f32 :=
  mulf D (broadcastInDim Cert.ReferenceDhnIdeal.S2048x1024 ![0, 1] Cert.ReferenceDhnIdeal.Gen.bcast_S1x1024_S2048x1024_0_1 X4)

/-- What comes back through the rows' roots. -/
abbrev TH (D : FVec Ideal S2048x1024 .f32) (X3 : FVec Ideal S2048x1024 .f32) (X4 : FVec Ideal S1x1024 .f32) : FVec Ideal S2048x1024 .f32 :=
  broadcastInDim Cert.ReferenceDhnIdeal.S2048x1024 ![0] Cert.ReferenceDhnIdeal.Gen.bcast_S2048_S2048x1024_0
    (Host.reduceAdd (Host.divf (mulf (shapeCast _ (Host.reduceAdd (mulf X3 (AR D X4)) zero
        Cert.ReferenceDhnIdeal.Gen.reducesTo_S2048x1024_S2048_d1 Cert.ReferenceDhnIdeal.Gen.h_S_) Cert.ReferenceDhnIdeal.Gen.shapeCasts_S2048_S2048x1)
      (mulf (along 0xBF000000#32) (Host.divf (RS X3) (UN X3)))) (along 0x44800000#32)) zero
      Cert.ReferenceDhnIdeal.Gen.reducesTo_S2048x1_S2048_d1 Cert.ReferenceDhnIdeal.Gen.h_S_)

abbrev RSB (X3 : FVec Ideal S2048x1024 .f32) : FVec Ideal S2048x1024 .f32 :=
  broadcastInDim Cert.ReferenceDhnIdeal.S2048x1024 ![0, 1] Cert.ReferenceDhnIdeal.Gen.bcast_S2048x1_S2048x1024_0_1 (RS X3)

/-- The reference's results from the gradient of the normalised rows. -/
abbrev R5 (D X2 X3 : FVec Ideal S2048x1024 .f32) (X4 : FVec Ideal S1x1024 .f32) : FVec Ideal S2048x1024 .f32 :=
  addf (addf (addf X2 (mulf (AR D X4) (RSB X3))) (mulf X3 (TH D X3 X4))) (mulf (TH D X3 X4) X3)

abbrev R6 (D X2 X3 : FVec Ideal S2048x1024 .f32) (X4 : FVec Ideal S1x1024 .f32) : FVec Ideal S2048x1024 .bf16 :=
  truncf .bf16 (R5 D X2 X3 X4) Cert.ReferenceDhnIdeal.Gen.bitsLt_bf16_f32

abbrev R7 (D X3 : FVec Ideal S2048x1024 .f32) : FVec Ideal S1x1024 .f32 :=
  shapeCast _ (Host.reduceAdd (mulf (mulf X3 (RSB X3)) D) zero Cert.ReferenceDhnIdeal.Gen.reducesTo_S2048x1024_S1024_d0
    Cert.ReferenceDhnIdeal.Gen.h_S_) Cert.ReferenceDhnIdeal.Gen.shapeCasts_S1024_S1x1024

theorem dn_at (X0 X1) (P : Fin 2048) (q : Fin 1024) : DN X0 X1 (ix2 P q) = ∑ k : Fin 1024, X0 (ix2 P k) * X1 (ix2 q k) := by
  pointwise [DN]

theorem r5_at (D X2 X3 X4) (P : Fin 2048) (q : Fin 1024) : R5 D X2 X3 X4 (ix2 P q)
    = ((X2 (ix2 P q) + D (ix2 P q) * X4 (ix2 0 q) * rms fun k => X3 (ix2 P k))
        + X3 (ix2 P q) * through (fun k => X3 (ix2 P k)) fun k => D (ix2 P k) * X4 (ix2 0 k))
      + through (fun k => X3 (ix2 P k)) (fun k => D (ix2 P k) * X4 (ix2 0 k)) * X3 (ix2 P q) := by
  pointwise [R5]
  simp only [Finset.sum_const, Finset.card_univ, Fintype.card_fin, one_smul]
  rfl

theorem r6_at (D X2 X3 X4) (P : Fin 2048) (q : Fin 1024) : R6 D X2 X3 X4 (ix2 P q) = R5 D X2 X3 X4 (ix2 P q) := by
  pointwise [R6]

theorem r7_at (D X3) (q : Fin 1024) : R7 D X3 (ix2 (0 : Fin 1) q)
    = ∑ P : Fin 2048, X3 (ix2 P q) * (rms fun k => X3 (ix2 P k)) * D (ix2 P q) := by
  pointwise [R7]
  rfl

/-! ## The call's stores -/

theorem pay3_at (v0 v1) (p : Fin 512) (q : Fin 1024) : k0_pay3 (F := Ideal) v0 v1 (ix2 p q)
    = ∑ k : Fin 1024, v0 (ix2 p k) * v1 (ix2 q k) := by
  pointwise [k0_pay3]

theorem pay7_at (v0 v1 x g d) (p : Fin 512) (q : Fin 1024) : k0_pay7 (F := Ideal) v0 v1 x g d (ix2 p q)
    = d (ix2 p q) + closed (fun k => x (ix2 p k)) (fun k => k0_pay3 (F := Ideal) v0 v1 (ix2 p k) * g (ix2 0 k)) q := by
  unfold k0_pay7
  generalize k0_pay3 (F := Ideal) v0 v1 = D
  pointwise [k0_pay5, k0_pay4]
  rfl

theorem pay8_at (v0 v1 x g d) (p : Fin 512) (q : Fin 1024) :
    k0_pay8 (F := Ideal) v0 v1 x g d (ix2 p q) = k0_pay7 (F := Ideal) v0 v1 x g d (ix2 p q) := by
  unfold k0_pay8
  generalize k0_pay7 (F := Ideal) v0 v1 x g d = Z
  pointwise [one_mul]

theorem pay1_at (v0 v1 x) (q : Fin 1024) : k0_pay1 (F := Ideal) (k0_pay6 v0 v1 x) (ix2 (0 : Fin 1) q)
    = ∑ p : Fin 512, k0_pay3 (F := Ideal) v0 v1 (ix2 p q) * (x (ix2 p q) * rms fun k => x (ix2 p k)) := by
  unfold k0_pay6
  generalize k0_pay3 (F := Ideal) v0 v1 = D
  pointwise [k0_pay1, k0_pay5, k0_pay4]
  rfl

theorem pay2_at (a b) (q : Fin 1024) : k0_pay2 (F := Ideal) a b (ix2 (0 : Fin 1) q) = b (ix2 0 q) + k0_pay1 (F := Ideal) a (ix2 0 q) := by
  unfold k0_pay2
  generalize k0_pay1 (F := Ideal) a = Z
  pointwise

/-! ## The points -/

variable (m : (ℓ : Loc nD τ sig) → Buf (Elt Ideal) ℓ)

/-- The arguments' blocks over all the points. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

/-- A point's blocks of the results. -/
theorem rows_out (c : Dev nD) (t : Fin cfg0.N) :
    (outsAt0 m c t.val t.isLt).1 = k0_pay7 (iblk m c 0 t) (iblk m c 1 t) (iblk m c 3 t) (iblk m c 4 t) (iblk m c 2 t)
    ∧ (outsAt0 m c t.val t.isLt).2.1 = k0_pay8 (iblk m c 0 t) (iblk m c 1 t) (iblk m c 3 t) (iblk m c 4 t) (iblk m c 2 t) := by
  have ht : t.val < 4 := t.isLt
  rcases Nat.lt_or_ge t.val 1 with h | h
  · rw [outsAt0_A m c t (by omega) (by omega)]
    refine ⟨?_, ?_⟩ <;> dsimp only <;> frame_out
  · rw [outsAt0_B m c t (by omega) (by omega)]
    refine ⟨?_, ?_⟩ <;> dsimp only <;> frame_out

theorem dg_A (c : Dev nD) (t : Fin cfg0.N) (h0 : t.val % 4 = 0) :
    (outsAt0 m c t.val t.isLt).2.2 = k0_pay1 (k0_pay6 (iblk m c 0 t) (iblk m c 1 t) (iblk m c 3 t)) := by
  have ht : t.val < 4 := t.isLt
  rw [outsAt0_A m c t h0 (by omega)]
  dsimp only; frame_out

theorem dg_B (c : Dev nD) (t : Fin cfg0.N) (h0 : ¬t.val % 4 = 0) :
    (outsAt0 m c t.val t.isLt).2.2 = k0_pay2 (k0_pay6 (iblk m c 0 t) (iblk m c 1 t) (iblk m c 3 t))
      (outsAt0 m c (t.val - 1) (Nat.lt_of_le_of_lt (Nat.sub_le _ _) t.isLt)).2.2 := by
  rw [outsAt0_B m c t h0 (by omega)]
  dsimp only; frame_out

/-- The arguments' arrays on a device. -/
abbrev A0 (c : Dev nD) : FVec Ideal S2048x1024 .bf16 := m ((c : Thread nD τ).loc main_arg0)
abbrev A1 (c : Dev nD) : FVec Ideal S1024x1024 .bf16 := m ((c : Thread nD τ).loc main_arg1)
abbrev A2 (c : Dev nD) : FVec Ideal S2048x1024 .f32 := m ((c : Thread nD τ).loc main_arg2)
abbrev A3 (c : Dev nD) : FVec Ideal S2048x1024 .f32 := m ((c : Thread nD τ).loc main_arg3)
abbrev A4 (c : Dev nD) : FVec Ideal S1x1024 .f32 := m ((c : Thread nD τ).loc main_arg4)

/-- The blocks a point loads, read in the arguments. -/
theorem x_at (c : Dev nD) (t : Fin cfg0.N) (p : Fin 512) (k : Fin 1024) (P : Fin 2048)
    (hP : P.val = t.val * 512 + p.val) : (iblk m c 0 t : FVec Ideal S512x1024 .bf16) (ix2 p k) = A0 m c (ix2 P k) := by
  blk_point [iblk, V, idx t]

theorem w_at (c : Dev nD) (t : Fin cfg0.N) (q : Fin 1024) (k : Fin 1024) :
    (iblk m c 1 t : FVec Ideal S1024x1024 .bf16) (ix2 q k) = A1 m c (ix2 q k) := by
  blk_point [iblk, V, idx t]

theorem d_at (c : Dev nD) (t : Fin cfg0.N) (p : Fin 512) (q : Fin 1024) (P : Fin 2048) (hP : P.val = t.val * 512 + p.val) :
    (iblk m c 2 t : FVec Ideal S512x1024 .f32) (ix2 p q) = A2 m c (ix2 P q) := by
  blk_point [iblk, V, idx t]

theorem h_at (c : Dev nD) (t : Fin cfg0.N) (p : Fin 512) (q : Fin 1024) (P : Fin 2048) (hP : P.val = t.val * 512 + p.val) :
    (iblk m c 3 t : FVec Ideal S512x1024 .f32) (ix2 p q) = A3 m c (ix2 P q) := by
  blk_point [iblk, V, idx t]

theorem g_at (c : Dev nD) (t : Fin cfg0.N) (q : Fin 1024) :
    (iblk m c 4 t : FVec Ideal S1x1024 .f32) (ix2 0 q) = A4 m c (ix2 0 q) := by
  blk_point [iblk, V, idx t]

/-- The product of a point's rows. -/
theorem acc (c : Dev nD) (t : Fin cfg0.N) (p : Fin 512) (q : Fin 1024) (P : Fin 2048) (hP : P.val = t.val * 512 + p.val) :
    k0_pay3 (F := Ideal) (iblk m c 0 t) (iblk m c 1 t) (ix2 p q) = DN (A0 m c) (A1 m c) (ix2 P q) := by
  rw [pay3_at, dn_at]
  refine Finset.sum_congr rfl fun k _ => ?_
  rw [x_at m c t p k P hP, w_at m c t q k]

/-- The scale's gradient from a block of rows. -/
def rows (c : Dev nD) (i : Fin 4) (q : Fin 1024) : EReal := ∑ p : Fin 512,
  DN (A0 m c) (A1 m c) (ix2 ⟨i.val * 512 + p.val, by omega⟩ q)
    * (A3 m c (ix2 ⟨i.val * 512 + p.val, by omega⟩ q) * rms fun k => A3 m c (ix2 ⟨i.val * 512 + p.val, by omega⟩ k))

theorem pay1_rows (c : Dev nD) (t : Fin cfg0.N) (i : Fin 4) (hi : t.val = i.val) (q : Fin 1024) :
    k0_pay1 (F := Ideal) (k0_pay6 (iblk m c 0 t) (iblk m c 1 t) (iblk m c 3 t)) (ix2 (0 : Fin 1) q) = rows m c i q := by
  rw [pay1_at]
  unfold rows
  refine Finset.sum_congr rfl fun p _ => ?_
  have hP : (⟨i.val * 512 + p.val, by omega⟩ : Fin 2048).val = t.val * 512 + p.val := by rw [hi]
  rw [acc m c t p q _ hP, h_at m c t p q _ hP]
  exact congrArg (fun f => _ * (_ * rms f)) (funext fun k => h_at m c t p k _ hP)

/-- The scale's gradient after the block `n` of rows. -/
def sofar (c : Dev nD) (n : Nat) (hn : n < 4) (q : Fin 1024) : EReal :=
  ((outsAt0 m c n hn).2.2 : FVec Ideal S1x1024 .f32) (ix2 0 q)

theorem sofar_first (c : Dev nD) (i : Fin 4) (h0 : i.val % 4 = 0) (q : Fin 1024) : sofar m c i.val i.isLt q = 0 + rows m c i q := by
  unfold sofar
  rw [zero_add]
  exact (congrFun (dg_A m c ⟨i.val, i.isLt⟩ h0) (ix2 0 q)).trans (pay1_rows m c ⟨i.val, i.isLt⟩ i rfl q)

theorem sofar_next (c : Dev nD) (i : Fin 4) (h0 : ¬i.val % 4 = 0) (q : Fin 1024) :
    sofar m c i.val i.isLt q = sofar m c (i.val - 1) (Nat.lt_of_le_of_lt (Nat.sub_le _ _) i.isLt) q + rows m c i q := by
  unfold sofar
  refine (congrFun (dg_B m c ⟨i.val, i.isLt⟩ h0) (ix2 0 q)).trans ?_
  rw [pay2_at, pay1_rows m c ⟨i.val, i.isLt⟩ i rfl q]

/-- The scale's gradient after the last point. -/
theorem scale (c : Dev nD) (t : Fin cfg0.N) (h : t.val % 4 = 3) (q : Fin 1024) :
    ((outsAt0 m c t.val t.isLt).2.2 : FVec Ideal S1x1024 .f32) (ix2 0 q) = R7 (DN (A0 m c) (A1 m c)) (A3 m c) (ix2 0 q) := by
  have e := Pipeline.eq_sum_fin_of_reset_step_apply_of_flush (N := 4) (ι := Fin 1024) (M := EReal) (sofar m c) 4 (fun _ => 0) (rows m c)
    (sofar_first m c) (sofar_next m c) ⟨t.val, t.isLt⟩ h q
  refine Eq.trans (show _ = sofar m c t.val t.isLt q from rfl) (e.trans ?_)
  have ht : t.val < 4 := t.isLt
  rw [zero_add, r7_at]
  unfold rows
  refine Fin.sum_mul_add_congr fun s k hl => ?_
  have hs : 4 * (t.val / 4) + s.val = s.val := by omega
  simp only [hs]
  exact mul_comm _ _

/-- The gradient into the stream at a point. -/
theorem point5 (c : Dev nD) (t : Fin cfg0.N) (p : Fin 512) (q : Fin 1024) (P : Fin 2048) (hP : P.val = t.val * 512 + p.val) :
    k0_pay7 (F := Ideal) (iblk m c 0 t) (iblk m c 1 t) (iblk m c 3 t) (iblk m c 4 t) (iblk m c 2 t) (ix2 p q)
    = R5 (DN (A0 m c) (A1 m c)) (A2 m c) (A3 m c) (A4 m c) (ix2 P q) := by
  rw [pay7_at, r5_at, d_at m c t p q P hP,
    show (fun k => (iblk m c 3 t : FVec Ideal S512x1024 .f32) (ix2 p k)) = fun k => A3 m c (ix2 P k) from funext fun k => h_at m c t p k P hP,
    show (fun k => k0_pay3 (F := Ideal) (iblk m c 0 t) (iblk m c 1 t) (ix2 p k) * (iblk m c 4 t : FVec Ideal S1x1024 .f32) (ix2 0 k))
      = fun k => DN (A0 m c) (A1 m c) (ix2 P k) * A4 m c (ix2 0 k) from funext fun k => by rw [acc m c t p k P hP, g_at m c t k]]
  exact closed_eq _ _ q _

/-- The result arrays after the run. -/
theorem final5 (c : Dev nD) : (dats m 0 c).arrAt 5 (cfgs 0).N = R5 (DN (A0 m c) (A1 m c)) (A2 m c) (A3 m c) (A4 m c) := by
  refine (dats m 0 c).arrAt_eq_of_covers 5 _ (by decide +kernel) fun t hf y => ?_
  have ht : t.val < 4 := t.isLt
  blk_simp
  rw [after0_5, (rows_out m c t).1]
  obtain ⟨P, hP⟩ : ∃ P : Fin 2048, P.val = t.val * 512 + (y 0).val := ⟨⟨_, by have : (y 0).val < 512 := (y 0).isLt; omega⟩, rfl⟩
  have ey : y = ix2 (y 0) (y 1) := by blk_ext
  have ee : ((cfg0.win 5).blk t).view.emb y = ix2 P (y 1) := by blk_ext [idx t]
  rw [ee, ey]
  exact point5 m c t _ _ P hP

theorem final6 (c : Dev nD) : (dats m 0 c).arrAt 6 (cfgs 0).N = R6 (DN (A0 m c) (A1 m c)) (A2 m c) (A3 m c) (A4 m c) := by
  refine (dats m 0 c).arrAt_eq_of_covers 6 _ (by decide +kernel) fun t hf y => ?_
  have ht : t.val < 4 := t.isLt
  blk_simp
  rw [after0_6, (rows_out m c t).2]
  obtain ⟨P, hP⟩ : ∃ P : Fin 2048, P.val = t.val * 512 + (y 0).val := ⟨⟨_, by have : (y 0).val < 512 := (y 0).isLt; omega⟩, rfl⟩
  have ey : y = ix2 (y 0) (y 1) := by blk_ext
  have ee : ((cfg0.win 6).blk t).view.emb y = ix2 P (y 1) := by blk_ext [idx t]
  rw [ee, ey]
  refine (pay8_at _ _ _ _ _ _ _).trans ((point5 m c t _ _ P hP).trans ?_)
  exact (r6_at _ _ _ _ P _).symm

theorem final7 (c : Dev nD) : (dats m 0 c).arrAt 7 (cfgs 0).N = R7 (DN (A0 m c) (A1 m c)) (A3 m c) := by
  refine (dats m 0 c).arrAt_eq_of_covers 7 _ (by decide +kernel) fun t hf y => ?_
  have h := (flush0_7 t).1 hf
  blk_simp
  rw [after0_7]
  have ey : y = ix2 (0 : Fin 1) (y 1) := by blk_ext
  have ee : ((cfg0.win 7).blk t).view.emb y = ix2 (0 : Fin 1) (y 1) := by blk_ext [idx t]
  rw [ee, ey]
  exact scale m c t h (y 1)

theorem frame_kernel : Cert.quiescent_KernelDhn := fun m ρ _ => Cert.KernelDhn.Gen.frame m ρ
theorem frame_kernelIdeal : Cert.quiescent_KernelDhnIdeal := fun m ρ _ => Cert.KernelDhnIdeal.Gen.frame m ρ
theorem frame_reference : Cert.quiescent_ReferenceDhnIdeal := fun m ρ _ =>
  (θ_run Cert.ReferenceDhnIdeal.defs _ _).mono
    (fun r h => ⟨fun c => (h c).2.2.2, Idealize.ShloMosaic.sem_eq_zero_of_no_sems (by decide) r.2⟩) (Cert.ReferenceDhnIdeal.Value.run (F := Ideal) m ρ)

/-- Kernel and reference end with the same arrays. -/
theorem equal_results : Cert.algebraic_KernelDhnIdeal_ReferenceDhnIdeal := by
  intro m g m' g' _ hin
  refine ⟨fun c => R5 (DN (A0 m c) (A1 m c)) (A2 m c) (A3 m c) (A4 m c), fun c => R6 (DN (A0 m c) (A1 m c)) (A2 m c) (A3 m c) (A4 m c),
    fun c => R7 (DN (A0 m c) (A1 m c)) (A3 m c), ?_, ?_⟩
  · refine (θ_run Cert.KernelDhnIdeal.defs _ _).mono (fun r h c => ?_) (Cert.KernelDhnIdeal.Value.run_blocks (F := Ideal) m g)
    exact ⟨(h c).1.trans (final5 m c), (h c).2.1.trans (final6 m c), (h c).2.2.1.trans (final7 m c), (h c).2.2.2⟩
  · refine (θ_run Cert.ReferenceDhnIdeal.defs _ _).mono (fun r h c => ?_) (Cert.ReferenceDhnIdeal.Value.run (F := Ideal) m' g')
    refine ⟨(h c).1.trans ?_, (h c).2.1.trans ?_, (h c).2.2.1.trans ?_, (h c).2.2.2⟩
    · unfold Cert.ReferenceDhnIdeal.Value.res_main_v38
      rw [(hin c).1, (hin c).2.1, (hin c).2.2.1, (hin c).2.2.2.1, (hin c).2.2.2.2]
    · unfold Cert.ReferenceDhnIdeal.Value.res_main_v39
      rw [(hin c).1, (hin c).2.1, (hin c).2.2.1, (hin c).2.2.2.1, (hin c).2.2.2.2]
    · rw [(hin c).1, (hin c).2.1, (hin c).2.2.2.1]

end

end Cert.Proof.Dhn
-- ==== Proof.Dwsq.lean ====
module
public import proofs.«01_k».proof.Defs
public import proofs.«01_k».proof.Proof.Gen.KernelDwsqIdeal.Value
public import proofs.«01_k».proof.Proof.Gen.KernelDwsq.Frame
public import proofs.«01_k».proof.Proof.Gen.ReferenceDwsqIdeal.Run
public import Idealize.ShloMosaic.Lib.Pipeline.ValueKit
public import Idealize.ShloMosaic.Lib.Pointwise
public import Idealize.ShloMosaic.Lib.Claim

/-! The gradient of a square weight: the call's tiles of `aᵀ · dy` against the derivative of `a · w`. -/

set_option maxRecDepth 16384

@[expose] public section

namespace Cert.Proof.Dwsq
open Idealize.ShloMosaic Idealize.ShloMosaic.TcCoe Idealize.SL.Sem Cert.KernelDwsqIdeal Cert.KernelDwsqIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S2048x1024 .bf16) : FVec Ideal S1024x1024 .bf16 :=
  truncf .bf16 (transpose Cert.ReferenceDwsqIdeal.S1024x1024 [1, 0]
    (Host.dotGeneral Cert.ReferenceDwsqIdeal.dot_S2048x1024_S2048x1024_S1024x1024_0_0_1_1_n_n none
      (extf .f32 Y Cert.ReferenceDwsqIdeal.Gen.bitsLt_bf16_f32) (extf .f32 X Cert.ReferenceDwsqIdeal.Gen.bitsLt_bf16_f32))
    Cert.ReferenceDwsqIdeal.Gen.transposes_S1024x1024_S1024x1024_1_0) Cert.ReferenceDwsqIdeal.Gen.bitsLt_bf16_f32

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwsq := fun m ρ _ => Cert.KernelDwsq.Gen.frame m ρ
theorem frame_kernelIdeal : Cert.quiescent_KernelDwsqIdeal := fun m ρ _ => Cert.KernelDwsqIdeal.Gen.frame m ρ
theorem frame_reference : Cert.quiescent_ReferenceDwsqIdeal := fun m ρ _ =>
  (θ_run Cert.ReferenceDwsqIdeal.defs _ _).mono
    (fun r h => ⟨fun c => (h c).2, Idealize.ShloMosaic.sem_eq_zero_of_no_sems (by decide) r.2⟩) (Cert.ReferenceDwsqIdeal.Value.run (F := Ideal) m ρ)

/-- Kernel and reference end with the same array. -/
theorem equal_results : Cert.algebraic_KernelDwsqIdeal_ReferenceDwsqIdeal := by
  intro m g m' g' _ hin
  refine ⟨fun c => REF (m ((c : Thread nD τ).loc main_arg0)) (m ((c : Thread nD τ).loc main_arg1)), ?_, ?_⟩
  · refine (θ_run Cert.KernelDwsqIdeal.defs _ _).mono (fun r h c => ?_) (Cert.KernelDwsqIdeal.Value.run_blocks (F := Ideal) m g)
    exact ⟨(h c).1.trans (final m c), (h c).2⟩
  · refine (θ_run Cert.ReferenceDwsqIdeal.defs _ _).mono (fun r h c => ?_) (Cert.ReferenceDwsqIdeal.Value.run (F := Ideal) m' g')
    refine ⟨(h c).1.trans ?_, (h c).2⟩
    rw [(hin c).1, (hin c).2]

end
end Cert.Proof.Dwsq
-- ==== Proof.Dwattn.lean ====
module
public import proofs.«01_k».proof.Defs
public import proofs.«01_k».proof.Proof.Gen.KernelDwattnIdeal.Value
public import proofs.«01_k».proof.Proof.Gen.KernelDwattn.Frame
public import proofs.«01_k».proof.Proof.Gen.ReferenceDwattnIdeal.Run
public import Idealize.ShloMosaic.Lib.Pipeline.ValueKit
public import Idealize.ShloMosaic.Lib.Pointwise
public import Idealize.ShloMosaic.Lib.Claim

/-! The gradient of the attention's output weight: the call's tiles of `y_sbᵀ · da` against the derivative of `y_sb · w`. -/

set_option maxRecDepth 16384

@[expose] public section

namespace Cert.Proof.Dwattn
open Idealize.ShloMosaic Idealize.ShloMosaic.TcCoe Idealize.SL.Sem Cert.KernelDwattnIdeal Cert.KernelDwattnIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .f32) (Y : FVec Ideal S2048x1024 .bf16) : FVec Ideal S1024x1024 .bf16 :=
  truncf .bf16 (transpose Cert.ReferenceDwattnIdeal.S1024x1024 [1, 0]
    (Host.dotGeneral Cert.ReferenceDwattnIdeal.dot_S2048x1024_S2048x1024_S1024x1024_0_0_1_1_n_n none
      (extf .f32 Y Cert.ReferenceDwattnIdeal.Gen.bitsLt_bf16_f32) X)
    Cert.ReferenceDwattnIdeal.Gen.transposes_S1024x1024_S1024x1024_1_0) Cert.ReferenceDwattnIdeal.Gen.bitsLt_bf16_f32

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwattn := fun m ρ _ => Cert.KernelDwattn.Gen.frame m ρ
theorem frame_kernelIdeal : Cert.quiescent_KernelDwattnIdeal := fun m ρ _ => Cert.KernelDwattnIdeal.Gen.frame m ρ
theorem frame_reference : Cert.quiescent_ReferenceDwattnIdeal := fun m ρ _ =>
  (θ_run Cert.ReferenceDwattnIdeal.defs _ _).mono
    (fun r h => ⟨fun c => (h c).2, Idealize.ShloMosaic.sem_eq_zero_of_no_sems (by decide) r.2⟩) (Cert.ReferenceDwattnIdeal.Value.run (F := Ideal) m ρ)

/-- Kernel and reference end with the same array. -/
theorem equal_results : Cert.algebraic_KernelDwattnIdeal_ReferenceDwattnIdeal := by
  intro m g m' g' _ hin
  refine ⟨fun c => REF (m ((c : Thread nD τ).loc main_arg0)) (m ((c : Thread nD τ).loc main_arg1)), ?_, ?_⟩
  · refine (θ_run Cert.KernelDwattnIdeal.defs _ _).mono (fun r h c => ?_) (Cert.KernelDwattnIdeal.Value.run_blocks (F := Ideal) m g)
    exact ⟨(h c).1.trans (final m c), (h c).2⟩
  · refine (θ_run Cert.ReferenceDwattnIdeal.defs _ _).mono (fun r h c => ?_) (Cert.ReferenceDwattnIdeal.Value.run (F := Ideal) m' g')
    refine ⟨(h c).1.trans ?_, (h c).2⟩
    rw [(hin c).1, (hin c).2]

end
end Cert.Proof.Dwattn
-- ==== Proof.Dsq.lean ====
module
public import proofs.«01_k».proof.Defs
public import proofs.«01_k».proof.Proof.Gen.KernelDsqIdeal.Value
public import proofs.«01_k».proof.Proof.Gen.KernelDsq.Frame
public import proofs.«01_k».proof.Proof.Gen.ReferenceDsqIdeal.Run
public import Idealize.ShloMosaic.Lib.Pipeline.ValueKit
public import Idealize.ShloMosaic.Lib.Pointwise
public import Idealize.ShloMosaic.Lib.Claim

/-! The gradient of a square product's argument: the call's tiles of `dy · wᵀ` against the derivative of `a · w`. -/

set_option maxRecDepth 16384

@[expose] public section

namespace Cert.Proof.Dsq
open Idealize.ShloMosaic Idealize.ShloMosaic.TcCoe Idealize.SL.Sem Cert.KernelDsqIdeal Cert.KernelDsqIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S1024x1024 .bf16) : FVec Ideal S2048x1024 .bf16 :=
  truncf .bf16 (Host.dotGeneral Cert.ReferenceDsqIdeal.dot_S2048x1024_S1024x1024_S2048x1024_1_1_0_0_n_n none
    (extf .f32 X Cert.ReferenceDsqIdeal.Gen.bitsLt_bf16_f32) (extf .f32 Y Cert.ReferenceDsqIdeal.Gen.bitsLt_bf16_f32)) Cert.ReferenceDsqIdeal.Gen.bitsLt_bf16_f32

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDsq := fun m ρ _ => Cert.KernelDsq.Gen.frame m ρ
theorem frame_kernelIdeal : Cert.quiescent_KernelDsqIdeal := fun m ρ _ => Cert.KernelDsqIdeal.Gen.frame m ρ
theorem frame_reference : Cert.quiescent_ReferenceDsqIdeal := fun m ρ _ =>
  (θ_run Cert.ReferenceDsqIdeal.defs _ _).mono
    (fun r h => ⟨fun c => (h c).2, Idealize.ShloMosaic.sem_eq_zero_of_no_sems (by decide) r.2⟩) (Cert.ReferenceDsqIdeal.Value.run (F := Ideal) m ρ)

/-- Kernel and reference end with the same array. -/
theorem equal_results : Cert.algebraic_KernelDsqIdeal_ReferenceDsqIdeal := by
  intro m g m' g' _ hin
  refine ⟨fun c => REF (m ((c : Thread nD τ).loc main_arg0)) (m ((c : Thread nD τ).loc main_arg1)), ?_, ?_⟩
  · refine (θ_run Cert.KernelDsqIdeal.defs _ _).mono (fun r h c => ?_) (Cert.KernelDsqIdeal.Value.run_blocks (F := Ideal) m g)
    exact ⟨(h c).1.trans (final m c), (h c).2⟩
  · refine (θ_run Cert.ReferenceDsqIdeal.defs _ _).mono (fun r h c => ?_) (Cert.ReferenceDsqIdeal.Value.run (F := Ideal) m' g')
    refine ⟨(h c).1.trans ?_, (h c).2⟩
    rw [(hin c).1, (hin c).2]

end
end Cert.Proof.Dsq
-- ==== Proof.Up.lean ====
module
public import proofs.«01_k».proof.Defs
public import proofs.«01_k».proof.Proof.Gen.KernelUpIdeal.Value
public import proofs.«01_k».proof.Proof.Gen.KernelUp.Frame
public import proofs.«01_k».proof.Proof.Gen.ReferenceUpIdeal.Run
public import proofs.«01_k».proof.Proof.Reals
public import Idealize.ShloMosaic.Lib.Pipeline.ValueKit
public import Idealize.ShloMosaic.Lib.Pointwise
public import Idealize.ShloMosaic.Lib.Claim

/-! The first half of a feed-forward block: the call's tiles of gate, up and `silu gate · up` against the whole product split in
    two. -/

set_option maxRecDepth 16384

@[expose] public section

namespace Cert.Proof.Up
open Idealize.ShloMosaic Idealize.ShloMosaic.TcCoe Idealize.SL.Sem Cert.KernelUpIdeal Cert.KernelUpIdeal.Gen
open Idealize.ShloMosaic.Pipeline (Dat)

noncomputable section

/-- The product, its two halves and the two results, as the reference computes them. -/
abbrev GU (A0 : FVec Ideal S2048x1024 .bf16) (A1 : FVec Ideal S1024x5632 .bf16) : FVec Ideal Cert.ReferenceUpIdeal.S2048x5632 .f32 :=
  Host.dotGeneral Cert.ReferenceUpIdeal.dot_S2048x1024_S1024x5632_S2048x5632_1_0_0_1_n_n none (extf .f32 A0
    Cert.ReferenceUpIdeal.Gen.bitsLt_bf16_f32) (extf .f32 A1 Cert.ReferenceUpIdeal.Gen.bitsLt_bf16_f32)

abbrev gate (A0 : FVec Ideal S2048x1024 .bf16) (A1 : FVec Ideal S1024x5632 .bf16) : FVec Ideal Cert.ReferenceUpIdeal.S2048x2816 .f32 :=
  extractStridedSlice Cert.ReferenceUpIdeal.S2048x2816 ![0, 0] (GU A0 A1) Cert.ReferenceUpIdeal.Gen.slices_S2048x5632_S2048x2816_0_0

abbrev up (A0 : FVec Ideal S2048x1024 .bf16) (A1 : FVec Ideal S1024x5632 .bf16) : FVec Ideal Cert.ReferenceUpIdeal.S2048x2816 .f32 :=
  extractStridedSlice Cert.ReferenceUpIdeal.S2048x2816 ![0, 2816] (GU A0 A1)
    Cert.ReferenceUpIdeal.Gen.slices_S2048x5632_S2048x2816_0_2816

abbrev REF0 (A0 : FVec Ideal S2048x1024 .bf16) (A1 : FVec Ideal S1024x5632 .bf16) : FVec Ideal S2x2048x2816 .bf16 :=
  truncf .bf16 (concatenate Cert.ReferenceUpIdeal.S2x2048x2816 0 [⟨Cert.ReferenceUpIdeal.S1x2048x2816, (broadcastInDim
    Cert.ReferenceUpIdeal.S1x2048x2816 ![1, 2] Cert.ReferenceUpIdeal.Gen.bcast_S2048x2816_S1x2048x2816_1_2 (gate A0 A1))⟩,
    ⟨Cert.ReferenceUpIdeal.S1x2048x2816, (broadcastInDim Cert.ReferenceUpIdeal.S1x2048x2816 ![1, 2]
    Cert.ReferenceUpIdeal.Gen.bcast_S2048x2816_S1x2048x2816_1_2 (up A0 A1))⟩]
    Cert.ReferenceUpIdeal.Gen.concatenates_S1x2048x2816_S1x2048x2816_S2x2048x2816_d0) Cert.ReferenceUpIdeal.Gen.bitsLt_bf16_f32

abbrev REF1 (A0 : FVec Ideal S2048x1024 .bf16) (A1 : FVec Ideal S1024x5632 .bf16) : FVec Ideal S2048x2816 .bf16 :=
  truncf .bf16 (mulf (mulf (gate A0 A1) (Host.divf (broadcastInDim Cert.ReferenceUpIdeal.S2048x2816 ![]
    Cert.ReferenceUpIdeal.Gen.bcast_S_S2048x2816 (constant Cert.ReferenceUpIdeal.S_ .f32 0x3F800000#32)) (addf (broadcastInDim
    Cert.ReferenceUpIdeal.S2048x2816 ![] Cert.ReferenceUpIdeal.Gen.bcast_S_S2048x2816 (constant Cert.ReferenceUpIdeal.S_ .f32
    0x3F800000#32)) (Host.exp (Host.negf (gate A0 A1)))))) (up A0 A1)) Cert.ReferenceUpIdeal.Gen.bitsLt_bf16_f32

/-- The reference's results, read at an index. -/
theorem ref0_gate (A0 A1) (p : Fin 2048) (q : Fin 2816) (Q : Fin 5632) (hQ : Q.val = q.val) :
    REF0 A0 A1 (ix3 (0 : Fin 2) p q) = ∑ k : Fin 1024, A0 (ix2 p k) * A1 (ix2 k Q) := by
  rw [show Q = ⟨q.val, by omega⟩ from Fin.ext hQ]
  pointwise [REF0]

theorem ref0_up (A0 A1) (p : Fin 2048) (q : Fin 2816) (Q : Fin 5632) (hQ : Q.val = 2816 + q.val) :
    REF0 A0 A1 (ix3 (1 : Fin 2) p q) = ∑ k : Fin 1024, A0 (ix2 p k) * A1 (ix2 k Q) := by
  rw [show Q = ⟨2816 + q.val, by omega⟩ from Fin.ext hQ]
  pointwise [REF0]

theorem ref1_at (A0 A1) (p : Fin 2048) (q : Fin 2816) (Q Q' : Fin 5632) (hQ : Q.val = q.val) (hQ' : Q'.val = 2816 + q.val) :
    REF1 A0 A1 (ix2 p q) = (∑ k : Fin 1024, A0 (ix2 p k) * A1 (ix2 k Q)) * sigm (∑ k : Fin 1024, A0 (ix2 p k) * A1 (ix2 k Q))
      * ∑ k : Fin 1024, A0 (ix2 p k) * A1 (ix2 k Q') := by
  have e : (⟨q.val, by omega⟩ : Fin 5632) = Q := Fin.ext hQ.symm
  have e' : (⟨2816 + q.val, by omega⟩ : Fin 5632) = Q' := Fin.ext hQ'.symm
  pointwise [REF1]
  rw [e, e']
  rfl

/-- The call's three stores, read at an index. -/
theorem pay3 (v0 v1) (p : Fin 1024) (q : Fin 1408) : k0_pay3 (F := Ideal) v0 v1 (ix3 (0 : Fin 1) p q)
    = ∑ k : Fin 1024, v0 (ix2 p k) * v1 (ix2 k q) := by
  pointwise [k0_pay3, k0_pay1]

theorem pay4 (v0 v3) (p : Fin 1024) (q : Fin 1408) : k0_pay4 (F := Ideal) v0 v3 (ix3 (0 : Fin 1) p q)
    = ∑ k : Fin 1024, v0 (ix2 p k) * v3 (ix2 k q) := by
  pointwise [k0_pay4, k0_pay2]

theorem pay5 (v0 v1 v3) (p : Fin 1024) (q : Fin 1408) : k0_pay5 (F := Ideal) v0 v1 v3 (ix2 p q)
    = (∑ k : Fin 1024, v0 (ix2 p k) * v1 (ix2 k q)) * sigm (∑ k : Fin 1024, v0 (ix2 p k) * v1 (ix2 k q))
      * ∑ k : Fin 1024, v0 (ix2 p k) * v3 (ix2 k q) := by
  pointwise [k0_pay5, k0_pay2, k0_pay1]
  simp only [zero_sub, sigm]

variable (m : (ℓ : Loc nD τ sig) → Buf (Elt Ideal) ℓ)

/-- The blocks over all the points. -/
theorem idx : ∀ t : Fin cfg0.N, win0_0.index t = ![(grid0.coords t 0).val, 0] ∧ win0_1.index t = ![0, (grid0.coords t 1).val]
    ∧ win0_2.index t = ![0, 2 + (grid0.coords t 1).val] ∧ win0_3.index t = ![0, (grid0.coords t 0).val, (grid0.coords t 1).val]
    ∧ win0_4.index t = ![(grid0.coords t 0).val, (grid0.coords t 1).val] :=
  (by decide +kernel : ∀ t : Fin grid0.N, _)

abbrev X (c : Dev nD) : FVec Ideal S2048x1024 .bf16 := m ((c : Thread nD τ).loc main_arg0)
abbrev W (c : Dev nD) : FVec Ideal S1024x5632 .bf16 := m ((c : Thread nD τ).loc main_arg1)

/-- The blocks a point loads, -/
abbrev bx (c : Dev nD) (t : Fin cfg0.N) : FVec Ideal S1024x1024 .bf16 := iblk m c 0 t
abbrev bg (c : Dev nD) (t : Fin cfg0.N) : FVec Ideal S1024x1408 .bf16 := iblk m c 1 t
abbrev bu (c : Dev nD) (t : Fin cfg0.N) : FVec Ideal S1024x1408 .bf16 := iblk m c 2 t

/-- read in the arguments. -/
theorem x_at (c : Dev nD) (t : Fin cfg0.N) (p k : Fin 1024) (P : Fin 2048) (hP : P.val = (grid0.coords t 0).val * 1024 + p.val) :
    bx m c t (ix2 p k) = X m c (ix2 P k) := by
  blk_point [bx, bg, bu, iblk, V, idx t]

theorem x_ld (c : Dev nD) (t : Fin cfg0.N) (p k : Fin 1024) (P : Fin 2048) (hP : P.val = (grid0.coords t 0).val * 1024 + p.val) :
    View.ld (iblk m c 0 t) r0_0 (ix2 p k) = X m c (ix2 P k) := by
  blk_point [bx, bg, bu, iblk, V, idx t]

theorem g_at (c : Dev nD) (t : Fin cfg0.N) (k : Fin 1024) (q : Fin 1408) (Q : Fin 5632)
    (hQ : Q.val = (grid0.coords t 1).val * 1408 + q.val) :
    bg m c t (ix2 k q) = W m c (ix2 k Q) := by
  blk_point [bx, bg, bu, iblk, V, idx t]

theorem g_ld (c : Dev nD) (t : Fin cfg0.N) (k : Fin 1024) (q : Fin 1408) (Q : Fin 5632)
    (hQ : Q.val = (grid0.coords t 1).val * 1408 + q.val) :
    View.ld (iblk m c 1 t) r0_1 (ix2 k q) = W m c (ix2 k Q) := by
  blk_point [bx, bg, bu, iblk, V, idx t]

theorem u_at (c : Dev nD) (t : Fin cfg0.N) (k : Fin 1024) (q : Fin 1408) (Q : Fin 5632)
    (hQ : Q.val = (2 + (grid0.coords t 1).val) * 1408 + q.val) :
    bu m c t (ix2 k q) = W m c (ix2 k Q) := by
  blk_point [bx, bg, bu, iblk, V, idx t]

theorem u_ld (c : Dev nD) (t : Fin cfg0.N) (k : Fin 1024) (q : Fin 1408) (Q : Fin 5632)
    (hQ : Q.val = (2 + (grid0.coords t 1).val) * 1408 + q.val) :
    View.ld (iblk m c 2 t) r0_1 (ix2 k q) = W m c (ix2 k Q) := by
  blk_point [bx, bg, bu, iblk, V, idx t]

/-- What a point writes is the reference's result at the place of its block: gate and up, -/
theorem point3 (c : Dev nD) (t : Fin cfg0.N) (y) : out0_3 (iblk m c 0 t) (iblk m c 1 t) (iblk m c 2 t) y
    = REF0 (X m c) (W m c) (((cfg0.win 3).blk t).view.emb y) := by
  have hi : (grid0.coords t 0).val < 2 := (grid0.coords t 0).isLt
  have hj : (grid0.coords t 1).val < 2 := (grid0.coords t 1).isLt
  unfold out0_3
  canon_tiles x h
  all_goals
    obtain ⟨P, hP⟩ : ∃ P : Fin 2048, P.val = (grid0.coords t 0).val * 1024 + (x 1).val := ⟨⟨_, by omega⟩, rfl⟩
    obtain ⟨Q, hQ⟩ : ∃ Q : Fin 2816, Q.val = (grid0.coords t 1).val * 1408 + (x 2).val := ⟨⟨_, by omega⟩, rfl⟩
    obtain ⟨Q1, hQ1⟩ : ∃ Q1 : Fin 5632, Q1.val = (grid0.coords t 1).val * 1408 + (x 2).val := ⟨⟨_, by omega⟩, rfl⟩
    obtain ⟨Q2, hQ2⟩ : ∃ Q2 : Fin 5632, Q2.val = (2 + (grid0.coords t 1).val) * 1408 + (x 2).val := ⟨⟨_, by omega⟩, rfl⟩
    have ex : x = ix3 (0 : Fin 1) (x 1) (x 2) := by blk_ext
    rw [ex]
  case piece0 =>
    have ee : ((cfg0.win 3).blk t).view.emb y = ix3 (1 : Fin 2) P Q := by blk_ext [idx t]
    rw [ee]
    refine (pay4 _ _ _ _).trans (Eq.trans ?_ (ref0_up _ _ _ _ Q2 (by omega)).symm)
    exact Finset.sum_congr rfl fun k _ => congrArg₂ _ (x_ld m c t _ k P hP) (u_ld m c t k _ Q2 hQ2)
  case piece1 =>
    have ee : ((cfg0.win 3).blk t).view.emb y = ix3 (0 : Fin 2) P Q := by blk_ext [idx t]
    rw [ee]
    refine (pay3 _ _ _ _).trans (Eq.trans ?_ (ref0_gate _ _ _ _ Q1 (by omega)).symm)
    exact Finset.sum_congr rfl fun k _ => congrArg₂ _ (x_ld m c t _ k P hP) (g_ld m c t k _ Q1 hQ1)

/-- and the activation. -/
theorem point4 (c : Dev nD) (t : Fin cfg0.N) (y) : k0_pay5 (iblk m c 0 t) (iblk m c 1 t) (iblk m c 2 t) y
    = REF1 (X m c) (W m c) (((cfg0.win 4).blk t).view.emb y) := by
  have hi : (grid0.coords t 0).val < 2 := (grid0.coords t 0).isLt
  have hj : (grid0.coords t 1).val < 2 := (grid0.coords t 1).isLt
  have h0 : (y 0).val < 1024 := (y 0).isLt
  have h1 : (y 1).val < 1408 := (y 1).isLt
  obtain ⟨P, hP⟩ : ∃ P : Fin 2048, P.val = (grid0.coords t 0).val * 1024 + (y 0).val := ⟨⟨_, by omega⟩, rfl⟩
  obtain ⟨Q, hQ⟩ : ∃ Q : Fin 2816, Q.val = (grid0.coords t 1).val * 1408 + (y 1).val := ⟨⟨_, by omega⟩, rfl⟩
  obtain ⟨Q1, hQ1⟩ : ∃ Q1 : Fin 5632, Q1.val = (grid0.coords t 1).val * 1408 + (y 1).val := ⟨⟨_, by omega⟩, rfl⟩
  obtain ⟨Q2, hQ2⟩ : ∃ Q2 : Fin 5632, Q2.val = (2 + (grid0.coords t 1).val) * 1408 + (y 1).val := ⟨⟨_, by omega⟩, rfl⟩
  have ex : y = ix2 (y 0) (y 1) := by blk_ext
  have ee : ((cfg0.win 4).blk t).view.emb y = ix2 P Q := by blk_ext [idx t]
  rw [ee, ex]
  refine (pay5 _ _ _ _ _).trans (Eq.trans ?_ (ref1_at _ _ _ _ Q1 Q2 (by omega) (by omega)).symm)
  have e1 : ∑ k : Fin 1024, bx m c t (ix2 (y 0) k) * bg m c t (ix2 k (y 1))
      = ∑ k : Fin 1024, X m c (ix2 P k) * W m c (ix2 k Q1) :=
    Finset.sum_congr rfl fun k _ => congrArg₂ _ (x_at m c t (y 0) k P hP) (g_at m c t k (y 1) Q1 hQ1)
  have e2 : ∑ k : Fin 1024, bx m c t (ix2 (y 0) k) * bu m c t (ix2 k (y 1))
      = ∑ k : Fin 1024, X m c (ix2 P k) * W m c (ix2 k Q2) :=
    Finset.sum_congr rfl fun k _ => congrArg₂ _ (x_at m c t (y 0) k P hP) (u_at m c t k (y 1) Q2 hQ2)
  exact congrArg₂ (· * ·) (congrArg (fun z => z * sigm z) e1) e2

/-- The result arrays after the run. -/
theorem final3 (c : Dev nD) : (dats m 0 c).arrAt 3 (cfgs 0).N = REF0 (X m c) (W m c) := by
  refine (dats m 0 c).arrAt_eq_of_covers 3 _ (by decide +kernel) fun t _ y => ?_
  blk_simp
  rw [after0_3]
  exact point3 m c t y

theorem final4 (c : Dev nD) : (dats m 0 c).arrAt 4 (cfgs 0).N = REF1 (X m c) (W m c) := by
  refine (dats m 0 c).arrAt_eq_of_covers 4 _ (by decide +kernel) fun t _ y => ?_
  blk_simp
  rw [after0_4]; frame_out
  exact point4 m c t y

theorem frame_kernel : Cert.quiescent_KernelUp := fun m ρ _ => Cert.KernelUp.Gen.frame m ρ
theorem frame_kernelIdeal : Cert.quiescent_KernelUpIdeal := fun m ρ _ => Cert.KernelUpIdeal.Gen.frame m ρ
theorem frame_reference : Cert.quiescent_ReferenceUpIdeal := fun m ρ _ =>
  (θ_run Cert.ReferenceUpIdeal.defs _ _).mono
    (fun r h => ⟨fun c => (h c).2.2, Idealize.ShloMosaic.sem_eq_zero_of_no_sems (by decide) r.2⟩) (Cert.ReferenceUpIdeal.Value.run (F := Ideal) m ρ)

/-- Kernel and reference end with the same arrays. -/
theorem equal_results : Cert.algebraic_KernelUpIdeal_ReferenceUpIdeal := by
  intro m g m' g' _ hin
  refine ⟨fun c => REF0 (X m c) (W m c), fun c => REF1 (X m c) (W m c), ?_, ?_⟩
  · refine (θ_run Cert.KernelUpIdeal.defs _ _).mono (fun r h c => ?_) (Cert.KernelUpIdeal.Value.run_blocks (F := Ideal) m g)
    exact ⟨(h c).1.trans (final3 m c), (h c).2.1.trans (final4 m c), (h c).2.2⟩
  · refine (θ_run Cert.ReferenceUpIdeal.defs _ _).mono (fun r h c => ?_) (Cert.ReferenceUpIdeal.Value.run (F := Ideal) m' g')
    refine ⟨(h c).1.trans ?_, (h c).2.1.trans ?_, (h c).2.2⟩
    all_goals rw [(hin c).1, (hin c).2]

end
end Cert.Proof.Up
-- ==== Proof.Down.lean ====
module
public import proofs.«01_k».proof.Defs
public import proofs.«01_k».proof.Proof.Gen.KernelDownIdeal.Value
public import proofs.«01_k».proof.Proof.Gen.KernelDown.Frame
public import proofs.«01_k».proof.Proof.Gen.ReferenceDownIdeal.Run
public import proofs.«01_k».proof.Proof.Rms
public import Idealize.ShloMosaic.Lib.Pipeline.ValueKit
public import Idealize.ShloMosaic.Lib.Pointwise
public import Idealize.ShloMosaic.Lib.Claim

/-! The second half of a feed-forward block, with the residual sum and the next normalisation: the call's row tiles against
    the whole arrays. -/

set_option maxRecDepth 16384

@[expose] public section

namespace Cert.Proof.Down
open Idealize.ShloMosaic Idealize.ShloMosaic.TcCoe Idealize.SL.Sem Cert.KernelDownIdeal Cert.KernelDownIdeal.Gen
open Idealize.ShloMosaic.Pipeline (Dat)
open Cert.Proof.Rms

noncomputable section

/-- The residual stream's next value, and its normalised form, as the reference computes them. -/
abbrev REF0 (A0 : FVec Ideal S2048x2816 .bf16) (A1 : FVec Ideal S2816x1024 .bf16) (A2 : FVec Ideal S2048x1024 .f32) : FVec Ideal S2048x1024 .f32 :=
  addf A2 (mulf (broadcastInDim Cert.ReferenceDownIdeal.S2048x1024 ![] Cert.ReferenceDownIdeal.Gen.bcast_S_S2048x1024 (constant
    Cert.ReferenceDownIdeal.S_ .f32 0x3F000000#32)) (Host.dotGeneral
    Cert.ReferenceDownIdeal.dot_S2048x2816_S2816x1024_S2048x1024_1_0_0_1_n_n none (extf .f32 A0
    Cert.ReferenceDownIdeal.Gen.bitsLt_bf16_f32) (extf .f32 A1 Cert.ReferenceDownIdeal.Gen.bitsLt_bf16_f32)))

abbrev REF1 (A0 : FVec Ideal S2048x2816 .bf16) (A1 : FVec Ideal S2816x1024 .bf16) (A2 : FVec Ideal S2048x1024 .f32) (A3 : FVec Ideal S1x1024 .f32) : FVec Ideal S2048x1024 .bf16 :=
  truncf .bf16 (mulf (mulf (REF0 A0 A1 A2) (broadcastInDim Cert.ReferenceDownIdeal.S2048x1024 ![0, 1]
    Cert.ReferenceDownIdeal.Gen.bcast_S2048x1_S2048x1024_0_1 (Host.rsqrt (addf (Host.divf (broadcastInDim
    Cert.ReferenceDownIdeal.S2048x1 ![0] Cert.ReferenceDownIdeal.Gen.bcast_S2048_S2048x1_0 (Host.reduceAdd (mulf (REF0 A0 A1 A2)
    (REF0 A0 A1 A2)) (constant Cert.ReferenceDownIdeal.S_ .f32 0x00000000#32)
    Cert.ReferenceDownIdeal.Gen.reducesTo_S2048x1024_S2048_d1 Cert.ReferenceDownIdeal.Gen.h_S_)) (broadcastInDim
    Cert.ReferenceDownIdeal.S2048x1 ![] Cert.ReferenceDownIdeal.Gen.bcast_S_S2048x1 (constant Cert.ReferenceDownIdeal.S_ .f32
    0x44800000#32))) (broadcastInDim Cert.ReferenceDownIdeal.S2048x1 ![] Cert.ReferenceDownIdeal.Gen.bcast_S_S2048x1 (constant
    Cert.ReferenceDownIdeal.S_ .f32 0x358637BD#32)))))) (broadcastInDim Cert.ReferenceDownIdeal.S2048x1024 ![0, 1]
    Cert.ReferenceDownIdeal.Gen.bcast_S1x1024_S2048x1024_0_1 A3)) Cert.ReferenceDownIdeal.Gen.bitsLt_bf16_f32

/-- A number of the stream's next value, of its old value, of a row of the first factor and of a column of the second. -/
def next (h : EReal) (a b : Fin 2816 → EReal) : EReal := h + Ideal.ofBits .f32 0x3F000000#32 * ∑ k, a k * b k

theorem ref0_at (A0 A1 A2) (p : Fin 2048) (q : Fin 1024) :
    REF0 A0 A1 A2 (ix2 p q) = next (A2 (ix2 p q)) (fun k => A0 (ix2 p k)) (fun k => A1 (ix2 k q)) := by
  pointwise [REF0]
  rfl

theorem ref1_at (A0 A1 A2 A3) (p : Fin 2048) (q : Fin 1024) :
    REF1 A0 A1 A2 A3 (ix2 p q) = REF0 A0 A1 A2 (ix2 p q) * rms (fun k => REF0 A0 A1 A2 (ix2 p k)) * A3 (ix2 0 q) := by
  unfold REF1
  generalize REF0 A0 A1 A2 = Z
  pointwise
  rfl

/-- The call's two stores, read at an index. -/
theorem pay1 (v0 v1 v5) (p : Fin 512) (q : Fin 1024) :
    k0_pay1 (F := Ideal) v0 v1 v5 (ix2 p q) = next (v5 (ix2 p q)) (fun k => v0 (ix2 p k)) (fun k => v1 (ix2 k q)) := by
  pointwise [k0_pay1]
  rfl

theorem pay2 (v0 v1 v5 g) (p : Fin 512) (q : Fin 1024) : k0_pay2 (F := Ideal) v0 v1 v5 g (ix2 p q)
    = k0_pay1 (F := Ideal) v0 v1 v5 (ix2 p q) * rms (fun k => k0_pay1 (F := Ideal) v0 v1 v5 (ix2 p k)) * g (ix2 0 q) := by
  unfold k0_pay2
  generalize k0_pay1 (F := Ideal) v0 v1 v5 = Z
  pointwise
  rfl

variable (m : (ℓ : Loc nD τ sig) → Buf (Elt Ideal) ℓ)

/-- The blocks over all the points. -/
theorem idx : ∀ t : Fin cfg0.N, win0_0.index t = ![(grid0.coords t 0).val, 0] ∧ win0_1.index t = ![0, 0]
    ∧ win0_2.index t = ![(grid0.coords t 0).val, 0] ∧ win0_3.index t = ![0, 0]
    ∧ win0_4.index t = ![(grid0.coords t 0).val, 0] ∧ win0_5.index t = ![(grid0.coords t 0).val, 0] :=
  (by decide +kernel : ∀ t : Fin grid0.N, _)

/-- The arguments, -/
abbrev X (c : Dev nD) : FVec Ideal S2048x2816 .bf16 := m ((c : Thread nD τ).loc main_arg0)
abbrev W (c : Dev nD) : FVec Ideal S2816x1024 .bf16 := m ((c : Thread nD τ).loc main_arg1)
abbrev H (c : Dev nD) : FVec Ideal S2048x1024 .f32 := m ((c : Thread nD τ).loc main_arg2)
abbrev G (c : Dev nD) : FVec Ideal S1x1024 .f32 := m ((c : Thread nD τ).loc main_arg3)

/-- the blocks a point loads, -/
abbrev bx (c : Dev nD) (t : Fin cfg0.N) : FVec Ideal S512x2816 .bf16 := iblk m c 0 t
abbrev bw (c : Dev nD) (t : Fin cfg0.N) : FVec Ideal S2816x1024 .bf16 := iblk m c 1 t
abbrev bh (c : Dev nD) (t : Fin cfg0.N) : FVec Ideal S512x1024 .f32 := iblk m c 2 t
abbrev bg (c : Dev nD) (t : Fin cfg0.N) : FVec Ideal S1x1024 .f32 := iblk m c 3 t

/-- and the blocks read in the arguments. -/
theorem x_at (c : Dev nD) (t : Fin cfg0.N) (p : Fin 512) (k : Fin 2816) (P : Fin 2048) (hP : P.val = (grid0.coords t 0).val * 512 + p.val) :
    bx m c t (ix2 p k) = X m c (ix2 P k) := by
  blk_point [bx, iblk, V, idx t]

theorem w_at (c : Dev nD) (t : Fin cfg0.N) (k : Fin 2816) (q : Fin 1024) : bw m c t (ix2 k q) = W m c (ix2 k q) := by
  blk_point [bw, iblk, V, idx t]

theorem h_at (c : Dev nD) (t : Fin cfg0.N) (p : Fin 512) (k : Fin 1024) (P : Fin 2048) (hP : P.val = (grid0.coords t 0).val * 512 + p.val) :
    bh m c t (ix2 p k) = H m c (ix2 P k) := by
  blk_point [bh, iblk, V, idx t]

theorem g_at (c : Dev nD) (t : Fin cfg0.N) (q : Fin 1024) : bg m c t (ix2 0 q) = G m c (ix2 0 q) := by
  blk_point [bg, iblk, V, idx t]

/-- What a point writes is the reference's result at the place of its block: the stream, -/
theorem same (c : Dev nD) (t : Fin cfg0.N) (p : Fin 512) (q : Fin 1024) (P : Fin 2048) (hP : P.val = (grid0.coords t 0).val * 512 + p.val) :
    k0_pay1 (bx m c t) (bw m c t) (bh m c t) (ix2 p q) = REF0 (X m c) (W m c) (H m c) (ix2 P q) := by
  refine (pay1 _ _ _ _ _).trans (Eq.trans ?_ (ref0_at _ _ _ _ _).symm)
  rw [h_at m c t p q P hP, show (fun k => bx m c t (ix2 p k)) = fun k => X m c (ix2 P k) from funext fun k => x_at m c t p k P hP,
    show (fun k => bw m c t (ix2 k q)) = fun k => W m c (ix2 k q) from funext fun k => w_at m c t k q]

theorem point4 (c : Dev nD) (t : Fin cfg0.N) (y) : k0_pay1 (iblk m c 0 t) (iblk m c 1 t) (iblk m c 2 t) y
    = REF0 (X m c) (W m c) (H m c) (((cfg0.win 4).blk t).view.emb y) := by
  have hi : (grid0.coords t 0).val < 4 := (grid0.coords t 0).isLt
  have h0 : (y 0).val < 512 := (y 0).isLt
  obtain ⟨P, hP⟩ : ∃ P : Fin 2048, P.val = (grid0.coords t 0).val * 512 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 4).blk t).view.emb y = ix2 P Q := by blk_ext [idx t]
  rw [ee, ex]
  exact same m c t (y 0) Q P hP

/-- and its normalised form. -/
theorem point5 (c : Dev nD) (t : Fin cfg0.N) (y) : k0_pay2 (iblk m c 0 t) (iblk m c 1 t) (iblk m c 2 t) (iblk m c 3 t) y
    = REF1 (X m c) (W m c) (H m c) (G m c) (((cfg0.win 5).blk t).view.emb y) := by
  have hi : (grid0.coords t 0).val < 4 := (grid0.coords t 0).isLt
  have h0 : (y 0).val < 512 := (y 0).isLt
  obtain ⟨P, hP⟩ : ∃ P : Fin 2048, P.val = (grid0.coords t 0).val * 512 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 5).blk t).view.emb y = ix2 P Q := by blk_ext [idx t]
  rw [ee, ex]
  refine (pay2 (bx m c t) (bw m c t) (bh m c t) (bg m c t) (y 0) Q).trans (Eq.trans ?_ (ref1_at _ _ _ _ _ _).symm)
  rw [same m c t (y 0) Q P hP, g_at, show (fun k => k0_pay1 (bx m c t) (bw m c t) (bh m c t) (ix2 (y 0) k))
    = fun k => REF0 (X m c) (W m c) (H m c) (ix2 P k) from funext fun k => same m c t (y 0) k P hP]

/-- The result arrays after the run. -/
theorem final4 (c : Dev nD) : (dats m 0 c).arrAt 4 (cfgs 0).N = REF0 (X m c) (W m c) (H m c) := by
  refine (dats m 0 c).arrAt_eq_of_covers 4 _ (by decide +kernel) fun t _ y => ?_
  blk_simp
  rw [after0_4]; frame_out
  exact point4 m c t y

theorem final5 (c : Dev nD) : (dats m 0 c).arrAt 5 (cfgs 0).N = REF1 (X m c) (W m c) (H m c) (G m c) := by
  refine (dats m 0 c).arrAt_eq_of_covers 5 _ (by decide +kernel) fun t _ y => ?_
  blk_simp
  rw [after0_5]; frame_out
  exact point5 m c t y

theorem frame_kernel : Cert.quiescent_KernelDown := fun m ρ _ => Cert.KernelDown.Gen.frame m ρ
theorem frame_kernelIdeal : Cert.quiescent_KernelDownIdeal := fun m ρ _ => Cert.KernelDownIdeal.Gen.frame m ρ
theorem frame_reference : Cert.quiescent_ReferenceDownIdeal := fun m ρ _ =>
  (θ_run Cert.ReferenceDownIdeal.defs _ _).mono
    (fun r h => ⟨fun c => (h c).2.2, Idealize.ShloMosaic.sem_eq_zero_of_no_sems (by decide) r.2⟩) (Cert.ReferenceDownIdeal.Value.run (F := Ideal) m ρ)

/-- Kernel and reference end with the same arrays. -/
theorem equal_results : Cert.algebraic_KernelDownIdeal_ReferenceDownIdeal := by
  intro m g m' g' _ hin
  refine ⟨fun c => REF0 (X m c) (W m c) (H m c), fun c => REF1 (X m c) (W m c) (H m c) (G m c), ?_, ?_⟩
  · refine (θ_run Cert.KernelDownIdeal.defs _ _).mono (fun r h c => ?_) (Cert.KernelDownIdeal.Value.run_blocks (F := Ideal) m g)
    exact ⟨(h c).1.trans (final4 m c), (h c).2.1.trans (final5 m c), (h c).2.2⟩
  · refine (θ_run Cert.ReferenceDownIdeal.defs _ _).mono (fun r h c => ?_) (Cert.ReferenceDownIdeal.Value.run (F := Ideal) m' g')
    refine ⟨(h c).1.trans ?_, (h c).2.1.trans ?_, (h c).2.2⟩
    · rw [(hin c).1, (hin c).2.1, (hin c).2.2.1]
    · rw [(hin c).1, (hin c).2.1, (hin c).2.2.1, (hin c).2.2.2]

end
end Cert.Proof.Down
-- ==== Proof.In.lean ====
module
public import proofs.«01_k».proof.Defs
public import proofs.«01_k».proof.Proof.Gen.KernelInIdeal.Value
public import proofs.«01_k».proof.Proof.Gen.KernelIn.Frame
public import proofs.«01_k».proof.Proof.Gen.ReferenceInIdeal.Run
public import Idealize.ShloMosaic.Lib.Pipeline.ValueKit
public import Idealize.ShloMosaic.Lib.Pointwise
public import Idealize.ShloMosaic.Lib.Claim

/-! The mixer's input projection: the call's tiles of `u · w` against the whole product. -/

set_option maxRecDepth 16384

@[expose] public section

namespace Cert.Proof.In
open Idealize.ShloMosaic Idealize.ShloMosaic.TcCoe Idealize.SL.Sem Cert.KernelInIdeal Cert.KernelInIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S1024x8192 .bf16) : FVec Ideal S2048x8192 .bf16 :=
  truncf .bf16 (Host.dotGeneral Cert.ReferenceInIdeal.dot_S2048x1024_S1024x8192_S2048x8192_1_0_0_1_n_n none
    (extf .f32 X Cert.ReferenceInIdeal.Gen.bitsLt_bf16_f32) (extf .f32 Y Cert.ReferenceInIdeal.Gen.bitsLt_bf16_f32)) Cert.ReferenceInIdeal.Gen.bitsLt_bf16_f32

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelIn := fun m ρ _ => Cert.KernelIn.Gen.frame m ρ
theorem frame_kernelIdeal : Cert.quiescent_KernelInIdeal := fun m ρ _ => Cert.KernelInIdeal.Gen.frame m ρ
theorem frame_reference : Cert.quiescent_ReferenceInIdeal := fun m ρ _ =>
  (θ_run Cert.ReferenceInIdeal.defs _ _).mono
    (fun r h => ⟨fun c => (h c).2, Idealize.ShloMosaic.sem_eq_zero_of_no_sems (by decide) r.2⟩) (Cert.ReferenceInIdeal.Value.run (F := Ideal) m ρ)

/-- Kernel and reference end with the same array. -/
theorem equal_results : Cert.algebraic_KernelInIdeal_ReferenceInIdeal := by
  intro m g m' g' _ hin
  refine ⟨fun c => REF (m ((c : Thread nD τ).loc main_arg0)) (m ((c : Thread nD τ).loc main_arg1)), ?_, ?_⟩
  · refine (θ_run Cert.KernelInIdeal.defs _ _).mono (fun r h c => ?_) (Cert.KernelInIdeal.Value.run_blocks (F := Ideal) m g)
    exact ⟨(h c).1.trans (final m c), (h c).2⟩
  · refine (θ_run Cert.ReferenceInIdeal.defs _ _).mono (fun r h c => ?_) (Cert.ReferenceInIdeal.Value.run (F := Ideal) m' g')
    refine ⟨(h c).1.trans ?_, (h c).2⟩
    rw [(hin c).1, (hin c).2]

end
end Cert.Proof.In
-- ==== Proof.Merge.lean ====
module
public import proofs.«01_k».proof.Defs
public import proofs.«01_k».proof.Proof.Gen.KernelMergeIdeal.Value
public import proofs.«01_k».proof.Proof.Gen.KernelMerge.Frame
public import proofs.«01_k».proof.Proof.Gen.ReferenceMergeIdeal.Run
public import Idealize.ShloMosaic.Lib.Pipeline.ValueKit
public import Idealize.ShloMosaic.Lib.Pointwise
public import Idealize.ShloMosaic.Lib.Claim

/-! The merge of the mixer's two branches: the call's tiles of the two branches' projections and of their gated sum against the
    whole arrays. -/

set_option maxRecDepth 16384

@[expose] public section

namespace Cert.Proof.Merge
open Idealize.ShloMosaic Idealize.ShloMosaic.TcCoe Idealize.SL.Sem Cert.KernelMergeIdeal Cert.KernelMergeIdeal.Gen
open Idealize.ShloMosaic.Pipeline (Dat)

noncomputable section

/-- The two branches' projections, the two gates and the three results, as the reference computes them. -/
abbrev AC (A0 : FVec Ideal S2048x1024 .bf16) (A2 : FVec Ideal S1024x1024 .bf16) : FVec Ideal S2048x1024 .f32 :=
  Host.dotGeneral Cert.ReferenceMergeIdeal.dot_S2048x1024_S1024x1024_S2048x1024_1_0_0_1_n_n none (extf .f32 A0
    Cert.ReferenceMergeIdeal.Gen.bitsLt_bf16_f32) (extf .f32 A2 Cert.ReferenceMergeIdeal.Gen.bitsLt_bf16_f32)

abbrev AS (A1 : FVec Ideal S2048x1024 .f32) (A3 : FVec Ideal S1024x1024 .bf16) : FVec Ideal S2048x1024 .f32 :=
  Host.dotGeneral Cert.ReferenceMergeIdeal.dot_S2048x1024_S1024x1024_S2048x1024_1_0_0_1_n_n none A1 (extf .f32 A3
    Cert.ReferenceMergeIdeal.Gen.bitsLt_bf16_f32)

abbrev gates (A4 : FVec Ideal S2048x8192 .bf16) (A5 : FVec Ideal S1x2048 .f32) : FVec Ideal Cert.ReferenceMergeIdeal.S2048x2048 .f32 :=
  Host.divf (broadcastInDim Cert.ReferenceMergeIdeal.S2048x2048 ![] Cert.ReferenceMergeIdeal.Gen.bcast_S_S2048x2048 (constant
    Cert.ReferenceMergeIdeal.S_ .f32 0x3F800000#32)) (addf (broadcastInDim Cert.ReferenceMergeIdeal.S2048x2048 ![]
    Cert.ReferenceMergeIdeal.Gen.bcast_S_S2048x2048 (constant Cert.ReferenceMergeIdeal.S_ .f32 0x3F800000#32)) (Host.exp
    (Host.negf (addf (extf .f32 (extractStridedSlice Cert.ReferenceMergeIdeal.S2048x2048 ![0, 6144] A4
    Cert.ReferenceMergeIdeal.Gen.slices_S2048x8192_S2048x2048_0_6144) Cert.ReferenceMergeIdeal.Gen.bitsLt_bf16_f32)
    (broadcastInDim Cert.ReferenceMergeIdeal.S2048x2048 ![0, 1] Cert.ReferenceMergeIdeal.Gen.bcast_S1x2048_S2048x2048_0_1 A5)))))

abbrev REF0 (A0 : FVec Ideal S2048x1024 .bf16) (A2 : FVec Ideal S1024x1024 .bf16) : FVec Ideal S2048x1024 .bf16 :=
  truncf .bf16 (AC A0 A2) Cert.ReferenceMergeIdeal.Gen.bitsLt_bf16_f32

abbrev REF1 (A1 : FVec Ideal S2048x1024 .f32) (A3 : FVec Ideal S1024x1024 .bf16) : FVec Ideal S2048x1024 .bf16 :=
  truncf .bf16 (AS A1 A3) Cert.ReferenceMergeIdeal.Gen.bitsLt_bf16_f32

abbrev REF2 (A0 : FVec Ideal S2048x1024 .bf16) (A1 : FVec Ideal S2048x1024 .f32) (A2 A3 : FVec Ideal S1024x1024 .bf16)
    (A4 : FVec Ideal S2048x8192 .bf16) (A5 : FVec Ideal S1x2048 .f32) : FVec Ideal S2048x1024 .bf16 :=
  truncf .bf16 (addf (mulf (extractStridedSlice Cert.ReferenceMergeIdeal.S2048x1024 ![0, 0] (gates A4 A5)
    Cert.ReferenceMergeIdeal.Gen.slices_S2048x2048_S2048x1024_0_0) (AC A0 A2)) (mulf (extractStridedSlice
    Cert.ReferenceMergeIdeal.S2048x1024 ![0, 1024] (gates A4 A5) Cert.ReferenceMergeIdeal.Gen.slices_S2048x2048_S2048x1024_0_1024)
    (AS A1 A3))) Cert.ReferenceMergeIdeal.Gen.bitsLt_bf16_f32

variable (m : (ℓ : Loc nD τ sig) → Buf (Elt Ideal) ℓ)

/-- The arguments. -/
abbrev YC (c : Dev nD) : FVec Ideal S2048x1024 .bf16 := m ((c : Thread nD τ).loc main_arg0)
abbrev YS (c : Dev nD) : FVec Ideal S2048x1024 .f32 := m ((c : Thread nD τ).loc main_arg1)
abbrev WC (c : Dev nD) : FVec Ideal S1024x1024 .bf16 := m ((c : Thread nD τ).loc main_arg2)
abbrev WS (c : Dev nD) : FVec Ideal S1024x1024 .bf16 := m ((c : Thread nD τ).loc main_arg3)
abbrev P8 (c : Dev nD) : FVec Ideal S2048x8192 .bf16 := m ((c : Thread nD τ).loc main_arg4)
abbrev BG (c : Dev nD) : FVec Ideal S1x2048 .f32 := m ((c : Thread nD τ).loc main_arg5)

/-- The blocks over all the points. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, 12 + (grid0.coords t 1).val] ∧ win0_5.index t = ![(grid0.coords t 0).val, 14 + (grid0.coords t 1).val]
    ∧ win0_6.index t = ![0, (grid0.coords t 1).val] ∧ win0_7.index t = ![0, (grid0.coords t 1).val]
    ∧ win0_8.index t = ![(grid0.coords t 0).val, (grid0.coords t 1).val] ∧ win0_9.index t = ![(grid0.coords t 0).val, (grid0.coords t 1).val]
    ∧ win0_10.index t = ![(grid0.coords t 0).val, (grid0.coords t 1).val] :=
  (by decide +kernel : ∀ t : Fin grid0.N, _)

/-- What a point writes is the reference's result at the place of its block: the two projections, -/
theorem point8 (c : Dev nD) (t : Fin cfg0.N) (y) : k0_pay7 (iblk m c 0 t) (iblk m c 2 t) y
    = REF0 (YC m c) (WC m c) (((cfg0.win 8).blk t).view.emb y) := by
  pointwise [k0_pay7, k0_pay3, REF0]
  blk_point [iblk, V, idx t]

theorem point9 (c : Dev nD) (t : Fin cfg0.N) (y) : k0_pay1 (F := Ideal) (k0_pay8 (iblk m c 0 t) (iblk m c 1 t) (iblk m c 2 t) (iblk m c 3 t) (iblk m c 4 t) (iblk m c 5 t) (iblk m c 6 t) (iblk m c 7 t)) y
    = REF1 (YS m c) (WS m c) (((cfg0.win 9).blk t).view.emb y) := by
  pointwise [k0_pay1, k0_pay8, k0_pay4, REF1]
  blk_point [iblk, V, idx t]

/-- and their gated sum. -/
theorem point10 (c : Dev nD) (t : Fin cfg0.N) (y) : k0_pay2 (F := Ideal) (k0_pay3 (iblk m c 0 t) (iblk m c 2 t))
    (k0_pay8 (iblk m c 0 t) (iblk m c 1 t) (iblk m c 2 t) (iblk m c 3 t) (iblk m c 4 t) (iblk m c 5 t) (iblk m c 6 t) (iblk m c 7 t)) (k0_pay5 (iblk m c 4 t) (iblk m c 6 t)) (k0_pay6 (iblk m c 5 t) (iblk m c 7 t)) y
    = REF2 (YC m c) (YS m c) (WC m c) (WS m c) (P8 m c) (BG m c) (((cfg0.win 10).blk t).view.emb y) := by
  pointwise [k0_pay2, k0_pay3, k0_pay8, k0_pay4, k0_pay5, k0_pay6, REF2]
  simp only [zero_sub]
  blk_point [iblk, V, idx t]

/-- The result arrays after the run. -/
theorem final8 (c : Dev nD) : (dats m 0 c).arrAt 8 (cfgs 0).N = REF0 (YC m c) (WC m c) := by
  refine (dats m 0 c).arrAt_eq_of_covers 8 _ (by decide +kernel) fun t _ y => ?_
  blk_simp
  rw [after0_8]; frame_out
  exact point8 m c t y

theorem final9 (c : Dev nD) : (dats m 0 c).arrAt 9 (cfgs 0).N = REF1 (YS m c) (WS m c) := by
  refine (dats m 0 c).arrAt_eq_of_covers 9 _ (by decide +kernel) fun t _ y => ?_
  blk_simp
  rw [after0_9]; frame_out
  exact point9 m c t y

theorem final10 (c : Dev nD) : (dats m 0 c).arrAt 10 (cfgs 0).N = REF2 (YC m c) (YS m c) (WC m c) (WS m c) (P8 m c) (BG m c) := by
  refine (dats m 0 c).arrAt_eq_of_covers 10 _ (by decide +kernel) fun t _ y => ?_
  blk_simp
  rw [after0_10]; frame_out
  exact point10 m c t y

theorem frame_kernel : Cert.quiescent_KernelMerge := fun m ρ _ => Cert.KernelMerge.Gen.frame m ρ
theorem frame_kernelIdeal : Cert.quiescent_KernelMergeIdeal := fun m ρ _ => Cert.KernelMergeIdeal.Gen.frame m ρ
theorem frame_reference : Cert.quiescent_ReferenceMergeIdeal := fun m ρ _ =>
  (θ_run Cert.ReferenceMergeIdeal.defs _ _).mono
    (fun r h => ⟨fun c => (h c).2.2.2, Idealize.ShloMosaic.sem_eq_zero_of_no_sems (by decide) r.2⟩) (Cert.ReferenceMergeIdeal.Value.run (F := Ideal) m ρ)

/-- Kernel and reference end with the same arrays. -/
theorem equal_results : Cert.algebraic_KernelMergeIdeal_ReferenceMergeIdeal := by
  intro m g m' g' _ hin
  refine ⟨fun c => REF0 (YC m c) (WC m c), fun c => REF1 (YS m c) (WS m c),
    fun c => REF2 (YC m c) (YS m c) (WC m c) (WS m c) (P8 m c) (BG m c), ?_, ?_⟩
  · refine (θ_run Cert.KernelMergeIdeal.defs _ _).mono (fun r h c => ?_) (Cert.KernelMergeIdeal.Value.run_blocks (F := Ideal) m g)
    exact ⟨(h c).1.trans (final8 m c), (h c).2.1.trans (final9 m c), (h c).2.2.1.trans (final10 m c), (h c).2.2.2⟩
  · refine (θ_run Cert.ReferenceMergeIdeal.defs _ _).mono (fun r h c => ?_) (Cert.ReferenceMergeIdeal.Value.run (F := Ideal) m' g')
    refine ⟨(h c).1.trans ?_, (h c).2.1.trans ?_, (h c).2.2.1.trans ?_, (h c).2.2.2⟩
    · rw [(hin c).1, (hin c).2.2.1]
    · rw [(hin c).2.1, (hin c).2.2.2.1]
    · rw [(hin c).1, (hin c).2.1, (hin c).2.2.1, (hin c).2.2.2.1, (hin c).2.2.2.2.1, (hin c).2.2.2.2.2]

end
end Cert.Proof.Merge
-- ==== Proof.Out.lean ====
module
public import proofs.«01_k».proof.Defs
public import proofs.«01_k».proof.Proof.Gen.KernelOutIdeal.Value
public import proofs.«01_k».proof.Proof.Gen.KernelOut.Frame
public import proofs.«01_k».proof.Proof.Gen.ReferenceOutIdeal.Run
public import proofs.«01_k».proof.Proof.Rms
public import Idealize.ShloMosaic.Lib.Pipeline.ValueKit
public import Idealize.ShloMosaic.Lib.Pointwise
public import Idealize.ShloMosaic.Lib.Claim

/-! A square output projection, with the residual sum and the next normalisation: the call's row tiles against the whole
    arrays. -/

set_option maxRecDepth 16384

@[expose] public section

namespace Cert.Proof.Out
open Idealize.ShloMosaic Idealize.ShloMosaic.TcCoe Idealize.SL.Sem Cert.KernelOutIdeal Cert.KernelOutIdeal.Gen
open Idealize.ShloMosaic.Pipeline (Dat)
open Cert.Proof.Rms

noncomputable section

/-- The residual stream's next value, and its normalised form, as the reference computes them. -/
abbrev REF0 (A0 : FVec Ideal S2048x1024 .bf16) (A1 : FVec Ideal S1024x1024 .bf16) (A2 : FVec Ideal S2048x1024 .f32) : FVec Ideal S2048x1024 .f32 :=
  addf A2 (Host.dotGeneral Cert.ReferenceOutIdeal.dot_S2048x1024_S1024x1024_S2048x1024_1_0_0_1_n_n none (extf .f32 A0
    Cert.ReferenceOutIdeal.Gen.bitsLt_bf16_f32) (extf .f32 A1 Cert.ReferenceOutIdeal.Gen.bitsLt_bf16_f32))

abbrev REF1 (A0 : FVec Ideal S2048x1024 .bf16) (A1 : FVec Ideal S1024x1024 .bf16) (A2 : FVec Ideal S2048x1024 .f32) (A3 : FVec Ideal S1x1024 .f32) : FVec Ideal S2048x1024 .bf16 :=
  truncf .bf16 (mulf (mulf (REF0 A0 A1 A2) (broadcastInDim Cert.ReferenceOutIdeal.S2048x1024 ![0, 1]
    Cert.ReferenceOutIdeal.Gen.bcast_S2048x1_S2048x1024_0_1 (Host.rsqrt (addf (Host.divf (broadcastInDim
    Cert.ReferenceOutIdeal.S2048x1 ![0] Cert.ReferenceOutIdeal.Gen.bcast_S2048_S2048x1_0 (Host.reduceAdd (mulf (REF0 A0 A1 A2)
    (REF0 A0 A1 A2)) (constant Cert.ReferenceOutIdeal.S_ .f32 0x00000000#32)
    Cert.ReferenceOutIdeal.Gen.reducesTo_S2048x1024_S2048_d1 Cert.ReferenceOutIdeal.Gen.h_S_)) (broadcastInDim
    Cert.ReferenceOutIdeal.S2048x1 ![] Cert.ReferenceOutIdeal.Gen.bcast_S_S2048x1 (constant Cert.ReferenceOutIdeal.S_ .f32
    0x44800000#32))) (broadcastInDim Cert.ReferenceOutIdeal.S2048x1 ![] Cert.ReferenceOutIdeal.Gen.bcast_S_S2048x1 (constant
    Cert.ReferenceOutIdeal.S_ .f32 0x358637BD#32)))))) (broadcastInDim Cert.ReferenceOutIdeal.S2048x1024 ![0, 1]
    Cert.ReferenceOutIdeal.Gen.bcast_S1x1024_S2048x1024_0_1 A3)) Cert.ReferenceOutIdeal.Gen.bitsLt_bf16_f32

/-- A number of the stream's next value, of its old value, of a row of the first factor and of a column of the second. -/
def next (h : EReal) (a b : Fin 1024 → EReal) : EReal := h + ∑ k, a k * b k

theorem ref0_at (A0 A1 A2) (p : Fin 2048) (q : Fin 1024) :
    REF0 A0 A1 A2 (ix2 p q) = next (A2 (ix2 p q)) (fun k => A0 (ix2 p k)) (fun k => A1 (ix2 k q)) := by
  pointwise [REF0]
  rfl

theorem ref1_at (A0 A1 A2 A3) (p : Fin 2048) (q : Fin 1024) :
    REF1 A0 A1 A2 A3 (ix2 p q) = REF0 A0 A1 A2 (ix2 p q) * rms (fun k => REF0 A0 A1 A2 (ix2 p k)) * A3 (ix2 0 q) := by
  unfold REF1
  generalize REF0 A0 A1 A2 = Z
  pointwise
  rfl

/-- The call's two stores, read at an index. -/
theorem pay1 (v0 v1 v5) (p : Fin 1024) (q : Fin 1024) :
    k0_pay1 (F := Ideal) v0 v1 v5 (ix2 p q) = next (v5 (ix2 p q)) (fun k => v0 (ix2 p k)) (fun k => v1 (ix2 k q)) := by
  pointwise [k0_pay1]
  rfl

theorem pay2 (v0 v1 v5 g) (p : Fin 1024) (q : Fin 1024) : k0_pay2 (F := Ideal) v0 v1 v5 g (ix2 p q)
    = k0_pay1 (F := Ideal) v0 v1 v5 (ix2 p q) * rms (fun k => k0_pay1 (F := Ideal) v0 v1 v5 (ix2 p k)) * g (ix2 0 q) := by
  unfold k0_pay2
  generalize k0_pay1 (F := Ideal) v0 v1 v5 = Z
  pointwise
  rfl

variable (m : (ℓ : Loc nD τ sig) → Buf (Elt Ideal) ℓ)

/-- The blocks over all the points. -/
theorem idx : ∀ t : Fin cfg0.N, win0_0.index t = ![(grid0.coords t 0).val, 0] ∧ win0_1.index t = ![0, 0]
    ∧ win0_2.index t = ![(grid0.coords t 0).val, 0] ∧ win0_3.index t = ![0, 0]
    ∧ win0_4.index t = ![(grid0.coords t 0).val, 0] ∧ win0_5.index t = ![(grid0.coords t 0).val, 0] :=
  (by decide +kernel : ∀ t : Fin grid0.N, _)

/-- The arguments, -/
abbrev X (c : Dev nD) : FVec Ideal S2048x1024 .bf16 := m ((c : Thread nD τ).loc main_arg0)
abbrev W (c : Dev nD) : FVec Ideal S1024x1024 .bf16 := m ((c : Thread nD τ).loc main_arg1)
abbrev H (c : Dev nD) : FVec Ideal S2048x1024 .f32 := m ((c : Thread nD τ).loc main_arg2)
abbrev G (c : Dev nD) : FVec Ideal S1x1024 .f32 := m ((c : Thread nD τ).loc main_arg3)

/-- the blocks a point loads, -/
abbrev bx (c : Dev nD) (t : Fin cfg0.N) : FVec Ideal S1024x1024 .bf16 := iblk m c 0 t
abbrev bw (c : Dev nD) (t : Fin cfg0.N) : FVec Ideal S1024x1024 .bf16 := iblk m c 1 t
abbrev bh (c : Dev nD) (t : Fin cfg0.N) : FVec Ideal S1024x1024 .f32 := iblk m c 2 t
abbrev bg (c : Dev nD) (t : Fin cfg0.N) : FVec Ideal S1x1024 .f32 := iblk m c 3 t

/-- and the blocks read in the arguments. -/
theorem x_at (c : Dev nD) (t : Fin cfg0.N) (p : Fin 1024) (k : Fin 1024) (P : Fin 2048) (hP : P.val = (grid0.coords t 0).val * 1024 + p.val) :
    bx m c t (ix2 p k) = X m c (ix2 P k) := by
  blk_point [bx, iblk, V, idx t]

theorem w_at (c : Dev nD) (t : Fin cfg0.N) (k : Fin 1024) (q : Fin 1024) : bw m c t (ix2 k q) = W m c (ix2 k q) := by
  blk_point [bw, iblk, V, idx t]

theorem h_at (c : Dev nD) (t : Fin cfg0.N) (p : Fin 1024) (k : Fin 1024) (P : Fin 2048) (hP : P.val = (grid0.coords t 0).val * 1024 + p.val) :
    bh m c t (ix2 p k) = H m c (ix2 P k) := by
  blk_point [bh, iblk, V, idx t]

theorem g_at (c : Dev nD) (t : Fin cfg0.N) (q : Fin 1024) : bg m c t (ix2 0 q) = G m c (ix2 0 q) := by
  blk_point [bg, iblk, V, idx t]

/-- What a point writes is the reference's result at the place of its block: the stream, -/
theorem same (c : Dev nD) (t : Fin cfg0.N) (p : Fin 1024) (q : Fin 1024) (P : Fin 2048) (hP : P.val = (grid0.coords t 0).val * 1024 + p.val) :
    k0_pay1 (bx m c t) (bw m c t) (bh m c t) (ix2 p q) = REF0 (X m c) (W m c) (H m c) (ix2 P q) := by
  refine (pay1 _ _ _ _ _).trans (Eq.trans ?_ (ref0_at _ _ _ _ _).symm)
  rw [h_at m c t p q P hP, show (fun k => bx m c t (ix2 p k)) = fun k => X m c (ix2 P k) from funext fun k => x_at m c t p k P hP,
    show (fun k => bw m c t (ix2 k q)) = fun k => W m c (ix2 k q) from funext fun k => w_at m c t k q]

theorem point4 (c : Dev nD) (t : Fin cfg0.N) (y) : k0_pay1 (iblk m c 0 t) (iblk m c 1 t) (iblk m c 2 t) y
    = REF0 (X m c) (W m c) (H m c) (((cfg0.win 4).blk t).view.emb y) := by
  have hi : (grid0.coords t 0).val < 2 := (grid0.coords t 0).isLt
  have h0 : (y 0).val < 1024 := (y 0).isLt
  obtain ⟨P, hP⟩ : ∃ P : Fin 2048, P.val = (grid0.coords t 0).val * 1024 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 4).blk t).view.emb y = ix2 P Q := by blk_ext [idx t]
  rw [ee, ex]
  exact same m c t (y 0) Q P hP

/-- and its normalised form. -/
theorem point5 (c : Dev nD) (t : Fin cfg0.N) (y) : k0_pay2 (iblk m c 0 t) (iblk m c 1 t) (iblk m c 2 t) (iblk m c 3 t) y
    = REF1 (X m c) (W m c) (H m c) (G m c) (((cfg0.win 5).blk t).view.emb y) := by
  have hi : (grid0.coords t 0).val < 2 := (grid0.coords t 0).isLt
  have h0 : (y 0).val < 1024 := (y 0).isLt
  obtain ⟨P, hP⟩ : ∃ P : Fin 2048, P.val = (grid0.coords t 0).val * 1024 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 5).blk t).view.emb y = ix2 P Q := by blk_ext [idx t]
  rw [ee, ex]
  refine (pay2 (bx m c t) (bw m c t) (bh m c t) (bg m c t) (y 0) Q).trans (Eq.trans ?_ (ref1_at _ _ _ _ _ _).symm)
  rw [same m c t (y 0) Q P hP, g_at, show (fun k => k0_pay1 (bx m c t) (bw m c t) (bh m c t) (ix2 (y 0) k))
    = fun k => REF0 (X m c) (W m c) (H m c) (ix2 P k) from funext fun k => same m c t (y 0) k P hP]

/-- The result arrays after the run. -/
theorem final4 (c : Dev nD) : (dats m 0 c).arrAt 4 (cfgs 0).N = REF0 (X m c) (W m c) (H m c) := by
  refine (dats m 0 c).arrAt_eq_of_covers 4 _ (by decide +kernel) fun t _ y => ?_
  blk_simp
  rw [after0_4]; frame_out
  exact point4 m c t y

theorem final5 (c : Dev nD) : (dats m 0 c).arrAt 5 (cfgs 0).N = REF1 (X m c) (W m c) (H m c) (G m c) := by
  refine (dats m 0 c).arrAt_eq_of_covers 5 _ (by decide +kernel) fun t _ y => ?_
  blk_simp
  rw [after0_5]; frame_out
  exact point5 m c t y

theorem frame_kernel : Cert.quiescent_KernelOut := fun m ρ _ => Cert.KernelOut.Gen.frame m ρ
theorem frame_kernelIdeal : Cert.quiescent_KernelOutIdeal := fun m ρ _ => Cert.KernelOutIdeal.Gen.frame m ρ
theorem frame_reference : Cert.quiescent_ReferenceOutIdeal := fun m ρ _ =>
  (θ_run Cert.ReferenceOutIdeal.defs _ _).mono
    (fun r h => ⟨fun c => (h c).2.2, Idealize.ShloMosaic.sem_eq_zero_of_no_sems (by decide) r.2⟩) (Cert.ReferenceOutIdeal.Value.run (F := Ideal) m ρ)

/-- Kernel and reference end with the same arrays. -/
theorem equal_results : Cert.algebraic_KernelOutIdeal_ReferenceOutIdeal := by
  intro m g m' g' _ hin
  refine ⟨fun c => REF0 (X m c) (W m c) (H m c), fun c => REF1 (X m c) (W m c) (H m c) (G m c), ?_, ?_⟩
  · refine (θ_run Cert.KernelOutIdeal.defs _ _).mono (fun r h c => ?_) (Cert.KernelOutIdeal.Value.run_blocks (F := Ideal) m g)
    exact ⟨(h c).1.trans (final4 m c), (h c).2.1.trans (final5 m c), (h c).2.2⟩
  · refine (θ_run Cert.ReferenceOutIdeal.defs _ _).mono (fun r h c => ?_) (Cert.ReferenceOutIdeal.Value.run (F := Ideal) m' g')
    refine ⟨(h c).1.trans ?_, (h c).2.1.trans ?_, (h c).2.2⟩
    · rw [(hin c).1, (hin c).2.1, (hin c).2.2.1]
    · rw [(hin c).1, (hin c).2.1, (hin c).2.2.1, (hin c).2.2.2]

end
end Cert.Proof.Out
-- ==== Proof.Cq.lean ====
module
public import proofs.«01_k».proof.Defs
public import proofs.«01_k».proof.Proof.Gen.KernelCqIdeal.Value
public import proofs.«01_k».proof.Proof.Gen.KernelCq.Frame
public import proofs.«01_k».proof.Proof.Gen.ReferenceCqIdeal.Run
public import Idealize.ShloMosaic.Lib.Pipeline.ValueKit
public import Idealize.ShloMosaic.Lib.Pointwise
public import Idealize.ShloMosaic.Lib.Claim

/-! The queries of the cross-attention: the call's tiles of `hn · w` against the whole product. -/

set_option maxRecDepth 16384

@[expose] public section

namespace Cert.Proof.Cq
open Idealize.ShloMosaic Idealize.ShloMosaic.TcCoe Idealize.SL.Sem Cert.KernelCqIdeal Cert.KernelCqIdeal.Gen
open Idealize.ShloMosaic.Pipeline (Dat)

noncomputable section

variable (m : (ℓ : Loc nD τ sig) → Buf (Elt Ideal) ℓ)

/-- The reference's result as a function of its two arguments. -/
abbrev REF (X : FVec Ideal S2048x1024 .bf16) (Y : FVec Ideal S1024x1024 .bf16) : FVec Ideal S2048x1024 .bf16 :=
  truncf .bf16 (Host.dotGeneral Cert.ReferenceCqIdeal.dot_S2048x1024_S1024x1024_S2048x1024_1_0_0_1_n_n none
    (extf .f32 X Cert.ReferenceCqIdeal.Gen.bitsLt_bf16_f32) (extf .f32 Y Cert.ReferenceCqIdeal.Gen.bitsLt_bf16_f32)) Cert.ReferenceCqIdeal.Gen.bitsLt_bf16_f32

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelCq := fun m ρ _ => Cert.KernelCq.Gen.frame m ρ
theorem frame_kernelIdeal : Cert.quiescent_KernelCqIdeal := fun m ρ _ => Cert.KernelCqIdeal.Gen.frame m ρ
theorem frame_reference : Cert.quiescent_ReferenceCqIdeal := fun m ρ _ =>
  (θ_run Cert.ReferenceCqIdeal.defs _ _).mono
    (fun r h => ⟨fun c => (h c).2, Idealize.ShloMosaic.sem_eq_zero_of_no_sems (by decide) r.2⟩) (Cert.ReferenceCqIdeal.Value.run (F := Ideal) m ρ)

/-- Kernel and reference end with the same array. -/
theorem equal_results : Cert.algebraic_KernelCqIdeal_ReferenceCqIdeal := by
  intro m g m' g' _ hin
  refine ⟨fun c => REF (m ((c : Thread nD τ).loc main_arg0)) (m ((c : Thread nD τ).loc main_arg1)), ?_, ?_⟩
  · refine (θ_run Cert.KernelCqIdeal.defs _ _).mono (fun r h c => ?_) (Cert.KernelCqIdeal.Value.run_blocks (F := Ideal) m g)
    exact ⟨(h c).1.trans (final m c), (h c).2⟩
  · refine (θ_run Cert.ReferenceCqIdeal.defs _ _).mono (fun r h c => ?_) (Cert.ReferenceCqIdeal.Value.run (F := Ideal) m' g')
    refine ⟨(h c).1.trans ?_, (h c).2⟩
    rw [(hin c).1, (hin c).2]

end
end Cert.Proof.Cq
-- ==== Proof.Loss.lean ====
module
public import proofs.«01_k».proof.Defs
public import proofs.«01_k».proof.Proof.Gen.KernelLossIdeal.Value
public import proofs.«01_k».proof.Proof.Gen.KernelLoss.Frame
public import proofs.«01_k».proof.Proof.Gen.ReferenceLossIdeal.Run
public import proofs.«01_k».proof.Proof.Rms
public import proofs.«01_k».proof.Proof.Softmax
public import Idealize.ShloMosaic.Lib.Pipeline.ValueKit
public import Idealize.ShloMosaic.Lib.Pipeline.ReadBack
public import Idealize.ShloMosaic.Lib.Pointwise
public import Idealize.ShloMosaic.Lib.Claim

/-! The last product of the second feed-forward with the loss: the call multiplies by `w_down`, adds half of it to the stream,
    normalises, and makes in the same pass the loss, its gradient into the stream and its gradient by the last scale, both sums
    added up over the blocks of rows; the reference is the value and the gradient of the loss. -/

set_option maxRecDepth 16384

@[expose] public section

namespace Cert.Proof.Loss
open Idealize.ShloMosaic Idealize.ShloMosaic.TcCoe Idealize.SL.Sem Cert.KernelLossIdeal Cert.KernelLossIdeal.Gen
open Idealize.ShloMosaic.Pipeline (Dat)
open Cert.Proof.Rms

noncomputable section

/-! ## The reference -/

/-- The stream the loss is taken of. -/
abbrev HH (X0 : FVec Ideal S2048x2816 .bf16) (X1 : FVec Ideal S2816x1024 .bf16) (X2 : FVec Ideal S2048x1024 .f32) : FVec Ideal S2048x1024 .f32 :=
  addf X2 (mulf (broadcastInDim Cert.ReferenceLossIdeal.S2048x1024 ![] Cert.ReferenceLossIdeal.Gen.bcast_S_S2048x1024 (constant Cert.ReferenceLossIdeal.S_ .f32 0x3F000000#32))
    (Host.dotGeneral Cert.ReferenceLossIdeal.dot_S2048x2816_S2816x1024_S2048x1024_1_0_0_1_n_n none
      (extf .f32 X0 Cert.ReferenceLossIdeal.Gen.bitsLt_bf16_f32) (extf .f32 X1 Cert.ReferenceLossIdeal.Gen.bitsLt_bf16_f32)))

abbrev zero : FVec Ideal Cert.ReferenceLossIdeal.S_ .f32 := constant Cert.ReferenceLossIdeal.S_ .f32 0x00000000#32

/-- A number along the rows. -/
abbrev along (b : BitVec 32) : FVec Ideal Cert.ReferenceLossIdeal.S2048x1 .f32 :=
  broadcastInDim Cert.ReferenceLossIdeal.S2048x1 ![] Cert.ReferenceLossIdeal.Gen.bcast_S_S2048x1 (constant Cert.ReferenceLossIdeal.S_ .f32 b)

/-- The numbers under the rows' roots, and one over the roots. -/
abbrev UN (X3 : FVec Ideal S2048x1024 .f32) : FVec Ideal Cert.ReferenceLossIdeal.S2048x1 .f32 :=
  addf (Host.divf (broadcastInDim Cert.ReferenceLossIdeal.S2048x1 ![0] Cert.ReferenceLossIdeal.Gen.bcast_S2048_S2048x1_0
    (Host.reduceAdd (mulf X3 X3) zero Cert.ReferenceLossIdeal.Gen.reducesTo_S2048x1024_S2048_d1 Cert.ReferenceLossIdeal.Gen.h_S_))
    (along 0x44800000#32)) (along 0x358637BD#32)

abbrev RS (X3 : FVec Ideal S2048x1024 .f32) : FVec Ideal Cert.ReferenceLossIdeal.S2048x1 .f32 := Host.rsqrt (UN X3)

/-- The gradient of the normalised rows, scaled. -/
abbrev AR (D : FVec Ideal S2048x1024 .f32) (X4 : FVec Ideal S1x1024 .f32) : FVec Ideal S2048x1024 .f32 :=
  mulf D (broadcastInDim Cert.ReferenceLossIdeal.S2048x1024 ![0, 1] Cert.ReferenceLossIdeal.Gen.bcast_S1x1024_S2048x1024_0_1 X4)

/-- What comes back through the rows' roots. -/
abbrev TH (D : FVec Ideal S2048x1024 .f32) (X3 : FVec Ideal S2048x1024 .f32) (X4 : FVec Ideal S1x1024 .f32) : FVec Ideal S2048x1024 .f32 :=
  broadcastInDim Cert.ReferenceLossIdeal.S2048x1024 ![0] Cert.ReferenceLossIdeal.Gen.bcast_S2048_S2048x1024_0
    (Host.reduceAdd (Host.divf (mulf (shapeCast _ (Host.reduceAdd (mulf X3 (AR D X4)) zero
        Cert.ReferenceLossIdeal.Gen.reducesTo_S2048x1024_S2048_d1 Cert.ReferenceLossIdeal.Gen.h_S_) Cert.ReferenceLossIdeal.Gen.shapeCasts_S2048_S2048x1)
      (mulf (along 0xBF000000#32) (Host.divf (RS X3) (UN X3)))) (along 0x44800000#32)) zero
      Cert.ReferenceLossIdeal.Gen.reducesTo_S2048x1_S2048_d1 Cert.ReferenceLossIdeal.Gen.h_S_)

abbrev RSB (X3 : FVec Ideal S2048x1024 .f32) : FVec Ideal S2048x1024 .f32 :=
  broadcastInDim Cert.ReferenceLossIdeal.S2048x1024 ![0, 1] Cert.ReferenceLossIdeal.Gen.bcast_S2048x1_S2048x1024_0_1 (RS X3)

/-- The normalised rows' distance from the target, and the loss's gradient by them. -/
abbrev ER (H X3 : FVec Ideal S2048x1024 .f32) (X4 : FVec Ideal S1x1024 .f32) : FVec Ideal S2048x1024 .f32 :=
  subf (mulf (mulf H (RSB H)) (broadcastInDim Cert.ReferenceLossIdeal.S2048x1024 ![0, 1] Cert.ReferenceLossIdeal.Gen.bcast_S1x1024_S2048x1024_0_1 X4)) X3

abbrev DY (E : FVec Ideal S2048x1024 .f32) : FVec Ideal S2048x1024 .f32 :=
  mulf (broadcastInDim Cert.ReferenceLossIdeal.S2048x1024 ![0] Cert.ReferenceLossIdeal.Gen.bcast_S2048_S2048x1024_0
      (Host.divf (broadcastInDim Cert.ReferenceLossIdeal.S2048 ![] Cert.ReferenceLossIdeal.Gen.bcast_S_S2048
          (mulf (constant Cert.ReferenceLossIdeal.S_ .f32 0x3F000000#32) (constant Cert.ReferenceLossIdeal.S_ .f32 0x3F800000#32)))
        (broadcastInDim Cert.ReferenceLossIdeal.S2048 ![] Cert.ReferenceLossIdeal.Gen.bcast_S_S2048 (constant Cert.ReferenceLossIdeal.S_ .f32 0x44800000#32))))
    (mulf (broadcastInDim Cert.ReferenceLossIdeal.S2048x1024 ![] Cert.ReferenceLossIdeal.Gen.bcast_S_S2048x1024 (constant Cert.ReferenceLossIdeal.S_ .f32 0x40000000#32)) E)

/-- The reference's results. -/
abbrev R5 (D H : FVec Ideal S2048x1024 .f32) (X4 : FVec Ideal S1x1024 .f32) : FVec Ideal S2048x1024 .f32 :=
  addf (addf (mulf (AR D X4) (RSB H)) (mulf H (TH D H X4))) (mulf (TH D H X4) H)

abbrev R6 (D H : FVec Ideal S2048x1024 .f32) (X4 : FVec Ideal S1x1024 .f32) : FVec Ideal S2048x1024 .bf16 :=
  truncf .bf16 (mulf (broadcastInDim Cert.ReferenceLossIdeal.S2048x1024 ![] Cert.ReferenceLossIdeal.Gen.bcast_S_S2048x1024
    (constant Cert.ReferenceLossIdeal.S_ .f32 0x3F000000#32)) (R5 D H X4)) Cert.ReferenceLossIdeal.Gen.bitsLt_bf16_f32

abbrev R7 (D H : FVec Ideal S2048x1024 .f32) : FVec Ideal S1x1024 .f32 :=
  shapeCast _ (Host.reduceAdd (mulf (mulf H (RSB H)) D) zero Cert.ReferenceLossIdeal.Gen.reducesTo_S2048x1024_S1024_d0
    Cert.ReferenceLossIdeal.Gen.h_S_) Cert.ReferenceLossIdeal.Gen.shapeCasts_S1024_S1x1024

abbrev R8 (E : FVec Ideal S2048x1024 .f32) : FVec Ideal S1x128 .f32 :=
  broadcastInDim Cert.ReferenceLossIdeal.S1x128 ![] Cert.ReferenceLossIdeal.Gen.bcast_S_S1x128
    (mulf (constant Cert.ReferenceLossIdeal.S_ .f32 0x3F000000#32)
      (Host.reduceAdd (Host.divf (Host.reduceAdd (mulf E E) zero Cert.ReferenceLossIdeal.Gen.reducesTo_S2048x1024_S2048_d1 Cert.ReferenceLossIdeal.Gen.h_S_)
        (broadcastInDim Cert.ReferenceLossIdeal.S2048 ![] Cert.ReferenceLossIdeal.Gen.bcast_S_S2048 (constant Cert.ReferenceLossIdeal.S_ .f32 0x44800000#32)))
        zero Cert.ReferenceLossIdeal.Gen.reducesTo_S2048_S_d0 Cert.ReferenceLossIdeal.Gen.h_S_))

/-- The numbers a half, two and one over the rows' length, as the programs write them. -/
abbrev half : EReal := Ideal.ofBits .f32 0x3F000000#32
abbrev two : EReal := Ideal.ofBits .f32 0x40000000#32
abbrev inv : EReal := Ideal.ofBits .f32 0x3A800000#32

theorem half_eq : half = ((1/2 : ℝ) : EReal) := by
  simp only [half, Ideal.ofBits, Ideal.ieee]
  simp
  rw [← EReal.coe_mul]
  norm_num

theorem two_eq : two = ((2 : ℝ) : EReal) := by
  simp only [two, Ideal.ofBits, Ideal.ieee]
  simp
  rw [← EReal.coe_mul]
  norm_num

theorem inv_eq : inv = ((1/1024 : ℝ) : EReal) := by
  simp only [inv, Ideal.ofBits, Ideal.ieee]
  simp
  rw [← EReal.coe_mul]
  norm_num

/-- The gradient of the square's half mean, number by number. -/
theorem halves (e : EReal) : Ideal.div half len * (two * e) = e * inv := by
  rw [half_eq, two_eq, inv_eq, len_eq, coe_div _ _ (by norm_num), ← mul_assoc, ← EReal.coe_mul, mul_comm e]
  norm_num

theorem hh_at (X0 X1 X2) (P : Fin 2048) (q : Fin 1024) : HH X0 X1 X2 (ix2 P q)
    = X2 (ix2 P q) + half * ∑ k : Fin 2816, X0 (ix2 P k) * X1 (ix2 k q) := by
  pointwise [HH]

theorem er_at (H X3 X4) (P : Fin 2048) (q : Fin 1024) : ER H X3 X4 (ix2 P q)
    = H (ix2 P q) * (rms fun k => H (ix2 P k)) * X4 (ix2 0 q) - X3 (ix2 P q) := by
  pointwise [ER]
  rfl

theorem dy_at (E) (P : Fin 2048) (q : Fin 1024) : DY E (ix2 P q) = E (ix2 P q) * inv := by
  refine Eq.trans ?_ (halves _)
  pointwise [DY, mul_one]

theorem r5_at (D H X4) (P : Fin 2048) (q : Fin 1024) : R5 D H X4 (ix2 P q)
    = closed (fun k => H (ix2 P k)) (fun k => D (ix2 P k) * X4 (ix2 0 k)) q := by
  refine Eq.trans (b := ((0 + D (ix2 P q) * X4 (ix2 0 q) * rms fun k => H (ix2 P k))
        + H (ix2 P q) * through (fun k => H (ix2 P k)) fun k => D (ix2 P k) * X4 (ix2 0 k))
      + through (fun k => H (ix2 P k)) (fun k => D (ix2 P k) * X4 (ix2 0 k)) * H (ix2 P q)) ?_ ?_
  · rw [zero_add]
    pointwise [R5]
    simp only [Finset.sum_const, Finset.card_univ, Fintype.card_fin, one_smul]
    rfl
  · exact (closed_eq (fun k => H (ix2 P k)) (fun k => D (ix2 P k) * X4 (ix2 0 k)) q 0).symm.trans (zero_add _)

theorem r6_at (D H X4) (P : Fin 2048) (q : Fin 1024) : R6 D H X4 (ix2 P q) = half * R5 D H X4 (ix2 P q) := by
  pointwise [R6]

theorem r7_at (D H) (q : Fin 1024) : R7 D H (ix2 (0 : Fin 1) q)
    = ∑ P : Fin 2048, H (ix2 P q) * (rms fun k => H (ix2 P k)) * D (ix2 P q) := by
  pointwise [R7]
  rfl

theorem r8_at (E) (j : Fin 128) : R8 E (ix2 (0 : Fin 1) j)
    = ∑ P : Fin 2048, half * Ideal.div (∑ k : Fin 1024, E (ix2 P k) * E (ix2 P k)) len := by
  refine Eq.trans ?_ (show half * (∑ P : Fin 2048, Ideal.div (∑ k : Fin 1024, E (ix2 P k) * E (ix2 P k)) len) = _ from ?_)
  · pointwise [R8]
  · rw [half_eq]
    exact (Softmax.sum_real_mul (1/2) (by norm_num) _).symm

/-! ## The call's stores -/

theorem pay6_at (h a w) (p : Fin 512) (q : Fin 1024) : k0_pay6 (F := Ideal) h a w (ix2 p q)
    = h (ix2 p q) + half * ∑ k : Fin 2816, a (ix2 p k) * w (ix2 k q) := by
  pointwise [k0_pay6]

theorem pay8_at (h a w) (p : Fin 512) (q : Fin 1024) : k0_pay8 (F := Ideal) h a w (ix2 p q)
    = k0_pay6 (F := Ideal) h a w (ix2 p q) * rms fun k => k0_pay6 (F := Ideal) h a w (ix2 p k) := by
  unfold k0_pay8 k0_pay7
  generalize k0_pay6 (F := Ideal) h a w = H
  pointwise
  rfl

theorem pay9_at (h a w g t) (p : Fin 512) (q : Fin 1024) : k0_pay9 (F := Ideal) h a w g t (ix2 p q)
    = k0_pay8 (F := Ideal) h a w (ix2 p q) * g (ix2 0 q) - t (ix2 p q) := by
  unfold k0_pay9
  generalize k0_pay8 (F := Ideal) h a w = H
  pointwise

theorem pay10_at (h a w g t) (p : Fin 512) (q : Fin 1024) : k0_pay10 (F := Ideal) h a w g t (ix2 p q)
    = k0_pay9 (F := Ideal) h a w g t (ix2 p q) * inv := by
  unfold k0_pay10
  generalize k0_pay9 (F := Ideal) h a w g t = H
  pointwise

theorem pay11_at (h a w g t) (p : Fin 512) (q : Fin 1024) : k0_pay11 (F := Ideal) h a w g t (ix2 p q)
    = closed (fun k => k0_pay6 (F := Ideal) h a w (ix2 p k)) (fun k => k0_pay10 (F := Ideal) h a w g t (ix2 p k) * g (ix2 0 k)) q := by
  unfold k0_pay11
  generalize k0_pay10 (F := Ideal) h a w g t = D
  unfold k0_pay8 k0_pay7
  generalize k0_pay6 (F := Ideal) h a w = H
  pointwise
  rfl

theorem pay1_at (Z) (p : Fin 512) (q : Fin 1024) : k0_pay1 (F := Ideal) Z (Scalar.ofBits .f32 0x3F000000#32) (ix2 p q) = half * Z (ix2 p q) := by
  pointwise [k0_pay1]

theorem pay2_at (a b) (q : Fin 1024) : k0_pay2 (F := Ideal) a b (ix2 (0 : Fin 1) q) = ∑ p : Fin 512, b (ix2 p q) * a (ix2 p q) := by
  pointwise [k0_pay2]

theorem pay3_at (a) (j : Fin 128) : k0_pay3 (F := Ideal) a (ix2 (0 : Fin 1) j)
    = ∑ p : Fin 512, half * Ideal.div (∑ k : Fin 1024, a (ix2 p k) * a (ix2 p k)) len := by
  pointwise [k0_pay3]

theorem pay4_at (a b o) (q : Fin 1024) : k0_pay4 (F := Ideal) a b o (ix2 (0 : Fin 1) q) = o (ix2 0 q) + k0_pay2 (F := Ideal) a b (ix2 0 q) := by
  unfold k0_pay4
  generalize k0_pay2 (F := Ideal) a b = Z
  pointwise

theorem pay5_at (a o) (j : Fin 128) : k0_pay5 (F := Ideal) a o (ix2 (0 : Fin 1) j) = o (ix2 0 j) + k0_pay3 (F := Ideal) a (ix2 0 j) := by
  unfold k0_pay5
  generalize k0_pay3 (F := Ideal) a = Z
  pointwise

/-! ## The points -/

variable (m : (ℓ : Loc nD τ sig) → Buf (Elt Ideal) ℓ)

/-- The arguments' blocks over all the points. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- A point's blocks of the arguments. -/
abbrev ba (c : Dev nD) (t : Fin cfg0.N) : FVec Ideal S512x2816 .bf16 := iblk m c 0 t
abbrev bw (c : Dev nD) (t : Fin cfg0.N) : FVec Ideal S2816x1024 .bf16 := iblk m c 1 t
abbrev bh (c : Dev nD) (t : Fin cfg0.N) : FVec Ideal S512x1024 .f32 := iblk m c 2 t
abbrev bt (c : Dev nD) (t : Fin cfg0.N) : FVec Ideal S512x1024 .f32 := iblk m c 3 t
abbrev bg (c : Dev nD) (t : Fin cfg0.N) : FVec Ideal S1x1024 .f32 := iblk m c 4 t

/-- A point's normalised rows, their distance from the target, its gradient and the stream's gradient. -/
abbrev p8 (c : Dev nD) (t : Fin cfg0.N) : FVec Ideal S512x1024 .f32 := k0_pay8 (F := Ideal) (bh m c t) (ba m c t) (bw m c t)
abbrev p9 (c : Dev nD) (t : Fin cfg0.N) : FVec Ideal S512x1024 .f32 := k0_pay9 (F := Ideal) (bh m c t) (ba m c t) (bw m c t) (bg m c t) (bt m c t)
abbrev p10 (c : Dev nD) (t : Fin cfg0.N) : FVec Ideal S512x1024 .f32 := k0_pay10 (F := Ideal) (bh m c t) (ba m c t) (bw m c t) (bg m c t) (bt m c t)
abbrev p11 (c : Dev nD) (t : Fin cfg0.N) : FVec Ideal S512x1024 .f32 := k0_pay11 (F := Ideal) (bh m c t) (ba m c t) (bw m c t) (bg m c t) (bt m c t)

/-- A point's blocks of the results. -/
theorem rows_out (c : Dev nD) (t : Fin cfg0.N) :
    (outsAt0 m c t.val t.isLt).1 = p11 m c t
    ∧ (outsAt0 m c t.val t.isLt).2.1 = k0_pay1 (F := Ideal) (p11 m c t) (Scalar.ofBits .f32 0x3F000000#32) := by
  have ht : t.val < 4 := t.isLt
  rcases Nat.lt_or_ge t.val 1 with h | h
  · rw [outsAt0_A m c t (by omega) (by omega)]
    refine ⟨?_, ?_⟩ <;> dsimp only <;> frame_out
  · rw [outsAt0_B m c t (by omega) (by omega)]
    refine ⟨?_, ?_⟩ <;> dsimp only <;> frame_out

theorem sums_A (c : Dev nD) (t : Fin cfg0.N) (h0 : t.val % 4 = 0) :
    (outsAt0 m c t.val t.isLt).2.2.1 = k0_pay2 (F := Ideal) (p8 m c t) (p10 m c t)
    ∧ (outsAt0 m c t.val t.isLt).2.2.2 = k0_pay3 (F := Ideal) (p9 m c t) := by
  have ht : t.val < 4 := t.isLt
  rw [outsAt0_A m c t h0 (by omega)]
  refine ⟨?_, ?_⟩ <;> dsimp only <;> frame_out

theorem sums_B (c : Dev nD) (t : Fin cfg0.N) (h0 : ¬t.val % 4 = 0) :
    (outsAt0 m c t.val t.isLt).2.2.1 = k0_pay4 (F := Ideal) (p8 m c t) (p10 m c t)
      (outsAt0 m c (t.val - 1) (Nat.lt_of_le_of_lt (Nat.sub_le _ _) t.isLt)).2.2.1
    ∧ (outsAt0 m c t.val t.isLt).2.2.2 = k0_pay5 (F := Ideal) (p9 m c t)
      (outsAt0 m c (t.val - 1) (Nat.lt_of_le_of_lt (Nat.sub_le _ _) t.isLt)).2.2.2 := by
  have ht : t.val < 4 := t.isLt
  rw [outsAt0_B m c t h0 (by omega)]
  refine ⟨?_, ?_⟩ <;> dsimp only <;> frame_out

/-- The arguments' arrays on a device, and the reference's values of them. -/
abbrev A0 (c : Dev nD) : FVec Ideal S2048x2816 .bf16 := m ((c : Thread nD τ).loc main_arg0)
abbrev A1 (c : Dev nD) : FVec Ideal S2816x1024 .bf16 := m ((c : Thread nD τ).loc main_arg1)
abbrev A2 (c : Dev nD) : FVec Ideal S2048x1024 .f32 := m ((c : Thread nD τ).loc main_arg2)
abbrev A3 (c : Dev nD) : FVec Ideal S2048x1024 .f32 := m ((c : Thread nD τ).loc main_arg3)
abbrev A4 (c : Dev nD) : FVec Ideal S1x1024 .f32 := m ((c : Thread nD τ).loc main_arg4)
abbrev H (c : Dev nD) : FVec Ideal S2048x1024 .f32 := HH (A0 m c) (A1 m c) (A2 m c)
abbrev E (c : Dev nD) : FVec Ideal S2048x1024 .f32 := ER (H m c) (A3 m c) (A4 m c)
abbrev D (c : Dev nD) : FVec Ideal S2048x1024 .f32 := DY (E m c)

/-- The blocks a point loads, read in the arguments. -/
theorem a_at (c : Dev nD) (t : Fin cfg0.N) (p : Fin 512) (k : Fin 2816) (P : Fin 2048)
    (hP : P.val = t.val * 512 + p.val) : ba m c t (ix2 p k) = A0 m c (ix2 P k) := by
  blk_point [iblk, V, idx t]

theorem w_at (c : Dev nD) (t : Fin cfg0.N) (k : Fin 2816) (q : Fin 1024) : bw m c t (ix2 k q) = A1 m c (ix2 k q) := by
  blk_point [iblk, V, idx t]

theorem h_at (c : Dev nD) (t : Fin cfg0.N) (p : Fin 512) (q : Fin 1024) (P : Fin 2048) (hP : P.val = t.val * 512 + p.val) :
    bh m c t (ix2 p q) = A2 m c (ix2 P q) := by
  blk_point [iblk, V, idx t]

theorem t_at (c : Dev nD) (t : Fin cfg0.N) (p : Fin 512) (q : Fin 1024) (P : Fin 2048) (hP : P.val = t.val * 512 + p.val) :
    bt m c t (ix2 p q) = A3 m c (ix2 P q) := by
  blk_point [iblk, V, idx t]

theorem g_at (c : Dev nD) (t : Fin cfg0.N) (q : Fin 1024) : bg m c t (ix2 0 q) = A4 m c (ix2 0 q) := by
  blk_point [iblk, V, idx t]

/-- A point's rows of the stream, of the normalised rows, of their distance and of its gradient. -/
theorem at6 (c : Dev nD) (t : Fin cfg0.N) (p : Fin 512) (q : Fin 1024) (P : Fin 2048) (hP : P.val = t.val * 512 + p.val) :
    k0_pay6 (F := Ideal) (bh m c t) (ba m c t) (bw m c t) (ix2 p q) = H m c (ix2 P q) := by
  refine (pay6_at _ _ _ p q).trans (Eq.trans ?_ (hh_at _ _ _ P q).symm)
  rw [h_at m c t p q P hP]
  refine congrArg (fun z => _ + half * z) (Finset.sum_congr rfl fun k _ => ?_)
  rw [a_at m c t p k P hP, w_at m c t k q]

theorem row6 (c : Dev nD) (t : Fin cfg0.N) (p : Fin 512) (P : Fin 2048) (hP : P.val = t.val * 512 + p.val) :
    (fun k => k0_pay6 (F := Ideal) (bh m c t) (ba m c t) (bw m c t) (ix2 p k)) = fun k => H m c (ix2 P k) :=
  funext fun k => at6 m c t p k P hP

theorem at8 (c : Dev nD) (t : Fin cfg0.N) (p : Fin 512) (q : Fin 1024) (P : Fin 2048) (hP : P.val = t.val * 512 + p.val) :
    p8 m c t (ix2 p q) = H m c (ix2 P q) * rms fun k => H m c (ix2 P k) := by
  refine (pay8_at _ _ _ p q).trans ?_
  rw [row6 m c t p P hP, at6 m c t p q P hP]

theorem at9 (c : Dev nD) (t : Fin cfg0.N) (p : Fin 512) (q : Fin 1024) (P : Fin 2048) (hP : P.val = t.val * 512 + p.val) :
    p9 m c t (ix2 p q) = E m c (ix2 P q) := by
  refine (pay9_at _ _ _ _ _ p q).trans (Eq.trans ?_ (er_at _ _ _ P q).symm)
  rw [show k0_pay8 (F := Ideal) (bh m c t) (ba m c t) (bw m c t) (ix2 p q) = _ from at8 m c t p q P hP, g_at m c t q, t_at m c t p q P hP]

theorem at10 (c : Dev nD) (t : Fin cfg0.N) (p : Fin 512) (q : Fin 1024) (P : Fin 2048) (hP : P.val = t.val * 512 + p.val) :
    p10 m c t (ix2 p q) = D m c (ix2 P q) := by
  refine (pay10_at _ _ _ _ _ p q).trans (Eq.trans ?_ (dy_at _ P q).symm)
  rw [show k0_pay9 (F := Ideal) (bh m c t) (ba m c t) (bw m c t) (bg m c t) (bt m c t) (ix2 p q) = _ from at9 m c t p q P hP]

theorem at11 (c : Dev nD) (t : Fin cfg0.N) (p : Fin 512) (q : Fin 1024) (P : Fin 2048) (hP : P.val = t.val * 512 + p.val) :
    p11 m c t (ix2 p q) = R5 (D m c) (H m c) (A4 m c) (ix2 P q) := by
  refine (pay11_at _ _ _ _ _ p q).trans (Eq.trans ?_ (r5_at _ _ _ P q).symm)
  rw [row6 m c t p P hP]
  exact congrArg (fun a => closed _ a q) (funext fun k => by rw [show k0_pay10 (F := Ideal) (bh m c t) (ba m c t) (bw m c t) (bg m c t) (bt m c t) (ix2 p k) = _ from at10 m c t p k P hP, g_at m c t k])

/-- The scale's gradient and the loss from a block of rows. -/
def rows (c : Dev nD) (i : Fin 4) (q : Fin 1024) : EReal := ∑ p : Fin 512,
  H m c (ix2 ⟨i.val * 512 + p.val, by omega⟩ q) * (rms fun k => H m c (ix2 ⟨i.val * 512 + p.val, by omega⟩ k))
    * D m c (ix2 ⟨i.val * 512 + p.val, by omega⟩ q)

def part (c : Dev nD) (i : Fin 4) (j : Fin 128) : EReal := ∑ p : Fin 512,
  half * Ideal.div (∑ k : Fin 1024, E m c (ix2 ⟨i.val * 512 + p.val, by omega⟩ k) * E m c (ix2 ⟨i.val * 512 + p.val, by omega⟩ k)) len

theorem pay2_rows (c : Dev nD) (t : Fin cfg0.N) (i : Fin 4) (hi : t.val = i.val) (q : Fin 1024) :
    k0_pay2 (F := Ideal) (p8 m c t) (p10 m c t) (ix2 (0 : Fin 1) q) = rows m c i q := by
  rw [pay2_at]
  unfold rows
  refine Finset.sum_congr rfl fun p _ => ?_
  have hP : (⟨i.val * 512 + p.val, by omega⟩ : Fin 2048).val = t.val * 512 + p.val := by rw [hi]
  rw [at10 m c t p q _ hP, at8 m c t p q _ hP, mul_comm]

theorem pay3_part (c : Dev nD) (t : Fin cfg0.N) (i : Fin 4) (hi : t.val = i.val) (j : Fin 128) :
    k0_pay3 (F := Ideal) (p9 m c t) (ix2 (0 : Fin 1) j) = part m c i j := by
  rw [pay3_at]
  unfold part
  refine Finset.sum_congr rfl fun p _ => ?_
  have hP : (⟨i.val * 512 + p.val, by omega⟩ : Fin 2048).val = t.val * 512 + p.val := by rw [hi]
  refine congrArg (fun z => half * Ideal.div z len) (Finset.sum_congr rfl fun k _ => ?_)
  rw [at9 m c t p k _ hP]

/-- The scale's gradient and the loss after the block `n` of rows. -/
def sofar (c : Dev nD) (n : Nat) (hn : n < 4) (q : Fin 1024) : EReal :=
  ((outsAt0 m c n hn).2.2.1 : FVec Ideal S1x1024 .f32) (ix2 0 q)

def upto (c : Dev nD) (n : Nat) (hn : n < 4) (j : Fin 128) : EReal :=
  ((outsAt0 m c n hn).2.2.2 : FVec Ideal S1x128 .f32) (ix2 0 j)

theorem sofar_first (c : Dev nD) (i : Fin 4) (h0 : i.val % 4 = 0) (q : Fin 1024) : sofar m c i.val i.isLt q = 0 + rows m c i q := by
  unfold sofar
  rw [zero_add]
  exact (congrFun (sums_A m c ⟨i.val, i.isLt⟩ h0).1 (ix2 0 q)).trans (pay2_rows m c ⟨i.val, i.isLt⟩ i rfl q)

theorem sofar_next (c : Dev nD) (i : Fin 4) (h0 : ¬i.val % 4 = 0) (q : Fin 1024) :
    sofar m c i.val i.isLt q = sofar m c (i.val - 1) (Nat.lt_of_le_of_lt (Nat.sub_le _ _) i.isLt) q + rows m c i q := by
  unfold sofar
  refine (congrFun (sums_B m c ⟨i.val, i.isLt⟩ h0).1 (ix2 0 q)).trans ?_
  rw [pay4_at, pay2_rows m c ⟨i.val, i.isLt⟩ i rfl q]

theorem upto_first (c : Dev nD) (i : Fin 4) (h0 : i.val % 4 = 0) (j : Fin 128) : upto m c i.val i.isLt j = 0 + part m c i j := by
  unfold upto
  rw [zero_add]
  exact (congrFun (sums_A m c ⟨i.val, i.isLt⟩ h0).2 (ix2 0 j)).trans (pay3_part m c ⟨i.val, i.isLt⟩ i rfl j)

theorem upto_next (c : Dev nD) (i : Fin 4) (h0 : ¬i.val % 4 = 0) (j : Fin 128) :
    upto m c i.val i.isLt j = upto m c (i.val - 1) (Nat.lt_of_le_of_lt (Nat.sub_le _ _) i.isLt) j + part m c i j := by
  unfold upto
  refine (congrFun (sums_B m c ⟨i.val, i.isLt⟩ h0).2 (ix2 0 j)).trans ?_
  rw [pay5_at, pay3_part m c ⟨i.val, i.isLt⟩ i rfl j]

/-- The scale's gradient and the loss after the last point. -/
theorem scale (c : Dev nD) (t : Fin cfg0.N) (h : t.val % 4 = 3) (q : Fin 1024) :
    ((outsAt0 m c t.val t.isLt).2.2.1 : FVec Ideal S1x1024 .f32) (ix2 0 q) = R7 (D m c) (H m c) (ix2 0 q) := by
  have e := Pipeline.eq_sum_fin_of_reset_step_apply_of_flush (N := 4) (ι := Fin 1024) (M := EReal) (sofar m c) 4 (fun _ => 0) (rows m c)
    (sofar_first m c) (sofar_next m c) ⟨t.val, t.isLt⟩ h q
  refine Eq.trans (show _ = sofar m c t.val t.isLt q from rfl) (e.trans ?_)
  have ht : t.val < 4 := t.isLt
  rw [zero_add, r7_at]
  unfold rows
  refine Fin.sum_mul_add_congr fun s k hl => ?_
  have hs : 4 * (t.val / 4) + s.val = s.val := by omega
  simp only [hs]

theorem loss (c : Dev nD) (t : Fin cfg0.N) (h : t.val % 4 = 3) (j : Fin 128) :
    ((outsAt0 m c t.val t.isLt).2.2.2 : FVec Ideal S1x128 .f32) (ix2 0 j) = R8 (E m c) (ix2 0 j) := by
  have e := Pipeline.eq_sum_fin_of_reset_step_apply_of_flush (N := 4) (ι := Fin 128) (M := EReal) (upto m c) 4 (fun _ => 0) (part m c)
    (upto_first m c) (upto_next m c) ⟨t.val, t.isLt⟩ h j
  refine Eq.trans (show _ = upto m c t.val t.isLt j from rfl) (e.trans ?_)
  have ht : t.val < 4 := t.isLt
  rw [zero_add, r8_at]
  unfold part
  refine Fin.sum_mul_add_congr fun s k hl => ?_
  have hs : 4 * (t.val / 4) + s.val = s.val := by omega
  simp only [hs]

theorem point6 (c : Dev nD) (t : Fin cfg0.N) (p : Fin 512) (q : Fin 1024) (P : Fin 2048) (hP : P.val = t.val * 512 + p.val) :
    k0_pay1 (F := Ideal) (p11 m c t) (Scalar.ofBits .f32 0x3F000000#32) (ix2 p q) = R6 (D m c) (H m c) (A4 m c) (ix2 P q) := by
  rw [pay1_at, r6_at, at11 m c t p q P hP]

/-- The result arrays after the run. -/
theorem final5 (c : Dev nD) : (dats m 0 c).arrAt 5 (cfgs 0).N = R5 (D m c) (H m c) (A4 m c) := by
  refine (dats m 0 c).arrAt_eq_of_covers 5 _ (by decide +kernel) fun t hf y => ?_
  have ht : t.val < 4 := t.isLt
  blk_simp
  rw [after0_5, (rows_out m c t).1]
  obtain ⟨P, hP⟩ : ∃ P : Fin 2048, P.val = t.val * 512 + (y 0).val := ⟨⟨_, by have : (y 0).val < 512 := (y 0).isLt; omega⟩, rfl⟩
  have ey : y = ix2 (y 0) (y 1) := by blk_ext
  have ee : ((cfg0.win 5).blk t).view.emb y = ix2 P (y 1) := by blk_ext [idx t]
  rw [ee, ey]
  exact at11 m c t _ _ P hP

theorem final6 (c : Dev nD) : (dats m 0 c).arrAt 6 (cfgs 0).N = R6 (D m c) (H m c) (A4 m c) := by
  refine (dats m 0 c).arrAt_eq_of_covers 6 _ (by decide +kernel) fun t hf y => ?_
  have ht : t.val < 4 := t.isLt
  blk_simp
  rw [after0_6, (rows_out m c t).2]
  obtain ⟨P, hP⟩ : ∃ P : Fin 2048, P.val = t.val * 512 + (y 0).val := ⟨⟨_, by have : (y 0).val < 512 := (y 0).isLt; omega⟩, rfl⟩
  have ey : y = ix2 (y 0) (y 1) := by blk_ext
  have ee : ((cfg0.win 6).blk t).view.emb y = ix2 P (y 1) := by blk_ext [idx t]
  rw [ee, ey]
  exact point6 m c t _ _ P hP

theorem final7 (c : Dev nD) : (dats m 0 c).arrAt 7 (cfgs 0).N = R7 (D m c) (H m c) := by
  refine (dats m 0 c).arrAt_eq_of_covers 7 _ (by decide +kernel) fun t hf y => ?_
  have h := (flush0_7 t).1 hf
  blk_simp
  rw [after0_7]
  have ey : y = ix2 (0 : Fin 1) (y 1) := by blk_ext
  have ee : ((cfg0.win 7).blk t).view.emb y = ix2 (0 : Fin 1) (y 1) := by blk_ext [idx t]
  rw [ee, ey]
  exact scale m c t h (y 1)

theorem final8 (c : Dev nD) : (dats m 0 c).arrAt 8 (cfgs 0).N = R8 (E m c) := by
  refine (dats m 0 c).arrAt_eq_of_covers 8 _ (by decide +kernel) fun t hf y => ?_
  have h := (flush0_8 t).1 hf
  blk_simp
  rw [after0_8]
  have ey : y = ix2 (0 : Fin 1) (y 1) := by blk_ext
  have ee : ((cfg0.win 8).blk t).view.emb y = ix2 (0 : Fin 1) (y 1) := by blk_ext [idx t]
  rw [ee, ey]
  exact loss m c t h (y 1)

/-- Equal arguments have equal results. -/
theorem equal {A0 B0 A1 B1 A2 B2 A3 B3 A4 B4} (e0 : B0 = A0) (e1 : B1 = A1) (e2 : B2 = A2) (e3 : B3 = A3) (e4 : B4 = A4) :
    R5 (DY (ER (HH A0 A1 A2) A3 A4)) (HH A0 A1 A2) A4 = R5 (DY (ER (HH B0 B1 B2) B3 B4)) (HH B0 B1 B2) B4
    ∧ R6 (DY (ER (HH A0 A1 A2) A3 A4)) (HH A0 A1 A2) A4 = R6 (DY (ER (HH B0 B1 B2) B3 B4)) (HH B0 B1 B2) B4
    ∧ R7 (DY (ER (HH A0 A1 A2) A3 A4)) (HH A0 A1 A2) = R7 (DY (ER (HH B0 B1 B2) B3 B4)) (HH B0 B1 B2)
    ∧ R8 (ER (HH A0 A1 A2) A3 A4) = R8 (ER (HH B0 B1 B2) B3 B4) := by
  subst e0 e1 e2 e3 e4; exact ⟨rfl, rfl, rfl, rfl⟩

theorem frame_kernel : Cert.quiescent_KernelLoss := fun m ρ _ => Cert.KernelLoss.Gen.frame m ρ
theorem frame_kernelIdeal : Cert.quiescent_KernelLossIdeal := fun m ρ _ => Cert.KernelLossIdeal.Gen.frame m ρ
theorem frame_reference : Cert.quiescent_ReferenceLossIdeal := fun m ρ _ =>
  (θ_run Cert.ReferenceLossIdeal.defs _ _).mono
    (fun r h => ⟨fun c => (h c).2.2.2.2, Idealize.ShloMosaic.sem_eq_zero_of_no_sems (by decide) r.2⟩) (Cert.ReferenceLossIdeal.Value.run (F := Ideal) m ρ)

/-- Kernel and reference end with the same arrays. -/
theorem equal_results : Cert.algebraic_KernelLossIdeal_ReferenceLossIdeal := by
  intro m g m' g' _ hin
  refine ⟨fun c => R5 (D m c) (H m c) (A4 m c), fun c => R6 (D m c) (H m c) (A4 m c), fun c => R7 (D m c) (H m c), fun c => R8 (E m c), ?_, ?_⟩
  · refine (θ_run Cert.KernelLossIdeal.defs _ _).mono (fun r h c => ?_) (Cert.KernelLossIdeal.Value.run_blocks (F := Ideal) m g)
    exact ⟨(h c).1.trans (final5 m c), (h c).2.1.trans (final6 m c), (h c).2.2.1.trans (final7 m c), (h c).2.2.2.1.trans (final8 m c), (h c).2.2.2.2⟩
  · refine (θ_run Cert.ReferenceLossIdeal.defs _ _).mono (fun r h c => ?_) (Cert.ReferenceLossIdeal.Value.run (F := Ideal) m' g')
    have f := equal (hin c).1 (hin c).2.1 (hin c).2.2.1 (hin c).2.2.2.1 (hin c).2.2.2.2
    exact ⟨(h c).1.trans f.1.symm, (h c).2.1.trans f.2.1.symm, (h c).2.2.1.trans f.2.2.1.symm, (h c).2.2.2.1.trans f.2.2.2.symm, (h c).2.2.2.2⟩

end

end Cert.Proof.Loss
-- ==== Proof.Kv.lean ====
module
public import proofs.«01_k».proof.Defs
public import proofs.«01_k».proof.Proof.Gen.KernelKvIdeal.Value
public import proofs.«01_k».proof.Proof.Gen.KernelKv.Frame
public import proofs.«01_k».proof.Proof.Gen.ReferenceKvIdeal.Run
public import Idealize.ShloMosaic.Lib.Pipeline.ValueKit
public import Idealize.ShloMosaic.Lib.Pointwise
public import Idealize.ShloMosaic.Lib.Claim

/-! The keys and values of the memory: the call's tiles of `mn · w` against the whole product. -/

set_option maxRecDepth 16384

@[expose] public section

namespace Cert.Proof.Kv
open Idealize.ShloMosaic Idealize.ShloMosaic.TcCoe Idealize.SL.Sem Cert.KernelKvIdeal Cert.KernelKvIdeal.Gen
open Idealize.ShloMosaic.Pipeline (Dat)

noncomputable section

variable (m : (ℓ : Loc nD τ sig) → Buf (Elt Ideal) ℓ)

/-- The reference's result as a function of its two arguments. -/
abbrev REF (X : FVec Ideal S256x1024 .bf16) (Y : FVec Ideal S1024x2048 .bf16) : FVec Ideal S256x2048 .bf16 :=
  truncf .bf16 (Host.dotGeneral Cert.ReferenceKvIdeal.dot_S256x1024_S1024x2048_S256x2048_1_0_0_1_n_n none
    (extf .f32 X Cert.ReferenceKvIdeal.Gen.bitsLt_bf16_f32) (extf .f32 Y Cert.ReferenceKvIdeal.Gen.bitsLt_bf16_f32)) Cert.ReferenceKvIdeal.Gen.bitsLt_bf16_f32

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelKv := fun m ρ _ => Cert.KernelKv.Gen.frame m ρ
theorem frame_kernelIdeal : Cert.quiescent_KernelKvIdeal := fun m ρ _ => Cert.KernelKvIdeal.Gen.frame m ρ
theorem frame_reference : Cert.quiescent_ReferenceKvIdeal := fun m ρ _ =>
  (θ_run Cert.ReferenceKvIdeal.defs _ _).mono
    (fun r h => ⟨fun c => (h c).2, Idealize.ShloMosaic.sem_eq_zero_of_no_sems (by decide) r.2⟩) (Cert.ReferenceKvIdeal.Value.run (F := Ideal) m ρ)

/-- Kernel and reference end with the same array. -/
theorem equal_results : Cert.algebraic_KernelKvIdeal_ReferenceKvIdeal := by
  intro m g m' g' _ hin
  refine ⟨fun c => REF (m ((c : Thread nD τ).loc main_arg0)) (m ((c : Thread nD τ).loc main_arg1)), ?_, ?_⟩
  · refine (θ_run Cert.KernelKvIdeal.defs _ _).mono (fun r h c => ?_) (Cert.KernelKvIdeal.Value.run_blocks (F := Ideal) m g)
    exact ⟨(h c).1.trans (final m c), (h c).2⟩
  · refine (θ_run Cert.ReferenceKvIdeal.defs _ _).mono (fun r h c => ?_) (Cert.ReferenceKvIdeal.Value.run (F := Ideal) m' g')
    refine ⟨(h c).1.trans ?_, (h c).2⟩
    rw [(hin c).1, (hin c).2]

end
end Cert.Proof.Kv
-- ==== Proof.Dwkv.lean ====
module
public import proofs.«01_k».proof.Defs
public import proofs.«01_k».proof.Proof.Gen.KernelDwkvIdeal.Value
public import proofs.«01_k».proof.Proof.Gen.KernelDwkv.Frame
public import proofs.«01_k».proof.Proof.Gen.ReferenceDwkvIdeal.Run
public import Idealize.ShloMosaic.Lib.Pipeline.ValueKit
public import Idealize.ShloMosaic.Lib.Pointwise
public import Idealize.ShloMosaic.Lib.Claim

/-! The gradient of the memory's key and value weights: the call's tiles of `mnᵀ · dkv` against the derivative of `mn · w`. -/

set_option maxRecDepth 16384

@[expose] public section

namespace Cert.Proof.Dwkv
open Idealize.ShloMosaic Idealize.ShloMosaic.TcCoe Idealize.SL.Sem Cert.KernelDwkvIdeal Cert.KernelDwkvIdeal.Gen
open Idealize.ShloMosaic.Pipeline (Dat)

noncomputable section

variable (m : (ℓ : Loc nD τ sig) → Buf (Elt Ideal) ℓ)

/-- The reference's result as a function of its two arguments. -/
abbrev REF (X : FVec Ideal S256x1024 .bf16) (Y : FVec Ideal S256x2048 .bf16) : FVec Ideal S1024x2048 .bf16 :=
  truncf .bf16 (transpose Cert.ReferenceDwkvIdeal.S1024x2048 [1, 0]
    (Host.dotGeneral Cert.ReferenceDwkvIdeal.dot_S256x2048_S256x1024_S2048x1024_0_0_1_1_n_n none
      (extf .f32 Y Cert.ReferenceDwkvIdeal.Gen.bitsLt_bf16_f32) (extf .f32 X Cert.ReferenceDwkvIdeal.Gen.bitsLt_bf16_f32))
    Cert.ReferenceDwkvIdeal.Gen.transposes_S2048x1024_S1024x2048_1_0) Cert.ReferenceDwkvIdeal.Gen.bitsLt_bf16_f32

theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDwkv := fun m ρ _ => Cert.KernelDwkv.Gen.frame m ρ
theorem frame_kernelIdeal : Cert.quiescent_KernelDwkvIdeal := fun m ρ _ => Cert.KernelDwkvIdeal.Gen.frame m ρ
theorem frame_reference : Cert.quiescent_ReferenceDwkvIdeal := fun m ρ _ =>
  (θ_run Cert.ReferenceDwkvIdeal.defs _ _).mono
    (fun r h => ⟨fun c => (h c).2, Idealize.ShloMosaic.sem_eq_zero_of_no_sems (by decide) r.2⟩) (Cert.ReferenceDwkvIdeal.Value.run (F := Ideal) m ρ)

/-- Kernel and reference end with the same array. -/
theorem equal_results : Cert.algebraic_KernelDwkvIdeal_ReferenceDwkvIdeal := by
  intro m g m' g' _ hin
  refine ⟨fun c => REF (m ((c : Thread nD τ).loc main_arg0)) (m ((c : Thread nD τ).loc main_arg1)), ?_, ?_⟩
  · refine (θ_run Cert.KernelDwkvIdeal.defs _ _).mono (fun r h c => ?_) (Cert.KernelDwkvIdeal.Value.run_blocks (F := Ideal) m g)
    exact ⟨(h c).1.trans (final m c), (h c).2⟩
  · refine (θ_run Cert.ReferenceDwkvIdeal.defs _ _).mono (fun r h c => ?_) (Cert.ReferenceDwkvIdeal.Value.run (F := Ideal) m' g')
    refine ⟨(h c).1.trans ?_, (h c).2⟩
    rw [(hin c).1, (hin c).2]

end
end Cert.Proof.Dwkv
-- ==== Proof.Dmn.lean ====
module
public import proofs.«01_k».proof.Defs
public import proofs.«01_k».proof.Proof.Gen.KernelDmnIdeal.Value
public import proofs.«01_k».proof.Proof.Gen.KernelDmn.Frame
public import proofs.«01_k».proof.Proof.Gen.ReferenceDmnIdeal.Run
public import Idealize.ShloMosaic.Lib.Pipeline.ValueKit
public import Idealize.ShloMosaic.Lib.Pointwise
public import Idealize.ShloMosaic.Lib.Claim

/-! The gradient of the normalised memory: the call's tiles of `dkv · wᵀ` against the derivative of `mn · w`. -/

set_option maxRecDepth 16384

@[expose] public section

namespace Cert.Proof.Dmn
open Idealize.ShloMosaic Idealize.ShloMosaic.TcCoe Idealize.SL.Sem Cert.KernelDmnIdeal Cert.KernelDmnIdeal.Gen
open Idealize.ShloMosaic.Pipeline (Dat)

noncomputable section

variable (m : (ℓ : Loc nD τ sig) → Buf (Elt Ideal) ℓ)

/-- The reference's result as a function of its two arguments. -/
abbrev REF (X : FVec Ideal S256x2048 .bf16) (Y : FVec Ideal S1024x2048 .bf16) : FVec Ideal S256x1024 .f32 :=
  Host.dotGeneral Cert.ReferenceDmnIdeal.dot_S256x2048_S1024x2048_S256x1024_1_1_0_0_n_n none
    (extf .f32 X Cert.ReferenceDmnIdeal.Gen.bitsLt_bf16_f32) (extf .f32 Y Cert.ReferenceDmnIdeal.Gen.bitsLt_bf16_f32)

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- What a point writes is the reference's result at the place of its block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_KernelDmn := fun m ρ _ => Cert.KernelDmn.Gen.frame m ρ
theorem frame_kernelIdeal : Cert.quiescent_KernelDmnIdeal := fun m ρ _ => Cert.KernelDmnIdeal.Gen.frame m ρ
theorem frame_reference : Cert.quiescent_ReferenceDmnIdeal := fun m ρ _ =>
  (θ_run Cert.ReferenceDmnIdeal.defs _ _).mono
    (fun r h => ⟨fun c => (h c).2, Idealize.ShloMosaic.sem_eq_zero_of_no_sems (by decide) r.2⟩) (Cert.ReferenceDmnIdeal.Value.run (F := Ideal) m ρ)

/-- Kernel and reference end with the same array. -/
theorem equal_results : Cert.algebraic_KernelDmnIdeal_ReferenceDmnIdeal := by
  intro m g m' g' _ hin
  refine ⟨fun c => REF (m ((c : Thread nD τ).loc main_arg0)) (m ((c : Thread nD τ).loc main_arg1)), ?_, ?_⟩
  · refine (θ_run Cert.KernelDmnIdeal.defs _ _).mono (fun r h c => ?_) (Cert.KernelDmnIdeal.Value.run_blocks (F := Ideal) m g)
    exact ⟨(h c).1.trans (final m c), (h c).2⟩
  · refine (θ_run Cert.ReferenceDmnIdeal.defs _ _).mono (fun r h c => ?_) (Cert.ReferenceDmnIdeal.Value.run (F := Ideal) m' g')
    refine ⟨(h c).1.trans ?_, (h c).2⟩
    rw [(hin c).1, (hin c).2]

end
end Cert.Proof.Dmn
-- ==== Proof.Xfwd.lean ====
module
public import proofs.«01_k».proof.Defs
public import proofs.«01_k».proof.Proof.Gen.KernelXfwdIdeal.Value
public import proofs.«01_k».proof.Proof.Gen.KernelXfwd.Frame
public import proofs.«01_k».proof.Proof.Gen.ReferenceXfwdIdeal.Run
public import proofs.«01_k».proof.Proof.Softmax
public import Idealize.ShloMosaic.Lib.Pipeline.ValueKit
public import Idealize.ShloMosaic.Lib.Pointwise
public import Idealize.ShloMosaic.Lib.Claim

/-! The cross attention: the call's block of one head against the attention over all the heads. -/

set_option maxRecDepth 16384

@[expose] public section

namespace Cert.Proof.Xfwd
open Idealize.ShloMosaic Idealize.ShloMosaic.TcCoe Idealize.SL.Sem Cert.KernelXfwdIdeal Cert.KernelXfwdIdeal.Gen
open Idealize.ShloMosaic.Pipeline (Dat)
open Cert.Proof.Softmax

noncomputable section

/-- The scores, their maxima, exponentials and sums, the shares, and the result, as the reference computes them. -/
abbrev SC (A0 : FVec Ideal S2048x1024 .bf16) (A1 : FVec Ideal S256x2048 .bf16) : FVec Ideal Cert.ReferenceXfwdIdeal.S4x2048x256 .f32 :=
  mulf (Host.dotGeneral Cert.ReferenceXfwdIdeal.dot_S2048x4x256_S256x4x256_S4x2048x256_2_2_0_0_1_1 none (shapeCast _ (extf .f32 A0
    Cert.ReferenceXfwdIdeal.Gen.bitsLt_bf16_f32) Cert.ReferenceXfwdIdeal.Gen.shapeCasts_S2048x1024_S2048x4x256) (shapeCast _
    (extractStridedSlice Cert.ReferenceXfwdIdeal.S256x1024 ![0, 0] (extf .f32 A1 Cert.ReferenceXfwdIdeal.Gen.bitsLt_bf16_f32)
    Cert.ReferenceXfwdIdeal.Gen.slices_S256x2048_S256x1024_0_0) Cert.ReferenceXfwdIdeal.Gen.shapeCasts_S256x1024_S256x4x256))
    (broadcastInDim Cert.ReferenceXfwdIdeal.S4x2048x256 ![] Cert.ReferenceXfwdIdeal.Gen.bcast_S_S4x2048x256 (constant
    Cert.ReferenceXfwdIdeal.S_ .f32 0x3D800000#32))

abbrev MX (X : FVec Ideal Cert.ReferenceXfwdIdeal.S4x2048x256 .f32) : FVec Ideal Cert.ReferenceXfwdIdeal.S4x2048 .f32 :=
  maximumf (broadcastInDim Cert.ReferenceXfwdIdeal.S4x2048 ![] Cert.ReferenceXfwdIdeal.Gen.bcast_S_S4x2048 (constant
    Cert.ReferenceXfwdIdeal.S_ .f32 0xFF800000#32)) (Host.reduce FloatOps.maximumf X (constant Cert.ReferenceXfwdIdeal.S_ .f32
    0xFF800000#32) Cert.ReferenceXfwdIdeal.Gen.reducesTo_S4x2048x256_S4x2048_d2 Cert.ReferenceXfwdIdeal.Gen.h_S_)

abbrev EX (X : FVec Ideal Cert.ReferenceXfwdIdeal.S4x2048x256 .f32) : FVec Ideal Cert.ReferenceXfwdIdeal.S4x2048x256 .f32 :=
  Host.exp (subf X (broadcastInDim Cert.ReferenceXfwdIdeal.S4x2048x256 ![0, 1, 2]
    Cert.ReferenceXfwdIdeal.Gen.bcast_S4x2048x1_S4x2048x256_0_1_2 (broadcastInDim Cert.ReferenceXfwdIdeal.S4x2048x1 ![0, 1]
    Cert.ReferenceXfwdIdeal.Gen.bcast_S4x2048_S4x2048x1_0_1 (MX X))))

abbrev SU (X : FVec Ideal Cert.ReferenceXfwdIdeal.S4x2048x256 .f32) : FVec Ideal Cert.ReferenceXfwdIdeal.S4x2048 .f32 :=
  Host.reduceAdd (EX X) (constant Cert.ReferenceXfwdIdeal.S_ .f32 0x00000000#32)
    Cert.ReferenceXfwdIdeal.Gen.reducesTo_S4x2048x256_S4x2048_d2 Cert.ReferenceXfwdIdeal.Gen.h_S_

abbrev PR (X : FVec Ideal Cert.ReferenceXfwdIdeal.S4x2048x256 .f32) : FVec Ideal Cert.ReferenceXfwdIdeal.S4x2048x256 .f32 :=
  Host.divf (EX X) (broadcastInDim Cert.ReferenceXfwdIdeal.S4x2048x256 ![0, 1, 2]
    Cert.ReferenceXfwdIdeal.Gen.bcast_S4x2048x1_S4x2048x256_0_1_2 (broadcastInDim Cert.ReferenceXfwdIdeal.S4x2048x1 ![0, 1]
    Cert.ReferenceXfwdIdeal.Gen.bcast_S4x2048_S4x2048x1_0_1 (SU X)))

abbrev RO (A1 : FVec Ideal S256x2048 .bf16) (Z : FVec Ideal Cert.ReferenceXfwdIdeal.S4x2048x256 .f32) : FVec Ideal S2048x1024 .bf16 :=
  truncf .bf16 (shapeCast _ (transpose Cert.ReferenceXfwdIdeal.S2048x4x256 [2, 0, 1] (Host.dotGeneral
    Cert.ReferenceXfwdIdeal.dot_S256x4x256_S4x2048x256_S4x256x2048_0_2_2_1_1_0 none (shapeCast _ (extractStridedSlice
    Cert.ReferenceXfwdIdeal.S256x1024 ![0, 1024] (extf .f32 A1 Cert.ReferenceXfwdIdeal.Gen.bitsLt_bf16_f32)
    Cert.ReferenceXfwdIdeal.Gen.slices_S256x2048_S256x1024_0_1024) Cert.ReferenceXfwdIdeal.Gen.shapeCasts_S256x1024_S256x4x256) Z)
    Cert.ReferenceXfwdIdeal.Gen.transposes_S4x256x2048_S2048x4x256_2_0_1)
    Cert.ReferenceXfwdIdeal.Gen.shapeCasts_S2048x4x256_S2048x1024) Cert.ReferenceXfwdIdeal.Gen.bitsLt_bf16_f32

theorem sc_at (A0 A1) (h : Fin 4) (s : Fin 2048) (j : Fin 256) : SC A0 A1 (ix3 h s j)
    = (∑ k : Fin 256, A0 (ix2 s ⟨h.val * 256 + k.val, by omega⟩) * A1 (ix2 j ⟨h.val * 256 + k.val, by omega⟩)) * Ideal.ofBits .f32 0x3D800000#32 := by
  pointwise [SC]

theorem ex_at (X) (h : Fin 4) (s : Fin 2048) (j : Fin 256) : EX X (ix3 h s j) = ex (fun k : Fin 256 => X (ix3 h s k)) j := by
  unfold ex
  rw [← peak_max]
  pointwise [EX, MX]
  rfl

theorem su_at (X) (h : Fin 4) (s : Fin 2048) : SU X (ix2 h s) = ∑ j : Fin 256, ex (fun k : Fin 256 => X (ix3 h s k)) j := by
  rw [← show (∑ j : Fin 256, EX X (ix3 h s j)) = _ from Finset.sum_congr rfl fun j _ => ex_at X h s j]
  unfold SU
  generalize EX X = E
  pointwise

theorem pr_at (X) (h : Fin 4) (s : Fin 2048) (j : Fin 256) : PR X (ix3 h s j) = prob (fun k : Fin 256 => X (ix3 h s k)) j := by
  unfold prob
  rw [← ex_at, ← su_at]
  unfold PR
  generalize EX X = E
  generalize SU X = S
  pointwise

theorem ro_at (A1 Z) (s : Fin 2048) (J : Fin 1024) (h : Fin 4) (hh : J.val / 256 = h.val) : RO A1 Z (ix2 s J)
    = ∑ x : Fin 256, Z (ix3 h s x) * A1 (ix2 x ⟨1024 + J.val, by omega⟩) := by
  have e : (⟨J.val / 256, by omega⟩ : Fin 4) = h := Fin.ext hh
  rw [← e]
  pointwise [RO]
  exact Finset.sum_congr rfl fun x _ => mul_comm _ _

/-! ## The call's store -/

/-- A row of scores in a head's blocks. -/
def row (a : FVec Ideal S2048x256 .bf16) (b : FVec Ideal S256x256 .bf16) (s : Fin 2048) (j : Fin 256) : EReal :=
  (∑ k : Fin 256, a (ix2 s k) * b (ix2 j k)) * Ideal.ofBits .f32 0x3D800000#32

theorem pay1_at (a b v) (s : Fin 2048) (j : Fin 256) : k0_pay1 (F := Ideal) a b v (ix2 s j) = ∑ x : Fin 256, prob (row a b s) x * v (ix2 x j) := by
  pointwise [k0_pay1]
  rfl

/-! ## The points -/

variable (m : (ℓ : Loc nD τ sig) → Buf (Elt Ideal) ℓ)

abbrev A0 (c : Dev nD) : FVec Ideal S2048x1024 .bf16 := m ((c : Thread nD τ).loc main_arg0)
abbrev A1 (c : Dev nD) : FVec Ideal S256x2048 .bf16 := m ((c : Thread nD τ).loc main_arg1)

/-- The blocks over all the points. -/
theorem idx : ∀ t : Fin cfg0.N, win0_0.index t = ![0, t.val] ∧ win0_1.index t = ![0, t.val]
    ∧ win0_2.index t = ![0, 4 + t.val] ∧ win0_3.index t = ![0, t.val] :=
  (by decide +kernel : ∀ t : Fin grid0.N, _)

/-- A head's blocks of the queries, keys and values. -/
abbrev bq (c : Dev nD) (t : Fin cfg0.N) : FVec Ideal S2048x256 .bf16 := iblk m c 0 t
abbrev bk (c : Dev nD) (t : Fin cfg0.N) : FVec Ideal S256x256 .bf16 := iblk m c 1 t
abbrev bv (c : Dev nD) (t : Fin cfg0.N) : FVec Ideal S256x256 .bf16 := iblk m c 2 t

theorem q_at (c : Dev nD) (t : Fin cfg0.N) (p : Fin 2048) (q : Fin 256) (Q : Fin 1024) (hQ : Q.val = t.val * 256 + q.val) :
    bq m c t (ix2 p q) = A0 m c (ix2 p Q) := by
  blk_point [iblk, V, idx t]

theorem k_at (c : Dev nD) (t : Fin cfg0.N) (p : Fin 256) (q : Fin 256) (Q : Fin 2048) (hQ : Q.val = t.val * 256 + q.val) :
    bk m c t (ix2 p q) = A1 m c (ix2 p Q) := by
  blk_point [iblk, V, idx t]

theorem v_at (c : Dev nD) (t : Fin cfg0.N) (p : Fin 256) (q : Fin 256) (Q : Fin 2048) (hQ : Q.val = 1024 + (t.val * 256 + q.val)) :
    bv m c t (ix2 p q) = A1 m c (ix2 p Q) := by
  blk_point [iblk, V, idx t]

/-- The point's head. -/
abbrev hd (t : Fin cfg0.N) : Fin 4 := ⟨t.val, t.isLt⟩

abbrev X (c : Dev nD) := SC (A0 m c) (A1 m c)
theorem row_at (c : Dev nD) (t : Fin cfg0.N) (s : Fin 2048) : row (bq m c t) (bk m c t) s = fun j => X m c (ix3 (hd t) s j) := by
  funext j
  rw [row, X, sc_at]
  refine congrArg (· * _) (Finset.sum_congr rfl fun k _ => ?_)
  rw [q_at m c t s k ⟨t.val * 256 + k.val, by have : t.val < 4 := t.isLt; omega⟩ rfl, k_at m c t j k ⟨t.val * 256 + k.val, by have : t.val < 4 := t.isLt; omega⟩ rfl]

theorem out (c : Dev nD) (t : Fin cfg0.N) : out0_3 (F := Ideal) (bq m c t) (bk m c t) (bv m c t) = k0_pay1 (F := Ideal) (bq m c t) (bk m c t) (bv m c t) := by
  frame_out

theorem point3 (c : Dev nD) (t : Fin cfg0.N) (p : Fin 2048) (q : Fin 256) (Q : Fin 1024) (hQ : Q.val = t.val * 256 + q.val) :
    k0_pay1 (F := Ideal) (bq m c t) (bk m c t) (bv m c t) (ix2 p q) = RO (A1 m c) (PR (X m c)) (ix2 p Q) := by
  rw [pay1_at, ro_at _ _ p Q (hd t) (by have : t.val < 4 := t.isLt; show Q.val / 256 = t.val; omega), row_at]
  exact Finset.sum_congr rfl fun x _ => by rw [pr_at, v_at m c t x q ⟨1024 + Q.val, by omega⟩ (by show 1024 + Q.val = _; omega)]

/-- The result array after the run. -/
theorem final3 (c : Dev nD) : (dats m 0 c).arrAt 3 (cfgs 0).N = RO (A1 m c) (PR (X m c)) := by
  refine (dats m 0 c).arrAt_eq_of_covers 3 _ (by decide +kernel) fun t hf y => ?_
  have ht : t.val < 4 := t.isLt
  blk_simp
  rw [after0_3, out m c t]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 3).blk t).view.emb (ix2 p q) = ix2 p Q := by blk_ext [idx t]
  rw [ee]
  exact point3 m c t p q Q hQ

/-- Equal arguments have equal results. -/
theorem results {A0 B0 A1 B1} (e0 : B0 = A0) (e1 : B1 = A1) : RO A1 (PR (SC A0 A1)) = RO B1 (PR (SC B0 B1)) := by
  subst e0 e1; rfl

theorem frame_kernel : Cert.quiescent_KernelXfwd := fun m ρ _ => Cert.KernelXfwd.Gen.frame m ρ
theorem frame_kernelIdeal : Cert.quiescent_KernelXfwdIdeal := fun m ρ _ => Cert.KernelXfwdIdeal.Gen.frame m ρ
theorem frame_reference : Cert.quiescent_ReferenceXfwdIdeal := fun m ρ _ =>
  (θ_run Cert.ReferenceXfwdIdeal.defs _ _).mono
    (fun r h => ⟨fun c => (h c).2, Idealize.ShloMosaic.sem_eq_zero_of_no_sems (by decide) r.2⟩) (Cert.ReferenceXfwdIdeal.Value.run (F := Ideal) m ρ)

/-- Kernel and reference end with the same array. -/
theorem equal_results : Cert.algebraic_KernelXfwdIdeal_ReferenceXfwdIdeal := by
  intro m g m' g' hpre hin
  refine ⟨fun c => RO (A1 m c) (PR (X m c)), ?_, ?_⟩
  · refine (θ_run Cert.KernelXfwdIdeal.defs _ _).mono (fun r h c => ?_) (Cert.KernelXfwdIdeal.Value.run_blocks (F := Ideal) m g)
    exact ⟨(h c).1.trans (final3 m c), (h c).2⟩
  · refine (θ_run Cert.ReferenceXfwdIdeal.defs _ _).mono (fun r h c => ?_) (Cert.ReferenceXfwdIdeal.Value.run (F := Ideal) m' g')
    obtain ⟨e0, e1⟩ := hin c
    have f : RO (A1 m c) (PR (X m c)) = RO (m' ((c : Thread nD τ).loc Cert.ReferenceXfwdIdeal.main_arg1))
      (PR (SC (m' ((c : Thread nD τ).loc Cert.ReferenceXfwdIdeal.main_arg0)) (m' ((c : Thread nD τ).loc Cert.ReferenceXfwdIdeal.main_arg1)))) := results e0 e1
    exact ⟨(h c).1.trans f.symm, (h c).2⟩

end
end Cert.Proof.Xfwd
-- ==== Proof.Cfwd.lean ====
module
public import proofs.«01_k».proof.Defs
public import proofs.«01_k».proof.Proof.Gen.KernelCfwdIdeal.Value
public import proofs.«01_k».proof.Proof.Gen.KernelCfwd.Frame
public import proofs.«01_k».proof.Proof.Gen.ReferenceCfwdIdeal.Run
public import proofs.«01_k».proof.Proof.Shift
public import Idealize.ShloMosaic.Lib.Pipeline.ValueKit
public import Idealize.ShloMosaic.Lib.Pointwise
public import Idealize.ShloMosaic.Lib.Claim

/-! The gated convolution: the call's block of columns, whose moved rows are turned round and masked, against the convolution
    over rows with zeros before them. -/

set_option maxRecDepth 16384

@[expose] public section

namespace Cert.Proof.Cfwd
open Idealize.ShloMosaic Idealize.ShloMosaic.TcCoe Idealize.SL.Sem Cert.KernelCfwdIdeal Cert.KernelCfwdIdeal.Gen
open Idealize.ShloMosaic.Pipeline (Dat)
open Cert.Proof.Shift

noncomputable section

/-- The projection's first three thirds as numbers, the product that the convolution runs over, a filter's row under every
    position, and the columns moved down, as the reference computes them. -/
abbrev C0 (A1 : FVec Ideal Cert.ReferenceCfwdIdeal.S2048x8192 .bf16) : FVec Ideal Cert.ReferenceCfwdIdeal.S2048x1024 .f32 :=
    extractStridedSlice Cert.ReferenceCfwdIdeal.S2048x1024 ![0, 0] (extf .f32 A1 Cert.ReferenceCfwdIdeal.Gen.bitsLt_bf16_f32)
    Cert.ReferenceCfwdIdeal.Gen.slices_S2048x8192_S2048x1024_0_0
abbrev C1 (A1 : FVec Ideal Cert.ReferenceCfwdIdeal.S2048x8192 .bf16) : FVec Ideal Cert.ReferenceCfwdIdeal.S2048x1024 .f32 :=
    extractStridedSlice Cert.ReferenceCfwdIdeal.S2048x1024 ![0, 1024] (extf .f32 A1
    Cert.ReferenceCfwdIdeal.Gen.bitsLt_bf16_f32) Cert.ReferenceCfwdIdeal.Gen.slices_S2048x8192_S2048x1024_0_1024
abbrev C2 (A1 : FVec Ideal Cert.ReferenceCfwdIdeal.S2048x8192 .bf16) : FVec Ideal Cert.ReferenceCfwdIdeal.S2048x1024 .f32 :=
    extractStridedSlice Cert.ReferenceCfwdIdeal.S2048x1024 ![0, 2048] (extf .f32 A1
    Cert.ReferenceCfwdIdeal.Gen.bitsLt_bf16_f32) Cert.ReferenceCfwdIdeal.Gen.slices_S2048x8192_S2048x1024_0_2048
abbrev P (A1 : FVec Ideal Cert.ReferenceCfwdIdeal.S2048x8192 .bf16) : FVec Ideal Cert.ReferenceCfwdIdeal.S2048x1024 .f32 :=
    mulf (C1 A1) (C2 A1)
abbrev W0 (A2 : FVec Ideal Cert.ReferenceCfwdIdeal.S3x1024 .f32) : FVec Ideal Cert.ReferenceCfwdIdeal.S2048x1024 .f32 :=
    broadcastInDim Cert.ReferenceCfwdIdeal.S2048x1024 ![0, 1] Cert.ReferenceCfwdIdeal.Gen.bcast_S1x1024_S2048x1024_0_1
    (broadcastInDim Cert.ReferenceCfwdIdeal.S1x1024 ![1] Cert.ReferenceCfwdIdeal.Gen.bcast_S1024_S1x1024_1 (shapeCast _
    (extractStridedSlice Cert.ReferenceCfwdIdeal.S1x1024 ![0, 0] A2 Cert.ReferenceCfwdIdeal.Gen.slices_S3x1024_S1x1024_0_0)
    Cert.ReferenceCfwdIdeal.Gen.shapeCasts_S1x1024_S1024))
abbrev W1 (A2 : FVec Ideal Cert.ReferenceCfwdIdeal.S3x1024 .f32) : FVec Ideal Cert.ReferenceCfwdIdeal.S2048x1024 .f32 :=
    broadcastInDim Cert.ReferenceCfwdIdeal.S2048x1024 ![0, 1] Cert.ReferenceCfwdIdeal.Gen.bcast_S1x1024_S2048x1024_0_1
    (broadcastInDim Cert.ReferenceCfwdIdeal.S1x1024 ![1] Cert.ReferenceCfwdIdeal.Gen.bcast_S1024_S1x1024_1 (shapeCast _
    (extractStridedSlice Cert.ReferenceCfwdIdeal.S1x1024 ![1, 0] A2 Cert.ReferenceCfwdIdeal.Gen.slices_S3x1024_S1x1024_1_0)
    Cert.ReferenceCfwdIdeal.Gen.shapeCasts_S1x1024_S1024))
abbrev W2 (A2 : FVec Ideal Cert.ReferenceCfwdIdeal.S3x1024 .f32) : FVec Ideal Cert.ReferenceCfwdIdeal.S2048x1024 .f32 :=
    broadcastInDim Cert.ReferenceCfwdIdeal.S2048x1024 ![0, 1] Cert.ReferenceCfwdIdeal.Gen.bcast_S1x1024_S2048x1024_0_1
    (broadcastInDim Cert.ReferenceCfwdIdeal.S1x1024 ![1] Cert.ReferenceCfwdIdeal.Gen.bcast_S1024_S1x1024_1 (shapeCast _
    (extractStridedSlice Cert.ReferenceCfwdIdeal.S1x1024 ![2, 0] A2 Cert.ReferenceCfwdIdeal.Gen.slices_S3x1024_S1x1024_2_0)
    Cert.ReferenceCfwdIdeal.Gen.shapeCasts_S1x1024_S1024))
abbrev D1 (X : FVec Ideal Cert.ReferenceCfwdIdeal.S2048x1024 .f32) : FVec Ideal Cert.ReferenceCfwdIdeal.S2048x1024 .f32 :=
    concatenate Cert.ReferenceCfwdIdeal.S2048x1024 0 [⟨Cert.ReferenceCfwdIdeal.S1x1024, (broadcastInDim
    Cert.ReferenceCfwdIdeal.S1x1024 ![] Cert.ReferenceCfwdIdeal.Gen.bcast_S_S1x1024 (constant Cert.ReferenceCfwdIdeal.S_ .f32
    0x00000000#32))⟩, ⟨Cert.ReferenceCfwdIdeal.S2047x1024, (extractStridedSlice Cert.ReferenceCfwdIdeal.S2047x1024 ![0, 0] X
    Cert.ReferenceCfwdIdeal.Gen.slices_S2048x1024_S2047x1024_0_0)⟩]
    Cert.ReferenceCfwdIdeal.Gen.concatenates_S1x1024_S2047x1024_S2048x1024_d0
abbrev D2 (X : FVec Ideal Cert.ReferenceCfwdIdeal.S2048x1024 .f32) : FVec Ideal Cert.ReferenceCfwdIdeal.S2048x1024 .f32 :=
    concatenate Cert.ReferenceCfwdIdeal.S2048x1024 0 [⟨Cert.ReferenceCfwdIdeal.S2x1024, (broadcastInDim
    Cert.ReferenceCfwdIdeal.S2x1024 ![] Cert.ReferenceCfwdIdeal.Gen.bcast_S_S2x1024 (constant Cert.ReferenceCfwdIdeal.S_ .f32
    0x00000000#32))⟩, ⟨Cert.ReferenceCfwdIdeal.S2046x1024, (extractStridedSlice Cert.ReferenceCfwdIdeal.S2046x1024 ![0, 0] X
    Cert.ReferenceCfwdIdeal.Gen.slices_S2048x1024_S2046x1024_0_0)⟩]
    Cert.ReferenceCfwdIdeal.Gen.concatenates_S2x1024_S2046x1024_S2048x1024_d0
abbrev SC (A1 : FVec Ideal Cert.ReferenceCfwdIdeal.S2048x8192 .bf16) (A2 : FVec Ideal Cert.ReferenceCfwdIdeal.S3x1024 .f32) :
    FVec Ideal Cert.ReferenceCfwdIdeal.S2048x1024 .f32 := addf (addf (mulf (D2 (P A1)) (W0 A2)) (mulf (D1 (P A1)) (W1 A2)))
    (mulf (P A1) (W2 A2))
abbrev R (A1 : FVec Ideal Cert.ReferenceCfwdIdeal.S2048x8192 .bf16) (A2 : FVec Ideal Cert.ReferenceCfwdIdeal.S3x1024 .f32) :
    FVec Ideal Cert.ReferenceCfwdIdeal.S2048x1024 .bf16 := truncf .bf16 (mulf (C0 A1) (SC A1 A2))
    Cert.ReferenceCfwdIdeal.Gen.bitsLt_bf16_f32

theorem c0_at (A1) (s : Fin 2048) (J : Fin 1024) : C0 A1 (ix2 s J) = A1 (ix2 s ⟨J.val, by omega⟩) := by
  pointwise [C0]

theorem c1_at (A1) (s : Fin 2048) (J : Fin 1024) : C1 A1 (ix2 s J) = A1 (ix2 s ⟨1024 + J.val, by omega⟩) := by
  pointwise [C1]

theorem c2_at (A1) (s : Fin 2048) (J : Fin 1024) : C2 A1 (ix2 s J) = A1 (ix2 s ⟨2048 + J.val, by omega⟩) := by
  pointwise [C2]

theorem p_at (A1) (s : Fin 2048) (J : Fin 1024) : P A1 (ix2 s J) = A1 (ix2 s ⟨1024 + J.val, by omega⟩) * A1 (ix2 s ⟨2048 + J.val, by omega⟩) := by
  pointwise [P]

theorem w0_at (A2) (s : Fin 2048) (J : Fin 1024) : W0 A2 (ix2 s J) = A2 (ix2 0 J) := by
  pointwise [W0]

theorem w1_at (A2) (s : Fin 2048) (J : Fin 1024) : W1 A2 (ix2 s J) = A2 (ix2 1 J) := by
  pointwise [W1]

theorem w2_at (A2) (s : Fin 2048) (J : Fin 1024) : W2 A2 (ix2 s J) = A2 (ix2 2 J) := by
  pointwise [W2]

theorem d1_at (X) (s : Fin 2048) (J : Fin 1024) : D1 X (ix2 s J) = down 1 (fun r => X (ix2 r J)) s := by
  unfold down
  pointwise [D1]
  by_cases h : s.val < 1
  · exact (dif_pos h).trans (if_neg (by omega)).symm
  · exact (dif_neg h).trans (if_pos (by omega)).symm

theorem d2_at (X) (s : Fin 2048) (J : Fin 1024) : D2 X (ix2 s J) = down 2 (fun r => X (ix2 r J)) s := by
  unfold down
  pointwise [D2]
  by_cases h : s.val < 2
  · exact (dif_pos h).trans (if_neg (by omega)).symm
  · exact (dif_neg h).trans (if_pos (by omega)).symm

/-- The convolution of one column. -/
def taps (p : Fin 2048 → EReal) (w : Fin 3 → EReal) (s : Fin 2048) : EReal := down 2 p s * w 0 + down 1 p s * w 1 + p s * w 2

theorem sc_at (A1 A2) (s : Fin 2048) (J : Fin 1024) : SC A1 A2 (ix2 s J)
    = taps (fun r => A1 (ix2 r ⟨1024 + J.val, by omega⟩) * A1 (ix2 r ⟨2048 + J.val, by omega⟩)) (fun k => A2 (ix2 k J)) s := by
  unfold taps
  simp only [← p_at]
  rw [← d2_at (P A1) s J, ← d1_at (P A1) s J, ← w0_at A2 s J, ← w1_at A2 s J, ← w2_at A2 s J]
  rfl

theorem r_at (A1 A2) (s : Fin 2048) (J : Fin 1024) : R A1 A2 (ix2 s J) = A1 (ix2 s ⟨J.val, by omega⟩) * SC A1 A2 (ix2 s J) := by
  unfold R
  generalize SC A1 A2 = Z
  pointwise

/-! ## The call's store -/

theorem pay1_at (a b w c) (s : Fin 2048) (j : Fin 256) : k0_pay1 (F := Ideal) a b w c (ix2 s j)
    = c (ix2 s j) * taps (fun r => a (ix2 r j) * b (ix2 r j)) (fun k => w (ix2 k j)) s := by
  have e1 := sel_down 1 (by omega) (fun r => a (ix2 r j) * b (ix2 r j)) s (w (ix2 1 j))
  have e2 := sel_down 2 (by omega) (fun r => a (ix2 r j) * b (ix2 r j)) s (w (ix2 0 j))
  beta_reduce at e1 e2
  unfold taps
  rw [← e1, ← e2]
  pointwise [k0_pay1]
  congr 1
  ac_rfl

/-! ## The points -/

variable (m : (ℓ : Loc nD τ sig) → Buf (Elt Ideal) ℓ)

abbrev A0 (c : Dev nD) : FVec Ideal S2048x8192 .bf16 := m ((c : Thread nD τ).loc main_arg0)
abbrev A1 (c : Dev nD) : FVec Ideal S3x1024 .f32 := m ((c : Thread nD τ).loc main_arg1)

/-- The blocks over all the points. -/
theorem idx : ∀ t : Fin cfg0.N, win0_0.index t = ![0, t.val] ∧ win0_1.index t = ![0, 4 + t.val]
    ∧ win0_2.index t = ![0, 8 + t.val] ∧ win0_3.index t = ![0, t.val] ∧ win0_4.index t = ![0, t.val] :=
  (by decide +kernel : ∀ t : Fin grid0.N, _)

/-- A block of columns of the projection's three thirds and of the filter. -/
abbrev b0 (c : Dev nD) (t : Fin cfg0.N) : FVec Ideal S2048x256 .bf16 := iblk m c 0 t
abbrev b1 (c : Dev nD) (t : Fin cfg0.N) : FVec Ideal S2048x256 .bf16 := iblk m c 1 t
abbrev b2 (c : Dev nD) (t : Fin cfg0.N) : FVec Ideal S2048x256 .bf16 := iblk m c 2 t
abbrev b3 (c : Dev nD) (t : Fin cfg0.N) : FVec Ideal S3x256 .f32 := iblk m c 3 t

theorem b0_at (c : Dev nD) (t : Fin cfg0.N) (p : Fin 2048) (q : Fin 256) (Q : Fin 8192) (hQ : Q.val = t.val * 256 + q.val) :
    b0 m c t (ix2 p q) = A0 m c (ix2 p Q) := by
  blk_point [iblk, V, idx t]

theorem b1_at (c : Dev nD) (t : Fin cfg0.N) (p : Fin 2048) (q : Fin 256) (Q : Fin 8192) (hQ : Q.val = 1024 + (t.val * 256 + q.val)) :
    b1 m c t (ix2 p q) = A0 m c (ix2 p Q) := by
  blk_point [iblk, V, idx t]

theorem b2_at (c : Dev nD) (t : Fin cfg0.N) (p : Fin 2048) (q : Fin 256) (Q : Fin 8192) (hQ : Q.val = 2048 + (t.val * 256 + q.val)) :
    b2 m c t (ix2 p q) = A0 m c (ix2 p Q) := by
  blk_point [iblk, V, idx t]

theorem b3_at (c : Dev nD) (t : Fin cfg0.N) (p : Fin 3) (q : Fin 256) (Q : Fin 1024) (hQ : Q.val = t.val * 256 + q.val) :
    b3 m c t (ix2 p q) = A1 m c (ix2 p Q) := by
  blk_point [iblk, V, idx t]

theorem out (c : Dev nD) (t : Fin cfg0.N) : out0_4 (F := Ideal) (b0 m c t) (b1 m c t) (b2 m c t) (b3 m c t)
    = k0_pay1 (F := Ideal) (b1 m c t) (b2 m c t) (b3 m c t) (b0 m c t) := by
  frame_out

theorem point4 (c : Dev nD) (t : Fin cfg0.N) (p : Fin 2048) (q : Fin 256) (Q : Fin 1024) (hQ : Q.val = t.val * 256 + q.val) :
    k0_pay1 (F := Ideal) (b1 m c t) (b2 m c t) (b3 m c t) (b0 m c t) (ix2 p q) = R (A0 m c) (A1 m c) (ix2 p Q) := by
  rw [pay1_at, r_at, b0_at m c t p q ⟨Q.val, by omega⟩ hQ, sc_at]
  congr 2
  · funext r
    rw [b1_at m c t r q ⟨1024 + Q.val, by omega⟩ (by show 1024 + Q.val = _; omega),
      b2_at m c t r q ⟨2048 + Q.val, by omega⟩ (by show 2048 + Q.val = _; omega)]
  · funext k
    rw [b3_at m c t k q Q hQ]

/-- The result array after the run. -/
theorem final4 (c : Dev nD) : (dats m 0 c).arrAt 4 (cfgs 0).N = R (A0 m c) (A1 m c) := by
  refine (dats m 0 c).arrAt_eq_of_covers 4 _ (by decide +kernel) fun t hf y => ?_
  have ht : t.val < 4 := t.isLt
  blk_simp
  rw [after0_4, out m c t]
  obtain ⟨p, q, rfl⟩ : ∃ (p : Fin 2048) (q : Fin 256), y = ix2 p q := ⟨y 0, y 1, by blk_ext⟩
  obtain ⟨Q, hQ⟩ : ∃ Q : Fin 1024, Q.val = t.val * 256 + q.val := ⟨⟨_, by omega⟩, rfl⟩
  have ee : ((cfg0.win 4).blk t).view.emb (ix2 p q) = ix2 p Q := by blk_ext [idx t]
  rw [ee]
  exact point4 m c t p q Q hQ

/-- Equal arguments have equal results. -/
theorem results {A0 B0 A1 B1} (e0 : B0 = A0) (e1 : B1 = A1) : R A0 A1 = R B0 B1 := by
  subst e0 e1; rfl

theorem frame_kernel : Cert.quiescent_KernelCfwd := fun m ρ _ => Cert.KernelCfwd.Gen.frame m ρ
theorem frame_kernelIdeal : Cert.quiescent_KernelCfwdIdeal := fun m ρ _ => Cert.KernelCfwdIdeal.Gen.frame m ρ
theorem frame_reference : Cert.quiescent_ReferenceCfwdIdeal := fun m ρ _ =>
  (θ_run Cert.ReferenceCfwdIdeal.defs _ _).mono
    (fun r h => ⟨fun c => (h c).2, Idealize.ShloMosaic.sem_eq_zero_of_no_sems (by decide) r.2⟩) (Cert.ReferenceCfwdIdeal.Value.run (F := Ideal) m ρ)

/-- Kernel and reference end with the same array. -/
theorem equal_results : Cert.algebraic_KernelCfwdIdeal_ReferenceCfwdIdeal := by
  intro m g m' g' hpre hin
  refine ⟨fun c => R (A0 m c) (A1 m c), ?_, ?_⟩
  · refine (θ_run Cert.KernelCfwdIdeal.defs _ _).mono (fun r h c => ?_) (Cert.KernelCfwdIdeal.Value.run_blocks (F := Ideal) m g)
    exact ⟨(h c).1.trans (final4 m c), (h c).2⟩
  · refine (θ_run Cert.ReferenceCfwdIdeal.defs _ _).mono (fun r h c => ?_) (Cert.ReferenceCfwdIdeal.Value.run (F := Ideal) m' g')
    obtain ⟨e0, e1⟩ := hin c
    have f : R (A0 m c) (A1 m c) = R (m' ((c : Thread nD τ).loc Cert.ReferenceCfwdIdeal.main_arg0))
      (m' ((c : Thread nD τ).loc Cert.ReferenceCfwdIdeal.main_arg1)) := results e0 e1
    exact ⟨(h c).1.trans f.symm, (h c).2⟩

end
end Cert.Proof.Cfwd
-- ==== Proof.Norm.lean ====
module
public import proofs.«01_k».proof.Defs
public import proofs.«01_k».proof.Proof.Gen.KernelNormIdeal.Value
public import proofs.«01_k».proof.Proof.Gen.KernelNorm.Frame
public import proofs.«01_k».proof.Proof.Gen.ReferenceNormIdeal.Run
public import proofs.«01_k».proof.Proof.Rms
public import Idealize.ShloMosaic.Lib.Pipeline.ValueKit
public import Idealize.ShloMosaic.Lib.Pointwise
public import Idealize.ShloMosaic.Lib.Claim

/-! The first feed-forward block's normalisation, the call's row tiles against the whole array. -/

set_option maxRecDepth 16384

@[expose] public section

namespace Cert.Proof.Norm
open Idealize.ShloMosaic Idealize.ShloMosaic.TcCoe Idealize.SL.Sem Cert.KernelNormIdeal Cert.KernelNormIdeal.Gen
open Idealize.ShloMosaic.Pipeline (Dat)
open Cert.Proof.Rms

noncomputable section

/-- The normalised rows, as the reference computes them. -/
abbrev REF (A0 : FVec Ideal S2048x1024 .f32) (A1 : FVec Ideal S1x1024 .f32) : FVec Ideal S2048x1024 .bf16 :=
  truncf .bf16 (mulf (mulf A0 (broadcastInDim Cert.ReferenceNormIdeal.S2048x1024 ![0, 1]
    Cert.ReferenceNormIdeal.Gen.bcast_S2048x1_S2048x1024_0_1 (Host.rsqrt (addf (Host.divf (broadcastInDim
    Cert.ReferenceNormIdeal.S2048x1 ![0] Cert.ReferenceNormIdeal.Gen.bcast_S2048_S2048x1_0 (Host.reduceAdd (mulf A0
    A0) (constant Cert.ReferenceNormIdeal.S_ .f32 0x00000000#32)
    Cert.ReferenceNormIdeal.Gen.reducesTo_S2048x1024_S2048_d1 Cert.ReferenceNormIdeal.Gen.h_S_)) (broadcastInDim
    Cert.ReferenceNormIdeal.S2048x1 ![] Cert.ReferenceNormIdeal.Gen.bcast_S_S2048x1 (constant Cert.ReferenceNormIdeal.S_ .f32
    0x44800000#32))) (broadcastInDim Cert.ReferenceNormIdeal.S2048x1 ![] Cert.ReferenceNormIdeal.Gen.bcast_S_S2048x1 (constant
    Cert.ReferenceNormIdeal.S_ .f32 0x358637BD#32)))))) (broadcastInDim Cert.ReferenceNormIdeal.S2048x1024 ![0, 1]
    Cert.ReferenceNormIdeal.Gen.bcast_S1x1024_S2048x1024_0_1 A1)) Cert.ReferenceNormIdeal.Gen.bitsLt_bf16_f32

theorem ref_at (A0 A1) (p : Fin 2048) (q : Fin 1024) :
    REF A0 A1 (ix2 p q) = A0 (ix2 p q) * rms (fun k => A0 (ix2 p k)) * A1 (ix2 0 q) := by
  pointwise [REF]
  rfl

/-- The call's store, read at an index. -/
theorem pay (x g) (p : Fin 1024) (q : Fin 1024) :
    k0_pay1 (F := Ideal) x g (ix2 p q) = x (ix2 p q) * rms (fun k => x (ix2 p k)) * g (ix2 0 q) := by
  pointwise [k0_pay1]
  rfl

variable (m : (ℓ : Loc nD τ sig) → Buf (Elt Ideal) ℓ)

/-- The blocks over all the points. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The arguments, -/
abbrev X (c : Dev nD) : FVec Ideal S2048x1024 .f32 := m ((c : Thread nD τ).loc main_arg0)
abbrev G (c : Dev nD) : FVec Ideal S1x1024 .f32 := m ((c : Thread nD τ).loc main_arg1)

/-- the blocks a point loads, -/
abbrev bx (c : Dev nD) (t : Fin cfg0.N) : FVec Ideal S1024x1024 .f32 := iblk m c 0 t
abbrev bg (c : Dev nD) (t : Fin cfg0.N) : FVec Ideal S1x1024 .f32 := iblk m c 1 t

/-- and the blocks read in the arguments. -/
theorem x_at (c : Dev nD) (t : Fin cfg0.N) (p : Fin 1024) (k : Fin 1024) (P : Fin 2048) (hP : P.val = (grid0.coords t 0).val * 1024 + p.val) :
    bx m c t (ix2 p k) = X m c (ix2 P k) := by
  blk_point [bx, iblk, V, idx t]

theorem g_at (c : Dev nD) (t : Fin cfg0.N) (q : Fin 1024) : bg m c t (ix2 0 q) = G m c (ix2 0 q) := by
  blk_point [bg, iblk, V, idx t]

/-- What a point writes is the reference's result at the place of its block. -/
theorem point (c : Dev nD) (t : Fin cfg0.N) (y) : k0_pay1 (iblk m c 0 t) (iblk m c 1 t) y
    = REF (X m c) (G m c) (((cfg0.win 2).blk t).view.emb y) := by
  have hi : (grid0.coords t 0).val < 2 := (grid0.coords t 0).isLt
  have h0 : (y 0).val < 1024 := (y 0).isLt
  obtain ⟨P, hP⟩ : ∃ P : Fin 2048, P.val = (grid0.coords t 0).val * 1024 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 2).blk t).view.emb y = ix2 P Q := by blk_ext [idx t]
  rw [ee, ex]
  refine (pay (bx m c t) (bg m c t) (y 0) Q).trans (Eq.trans ?_ (ref_at _ _ _ _).symm)
  rw [x_at m c t (y 0) Q P hP, g_at, show (fun k => bx m c t (ix2 (y 0) k)) = fun k => X m c (ix2 P k) from
    funext fun k => x_at m c t (y 0) k P hP]

/-- The result array after the run. -/
theorem final (c : Dev nD) : (dats m 0 c).arrAt 2 (cfgs 0).N = REF (X m c) (G m c) := by
  refine (dats m 0 c).arrAt_eq_of_covers 2 _ (by decide +kernel) fun t _ y => ?_
  blk_simp
  rw [after0_2]; frame_out
  exact point m c t y

theorem frame_kernel : Cert.quiescent_KernelNorm := fun m ρ _ => Cert.KernelNorm.Gen.frame m ρ
theorem frame_kernelIdeal : Cert.quiescent_KernelNormIdeal := fun m ρ _ => Cert.KernelNormIdeal.Gen.frame m ρ
theorem frame_reference : Cert.quiescent_ReferenceNormIdeal := fun m ρ _ =>
  (θ_run Cert.ReferenceNormIdeal.defs _ _).mono
    (fun r h => ⟨fun c => (h c).2, Idealize.ShloMosaic.sem_eq_zero_of_no_sems (by decide) r.2⟩) (Cert.ReferenceNormIdeal.Value.run (F := Ideal) m ρ)

/-- Kernel and reference end with the same array. -/
theorem equal_results : Cert.algebraic_KernelNormIdeal_ReferenceNormIdeal := by
  intro m g m' g' _ hin
  refine ⟨fun c => REF (X m c) (G m c), ?_, ?_⟩
  · refine (θ_run Cert.KernelNormIdeal.defs _ _).mono (fun r h c => ?_) (Cert.KernelNormIdeal.Value.run_blocks (F := Ideal) m g)
    exact ⟨(h c).1.trans (final m c), (h c).2⟩
  · refine (θ_run Cert.ReferenceNormIdeal.defs _ _).mono (fun r h c => ?_) (Cert.ReferenceNormIdeal.Value.run (F := Ideal) m' g')
    refine ⟨(h c).1.trans ?_, (h c).2⟩
    rw [(hin c).1, (hin c).2]

end
end Cert.Proof.Norm
-- ==== Proof.Mnorm.lean ====
module
public import proofs.«01_k».proof.Defs
public import proofs.«01_k».proof.Proof.Gen.KernelMnormIdeal.Value
public import proofs.«01_k».proof.Proof.Gen.KernelMnorm.Frame
public import proofs.«01_k».proof.Proof.Gen.ReferenceMnormIdeal.Run
public import proofs.«01_k».proof.Proof.Rms
public import Idealize.ShloMosaic.Lib.Pipeline.ValueKit
public import Idealize.ShloMosaic.Lib.Pointwise
public import Idealize.ShloMosaic.Lib.Claim

/-! The normalisation of the cross-attention's memory, in one tile. -/

set_option maxRecDepth 16384

@[expose] public section

namespace Cert.Proof.Mnorm
open Idealize.ShloMosaic Idealize.ShloMosaic.TcCoe Idealize.SL.Sem Cert.KernelMnormIdeal Cert.KernelMnormIdeal.Gen
open Idealize.ShloMosaic.Pipeline (Dat)
open Cert.Proof.Rms

noncomputable section

/-- The normalised rows, as the reference computes them. -/
abbrev REF (A0 : FVec Ideal S256x1024 .f32) (A1 : FVec Ideal S1x1024 .f32) : FVec Ideal S256x1024 .bf16 :=
  truncf .bf16 (mulf (mulf A0 (broadcastInDim Cert.ReferenceMnormIdeal.S256x1024 ![0, 1]
    Cert.ReferenceMnormIdeal.Gen.bcast_S256x1_S256x1024_0_1 (Host.rsqrt (addf (Host.divf (broadcastInDim
    Cert.ReferenceMnormIdeal.S256x1 ![0] Cert.ReferenceMnormIdeal.Gen.bcast_S256_S256x1_0 (Host.reduceAdd (mulf A0
    A0) (constant Cert.ReferenceMnormIdeal.S_ .f32 0x00000000#32)
    Cert.ReferenceMnormIdeal.Gen.reducesTo_S256x1024_S256_d1 Cert.ReferenceMnormIdeal.Gen.h_S_)) (broadcastInDim
    Cert.ReferenceMnormIdeal.S256x1 ![] Cert.ReferenceMnormIdeal.Gen.bcast_S_S256x1 (constant Cert.ReferenceMnormIdeal.S_ .f32
    0x44800000#32))) (broadcastInDim Cert.ReferenceMnormIdeal.S256x1 ![] Cert.ReferenceMnormIdeal.Gen.bcast_S_S256x1 (constant
    Cert.ReferenceMnormIdeal.S_ .f32 0x358637BD#32)))))) (broadcastInDim Cert.ReferenceMnormIdeal.S256x1024 ![0, 1]
    Cert.ReferenceMnormIdeal.Gen.bcast_S1x1024_S256x1024_0_1 A1)) Cert.ReferenceMnormIdeal.Gen.bitsLt_bf16_f32

theorem ref_at (A0 A1) (p : Fin 256) (q : Fin 1024) :
    REF A0 A1 (ix2 p q) = A0 (ix2 p q) * rms (fun k => A0 (ix2 p k)) * A1 (ix2 0 q) := by
  pointwise [REF]
  rfl

/-- The call's store, read at an index. -/
theorem pay (x g) (p : Fin 256) (q : Fin 1024) :
    k0_pay1 (F := Ideal) x g (ix2 p q) = x (ix2 p q) * rms (fun k => x (ix2 p k)) * g (ix2 0 q) := by
  pointwise [k0_pay1]
  rfl

variable (m : (ℓ : Loc nD τ sig) → Buf (Elt Ideal) ℓ)

/-- The blocks over all the points. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The arguments, -/
abbrev X (c : Dev nD) : FVec Ideal S256x1024 .f32 := m ((c : Thread nD τ).loc main_arg0)
abbrev G (c : Dev nD) : FVec Ideal S1x1024 .f32 := m ((c : Thread nD τ).loc main_arg1)

/-- the blocks a point loads, -/
abbrev bx (c : Dev nD) (t : Fin cfg0.N) : FVec Ideal S256x1024 .f32 := iblk m c 0 t
abbrev bg (c : Dev nD) (t : Fin cfg0.N) : FVec Ideal S1x1024 .f32 := iblk m c 1 t

/-- and the blocks read in the arguments. -/
theorem x_at (c : Dev nD) (t : Fin cfg0.N) (p : Fin 256) (k : Fin 1024) (P : Fin 256) (hP : P.val = (grid0.coords t 0).val * 256 + p.val) :
    bx m c t (ix2 p k) = X m c (ix2 P k) := by
  blk_point [bx, iblk, V, idx t]

theorem g_at (c : Dev nD) (t : Fin cfg0.N) (q : Fin 1024) : bg m c t (ix2 0 q) = G m c (ix2 0 q) := by
  blk_point [bg, iblk, V, idx t]

/-- What a point writes is the reference's result at the place of its block. -/
theorem point (c : Dev nD) (t : Fin cfg0.N) (y) : k0_pay1 (iblk m c 0 t) (iblk m c 1 t) y
    = REF (X m c) (G m c) (((cfg0.win 2).blk t).view.emb y) := by
  have hi : (grid0.coords t 0).val < 1 := (grid0.coords t 0).isLt
  have h0 : (y 0).val < 256 := (y 0).isLt
  obtain ⟨P, hP⟩ : ∃ P : Fin 256, P.val = (grid0.coords t 0).val * 256 + (y 0).val := ⟨⟨_, by omega⟩, rfl⟩
  obtain ⟨Q, hQ⟩ : ∃ Q : Fin 1024, Q.val = (y 1).val := ⟨⟨_, (y 1).isLt⟩, rfl⟩
  have ex : y = ix2 (y 0) Q := by blk_ext
  have ee : ((cfg0.win 2).blk t).view.emb y = ix2 P Q := by blk_ext [idx t]
  rw [ee, ex]
  refine (pay (bx m c t) (bg m c t) (y 0) Q).trans (Eq.trans ?_ (ref_at _ _ _ _).symm)
  rw [x_at m c t (y 0) Q P hP, g_at, show (fun k => bx m c t (ix2 (y 0) k)) = fun k => X m c (ix2 P k) from
    funext fun k => x_at m c t (y 0) k P hP]

/-- The result array after the run. -/
theorem final (c : Dev nD) : (dats m 0 c).arrAt 2 (cfgs 0).N = REF (X m c) (G m c) := by
  refine (dats m 0 c).arrAt_eq_of_covers 2 _ (by decide +kernel) fun t _ y => ?_
  blk_simp
  rw [after0_2]; frame_out
  exact point m c t y

theorem frame_kernel : Cert.quiescent_KernelMnorm := fun m ρ _ => Cert.KernelMnorm.Gen.frame m ρ
theorem frame_kernelIdeal : Cert.quiescent_KernelMnormIdeal := fun m ρ _ => Cert.KernelMnormIdeal.Gen.frame m ρ
theorem frame_reference : Cert.quiescent_ReferenceMnormIdeal := fun m ρ _ =>
  (θ_run Cert.ReferenceMnormIdeal.defs _ _).mono
    (fun r h => ⟨fun c => (h c).2, Idealize.ShloMosaic.sem_eq_zero_of_no_sems (by decide) r.2⟩) (Cert.ReferenceMnormIdeal.Value.run (F := Ideal) m ρ)

/-- Kernel and reference end with the same array. -/
theorem equal_results : Cert.algebraic_KernelMnormIdeal_ReferenceMnormIdeal := by
  intro m g m' g' _ hin
  refine ⟨fun c => REF (X m c) (G m c), ?_, ?_⟩
  · refine (θ_run Cert.KernelMnormIdeal.defs _ _).mono (fun r h c => ?_) (Cert.KernelMnormIdeal.Value.run_blocks (F := Ideal) m g)
    exact ⟨(h c).1.trans (final m c), (h c).2⟩
  · refine (θ_run Cert.ReferenceMnormIdeal.defs _ _).mono (fun r h c => ?_) (Cert.ReferenceMnormIdeal.Value.run (F := Ideal) m' g')
    refine ⟨(h c).1.trans ?_, (h c).2⟩
    rw [(hin c).1, (hin c).2]

end
end Cert.Proof.Mnorm
-- ==== Proof.Dmem.lean ====
module
public import proofs.«01_k».proof.Defs
public import proofs.«01_k».proof.Proof.Gen.KernelDmemIdeal.Value
public import proofs.«01_k».proof.Proof.Gen.KernelDmem.Frame
public import proofs.«01_k».proof.Proof.Gen.ReferenceDmemIdeal.Run
public import proofs.«01_k».proof.Proof.Rms
public import Idealize.ShloMosaic.Lib.Pipeline.ValueKit
public import Idealize.ShloMosaic.Lib.Pointwise
public import Idealize.ShloMosaic.Lib.Claim

/-! The gradient of the scale of the memory's normalisation: the sum over the memory's rows of the gradient times the normalised
    number. -/

set_option maxRecDepth 16384

@[expose] public section

namespace Cert.Proof.Dmem
open Idealize.ShloMosaic Idealize.ShloMosaic.TcCoe Idealize.SL.Sem Cert.KernelDmemIdeal Cert.KernelDmemIdeal.Gen
open Idealize.ShloMosaic.Pipeline (Dat)
open Cert.Proof.Rms

noncomputable section

/-- The scale's gradient, as the reference computes it. -/
abbrev REF (A0 A1 : FVec Ideal S256x1024 .f32) : FVec Ideal S1x1024 .f32 :=
  shapeCast _ (Host.reduceAdd (mulf (mulf A1 (broadcastInDim Cert.ReferenceDmemIdeal.S256x1024 ![0, 1] Cert.ReferenceDmemIdeal.Gen.bcast_S256x1_S256x1024_0_1
    (Host.rsqrt (addf (Host.divf (broadcastInDim Cert.ReferenceDmemIdeal.S256x1 ![0] Cert.ReferenceDmemIdeal.Gen.bcast_S256_S256x1_0 (Host.reduceAdd (mulf A1 A1)
    (constant Cert.ReferenceDmemIdeal.S_ .f32 0x00000000#32) Cert.ReferenceDmemIdeal.Gen.reducesTo_S256x1024_S256_d1 Cert.ReferenceDmemIdeal.Gen.h_S_))
    (broadcastInDim Cert.ReferenceDmemIdeal.S256x1 ![] Cert.ReferenceDmemIdeal.Gen.bcast_S_S256x1 (constant Cert.ReferenceDmemIdeal.S_ .f32 0x44800000#32)))
    (broadcastInDim Cert.ReferenceDmemIdeal.S256x1 ![] Cert.ReferenceDmemIdeal.Gen.bcast_S_S256x1 (constant Cert.ReferenceDmemIdeal.S_ .f32 0x358637BD#32)))))) A0)
    (constant Cert.ReferenceDmemIdeal.S_ .f32 0x00000000#32) Cert.ReferenceDmemIdeal.Gen.reducesTo_S256x1024_S1024_d0 Cert.ReferenceDmemIdeal.Gen.h_S_) Cert.ReferenceDmemIdeal.Gen.shapeCasts_S1024_S1x1024

theorem ref_at (A0 A1) (q : Fin 1024) : REF A0 A1 (ix2 (0 : Fin 1) q)
    = ∑ p : Fin 256, A1 (ix2 p q) * (rms fun k => A1 (ix2 p k)) * A0 (ix2 p q) := by
  pointwise [REF]
  rfl

/-- The call's store, read at an index. -/
theorem pay (d x) (q : Fin 1024) : k0_pay1 (F := Ideal) d x (ix2 (0 : Fin 1) q)
    = ∑ p : Fin 256, d (ix2 p q) * (x (ix2 p q) * rms fun k => x (ix2 p k)) := by
  pointwise [k0_pay1]
  rfl

variable (m : (ℓ : Loc nD τ sig) → Buf (Elt Ideal) ℓ)

/-- The blocks over all the points. -/
theorem idx : ∀ t : Fin cfg0.N, win0_0.index t = ![0, 0] ∧ win0_1.index t = ![0, 0] ∧ win0_2.index t = ![0, 0] :=
  (by decide +kernel : ∀ t : Fin grid0.N, _)

/-- The arguments, -/
abbrev D (c : Dev nD) : FVec Ideal S256x1024 .f32 := m ((c : Thread nD τ).loc main_arg0)
abbrev X (c : Dev nD) : FVec Ideal S256x1024 .f32 := m ((c : Thread nD τ).loc main_arg1)

/-- the blocks the point loads, -/
abbrev bd (c : Dev nD) (t : Fin cfg0.N) : FVec Ideal S256x1024 .f32 := iblk m c 0 t
abbrev bx (c : Dev nD) (t : Fin cfg0.N) : FVec Ideal S256x1024 .f32 := iblk m c 1 t

/-- and the blocks read in the arguments. -/
theorem d_at (c : Dev nD) (t : Fin cfg0.N) (p : Fin 256) (q : Fin 1024) : bd m c t (ix2 p q) = D m c (ix2 p q) := by
  blk_point [bd, iblk, V, idx t]

theorem x_at (c : Dev nD) (t : Fin cfg0.N) (p : Fin 256) (q : Fin 1024) : bx m c t (ix2 p q) = X m c (ix2 p q) := by
  blk_point [bx, iblk, V, idx t]

/-- What the point writes is the reference's result. -/
theorem same (c : Dev nD) (t : Fin cfg0.N) (q : Fin 1024) :
    k0_pay1 (F := Ideal) (bd m c t) (bx m c t) (ix2 (0 : Fin 1) q) = REF (D m c) (X m c) (ix2 0 q) := by
  refine (pay _ _ q).trans (Eq.trans (Finset.sum_congr rfl fun p _ => ?_) (ref_at _ _ q).symm)
  rw [d_at m c t p q, x_at m c t p q, show (fun k => bx m c t (ix2 p k)) = fun k => X m c (ix2 p k) from
    funext fun k => x_at m c t p k, mul_comm]

theorem out (c : Dev nD) (t : Fin cfg0.N) : outsAt0 m c t = k0_pay1 (F := Ideal) (bd m c t) (bx m c t) := by
  unfold outsAt0
  frame_out

/-- The result array after the run. -/
theorem final (c : Dev nD) : (dats m 0 c).arrAt 2 (cfgs 0).N = REF (D m c) (X m c) := by
  refine (dats m 0 c).arrAt_eq_of_covers 2 _ (by decide +kernel) fun t _ y => ?_
  blk_simp
  rw [after0_2, out m c t]
  have ey : y = ix2 (0 : Fin 1) (y 1) := by blk_ext
  have ee : ((cfg0.win 2).blk t).view.emb y = ix2 (0 : Fin 1) (y 1) := by blk_ext [idx t]
  rw [ee, ey]
  exact same m c t (y 1)

theorem frame_kernel : Cert.quiescent_KernelDmem := fun m ρ _ => Cert.KernelDmem.Gen.frame m ρ
theorem frame_kernelIdeal : Cert.quiescent_KernelDmemIdeal := fun m ρ _ => Cert.KernelDmemIdeal.Gen.frame m ρ
theorem frame_reference : Cert.quiescent_ReferenceDmemIdeal := fun m ρ _ =>
  (θ_run Cert.ReferenceDmemIdeal.defs _ _).mono
    (fun r h => ⟨fun c => (h c).2, Idealize.ShloMosaic.sem_eq_zero_of_no_sems (by decide) r.2⟩) (Cert.ReferenceDmemIdeal.Value.run (F := Ideal) m ρ)

/-- Kernel and reference end with the same array. -/
theorem equal_results : Cert.algebraic_KernelDmemIdeal_ReferenceDmemIdeal := by
  intro m g m' g' _ hin
  refine ⟨fun c => REF (D m c) (X m c), ?_, ?_⟩
  · refine (θ_run Cert.KernelDmemIdeal.defs _ _).mono (fun r h c => ?_) (Cert.KernelDmemIdeal.Value.run_blocks (F := Ideal) m g)
    exact ⟨(h c).1.trans (final m c), (h c).2⟩
  · refine (θ_run Cert.ReferenceDmemIdeal.defs _ _).mono (fun r h c => ?_) (Cert.ReferenceDmemIdeal.Value.run (F := Ideal) m' g')
    refine ⟨(h c).1.trans ?_, (h c).2⟩
    rw [(hin c).1, (hin c).2]

end
end Cert.Proof.Dmem
-- ==== Proof.lean ====
/-
  The certificate's claims: the kernel's frames and the reference's, and that the two end with equal results.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Same
public import proofs.«01_k».proof.Proof.Value
public import proofs.«01_k».proof.Proof.Du
public import proofs.«01_k».proof.Proof.Dgu
public import proofs.«01_k».proof.Proof.Dn
public import proofs.«01_k».proof.Proof.Dwin
public import proofs.«01_k».proof.Proof.Dwgu
public import proofs.«01_k».proof.Proof.Dwdown
public import proofs.«01_k».proof.Proof.Conv
public import proofs.«01_k».proof.Proof.Dmerge
public import proofs.«01_k».proof.Proof.Xattn
public import proofs.«01_k».proof.Proof.Dhn
public import proofs.«01_k».proof.Proof.Dwsq
public import proofs.«01_k».proof.Proof.Dwattn
public import proofs.«01_k».proof.Proof.Dsq
public import proofs.«01_k».proof.Proof.Up
public import proofs.«01_k».proof.Proof.Down
public import proofs.«01_k».proof.Proof.In
public import proofs.«01_k».proof.Proof.Merge
public import proofs.«01_k».proof.Proof.Out
public import proofs.«01_k».proof.Proof.Cq
public import proofs.«01_k».proof.Proof.Loss
public import proofs.«01_k».proof.Proof.Kv
public import proofs.«01_k».proof.Proof.Dwkv
public import proofs.«01_k».proof.Proof.Dmn
public import proofs.«01_k».proof.Proof.Xfwd
public import proofs.«01_k».proof.Proof.Cfwd
public import proofs.«01_k».proof.Proof.Norm
public import proofs.«01_k».proof.Proof.Mnorm
public import proofs.«01_k».proof.Proof.Dmem

@[expose] public section

noncomputable section

namespace Cert.Proof

open Idealize.ShloMosaic Idealize.ShloMosaic.TcCoe Idealize.SL.Sem

set_option maxRecDepth 16384

theorem frame_kernelIdeal : Cert.quiescent_KernelIdeal := fun m ρ _ => PI.frame (F := Ideal) m ρ

theorem frame_kernelIdeal_finite : Cert.quiescent_KernelIdeal_pre_finite := fun m ρ _ => PI.frame (F := Ideal) m ρ

theorem reference_runs (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2.2.2, Idealize.ShloMosaic.sem_eq_zero_of_no_sems (by decide) r.2⟩) (Cert.ReferenceIdeal.Value.run (F := Ideal) m ρ)

theorem frame_reference : Cert.quiescent_ReferenceIdeal := fun m ρ _ => reference_runs m ρ

theorem frame_reference_finite : Cert.quiescent_ReferenceIdeal_pre_finite := fun m ρ _ => reference_runs m ρ

/-- The kernel and the reference end with the same gradients: those of the heads' sums. -/
theorem equal_results : Cert.algebraic_KernelIdeal_ReferenceIdeal_pre_finite := by
  intro m g m' g' hpre hin
  have HX := fun c => PI.Value.args_of (PI.Value.in0 m c) (PI.Value.in1 m c) (hpre c).1 (hpre c).2
  refine ⟨fun c => PI.dqArr (PI.Value.heads m c), fun c => PI.dkArr (PI.Value.heads m c), fun c => PI.dvArr (PI.Value.heads m c), ?_, ?_⟩
  · refine (θ_run Cert.KernelIdeal.defs _ _).mono (fun r h c => ?_) (θ_run_and (PI.run_main (F := Ideal) m g) (PI.unchanged (F := Ideal) m g))
    have H := PI.Value.holds m c (HX c)
    exact ⟨((h.1 c).1 7).trans (PI.arr7 H), ((h.1 c).1 8).trans (PI.arr8 H), ((h.1 c).1 9).trans (PI.arr9 H), (h.2 c).1, (h.2 c).2⟩
  · refine (θ_run Cert.ReferenceIdeal.defs _ _).mono (fun r h c => ?_) (Cert.ReferenceIdeal.Value.run (F := Ideal) m' g')
    have e0 := (hin c).1
    have e1 := (hin c).2
    refine ⟨(h c).1.trans ((Cert.ReferenceIdeal.Read.val_main_v62_eq _).trans (Eq.trans ?_ (PI.Value.ref_dq m c (HX c)))),
      (h c).2.1.trans ((Cert.ReferenceIdeal.Read.val_main_v63_eq _).trans (Eq.trans ?_ (PI.Value.ref_dk m c (HX c)))),
      (h c).2.2.1.trans ((Cert.ReferenceIdeal.Read.val_main_v64_eq _).trans (Eq.trans ?_ (PI.Value.ref_dv m c (HX c)))), (h c).2.2.2⟩
    · exact congrArg₂ (Cert.ReferenceIdeal.Read.val_main_v62 (F := Ideal)) e0 e1
    · exact congrArg₂ (Cert.ReferenceIdeal.Read.val_main_v63 (F := Ideal)) e0 e1
    · exact congrArg₂ (Cert.ReferenceIdeal.Read.val_main_v64 (F := Ideal)) e0 e1

theorem claim : Cert.Claim :=
  ⟨Cert.Kernel.Gen.facts, Cert.KernelIdeal.Gen.facts, Cert.ReferenceIdeal.Gen.facts, Cert.KernelDu.Gen.facts,
    Cert.KernelDuIdeal.Gen.facts, Cert.ReferenceDuIdeal.Gen.facts, Cert.KernelDgu.Gen.facts, Cert.KernelDguIdeal.Gen.facts,
    Cert.ReferenceDguIdeal.Gen.facts, Cert.KernelDn.Gen.facts, Cert.KernelDnIdeal.Gen.facts, Cert.ReferenceDnIdeal.Gen.facts,
    Cert.KernelDwin.Gen.facts, Cert.KernelDwinIdeal.Gen.facts, Cert.ReferenceDwinIdeal.Gen.facts, Cert.KernelDwgu.Gen.facts,
    Cert.KernelDwguIdeal.Gen.facts, Cert.ReferenceDwguIdeal.Gen.facts, Cert.KernelDwdown.Gen.facts,
    Cert.KernelDwdownIdeal.Gen.facts, Cert.ReferenceDwdownIdeal.Gen.facts, Cert.KernelConv.Gen.facts,
    Cert.KernelConvIdeal.Gen.facts, Cert.ReferenceConvIdeal.Gen.facts, Cert.KernelDmerge.Gen.facts,
    Cert.KernelDmergeIdeal.Gen.facts, Cert.ReferenceDmergeIdeal.Gen.facts, Cert.KernelXattn.Gen.facts,
    Cert.KernelXattnIdeal.Gen.facts, Cert.ReferenceXattnIdeal.Gen.facts, Cert.KernelDhn.Gen.facts,
    Cert.KernelDhnIdeal.Gen.facts, Cert.ReferenceDhnIdeal.Gen.facts, Cert.KernelDwsq.Gen.facts, Cert.KernelDwsqIdeal.Gen.facts,
    Cert.ReferenceDwsqIdeal.Gen.facts, Cert.KernelDwattn.Gen.facts, Cert.KernelDwattnIdeal.Gen.facts,
    Cert.ReferenceDwattnIdeal.Gen.facts, Cert.KernelDsq.Gen.facts, Cert.KernelDsqIdeal.Gen.facts,
    Cert.ReferenceDsqIdeal.Gen.facts, Cert.KernelUp.Gen.facts, Cert.KernelUpIdeal.Gen.facts, Cert.ReferenceUpIdeal.Gen.facts,
    Cert.KernelDown.Gen.facts, Cert.KernelDownIdeal.Gen.facts, Cert.ReferenceDownIdeal.Gen.facts, Cert.KernelIn.Gen.facts,
    Cert.KernelInIdeal.Gen.facts, Cert.ReferenceInIdeal.Gen.facts, Cert.KernelMerge.Gen.facts, Cert.KernelMergeIdeal.Gen.facts,
    Cert.ReferenceMergeIdeal.Gen.facts, Cert.KernelOut.Gen.facts, Cert.KernelOutIdeal.Gen.facts,
    Cert.ReferenceOutIdeal.Gen.facts, Cert.KernelCq.Gen.facts, Cert.KernelCqIdeal.Gen.facts, Cert.ReferenceCqIdeal.Gen.facts,
    Cert.KernelLoss.Gen.facts, Cert.KernelLossIdeal.Gen.facts, Cert.ReferenceLossIdeal.Gen.facts, Cert.KernelKv.Gen.facts,
    Cert.KernelKvIdeal.Gen.facts, Cert.ReferenceKvIdeal.Gen.facts, Cert.KernelDwkv.Gen.facts, Cert.KernelDwkvIdeal.Gen.facts,
    Cert.ReferenceDwkvIdeal.Gen.facts, Cert.KernelDmn.Gen.facts, Cert.KernelDmnIdeal.Gen.facts,
    Cert.ReferenceDmnIdeal.Gen.facts, Cert.KernelXfwd.Gen.facts, Cert.KernelXfwdIdeal.Gen.facts,
    Cert.ReferenceXfwdIdeal.Gen.facts, Cert.KernelCfwd.Gen.facts, Cert.KernelCfwdIdeal.Gen.facts,
    Cert.ReferenceCfwdIdeal.Gen.facts, Cert.KernelNorm.Gen.facts, Cert.KernelNormIdeal.Gen.facts,
    Cert.ReferenceNormIdeal.Gen.facts, Cert.KernelMnorm.Gen.facts, Cert.KernelMnormIdeal.Gen.facts,
    Cert.ReferenceMnormIdeal.Gen.facts, Cert.KernelDmem.Gen.facts, Cert.KernelDmemIdeal.Gen.facts,
    Cert.ReferenceDmemIdeal.Gen.facts, Cert.Pre_finite.Gen.facts, Cert.Pre_finite_dgu.Gen.facts,
    Cert.Pre_finite_xattn.Gen.facts,
    Same.frame_kernel, frame_kernelIdeal, frame_kernelIdeal_finite, frame_reference, frame_reference_finite, Du.frame_kernel,
    Du.frame_kernelIdeal, Du.frame_reference, Dgu.frame_kernel, Dgu.frame_kernelIdeal, Dgu.frame_kernelIdeal_pre,
    Dgu.frame_reference, Dgu.frame_reference_pre, Dn.frame_kernel, Dn.frame_kernelIdeal, Dn.frame_reference, Dwin.frame_kernel,
    Dwin.frame_kernelIdeal, Dwin.frame_reference, Dwgu.frame_kernel, Dwgu.frame_kernelIdeal, Dwgu.frame_reference,
    Dwdown.frame_kernel, Dwdown.frame_kernelIdeal, Dwdown.frame_reference, Conv.frame_kernel, Conv.frame_kernelIdeal,
    Conv.frame_reference, Dmerge.frame_kernel, Dmerge.frame_kernelIdeal, Dmerge.frame_reference, Xattn.frame_kernel,
    Xattn.frame_kernelIdeal, Xattn.frame_kernelIdeal_pre, Xattn.frame_reference, Xattn.frame_reference_pre, Dhn.frame_kernel,
    Dhn.frame_kernelIdeal, Dhn.frame_reference, Dwsq.frame_kernel, Dwsq.frame_kernelIdeal, Dwsq.frame_reference,
    Dwattn.frame_kernel, Dwattn.frame_kernelIdeal, Dwattn.frame_reference, Dsq.frame_kernel, Dsq.frame_kernelIdeal,
    Dsq.frame_reference, Up.frame_kernel, Up.frame_kernelIdeal, Up.frame_reference, Down.frame_kernel, Down.frame_kernelIdeal,
    Down.frame_reference, In.frame_kernel, In.frame_kernelIdeal, In.frame_reference, Merge.frame_kernel,
    Merge.frame_kernelIdeal, Merge.frame_reference, Out.frame_kernel, Out.frame_kernelIdeal, Out.frame_reference,
    Cq.frame_kernel, Cq.frame_kernelIdeal, Cq.frame_reference, Loss.frame_kernel, Loss.frame_kernelIdeal, Loss.frame_reference,
    Kv.frame_kernel, Kv.frame_kernelIdeal, Kv.frame_reference, Dwkv.frame_kernel, Dwkv.frame_kernelIdeal, Dwkv.frame_reference,
    Dmn.frame_kernel, Dmn.frame_kernelIdeal, Dmn.frame_reference, Xfwd.frame_kernel, Xfwd.frame_kernelIdeal,
    Xfwd.frame_reference, Cfwd.frame_kernel, Cfwd.frame_kernelIdeal, Cfwd.frame_reference, Norm.frame_kernel,
    Norm.frame_kernelIdeal, Norm.frame_reference, Mnorm.frame_kernel, Mnorm.frame_kernelIdeal, Mnorm.frame_reference,
    Dmem.frame_kernel, Dmem.frame_kernelIdeal, Dmem.frame_reference,
    trivial, equal_results, trivial, Du.equal_results, trivial, Dgu.equal_results, trivial, Dn.equal_results, trivial,
    Dwin.equal_results, trivial, Dwgu.equal_results, trivial, Dwdown.equal_results, trivial, Conv.equal_results, trivial,
    Dmerge.equal_results, trivial, Xattn.equal_results, trivial, Dhn.equal_results, trivial, Dwsq.equal_results, trivial,
    Dwattn.equal_results, trivial, Dsq.equal_results, trivial, Up.equal_results, trivial, Down.equal_results, trivial,
    In.equal_results, trivial, Merge.equal_results, trivial, Out.equal_results, trivial, Cq.equal_results, trivial,
    Loss.equal_results, trivial, Kv.equal_results, trivial, Dwkv.equal_results, trivial, Dmn.equal_results, trivial,
    Xfwd.equal_results, trivial, Cfwd.equal_results, trivial, Norm.equal_results, trivial, Mnorm.equal_results, trivial,
    Dmem.equal_results⟩

end Cert.Proof
